-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4)
      ∧ r.2.mem ((c.tc : Thread Cert.Kernel34.nD Cert.Kernel34.τ).loc Cert.Kernel34.main_arg5) = m ((c.tc : Thread Cert.Kernel34.nD Cert.Kernel34.τ).loc Cert.Kernel34.main_arg5))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4)
      ∧ r.2.mem ((c.tc : Thread Cert.Kernel35.nD Cert.Kernel35.τ).loc Cert.Kernel35.main_arg5) = m ((c.tc : Thread Cert.Kernel35.nD Cert.Kernel35.τ).loc Cert.Kernel35.main_arg5))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v10) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_v11) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v11) = v0 c
          ∧ r.2.mem ((c.tc : Thread Cert.Reference25Ideal.nD Cert.Reference25Ideal.τ).loc Cert.Reference25Ideal.main_v12) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  IdealRules.named_const.Statement Cert.Kernel29Ideal.κ "mask" .f32 0xF149F2CA#32 ⊥

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)) →
    ∃ (v0 : (c : Dev Cert.Kernel29Ideal.nD) → Buf (Elt Ideal) ((c.tc : Thread Cert.Kernel29Ideal.nD Cert.Kernel29Ideal.τ).loc Cert.Kernel29Ideal.main_v6_0)) (v1 : (c : Dev Cert.Kernel29Ideal.nD) → Buf (Elt Ideal) ((c.tc : Thread Cert.Kernel29Ideal.nD Cert.Kernel29Ideal.τ).loc Cert.Kernel29Ideal.main_v6_1)) (v2 : (c : Dev Cert.Kernel29Ideal.nD) → Buf (Elt Ideal) ((c.tc : Thread Cert.Kernel29Ideal.nD Cert.Kernel29Ideal.τ).loc Cert.Kernel29Ideal.main_v6_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v6_0) = v0 c
          ∧ r.2.mem ((c.tc : Thread Cert.Kernel29Ideal.nD Cert.Kernel29Ideal.τ).loc Cert.Kernel29Ideal.main_v6_1) = v1 c
          ∧ r.2.mem ((c.tc : Thread Cert.Kernel29Ideal.nD Cert.Kernel29Ideal.τ).loc Cert.Kernel29Ideal.main_v6_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v127) = v0 c
          ∧ r.2.mem ((c.tc : Thread Cert.Reference29Ideal.nD Cert.Reference29Ideal.τ).loc Cert.Reference29Ideal.main_v128) = v1 c
          ∧ r.2.mem ((c.tc : Thread Cert.Reference29Ideal.nD Cert.Reference29Ideal.τ).loc Cert.Reference29Ideal.main_v129) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v7_0)) (v1 : (c : Dev Cert.Kernel30Ideal.nD) → Buf (Elt Ideal) ((c.tc : Thread Cert.Kernel30Ideal.nD Cert.Kernel30Ideal.τ).loc Cert.Kernel30Ideal.main_v7_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v7_0) = v0 c
          ∧ r.2.mem ((c.tc : Thread Cert.Kernel30Ideal.nD Cert.Kernel30Ideal.τ).loc Cert.Kernel30Ideal.main_v7_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v14) = v0 c
          ∧ r.2.mem ((c.tc : Thread Cert.Reference30Ideal.nD Cert.Reference30Ideal.τ).loc Cert.Reference30Ideal.main_v15) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v13) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v29) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel34_Kernel34Ideal : Prop :=
  IdealRules.named_const.Statement Cert.Kernel34Ideal.κ "mask" .f32 0xF149F2CA#32 ⊥

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)
      ∧ m' ((c.tc : Thread Cert.Reference34Ideal.nD Cert.Reference34Ideal.τ).loc Cert.Reference34Ideal.main_arg5) = m ((c.tc : Thread Cert.Kernel34Ideal.nD Cert.Kernel34Ideal.τ).loc Cert.Kernel34Ideal.main_arg5)) →
    ∃ (v0 : (c : Dev Cert.Kernel34Ideal.nD) → Buf (Elt Ideal) ((c.tc : Thread Cert.Kernel34Ideal.nD Cert.Kernel34Ideal.τ).loc Cert.Kernel34Ideal.main_v6_0)) (v1 : (c : Dev Cert.Kernel34Ideal.nD) → Buf (Elt Ideal) ((c.tc : Thread Cert.Kernel34Ideal.nD Cert.Kernel34Ideal.τ).loc Cert.Kernel34Ideal.main_v6_1)) (v2 : (c : Dev Cert.Kernel34Ideal.nD) → Buf (Elt Ideal) ((c.tc : Thread Cert.Kernel34Ideal.nD Cert.Kernel34Ideal.τ).loc Cert.Kernel34Ideal.main_v6_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v6_0) = v0 c
          ∧ r.2.mem ((c.tc : Thread Cert.Kernel34Ideal.nD Cert.Kernel34Ideal.τ).loc Cert.Kernel34Ideal.main_v6_1) = v1 c
          ∧ r.2.mem ((c.tc : Thread Cert.Kernel34Ideal.nD Cert.Kernel34Ideal.τ).loc Cert.Kernel34Ideal.main_v6_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
          ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v127) = v0 c
          ∧ r.2.mem ((c.tc : Thread Cert.Reference34Ideal.nD Cert.Reference34Ideal.τ).loc Cert.Reference34Ideal.main_v128) = v1 c
          ∧ r.2.mem ((c.tc : Thread Cert.Reference34Ideal.nD Cert.Reference34Ideal.τ).loc Cert.Reference34Ideal.main_v129) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4)
          ∧ r.2.mem ((c.tc : Thread Cert.Reference34Ideal.nD Cert.Reference34Ideal.τ).loc Cert.Reference34Ideal.main_arg5) = m' ((c.tc : Thread Cert.Reference34Ideal.nD Cert.Reference34Ideal.τ).loc Cert.Reference34Ideal.main_arg5))

def preserves_Kernel35_Kernel35Ideal : Prop :=
  IdealRules.named_const.Statement Cert.Kernel35Ideal.κ "mask" .f32 0xF149F2CA#32 ⊥

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)
      ∧ m' ((c.tc : Thread Cert.Reference35Ideal.nD Cert.Reference35Ideal.τ).loc Cert.Reference35Ideal.main_arg5) = m ((c.tc : Thread Cert.Kernel35Ideal.nD Cert.Kernel35Ideal.τ).loc Cert.Kernel35Ideal.main_arg5)) →
    ∃ (v0 : (c : Dev Cert.Kernel35Ideal.nD) → Buf (Elt Ideal) ((c.tc : Thread Cert.Kernel35Ideal.nD Cert.Kernel35Ideal.τ).loc Cert.Kernel35Ideal.main_v6_0)) (v1 : (c : Dev Cert.Kernel35Ideal.nD) → Buf (Elt Ideal) ((c.tc : Thread Cert.Kernel35Ideal.nD Cert.Kernel35Ideal.τ).loc Cert.Kernel35Ideal.main_v6_1)) (v2 : (c : Dev Cert.Kernel35Ideal.nD) → Buf (Elt Ideal) ((c.tc : Thread Cert.Kernel35Ideal.nD Cert.Kernel35Ideal.τ).loc Cert.Kernel35Ideal.main_v6_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v6_0) = v0 c
          ∧ r.2.mem ((c.tc : Thread Cert.Kernel35Ideal.nD Cert.Kernel35Ideal.τ).loc Cert.Kernel35Ideal.main_v6_1) = v1 c
          ∧ r.2.mem ((c.tc : Thread Cert.Kernel35Ideal.nD Cert.Kernel35Ideal.τ).loc Cert.Kernel35Ideal.main_v6_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
          ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v128) = v0 c
          ∧ r.2.mem ((c.tc : Thread Cert.Reference35Ideal.nD Cert.Reference35Ideal.τ).loc Cert.Reference35Ideal.main_v129) = v1 c
          ∧ r.2.mem ((c.tc : Thread Cert.Reference35Ideal.nD Cert.Reference35Ideal.τ).loc Cert.Reference35Ideal.main_v130) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4)
          ∧ r.2.mem ((c.tc : Thread Cert.Reference35Ideal.nD Cert.Reference35Ideal.τ).loc Cert.Reference35Ideal.main_arg5) = m' ((c.tc : Thread Cert.Reference35Ideal.nD Cert.Reference35Ideal.τ).loc Cert.Reference35Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
-- ==== Kernel.lean ====
abbrev S4096x1024 : Shape := ⟨2, ![4096, 1024]⟩
abbrev S4096x3072 : Shape := ⟨2, ![4096, 3072]⟩
abbrev S3x1024 : Shape := ⟨2, ![3, 1024]⟩
abbrev S256x1024 : Shape := ⟨2, ![256, 1024]⟩
abbrev S16x1024 : Shape := ⟨2, ![16, 1024]⟩
abbrev S256x3072 : Shape := ⟨2, ![256, 3072]⟩
abbrev S16x3072 : Shape := ⟨2, ![16, 3072]⟩
abbrev S8x3072 : Shape := ⟨2, ![8, 3072]⟩
abbrev S8x1024 : Shape := ⟨2, ![8, 1024]⟩
abbrev S248x1024 : Shape := ⟨2, ![248, 1024]⟩
abbrev S1x1024 : Shape := ⟨2, ![1, 1024]⟩
abbrev S1024 : Shape := ⟨1, ![1024]⟩

abbrev nBuf : Space → Nat
  | .hbm => 5
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S3x1024, .f32⟩
  | .hbm, ⟨3, _⟩ => ⟨S4096x3072, .bf16⟩
  | .hbm, ⟨4, _⟩ => ⟨S3x1024, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x3072, .f32⟩
  | .local _ .vmem, ⟨5, _⟩ => ⟨S256x3072, .f32⟩
  | .local _ .vmem, ⟨6, _⟩ => ⟨S16x3072, .f32⟩
  | .local _ .vmem, ⟨7, _⟩ => ⟨S16x3072, .f32⟩
  | .local _ .vmem, ⟨8, _⟩ => ⟨S16x3072, .f32⟩
  | .local _ .vmem, ⟨9, _⟩ => ⟨S16x3072, .f32⟩
  | .local _ .vmem, ⟨10, _⟩ => ⟨S3x1024, .f32⟩
  | .local _ .vmem, ⟨11, _⟩ => ⟨S256x3072, .bf16⟩
  | .local _ .vmem, ⟨12, _⟩ => ⟨S256x3072, .bf16⟩
  | .local _ .vmem, ⟨13, _⟩ => ⟨S3x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x1024 : Shape := ⟨2, ![4096, 1024]⟩
abbrev S4096x3072 : Shape := ⟨2, ![4096, 3072]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S3x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4098x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S4098x1024, .f32⟩
  | .hbm, ⟨48, _⟩ => ⟨S1x1024, .f32⟩
  | .hbm, ⟨49, _⟩ => ⟨S_, .f32⟩
  | .hbm, ⟨50, _⟩ => ⟨S3x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S4098x1024, .f32⟩
  | .hbm, ⟨61, _⟩ => ⟨S4098x1024, .f32⟩
  | .hbm, ⟨62, _⟩ => ⟨S1x1024, .f32⟩
  | .hbm, ⟨63, _⟩ => ⟨S_, .f32⟩
  | .hbm, ⟨64, _⟩ => ⟨S3x1024, .f32⟩
  | .hbm, ⟨65, _⟩ => ⟨S3x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S_, .f32⟩
  | .hbm, ⟨75, _⟩ => ⟨S4098x1024, .f32⟩
  | .hbm, ⟨76, _⟩ => ⟨S4098x1024, .f32⟩
  | .hbm, ⟨77, _⟩ => ⟨S1x1024, .f32⟩
  | .hbm, ⟨78, _⟩ => ⟨S_, .f32⟩
  | .hbm, ⟨79, _⟩ => ⟨S3x1024, .f32⟩
  | .hbm, ⟨80, _⟩ => ⟨S3x1024, .f32⟩
  | .hbm, ⟨81, _⟩ => ⟨S2x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x3072, .f32⟩
  | .hbm, ⟨86, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .bf16⟩
  | .hbm, ⟨3, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S4096x1024 : Shape := ⟨2, ![4096, 1024]⟩
abbrev S8x1024x512 : Shape := ⟨3, ![8, 1024, 512]⟩
abbrev S4096x4096 : Shape := ⟨2, ![4096, 4096]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .hbm, ⟨3, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S8x1024x512 : Shape := ⟨3, ![8, 1024, 512]⟩
abbrev S4096x4096 : Shape := ⟨2, ![4096, 4096]⟩
abbrev S1024x8x512 : Shape := ⟨3, ![1024, 8, 512]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .hbm, ⟨3, _⟩ => ⟨S4096x1024, .f32⟩
  | .hbm, ⟨4, _⟩ => ⟨S1024x8x512, .bf16⟩
  | .hbm, ⟨5, _⟩ => ⟨S1024x4096, .bf16⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x4096, .bf16⟩
  | .hbm, ⟨12, _⟩ => ⟨S1024x8x512, .bf16⟩
  | .hbm, ⟨13, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S4096x1024 : Shape := ⟨2, ![4096, 1024]⟩
abbrev S8x1024x512 : Shape := ⟨3, ![8, 1024, 512]⟩
abbrev S4096x4096 : Shape := ⟨2, ![4096, 4096]⟩
abbrev S2048x512 : Shape := ⟨2, ![2048, 512]⟩
abbrev S1x1024x512 : Shape := ⟨3, ![1, 1024, 512]⟩
abbrev S2048x1024 : Shape := ⟨2, ![2048, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .hbm, ⟨3, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S8x1024x512 : Shape := ⟨3, ![8, 1024, 512]⟩
abbrev S4096x4096 : Shape := ⟨2, ![4096, 4096]⟩
abbrev S1024x8x512 : Shape := ⟨3, ![1024, 8, 512]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .hbm, ⟨3, _⟩ => ⟨S4096x1024, .f32⟩
  | .hbm, ⟨4, _⟩ => ⟨S1024x8x512, .bf16⟩
  | .hbm, ⟨5, _⟩ => ⟨S1024x4096, .bf16⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x1024 : Shape := ⟨2, ![4096, 1024]⟩
abbrev S8x1024x512 : Shape := ⟨3, ![8, 1024, 512]⟩
abbrev S4096x4096 : Shape := ⟨2, ![4096, 4096]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .bf16⟩
  | .local _ .vmem, ⟨4, _⟩ => ⟨S4096x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x1024, .f32⟩
  | .hbm, ⟨3, _⟩ => ⟨S1024x8x512, .bf16⟩
  | .hbm, ⟨4, _⟩ => ⟨S1024x4096, .bf16⟩
  | .hbm, ⟨5, _⟩ => ⟨S1024x4096, .f32⟩
  | .hbm, ⟨6, _⟩ => ⟨S4096x4096, .f32⟩
  | .hbm, ⟨7, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S1024x3072 : Shape := ⟨2, ![1024, 3072]⟩
abbrev S4096x3072 : Shape := ⟨2, ![4096, 3072]⟩
abbrev S2048x1024 : Shape := ⟨2, ![2048, 1024]⟩
abbrev S1024x1536 : Shape := ⟨2, ![1024, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .f32⟩
  | .local _ .vmem, ⟨5, _⟩ => ⟨S2048x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x1024 : Shape := ⟨2, ![4096, 1024]⟩
abbrev S1024x3072 : Shape := ⟨2, ![1024, 3072]⟩
abbrev S4096x3072 : Shape := ⟨2, ![4096, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .hbm, ⟨3, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S1024x3072 : Shape := ⟨2, ![1024, 3072]⟩
abbrev S4096x3072 : Shape := ⟨2, ![4096, 3072]⟩
abbrev S2048x1536 : Shape := ⟨2, ![2048, 1536]⟩
abbrev S1024x1536 : Shape := ⟨2, ![1024, 1536]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .hbm, ⟨3, _⟩ => ⟨S4096x1024, .bf16⟩
  | .local _ .vmem, ⟨0, _⟩ => ⟨S2048x1536, .bf16⟩
  | .local _ .vmem, ⟨1, _⟩ => ⟨S2048x1536, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x1024 : Shape := ⟨2, ![4096, 1024]⟩
abbrev S8x1024x1152 : Shape := ⟨3, ![8, 1024, 1152]⟩
abbrev S4096x9216 : Shape := ⟨2, ![4096, 9216]⟩
abbrev S2048x1024 : Shape := ⟨2, ![2048, 1024]⟩
abbrev S1x1024x1152 : Shape := ⟨3, ![1, 1024, 1152]⟩
abbrev S2048x1152 : Shape := ⟨2, ![2048, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x1152, .bf16⟩
  | .hbm, ⟨2, _⟩ => ⟨S4096x9216, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S2048x1152, .f32⟩
  | .local _ .vmem, ⟨5, _⟩ => ⟨S2048x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S8x1024x1152 : Shape := ⟨3, ![8, 1024, 1152]⟩
abbrev S1024x8x1152 : Shape := ⟨3, ![1024, 8, 1152]⟩
abbrev S1024x9216 : Shape := ⟨2, ![1024, 9216]⟩
abbrev S4096x9216 : Shape := ⟨2, ![4096, 9216]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x1152, .bf16⟩
  | .hbm, ⟨2, _⟩ => ⟨S4096x1024, .f32⟩
  | .hbm, ⟨3, _⟩ => ⟨S1024x8x1152, .bf16⟩
  | .hbm, ⟨4, _⟩ => ⟨S1024x9216, .bf16⟩
  | .hbm, ⟨5, _⟩ => ⟨S1024x9216, .f32⟩
  | .hbm, ⟨6, _⟩ => ⟨S4096x9216, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S8x1024x1152 : Shape := ⟨3, ![8, 1024, 1152]⟩
abbrev S4096x9216 : Shape := ⟨2, ![4096, 9216]⟩
abbrev S4096x1152 : Shape := ⟨2, ![4096, 1152]⟩
abbrev S1x1024x1152 : Shape := ⟨3, ![1, 1024, 1152]⟩
abbrev S1024x1152 : Shape := ⟨2, ![1024, 1152]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x1024x1152, .bf16⟩
  | .hbm, ⟨2, _⟩ => ⟨S4096x9216, .bf16⟩
  | .hbm, ⟨3, _⟩ => ⟨S8x1024x1152, .bf16⟩
  | .local _ .vmem, ⟨0, _⟩ => ⟨S4096x1024, .bf16⟩
  | .local _ .vmem, ⟨1, _⟩ => ⟨S4096x1152, .bf16⟩
  | .local _ .vmem, ⟨2, _⟩ => ⟨S4096x1152, .bf16⟩
  | .local _ .vmem, ⟨3, _⟩ => ⟨S1x1024x1152, .bf16⟩
  | .local _ .vmem, ⟨4, _⟩ => ⟨S1x1024x1152, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S8x1024x1152 : Shape := ⟨3, ![8, 1024, 1152]⟩
abbrev S4096x9216 : Shape := ⟨2, ![4096, 9216]⟩
abbrev S1024x8x1152 : Shape := ⟨3, ![1024, 8, 1152]⟩
abbrev S1024x9216 : Shape := ⟨2, ![1024, 9216]⟩
abbrev S9216x1024 : Shape := ⟨2, ![9216, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x1152, .bf16⟩
  | .hbm, ⟨2, _⟩ => ⟨S4096x9216, .bf16⟩
  | .hbm, ⟨3, _⟩ => ⟨S4096x1024, .f32⟩
  | .hbm, ⟨4, _⟩ => ⟨S1024x8x1152, .bf16⟩
  | .hbm, ⟨5, _⟩ => ⟨S1024x9216, .bf16⟩
  | .hbm, ⟨6, _⟩ => ⟨S1024x9216, .f32⟩
  | .hbm, ⟨7, _⟩ => ⟨S4096x9216, .f32⟩
  | .hbm, ⟨8, _⟩ => ⟨S4096x9216, .f32⟩
  | .hbm, ⟨9, _⟩ => ⟨S9216x1024, .f32⟩
  | .hbm, ⟨10, _⟩ => ⟨S1024x9216, .f32⟩
  | .hbm, ⟨11, _⟩ => ⟨S1024x9216, .bf16⟩
  | .hbm, ⟨12, _⟩ => ⟨S1024x8x1152, .bf16⟩
  | .hbm, ⟨13, _⟩ => ⟨S8x1024x1152, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel16.lean ====
abbrev S4096x1024 : Shape := ⟨2, ![4096, 1024]⟩
abbrev S8x1024x1152 : Shape := ⟨3, ![8, 1024, 1152]⟩
abbrev S4096x9216 : Shape := ⟨2, ![4096, 9216]⟩
abbrev S2048x1152 : Shape := ⟨2, ![2048, 1152]⟩
abbrev S1x1024x1152 : Shape := ⟨3, ![1, 1024, 1152]⟩
abbrev S2048x1024 : Shape := ⟨2, ![2048, 1024]⟩
abbrev S1024x1152 : Shape := ⟨2, ![1024, 1152]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x1024x1152, .bf16⟩
  | .hbm, ⟨2, _⟩ => ⟨S4096x9216, .bf16⟩
  | .hbm, ⟨3, _⟩ => ⟨S4096x1024, .bf16⟩
  | .local _ .vmem, ⟨0, _⟩ => ⟨S2048x1152, .bf16⟩
  | .local _ .vmem, ⟨1, _⟩ => ⟨S2048x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S8x1024x1152 : Shape := ⟨3, ![8, 1024, 1152]⟩
abbrev S4096x9216 : Shape := ⟨2, ![4096, 9216]⟩
abbrev S1024x8x1152 : Shape := ⟨3, ![1024, 8, 1152]⟩
abbrev S1024x9216 : Shape := ⟨2, ![1024, 9216]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x1152, .bf16⟩
  | .hbm, ⟨2, _⟩ => ⟨S4096x9216, .bf16⟩
  | .hbm, ⟨3, _⟩ => ⟨S4096x1024, .f32⟩
  | .hbm, ⟨4, _⟩ => ⟨S1024x8x1152, .bf16⟩
  | .hbm, ⟨5, _⟩ => ⟨S1024x9216, .bf16⟩
  | .hbm, ⟨6, _⟩ => ⟨S1024x9216, .f32⟩
  | .hbm, ⟨7, _⟩ => ⟨S4096x9216, .f32⟩
  | .hbm, ⟨8, _⟩ => ⟨S4096x9216, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩
abbrev S2048x128 : Shape := ⟨2, ![2048, 128]⟩
abbrev S2048 : Shape := ⟨1, ![2048]⟩
abbrev S2048x1 : Shape := ⟨2, ![2048, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .bf16⟩
  | .hbm, ⟨4, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | .local _ .vmem, ⟨9, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference17Ideal.lean ====
abbrev S4096x1024 : Shape := ⟨2, ![4096, 1024]⟩
abbrev S1024x1024 : Shape := ⟨2, ![1024, 1024]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x8x128, .f32⟩
  | .hbm, ⟨10, _⟩ => ⟨S_, .f32⟩
  | .hbm, ⟨11, _⟩ => ⟨S4096x8, .f32⟩
  | .hbm, ⟨12, _⟩ => ⟨S4096x1024, .bf16⟩
  | .hbm, ⟨13, _⟩ => ⟨S4096x8x1, .f32⟩
  | .hbm, ⟨14, _⟩ => ⟨S4096x8x128, .f32⟩
  | .hbm, ⟨15, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel18.lean ====
abbrev S4096x1024 : Shape := ⟨2, ![4096, 1024]⟩
abbrev S1024x2560 : Shape := ⟨2, ![1024, 2560]⟩
abbrev S4096x2560 : Shape := ⟨2, ![4096, 2560]⟩
abbrev S2048x1024 : Shape := ⟨2, ![2048, 1024]⟩
abbrev S1024x1280 : Shape := ⟨2, ![1024, 1280]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .f32⟩
  | .local _ .vmem, ⟨0, _⟩ => ⟨S2048x1024, .bf16⟩
  | .local _ .vmem, ⟨1, _⟩ => ⟨S2048x1024, .bf16⟩
  | .local _ .vmem, ⟨2, _⟩ => ⟨S1024x1280, .bf16⟩
  | .local _ .vmem, ⟨3, _⟩ => ⟨S1024x1280, .bf16⟩
  | .local _ .vmem, ⟨4, _⟩ => ⟨S2048x1280, .f32⟩
  | .local _ .vmem, ⟨5, _⟩ => ⟨S2048x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x1024, .f32⟩
  | .hbm, ⟨3, _⟩ => ⟨S1024x2560, .f32⟩
  | .hbm, ⟨4, _⟩ => ⟨S4096x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S4096x1280 : Shape := ⟨2, ![4096, 1280]⟩
abbrev S1280x1024 : Shape := ⟨2, ![1280, 1024]⟩
abbrev S4096x1024 : Shape := ⟨2, ![4096, 1024]⟩
abbrev S2048x1280 : Shape := ⟨2, ![2048, 1280]⟩
abbrev S1280x512 : Shape := ⟨2, ![1280, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1280, .bf16⟩
  | .hbm, ⟨1, _⟩ => ⟨S1280x1024, .bf16⟩
  | .hbm, ⟨2, _⟩ => ⟨S4096x1024, .f32⟩
  | .hbm, ⟨3, _⟩ => ⟨S4096x1024, .f32⟩
  | .local _ .vmem, ⟨0, _⟩ => ⟨S2048x1280, .bf16⟩
  | .local _ .vmem, ⟨1, _⟩ => ⟨S2048x1280, .bf16⟩
  | .local _ .vmem, ⟨2, _⟩ => ⟨S1280x512, .bf16⟩
  | .local _ .vmem, ⟨3, _⟩ => ⟨S1280x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4096x1280 : Shape := ⟨2, ![4096, 1280]⟩
abbrev S1280x1024 : Shape := ⟨2, ![1280, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S1280x1024, .bf16⟩
  | .hbm, ⟨2, _⟩ => ⟨S4096x1024, .f32⟩
  | .hbm, ⟨3, _⟩ => ⟨S4096x1280, .f32⟩
  | .hbm, ⟨4, _⟩ => ⟨S1280x1024, .f32⟩
  | .hbm, ⟨5, _⟩ => ⟨S4096x1024, .f32⟩
  | .hbm, ⟨6, _⟩ => ⟨S4096x1024, .f32⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S4096x1280 : Shape := ⟨2, ![4096, 1280]⟩
abbrev S1280x1024 : Shape := ⟨2, ![1280, 1024]⟩
abbrev S4096x1024 : Shape := ⟨2, ![4096, 1024]⟩
abbrev S2048x1024 : Shape := ⟨2, ![2048, 1024]⟩
abbrev S640x1024 : Shape := ⟨2, ![640, 1024]⟩
abbrev S2048x640 : Shape := ⟨2, ![2048, 640]⟩

abbrev nBuf : Space → Nat
  | .hbm => 4
  | .vmem => 6
  | .smem => 0
  | _ => 0

abbrev bufTy : (tb : Table) → Fin (tcTables nBuf tb) → BufTy
  | .hbm, ⟨0, _⟩ => ⟨S4096x1280, .f32⟩
  | .hbm, ⟨1, _⟩ => ⟨S1280x1024, .bf16⟩
  | .hbm, ⟨2, _⟩ => ⟨S4096x1024, .f32⟩
  | .hbm, ⟨3, _⟩ => ⟨S4096x1280, .f32⟩
  | .local _ .vmem, ⟨0, _⟩ => ⟨S2048x1024, .f32⟩
  | .local _ .vmem, ⟨1, _⟩ => ⟨S2048x1024, .f32⟩
  | .local _ .vmem, ⟨2, _⟩ => ⟨S640x1024, .bf16⟩
  | .local _ .vmem, ⟨3, _⟩ => ⟨S640x1024, .bf16⟩
  | .local _ .vmem, ⟨4, _⟩ => ⟨S2048x640, .f32⟩
  | .local _ .vmem, ⟨5, _⟩ => ⟨S2048x640, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1280 : Shape := ⟨2, ![4096, 1280]⟩
abbrev S1280x1024 : Shape := ⟨2, ![1280, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S1280x1024, .bf16⟩
  | .hbm, ⟨2, _⟩ => ⟨S4096x1024, .f32⟩
  | .hbm, ⟨3, _⟩ => ⟨S1280x1024, .f32⟩
  | .hbm, ⟨4, _⟩ => ⟨S4096x1024, .f32⟩
  | .hbm, ⟨5, _⟩ => ⟨S4096x1280, .f32⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel21.lean ====
abbrev S4096x1280 : Shape := ⟨2, ![4096, 1280]⟩
abbrev S1280x1024 : Shape := ⟨2, ![1280, 1024]⟩
abbrev S4096x1024 : Shape := ⟨2, ![4096, 1024]⟩
abbrev S2048x1280 : Shape := ⟨2, ![2048, 1280]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1280, .bf16⟩
  | .hbm, ⟨1, _⟩ => ⟨S1280x1024, .bf16⟩
  | .hbm, ⟨2, _⟩ => ⟨S4096x1024, .f32⟩
  | .hbm, ⟨3, _⟩ => ⟨S1280x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .f32⟩
  | .local _ .vmem, ⟨3, _⟩ => ⟨S2048x1024, .f32⟩
  | .local _ .vmem, ⟨4, _⟩ => ⟨S1280x1024, .bf16⟩
  | .local _ .vmem, ⟨5, _⟩ => ⟨S1280x1024, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S4096x1280 : Shape := ⟨2, ![4096, 1280]⟩
abbrev S1280x1024 : Shape := ⟨2, ![1280, 1024]⟩
abbrev S4096x1024 : Shape := ⟨2, ![4096, 1024]⟩
abbrev S1024x1280 : Shape := ⟨2, ![1024, 1280]⟩

abbrev nBuf : Space → Nat
  | .hbm => 9
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S1280x1024, .bf16⟩
  | .hbm, ⟨2, _⟩ => ⟨S4096x1024, .f32⟩
  | .hbm, ⟨3, _⟩ => ⟨S4096x1280, .f32⟩
  | .hbm, ⟨4, _⟩ => ⟨S1280x1024, .f32⟩
  | .hbm, ⟨5, _⟩ => ⟨S4096x1024, .f32⟩
  | .hbm, ⟨6, _⟩ => ⟨S1024x1280, .f32⟩
  | .hbm, ⟨7, _⟩ => ⟨S1280x1024, .f32⟩
  | .hbm, ⟨8, _⟩ => ⟨S1280x1024, .bf16⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S4096x1024 : Shape := ⟨2, ![4096, 1024]⟩
abbrev S1024x2560 : Shape := ⟨2, ![1024, 2560]⟩
abbrev S4096x2560 : Shape := ⟨2, ![4096, 2560]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .bf16⟩
  | .hbm, ⟨3, _⟩ => ⟨S1024x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S1024x2560, .bf16⟩
  | .local _ .vmem, ⟨5, _⟩ => ⟨S1024x2560, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S1024x2560 : Shape := ⟨2, ![1024, 2560]⟩
abbrev S4096x2560 : Shape := ⟨2, ![4096, 2560]⟩
abbrev S2560x1024 : Shape := ⟨2, ![2560, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .bf16⟩
  | .hbm, ⟨3, _⟩ => ⟨S4096x1024, .f32⟩
  | .hbm, ⟨4, _⟩ => ⟨S1024x2560, .f32⟩
  | .hbm, ⟨5, _⟩ => ⟨S4096x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S1024x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel23.lean ====
abbrev S4096x1024 : Shape := ⟨2, ![4096, 1024]⟩
abbrev S1024x2560 : Shape := ⟨2, ![1024, 2560]⟩
abbrev S4096x2560 : Shape := ⟨2, ![4096, 2560]⟩
abbrev S2048x2560 : Shape := ⟨2, ![2048, 2560]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .bf16⟩
  | .hbm, ⟨3, _⟩ => ⟨S4096x1024, .bf16⟩
  | .local _ .vmem, ⟨0, _⟩ => ⟨S2048x2560, .bf16⟩
  | .local _ .vmem, ⟨1, _⟩ => ⟨S2048x2560, .bf16⟩
  | .local _ .vmem, ⟨2, _⟩ => ⟨S1024x2560, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .bf16⟩
  | .hbm, ⟨3, _⟩ => ⟨S4096x1024, .f32⟩
  | .hbm, ⟨4, _⟩ => ⟨S1024x2560, .f32⟩
  | .hbm, ⟨5, _⟩ => ⟨S4096x2560, .f32⟩
  | .hbm, ⟨6, _⟩ => ⟨S4096x2560, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .bf16⟩
  | .local _ .vmem, ⟨0, _⟩ => ⟨S4096x256, .f32⟩
  | .local _ .vmem, ⟨1, _⟩ => ⟨S256x1024, .bf16⟩
  | .local _ .vmem, ⟨2, _⟩ => ⟨S4096x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S256x1024, .f32⟩
  | .hbm, ⟨3, _⟩ => ⟨S4096x1024, .f32⟩
  | .hbm, ⟨4, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S4096x1024 : Shape := ⟨2, ![4096, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S2048x512, .bf16⟩
  | .local _ .vmem, ⟨11, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference25Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel26.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 4
  | .vmem => 3
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .bf16⟩
  | .hbm, ⟨3, _⟩ => ⟨S256x1024, .bf16⟩
  | .local _ .vmem, ⟨0, _⟩ => ⟨S4096x256, .f32⟩
  | .local _ .vmem, ⟨1, _⟩ => ⟨S4096x1024, .bf16⟩
  | .local _ .vmem, ⟨2, _⟩ => ⟨S256x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .bf16⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S4096x1024 : Shape := ⟨2, ![4096, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel28.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel29.lean ====
abbrev S256x16384 : Shape := ⟨2, ![256, 16384]⟩
abbrev S256x128 : Shape := ⟨2, ![256, 128]⟩
abbrev S256x128x1 : Shape := ⟨3, ![256, 128, 1]⟩
abbrev S256x128x128 : Shape := ⟨3, ![256, 128, 128]⟩
abbrev S256x2048 : Shape := ⟨2, ![256, 2048]⟩
abbrev S128x128 : Shape := ⟨2, ![128, 128]⟩

abbrev nBuf : Space → Nat
  | .hbm => 15
  | .vmem => 18
  | .smem => 0
  | _ => 0

abbrev bufTy : (tb : Table) → Fin (tcTables nBuf tb) → BufTy
  | .hbm, ⟨0, _⟩ => ⟨S256x16384, .bf16⟩
  | .hbm, ⟨1, _⟩ => ⟨S256x16384, .bf16⟩
  | .hbm, ⟨2, _⟩ => ⟨S256x16384, .bf16⟩
  | .hbm, ⟨3, _⟩ => ⟨S256x16384, .bf16⟩
  | .hbm, ⟨4, _⟩ => ⟨S256x128, .f32⟩
  | .hbm, ⟨5, _⟩ => ⟨S256x128, .f32⟩
  | .hbm, ⟨6, _⟩ => ⟨S256x128x1, .f32⟩
  | .hbm, ⟨7, _⟩ => ⟨S256x128x128, .f32⟩
  | .hbm, ⟨8, _⟩ => ⟨S256x16384, .f32⟩
  | .hbm, ⟨9, _⟩ => ⟨S256x128x1, .f32⟩
  | .hbm, ⟨10, _⟩ => ⟨S256x128x128, .f32⟩
  | .hbm, ⟨11, _⟩ => ⟨S256x16384, .f32⟩
  | .hbm, ⟨12, _⟩ => ⟨S256x16384, .f32⟩
  | .hbm, ⟨13, _⟩ => ⟨S256x16384, .f32⟩
  | .hbm, ⟨14, _⟩ => ⟨S256x16384, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel29Ideal.lean ====
variable {F : FTy → Type} [FloatOps F] [Named F]
def κ : String → Option EReal := fun
  | "mask" => some ⊥
  | _ => none
-- ==== Reference29Ideal.lean ====
abbrev S256x16384 : Shape := ⟨2, ![256, 16384]⟩
abbrev S256x128 : Shape := ⟨2, ![256, 128]⟩
abbrev S1x4096x8x128 : Shape := ⟨4, ![1, 4096, 8, 128]⟩
abbrev S1x4096x8 : Shape := ⟨3, ![1, 4096, 8]⟩
abbrev S1x256x16x8x128 : Shape := ⟨5, ![1, 256, 16, 8, 128]⟩
abbrev S1x16x256x8x128 : Shape := ⟨5, ![1, 16, 256, 8, 128]⟩
abbrev S16x2x128x8x128 : Shape := ⟨5, ![16, 2, 128, 8, 128]⟩
abbrev S16x1x128x8x128 : Shape := ⟨5, ![16, 1, 128, 8, 128]⟩
abbrev S_ : Shape := ⟨0, ![]⟩
abbrev S16x2x256x8x128 : Shape := ⟨5, ![16, 2, 256, 8, 128]⟩
abbrev S16x2x8x128x256 : Shape := ⟨5, ![16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2 : Shape := ⟨1, ![2]⟩
abbrev S2x1x1 : Shape := ⟨3, ![2, 1, 1]⟩
abbrev S1x1x256 : Shape := ⟨3, ![1, 1, 256]⟩
abbrev S2x1x256 : Shape := ⟨3, ![2, 1, 256]⟩
abbrev S1x128x256 : Shape := ⟨3, ![1, 128, 256]⟩
abbrev S2x128x256 : Shape := ⟨3, ![2, 128, 256]⟩
abbrev S1x2x1x128x256 : Shape := ⟨5, ![1, 2, 1, 128, 256]⟩
abbrev S1x4096x8x1 : Shape := ⟨4, ![1, 4096, 8, 1]⟩
abbrev S1x256x16x8x1 : Shape := ⟨5, ![1, 256, 16, 8, 1]⟩
abbrev S1x16x256x8x1 : Shape := ⟨5, ![1, 16, 256, 8, 1]⟩
abbrev S16x2x128x8x1 : Shape := ⟨5, ![16, 2, 128, 8, 1]⟩
abbrev S16x2x128x8 : Shape := ⟨4, ![16, 2, 128, 8]⟩
abbrev S16x2x8x128 : Shape := ⟨4, ![16, 2, 8, 128]⟩
abbrev S16x2x8x128x1 : Shape := ⟨5, ![16, 2, 8, 128, 1]⟩
abbrev S16x2x8x128x128 : Shape := ⟨5, ![16, 2, 8, 128, 128]⟩
abbrev S16x2x8x256x128 : Shape := ⟨5, ![16, 2, 8, 256, 128]⟩

abbrev nBuf : Space → Nat
  | .hbm => 160
  | .vmem => 0
  | .smem => 0
  | _ => 0

abbrev hbmTy0_0 (i : Nat) : BufTy := match i % 128 with
  | 0 => ⟨S256x16384, .bf16⟩
  | 1 => ⟨S256x16384, .bf16⟩
  | 2 => ⟨S256x16384, .bf16⟩
  | 3 => ⟨S256x16384, .bf16⟩
  | 4 => ⟨S256x128, .f32⟩
  | 5 => ⟨S256x128, .f32⟩
  | 6 => ⟨S256x16384, .f32⟩
  | 7 => ⟨S1x4096x8x128, .f32⟩
  | 8 => ⟨S256x16384, .f32⟩
  | 9 => ⟨S1x4096x8x128, .f32⟩
  | 10 => ⟨S256x16384, .f32⟩
  | 11 => ⟨S1x4096x8x128, .f32⟩
  | 12 => ⟨S256x16384, .f32⟩
  | 13 => ⟨S1x4096x8x128, .f32⟩
  | 14 => ⟨S1x4096x8, .f32⟩
  | 15 => ⟨S1x4096x8, .f32⟩
  | 16 => ⟨S1x256x16x8x128, .f32⟩
  | 17 => ⟨S1x16x256x8x128, .f32⟩
  | 18 => ⟨S16x2x128x8x128, .f32⟩
  | 19 => ⟨S1x256x16x8x128, .f32⟩
  | 20 => ⟨S1x16x256x8x128, .f32⟩
  | 21 => ⟨S16x2x128x8x128, .f32⟩
  | 22 => ⟨S16x1x128x8x128, .f32⟩
  | 23 => ⟨S_, .f32⟩
  | 24 => ⟨S16x1x128x8x128, .f32⟩
  | 25 => ⟨S16x1x128x8x128, .f32⟩
  | 26 => ⟨S16x2x128x8x128, .f32⟩
  | 27 => ⟨S_, .f32⟩
  | 28 => ⟨S16x1x128x8x128, .f32⟩
  | 29 => ⟨S16x2x256x8x128, .f32⟩
  | 30 => ⟨S1x256x16x8x128, .f32⟩
  | 31 => ⟨S1x16x256x8x128, .f32⟩
  | 32 => ⟨S16x2x128x8x128, .f32⟩
  | 33 => ⟨S16x1x128x8x128, .f32⟩
  | 34 => ⟨S_, .f32⟩
  | 35 => ⟨S16x1x128x8x128, .f32⟩
  | 36 => ⟨S16x1x128x8x128, .f32⟩
  | 37 => ⟨S16x2x128x8x128, .f32⟩
  | 38 => ⟨S_, .f32⟩
  | 39 => ⟨S16x1x128x8x128, .f32⟩
  | 40 => ⟨S16x2x256x8x128, .f32⟩
  | 41 => ⟨S16x2x8x128x256, .f32⟩
  | 42 => ⟨S_, .f32⟩
  | 43 => ⟨S16x2x8x128x256, .f32⟩
  | 44 => ⟨S16x2x8x128x256, .f32⟩
  | 45 => ⟨S128, .i32⟩
  | 46 => ⟨S128x1, .i32⟩
  | 47 => ⟨S256, .i32⟩
  | 48 => ⟨S1x256, .i32⟩
  | 49 => ⟨S_, .i32⟩
  | 50 => ⟨S128x1, .i32⟩
  | 51 => ⟨S128x1, .i32⟩
  | 52 => ⟨S128x256, .i32⟩
  | 53 => ⟨S128x256, .i32⟩
  | 54 => ⟨S128x256, .i32⟩
  | 55 => ⟨S_, .i32⟩
  | 56 => ⟨S128x256, .i32⟩
  | 57 => ⟨S128x256, .i1⟩
  | 58 => ⟨S_, .i32⟩
  | 59 => ⟨S128x256, .i32⟩
  | 60 => ⟨S128x256, .i1⟩
  | 61 => ⟨S128x256, .i1⟩
  | 62 => ⟨S2, .i32⟩
  | 63 => ⟨S2x1x1, .i32⟩
  | 64 => ⟨S_, .i32⟩
  | 65 => ⟨S2x1x1, .i32⟩
  | 66 => ⟨S2x1x1, .i32⟩
  | 67 => ⟨S_, .i32⟩
  | 68 => ⟨S2x1x1, .i32⟩
  | 69 => ⟨S2x1x1, .i32⟩
  | 70 => ⟨S1x1x256, .i32⟩
  | 71 => ⟨S2x1x256, .i32⟩
  | 72 => ⟨S2x1x256, .i32⟩
  | 73 => ⟨S2x1x256, .i32⟩
  | 74 => ⟨S1x128x256, .i1⟩
  | 75 => ⟨S_, .i32⟩
  | 76 => ⟨S2x1x256, .i32⟩
  | 77 => ⟨S2x1x256, .i1⟩
  | 78 => ⟨S2x128x256, .i1⟩
  | 79 => ⟨S2x128x256, .i1⟩
  | 80 => ⟨S2x128x256, .i1⟩
  | 81 => ⟨S1x2x1x128x256, .i1⟩
  | 82 => ⟨S_, .f32⟩
  | 83 => ⟨S_, .f32⟩
  | 84 => ⟨S16x2x8x128x256, .i1⟩
  | 85 => ⟨S16x2x8x128x256, .f32⟩
  | 86 => ⟨S16x2x8x128x256, .f32⟩
  | 87 => ⟨S_, .f32⟩
  | 88 => ⟨S16x2x8x128x256, .f32⟩
  | 89 => ⟨S1x4096x8x1, .f32⟩
  | 90 => ⟨S1x256x16x8x1, .f32⟩
  | 91 => ⟨S1x16x256x8x1, .f32⟩
  | 92 => ⟨S16x2x128x8x1, .f32⟩
  | 93 => ⟨S16x2x128x8, .f32⟩
  | 94 => ⟨S16x2x8x128, .f32⟩
  | 95 => ⟨S16x2x8x128x1, .f32⟩
  | 96 => ⟨S16x2x8x128x256, .f32⟩
  | 97 => ⟨S16x2x8x128x256, .f32⟩
  | 98 => ⟨S16x2x8x128x256, .f32⟩
  | 99 => ⟨S16x2x8x128x128, .f32⟩
  | 100 => ⟨S16x2x128x8x128, .f32⟩
  | 101 => ⟨S_, .f32⟩
  | 102 => ⟨S16x2x8x128, .f32⟩
  | 103 => ⟨S16x2x8x128x1, .f32⟩
  | 104 => ⟨S1x256x16x8x128, .f32⟩
  | 105 => ⟨S1x16x256x8x128, .f32⟩
  | 106 => ⟨S16x2x128x8x128, .f32⟩
  | 107 => ⟨S1x4096x8x1, .f32⟩
  | 108 => ⟨S1x256x16x8x1, .f32⟩
  | 109 => ⟨S1x16x256x8x1, .f32⟩
  | 110 => ⟨S16x2x128x8x1, .f32⟩
  | 111 => ⟨S16x2x128x8, .f32⟩
  | 112 => ⟨S16x2x8x128, .f32⟩
  | 113 => ⟨S16x2x8x128x1, .f32⟩
  | 114 => ⟨S16x2x8x128x1, .f32⟩
  | 115 => ⟨S_, .f32⟩
  | 116 => ⟨S16x2x8x128, .f32⟩
  | 117 => ⟨S16x2x8x128x256, .f32⟩
  | 118 => ⟨S16x2x8x128x128, .f32⟩
  | 119 => ⟨S16x2x8x128x256, .f32⟩
  | 120 => ⟨S16x2x8x128x256, .f32⟩
  | 121 => ⟨S16x2x8x128x256, .f32⟩
  | 122 => ⟨S16x2x256x8x128, .f32⟩
  | 123 => ⟨S16x2x8x128x256, .f32⟩
  | 124 => ⟨S_, .f32⟩
  | 125 => ⟨S16x2x8x128x256, .f32⟩
  | 126 => ⟨S16x2x8x128x256, .f32⟩
  | 127 => ⟨S_, .f32⟩
  | _ => ⟨S256x16384, .bf16⟩

abbrev hbmTy0_1 (i : Nat) : BufTy := match i % 128 with
  | 0 => ⟨S16x2x8x128x256, .f32⟩
  | 1 => ⟨S16x2x8x128x256, .f32⟩
  | 2 => ⟨S16x2x8x256x128, .f32⟩
  | 3 => ⟨S16x2x256x8x128, .f32⟩
  | 4 => ⟨S16x2x8x128x128, .f32⟩
  | 5 => ⟨S16x2x128x8x128, .f32⟩
  | 6 => ⟨S16x2x128x8x128, .f32⟩
  | 7 => ⟨S16x2x128x8x128, .f32⟩
  | 8 => ⟨S16x1x128x8x128, .f32⟩
  | 9 => ⟨S16x1x128x8x128, .f32⟩
  | 10 => ⟨S_, .f32⟩
  | 11 => ⟨S16x2x128x8x128, .f32⟩
  | 12 => ⟨S16x2x128x8x128, .f32⟩
  | 13 => ⟨S1x16x256x8x128, .f32⟩
  | 14 => ⟨S1x256x16x8x128, .f32⟩
  | 15 => ⟨S1x4096x8x128, .f32⟩
  | 16 => ⟨S16x2x128x8x128, .f32⟩
  | 17 => ⟨S16x2x128x8x128, .f32⟩
  | 18 => ⟨S16x1x128x8x128, .f32⟩
  | 19 => ⟨S16x1x128x8x128, .f32⟩
  | 20 => ⟨S_, .f32⟩
  | 21 => ⟨S16x2x128x8x128, .f32⟩
  | 22 => ⟨S16x2x128x8x128, .f32⟩
  | 23 => ⟨S1x16x256x8x128, .f32⟩
  | 24 => ⟨S1x256x16x8x128, .f32⟩
  | 25 => ⟨S1x4096x8x128, .f32⟩
  | 26 => ⟨S1x16x256x8x128, .f32⟩
  | 27 => ⟨S1x256x16x8x128, .f32⟩
  | 28 => ⟨S1x4096x8x128, .f32⟩
  | 29 => ⟨S256x16384, .f32⟩
  | 30 => ⟨S256x16384, .f32⟩
  | 31 => ⟨S256x16384, .f32⟩
  | _ => ⟨S256x16384, .bf16⟩

abbrev hbmTy (i : Nat) : BufTy := match i / 128 with
  | 0 => hbmTy0_0 i
  | 1 => hbmTy0_1 i
  | _ => ⟨S256x16384, .bf16⟩

abbrev bufTy : (tb : Table) → Fin (tcTables nBuf tb) → BufTy
  | .hbm, ⟨i, _⟩ => hbmTy i
  | _, _ => ⟨S256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_c_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_6 : Ref sig .tc := ⟨.hbm, 64, rfl⟩
abbrev main_v50 : Ref sig .tc := ⟨.hbm, 65, rfl⟩
abbrev main_v51 : Ref sig .tc := ⟨.hbm, 66, rfl⟩
abbrev main_c_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_call0_v0 : Ref sig .tc := ⟨.hbm, 83, rfl⟩
abbrev main_v65_1 : Ref sig .tc := ⟨.hbm, 84, rfl⟩
abbrev main_call0_v2 : Ref sig .tc := ⟨.hbm, 85, rfl⟩
abbrev main_v65_0 : Ref sig .tc := ⟨.hbm, 86, rfl⟩
abbrev main_call0_cst : Ref sig .tc := ⟨.hbm, 87, rfl⟩
abbrev main_v65_2 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_11 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_call1_cst : Ref sig .tc := ⟨.hbm, 124, rfl⟩
abbrev main_call1_v0 : Ref sig .tc := ⟨.hbm, 125, rfl⟩
abbrev main_v99 : Ref sig .tc := ⟨.hbm, 126, rfl⟩
abbrev main_cst_12 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_13 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_14 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩

abbrev nD : Nat := 1
abbrev τ : Topo := Topo.v7x

variable {F : FTy → Type} [FloatOps F]
-- ==== Kernel30.lean ====
abbrev S4096x1024 : Shape := ⟨2, ![4096, 1024]⟩
abbrev S_ : Shape := ⟨0, ![]⟩
abbrev S512x1024 : Shape := ⟨2, ![512, 1024]⟩

abbrev nBuf : Space → Nat
  | .hbm => 14
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference30Ideal.lean ====
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel31.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference31Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel32.lean ====
abbrev S4096x3072 : Shape := ⟨2, ![4096, 3072]⟩
abbrev S3x1024 : Shape := ⟨2, ![3, 1024]⟩
abbrev S4096x1024 : Shape := ⟨2, ![4096, 1024]⟩
abbrev S256x3072 : Shape := ⟨2, ![256, 3072]⟩
abbrev S16x3072 : Shape := ⟨2, ![16, 3072]⟩
abbrev S256x1024 : Shape := ⟨2, ![256, 1024]⟩
abbrev S8x3072 : Shape := ⟨2, ![8, 3072]⟩
abbrev S8x1024 : Shape := ⟨2, ![8, 1024]⟩
abbrev S1x1024 : Shape := ⟨2, ![1, 1024]⟩
abbrev S248x1024 : Shape := ⟨2, ![248, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .bf16⟩
  | .local _ .vmem, ⟨0, _⟩ => ⟨S256x3072, .f32⟩
  | .local _ .vmem, ⟨1, _⟩ => ⟨S256x3072, .f32⟩
  | .local _ .vmem, ⟨2, _⟩ => ⟨S16x3072, .f32⟩
  | .local _ .vmem, ⟨3, _⟩ => ⟨S16x3072, .f32⟩
  | .local _ .vmem, ⟨4, _⟩ => ⟨S3x1024, .f32⟩
  | .local _ .vmem, ⟨5, _⟩ => ⟨S256x1024, .bf16⟩
  | .local _ .vmem, ⟨6, _⟩ => ⟨S256x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference32Ideal.lean ====
abbrev S4096x3072 : Shape := ⟨2, ![4096, 3072]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S2x1024, .f32⟩
  | .hbm, ⟨8, _⟩ => ⟨S4098x1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Kernel34.lean ====
abbrev S1024x4096 : Shape := ⟨2, ![1024, 4096]⟩
abbrev S1024x32 : Shape := ⟨2, ![1024, 32]⟩
abbrev S1024x32x1 : Shape := ⟨3, ![1024, 32, 1]⟩
abbrev S1024x32x128 : Shape := ⟨3, ![1024, 32, 128]⟩
abbrev S1024x512 : Shape := ⟨2, ![1024, 512]⟩
abbrev S128x128 : Shape := ⟨2, ![128, 128]⟩

abbrev nBuf : Space → Nat
  | .hbm => 15
  | .vmem => 18
  | .smem => 0
  | _ => 0

abbrev bufTy : (tb : Table) → Fin (tcTables nBuf tb) → BufTy
  | .hbm, ⟨0, _⟩ => ⟨S1024x4096, .bf16⟩
  | .hbm, ⟨1, _⟩ => ⟨S1024x4096, .bf16⟩
  | .hbm, ⟨2, _⟩ => ⟨S1024x4096, .bf16⟩
  | .hbm, ⟨3, _⟩ => ⟨S1024x4096, .bf16⟩
  | .hbm, ⟨4, _⟩ => ⟨S1024x32, .f32⟩
  | .hbm, ⟨5, _⟩ => ⟨S1024x32, .f32⟩
  | .hbm, ⟨6, _⟩ => ⟨S1024x32x1, .f32⟩
  | .hbm, ⟨7, _⟩ => ⟨S1024x32x128, .f32⟩
  | .hbm, ⟨8, _⟩ => ⟨S1024x4096, .f32⟩
  | .hbm, ⟨9, _⟩ => ⟨S1024x32x1, .f32⟩
  | .hbm, ⟨10, _⟩ => ⟨S1024x32x128, .f32⟩
  | .hbm, ⟨11, _⟩ => ⟨S1024x4096, .f32⟩
  | .hbm, ⟨12, _⟩ => ⟨S1024x4096, .f32⟩
  | .hbm, ⟨13, _⟩ => ⟨S1024x4096, .f32⟩
  | .hbm, ⟨14, _⟩ => ⟨S1024x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel34Ideal.lean ====
variable {F : FTy → Type} [FloatOps F] [Named F]
def κ : String → Option EReal := fun
  | "mask" => some ⊥
  | _ => none
-- ==== Reference34Ideal.lean ====
abbrev S1024x4096 : Shape := ⟨2, ![1024, 4096]⟩
abbrev S1024x32 : Shape := ⟨2, ![1024, 32]⟩
abbrev S1x4096x8x128 : Shape := ⟨4, ![1, 4096, 8, 128]⟩
abbrev S1x4096x8 : Shape := ⟨3, ![1, 4096, 8]⟩
abbrev S1x1024x4x8x128 : Shape := ⟨5, ![1, 1024, 4, 8, 128]⟩
abbrev S1x4x1024x8x128 : Shape := ⟨5, ![1, 4, 1024, 8, 128]⟩
abbrev S4x8x128x8x128 : Shape := ⟨5, ![4, 8, 128, 8, 128]⟩
abbrev S4x1x128x8x128 : Shape := ⟨5, ![4, 1, 128, 8, 128]⟩
abbrev S_ : Shape := ⟨0, ![]⟩
abbrev S4x7x128x8x128 : Shape := ⟨5, ![4, 7, 128, 8, 128]⟩
abbrev S4x8x256x8x128 : Shape := ⟨5, ![4, 8, 256, 8, 128]⟩
abbrev S4x8x8x128x256 : Shape := ⟨5, ![4, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x8x1x128x256 : Shape := ⟨5, ![1, 8, 1, 128, 256]⟩
abbrev S1x4096x8x1 : Shape := ⟨4, ![1, 4096, 8, 1]⟩
abbrev S1x1024x4x8x1 : Shape := ⟨5, ![1, 1024, 4, 8, 1]⟩
abbrev S1x4x1024x8x1 : Shape := ⟨5, ![1, 4, 1024, 8, 1]⟩
abbrev S4x8x128x8x1 : Shape := ⟨5, ![4, 8, 128, 8, 1]⟩
abbrev S4x8x128x8 : Shape := ⟨4, ![4, 8, 128, 8]⟩
abbrev S4x8x8x128 : Shape := ⟨4, ![4, 8, 8, 128]⟩
abbrev S4x8x8x128x1 : Shape := ⟨5, ![4, 8, 8, 128, 1]⟩
abbrev S4x8x8x128x128 : Shape := ⟨5, ![4, 8, 8, 128, 128]⟩
abbrev S4x8x8x256x128 : Shape := ⟨5, ![4, 8, 8, 256, 128]⟩

abbrev nBuf : Space → Nat
  | .hbm => 160
  | .vmem => 0
  | .smem => 0
  | _ => 0

abbrev hbmTy0_0 (i : Nat) : BufTy := match i % 128 with
  | 0 => ⟨S1024x4096, .bf16⟩
  | 1 => ⟨S1024x4096, .bf16⟩
  | 2 => ⟨S1024x4096, .bf16⟩
  | 3 => ⟨S1024x4096, .bf16⟩
  | 4 => ⟨S1024x32, .f32⟩
  | 5 => ⟨S1024x32, .f32⟩
  | 6 => ⟨S1024x4096, .f32⟩
  | 7 => ⟨S1x4096x8x128, .f32⟩
  | 8 => ⟨S1024x4096, .f32⟩
  | 9 => ⟨S1x4096x8x128, .f32⟩
  | 10 => ⟨S1024x4096, .f32⟩
  | 11 => ⟨S1x4096x8x128, .f32⟩
  | 12 => ⟨S1024x4096, .f32⟩
  | 13 => ⟨S1x4096x8x128, .f32⟩
  | 14 => ⟨S1x4096x8, .f32⟩
  | 15 => ⟨S1x4096x8, .f32⟩
  | 16 => ⟨S1x1024x4x8x128, .f32⟩
  | 17 => ⟨S1x4x1024x8x128, .f32⟩
  | 18 => ⟨S4x8x128x8x128, .f32⟩
  | 19 => ⟨S1x1024x4x8x128, .f32⟩
  | 20 => ⟨S1x4x1024x8x128, .f32⟩
  | 21 => ⟨S4x8x128x8x128, .f32⟩
  | 22 => ⟨S4x1x128x8x128, .f32⟩
  | 23 => ⟨S_, .f32⟩
  | 24 => ⟨S4x1x128x8x128, .f32⟩
  | 25 => ⟨S4x7x128x8x128, .f32⟩
  | 26 => ⟨S4x8x128x8x128, .f32⟩
  | 27 => ⟨S_, .f32⟩
  | 28 => ⟨S4x1x128x8x128, .f32⟩
  | 29 => ⟨S4x8x256x8x128, .f32⟩
  | 30 => ⟨S1x1024x4x8x128, .f32⟩
  | 31 => ⟨S1x4x1024x8x128, .f32⟩
  | 32 => ⟨S4x8x128x8x128, .f32⟩
  | 33 => ⟨S4x1x128x8x128, .f32⟩
  | 34 => ⟨S_, .f32⟩
  | 35 => ⟨S4x1x128x8x128, .f32⟩
  | 36 => ⟨S4x7x128x8x128, .f32⟩
  | 37 => ⟨S4x8x128x8x128, .f32⟩
  | 38 => ⟨S_, .f32⟩
  | 39 => ⟨S4x1x128x8x128, .f32⟩
  | 40 => ⟨S4x8x256x8x128, .f32⟩
  | 41 => ⟨S4x8x8x128x256, .f32⟩
  | 42 => ⟨S_, .f32⟩
  | 43 => ⟨S4x8x8x128x256, .f32⟩
  | 44 => ⟨S4x8x8x128x256, .f32⟩
  | 45 => ⟨S128, .i32⟩
  | 46 => ⟨S128x1, .i32⟩
  | 47 => ⟨S256, .i32⟩
  | 48 => ⟨S1x256, .i32⟩
  | 49 => ⟨S_, .i32⟩
  | 50 => ⟨S128x1, .i32⟩
  | 51 => ⟨S128x1, .i32⟩
  | 52 => ⟨S128x256, .i32⟩
  | 53 => ⟨S128x256, .i32⟩
  | 54 => ⟨S128x256, .i32⟩
  | 55 => ⟨S_, .i32⟩
  | 56 => ⟨S128x256, .i32⟩
  | 57 => ⟨S128x256, .i1⟩
  | 58 => ⟨S_, .i32⟩
  | 59 => ⟨S128x256, .i32⟩
  | 60 => ⟨S128x256, .i1⟩
  | 61 => ⟨S128x256, .i1⟩
  | 62 => ⟨S8, .i32⟩
  | 63 => ⟨S8x1x1, .i32⟩
  | 64 => ⟨S_, .i32⟩
  | 65 => ⟨S8x1x1, .i32⟩
  | 66 => ⟨S8x1x1, .i32⟩
  | 67 => ⟨S_, .i32⟩
  | 68 => ⟨S8x1x1, .i32⟩
  | 69 => ⟨S8x1x1, .i32⟩
  | 70 => ⟨S1x1x256, .i32⟩
  | 71 => ⟨S8x1x256, .i32⟩
  | 72 => ⟨S8x1x256, .i32⟩
  | 73 => ⟨S8x1x256, .i32⟩
  | 74 => ⟨S1x128x256, .i1⟩
  | 75 => ⟨S_, .i32⟩
  | 76 => ⟨S8x1x256, .i32⟩
  | 77 => ⟨S8x1x256, .i1⟩
  | 78 => ⟨S8x128x256, .i1⟩
  | 79 => ⟨S8x128x256, .i1⟩
  | 80 => ⟨S8x128x256, .i1⟩
  | 81 => ⟨S1x8x1x128x256, .i1⟩
  | 82 => ⟨S_, .f32⟩
  | 83 => ⟨S_, .f32⟩
  | 84 => ⟨S4x8x8x128x256, .i1⟩
  | 85 => ⟨S4x8x8x128x256, .f32⟩
  | 86 => ⟨S4x8x8x128x256, .f32⟩
  | 87 => ⟨S_, .f32⟩
  | 88 => ⟨S4x8x8x128x256, .f32⟩
  | 89 => ⟨S1x4096x8x1, .f32⟩
  | 90 => ⟨S1x1024x4x8x1, .f32⟩
  | 91 => ⟨S1x4x1024x8x1, .f32⟩
  | 92 => ⟨S4x8x128x8x1, .f32⟩
  | 93 => ⟨S4x8x128x8, .f32⟩
  | 94 => ⟨S4x8x8x128, .f32⟩
  | 95 => ⟨S4x8x8x128x1, .f32⟩
  | 96 => ⟨S4x8x8x128x256, .f32⟩
  | 97 => ⟨S4x8x8x128x256, .f32⟩
  | 98 => ⟨S4x8x8x128x256, .f32⟩
  | 99 => ⟨S4x8x8x128x128, .f32⟩
  | 100 => ⟨S4x8x128x8x128, .f32⟩
  | 101 => ⟨S_, .f32⟩
  | 102 => ⟨S4x8x8x128, .f32⟩
  | 103 => ⟨S4x8x8x128x1, .f32⟩
  | 104 => ⟨S1x1024x4x8x128, .f32⟩
  | 105 => ⟨S1x4x1024x8x128, .f32⟩
  | 106 => ⟨S4x8x128x8x128, .f32⟩
  | 107 => ⟨S1x4096x8x1, .f32⟩
  | 108 => ⟨S1x1024x4x8x1, .f32⟩
  | 109 => ⟨S1x4x1024x8x1, .f32⟩
  | 110 => ⟨S4x8x128x8x1, .f32⟩
  | 111 => ⟨S4x8x128x8, .f32⟩
  | 112 => ⟨S4x8x8x128, .f32⟩
  | 113 => ⟨S4x8x8x128x1, .f32⟩
  | 114 => ⟨S4x8x8x128x1, .f32⟩
  | 115 => ⟨S_, .f32⟩
  | 116 => ⟨S4x8x8x128, .f32⟩
  | 117 => ⟨S4x8x8x128x256, .f32⟩
  | 118 => ⟨S4x8x8x128x128, .f32⟩
  | 119 => ⟨S4x8x8x128x256, .f32⟩
  | 120 => ⟨S4x8x8x128x256, .f32⟩
  | 121 => ⟨S4x8x8x128x256, .f32⟩
  | 122 => ⟨S4x8x256x8x128, .f32⟩
  | 123 => ⟨S4x8x8x128x256, .f32⟩
  | 124 => ⟨S_, .f32⟩
  | 125 => ⟨S4x8x8x128x256, .f32⟩
  | 126 => ⟨S4x8x8x128x256, .f32⟩
  | 127 => ⟨S_, .f32⟩
  | _ => ⟨S1024x4096, .bf16⟩

abbrev hbmTy0_1 (i : Nat) : BufTy := match i % 128 with
  | 0 => ⟨S4x8x8x128x256, .f32⟩
  | 1 => ⟨S4x8x8x128x256, .f32⟩
  | 2 => ⟨S4x8x8x256x128, .f32⟩
  | 3 => ⟨S4x8x256x8x128, .f32⟩
  | 4 => ⟨S4x8x8x128x128, .f32⟩
  | 5 => ⟨S4x8x128x8x128, .f32⟩
  | 6 => ⟨S4x8x128x8x128, .f32⟩
  | 7 => ⟨S4x8x128x8x128, .f32⟩
  | 8 => ⟨S4x1x128x8x128, .f32⟩
  | 9 => ⟨S4x7x128x8x128, .f32⟩
  | 10 => ⟨S_, .f32⟩
  | 11 => ⟨S4x8x128x8x128, .f32⟩
  | 12 => ⟨S4x8x128x8x128, .f32⟩
  | 13 => ⟨S1x4x1024x8x128, .f32⟩
  | 14 => ⟨S1x1024x4x8x128, .f32⟩
  | 15 => ⟨S1x4096x8x128, .f32⟩
  | 16 => ⟨S4x8x128x8x128, .f32⟩
  | 17 => ⟨S4x8x128x8x128, .f32⟩
  | 18 => ⟨S4x1x128x8x128, .f32⟩
  | 19 => ⟨S4x7x128x8x128, .f32⟩
  | 20 => ⟨S_, .f32⟩
  | 21 => ⟨S4x8x128x8x128, .f32⟩
  | 22 => ⟨S4x8x128x8x128, .f32⟩
  | 23 => ⟨S1x4x1024x8x128, .f32⟩
  | 24 => ⟨S1x1024x4x8x128, .f32⟩
  | 25 => ⟨S1x4096x8x128, .f32⟩
  | 26 => ⟨S1x4x1024x8x128, .f32⟩
  | 27 => ⟨S1x1024x4x8x128, .f32⟩
  | 28 => ⟨S1x4096x8x128, .f32⟩
  | 29 => ⟨S1024x4096, .f32⟩
  | 30 => ⟨S1024x4096, .f32⟩
  | 31 => ⟨S1024x4096, .f32⟩
  | _ => ⟨S1024x4096, .bf16⟩

abbrev hbmTy (i : Nat) : BufTy := match i / 128 with
  | 0 => hbmTy0_0 i
  | 1 => hbmTy0_1 i
  | _ => ⟨S1024x4096, .bf16⟩

abbrev bufTy : (tb : Table) → Fin (tcTables nBuf tb) → BufTy
  | .hbm, ⟨i, _⟩ => hbmTy i
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_c_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_6 : Ref sig .tc := ⟨.hbm, 64, rfl⟩
abbrev main_v50 : Ref sig .tc := ⟨.hbm, 65, rfl⟩
abbrev main_v51 : Ref sig .tc := ⟨.hbm, 66, rfl⟩
abbrev main_c_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_call0_v0 : Ref sig .tc := ⟨.hbm, 83, rfl⟩
abbrev main_v65_1 : Ref sig .tc := ⟨.hbm, 84, rfl⟩
abbrev main_call0_v2 : Ref sig .tc := ⟨.hbm, 85, rfl⟩
abbrev main_v65_0 : Ref sig .tc := ⟨.hbm, 86, rfl⟩
abbrev main_call0_cst : Ref sig .tc := ⟨.hbm, 87, rfl⟩
abbrev main_v65_2 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_11 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_call1_cst : Ref sig .tc := ⟨.hbm, 124, rfl⟩
abbrev main_call1_v0 : Ref sig .tc := ⟨.hbm, 125, rfl⟩
abbrev main_v99 : Ref sig .tc := ⟨.hbm, 126, rfl⟩
abbrev main_cst_12 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_13 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_14 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩

abbrev nD : Nat := 1
abbrev τ : Topo := Topo.v7x

variable {F : FTy → Type} [FloatOps F]
-- ==== Kernel35.lean ====
abbrev S4096x1024 : Shape := ⟨2, ![4096, 1024]⟩
abbrev S4096x8 : Shape := ⟨2, ![4096, 8]⟩
abbrev S4096x8x1 : Shape := ⟨3, ![4096, 8, 1]⟩
abbrev S4096x8x128 : Shape := ⟨3, ![4096, 8, 128]⟩
abbrev S4096x128 : Shape := ⟨2, ![4096, 128]⟩
abbrev S128x128 : Shape := ⟨2, ![128, 128]⟩

abbrev nBuf : Space → Nat
  | .hbm => 15
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x8, .f32⟩
  | .hbm, ⟨5, _⟩ => ⟨S4096x8, .f32⟩
  | .hbm, ⟨6, _⟩ => ⟨S4096x8x1, .f32⟩
  | .hbm, ⟨7, _⟩ => ⟨S4096x8x128, .f32⟩
  | .hbm, ⟨8, _⟩ => ⟨S4096x1024, .f32⟩
  | .hbm, ⟨9, _⟩ => ⟨S4096x8x1, .f32⟩
  | .hbm, ⟨10, _⟩ => ⟨S4096x8x128, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel35Ideal.lean ====
variable {F : FTy → Type} [FloatOps F] [Named F]
def κ : String → Option EReal := fun
  | "mask" => some ⊥
  | _ => none
-- ==== Reference35Ideal.lean ====
abbrev S4096x1024 : Shape := ⟨2, ![4096, 1024]⟩
abbrev S4096x8 : Shape := ⟨2, ![4096, 8]⟩
abbrev S1x4096x8x128 : Shape := ⟨4, ![1, 4096, 8, 128]⟩
abbrev S1x4096x8 : Shape := ⟨3, ![1, 4096, 8]⟩
abbrev S1x4096x1x8x128 : Shape := ⟨5, ![1, 4096, 1, 8, 128]⟩
abbrev S1x1x4096x8x128 : Shape := ⟨5, ![1, 1, 4096, 8, 128]⟩
abbrev S1x32x128x8x128 : Shape := ⟨5, ![1, 32, 128, 8, 128]⟩
abbrev S1x1x128x8x128 : Shape := ⟨5, ![1, 1, 128, 8, 128]⟩
abbrev S_ : Shape := ⟨0, ![]⟩
abbrev S1x31x128x8x128 : Shape := ⟨5, ![1, 31, 128, 8, 128]⟩
abbrev S1x32x256x8x128 : Shape := ⟨5, ![1, 32, 256, 8, 128]⟩
abbrev S1x32x8x128x256 : Shape := ⟨5, ![1, 32, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x128x256 : Shape := ⟨5, ![1, 32, 1, 128, 256]⟩
abbrev S1x4096x8x1 : Shape := ⟨4, ![1, 4096, 8, 1]⟩
abbrev S1x4096x1x8x1 : Shape := ⟨5, ![1, 4096, 1, 8, 1]⟩
abbrev S1x1x4096x8x1 : Shape := ⟨5, ![1, 1, 4096, 8, 1]⟩
abbrev S1x32x128x8x1 : Shape := ⟨5, ![1, 32, 128, 8, 1]⟩
abbrev S1x32x128x8 : Shape := ⟨4, ![1, 32, 128, 8]⟩
abbrev S1x32x8x128 : Shape := ⟨4, ![1, 32, 8, 128]⟩
abbrev S1x32x8x128x1 : Shape := ⟨5, ![1, 32, 8, 128, 1]⟩
abbrev S1x32x8x128x128 : Shape := ⟨5, ![1, 32, 8, 128, 128]⟩
abbrev S32x8x128 : Shape := ⟨3, ![32, 8, 128]⟩
abbrev S1x32x8x256x128 : Shape := ⟨5, ![1, 32, 8, 256, 128]⟩

abbrev nBuf : Space → Nat
  | .hbm => 161
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x1024, .bf16⟩
  | 3 => ⟨S4096x1024, .bf16⟩
  | 4 => ⟨S4096x8, .f32⟩
  | 5 => ⟨S4096x8, .f32⟩
  | 6 => ⟨S4096x1024, .f32⟩
  | 7 => ⟨S1x4096x8x128, .f32⟩
  | 8 => ⟨S4096x1024, .f32⟩
  | 9 => ⟨S1x4096x8x128, .f32⟩
  | 10 => ⟨S4096x1024, .f32⟩
  | 11 => ⟨S1x4096x8x128, .f32⟩
  | 12 => ⟨S4096x1024, .f32⟩
  | 13 => ⟨S1x4096x8x128, .f32⟩
  | 14 => ⟨S1x4096x8, .f32⟩
  | 15 => ⟨S1x4096x8, .f32⟩
  | 16 => ⟨S1x4096x1x8x128, .f32⟩
  | 17 => ⟨S1x1x4096x8x128, .f32⟩
  | 18 => ⟨S1x32x128x8x128, .f32⟩
  | 19 => ⟨S1x4096x1x8x128, .f32⟩
  | 20 => ⟨S1x1x4096x8x128, .f32⟩
  | 21 => ⟨S1x32x128x8x128, .f32⟩
  | 22 => ⟨S1x1x128x8x128, .f32⟩
  | 23 => ⟨S_, .f32⟩
  | 24 => ⟨S1x1x128x8x128, .f32⟩
  | 25 => ⟨S1x31x128x8x128, .f32⟩
  | 26 => ⟨S1x32x128x8x128, .f32⟩
  | 27 => ⟨S_, .f32⟩
  | 28 => ⟨S1x1x128x8x128, .f32⟩
  | 29 => ⟨S1x32x256x8x128, .f32⟩
  | 30 => ⟨S1x4096x1x8x128, .f32⟩
  | 31 => ⟨S1x1x4096x8x128, .f32⟩
  | 32 => ⟨S1x32x128x8x128, .f32⟩
  | 33 => ⟨S1x1x128x8x128, .f32⟩
  | 34 => ⟨S_, .f32⟩
  | 35 => ⟨S1x1x128x8x128, .f32⟩
  | 36 => ⟨S1x31x128x8x128, .f32⟩
  | 37 => ⟨S1x32x128x8x128, .f32⟩
  | 38 => ⟨S_, .f32⟩
  | 39 => ⟨S1x1x128x8x128, .f32⟩
  | 40 => ⟨S1x32x256x8x128, .f32⟩
  | 41 => ⟨S1x32x8x128x256, .f32⟩
  | 42 => ⟨S_, .f32⟩
  | 43 => ⟨S1x32x8x128x256, .f32⟩
  | 44 => ⟨S1x32x8x128x256, .f32⟩
  | 45 => ⟨S128, .i32⟩
  | 46 => ⟨S128x1, .i32⟩
  | 47 => ⟨S256, .i32⟩
  | 48 => ⟨S1x256, .i32⟩
  | 49 => ⟨S_, .i32⟩
  | 50 => ⟨S128x1, .i32⟩
  | 51 => ⟨S128x1, .i32⟩
  | 52 => ⟨S128x256, .i32⟩
  | 53 => ⟨S128x256, .i32⟩
  | 54 => ⟨S128x256, .i32⟩
  | 55 => ⟨S_, .i32⟩
  | 56 => ⟨S128x256, .i32⟩
  | 57 => ⟨S128x256, .i1⟩
  | 58 => ⟨S_, .i32⟩
  | 59 => ⟨S128x256, .i32⟩
  | 60 => ⟨S128x256, .i1⟩
  | 61 => ⟨S128x256, .i1⟩
  | 62 => ⟨S32, .i32⟩
  | 63 => ⟨S32x1x1, .i32⟩
  | 64 => ⟨S_, .i32⟩
  | 65 => ⟨S32x1x1, .i32⟩
  | 66 => ⟨S32x1x1, .i32⟩
  | 67 => ⟨S_, .i32⟩
  | 68 => ⟨S32x1x1, .i32⟩
  | 69 => ⟨S32x1x1, .i32⟩
  | 70 => ⟨S1x1x256, .i32⟩
  | 71 => ⟨S32x1x256, .i32⟩
  | 72 => ⟨S32x1x256, .i32⟩
  | 73 => ⟨S32x1x256, .i32⟩
  | 74 => ⟨S1x128x256, .i1⟩
  | 75 => ⟨S_, .i32⟩
  | 76 => ⟨S32x1x256, .i32⟩
  | 77 => ⟨S32x1x256, .i1⟩
  | 78 => ⟨S32x128x256, .i1⟩
  | 79 => ⟨S32x128x256, .i1⟩
  | 80 => ⟨S32x128x256, .i1⟩
  | 81 => ⟨S1x32x1x128x256, .i1⟩
  | 82 => ⟨S_, .f32⟩
  | 83 => ⟨S_, .f32⟩
  | 84 => ⟨S1x32x8x128x256, .i1⟩
  | 85 => ⟨S1x32x8x128x256, .f32⟩
  | 86 => ⟨S1x32x8x128x256, .f32⟩
  | 87 => ⟨S_, .f32⟩
  | 88 => ⟨S1x32x8x128x256, .f32⟩
  | 89 => ⟨S1x4096x8x1, .f32⟩
  | 90 => ⟨S1x4096x1x8x1, .f32⟩
  | 91 => ⟨S1x1x4096x8x1, .f32⟩
  | 92 => ⟨S1x32x128x8x1, .f32⟩
  | 93 => ⟨S1x32x128x8, .f32⟩
  | 94 => ⟨S1x32x8x128, .f32⟩
  | 95 => ⟨S1x32x8x128x1, .f32⟩
  | 96 => ⟨S1x32x8x128x256, .f32⟩
  | 97 => ⟨S1x32x8x128x256, .f32⟩
  | 98 => ⟨S1x32x8x128x256, .f32⟩
  | 99 => ⟨S1x32x8x128x128, .f32⟩
  | 100 => ⟨S1x32x128x8x128, .f32⟩
  | 101 => ⟨S_, .f32⟩
  | 102 => ⟨S1x32x8x128, .f32⟩
  | 103 => ⟨S1x32x8x128x1, .f32⟩
  | 104 => ⟨S1x4096x1x8x128, .f32⟩
  | 105 => ⟨S1x1x4096x8x128, .f32⟩
  | 106 => ⟨S1x32x128x8x128, .f32⟩
  | 107 => ⟨S1x4096x8x1, .f32⟩
  | 108 => ⟨S1x4096x1x8x1, .f32⟩
  | 109 => ⟨S1x1x4096x8x1, .f32⟩
  | 110 => ⟨S1x32x128x8x1, .f32⟩
  | 111 => ⟨S1x32x128x8, .f32⟩
  | 112 => ⟨S1x32x8x128, .f32⟩
  | 113 => ⟨S1x32x8x128x1, .f32⟩
  | 114 => ⟨S1x32x8x128x1, .f32⟩
  | 115 => ⟨S_, .f32⟩
  | 116 => ⟨S32x8x128, .f32⟩
  | 117 => ⟨S1x32x8x128, .f32⟩
  | 118 => ⟨S1x32x8x128x256, .f32⟩
  | 119 => ⟨S1x32x8x128x128, .f32⟩
  | 120 => ⟨S1x32x8x128x256, .f32⟩
  | 121 => ⟨S1x32x8x128x256, .f32⟩
  | 122 => ⟨S1x32x8x128x256, .f32⟩
  | 123 => ⟨S1x32x256x8x128, .f32⟩
  | 124 => ⟨S1x32x8x128x256, .f32⟩
  | 125 => ⟨S_, .f32⟩
  | 126 => ⟨S1x32x8x128x256, .f32⟩
  | 127 => ⟨S1x32x8x128x256, .f32⟩
  | _ => ⟨S4096x1024, .bf16⟩

abbrev hbmTy0_1 (i : Nat) : BufTy := match i % 128 with
  | 0 => ⟨S_, .f32⟩
  | 1 => ⟨S1x32x8x128x256, .f32⟩
  | 2 => ⟨S1x32x8x128x256, .f32⟩
  | 3 => ⟨S1x32x8x256x128, .f32⟩
  | 4 => ⟨S1x32x256x8x128, .f32⟩
  | 5 => ⟨S1x32x8x128x128, .f32⟩
  | 6 => ⟨S1x32x128x8x128, .f32⟩
  | 7 => ⟨S1x32x128x8x128, .f32⟩
  | 8 => ⟨S1x32x128x8x128, .f32⟩
  | 9 => ⟨S1x1x128x8x128, .f32⟩
  | 10 => ⟨S1x31x128x8x128, .f32⟩
  | 11 => ⟨S_, .f32⟩
  | 12 => ⟨S1x32x128x8x128, .f32⟩
  | 13 => ⟨S1x32x128x8x128, .f32⟩
  | 14 => ⟨S1x1x4096x8x128, .f32⟩
  | 15 => ⟨S1x4096x1x8x128, .f32⟩
  | 16 => ⟨S1x4096x8x128, .f32⟩
  | 17 => ⟨S1x32x128x8x128, .f32⟩
  | 18 => ⟨S1x32x128x8x128, .f32⟩
  | 19 => ⟨S1x1x128x8x128, .f32⟩
  | 20 => ⟨S1x31x128x8x128, .f32⟩
  | 21 => ⟨S_, .f32⟩
  | 22 => ⟨S1x32x128x8x128, .f32⟩
  | 23 => ⟨S1x32x128x8x128, .f32⟩
  | 24 => ⟨S1x1x4096x8x128, .f32⟩
  | 25 => ⟨S1x4096x1x8x128, .f32⟩
  | 26 => ⟨S1x4096x8x128, .f32⟩
  | 27 => ⟨S1x1x4096x8x128, .f32⟩
  | 28 => ⟨S1x4096x1x8x128, .f32⟩
  | 29 => ⟨S1x4096x8x128, .f32⟩
  | 30 => ⟨S4096x1024, .f32⟩
  | 31 => ⟨S4096x1024, .f32⟩
  | 32 => ⟨S4096x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_c_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_6 : Ref sig .tc := ⟨.hbm, 64, rfl⟩
abbrev main_v50 : Ref sig .tc := ⟨.hbm, 65, rfl⟩
abbrev main_v51 : Ref sig .tc := ⟨.hbm, 66, rfl⟩
abbrev main_c_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_call0_v0 : Ref sig .tc := ⟨.hbm, 83, rfl⟩
abbrev main_v65_1 : Ref sig .tc := ⟨.hbm, 84, rfl⟩
abbrev main_call0_v2 : Ref sig .tc := ⟨.hbm, 85, rfl⟩
abbrev main_v65_0 : Ref sig .tc := ⟨.hbm, 86, rfl⟩
abbrev main_call0_cst : Ref sig .tc := ⟨.hbm, 87, rfl⟩
abbrev main_v65_2 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_11 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_call1_cst : Ref sig .tc := ⟨.hbm, 125, rfl⟩
abbrev main_call1_v0 : Ref sig .tc := ⟨.hbm, 126, rfl⟩
abbrev main_v100 : Ref sig .tc := ⟨.hbm, 127, rfl⟩
abbrev main_cst_12 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_13 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_14 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩

abbrev nD : Nat := 1
abbrev τ : Topo := Topo.v7x

variable {F : FTy → Type} [FloatOps F]
-- ==== Proof.MlpDu.lean ====
/- The gradient of the multilayer perceptron's inner values: kernel and reference leave the same array. -/
module

public import proofs.«01_k».proof.Proof.Gen.Kernel2Ideal.Value
public import proofs.«01_k».proof.Proof.Gen.Reference2Ideal.Run
public import proofs.«01_k».proof.Defs
public import Idealize.ShloMosaic.Lib.Quiescent
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.MlpDu

open Cert.Kernel2Ideal Cert.Kernel2Ideal.Gen

variable (m : (ℓ : Loc nD τ sig) → Buf (Elt Ideal) ℓ)

theorem idx : ∀ t : Fin cfg0.N, win0_0.index t = ![t.val / 2, 0] ∧ win0_1.index t = ![t.val % 2, 0]
    ∧ win0_2.index t = ![t.val / 2, t.val % 2] ∧ win0_3.index t = ![t.val / 2, t.val % 2] ∧ t.val < 8 :=
  (by decide +kernel : ∀ t : Fin grid0.N, _)

abbrev X0 (c : Dev nD) : FVec Ideal S4096x1024 .f32 := m ((c : Thread nD τ).loc main_arg0)
abbrev X1 (c : Dev nD) : FVec Ideal S4096x1024 .bf16 := m ((c : Thread nD τ).loc main_arg1)
abbrev X2 (c : Dev nD) : FVec Ideal S4096x4096 .bf16 := m ((c : Thread nD τ).loc main_arg2)

/-- The gradient of the inner values. -/
def DU (DH : FVec Ideal S4096x1024 .f32) (W : FVec Ideal S4096x1024 .bf16) (U : FVec Ideal S4096x4096 .bf16) : FVec Ideal S4096x4096 .bf16 :=
  fun i => (∑ k : Fin 1024, DH (ix2 (i 0) k) * W (ix2 (i 1) k)) * Ideal.ofBits .f32 0x40000000#32 * max (U i) 0

theorem blk0 (c : Dev nD) (t : Fin cfg0.N) (a b : Fin 1024) :
    (iblk m c 0 t : FVec Ideal S1024x1024 .f32) (ix2 a b) = X0 m c (ix2 ⟨1024 * (t.val / 2) + a, by have := (idx t).2.2.2.2; omega⟩ b) := by
  obtain ⟨i0, -, -, -, -⟩ := idx t
  blk_ext [iblk, V, i0]

theorem blk1 (c : Dev nD) (t : Fin cfg0.N) (a : Fin 2048) (b : Fin 1024) :
    (iblk m c 1 t : FVec Ideal S2048x1024 .bf16) (ix2 a b) = X1 m c (ix2 ⟨2048 * (t.val % 2) + a, by omega⟩ b) := by
  obtain ⟨-, i1, -, -, -⟩ := idx t
  blk_ext [iblk, V, i1]

theorem blk2 (c : Dev nD) (t : Fin cfg0.N) (a : Fin 1024) (b : Fin 2048) :
    (iblk m c 2 t : FVec Ideal S1024x2048 .bf16) (ix2 a b)
      = X2 m c (ix2 ⟨1024 * (t.val / 2) + a, by have := (idx t).2.2.2.2; omega⟩ ⟨2048 * (t.val % 2) + b, by omega⟩) := by
  obtain ⟨-, -, i2, -, -⟩ := idx t
  blk_ext [iblk, V, i2]

theorem pay (x0 : FVec Ideal S1024x1024 .f32) (x1 : FVec Ideal S2048x1024 .bf16) (x2 : FVec Ideal S1024x2048 .bf16) (a : Fin 1024) (b : Fin 2048) :
    k0_pay1 (F := Ideal) x0 x1 x2 (ix2 a b) = (∑ k : Fin 1024, x0 (ix2 a k) * x1 (ix2 b k)) * Ideal.ofBits .f32 0x40000000#32 * max (x2 (ix2 a b)) 0 := by
  pointwise [k0_pay1]

theorem final (c : Dev nD) : (dats m 0 c).arrAt 3 cfg0.N = DU (X0 m c) (X1 m c) (X2 m c) := by
  refine (dats m 0 c).arrAt_eq_of_covers 3 _ (by decide +kernel) fun t hf y => ?_
  obtain ⟨-, -, -, i3, ht⟩ := idx t
  blk_simp
  rw [after0_3]
  idx_vars y
  rw [out0_3]
  frame_out
  refine (pay _ _ _ y0 y1).trans ?_
  have e : ((View.whole main_v0).slice (win0_3.rect t)).emb (ix2 y0 y1)
      = (ix2 (⟨1024 * (t.val / 2) + y0.val, by omega⟩ : Fin 4096) (⟨2048 * (t.val % 2) + y1.val, by omega⟩ : Fin 4096) : S4096x4096.Idx) := by
    blk_ext [i3]
  rw [e, DU, blk2]
  simp only [blk0, blk1]
  rfl

end Cert.MlpDu

namespace Cert.MlpDu

open Cert.Reference2Ideal Cert.Reference2Ideal.Gen

variable (m : (ℓ : Loc nD τ sig) → Buf (Elt Ideal) ℓ) (ρ : Dev nD → PrngReg)

abbrev Y0 (c : Dev nD) : FVec Ideal S4096x1024 .f32 := m ((c.tc : Thread nD τ).loc main_arg0)
abbrev Y1 (c : Dev nD) : FVec Ideal S4096x1024 .bf16 := m ((c.tc : Thread nD τ).loc main_arg1)
abbrev Y2 (c : Dev nD) : FVec Ideal S4096x4096 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v14) = DU (Y0 m c) (Y1 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      rw [DU]
      split_ifs with h
      · rw [mul_assoc]
        rfl
      · rw [max_eq_right (not_lt.mp h), mul_zero]), (h c).2⟩) (Value.run m ρ)

theorem algebraic : Cert.algebraic_Kernel2Ideal_Reference2Ideal (hKernel2Ideal := Cert.Kernel2Ideal.Gen.facts)
    (hReference2Ideal := Cert.Reference2Ideal.Gen.facts) := by
  intro m g m' g' _ hag
  refine ⟨fun c => DU (X0 m c) (X1 m c) (X2 m c), ?_, ?_⟩
  · exact (θ_run _ _ _).mono (fun _ h c => ⟨(h c).1.trans (final m c), (h c).2⟩) (Cert.Kernel2Ideal.Value.run_blocks m g)
  · refine (θ_run _ _ _).mono (fun _ h c => ⟨(h c).1.trans ?_, (h c).2⟩) (run_ref m' g')
    have e := hag c
    rw [show Y0 m' c = X0 m c from e.1, show Y1 m' c = X1 m c from e.2.1, show Y2 m' c = X2 m c from e.2.2]

/-- The reference ends with its arguments unchanged; it declares no counter. -/
theorem frame_r : Cert.quiescent_Reference2Ideal (hReference2Ideal := Cert.Reference2Ideal.Gen.facts) := fun m ρ _ =>
  (θ_run _ _ _).mono (fun r h => ⟨fun c => (h c).2, sem_eq_zero_of_no_sems (by decide) r.2⟩) (run_ref m ρ)

end Cert.MlpDu

end
-- ==== Proof.MlpDdown.lean ====
/- The gradient of the multilayer perceptron's second weights: kernel and reference leave the same array. -/
module

public import proofs.«01_k».proof.Proof.Gen.Kernel3Ideal.Value
public import proofs.«01_k».proof.Proof.Gen.Reference3Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.MlpDdown

open Cert.Kernel3Ideal Cert.Kernel3Ideal.Gen

variable (m : (ℓ : Loc nD τ sig) → Buf (Elt Ideal) ℓ)

theorem idx : ∀ t : Fin cfg0.N, win0_0.index t = ![t.val % 4, t.val / 4] ∧ win0_1.index t = ![t.val % 4, 0]
    ∧ win0_2.index t = ![t.val / 4, 0] ∧ t.val < 8 :=
  (by decide +kernel : ∀ t : Fin grid0.N, _)

abbrev X0 (c : Dev nD) : FVec Ideal S4096x1024 .f32 := m ((c : Thread nD τ).loc main_arg0)
abbrev X1 (c : Dev nD) : FVec Ideal S4096x1024 .bf16 := m ((c : Thread nD τ).loc main_arg1)
abbrev X2 (c : Dev nD) : FVec Ideal S4096x4096 .bf16 := m ((c : Thread nD τ).loc main_arg2)

/-- The gradient of the weights. -/
def G (DH : FVec Ideal S4096x1024 .f32) (U : FVec Ideal S4096x4096 .bf16) : FVec Ideal S4096x1024 .bf16 :=
  fun i => ∑ k : Fin 4096, max (U (ix2 k (i 0))) 0 * max (U (ix2 k (i 0))) 0 * DH (ix2 k (i 1))

theorem blk0 (c : Dev nD) (t : Fin cfg0.N) (a : Fin 1024) (b : Fin 2048) :
    (iblk m c 0 t : FVec Ideal S1024x2048 .bf16) (ix2 a b)
      = X2 m c (ix2 ⟨t.val % 4 * 1024 + a, by omega⟩ ⟨2048 * (t.val / 4) + b, by have := (idx t).2.2.2; omega⟩) := by
  obtain ⟨i0, -, -, -⟩ := idx t
  blk_ext [iblk, V, i0]

theorem blk1 (c : Dev nD) (t : Fin cfg0.N) (a b : Fin 1024) :
    (iblk m c 1 t : FVec Ideal S1024x1024 .f32) (ix2 a b) = X0 m c (ix2 ⟨t.val % 4 * 1024 + a, by omega⟩ b) := by
  obtain ⟨-, i1, -, -⟩ := idx t
  blk_ext [iblk, V, i1]

theorem pay1 (x0 : FVec Ideal S1024x2048 .bf16) (x1 : FVec Ideal S1024x1024 .f32) (a : Fin 2048) (b : Fin 1024) :
    k0_pay1 (F := Ideal) x0 x1 (ix2 a b) = ∑ k : Fin 1024, max (x0 (ix2 k a)) 0 * max (x0 (ix2 k a)) 0 * x1 (ix2 k b) := by
  pointwise [k0_pay1]

/-- What one point adds. -/
def part (c : Dev nD) (t : Fin cfg0.N) (a : Fin 2048) (b : Fin 1024) : EReal :=
  ∑ k : Fin 1024, max (X2 m c (ix2 ⟨t.val % 4 * 1024 + k, by omega⟩ ⟨2048 * (t.val / 4) + a, by have := (idx t).2.2.2; omega⟩)) 0
      * max (X2 m c (ix2 ⟨t.val % 4 * 1024 + k, by omega⟩ ⟨2048 * (t.val / 4) + a, by have := (idx t).2.2.2; omega⟩)) 0
    * X0 m c (ix2 ⟨t.val % 4 * 1024 + k, by omega⟩ b)

theorem pay_blk (c : Dev nD) (t : Fin cfg0.N) (a : Fin 2048) (b : Fin 1024) :
    k0_pay1 (F := Ideal) (iblk m c 0 t) (iblk m c 1 t) (ix2 a b) = part m c t a b := by
  refine (pay1 _ _ a b).trans ?_
  simp only [blk0, blk1]
  rfl

theorem pay2 (x0 : FVec Ideal S1024x2048 .bf16) (x1 : FVec Ideal S1024x1024 .f32) (a : Fin 2048) (b : Fin 1024) :
    k0_pay2 (F := Ideal) x0 x1 (ix2 a b) = k0_pay1 (F := Ideal) x0 x1 (ix2 a b) := by
  pointwise [k0_pay2]

theorem pay3 (x0 : FVec Ideal S1024x2048 .bf16) (x1 : FVec Ideal S1024x1024 .f32) (A : FVec Ideal S2048x1024 .f32) (a : Fin 2048) (b : Fin 1024) :
    k0_pay3 (F := Ideal) x0 x1 A (ix2 a b) = A (ix2 a b) + k0_pay1 (F := Ideal) x0 x1 (ix2 a b) := by
  pointwise [k0_pay3]

theorem acc (c : Dev nD) (t : Fin cfg0.N) (hr : t.val % 4 = 3) (j : S2048x1024.Idx) :
    (outsAt0 m c t.val t.isLt).2 j = ∑ s : Fin 4, part m c ⟨4 * (t.val / 4) + s.val, Pipeline.run_point_lt_of_flush t hr s⟩ (j 0) (j 1) := by
  refine (Pipeline.eq_sum_fin_of_reset_step_apply_of_flush (fun n h => (outsAt0 m c n h).2) 4 (fun _ => 0)
    (fun t y => part m c t (y 0) (y 1))
    (fun t h j => by
      rw [outsAt0_A m c t h (by omega) (by omega)]; frame_out
      idx_vars j
      exact (pay2 _ _ _ _).trans ((pay_blk m c t _ _).trans (zero_add _).symm))
    (fun t h j => by
      rcases (by omega : t.val % 4 = 3 ∨ ¬ t.val % 4 = 3) with h2 | h2
      · rw [outsAt0_C m c t h (by omega) h2]; frame_out
        idx_vars j
        refine (pay3 _ _ _ _ _).trans ?_
        rw [pay_blk]
        simp only [read_unread_whole]
      · rw [outsAt0_B m c t h (by omega) h2]; frame_out
        idx_vars j
        refine (pay3 _ _ _ _ _).trans ?_
        rw [pay_blk]
        simp only [read_unread_whole]) t hr j).trans (zero_add _)

/-- What the last point of a run writes back is what it leaves in the accumulator. -/
theorem out (c : Dev nD) (t : Fin cfg0.N) (hr : t.val % 4 = 3) (a : Fin 2048) (b : Fin 1024) :
    (outsAt0 m c t.val t.isLt).1 (ix2 a b) = (outsAt0 m c t.val t.isLt).2 (ix2 a b) := by
  rw [outsAt0_C m c t (by omega) (by omega) hr]; frame_out
  pointwise [k0_pay4]

theorem final (c : Dev nD) : (dats m 0 c).arrAt 2 cfg0.N = G (X0 m c) (X2 m c) := by
  refine (dats m 0 c).arrAt_eq_of_covers 2 _ (by decide +kernel) fun t hf y => ?_
  obtain ⟨-, -, i2, ht⟩ := idx t
  have hr : t.val % 4 = 3 := (flush0_2 t).mp hf
  blk_simp
  rw [after0_2]
  idx_vars y
  refine (out m c t hr y0 y1).trans ((acc m c t hr _).trans ?_)
  have e : (win0_2.blk t).view.emb (ix2 y0 y1) = (ix2 (⟨2048 * (t.val / 4) + y0.val, by omega⟩ : Fin 4096) y1 : S4096x1024.Idx) := by
    blk_ext [i2]
  rw [e]
  refine Fin.sum_mul_add_congr fun s k hl => ?_
  have e1 : (4 * (t.val / 4) + s.val) % 4 = s.val := by omega
  have e2 : (4 * (t.val / 4) + s.val) / 4 = t.val / 4 := by omega
  simp only [e1, e2]
  rfl

end Cert.MlpDdown

namespace Cert.MlpDdown

open Cert.Reference3Ideal Cert.Reference3Ideal.Gen

variable (m : (ℓ : Loc nD τ sig) → Buf (Elt Ideal) ℓ) (ρ : Dev nD → PrngReg)

abbrev Y0 (c : Dev nD) : FVec Ideal S4096x1024 .f32 := m ((c.tc : Thread nD τ).loc main_arg0)
abbrev Y1 (c : Dev nD) : FVec Ideal S4096x1024 .bf16 := m ((c.tc : Thread nD τ).loc main_arg1)
abbrev Y2 (c : Dev nD) : FVec Ideal S4096x4096 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v7) = G (Y0 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      exact Finset.sum_congr rfl fun k _ => mul_comm _ _), (h c).2⟩) (Value.run m ρ)

theorem algebraic : Cert.algebraic_Kernel3Ideal_Reference3Ideal (hKernel3Ideal := Cert.Kernel3Ideal.Gen.facts)
    (hReference3Ideal := Cert.Reference3Ideal.Gen.facts) := by
  intro m g m' g' _ hag
  refine ⟨fun c => G (X0 m c) (X2 m c), ?_, ?_⟩
  · exact (θ_run _ _ _).mono (fun _ h c => ⟨(h c).1.trans (final m c), (h c).2⟩) (Cert.Kernel3Ideal.Value.run_blocks m g)
  · refine (θ_run _ _ _).mono (fun _ h c => ⟨(h c).1.trans ?_, (h c).2⟩) (run_ref m' g')
    have e := hag c
    rw [show Y0 m' c = X0 m c from e.1, show Y2 m' c = X2 m c from e.2.2]

/-- The reference ends with its arguments unchanged; it declares no counter. -/
theorem frame_r : Cert.quiescent_Reference3Ideal (hReference3Ideal := Cert.Reference3Ideal.Gen.facts) := fun m ρ _ =>
  (θ_run _ _ _).mono (fun r h => ⟨fun c => (h c).2, sem_eq_zero_of_no_sems (by decide) r.2⟩) (run_ref m ρ)

end Cert.MlpDdown

end
-- ==== Proof.MlpDup.lean ====
/- The gradient of the multilayer perceptron's first weights: kernel and reference leave the same array. -/
module

public import proofs.«01_k».proof.Proof.Gen.Kernel4Ideal.Value
public import proofs.«01_k».proof.Proof.Gen.Reference4Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.MlpDup

open Cert.Kernel4Ideal Cert.Kernel4Ideal.Gen

variable (m : (ℓ : Loc nD τ sig) → Buf (Elt Ideal) ℓ)

theorem idx : ∀ t : Fin cfg0.N, win0_0.index t = ![0, 0]
    ∧ win0_1.index t = ![0, t.val % 8]
    ∧ win0_2.index t = ![t.val % 8, 0, 0] ∧ t.val < 8 :=
  (by decide +kernel : ∀ t : Fin grid0.N, _)

abbrev X0 (c : Dev nD) : FVec Ideal S4096x1024 .bf16 := m ((c : Thread nD τ).loc main_arg0)
abbrev X2 (c : Dev nD) : FVec Ideal S4096x4096 .bf16 := m ((c : Thread nD τ).loc main_arg2)

/-- The gradient of the multilayer perceptron's first weights. -/
def G (A : FVec Ideal S4096x1024 .bf16) (B : FVec Ideal S4096x4096 .bf16) : FVec Ideal S8x1024x512 .bf16 :=
  fun i => ∑ k : Fin 4096, A (ix2 k (i 1)) * B (ix2 k ⟨(i 0).val * 512 + (i 2).val, by have h0 : (i 0).val < 8 := (i 0).isLt; have h2 : (i 2).val < 512 := (i 2).isLt; omega⟩)

theorem blk0 (c : Dev nD) (t : Fin cfg0.N) (a : Fin 4096) (b : Fin 1024) :
    (iblk m c 0 t : FVec Ideal S4096x1024 .bf16) (ix2 a b) = X0 m c (ix2 a b) := by
  obtain ⟨i, -, -, -⟩ := idx t
  blk_ext [iblk, V, i]

theorem blk1 (c : Dev nD) (t : Fin cfg0.N) (a : Fin 4096) (b : Fin 512) :
    (iblk m c 1 t : FVec Ideal S4096x512 .bf16) (ix2 a b) = X2 m c (ix2 a ⟨(t.val % 8) * 512 + b.val, by have := (idx t).2.2.2; omega⟩) := by
  obtain ⟨-, i, -, -⟩ := idx t
  blk_ext [iblk, V, i]

theorem pay1 (x0 : FVec Ideal S4096x1024 .bf16) (x1 : FVec Ideal S4096x512 .bf16) (a : Fin 1024) (b : Fin 512) :
    k0_pay1 (F := Ideal) x0 x1 (ix3 0 a b) = ∑ k : Fin 4096, x0 (ix2 k a) * x1 (ix2 k b) := by
  pointwise [k0_pay1]

theorem final (c : Dev nD) : (dats m 0 c).arrAt 2 cfg0.N = G (X0 m c) (X2 m c) := by
  refine (dats m 0 c).arrAt_eq_of_covers 2 _ (by decide +kernel) fun t hf y => ?_
  obtain ⟨-, -, i, ht⟩ := idx t
  blk_simp
  rw [after0_2]
  idx_vars y
  rw [out0_2]
  frame_out
  obtain rfl : y0 = 0 := Subsingleton.elim _ _
  refine (pay1 _ _ y1 y2).trans ?_
  have e : ((View.whole main_v0).slice (win0_2.rect t)).emb (ix3 0 y1 y2) = (ix3 (⟨t.val % 8, by have := (idx t).2.2.2; omega⟩ : Fin 8) y1 y2 : S8x1024x512.Idx) := by
    blk_ext [i]
  rw [e, G]
  simp only [blk0, blk1]
  rfl

end Cert.MlpDup

namespace Cert.MlpDup

open Cert.Reference4Ideal Cert.Reference4Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y2 (c : Dev nD) : FVec Ideal S4096x4096 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v10) = G (Y0 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      exact Finset.sum_congr rfl fun k _ => mul_comm _ _), (h c).2⟩) (Value.run m ρ)

theorem algebraic : Cert.algebraic_Kernel4Ideal_Reference4Ideal (hKernel4Ideal := Cert.Kernel4Ideal.Gen.facts)
    (hReference4Ideal := Cert.Reference4Ideal.Gen.facts) := by
  intro m g m' g' _ hag
  refine ⟨fun c => G (X0 m c) (X2 m c), ?_, ?_⟩
  · exact (θ_run _ _ _).mono (fun _ h c => ⟨(h c).1.trans (final m c), (h c).2⟩) (Cert.Kernel4Ideal.Value.run_blocks m g)
  · refine (θ_run _ _ _).mono (fun _ h c => ⟨(h c).1.trans ?_, (h c).2⟩) (run_ref m' g')
    have e := hag c
    rw [show Y0 m' c = X0 m c from e.1, show Y2 m' c = X2 m c from e.2.2]

/-- The reference ends with its arguments unchanged; it declares no counter. -/
theorem frame_r : Cert.quiescent_Reference4Ideal (hReference4Ideal := Cert.Reference4Ideal.Gen.facts) := fun m ρ _ =>
  (θ_run _ _ _).mono (fun r h => ⟨fun c => (h c).2, sem_eq_zero_of_no_sems (by decide) r.2⟩) (run_ref m ρ)

end Cert.MlpDup

end
-- ==== Proof.MlpDhm.lean ====
/- The gradient of the multilayer perceptron's normalised input: kernel and reference leave the same array. -/
module

public import proofs.«01_k».proof.Proof.Gen.Kernel5Ideal.Value
public import proofs.«01_k».proof.Proof.Gen.Reference5Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.MlpDhm

open Cert.Kernel5Ideal Cert.Kernel5Ideal.Gen

variable (m : (ℓ : Loc nD τ sig) → Buf (Elt Ideal) ℓ)

theorem idx : ∀ t : Fin cfg0.N, win0_0.index t = ![t.val / 8, t.val % 8]
    ∧ win0_1.index t = ![t.val % 8, 0, 0]
    ∧ win0_2.index t = ![t.val / 8, 0] ∧ t.val < 16 :=
  (by decide +kernel : ∀ t : Fin grid0.N, _)

abbrev X1 (c : Dev nD) : FVec Ideal S8x1024x512 .bf16 := m ((c : Thread nD τ).loc main_arg1)
abbrev X2 (c : Dev nD) : FVec Ideal S4096x4096 .bf16 := m ((c : Thread nD τ).loc main_arg2)

/-- The gradient of the multilayer perceptron's normalised input. -/
def G (A : FVec Ideal S4096x4096 .bf16) (B : FVec Ideal S8x1024x512 .bf16) : FVec Ideal S4096x1024 .bf16 :=
  fun i => ∑ k : Fin 4096, A (ix2 (i 0) k) * B (ix3 ⟨k.val / 512, by omega⟩ (i 1) ⟨k.val % 512, by omega⟩)

theorem blk0 (c : Dev nD) (t : Fin cfg0.N) (a : Fin 2048) (b : Fin 512) :
    (iblk m c 0 t : FVec Ideal S2048x512 .bf16) (ix2 a b) = X2 m c (ix2 ⟨(t.val / 8) * 2048 + a.val, by have := (idx t).2.2.2; omega⟩ ⟨t.val % 8 * 512 + b.val, by omega⟩) := by
  obtain ⟨i, -, -, -⟩ := idx t
  blk_ext [iblk, V, i]

theorem blk1 (c : Dev nD) (t : Fin cfg0.N) (a : Fin 1024) (b : Fin 512) :
    (iblk m c 1 t : FVec Ideal S1x1024x512 .bf16) (ix3 0 a b) = X1 m c (ix3 ⟨t.val % 8, by have := (idx t).2.2.2; omega⟩ a b) := by
  obtain ⟨-, i, -, -⟩ := idx t
  blk_ext [iblk, V, i]

theorem pay1 (x0 : FVec Ideal S2048x512 .bf16) (x1 : FVec Ideal S1x1024x512 .bf16) (a : Fin 2048) (b : Fin 1024) :
    k0_pay1 (F := Ideal) x0 x1 (ix2 a b) = ∑ k : Fin 512, x0 (ix2 a k) * x1 (ix3 0 b k) := by
  pointwise [k0_pay1]

/-- What one point adds. -/
def part (c : Dev nD) (t : Fin cfg0.N) (a : Fin 2048) (b : Fin 1024) : EReal :=
  ∑ k : Fin 512, X2 m c (ix2 ⟨(t.val / 8) * 2048 + a.val, by have := (idx t).2.2.2; omega⟩ ⟨t.val % 8 * 512 + k.val, by omega⟩)
    * X1 m c (ix3 ⟨t.val % 8, by have := (idx t).2.2.2; omega⟩ b k)

theorem pay_blk (c : Dev nD) (t : Fin cfg0.N) (a : Fin 2048) (b : Fin 1024) :
    k0_pay1 (F := Ideal) (iblk m c 0 t) (iblk m c 1 t) (ix2 a b) = part m c t a b := by
  refine (pay1 _ _ a b).trans ?_
  simp only [blk0, blk1]
  rfl

theorem pay2 (x0 : FVec Ideal S2048x512 .bf16) (x1 : FVec Ideal S1x1024x512 .bf16) (a : Fin 2048) (b : Fin 1024) :
    k0_pay2 (F := Ideal) x0 x1 (ix2 a b) = k0_pay1 (F := Ideal) x0 x1 (ix2 a b) := by
  pointwise [k0_pay2]

theorem pay3 (x0 : FVec Ideal S2048x512 .bf16) (x1 : FVec Ideal S1x1024x512 .bf16) (A : FVec Ideal S2048x1024 .f32) (a : Fin 2048) (b : Fin 1024) :
    k0_pay3 (F := Ideal) x0 x1 A (ix2 a b) = A (ix2 a b) + k0_pay1 (F := Ideal) x0 x1 (ix2 a b) := by
  pointwise [k0_pay3]

theorem acc (c : Dev nD) (t : Fin cfg0.N) (hr : t.val % 8 = 7) (j : S2048x1024.Idx) :
    (outsAt0 m c t.val t.isLt).2 j = ∑ s : Fin 8, part m c ⟨8 * (t.val / 8) + s.val, Pipeline.run_point_lt_of_flush t hr s⟩ (j 0) (j 1) := by
  refine (Pipeline.eq_sum_fin_of_reset_step_apply_of_flush (fun n h => (outsAt0 m c n h).2) 8 (fun _ => 0)
    (fun t y => part m c t (y 0) (y 1))
    (fun t h j => by
      rw [outsAt0_A m c t h (by omega) (by omega)]; frame_out
      idx_vars j
      exact (pay2 _ _ _ _).trans ((pay_blk m c t _ _).trans (zero_add _).symm))
    (fun t h j => by
      rcases (by omega : t.val % 8 = 7 ∨ ¬ t.val % 8 = 7) with h2 | h2
      · rw [outsAt0_C m c t h (by omega) h2]; frame_out
        idx_vars j
        refine (pay3 _ _ _ _ _).trans ?_
        rw [pay_blk]
        simp only [read_unread_whole]
      · rw [outsAt0_B m c t h (by omega) h2]; frame_out
        idx_vars j
        refine (pay3 _ _ _ _ _).trans ?_
        rw [pay_blk]
        simp only [read_unread_whole]) t hr j).trans (zero_add _)

/-- What the last point of a run writes back is what it leaves in the accumulator. -/
theorem out (c : Dev nD) (t : Fin cfg0.N) (hr : t.val % 8 = 7) (a : Fin 2048) (b : Fin 1024) :
    (outsAt0 m c t.val t.isLt).1 (ix2 a b) = (outsAt0 m c t.val t.isLt).2 (ix2 a b) := by
  rw [outsAt0_C m c t (by omega) (by omega) (by omega)]; frame_out
  pointwise [k0_pay4]

theorem final (c : Dev nD) : (dats m 0 c).arrAt 2 cfg0.N = G (X2 m c) (X1 m c) := by
  refine (dats m 0 c).arrAt_eq_of_covers 2 _ (by decide +kernel) fun t hf y => ?_
  obtain ⟨-, -, i, ht⟩ := idx t
  have hr : t.val % 8 = 7 := (flush0_2 t).mp hf
  blk_simp
  rw [after0_2]
  idx_vars y
  have e : (win0_2.blk t).view.emb (ix2 y0 y1) = (ix2 (⟨(t.val / 8) * 2048 + y0.val, by have := (idx t).2.2.2; omega⟩ : Fin 4096) y1 : S4096x1024.Idx) := by
    blk_ext [i]
  rw [e]
  refine (out m c t hr y0 y1).trans ((acc m c t hr _).trans ?_)
  refine Fin.sum_mul_add_congr fun s k hl => ?_
  have e1 : (8 * (t.val / 8) + s.val) % 8 = s.val := by omega
  have e2 : (8 * (t.val / 8) + s.val) / 8 = t.val / 8 := by omega
  have e3 : ∀ h, (⟨(s.val * 512 + k.val) / 512, h⟩ : Fin 8) = s := fun h => Fin.ext (by show (s.val * 512 + k.val) / 512 = s.val; omega)
  have e4 : ∀ h, (⟨(s.val * 512 + k.val) % 512, h⟩ : Fin 512) = k := fun h => Fin.ext (by show (s.val * 512 + k.val) % 512 = k.val; omega)
  simp only [e1, e2, e3, e4]
  rfl

end Cert.MlpDhm

namespace Cert.MlpDhm

open Cert.Reference5Ideal Cert.Reference5Ideal.Gen

variable (m : (ℓ : Loc nD τ sig) → Buf (Elt Ideal) ℓ) (ρ : Dev nD → PrngReg)

abbrev Y1 (c : Dev nD) : FVec Ideal S8x1024x512 .bf16 := m ((c.tc : Thread nD τ).loc main_arg1)
abbrev Y2 (c : Dev nD) : FVec Ideal S4096x4096 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v7) = G (Y2 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      rfl), (h c).2⟩) (Value.run m ρ)

theorem algebraic : Cert.algebraic_Kernel5Ideal_Reference5Ideal (hKernel5Ideal := Cert.Kernel5Ideal.Gen.facts)
    (hReference5Ideal := Cert.Reference5Ideal.Gen.facts) := by
  intro m g m' g' _ hag
  refine ⟨fun c => G (X2 m c) (X1 m c), ?_, ?_⟩
  · exact (θ_run _ _ _).mono (fun _ h c => ⟨(h c).1.trans (final m c), (h c).2⟩) (Cert.Kernel5Ideal.Value.run_blocks m g)
  · refine (θ_run _ _ _).mono (fun _ h c => ⟨(h c).1.trans ?_, (h c).2⟩) (run_ref m' g')
    have e := hag c
    rw [show Y1 m' c = X1 m c from e.2.1, show Y2 m' c = X2 m c from e.2.2]

/-- The reference ends with its arguments unchanged; it declares no counter. -/
theorem frame_r : Cert.quiescent_Reference5Ideal (hReference5Ideal := Cert.Reference5Ideal.Gen.facts) := fun m ρ _ =>
  (θ_run _ _ _).mono (fun r h => ⟨fun c => (h c).2, sem_eq_zero_of_no_sems (by decide) r.2⟩) (run_ref m ρ)

end Cert.MlpDhm

end
-- ==== Proof.MlpUp.lean ====
/- The first product of the multilayer perceptron: kernel and reference leave the same array. -/
module

public import proofs.«01_k».proof.Proof.Gen.Kernel6Ideal.Value
public import proofs.«01_k».proof.Proof.Gen.Reference6Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.MlpUp

open Cert.Kernel6Ideal Cert.Kernel6Ideal.Gen

variable (m : (ℓ : Loc nD τ sig) → Buf (Elt Ideal) ℓ)

theorem idx : ∀ t : Fin cfg0.N, win0_0.index t = ![0, 0]
    ∧ win0_1.index t = ![t.val % 8, 0, 0]
    ∧ win0_2.index t = ![0, t.val % 8] ∧ t.val < 8 :=
  (by decide +kernel : ∀ t : Fin grid0.N, _)

abbrev X0 (c : Dev nD) : FVec Ideal S4096x1024 .bf16 := m ((c : Thread nD τ).loc main_arg0)
abbrev X1 (c : Dev nD) : FVec Ideal S8x1024x512 .bf16 := m ((c : Thread nD τ).loc main_arg1)

/-- The first product of the multilayer perceptron. -/
def G (A : FVec Ideal S4096x1024 .bf16) (B : FVec Ideal S8x1024x512 .bf16) : FVec Ideal S4096x4096 .bf16 :=
  fun i => ∑ k : Fin 1024, A (ix2 (i 0) k) * B (ix3 ⟨((i 1)).val / 512, by have h : ((i 1)).val < 4096 := ((i 1)).isLt; omega⟩ k ⟨((i 1)).val % 512, by omega⟩)

theorem blk0 (c : Dev nD) (t : Fin cfg0.N) (a : Fin 4096) (b : Fin 1024) :
    (iblk m c 0 t : FVec Ideal S4096x1024 .bf16) (ix2 a b) = X0 m c (ix2 a b) := by
  obtain ⟨i, -, -, -⟩ := idx t
  blk_ext [iblk, V, i]

theorem blk1 (c : Dev nD) (t : Fin cfg0.N) (a : Fin 1024) (b : Fin 512) :
    (iblk m c 1 t : FVec Ideal S1x1024x512 .bf16) (ix3 0 a b) = X1 m c (ix3 ⟨t.val % 8, by have := (idx t).2.2.2; omega⟩ a b) := by
  obtain ⟨-, i, -, -⟩ := idx t
  blk_ext [iblk, V, i]

theorem pay1 (x0 : FVec Ideal S4096x1024 .bf16) (x1 : FVec Ideal S1x1024x512 .bf16) (a : Fin 4096) (b : Fin 512) :
    k0_pay1 (F := Ideal) x0 x1 (ix2 a b) = ∑ k : Fin 1024, x0 (ix2 a k) * x1 (ix3 0 k b) := by
  pointwise [k0_pay1]

theorem final (c : Dev nD) : (dats m 0 c).arrAt 2 cfg0.N = G (X0 m c) (X1 m c) := by
  refine (dats m 0 c).arrAt_eq_of_covers 2 _ (by decide +kernel) fun t hf y => ?_
  obtain ⟨-, -, i, ht⟩ := idx t
  blk_simp
  rw [after0_2]
  idx_vars y
  rw [out0_2]
  frame_out
  refine (pay1 _ _ y0 y1).trans ?_
  have e : ((View.whole main_v0).slice (win0_2.rect t)).emb (ix2 y0 y1) = (ix2 y0 (⟨(t.val % 8) * 512 + y1.val, by have := (idx t).2.2.2; omega⟩ : Fin 4096) : S4096x4096.Idx) := by
    blk_ext [i]
  rw [e, G]
  simp only [blk0, blk1]
  have e3 : (⟨t.val % 8, by have := (idx t).2.2.2; omega⟩ : Fin 8) = ⟨((t.val % 8) * 512 + y1.val) / 512, by have := (idx t).2.2.2; omega⟩ := Fin.ext (by show t.val % 8 = ((t.val % 8) * 512 + y1.val) / 512; omega)
  have e4 : y1 = ⟨((t.val % 8) * 512 + y1.val) % 512, by have := (idx t).2.2.2; omega⟩ := Fin.ext (by show y1.val = ((t.val % 8) * 512 + y1.val) % 512; omega)
  exact congrArg₂ (fun (p : Fin 8) (r : Fin 512) => ∑ k : Fin 1024, X0 m c (ix2 y0 k) * X1 m c (ix3 p k r)) e3 e4

end Cert.MlpUp

namespace Cert.MlpUp

open Cert.Reference6Ideal Cert.Reference6Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y1 (c : Dev nD) : FVec Ideal S8x1024x512 .bf16 := m ((c.tc : Thread nD τ).loc main_arg1)

theorem run_ref : θ_run defs (onTc (τ := τ) (main (F := Ideal))) ⟨m, fun _ => 0, ρ⟩ fun r => ∀ c : Dev nD,
      r.2.mem ((c.tc : Thread nD τ).loc main_v5) = G (Y0 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => by
      clear h
      idx_vars i
      clean_types
      pointwise
      rfl), (h c).2⟩) (Value.run m ρ)

theorem algebraic : Cert.algebraic_Kernel6Ideal_Reference6Ideal (hKernel6Ideal := Cert.Kernel6Ideal.Gen.facts)
    (hReference6Ideal := Cert.Reference6Ideal.Gen.facts) := by
  intro m g m' g' _ hag
  refine ⟨fun c => G (X0 m c) (X1 m c), ?_, ?_⟩
  · exact (θ_run _ _ _).mono (fun _ h c => ⟨(h c).1.trans (final m c), (h c).2⟩) (Cert.Kernel6Ideal.Value.run_blocks m g)
  · refine (θ_run _ _ _).mono (fun _ h c => ⟨(h c).1.trans ?_, (h c).2⟩) (run_ref m' g')
    have e := hag c
    rw [show Y0 m' c = X0 m c from e.1, show Y1 m' c = X1 m c from e.2]

/-- The reference ends with its arguments unchanged; it declares no counter. -/
theorem frame_r : Cert.quiescent_Reference6Ideal (hReference6Ideal := Cert.Reference6Ideal.Gen.facts) := fun m ρ _ =>
  (θ_run _ _ _).mono (fun r h => ⟨fun c => (h c).2, sem_eq_zero_of_no_sems (by decide) r.2⟩) (run_ref m ρ)

end Cert.MlpUp

end
-- ==== Proof.MlpDown.lean ====
/- The second product of the multilayer perceptron, added to the stream: kernel and reference leave the same array. -/
module

public import proofs.«01_k».proof.Proof.Gen.Kernel7Ideal.Value
public import proofs.«01_k».proof.Proof.Gen.Reference7Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.MlpDown

open Cert.Kernel7Ideal Cert.Kernel7Ideal.Gen

variable (m : (ℓ : Loc nD τ sig) → Buf (Elt Ideal) ℓ)

theorem idx : ∀ t : Fin cfg0.N, win0_0.index t = ![t.val / 2, t.val % 2]
    ∧ win0_1.index t = ![t.val % 2, 0]
    ∧ win0_2.index t = ![t.val / 2, 0]
    ∧ win0_3.index t = ![t.val / 2, 0] ∧ t.val < 8 :=
  (by decide +kernel : ∀ t : Fin grid0.N, _)

abbrev X0 (c : Dev nD) : FVec Ideal S4096x4096 .bf16 := m ((c : Thread nD τ).loc main_arg0)
abbrev X1 (c : Dev nD) : FVec Ideal S4096x1024 .bf16 := m ((c : Thread nD τ).loc main_arg1)
abbrev X2 (c : Dev nD) : FVec Ideal S4096x1024 .f32 := m ((c : Thread nD τ).loc main_arg2)

/-- The second product of the multilayer perceptron, added to the stream. -/
def G (A : FVec Ideal S4096x4096 .bf16) (B : FVec Ideal S4096x1024 .bf16) (E0 : FVec Ideal S4096x1024 .f32) : FVec Ideal S4096x1024 .f32 :=
  fun i => (∑ k : Fin 4096, max (A (ix2 (i 0) k)) 0 * max (A (ix2 (i 0) k)) 0 * B (ix2 k (i 1))) + E0 i

theorem blk0 (c : Dev nD) (t : Fin cfg0.N) (a : Fin 1024) (b : Fin 2048) :
    (iblk m c 0 t : FVec Ideal S1024x2048 .bf16) (ix2 a b) = X0 m c (ix2 ⟨(t.val / 2) * 1024 + a.val, by have := (idx t).2.2.2.2; omega⟩ ⟨t.val % 2 * 2048 + b.val, by omega⟩) := by
  obtain ⟨i, -, -, -, -⟩ := idx t
  blk_ext [iblk, V, i]

theorem blk1 (c : Dev nD) (t : Fin cfg0.N) (a : Fin 2048) (b : Fin 1024) :
    (iblk m c 1 t : FVec Ideal S2048x1024 .bf16) (ix2 a b) = X1 m c (ix2 ⟨t.val % 2 * 2048 + a.val, by omega⟩ b) := by
  obtain ⟨-, i, -, -, -⟩ := idx t
  blk_ext [iblk, V, i]

theorem blk2 (c : Dev nD) (t : Fin cfg0.N) (a : Fin 1024) (b : Fin 1024) :
    (iblk m c 2 t : FVec Ideal S1024x1024 .f32) (ix2 a b) = X2 m c (ix2 ⟨(t.val / 2) * 1024 + a.val, by have := (idx t).2.2.2.2; omega⟩ b) := by
  obtain ⟨-, -, i, -, -⟩ := idx t
  blk_ext [iblk, V, i]

theorem pay1 (x0 : FVec Ideal S1024x2048 .bf16) (x1 : FVec Ideal S2048x1024 .bf16) (a : Fin 1024) (b : Fin 1024) :
    k0_pay1 (F := Ideal) x0 x1 (ix2 a b) = ∑ k : Fin 2048, max (x0 (ix2 a k)) 0 * max (x0 (ix2 a k)) 0 * x1 (ix2 k b) := by
  pointwise [k0_pay1]

/-- What one point adds. -/
def part (c : Dev nD) (t : Fin cfg0.N) (a : Fin 1024) (b : Fin 1024) : EReal :=
  ∑ k : Fin 2048, max (X0 m c (ix2 ⟨(t.val / 2) * 1024 + a.val, by have := (idx t).2.2.2.2; omega⟩ ⟨t.val % 2 * 2048 + k.val, by omega⟩)) 0 * max (X0 m c (ix2 ⟨(t.val / 2) * 1024 + a.val, by have := (idx t).2.2.2.2; omega⟩ ⟨t.val % 2 * 2048 + k.val, by omega⟩)) 0
    * X1 m c (ix2 ⟨t.val % 2 * 2048 + k.val, by omega⟩ b)

theorem pay_blk (c : Dev nD) (t : Fin cfg0.N) (a : Fin 1024) (b : Fin 1024) :
    k0_pay1 (F := Ideal) (iblk m c 0 t) (iblk m c 1 t) (ix2 a b) = part m c t a b := by
  refine (pay1 _ _ a b).trans ?_
  simp only [blk0, blk1]
  rfl

theorem pay2 (x0 : FVec Ideal S1024x2048 .bf16) (x1 : FVec Ideal S2048x1024 .bf16) (a : Fin 1024) (b : Fin 1024) :
    k0_pay2 (F := Ideal) x0 x1 (ix2 a b) = k0_pay1 (F := Ideal) x0 x1 (ix2 a b) := by
  pointwise [k0_pay2]

theorem pay3 (x0 : FVec Ideal S1024x2048 .bf16) (x1 : FVec Ideal S2048x1024 .bf16) (A : FVec Ideal S1024x1024 .f32) (a : Fin 1024) (b : Fin 1024) :
    k0_pay3 (F := Ideal) x0 x1 A (ix2 a b) = A (ix2 a b) + k0_pay1 (F := Ideal) x0 x1 (ix2 a b) := by
  pointwise [k0_pay3]

theorem acc (c : Dev nD) (t : Fin cfg0.N) (hr : t.val % 2 = 1) (j : S1024x1024.Idx) :
    (outsAt0 m c t.val t.isLt).2 j = ∑ s : Fin 2, part m c ⟨2 * (t.val / 2) + s.val, Pipeline.run_point_lt_of_flush t hr s⟩ (j 0) (j 1) := by
  refine (Pipeline.eq_sum_fin_of_reset_step_apply_of_flush (fun n h => (outsAt0 m c n h).2) 2 (fun _ => 0)
    (fun t y => part m c t (y 0) (y 1))
    (fun t h j => by
      rw [outsAt0_A m c t h (by omega) (by omega)]; frame_out
      idx_vars j
      exact (pay2 _ _ _ _).trans ((pay_blk m c t _ _).trans (zero_add _).symm))
    (fun t h j => by
      rw [outsAt0_B m c t h (by omega) (by omega)]; frame_out
      idx_vars j
      refine (pay3 _ _ _ _ _).trans ?_
      rw [pay_blk]
      simp only [read_unread_whole]) t hr j).trans (zero_add _)

/-- What the last point of a run writes back is what it leaves in the accumulator and the stream. -/
theorem out (c : Dev nD) (t : Fin cfg0.N) (hr : t.val % 2 = 1) (a : Fin 1024) (b : Fin 1024) :
    (outsAt0 m c t.val t.isLt).1 (ix2 a b) = (outsAt0 m c t.val t.isLt).2 (ix2 a b) + (iblk m c 2 t : FVec Ideal S1024x1024 .f32) (ix2 a b) := by
  rw [outsAt0_B m c t (by omega) (by omega) (by omega)]; frame_out
  pointwise [k0_pay4]

theorem final (c : Dev nD) : (dats m 0 c).arrAt 3 cfg0.N = G (X0 m c) (X1 m c) (X2 m c) := by
  refine (dats m 0 c).arrAt_eq_of_covers 3 _ (by decide +kernel) fun t hf y => ?_
  obtain ⟨-, -, -, i, ht⟩ := idx t
  have hr : t.val % 2 = 1 := (flush0_3 t).mp hf
  blk_simp
  rw [after0_3]
  idx_vars y
  have e : (win0_3.blk t).view.emb (ix2 y0 y1) = (ix2 (⟨(t.val / 2) * 1024 + y0.val, by have := (idx t).2.2.2.2; omega⟩ : Fin 4096) y1 : S4096x1024.Idx) := by
    blk_ext [i]
  rw [e]
  refine (out m c t hr y0 y1).trans (congrArg₂ (· + ·) ((acc m c t hr _).trans ?_) (blk2 m c t y0 y1))
  refine Fin.sum_mul_add_congr fun s k hl => ?_
  have e1 : (2 * (t.val / 2) + s.val) % 2 = s.val := by omega
  have e2 : (2 * (t.val / 2) + s.val) / 2 = t.val / 2 := by omega
  simp only [e1, e2]
  rfl

end Cert.MlpDown

namespace Cert.MlpDown

open Cert.Reference7Ideal Cert.Reference7Ideal.Gen

variable (m : (ℓ : Loc nD τ sig) → Buf (Elt Ideal) ℓ) (ρ : Dev nD → PrngReg)

abbrev Y0 (c : Dev nD) : FVec Ideal S4096x4096 .bf16 := m ((c.tc : Thread nD τ).loc main_arg0)
abbrev Y1 (c : Dev nD) : FVec Ideal S4096x1024 .bf16 := m ((c.tc : Thread nD τ).loc main_arg1)
abbrev Y2 (c : Dev nD) : FVec Ideal S4096x1024 .f32 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v5) = G (Y0 m c) (Y1 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      exact add_comm _ _), (h c).2⟩) (Value.run m ρ)

theorem algebraic : Cert.algebraic_Kernel7Ideal_Reference7Ideal (hKernel7Ideal := Cert.Kernel7Ideal.Gen.facts)
    (hReference7Ideal := Cert.Reference7Ideal.Gen.facts) := by
  intro m g m' g' _ hag
  refine ⟨fun c => G (X0 m c) (X1 m c) (X2 m c), ?_, ?_⟩
  · exact (θ_run _ _ _).mono (fun _ h c => ⟨(h c).1.trans (final m c), (h c).2⟩) (Cert.Kernel7Ideal.Value.run_blocks m g)
  · refine (θ_run _ _ _).mono (fun _ h c => ⟨(h c).1.trans ?_, (h c).2⟩) (run_ref m' g')
    have e := hag c
    rw [show Y0 m' c = X0 m c from e.1, show Y1 m' c = X1 m c from e.2.1, show Y2 m' c = X2 m c from e.2.2]

/-- The reference ends with its arguments unchanged; it declares no counter. -/
theorem frame_r : Cert.quiescent_Reference7Ideal (hReference7Ideal := Cert.Reference7Ideal.Gen.facts) := fun m ρ _ =>
  (θ_run _ _ _).mono (fun r h => ⟨fun c => (h c).2, sem_eq_zero_of_no_sems (by decide) r.2⟩) (run_ref m ρ)

end Cert.MlpDown

end
-- ==== Proof.ScIn.lean ====
/- The product in front of the short convolution: kernel and reference leave the same array. -/
module

public import proofs.«01_k».proof.Proof.Gen.Kernel8Ideal.Value
public import proofs.«01_k».proof.Proof.Gen.Reference8Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ScIn

open Cert.Kernel8Ideal Cert.Kernel8Ideal.Gen

variable (m : (ℓ : Loc nD τ sig) → Buf (Elt Ideal) ℓ)

theorem idx : ∀ t : Fin cfg0.N, win0_0.index t = ![t.val / 2, 0]
    ∧ win0_1.index t = ![0, t.val % 2]
    ∧ win0_2.index t = ![t.val / 2, t.val % 2] ∧ t.val < 4 :=
  (by decide +kernel : ∀ t : Fin grid0.N, _)

abbrev X0 (c : Dev nD) : FVec Ideal S4096x1024 .bf16 := m ((c : Thread nD τ).loc main_arg0)
abbrev X1 (c : Dev nD) : FVec Ideal S1024x3072 .bf16 := m ((c : Thread nD τ).loc main_arg1)

/-- The product in front of the short convolution. -/
def G (A : FVec Ideal S4096x1024 .bf16) (B : FVec Ideal S1024x3072 .bf16) : FVec Ideal S4096x3072 .f32 :=
  fun i => ∑ k : Fin 1024, A (ix2 (i 0) k) * B (ix2 k (i 1))

theorem blk0 (c : Dev nD) (t : Fin cfg0.N) (a : Fin 2048) (b : Fin 1024) :
    (iblk m c 0 t : FVec Ideal S2048x1024 .bf16) (ix2 a b) = X0 m c (ix2 ⟨(t.val / 2) * 2048 + a.val, by have := (idx t).2.2.2; omega⟩ b) := by
  obtain ⟨i, -, -, -⟩ := idx t
  blk_ext [iblk, V, i]

theorem blk1 (c : Dev nD) (t : Fin cfg0.N) (a : Fin 1024) (b : Fin 1536) :
    (iblk m c 1 t : FVec Ideal S1024x1536 .bf16) (ix2 a b) = X1 m c (ix2 a ⟨(t.val % 2) * 1536 + b.val, by have := (idx t).2.2.2; omega⟩) := by
  obtain ⟨-, i, -, -⟩ := idx t
  blk_ext [iblk, V, i]

theorem pay1 (x0 : FVec Ideal S2048x1024 .bf16) (x1 : FVec Ideal S1024x1536 .bf16) (a : Fin 2048) (b : Fin 1536) :
    k0_pay1 (F := Ideal) x0 x1 (ix2 a b) = ∑ k : Fin 1024, x0 (ix2 a k) * x1 (ix2 k b) := by
  pointwise [k0_pay1]

theorem final (c : Dev nD) : (dats m 0 c).arrAt 2 cfg0.N = G (X0 m c) (X1 m c) := by
  refine (dats m 0 c).arrAt_eq_of_covers 2 _ (by decide +kernel) fun t hf y => ?_
  obtain ⟨-, -, i, ht⟩ := idx t
  blk_simp
  rw [after0_2]
  idx_vars y
  rw [out0_2]
  frame_out
  refine (pay1 _ _ y0 y1).trans ?_
  have e : ((View.whole main_v0).slice (win0_2.rect t)).emb (ix2 y0 y1) = (ix2 (⟨(t.val / 2) * 2048 + y0.val, by have := (idx t).2.2.2; omega⟩ : Fin 4096) (⟨(t.val % 2) * 1536 + y1.val, by have := (idx t).2.2.2; omega⟩ : Fin 3072) : S4096x3072.Idx) := by
    blk_ext [i]
  rw [e, G]
  simp only [blk0, blk1]
  rfl

end Cert.ScIn

namespace Cert.ScIn

open Cert.Reference8Ideal Cert.Reference8Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y1 (c : Dev nD) : FVec Ideal S1024x3072 .bf16 := m ((c.tc : Thread nD τ).loc main_arg1)

theorem run_ref : θ_run defs (onTc (τ := τ) (main (F := Ideal))) ⟨m, fun _ => 0, ρ⟩ fun r => ∀ c : Dev nD,
      r.2.mem ((c.tc : Thread nD τ).loc main_v2) = G (Y0 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => by
      clear h
      idx_vars i
      clean_types
      pointwise
      rfl), (h c).2⟩) (Value.run m ρ)

theorem algebraic : Cert.algebraic_Kernel8Ideal_Reference8Ideal (hKernel8Ideal := Cert.Kernel8Ideal.Gen.facts)
    (hReference8Ideal := Cert.Reference8Ideal.Gen.facts) := by
  intro m g m' g' _ hag
  refine ⟨fun c => G (X0 m c) (X1 m c), ?_, ?_⟩
  · exact (θ_run _ _ _).mono (fun _ h c => ⟨(h c).1.trans (final m c), (h c).2⟩) (Cert.Kernel8Ideal.Value.run_blocks m g)
  · refine (θ_run _ _ _).mono (fun _ h c => ⟨(h c).1.trans ?_, (h c).2⟩) (run_ref m' g')
    have e := hag c
    rw [show Y0 m' c = X0 m c from e.1, show Y1 m' c = X1 m c from e.2]

/-- The reference ends with its arguments unchanged; it declares no counter. -/
theorem frame_r : Cert.quiescent_Reference8Ideal (hReference8Ideal := Cert.Reference8Ideal.Gen.facts) := fun m ρ _ =>
  (θ_run _ _ _).mono (fun r h => ⟨fun c => (h c).2, sem_eq_zero_of_no_sems (by decide) r.2⟩) (run_ref m ρ)

end Cert.ScIn

end
-- ==== Proof.ScOutProd.lean ====
/- The product behind a mixer, added to the stream: kernel and reference leave the same array. -/
module

public import proofs.«01_k».proof.Proof.Gen.Kernel9Ideal.Value
public import proofs.«01_k».proof.Proof.Gen.Reference9Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ScOutProd

open Cert.Kernel9Ideal Cert.Kernel9Ideal.Gen

variable (m : (ℓ : Loc nD τ sig) → Buf (Elt Ideal) ℓ)

theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2] ∧ t.val < 4 :=
  (by decide +kernel : ∀ t : Fin grid0.N, _)

abbrev X0 (c : Dev nD) : FVec Ideal S4096x1024 .bf16 := m ((c : Thread nD τ).loc main_arg0)
abbrev X1 (c : Dev nD) : FVec Ideal S1024x1024 .bf16 := m ((c : Thread nD τ).loc main_arg1)
abbrev X2 (c : Dev nD) : FVec Ideal S4096x1024 .f32 := m ((c : Thread nD τ).loc main_arg2)

/-- The product behind a mixer, added to the stream. -/
def G (A : FVec Ideal S4096x1024 .bf16) (B : FVec Ideal S1024x1024 .bf16) (E0 : FVec Ideal S4096x1024 .f32) : FVec Ideal S4096x1024 .f32 :=
  fun i => (∑ k : Fin 1024, A (ix2 (i 0) k) * B (ix2 k (i 1))) + E0 i

theorem blk0 (c : Dev nD) (t : Fin cfg0.N) (a : Fin 2048) (b : Fin 1024) :
    (iblk m c 0 t : FVec Ideal S2048x1024 .bf16) (ix2 a b) = X0 m c (ix2 ⟨(t.val / 2) * 2048 + a.val, by have := (idx t).2.2.2.2; omega⟩ b) := by
  obtain ⟨i, -, -, -, -⟩ := idx t
  blk_ext [iblk, V, i]

theorem blk1 (c : Dev nD) (t : Fin cfg0.N) (a : Fin 1024) (b : Fin 512) :
    (iblk m c 1 t : FVec Ideal S1024x512 .bf16) (ix2 a b) = X1 m c (ix2 a ⟨(t.val % 2) * 512 + b.val, by have := (idx t).2.2.2.2; omega⟩) := by
  obtain ⟨-, i, -, -, -⟩ := idx t
  blk_ext [iblk, V, i]

theorem blk2 (c : Dev nD) (t : Fin cfg0.N) (a : Fin 2048) (b : Fin 512) :
    (iblk m c 2 t : FVec Ideal S2048x512 .f32) (ix2 a b) = X2 m c (ix2 ⟨(t.val / 2) * 2048 + a.val, by have := (idx t).2.2.2.2; omega⟩ ⟨(t.val % 2) * 512 + b.val, by have := (idx t).2.2.2.2; omega⟩) := by
  obtain ⟨-, -, i, -, -⟩ := idx t
  blk_ext [iblk, V, i]

theorem pay1 (x0 : FVec Ideal S2048x1024 .bf16) (x1 : FVec Ideal S1024x512 .bf16) (x2 : FVec Ideal S2048x512 .f32) (a : Fin 2048) (b : Fin 512) :
    k0_pay1 (F := Ideal) x0 x1 x2 (ix2 a b) = (∑ k : Fin 1024, x0 (ix2 a k) * x1 (ix2 k b)) + x2 (ix2 a b) := by
  pointwise [k0_pay1]

theorem final (c : Dev nD) : (dats m 0 c).arrAt 3 cfg0.N = G (X0 m c) (X1 m c) (X2 m c) := by
  refine (dats m 0 c).arrAt_eq_of_covers 3 _ (by decide +kernel) fun t hf y => ?_
  obtain ⟨-, -, -, i, ht⟩ := idx t
  blk_simp
  rw [after0_3]
  idx_vars y
  rw [out0_3]
  frame_out
  refine (pay1 _ _ _ y0 y1).trans ?_
  have e : ((View.whole main_v0).slice (win0_3.rect t)).emb (ix2 y0 y1) = (ix2 (⟨(t.val / 2) * 2048 + y0.val, by have := (idx t).2.2.2.2; omega⟩ : Fin 4096) (⟨(t.val % 2) * 512 + y1.val, by have := (idx t).2.2.2.2; omega⟩ : Fin 1024) : S4096x1024.Idx) := by
    blk_ext [i]
  rw [e, G]
  simp only [blk0, blk1, blk2]
  rfl

end Cert.ScOutProd

namespace Cert.ScOutProd

open Cert.Reference9Ideal Cert.Reference9Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y1 (c : Dev nD) : FVec Ideal S1024x1024 .bf16 := m ((c.tc : Thread nD τ).loc main_arg1)
abbrev Y2 (c : Dev nD) : FVec Ideal S4096x1024 .f32 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v3) = G (Y0 m c) (Y1 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      exact add_comm _ _), (h c).2⟩) (Value.run m ρ)

theorem algebraic : Cert.algebraic_Kernel9Ideal_Reference9Ideal (hKernel9Ideal := Cert.Kernel9Ideal.Gen.facts)
    (hReference9Ideal := Cert.Reference9Ideal.Gen.facts) := by
  intro m g m' g' _ hag
  refine ⟨fun c => G (X0 m c) (X1 m c) (X2 m c), ?_, ?_⟩
  · exact (θ_run _ _ _).mono (fun _ h c => ⟨(h c).1.trans (final m c), (h c).2⟩) (Cert.Kernel9Ideal.Value.run_blocks m g)
  · refine (θ_run _ _ _).mono (fun _ h c => ⟨(h c).1.trans ?_, (h c).2⟩) (run_ref m' g')
    have e := hag c
    rw [show Y0 m' c = X0 m c from e.1, show Y1 m' c = X1 m c from e.2.1, show Y2 m' c = X2 m c from e.2.2]

/-- The reference ends with its arguments unchanged; it declares no counter. -/
theorem frame_r : Cert.quiescent_Reference9Ideal (hReference9Ideal := Cert.Reference9Ideal.Gen.facts) := fun m ρ _ =>
  (θ_run _ _ _).mono (fun r h => ⟨fun c => (h c).2, sem_eq_zero_of_no_sems (by decide) r.2⟩) (run_ref m ρ)

end Cert.ScOutProd

end
-- ==== Proof.ScDy.lean ====
/- The gradient of the gated output of the short convolution: kernel and reference leave the same array. -/
module

public import proofs.«01_k».proof.Proof.Gen.Kernel10Ideal.Value
public import proofs.«01_k».proof.Proof.Gen.Reference10Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ScDy

open Cert.Kernel10Ideal Cert.Kernel10Ideal.Gen

variable (m : (ℓ : Loc nD τ sig) → Buf (Elt Ideal) ℓ)

theorem idx : ∀ t : Fin cfg0.N, win0_0.index t = ![t.val / 2, 0]
    ∧ win0_1.index t = ![t.val % 2, 0]
    ∧ win0_2.index t = ![t.val / 2, t.val % 2] ∧ t.val < 4 :=
  (by decide +kernel : ∀ t : Fin grid0.N, _)

abbrev X1 (c : Dev nD) : FVec Ideal S1024x1024 .bf16 := m ((c : Thread nD τ).loc main_arg1)
abbrev X2 (c : Dev nD) : FVec Ideal S4096x1024 .f32 := m ((c : Thread nD τ).loc main_arg2)

/-- The gradient of the gated output of the short convolution. -/
def G (A : FVec Ideal S4096x1024 .f32) (B : FVec Ideal S1024x1024 .bf16) : FVec Ideal S4096x1024 .f32 :=
  fun i => ∑ k : Fin 1024, A (ix2 (i 0) k) * B (ix2 (i 1) k)

theorem blk0 (c : Dev nD) (t : Fin cfg0.N) (a : Fin 2048) (b : Fin 1024) :
    (iblk m c 0 t : FVec Ideal S2048x1024 .f32) (ix2 a b) = X2 m c (ix2 ⟨(t.val / 2) * 2048 + a.val, by have := (idx t).2.2.2; omega⟩ b) := by
  obtain ⟨i, -, -, -⟩ := idx t
  blk_ext [iblk, V, i]

theorem blk1 (c : Dev nD) (t : Fin cfg0.N) (a : Fin 512) (b : Fin 1024) :
    (iblk m c 1 t : FVec Ideal S512x1024 .bf16) (ix2 a b) = X1 m c (ix2 ⟨(t.val % 2) * 512 + a.val, by have := (idx t).2.2.2; omega⟩ b) := by
  obtain ⟨-, i, -, -⟩ := idx t
  blk_ext [iblk, V, i]

theorem pay1 (x0 : FVec Ideal S2048x1024 .f32) (x1 : FVec Ideal S512x1024 .bf16) (a : Fin 2048) (b : Fin 512) :
    k0_pay1 (F := Ideal) x0 x1 (ix2 a b) = ∑ k : Fin 1024, x0 (ix2 a k) * x1 (ix2 b k) := by
  pointwise [k0_pay1]

theorem final (c : Dev nD) : (dats m 0 c).arrAt 2 cfg0.N = G (X2 m c) (X1 m c) := by
  refine (dats m 0 c).arrAt_eq_of_covers 2 _ (by decide +kernel) fun t hf y => ?_
  obtain ⟨-, -, i, ht⟩ := idx t
  blk_simp
  rw [after0_2]
  idx_vars y
  rw [out0_2]
  frame_out
  refine (pay1 _ _ y0 y1).trans ?_
  have e : ((View.whole main_v0).slice (win0_2.rect t)).emb (ix2 y0 y1) = (ix2 (⟨(t.val / 2) * 2048 + y0.val, by have := (idx t).2.2.2; omega⟩ : Fin 4096) (⟨(t.val % 2) * 512 + y1.val, by have := (idx t).2.2.2; omega⟩ : Fin 1024) : S4096x1024.Idx) := by
    blk_ext [i]
  rw [e, G]
  simp only [blk0, blk1]
  rfl

end Cert.ScDy

namespace Cert.ScDy

open Cert.Reference10Ideal Cert.Reference10Ideal.Gen

variable (m : (ℓ : Loc nD τ sig) → Buf (Elt Ideal) ℓ) (ρ : Dev nD → PrngReg)

abbrev Y1 (c : Dev nD) : FVec Ideal S1024x1024 .bf16 := m ((c.tc : Thread nD τ).loc main_arg1)
abbrev Y2 (c : Dev nD) : FVec Ideal S4096x1024 .f32 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v2) = G (Y2 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      rfl), (h c).2⟩) (Value.run m ρ)

theorem algebraic : Cert.algebraic_Kernel10Ideal_Reference10Ideal (hKernel10Ideal := Cert.Kernel10Ideal.Gen.facts)
    (hReference10Ideal := Cert.Reference10Ideal.Gen.facts) := by
  intro m g m' g' _ hag
  refine ⟨fun c => G (X2 m c) (X1 m c), ?_, ?_⟩
  · exact (θ_run _ _ _).mono (fun _ h c => ⟨(h c).1.trans (final m c), (h c).2⟩) (Cert.Kernel10Ideal.Value.run_blocks m g)
  · refine (θ_run _ _ _).mono (fun _ h c => ⟨(h c).1.trans ?_, (h c).2⟩) (run_ref m' g')
    have e := hag c
    rw [show Y1 m' c = X1 m c from e.2.1, show Y2 m' c = X2 m c from e.2.2]

/-- The reference ends with its arguments unchanged; it declares no counter. -/
theorem frame_r : Cert.quiescent_Reference10Ideal (hReference10Ideal := Cert.Reference10Ideal.Gen.facts) := fun m ρ _ =>
  (θ_run _ _ _).mono (fun r h => ⟨fun c => (h c).2, sem_eq_zero_of_no_sems (by decide) r.2⟩) (run_ref m ρ)

end Cert.ScDy

end
-- ==== Proof.ScDout.lean ====
/- The gradient of the weights behind a mixer: kernel and reference leave the same array. -/
module

public import proofs.«01_k».proof.Proof.Gen.Kernel11Ideal.Value
public import proofs.«01_k».proof.Proof.Gen.Reference11Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ScDout

open Cert.Kernel11Ideal Cert.Kernel11Ideal.Gen

variable (m : (ℓ : Loc nD τ sig) → Buf (Elt Ideal) ℓ)

theorem idx : ∀ t : Fin cfg0.N, win0_0.index t = ![t.val % 2, 0]
    ∧ win0_1.index t = ![t.val % 2, 0]
    ∧ win0_2.index t = ![0, 0] ∧ t.val < 2 :=
  (by decide +kernel : ∀ t : Fin grid0.N, _)

abbrev X0 (c : Dev nD) : FVec Ideal S4096x1024 .bf16 := m ((c : Thread nD τ).loc main_arg0)
abbrev X2 (c : Dev nD) : FVec Ideal S4096x1024 .f32 := m ((c : Thread nD τ).loc main_arg2)

/-- The gradient of the weights behind a mixer. -/
def G (A : FVec Ideal S4096x1024 .bf16) (B : FVec Ideal S4096x1024 .f32) : FVec Ideal S1024x1024 .bf16 :=
  fun i => ∑ k : Fin 4096, A (ix2 k (i 0)) * B (ix2 k (i 1))

theorem blk0 (c : Dev nD) (t : Fin cfg0.N) (a : Fin 2048) (b : Fin 1024) :
    (iblk m c 0 t : FVec Ideal S2048x1024 .bf16) (ix2 a b) = X0 m c (ix2 ⟨t.val % 2 * 2048 + a.val, by omega⟩ b) := by
  obtain ⟨i, -, -, -⟩ := idx t
  blk_ext [iblk, V, i]

theorem blk1 (c : Dev nD) (t : Fin cfg0.N) (a : Fin 2048) (b : Fin 1024) :
    (iblk m c 1 t : FVec Ideal S2048x1024 .f32) (ix2 a b) = X2 m c (ix2 ⟨t.val % 2 * 2048 + a.val, by omega⟩ b) := by
  obtain ⟨-, i, -, -⟩ := idx t
  blk_ext [iblk, V, i]

theorem pay1 (x0 : FVec Ideal S2048x1024 .bf16) (x1 : FVec Ideal S2048x1024 .f32) (a : Fin 1024) (b : Fin 1024) :
    k0_pay1 (F := Ideal) x0 x1 (ix2 a b) = ∑ k : Fin 2048, x0 (ix2 k a) * x1 (ix2 k b) := by
  pointwise [k0_pay1]

/-- What one point adds. -/
def part (c : Dev nD) (t : Fin cfg0.N) (a : Fin 1024) (b : Fin 1024) : EReal :=
  ∑ k : Fin 2048, X0 m c (ix2 ⟨t.val % 2 * 2048 + k.val, by omega⟩ a)
    * X2 m c (ix2 ⟨t.val % 2 * 2048 + k.val, by omega⟩ b)

theorem pay_blk (c : Dev nD) (t : Fin cfg0.N) (a : Fin 1024) (b : Fin 1024) :
    k0_pay1 (F := Ideal) (iblk m c 0 t) (iblk m c 1 t) (ix2 a b) = part m c t a b := by
  refine (pay1 _ _ a b).trans ?_
  simp only [blk0, blk1]
  rfl

theorem pay2 (x0 : FVec Ideal S2048x1024 .bf16) (x1 : FVec Ideal S2048x1024 .f32) (a : Fin 1024) (b : Fin 1024) :
    k0_pay2 (F := Ideal) x0 x1 (ix2 a b) = k0_pay1 (F := Ideal) x0 x1 (ix2 a b) := by
  pointwise [k0_pay2]

theorem pay3 (x0 : FVec Ideal S2048x1024 .bf16) (x1 : FVec Ideal S2048x1024 .f32) (A : FVec Ideal S1024x1024 .f32) (a : Fin 1024) (b : Fin 1024) :
    k0_pay3 (F := Ideal) x0 x1 A (ix2 a b) = A (ix2 a b) + k0_pay1 (F := Ideal) x0 x1 (ix2 a b) := by
  pointwise [k0_pay3]

theorem acc (c : Dev nD) (t : Fin cfg0.N) (hr : t.val % 2 = 1) (j : S1024x1024.Idx) :
    (outsAt0 m c t.val t.isLt).2 j = ∑ s : Fin 2, part m c ⟨2 * (t.val / 2) + s.val, Pipeline.run_point_lt_of_flush t hr s⟩ (j 0) (j 1) := by
  refine (Pipeline.eq_sum_fin_of_reset_step_apply_of_flush (fun n h => (outsAt0 m c n h).2) 2 (fun _ => 0)
    (fun t y => part m c t (y 0) (y 1))
    (fun t h j => by
      rw [outsAt0_A m c t h (by omega) (by omega)]; frame_out
      idx_vars j
      exact (pay2 _ _ _ _).trans ((pay_blk m c t _ _).trans (zero_add _).symm))
    (fun t h j => by
      rw [outsAt0_B m c t h (by omega) (by omega)]; frame_out
      idx_vars j
      refine (pay3 _ _ _ _ _).trans ?_
      rw [pay_blk]
      simp only [read_unread_whole]) t hr j).trans (zero_add _)

/-- What the last point of a run writes back is what it leaves in the accumulator. -/
theorem out (c : Dev nD) (t : Fin cfg0.N) (hr : t.val % 2 = 1) (a : Fin 1024) (b : Fin 1024) :
    (outsAt0 m c t.val t.isLt).1 (ix2 a b) = (outsAt0 m c t.val t.isLt).2 (ix2 a b) := by
  rw [outsAt0_B m c t (by omega) (by omega) (by omega)]; frame_out
  pointwise [k0_pay4]

theorem final (c : Dev nD) : (dats m 0 c).arrAt 2 cfg0.N = G (X0 m c) (X2 m c) := by
  refine (dats m 0 c).arrAt_eq_of_covers 2 _ (by decide +kernel) fun t hf y => ?_
  obtain ⟨-, -, i, ht⟩ := idx t
  have hr : t.val % 2 = 1 := (flush0_2 t).mp hf
  blk_simp
  rw [after0_2]
  idx_vars y
  have e : (win0_2.blk t).view.emb (ix2 y0 y1) = (ix2 y0 y1 : S1024x1024.Idx) := by
    blk_ext [i]
  rw [e]
  refine (out m c t hr y0 y1).trans ((acc m c t hr _).trans ?_)
  refine Fin.sum_mul_add_congr fun s k hl => ?_
  have e1 : (2 * (t.val / 2) + s.val) % 2 = s.val := by omega
  have e2 : (2 * (t.val / 2) + s.val) / 2 = t.val / 2 := by omega
  simp only [e1]

end Cert.ScDout

namespace Cert.ScDout

open Cert.Reference11Ideal Cert.Reference11Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y2 (c : Dev nD) : FVec Ideal S4096x1024 .f32 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v5) = G (Y0 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      exact Finset.sum_congr rfl fun k _ => mul_comm _ _), (h c).2⟩) (Value.run m ρ)

theorem algebraic : Cert.algebraic_Kernel11Ideal_Reference11Ideal (hKernel11Ideal := Cert.Kernel11Ideal.Gen.facts)
    (hReference11Ideal := Cert.Reference11Ideal.Gen.facts) := by
  intro m g m' g' _ hag
  refine ⟨fun c => G (X0 m c) (X2 m c), ?_, ?_⟩
  · exact (θ_run _ _ _).mono (fun _ h c => ⟨(h c).1.trans (final m c), (h c).2⟩) (Cert.Kernel11Ideal.Value.run_blocks m g)
  · refine (θ_run _ _ _).mono (fun _ h c => ⟨(h c).1.trans ?_, (h c).2⟩) (run_ref m' g')
    have e := hag c
    rw [show Y0 m' c = X0 m c from e.1, show Y2 m' c = X2 m c from e.2.2]

/-- The reference ends with its arguments unchanged; it declares no counter. -/
theorem frame_r : Cert.quiescent_Reference11Ideal (hReference11Ideal := Cert.Reference11Ideal.Gen.facts) := fun m ρ _ =>
  (θ_run _ _ _).mono (fun r h => ⟨fun c => (h c).2, sem_eq_zero_of_no_sems (by decide) r.2⟩) (run_ref m ρ)

end Cert.ScDout

end
-- ==== Proof.ScDin.lean ====
/- The gradient of the weights in front of the short convolution: kernel and reference leave the same array. -/
module

public import proofs.«01_k».proof.Proof.Gen.Kernel12Ideal.Value
public import proofs.«01_k».proof.Proof.Gen.Reference12Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ScDin

open Cert.Kernel12Ideal Cert.Kernel12Ideal.Gen

variable (m : (ℓ : Loc nD τ sig) → Buf (Elt Ideal) ℓ)

theorem idx : ∀ t : Fin cfg0.N, win0_0.index t = ![t.val % 2, 0]
    ∧ win0_1.index t = ![t.val % 2, t.val / 2 % 2]
    ∧ win0_2.index t = ![0, t.val / 2 % 2] ∧ t.val < 4 :=
  (by decide +kernel : ∀ t : Fin grid0.N, _)

abbrev X0 (c : Dev nD) : FVec Ideal S4096x1024 .bf16 := m ((c : Thread nD τ).loc main_arg0)
abbrev X2 (c : Dev nD) : FVec Ideal S4096x3072 .bf16 := m ((c : Thread nD τ).loc main_arg2)

/-- The gradient of the weights in front of the short convolution. -/
def G (A : FVec Ideal S4096x1024 .bf16) (B : FVec Ideal S4096x3072 .bf16) : FVec Ideal S1024x3072 .bf16 :=
  fun i => ∑ k : Fin 4096, A (ix2 k (i 0)) * B (ix2 k (i 1))

theorem blk0 (c : Dev nD) (t : Fin cfg0.N) (a : Fin 2048) (b : Fin 1024) :
    (iblk m c 0 t : FVec Ideal S2048x1024 .bf16) (ix2 a b) = X0 m c (ix2 ⟨t.val % 2 * 2048 + a.val, by omega⟩ b) := by
  obtain ⟨i, -, -, -⟩ := idx t
  blk_ext [iblk, V, i]

theorem blk1 (c : Dev nD) (t : Fin cfg0.N) (a : Fin 2048) (b : Fin 1536) :
    (iblk m c 1 t : FVec Ideal S2048x1536 .bf16) (ix2 a b) = X2 m c (ix2 ⟨t.val % 2 * 2048 + a.val, by omega⟩ ⟨(t.val / 2 % 2) * 1536 + b.val, by have := (idx t).2.2.2; omega⟩) := by
  obtain ⟨-, i, -, -⟩ := idx t
  blk_ext [iblk, V, i]

theorem pay1 (x0 : FVec Ideal S2048x1024 .bf16) (x1 : FVec Ideal S2048x1536 .bf16) (a : Fin 1024) (b : Fin 1536) :
    k0_pay1 (F := Ideal) x0 x1 (ix2 a b) = ∑ k : Fin 2048, x0 (ix2 k a) * x1 (ix2 k b) := by
  pointwise [k0_pay1]

/-- What one point adds. -/
def part (c : Dev nD) (t : Fin cfg0.N) (a : Fin 1024) (b : Fin 1536) : EReal :=
  ∑ k : Fin 2048, X0 m c (ix2 ⟨t.val % 2 * 2048 + k.val, by omega⟩ a)
    * X2 m c (ix2 ⟨t.val % 2 * 2048 + k.val, by omega⟩ ⟨(t.val / 2 % 2) * 1536 + b.val, by have := (idx t).2.2.2; omega⟩)

theorem pay_blk (c : Dev nD) (t : Fin cfg0.N) (a : Fin 1024) (b : Fin 1536) :
    k0_pay1 (F := Ideal) (iblk m c 0 t) (iblk m c 1 t) (ix2 a b) = part m c t a b := by
  refine (pay1 _ _ a b).trans ?_
  simp only [blk0, blk1]
  rfl

theorem pay2 (x0 : FVec Ideal S2048x1024 .bf16) (x1 : FVec Ideal S2048x1536 .bf16) (a : Fin 1024) (b : Fin 1536) :
    k0_pay2 (F := Ideal) x0 x1 (ix2 a b) = k0_pay1 (F := Ideal) x0 x1 (ix2 a b) := by
  pointwise [k0_pay2]

theorem pay3 (x0 : FVec Ideal S2048x1024 .bf16) (x1 : FVec Ideal S2048x1536 .bf16) (A : FVec Ideal S1024x1536 .f32) (a : Fin 1024) (b : Fin 1536) :
    k0_pay3 (F := Ideal) x0 x1 A (ix2 a b) = A (ix2 a b) + k0_pay1 (F := Ideal) x0 x1 (ix2 a b) := by
  pointwise [k0_pay3]

theorem acc (c : Dev nD) (t : Fin cfg0.N) (hr : t.val % 2 = 1) (j : S1024x1536.Idx) :
    (outsAt0 m c t.val t.isLt).2 j = ∑ s : Fin 2, part m c ⟨2 * (t.val / 2) + s.val, Pipeline.run_point_lt_of_flush t hr s⟩ (j 0) (j 1) := by
  refine (Pipeline.eq_sum_fin_of_reset_step_apply_of_flush (fun n h => (outsAt0 m c n h).2) 2 (fun _ => 0)
    (fun t y => part m c t (y 0) (y 1))
    (fun t h j => by
      rw [outsAt0_A m c t h (by omega) (by omega)]; frame_out
      idx_vars j
      exact (pay2 _ _ _ _).trans ((pay_blk m c t _ _).trans (zero_add _).symm))
    (fun t h j => by
      rw [outsAt0_B m c t h (by omega) (by omega)]; frame_out
      idx_vars j
      refine (pay3 _ _ _ _ _).trans ?_
      rw [pay_blk]
      simp only [read_unread_whole]) t hr j).trans (zero_add _)

/-- What the last point of a run writes back is what it leaves in the accumulator. -/
theorem out (c : Dev nD) (t : Fin cfg0.N) (hr : t.val % 2 = 1) (a : Fin 1024) (b : Fin 1536) :
    (outsAt0 m c t.val t.isLt).1 (ix2 a b) = (outsAt0 m c t.val t.isLt).2 (ix2 a b) := by
  rw [outsAt0_B m c t (by omega) (by omega) (by omega)]; frame_out
  pointwise [k0_pay4]

theorem final (c : Dev nD) : (dats m 0 c).arrAt 2 cfg0.N = G (X0 m c) (X2 m c) := by
  refine (dats m 0 c).arrAt_eq_of_covers 2 _ (by decide +kernel) fun t hf y => ?_
  obtain ⟨-, -, i, ht⟩ := idx t
  have hr : t.val % 2 = 1 := (flush0_2 t).mp hf
  blk_simp
  rw [after0_2]
  idx_vars y
  have e : (win0_2.blk t).view.emb (ix2 y0 y1) = (ix2 y0 (⟨(t.val / 2 % 2) * 1536 + y1.val, by have := (idx t).2.2.2; omega⟩ : Fin 3072) : S1024x3072.Idx) := by
    blk_ext [i]
  rw [e]
  refine (out m c t hr y0 y1).trans ((acc m c t hr _).trans ?_)
  refine Fin.sum_mul_add_congr fun s k hl => ?_
  have e1 : (2 * (t.val / 2) + s.val) % 2 = s.val := by omega
  have e2 : (2 * (t.val / 2) + s.val) / 2 = t.val / 2 := by omega
  simp only [e1, e2]
  rfl

end Cert.ScDin

namespace Cert.ScDin

open Cert.Reference12Ideal Cert.Reference12Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y2 (c : Dev nD) : FVec Ideal S4096x3072 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v6) = G (Y0 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      exact Finset.sum_congr rfl fun k _ => mul_comm _ _), (h c).2⟩) (Value.run m ρ)

theorem algebraic : Cert.algebraic_Kernel12Ideal_Reference12Ideal (hKernel12Ideal := Cert.Kernel12Ideal.Gen.facts)
    (hReference12Ideal := Cert.Reference12Ideal.Gen.facts) := by
  intro m g m' g' _ hag
  refine ⟨fun c => G (X0 m c) (X2 m c), ?_, ?_⟩
  · exact (θ_run _ _ _).mono (fun _ h c => ⟨(h c).1.trans (final m c), (h c).2⟩) (Cert.Kernel12Ideal.Value.run_blocks m g)
  · refine (θ_run _ _ _).mono (fun _ h c => ⟨(h c).1.trans ?_, (h c).2⟩) (run_ref m' g')
    have e := hag c
    rw [show Y0 m' c = X0 m c from e.1, show Y2 m' c = X2 m c from e.2.2]

/-- The reference ends with its arguments unchanged; it declares no counter. -/
theorem frame_r : Cert.quiescent_Reference12Ideal (hReference12Ideal := Cert.Reference12Ideal.Gen.facts) := fun m ρ _ =>
  (θ_run _ _ _).mono (fun r h => ⟨fun c => (h c).2, sem_eq_zero_of_no_sems (by decide) r.2⟩) (run_ref m ρ)

end Cert.ScDin

end
-- ==== Proof.ScDhn.lean ====
/- The gradient of the short convolution's normalised input: kernel and reference leave the same array. -/
module

public import proofs.«01_k».proof.Proof.Gen.Kernel13Ideal.Value
public import proofs.«01_k».proof.Proof.Gen.Reference13Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ScDhn

open Cert.Kernel13Ideal Cert.Kernel13Ideal.Gen

variable (m : (ℓ : Loc nD τ sig) → Buf (Elt Ideal) ℓ)

theorem idx : ∀ t : Fin cfg0.N, win0_0.index t = ![t.val / 2, t.val % 2]
    ∧ win0_1.index t = ![0, t.val % 2]
    ∧ win0_2.index t = ![t.val / 2, 0] ∧ t.val < 4 :=
  (by decide +kernel : ∀ t : Fin grid0.N, _)

abbrev X1 (c : Dev nD) : FVec Ideal S1024x3072 .bf16 := m ((c : Thread nD τ).loc main_arg1)
abbrev X2 (c : Dev nD) : FVec Ideal S4096x3072 .bf16 := m ((c : Thread nD τ).loc main_arg2)

/-- The gradient of the short convolution's normalised input. -/
def G (A : FVec Ideal S4096x3072 .bf16) (B : FVec Ideal S1024x3072 .bf16) : FVec Ideal S4096x1024 .bf16 :=
  fun i => ∑ k : Fin 3072, A (ix2 (i 0) k) * B (ix2 (i 1) k)

theorem blk0 (c : Dev nD) (t : Fin cfg0.N) (a : Fin 2048) (b : Fin 1536) :
    (iblk m c 0 t : FVec Ideal S2048x1536 .bf16) (ix2 a b) = X2 m c (ix2 ⟨(t.val / 2) * 2048 + a.val, by have := (idx t).2.2.2; omega⟩ ⟨t.val % 2 * 1536 + b.val, by omega⟩) := by
  obtain ⟨i, -, -, -⟩ := idx t
  blk_ext [iblk, V, i]

theorem blk1 (c : Dev nD) (t : Fin cfg0.N) (a : Fin 1024) (b : Fin 1536) :
    (iblk m c 1 t : FVec Ideal S1024x1536 .bf16) (ix2 a b) = X1 m c (ix2 a ⟨t.val % 2 * 1536 + b.val, by omega⟩) := by
  obtain ⟨-, i, -, -⟩ := idx t
  blk_ext [iblk, V, i]

theorem pay1 (x0 : FVec Ideal S2048x1536 .bf16) (x1 : FVec Ideal S1024x1536 .bf16) (a : Fin 2048) (b : Fin 1024) :
    k0_pay1 (F := Ideal) x0 x1 (ix2 a b) = ∑ k : Fin 1536, x0 (ix2 a k) * x1 (ix2 b k) := by
  pointwise [k0_pay1]

/-- What one point adds. -/
def part (c : Dev nD) (t : Fin cfg0.N) (a : Fin 2048) (b : Fin 1024) : EReal :=
  ∑ k : Fin 1536, X2 m c (ix2 ⟨(t.val / 2) * 2048 + a.val, by have := (idx t).2.2.2; omega⟩ ⟨t.val % 2 * 1536 + k.val, by omega⟩)
    * X1 m c (ix2 b ⟨t.val % 2 * 1536 + k.val, by omega⟩)

theorem pay_blk (c : Dev nD) (t : Fin cfg0.N) (a : Fin 2048) (b : Fin 1024) :
    k0_pay1 (F := Ideal) (iblk m c 0 t) (iblk m c 1 t) (ix2 a b) = part m c t a b := by
  refine (pay1 _ _ a b).trans ?_
  simp only [blk0, blk1]
  rfl

theorem pay2 (x0 : FVec Ideal S2048x1536 .bf16) (x1 : FVec Ideal S1024x1536 .bf16) (a : Fin 2048) (b : Fin 1024) :
    k0_pay2 (F := Ideal) x0 x1 (ix2 a b) = k0_pay1 (F := Ideal) x0 x1 (ix2 a b) := by
  pointwise [k0_pay2]

theorem pay3 (x0 : FVec Ideal S2048x1536 .bf16) (x1 : FVec Ideal S1024x1536 .bf16) (A : FVec Ideal S2048x1024 .f32) (a : Fin 2048) (b : Fin 1024) :
    k0_pay3 (F := Ideal) x0 x1 A (ix2 a b) = A (ix2 a b) + k0_pay1 (F := Ideal) x0 x1 (ix2 a b) := by
  pointwise [k0_pay3]

theorem acc (c : Dev nD) (t : Fin cfg0.N) (hr : t.val % 2 = 1) (j : S2048x1024.Idx) :
    (outsAt0 m c t.val t.isLt).2 j = ∑ s : Fin 2, part m c ⟨2 * (t.val / 2) + s.val, Pipeline.run_point_lt_of_flush t hr s⟩ (j 0) (j 1) := by
  refine (Pipeline.eq_sum_fin_of_reset_step_apply_of_flush (fun n h => (outsAt0 m c n h).2) 2 (fun _ => 0)
    (fun t y => part m c t (y 0) (y 1))
    (fun t h j => by
      rw [outsAt0_A m c t h (by omega) (by omega)]; frame_out
      idx_vars j
      exact (pay2 _ _ _ _).trans ((pay_blk m c t _ _).trans (zero_add _).symm))
    (fun t h j => by
      rw [outsAt0_B m c t h (by omega) (by omega)]; frame_out
      idx_vars j
      refine (pay3 _ _ _ _ _).trans ?_
      rw [pay_blk]
      simp only [read_unread_whole]) t hr j).trans (zero_add _)

/-- What the last point of a run writes back is what it leaves in the accumulator. -/
theorem out (c : Dev nD) (t : Fin cfg0.N) (hr : t.val % 2 = 1) (a : Fin 2048) (b : Fin 1024) :
    (outsAt0 m c t.val t.isLt).1 (ix2 a b) = (outsAt0 m c t.val t.isLt).2 (ix2 a b) := by
  rw [outsAt0_B m c t (by omega) (by omega) (by omega)]; frame_out
  pointwise [k0_pay4]

theorem final (c : Dev nD) : (dats m 0 c).arrAt 2 cfg0.N = G (X2 m c) (X1 m c) := by
  refine (dats m 0 c).arrAt_eq_of_covers 2 _ (by decide +kernel) fun t hf y => ?_
  obtain ⟨-, -, i, ht⟩ := idx t
  have hr : t.val % 2 = 1 := (flush0_2 t).mp hf
  blk_simp
  rw [after0_2]
  idx_vars y
  have e : (win0_2.blk t).view.emb (ix2 y0 y1) = (ix2 (⟨(t.val / 2) * 2048 + y0.val, by have := (idx t).2.2.2; omega⟩ : Fin 4096) y1 : S4096x1024.Idx) := by
    blk_ext [i]
  rw [e]
  refine (out m c t hr y0 y1).trans ((acc m c t hr _).trans ?_)
  refine Fin.sum_mul_add_congr fun s k hl => ?_
  have e1 : (2 * (t.val / 2) + s.val) % 2 = s.val := by omega
  have e2 : (2 * (t.val / 2) + s.val) / 2 = t.val / 2 := by omega
  simp only [e1, e2]
  rfl

end Cert.ScDhn

namespace Cert.ScDhn

open Cert.Reference13Ideal Cert.Reference13Ideal.Gen

variable (m : (ℓ : Loc nD τ sig) → Buf (Elt Ideal) ℓ) (ρ : Dev nD → PrngReg)

abbrev Y1 (c : Dev nD) : FVec Ideal S1024x3072 .bf16 := m ((c.tc : Thread nD τ).loc main_arg1)
abbrev Y2 (c : Dev nD) : FVec Ideal S4096x3072 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v5) = G (Y2 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      rfl), (h c).2⟩) (Value.run m ρ)

theorem algebraic : Cert.algebraic_Kernel13Ideal_Reference13Ideal (hKernel13Ideal := Cert.Kernel13Ideal.Gen.facts)
    (hReference13Ideal := Cert.Reference13Ideal.Gen.facts) := by
  intro m g m' g' _ hag
  refine ⟨fun c => G (X2 m c) (X1 m c), ?_, ?_⟩
  · exact (θ_run _ _ _).mono (fun _ h c => ⟨(h c).1.trans (final m c), (h c).2⟩) (Cert.Kernel13Ideal.Value.run_blocks m g)
  · refine (θ_run _ _ _).mono (fun _ h c => ⟨(h c).1.trans ?_, (h c).2⟩) (run_ref m' g')
    have e := hag c
    rw [show Y1 m' c = X1 m c from e.2.1, show Y2 m' c = X2 m c from e.2.2]

/-- The reference ends with its arguments unchanged; it declares no counter. -/
theorem frame_r : Cert.quiescent_Reference13Ideal (hReference13Ideal := Cert.Reference13Ideal.Gen.facts) := fun m ρ _ =>
  (θ_run _ _ _).mono (fun r h => ⟨fun c => (h c).2, sem_eq_zero_of_no_sems (by decide) r.2⟩) (run_ref m ρ)

end Cert.ScDhn

end
-- ==== Proof.AttnQkv.lean ====
/- The product that makes queries, keys and values: kernel and reference leave the same array. -/
module

public import proofs.«01_k».proof.Proof.Gen.Kernel14Ideal.Value
public import proofs.«01_k».proof.Proof.Gen.Reference14Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.AttnQkv

open Cert.Kernel14Ideal Cert.Kernel14Ideal.Gen

variable (m : (ℓ : Loc nD τ sig) → Buf (Elt Ideal) ℓ)

theorem idx : ∀ t : Fin cfg0.N, win0_0.index t = ![t.val / 8, 0]
    ∧ win0_1.index t = ![t.val % 8, 0, 0]
    ∧ win0_2.index t = ![t.val / 8, t.val % 8] ∧ t.val < 16 :=
  (by decide +kernel : ∀ t : Fin grid0.N, _)

abbrev X0 (c : Dev nD) : FVec Ideal S4096x1024 .bf16 := m ((c : Thread nD τ).loc main_arg0)
abbrev X1 (c : Dev nD) : FVec Ideal S8x1024x1152 .bf16 := m ((c : Thread nD τ).loc main_arg1)

/-- The product that makes queries, keys and values. -/
def G (A : FVec Ideal S4096x1024 .bf16) (B : FVec Ideal S8x1024x1152 .bf16) : FVec Ideal S4096x9216 .f32 :=
  fun i => ∑ k : Fin 1024, A (ix2 (i 0) k) * B (ix3 ⟨((i 1)).val / 1152, by have h : ((i 1)).val < 9216 := ((i 1)).isLt; omega⟩ k ⟨((i 1)).val % 1152, by omega⟩)

theorem blk0 (c : Dev nD) (t : Fin cfg0.N) (a : Fin 2048) (b : Fin 1024) :
    (iblk m c 0 t : FVec Ideal S2048x1024 .bf16) (ix2 a b) = X0 m c (ix2 ⟨(t.val / 8) * 2048 + a.val, by have := (idx t).2.2.2; omega⟩ b) := by
  obtain ⟨i, -, -, -⟩ := idx t
  blk_ext [iblk, V, i]

theorem blk1 (c : Dev nD) (t : Fin cfg0.N) (a : Fin 1024) (b : Fin 1152) :
    (iblk m c 1 t : FVec Ideal S1x1024x1152 .bf16) (ix3 0 a b) = X1 m c (ix3 ⟨t.val % 8, by have := (idx t).2.2.2; omega⟩ a b) := by
  obtain ⟨-, i, -, -⟩ := idx t
  blk_ext [iblk, V, i]

theorem pay1 (x0 : FVec Ideal S2048x1024 .bf16) (x1 : FVec Ideal S1x1024x1152 .bf16) (a : Fin 2048) (b : Fin 1152) :
    k0_pay1 (F := Ideal) x0 x1 (ix2 a b) = ∑ k : Fin 1024, x0 (ix2 a k) * x1 (ix3 0 k b) := by
  pointwise [k0_pay1]

theorem final (c : Dev nD) : (dats m 0 c).arrAt 2 cfg0.N = G (X0 m c) (X1 m c) := by
  refine (dats m 0 c).arrAt_eq_of_covers 2 _ (by decide +kernel) fun t hf y => ?_
  obtain ⟨-, -, i, ht⟩ := idx t
  blk_simp
  rw [after0_2]
  idx_vars y
  rw [out0_2]
  frame_out
  refine (pay1 _ _ y0 y1).trans ?_
  have e : ((View.whole main_v0).slice (win0_2.rect t)).emb (ix2 y0 y1) = (ix2 (⟨(t.val / 8) * 2048 + y0.val, by have := (idx t).2.2.2; omega⟩ : Fin 4096) (⟨(t.val % 8) * 1152 + y1.val, by have := (idx t).2.2.2; omega⟩ : Fin 9216) : S4096x9216.Idx) := by
    blk_ext [i]
  rw [e, G]
  simp only [blk0, blk1]
  have e3 : (⟨t.val % 8, by have := (idx t).2.2.2; omega⟩ : Fin 8) = ⟨((t.val % 8) * 1152 + y1.val) / 1152, by have := (idx t).2.2.2; omega⟩ := Fin.ext (by show t.val % 8 = ((t.val % 8) * 1152 + y1.val) / 1152; omega)
  have e4 : y1 = ⟨((t.val % 8) * 1152 + y1.val) % 1152, by have := (idx t).2.2.2; omega⟩ := Fin.ext (by show y1.val = ((t.val % 8) * 1152 + y1.val) % 1152; omega)
  exact congrArg₂ (fun (p : Fin 8) (r : Fin 1152) => ∑ k : Fin 1024, X0 m c (ix2 ⟨(t.val / 8) * 2048 + y0.val, by have := (idx t).2.2.2; omega⟩ k) * X1 m c (ix3 p k r)) e3 e4

end Cert.AttnQkv

namespace Cert.AttnQkv

open Cert.Reference14Ideal Cert.Reference14Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y1 (c : Dev nD) : FVec Ideal S8x1024x1152 .bf16 := m ((c.tc : Thread nD τ).loc main_arg1)

theorem run_ref : θ_run defs (onTc (τ := τ) (main (F := Ideal))) ⟨m, fun _ => 0, ρ⟩ fun r => ∀ c : Dev nD,
      r.2.mem ((c.tc : Thread nD τ).loc main_v4) = G (Y0 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => by
      clear h
      idx_vars i
      clean_types
      pointwise
      rfl), (h c).2⟩) (Value.run m ρ)

theorem algebraic : Cert.algebraic_Kernel14Ideal_Reference14Ideal (hKernel14Ideal := Cert.Kernel14Ideal.Gen.facts)
    (hReference14Ideal := Cert.Reference14Ideal.Gen.facts) := by
  intro m g m' g' _ hag
  refine ⟨fun c => G (X0 m c) (X1 m c), ?_, ?_⟩
  · exact (θ_run _ _ _).mono (fun _ h c => ⟨(h c).1.trans (final m c), (h c).2⟩) (Cert.Kernel14Ideal.Value.run_blocks m g)
  · refine (θ_run _ _ _).mono (fun _ h c => ⟨(h c).1.trans ?_, (h c).2⟩) (run_ref m' g')
    have e := hag c
    rw [show Y0 m' c = X0 m c from e.1, show Y1 m' c = X1 m c from e.2]

/-- The reference ends with its arguments unchanged; it declares no counter. -/
theorem frame_r : Cert.quiescent_Reference14Ideal (hReference14Ideal := Cert.Reference14Ideal.Gen.facts) := fun m ρ _ =>
  (θ_run _ _ _).mono (fun r h => ⟨fun c => (h c).2, sem_eq_zero_of_no_sems (by decide) r.2⟩) (run_ref m ρ)

end Cert.AttnQkv

end
-- ==== Proof.AttnDqkv.lean ====
/- The gradient of the weights of queries, keys and values: kernel and reference leave the same array. -/
module

public import proofs.«01_k».proof.Proof.Gen.Kernel15Ideal.Value
public import proofs.«01_k».proof.Proof.Gen.Reference15Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.AttnDqkv

open Cert.Kernel15Ideal Cert.Kernel15Ideal.Gen

variable (m : (ℓ : Loc nD τ sig) → Buf (Elt Ideal) ℓ)

theorem idx : ∀ t : Fin cfg0.N, win0_0.index t = ![0, 0]
    ∧ win0_1.index t = ![0, t.val % 8]
    ∧ win0_2.index t = ![t.val % 8, 0, 0] ∧ t.val < 8 :=
  (by decide +kernel : ∀ t : Fin grid0.N, _)

abbrev X0 (c : Dev nD) : FVec Ideal S4096x1024 .bf16 := m ((c : Thread nD τ).loc main_arg0)
abbrev X2 (c : Dev nD) : FVec Ideal S4096x9216 .bf16 := m ((c : Thread nD τ).loc main_arg2)

/-- The gradient of the weights of queries, keys and values. -/
def G (A : FVec Ideal S4096x1024 .bf16) (B : FVec Ideal S4096x9216 .bf16) : FVec Ideal S8x1024x1152 .bf16 :=
  fun i => ∑ k : Fin 4096, A (ix2 k (i 1)) * B (ix2 k ⟨(i 0).val * 1152 + (i 2).val, by have h0 : (i 0).val < 8 := (i 0).isLt; have h2 : (i 2).val < 1152 := (i 2).isLt; omega⟩)

theorem blk0 (c : Dev nD) (t : Fin cfg0.N) (a : Fin 4096) (b : Fin 1024) :
    (iblk m c 0 t : FVec Ideal S4096x1024 .bf16) (ix2 a b) = X0 m c (ix2 a b) := by
  obtain ⟨i, -, -, -⟩ := idx t
  blk_ext [iblk, V, i]

theorem blk1 (c : Dev nD) (t : Fin cfg0.N) (a : Fin 4096) (b : Fin 1152) :
    (iblk m c 1 t : FVec Ideal S4096x1152 .bf16) (ix2 a b) = X2 m c (ix2 a ⟨(t.val % 8) * 1152 + b.val, by have := (idx t).2.2.2; omega⟩) := by
  obtain ⟨-, i, -, -⟩ := idx t
  blk_ext [iblk, V, i]

theorem pay1 (x0 : FVec Ideal S4096x1024 .bf16) (x1 : FVec Ideal S4096x1152 .bf16) (a : Fin 1024) (b : Fin 1152) :
    k0_pay1 (F := Ideal) x0 x1 (ix3 0 a b) = ∑ k : Fin 4096, x0 (ix2 k a) * x1 (ix2 k b) := by
  pointwise [k0_pay1]

theorem final (c : Dev nD) : (dats m 0 c).arrAt 2 cfg0.N = G (X0 m c) (X2 m c) := by
  refine (dats m 0 c).arrAt_eq_of_covers 2 _ (by decide +kernel) fun t hf y => ?_
  obtain ⟨-, -, i, ht⟩ := idx t
  blk_simp
  rw [after0_2]
  idx_vars y
  rw [out0_2]
  frame_out
  obtain rfl : y0 = 0 := Subsingleton.elim _ _
  refine (pay1 _ _ y1 y2).trans ?_
  have e : ((View.whole main_v0).slice (win0_2.rect t)).emb (ix3 0 y1 y2) = (ix3 (⟨t.val % 8, by have := (idx t).2.2.2; omega⟩ : Fin 8) y1 y2 : S8x1024x1152.Idx) := by
    blk_ext [i]
  rw [e, G]
  simp only [blk0, blk1]
  rfl

end Cert.AttnDqkv

namespace Cert.AttnDqkv

open Cert.Reference15Ideal Cert.Reference15Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y2 (c : Dev nD) : FVec Ideal S4096x9216 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v10) = G (Y0 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      exact Finset.sum_congr rfl fun k _ => mul_comm _ _), (h c).2⟩) (Value.run m ρ)

theorem algebraic : Cert.algebraic_Kernel15Ideal_Reference15Ideal (hKernel15Ideal := Cert.Kernel15Ideal.Gen.facts)
    (hReference15Ideal := Cert.Reference15Ideal.Gen.facts) := by
  intro m g m' g' _ hag
  refine ⟨fun c => G (X0 m c) (X2 m c), ?_, ?_⟩
  · exact (θ_run _ _ _).mono (fun _ h c => ⟨(h c).1.trans (final m c), (h c).2⟩) (Cert.Kernel15Ideal.Value.run_blocks m g)
  · refine (θ_run _ _ _).mono (fun _ h c => ⟨(h c).1.trans ?_, (h c).2⟩) (run_ref m' g')
    have e := hag c
    rw [show Y0 m' c = X0 m c from e.1, show Y2 m' c = X2 m c from e.2.2]

/-- The reference ends with its arguments unchanged; it declares no counter. -/
theorem frame_r : Cert.quiescent_Reference15Ideal (hReference15Ideal := Cert.Reference15Ideal.Gen.facts) := fun m ρ _ =>
  (θ_run _ _ _).mono (fun r h => ⟨fun c => (h c).2, sem_eq_zero_of_no_sems (by decide) r.2⟩) (run_ref m ρ)

end Cert.AttnDqkv

end
-- ==== Proof.AttnDhn.lean ====
/- The gradient of attention's normalised input: kernel and reference leave the same array. -/
module

public import proofs.«01_k».proof.Proof.Gen.Kernel16Ideal.Value
public import proofs.«01_k».proof.Proof.Gen.Reference16Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.AttnDhn

open Cert.Kernel16Ideal Cert.Kernel16Ideal.Gen

variable (m : (ℓ : Loc nD τ sig) → Buf (Elt Ideal) ℓ)

theorem idx : ∀ t : Fin cfg0.N, win0_0.index t = ![t.val / 8, t.val % 8]
    ∧ win0_1.index t = ![t.val % 8, 0, 0]
    ∧ win0_2.index t = ![t.val / 8, 0] ∧ t.val < 16 :=
  (by decide +kernel : ∀ t : Fin grid0.N, _)

abbrev X1 (c : Dev nD) : FVec Ideal S8x1024x1152 .bf16 := m ((c : Thread nD τ).loc main_arg1)
abbrev X2 (c : Dev nD) : FVec Ideal S4096x9216 .bf16 := m ((c : Thread nD τ).loc main_arg2)

/-- The gradient of attention's normalised input. -/
def G (A : FVec Ideal S4096x9216 .bf16) (B : FVec Ideal S8x1024x1152 .bf16) : FVec Ideal S4096x1024 .bf16 :=
  fun i => ∑ k : Fin 9216, A (ix2 (i 0) k) * B (ix3 ⟨k.val / 1152, by omega⟩ (i 1) ⟨k.val % 1152, by omega⟩)

theorem blk0 (c : Dev nD) (t : Fin cfg0.N) (a : Fin 2048) (b : Fin 1152) :
    (iblk m c 0 t : FVec Ideal S2048x1152 .bf16) (ix2 a b) = X2 m c (ix2 ⟨(t.val / 8) * 2048 + a.val, by have := (idx t).2.2.2; omega⟩ ⟨t.val % 8 * 1152 + b.val, by omega⟩) := by
  obtain ⟨i, -, -, -⟩ := idx t
  blk_ext [iblk, V, i]

theorem blk1 (c : Dev nD) (t : Fin cfg0.N) (a : Fin 1024) (b : Fin 1152) :
    (iblk m c 1 t : FVec Ideal S1x1024x1152 .bf16) (ix3 0 a b) = X1 m c (ix3 ⟨t.val % 8, by have := (idx t).2.2.2; omega⟩ a b) := by
  obtain ⟨-, i, -, -⟩ := idx t
  blk_ext [iblk, V, i]

theorem pay1 (x0 : FVec Ideal S2048x1152 .bf16) (x1 : FVec Ideal S1x1024x1152 .bf16) (a : Fin 2048) (b : Fin 1024) :
    k0_pay1 (F := Ideal) x0 x1 (ix2 a b) = ∑ k : Fin 1152, x0 (ix2 a k) * x1 (ix3 0 b k) := by
  pointwise [k0_pay1]

/-- What one point adds. -/
def part (c : Dev nD) (t : Fin cfg0.N) (a : Fin 2048) (b : Fin 1024) : EReal :=
  ∑ k : Fin 1152, X2 m c (ix2 ⟨(t.val / 8) * 2048 + a.val, by have := (idx t).2.2.2; omega⟩ ⟨t.val % 8 * 1152 + k.val, by omega⟩)
    * X1 m c (ix3 ⟨t.val % 8, by have := (idx t).2.2.2; omega⟩ b k)

theorem pay_blk (c : Dev nD) (t : Fin cfg0.N) (a : Fin 2048) (b : Fin 1024) :
    k0_pay1 (F := Ideal) (iblk m c 0 t) (iblk m c 1 t) (ix2 a b) = part m c t a b := by
  refine (pay1 _ _ a b).trans ?_
  simp only [blk0, blk1]
  rfl

theorem pay2 (x0 : FVec Ideal S2048x1152 .bf16) (x1 : FVec Ideal S1x1024x1152 .bf16) (a : Fin 2048) (b : Fin 1024) :
    k0_pay2 (F := Ideal) x0 x1 (ix2 a b) = k0_pay1 (F := Ideal) x0 x1 (ix2 a b) := by
  pointwise [k0_pay2]

theorem pay3 (x0 : FVec Ideal S2048x1152 .bf16) (x1 : FVec Ideal S1x1024x1152 .bf16) (A : FVec Ideal S2048x1024 .f32) (a : Fin 2048) (b : Fin 1024) :
    k0_pay3 (F := Ideal) x0 x1 A (ix2 a b) = A (ix2 a b) + k0_pay1 (F := Ideal) x0 x1 (ix2 a b) := by
  pointwise [k0_pay3]

theorem acc (c : Dev nD) (t : Fin cfg0.N) (hr : t.val % 8 = 7) (j : S2048x1024.Idx) :
    (outsAt0 m c t.val t.isLt).2 j = ∑ s : Fin 8, part m c ⟨8 * (t.val / 8) + s.val, Pipeline.run_point_lt_of_flush t hr s⟩ (j 0) (j 1) := by
  refine (Pipeline.eq_sum_fin_of_reset_step_apply_of_flush (fun n h => (outsAt0 m c n h).2) 8 (fun _ => 0)
    (fun t y => part m c t (y 0) (y 1))
    (fun t h j => by
      rw [outsAt0_A m c t h (by omega) (by omega)]; frame_out
      idx_vars j
      exact (pay2 _ _ _ _).trans ((pay_blk m c t _ _).trans (zero_add _).symm))
    (fun t h j => by
      rcases (by omega : t.val % 8 = 7 ∨ ¬ t.val % 8 = 7) with h2 | h2
      · rw [outsAt0_C m c t h (by omega) h2]; frame_out
        idx_vars j
        refine (pay3 _ _ _ _ _).trans ?_
        rw [pay_blk]
        simp only [read_unread_whole]
      · rw [outsAt0_B m c t h (by omega) h2]; frame_out
        idx_vars j
        refine (pay3 _ _ _ _ _).trans ?_
        rw [pay_blk]
        simp only [read_unread_whole]) t hr j).trans (zero_add _)

/-- What the last point of a run writes back is what it leaves in the accumulator. -/
theorem out (c : Dev nD) (t : Fin cfg0.N) (hr : t.val % 8 = 7) (a : Fin 2048) (b : Fin 1024) :
    (outsAt0 m c t.val t.isLt).1 (ix2 a b) = (outsAt0 m c t.val t.isLt).2 (ix2 a b) := by
  rw [outsAt0_C m c t (by omega) (by omega) (by omega)]; frame_out
  pointwise [k0_pay4]

theorem final (c : Dev nD) : (dats m 0 c).arrAt 2 cfg0.N = G (X2 m c) (X1 m c) := by
  refine (dats m 0 c).arrAt_eq_of_covers 2 _ (by decide +kernel) fun t hf y => ?_
  obtain ⟨-, -, i, ht⟩ := idx t
  have hr : t.val % 8 = 7 := (flush0_2 t).mp hf
  blk_simp
  rw [after0_2]
  idx_vars y
  have e : (win0_2.blk t).view.emb (ix2 y0 y1) = (ix2 (⟨(t.val / 8) * 2048 + y0.val, by have := (idx t).2.2.2; omega⟩ : Fin 4096) y1 : S4096x1024.Idx) := by
    blk_ext [i]
  rw [e]
  refine (out m c t hr y0 y1).trans ((acc m c t hr _).trans ?_)
  refine Fin.sum_mul_add_congr fun s k hl => ?_
  have e1 : (8 * (t.val / 8) + s.val) % 8 = s.val := by omega
  have e2 : (8 * (t.val / 8) + s.val) / 8 = t.val / 8 := by omega
  have e3 : ∀ h, (⟨(s.val * 1152 + k.val) / 1152, h⟩ : Fin 8) = s := fun h => Fin.ext (by show (s.val * 1152 + k.val) / 1152 = s.val; omega)
  have e4 : ∀ h, (⟨(s.val * 1152 + k.val) % 1152, h⟩ : Fin 1152) = k := fun h => Fin.ext (by show (s.val * 1152 + k.val) % 1152 = k.val; omega)
  simp only [e1, e2, e3, e4]
  rfl

end Cert.AttnDhn

namespace Cert.AttnDhn

open Cert.Reference16Ideal Cert.Reference16Ideal.Gen

variable (m : (ℓ : Loc nD τ sig) → Buf (Elt Ideal) ℓ) (ρ : Dev nD → PrngReg)

abbrev Y1 (c : Dev nD) : FVec Ideal S8x1024x1152 .bf16 := m ((c.tc : Thread nD τ).loc main_arg1)
abbrev Y2 (c : Dev nD) : FVec Ideal S4096x9216 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v7) = G (Y2 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      rfl), (h c).2⟩) (Value.run m ρ)

theorem algebraic : Cert.algebraic_Kernel16Ideal_Reference16Ideal (hKernel16Ideal := Cert.Kernel16Ideal.Gen.facts)
    (hReference16Ideal := Cert.Reference16Ideal.Gen.facts) := by
  intro m g m' g' _ hag
  refine ⟨fun c => G (X2 m c) (X1 m c), ?_, ?_⟩
  · exact (θ_run _ _ _).mono (fun _ h c => ⟨(h c).1.trans (final m c), (h c).2⟩) (Cert.Kernel16Ideal.Value.run_blocks m g)
  · refine (θ_run _ _ _).mono (fun _ h c => ⟨(h c).1.trans ?_, (h c).2⟩) (run_ref m' g')
    have e := hag c
    rw [show Y1 m' c = X1 m c from e.2.1, show Y2 m' c = X2 m c from e.2.2]

/-- The reference ends with its arguments unchanged; it declares no counter. -/
theorem frame_r : Cert.quiescent_Reference16Ideal (hReference16Ideal := Cert.Reference16Ideal.Gen.facts) := fun m ρ _ =>
  (θ_run _ _ _).mono (fun r h => ⟨fun c => (h c).2, sem_eq_zero_of_no_sems (by decide) r.2⟩) (run_ref m ρ)

end Cert.AttnDhn

end
-- ==== Proof.AttnDo.lean ====
/- The gradient of attention's output and its product with the output, per head: kernel and reference leave the same arrays. -/
module

public import proofs.«01_k».proof.Proof.Gen.Kernel17Ideal.Value
public import proofs.«01_k».proof.Proof.Gen.Reference17Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.AttnDo

open Cert.Kernel17Ideal Cert.Kernel17Ideal.Gen

variable (m : (ℓ : Loc nD τ sig) → Buf (Elt Ideal) ℓ)

theorem idx : ∀ t : Fin cfg0.N, win0_0.index t = ![t.val / 2, 0]
    ∧ win0_1.index t = ![t.val % 2, 0]
    ∧ win0_2.index t = ![t.val / 2, t.val % 2]
    ∧ win0_3.index t = ![t.val / 2, t.val % 2]
    ∧ win0_4.index t = ![t.val / 2, t.val % 2] ∧ t.val < 4 :=
  (by decide +kernel : ∀ t : Fin grid0.N, _)

abbrev X0 (c : Dev nD) : FVec Ideal S4096x1024 .bf16 := m ((c : Thread nD τ).loc main_arg0)
abbrev X1 (c : Dev nD) : FVec Ideal S1024x1024 .bf16 := m ((c : Thread nD τ).loc main_arg1)
abbrev X2 (c : Dev nD) : FVec Ideal S4096x1024 .f32 := m ((c : Thread nD τ).loc main_arg2)

/-- The gradient of attention's output and its product with the output, per head. -/
def G0 (A : FVec Ideal S4096x1024 .f32) (B : FVec Ideal S1024x1024 .bf16) (E0 : FVec Ideal S4096x1024 .bf16) : FVec Ideal S4096x1024 .bf16 :=
  fun i => ∑ k : Fin 1024, A (ix2 (i 0) k) * B (ix2 (i 1) k)

/-- The gradient of attention's output and its product with the output, per head. -/
def G1 (A : FVec Ideal S4096x1024 .f32) (B : FVec Ideal S1024x1024 .bf16) (E0 : FVec Ideal S4096x1024 .bf16) : FVec Ideal S4096x1024 .f32 :=
  fun i => ∑ h : Fin 128, (∑ k : Fin 1024, A (ix2 (i 0) k) * B (ix2 ⟨((i 1)).val / 128 * 128 + h.val, by have h0 : ((i 1)).val < 1024 := ((i 1)).isLt; omega⟩ k)) * E0 (ix2 (i 0) ⟨((i 1)).val / 128 * 128 + h.val, by have h0 : ((i 1)).val < 1024 := ((i 1)).isLt; omega⟩)

theorem blk0 (c : Dev nD) (t : Fin cfg0.N) (a : Fin 2048) (b : Fin 1024) :
    (iblk m c 0 t : FVec Ideal S2048x1024 .f32) (ix2 a b) = X2 m c (ix2 ⟨(t.val / 2) * 2048 + a.val, by have := (idx t).2.2.2.2.2; omega⟩ b) := by
  obtain ⟨i, -, -, -, -, -⟩ := idx t
  blk_ext [iblk, V, i]

theorem blk1 (c : Dev nD) (t : Fin cfg0.N) (a : Fin 512) (b : Fin 1024) :
    (iblk m c 1 t : FVec Ideal S512x1024 .bf16) (ix2 a b) = X1 m c (ix2 ⟨(t.val % 2) * 512 + a.val, by have := (idx t).2.2.2.2.2; omega⟩ b) := by
  obtain ⟨-, i, -, -, -, -⟩ := idx t
  blk_ext [iblk, V, i]

theorem blk2 (c : Dev nD) (t : Fin cfg0.N) (a : Fin 2048) (b : Fin 512) :
    (iblk m c 2 t : FVec Ideal S2048x512 .bf16) (ix2 a b) = X0 m c (ix2 ⟨(t.val / 2) * 2048 + a.val, by have := (idx t).2.2.2.2.2; omega⟩ ⟨(t.val % 2) * 512 + b.val, by have := (idx t).2.2.2.2.2; omega⟩) := by
  obtain ⟨-, -, i, -, -, -⟩ := idx t
  blk_ext [iblk, V, i]

theorem pay1 (x0 : FVec Ideal S2048x1024 .f32) (x1 : FVec Ideal S512x1024 .bf16) (a : Fin 2048) (b : Fin 512) :
    k0_pay1 (F := Ideal) x0 x1 (ix2 a b) = ∑ k : Fin 1024, x0 (ix2 a k) * x1 (ix2 b k) := by
  pointwise [k0_pay1]

theorem pay3 (x0 : FVec Ideal S2048x1024 .f32) (x1 : FVec Ideal S512x1024 .bf16) (a : Fin 2048) (b : Fin 512) :
    k0_pay3 (F := Ideal) x0 x1 (ix2 a b) = ∑ k : Fin 1024, x0 (ix2 a k) * x1 (ix2 b k) := by
  pointwise [k0_pay3]
  exact pay1 x0 x1 a b

theorem pay2 (x0 : FVec Ideal S2048x1024 .f32) (x1 : FVec Ideal S512x1024 .bf16) (x2 : FVec Ideal S2048x512 .bf16) (a : Fin 2048) (b : Fin 512) :
    k0_pay2 (F := Ideal) x0 x1 x2 (ix2 a b) = ∑ h : Fin 128, (∑ k : Fin 1024, x0 (ix2 a k) * x1 (ix2 ⟨(b).val / 128 * 128 + h.val, by have h0 : (b).val < 512 := (b).isLt; omega⟩ k)) * x2 (ix2 a ⟨(b).val / 128 * 128 + h.val, by have h0 : (b).val < 512 := (b).isLt; omega⟩) := by
  pointwise [k0_pay2]
  simp only [pay1]
  split_ifs with h0 h1 h2
  · refine Finset.sum_congr rfl fun h _ => ?_
    have e : ∀ p, (⟨h.val, p⟩ : Fin 512) = ⟨b.val / 128 * 128 + h.val, by omega⟩ :=
      fun p => Fin.ext (by show h.val = b.val / 128 * 128 + h.val; omega)
    simp only [e]
  · refine Finset.sum_congr rfl fun h _ => ?_
    have e : ∀ p, (⟨128 + h.val, p⟩ : Fin 512) = ⟨b.val / 128 * 128 + h.val, by omega⟩ :=
      fun p => Fin.ext (by show 128 + h.val = b.val / 128 * 128 + h.val; omega)
    simp only [e]
  · refine Finset.sum_congr rfl fun h _ => ?_
    have e : ∀ p, (⟨256 + h.val, p⟩ : Fin 512) = ⟨b.val / 128 * 128 + h.val, by omega⟩ :=
      fun p => Fin.ext (by show 256 + h.val = b.val / 128 * 128 + h.val; omega)
    simp only [e]
  · refine Finset.sum_congr rfl fun h _ => ?_
    have e : ∀ p, (⟨384 + h.val, p⟩ : Fin 512) = ⟨b.val / 128 * 128 + h.val, by omega⟩ :=
      fun p => Fin.ext (by show 384 + h.val = b.val / 128 * 128 + h.val; omega)
    simp only [e]

theorem final0 (c : Dev nD) : (dats m 0 c).arrAt 3 cfg0.N = G0 (X2 m c) (X1 m c) (X0 m c) := by
  refine (dats m 0 c).arrAt_eq_of_covers 3 _ (by decide +kernel) fun t hf y => ?_
  obtain ⟨-, -, -, i, -, ht⟩ := idx t
  blk_simp
  rw [after0_3]
  idx_vars y
  rw [out0_3]
  frame_out
  refine (pay3 _ _ y0 y1).trans ?_
  have e : ((View.whole main_v0_0).slice (win0_3.rect t)).emb (ix2 y0 y1) = (ix2 (⟨(t.val / 2) * 2048 + y0.val, by have := (idx t).2.2.2.2.2; omega⟩ : Fin 4096) (⟨(t.val % 2) * 512 + y1.val, by have := (idx t).2.2.2.2.2; omega⟩ : Fin 1024) : S4096x1024.Idx) := by
    blk_ext [i]
  rw [e, G0]
  simp only [blk0, blk1]
  rfl

theorem final1 (c : Dev nD) : (dats m 0 c).arrAt 4 cfg0.N = G1 (X2 m c) (X1 m c) (X0 m c) := by
  refine (dats m 0 c).arrAt_eq_of_covers 4 _ (by decide +kernel) fun t hf y => ?_
  obtain ⟨-, -, -, -, i, ht⟩ := idx t
  blk_simp
  rw [after0_4]
  idx_vars y
  rw [out0_4]
  frame_out
  refine (pay2 _ _ _ y0 y1).trans ?_
  have e : ((View.whole main_v0_1).slice (win0_4.rect t)).emb (ix2 y0 y1) = (ix2 (⟨(t.val / 2) * 2048 + y0.val, by have := (idx t).2.2.2.2.2; omega⟩ : Fin 4096) (⟨(t.val % 2) * 512 + y1.val, by have := (idx t).2.2.2.2.2; omega⟩ : Fin 1024) : S4096x1024.Idx) := by
    blk_ext [i]
  rw [e, G1]
  simp only [blk0, blk1, blk2]
  refine Finset.sum_congr rfl fun h _ => ?_
  have e : (⟨(t.val % 2) * 512 + (y1.val / 128 * 128 + h.val), by have := (idx t).2.2.2.2.2; omega⟩ : Fin 1024) = ⟨((t.val % 2) * 512 + y1.val) / 128 * 128 + h.val, by have := (idx t).2.2.2.2.2; omega⟩ :=
    Fin.ext (by show (t.val % 2) * 512 + (y1.val / 128 * 128 + h.val) = ((t.val % 2) * 512 + y1.val) / 128 * 128 + h.val; omega)
  exact congrArg (fun r : Fin 1024 => (∑ k : Fin 1024, X2 m c (ix2 ⟨(t.val / 2) * 2048 + y0.val, by have := (idx t).2.2.2.2.2; omega⟩ k) * X1 m c (ix2 r k)) * X0 m c (ix2 ⟨(t.val / 2) * 2048 + y0.val, by have := (idx t).2.2.2.2.2; omega⟩ r)) e

end Cert.AttnDo

namespace Cert.AttnDo

open Cert.Reference17Ideal Cert.Reference17Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y1 (c : Dev nD) : FVec Ideal S1024x1024 .bf16 := m ((c.tc : Thread nD τ).loc main_arg1)
abbrev Y2 (c : Dev nD) : FVec Ideal S4096x1024 .f32 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v8) = G0 (Y2 m c) (Y1 m c) (Y0 m c)
      ∧ r.2.mem ((c.tc : Thread nD τ).loc main_v11) = G1 (Y2 m c) (Y1 m c) (Y0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      rfl), (h c).2.1.trans (funext fun i => by
      clear h
      idx_vars i
      clean_types
      pointwise
      rfl), (h c).2.2⟩) (Value.run m ρ)

theorem algebraic : Cert.algebraic_Kernel17Ideal_Reference17Ideal (hKernel17Ideal := Cert.Kernel17Ideal.Gen.facts)
    (hReference17Ideal := Cert.Reference17Ideal.Gen.facts) := by
  intro m g m' g' _ hag
  refine ⟨fun c => G0 (X2 m c) (X1 m c) (X0 m c), fun c => G1 (X2 m c) (X1 m c) (X0 m c), ?_, ?_⟩
  · exact (θ_run _ _ _).mono (fun _ h c => ⟨(h c).1.trans (final0 m c), (h c).2.1.trans (final1 m c), (h c).2.2⟩) (Cert.Kernel17Ideal.Value.run_blocks m g)
  · refine (θ_run _ _ _).mono (fun _ h c => ⟨(h c).1.trans ?_, (h c).2.1.trans ?_, (h c).2.2⟩) (run_ref m' g')
    all_goals
      have e := hag c
      rw [show Y0 m' c = X0 m c from e.1, show Y1 m' c = X1 m c from e.2.1, show Y2 m' c = X2 m c from e.2.2]

/-- The reference ends with its arguments unchanged; it declares no counter. -/
theorem frame_r : Cert.quiescent_Reference17Ideal (hReference17Ideal := Cert.Reference17Ideal.Gen.facts) := fun m ρ _ =>
  (θ_run _ _ _).mono (fun r h => ⟨fun c => (h c).2.2, sem_eq_zero_of_no_sems (by decide) r.2⟩) (run_ref m ρ)

end Cert.AttnDo

end
-- ==== Proof.LruIn.lean ====
/- The product in front of the recurrence: kernel and reference leave the same array. -/
module

public import proofs.«01_k».proof.Proof.Gen.Kernel18Ideal.Value
public import proofs.«01_k».proof.Proof.Gen.Reference18Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LruIn

open Cert.Kernel18Ideal Cert.Kernel18Ideal.Gen

variable (m : (ℓ : Loc nD τ sig) → Buf (Elt Ideal) ℓ)

theorem idx : ∀ t : Fin cfg0.N, win0_0.index t = ![t.val / 2, 0]
    ∧ win0_1.index t = ![0, t.val % 2]
    ∧ win0_2.index t = ![t.val / 2, t.val % 2] ∧ t.val < 4 :=
  (by decide +kernel : ∀ t : Fin grid0.N, _)

abbrev X0 (c : Dev nD) : FVec Ideal S4096x1024 .bf16 := m ((c : Thread nD τ).loc main_arg0)
abbrev X1 (c : Dev nD) : FVec Ideal S1024x2560 .bf16 := m ((c : Thread nD τ).loc main_arg1)

/-- The product in front of the recurrence. -/
def G (A : FVec Ideal S4096x1024 .bf16) (B : FVec Ideal S1024x2560 .bf16) : FVec Ideal S4096x2560 .f32 :=
  fun i => ∑ k : Fin 1024, A (ix2 (i 0) k) * B (ix2 k (i 1))

theorem blk0 (c : Dev nD) (t : Fin cfg0.N) (a : Fin 2048) (b : Fin 1024) :
    (iblk m c 0 t : FVec Ideal S2048x1024 .bf16) (ix2 a b) = X0 m c (ix2 ⟨(t.val / 2) * 2048 + a.val, by have := (idx t).2.2.2; omega⟩ b) := by
  obtain ⟨i, -, -, -⟩ := idx t
  blk_ext [iblk, V, i]

theorem blk1 (c : Dev nD) (t : Fin cfg0.N) (a : Fin 1024) (b : Fin 1280) :
    (iblk m c 1 t : FVec Ideal S1024x1280 .bf16) (ix2 a b) = X1 m c (ix2 a ⟨(t.val % 2) * 1280 + b.val, by have := (idx t).2.2.2; omega⟩) := by
  obtain ⟨-, i, -, -⟩ := idx t
  blk_ext [iblk, V, i]

theorem pay1 (x0 : FVec Ideal S2048x1024 .bf16) (x1 : FVec Ideal S1024x1280 .bf16) (a : Fin 2048) (b : Fin 1280) :
    k0_pay1 (F := Ideal) x0 x1 (ix2 a b) = ∑ k : Fin 1024, x0 (ix2 a k) * x1 (ix2 k b) := by
  pointwise [k0_pay1]

theorem final (c : Dev nD) : (dats m 0 c).arrAt 2 cfg0.N = G (X0 m c) (X1 m c) := by
  refine (dats m 0 c).arrAt_eq_of_covers 2 _ (by decide +kernel) fun t hf y => ?_
  obtain ⟨-, -, i, ht⟩ := idx t
  blk_simp
  rw [after0_2]
  idx_vars y
  rw [out0_2]
  frame_out
  refine (pay1 _ _ y0 y1).trans ?_
  have e : ((View.whole main_v0).slice (win0_2.rect t)).emb (ix2 y0 y1) = (ix2 (⟨(t.val / 2) * 2048 + y0.val, by have := (idx t).2.2.2; omega⟩ : Fin 4096) (⟨(t.val % 2) * 1280 + y1.val, by have := (idx t).2.2.2; omega⟩ : Fin 2560) : S4096x2560.Idx) := by
    blk_ext [i]
  rw [e, G]
  simp only [blk0, blk1]
  rfl

end Cert.LruIn

namespace Cert.LruIn

open Cert.Reference18Ideal Cert.Reference18Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y1 (c : Dev nD) : FVec Ideal S1024x2560 .bf16 := m ((c.tc : Thread nD τ).loc main_arg1)

theorem run_ref : θ_run defs (onTc (τ := τ) (main (F := Ideal))) ⟨m, fun _ => 0, ρ⟩ fun r => ∀ c : Dev nD,
      r.2.mem ((c.tc : Thread nD τ).loc main_v2) = G (Y0 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => by
      clear h
      idx_vars i
      clean_types
      pointwise
      rfl), (h c).2⟩) (Value.run m ρ)

theorem algebraic : Cert.algebraic_Kernel18Ideal_Reference18Ideal (hKernel18Ideal := Cert.Kernel18Ideal.Gen.facts)
    (hReference18Ideal := Cert.Reference18Ideal.Gen.facts) := by
  intro m g m' g' _ hag
  refine ⟨fun c => G (X0 m c) (X1 m c), ?_, ?_⟩
  · exact (θ_run _ _ _).mono (fun _ h c => ⟨(h c).1.trans (final m c), (h c).2⟩) (Cert.Kernel18Ideal.Value.run_blocks m g)
  · refine (θ_run _ _ _).mono (fun _ h c => ⟨(h c).1.trans ?_, (h c).2⟩) (run_ref m' g')
    have e := hag c
    rw [show Y0 m' c = X0 m c from e.1, show Y1 m' c = X1 m c from e.2]

/-- The reference ends with its arguments unchanged; it declares no counter. -/
theorem frame_r : Cert.quiescent_Reference18Ideal (hReference18Ideal := Cert.Reference18Ideal.Gen.facts) := fun m ρ _ =>
  (θ_run _ _ _).mono (fun r h => ⟨fun c => (h c).2, sem_eq_zero_of_no_sems (by decide) r.2⟩) (run_ref m ρ)

end Cert.LruIn

end
-- ==== Proof.LruOut.lean ====
/- The product behind the recurrence, added to the stream: kernel and reference leave the same array. -/
module

public import proofs.«01_k».proof.Proof.Gen.Kernel19Ideal.Value
public import proofs.«01_k».proof.Proof.Gen.Reference19Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LruOut

open Cert.Kernel19Ideal Cert.Kernel19Ideal.Gen

variable (m : (ℓ : Loc nD τ sig) → Buf (Elt Ideal) ℓ)

theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2] ∧ t.val < 4 :=
  (by decide +kernel : ∀ t : Fin grid0.N, _)

abbrev X0 (c : Dev nD) : FVec Ideal S4096x1280 .bf16 := m ((c : Thread nD τ).loc main_arg0)
abbrev X1 (c : Dev nD) : FVec Ideal S1280x1024 .bf16 := m ((c : Thread nD τ).loc main_arg1)
abbrev X2 (c : Dev nD) : FVec Ideal S4096x1024 .f32 := m ((c : Thread nD τ).loc main_arg2)

/-- The product behind the recurrence, added to the stream. -/
def G (A : FVec Ideal S4096x1280 .bf16) (B : FVec Ideal S1280x1024 .bf16) (E0 : FVec Ideal S4096x1024 .f32) : FVec Ideal S4096x1024 .f32 :=
  fun i => (∑ k : Fin 1280, A (ix2 (i 0) k) * B (ix2 k (i 1))) + E0 i

theorem blk0 (c : Dev nD) (t : Fin cfg0.N) (a : Fin 2048) (b : Fin 1280) :
    (iblk m c 0 t : FVec Ideal S2048x1280 .bf16) (ix2 a b) = X0 m c (ix2 ⟨(t.val / 2) * 2048 + a.val, by have := (idx t).2.2.2.2; omega⟩ b) := by
  obtain ⟨i, -, -, -, -⟩ := idx t
  blk_ext [iblk, V, i]

theorem blk1 (c : Dev nD) (t : Fin cfg0.N) (a : Fin 1280) (b : Fin 512) :
    (iblk m c 1 t : FVec Ideal S1280x512 .bf16) (ix2 a b) = X1 m c (ix2 a ⟨(t.val % 2) * 512 + b.val, by have := (idx t).2.2.2.2; omega⟩) := by
  obtain ⟨-, i, -, -, -⟩ := idx t
  blk_ext [iblk, V, i]

theorem blk2 (c : Dev nD) (t : Fin cfg0.N) (a : Fin 2048) (b : Fin 512) :
    (iblk m c 2 t : FVec Ideal S2048x512 .f32) (ix2 a b) = X2 m c (ix2 ⟨(t.val / 2) * 2048 + a.val, by have := (idx t).2.2.2.2; omega⟩ ⟨(t.val % 2) * 512 + b.val, by have := (idx t).2.2.2.2; omega⟩) := by
  obtain ⟨-, -, i, -, -⟩ := idx t
  blk_ext [iblk, V, i]

theorem pay1 (x0 : FVec Ideal S2048x1280 .bf16) (x1 : FVec Ideal S1280x512 .bf16) (x2 : FVec Ideal S2048x512 .f32) (a : Fin 2048) (b : Fin 512) :
    k0_pay1 (F := Ideal) x0 x1 x2 (ix2 a b) = (∑ k : Fin 1280, x0 (ix2 a k) * x1 (ix2 k b)) + x2 (ix2 a b) := by
  pointwise [k0_pay1]

theorem final (c : Dev nD) : (dats m 0 c).arrAt 3 cfg0.N = G (X0 m c) (X1 m c) (X2 m c) := by
  refine (dats m 0 c).arrAt_eq_of_covers 3 _ (by decide +kernel) fun t hf y => ?_
  obtain ⟨-, -, -, i, ht⟩ := idx t
  blk_simp
  rw [after0_3]
  idx_vars y
  rw [out0_3]
  frame_out
  refine (pay1 _ _ _ y0 y1).trans ?_
  have e : ((View.whole main_v0).slice (win0_3.rect t)).emb (ix2 y0 y1) = (ix2 (⟨(t.val / 2) * 2048 + y0.val, by have := (idx t).2.2.2.2; omega⟩ : Fin 4096) (⟨(t.val % 2) * 512 + y1.val, by have := (idx t).2.2.2.2; omega⟩ : Fin 1024) : S4096x1024.Idx) := by
    blk_ext [i]
  rw [e, G]
  simp only [blk0, blk1, blk2]
  rfl

end Cert.LruOut

namespace Cert.LruOut

open Cert.Reference19Ideal Cert.Reference19Ideal.Gen

variable (m : (ℓ : Loc nD τ sig) → Buf (Elt Ideal) ℓ) (ρ : Dev nD → PrngReg)

abbrev Y0 (c : Dev nD) : FVec Ideal S4096x1280 .bf16 := m ((c.tc : Thread nD τ).loc main_arg0)
abbrev Y1 (c : Dev nD) : FVec Ideal S1280x1024 .bf16 := m ((c.tc : Thread nD τ).loc main_arg1)
abbrev Y2 (c : Dev nD) : FVec Ideal S4096x1024 .f32 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v3) = G (Y0 m c) (Y1 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      exact add_comm _ _), (h c).2⟩) (Value.run m ρ)

theorem algebraic : Cert.algebraic_Kernel19Ideal_Reference19Ideal (hKernel19Ideal := Cert.Kernel19Ideal.Gen.facts)
    (hReference19Ideal := Cert.Reference19Ideal.Gen.facts) := by
  intro m g m' g' _ hag
  refine ⟨fun c => G (X0 m c) (X1 m c) (X2 m c), ?_, ?_⟩
  · exact (θ_run _ _ _).mono (fun _ h c => ⟨(h c).1.trans (final m c), (h c).2⟩) (Cert.Kernel19Ideal.Value.run_blocks m g)
  · refine (θ_run _ _ _).mono (fun _ h c => ⟨(h c).1.trans ?_, (h c).2⟩) (run_ref m' g')
    have e := hag c
    rw [show Y0 m' c = X0 m c from e.1, show Y1 m' c = X1 m c from e.2.1, show Y2 m' c = X2 m c from e.2.2]

/-- The reference ends with its arguments unchanged; it declares no counter. -/
theorem frame_r : Cert.quiescent_Reference19Ideal (hReference19Ideal := Cert.Reference19Ideal.Gen.facts) := fun m ρ _ =>
  (θ_run _ _ _).mono (fun r h => ⟨fun c => (h c).2, sem_eq_zero_of_no_sems (by decide) r.2⟩) (run_ref m ρ)

end Cert.LruOut

end
-- ==== Proof.LruDy.lean ====
/- The gradient of the recurrence's gated output: kernel and reference leave the same array. -/
module

public import proofs.«01_k».proof.Proof.Gen.Kernel20Ideal.Value
public import proofs.«01_k».proof.Proof.Gen.Reference20Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LruDy

open Cert.Kernel20Ideal Cert.Kernel20Ideal.Gen

variable (m : (ℓ : Loc nD τ sig) → Buf (Elt Ideal) ℓ)

theorem idx : ∀ t : Fin cfg0.N, win0_0.index t = ![t.val / 2, 0]
    ∧ win0_1.index t = ![t.val % 2, 0]
    ∧ win0_2.index t = ![t.val / 2, t.val % 2] ∧ t.val < 4 :=
  (by decide +kernel : ∀ t : Fin grid0.N, _)

abbrev X1 (c : Dev nD) : FVec Ideal S1280x1024 .bf16 := m ((c : Thread nD τ).loc main_arg1)
abbrev X2 (c : Dev nD) : FVec Ideal S4096x1024 .f32 := m ((c : Thread nD τ).loc main_arg2)

/-- The gradient of the recurrence's gated output. -/
def G (A : FVec Ideal S4096x1024 .f32) (B : FVec Ideal S1280x1024 .bf16) : FVec Ideal S4096x1280 .f32 :=
  fun i => ∑ k : Fin 1024, A (ix2 (i 0) k) * B (ix2 (i 1) k)

theorem blk0 (c : Dev nD) (t : Fin cfg0.N) (a : Fin 2048) (b : Fin 1024) :
    (iblk m c 0 t : FVec Ideal S2048x1024 .f32) (ix2 a b) = X2 m c (ix2 ⟨(t.val / 2) * 2048 + a.val, by have := (idx t).2.2.2; omega⟩ b) := by
  obtain ⟨i, -, -, -⟩ := idx t
  blk_ext [iblk, V, i]

theorem blk1 (c : Dev nD) (t : Fin cfg0.N) (a : Fin 640) (b : Fin 1024) :
    (iblk m c 1 t : FVec Ideal S640x1024 .bf16) (ix2 a b) = X1 m c (ix2 ⟨(t.val % 2) * 640 + a.val, by have := (idx t).2.2.2; omega⟩ b) := by
  obtain ⟨-, i, -, -⟩ := idx t
  blk_ext [iblk, V, i]

theorem pay1 (x0 : FVec Ideal S2048x1024 .f32) (x1 : FVec Ideal S640x1024 .bf16) (a : Fin 2048) (b : Fin 640) :
    k0_pay1 (F := Ideal) x0 x1 (ix2 a b) = ∑ k : Fin 1024, x0 (ix2 a k) * x1 (ix2 b k) := by
  pointwise [k0_pay1]

theorem final (c : Dev nD) : (dats m 0 c).arrAt 2 cfg0.N = G (X2 m c) (X1 m c) := by
  refine (dats m 0 c).arrAt_eq_of_covers 2 _ (by decide +kernel) fun t hf y => ?_
  obtain ⟨-, -, i, ht⟩ := idx t
  blk_simp
  rw [after0_2]
  idx_vars y
  rw [out0_2]
  frame_out
  refine (pay1 _ _ y0 y1).trans ?_
  have e : ((View.whole main_v0).slice (win0_2.rect t)).emb (ix2 y0 y1) = (ix2 (⟨(t.val / 2) * 2048 + y0.val, by have := (idx t).2.2.2; omega⟩ : Fin 4096) (⟨(t.val % 2) * 640 + y1.val, by have := (idx t).2.2.2; omega⟩ : Fin 1280) : S4096x1280.Idx) := by
    blk_ext [i]
  rw [e, G]
  simp only [blk0, blk1]
  rfl

end Cert.LruDy

namespace Cert.LruDy

open Cert.Reference20Ideal Cert.Reference20Ideal.Gen

variable (m : (ℓ : Loc nD τ sig) → Buf (Elt Ideal) ℓ) (ρ : Dev nD → PrngReg)

abbrev Y1 (c : Dev nD) : FVec Ideal S1280x1024 .bf16 := m ((c.tc : Thread nD τ).loc main_arg1)
abbrev Y2 (c : Dev nD) : FVec Ideal S4096x1024 .f32 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v2) = G (Y2 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      rfl), (h c).2⟩) (Value.run m ρ)

theorem algebraic : Cert.algebraic_Kernel20Ideal_Reference20Ideal (hKernel20Ideal := Cert.Kernel20Ideal.Gen.facts)
    (hReference20Ideal := Cert.Reference20Ideal.Gen.facts) := by
  intro m g m' g' _ hag
  refine ⟨fun c => G (X2 m c) (X1 m c), ?_, ?_⟩
  · exact (θ_run _ _ _).mono (fun _ h c => ⟨(h c).1.trans (final m c), (h c).2⟩) (Cert.Kernel20Ideal.Value.run_blocks m g)
  · refine (θ_run _ _ _).mono (fun _ h c => ⟨(h c).1.trans ?_, (h c).2⟩) (run_ref m' g')
    have e := hag c
    rw [show Y1 m' c = X1 m c from e.2.1, show Y2 m' c = X2 m c from e.2.2]

/-- The reference ends with its arguments unchanged; it declares no counter. -/
theorem frame_r : Cert.quiescent_Reference20Ideal (hReference20Ideal := Cert.Reference20Ideal.Gen.facts) := fun m ρ _ =>
  (θ_run _ _ _).mono (fun r h => ⟨fun c => (h c).2, sem_eq_zero_of_no_sems (by decide) r.2⟩) (run_ref m ρ)

end Cert.LruDy

end
-- ==== Proof.LruDout.lean ====
/- The gradient of the weights behind the recurrence: kernel and reference leave the same array. -/
module

public import proofs.«01_k».proof.Proof.Gen.Kernel21Ideal.Value
public import proofs.«01_k».proof.Proof.Gen.Reference21Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LruDout

open Cert.Kernel21Ideal Cert.Kernel21Ideal.Gen

variable (m : (ℓ : Loc nD τ sig) → Buf (Elt Ideal) ℓ)

theorem idx : ∀ t : Fin cfg0.N, win0_0.index t = ![t.val % 2, 0]
    ∧ win0_1.index t = ![t.val % 2, 0]
    ∧ win0_2.index t = ![0, 0] ∧ t.val < 2 :=
  (by decide +kernel : ∀ t : Fin grid0.N, _)

abbrev X0 (c : Dev nD) : FVec Ideal S4096x1280 .bf16 := m ((c : Thread nD τ).loc main_arg0)
abbrev X2 (c : Dev nD) : FVec Ideal S4096x1024 .f32 := m ((c : Thread nD τ).loc main_arg2)

/-- The gradient of the weights behind the recurrence. -/
def G (A : FVec Ideal S4096x1280 .bf16) (B : FVec Ideal S4096x1024 .f32) : FVec Ideal S1280x1024 .bf16 :=
  fun i => ∑ k : Fin 4096, A (ix2 k (i 0)) * B (ix2 k (i 1))

theorem blk0 (c : Dev nD) (t : Fin cfg0.N) (a : Fin 2048) (b : Fin 1280) :
    (iblk m c 0 t : FVec Ideal S2048x1280 .bf16) (ix2 a b) = X0 m c (ix2 ⟨t.val % 2 * 2048 + a.val, by omega⟩ b) := by
  obtain ⟨i, -, -, -⟩ := idx t
  blk_ext [iblk, V, i]

theorem blk1 (c : Dev nD) (t : Fin cfg0.N) (a : Fin 2048) (b : Fin 1024) :
    (iblk m c 1 t : FVec Ideal S2048x1024 .f32) (ix2 a b) = X2 m c (ix2 ⟨t.val % 2 * 2048 + a.val, by omega⟩ b) := by
  obtain ⟨-, i, -, -⟩ := idx t
  blk_ext [iblk, V, i]

theorem pay1 (x0 : FVec Ideal S2048x1280 .bf16) (x1 : FVec Ideal S2048x1024 .f32) (a : Fin 1280) (b : Fin 1024) :
    k0_pay1 (F := Ideal) x0 x1 (ix2 a b) = ∑ k : Fin 2048, x0 (ix2 k a) * x1 (ix2 k b) := by
  pointwise [k0_pay1]

/-- What one point adds. -/
def part (c : Dev nD) (t : Fin cfg0.N) (a : Fin 1280) (b : Fin 1024) : EReal :=
  ∑ k : Fin 2048, X0 m c (ix2 ⟨t.val % 2 * 2048 + k.val, by omega⟩ a)
    * X2 m c (ix2 ⟨t.val % 2 * 2048 + k.val, by omega⟩ b)

theorem pay_blk (c : Dev nD) (t : Fin cfg0.N) (a : Fin 1280) (b : Fin 1024) :
    k0_pay1 (F := Ideal) (iblk m c 0 t) (iblk m c 1 t) (ix2 a b) = part m c t a b := by
  refine (pay1 _ _ a b).trans ?_
  simp only [blk0, blk1]
  rfl

theorem pay2 (x0 : FVec Ideal S2048x1280 .bf16) (x1 : FVec Ideal S2048x1024 .f32) (a : Fin 1280) (b : Fin 1024) :
    k0_pay2 (F := Ideal) x0 x1 (ix2 a b) = k0_pay1 (F := Ideal) x0 x1 (ix2 a b) := by
  pointwise [k0_pay2]

theorem pay3 (x0 : FVec Ideal S2048x1280 .bf16) (x1 : FVec Ideal S2048x1024 .f32) (A : FVec Ideal S1280x1024 .f32) (a : Fin 1280) (b : Fin 1024) :
    k0_pay3 (F := Ideal) x0 x1 A (ix2 a b) = A (ix2 a b) + k0_pay1 (F := Ideal) x0 x1 (ix2 a b) := by
  pointwise [k0_pay3]

theorem acc (c : Dev nD) (t : Fin cfg0.N) (hr : t.val % 2 = 1) (j : S1280x1024.Idx) :
    (outsAt0 m c t.val t.isLt).2 j = ∑ s : Fin 2, part m c ⟨2 * (t.val / 2) + s.val, Pipeline.run_point_lt_of_flush t hr s⟩ (j 0) (j 1) := by
  refine (Pipeline.eq_sum_fin_of_reset_step_apply_of_flush (fun n h => (outsAt0 m c n h).2) 2 (fun _ => 0)
    (fun t y => part m c t (y 0) (y 1))
    (fun t h j => by
      rw [outsAt0_A m c t h (by omega) (by omega)]; frame_out
      idx_vars j
      exact (pay2 _ _ _ _).trans ((pay_blk m c t _ _).trans (zero_add _).symm))
    (fun t h j => by
      rw [outsAt0_B m c t h (by omega) (by omega)]; frame_out
      idx_vars j
      refine (pay3 _ _ _ _ _).trans ?_
      rw [pay_blk]
      simp only [read_unread_whole]) t hr j).trans (zero_add _)

/-- What the last point of a run writes back is what it leaves in the accumulator. -/
theorem out (c : Dev nD) (t : Fin cfg0.N) (hr : t.val % 2 = 1) (a : Fin 1280) (b : Fin 1024) :
    (outsAt0 m c t.val t.isLt).1 (ix2 a b) = (outsAt0 m c t.val t.isLt).2 (ix2 a b) := by
  rw [outsAt0_B m c t (by omega) (by omega) (by omega)]; frame_out
  pointwise [k0_pay4]

theorem final (c : Dev nD) : (dats m 0 c).arrAt 2 cfg0.N = G (X0 m c) (X2 m c) := by
  refine (dats m 0 c).arrAt_eq_of_covers 2 _ (by decide +kernel) fun t hf y => ?_
  obtain ⟨-, -, i, ht⟩ := idx t
  have hr : t.val % 2 = 1 := (flush0_2 t).mp hf
  blk_simp
  rw [after0_2]
  idx_vars y
  have e : (win0_2.blk t).view.emb (ix2 y0 y1) = (ix2 y0 y1 : S1280x1024.Idx) := by
    blk_ext [i]
  rw [e]
  refine (out m c t hr y0 y1).trans ((acc m c t hr _).trans ?_)
  refine Fin.sum_mul_add_congr fun s k hl => ?_
  have e1 : (2 * (t.val / 2) + s.val) % 2 = s.val := by omega
  have e2 : (2 * (t.val / 2) + s.val) / 2 = t.val / 2 := by omega
  simp only [e1]

end Cert.LruDout

namespace Cert.LruDout

open Cert.Reference21Ideal Cert.Reference21Ideal.Gen

variable (m : (ℓ : Loc nD τ sig) → Buf (Elt Ideal) ℓ) (ρ : Dev nD → PrngReg)

abbrev Y0 (c : Dev nD) : FVec Ideal S4096x1280 .bf16 := m ((c.tc : Thread nD τ).loc main_arg0)
abbrev Y2 (c : Dev nD) : FVec Ideal S4096x1024 .f32 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v5) = G (Y0 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      exact Finset.sum_congr rfl fun k _ => mul_comm _ _), (h c).2⟩) (Value.run m ρ)

theorem algebraic : Cert.algebraic_Kernel21Ideal_Reference21Ideal (hKernel21Ideal := Cert.Kernel21Ideal.Gen.facts)
    (hReference21Ideal := Cert.Reference21Ideal.Gen.facts) := by
  intro m g m' g' _ hag
  refine ⟨fun c => G (X0 m c) (X2 m c), ?_, ?_⟩
  · exact (θ_run _ _ _).mono (fun _ h c => ⟨(h c).1.trans (final m c), (h c).2⟩) (Cert.Kernel21Ideal.Value.run_blocks m g)
  · refine (θ_run _ _ _).mono (fun _ h c => ⟨(h c).1.trans ?_, (h c).2⟩) (run_ref m' g')
    have e := hag c
    rw [show Y0 m' c = X0 m c from e.1, show Y2 m' c = X2 m c from e.2.2]

/-- The reference ends with its arguments unchanged; it declares no counter. -/
theorem frame_r : Cert.quiescent_Reference21Ideal (hReference21Ideal := Cert.Reference21Ideal.Gen.facts) := fun m ρ _ =>
  (θ_run _ _ _).mono (fun r h => ⟨fun c => (h c).2, sem_eq_zero_of_no_sems (by decide) r.2⟩) (run_ref m ρ)

end Cert.LruDout

end
-- ==== Proof.LruDin.lean ====
/- The gradient of the weights in front of the recurrence: kernel and reference leave the same array. -/
module

public import proofs.«01_k».proof.Proof.Gen.Kernel22Ideal.Value
public import proofs.«01_k».proof.Proof.Gen.Reference22Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LruDin

open Cert.Kernel22Ideal Cert.Kernel22Ideal.Gen

variable (m : (ℓ : Loc nD τ sig) → Buf (Elt Ideal) ℓ)

theorem idx : ∀ t : Fin cfg0.N, win0_0.index t = ![t.val % 4, 0]
    ∧ win0_1.index t = ![t.val % 4, 0]
    ∧ win0_2.index t = ![0, 0] ∧ t.val < 4 :=
  (by decide +kernel : ∀ t : Fin grid0.N, _)

abbrev X0 (c : Dev nD) : FVec Ideal S4096x1024 .bf16 := m ((c : Thread nD τ).loc main_arg0)
abbrev X2 (c : Dev nD) : FVec Ideal S4096x2560 .bf16 := m ((c : Thread nD τ).loc main_arg2)

/-- The gradient of the weights in front of the recurrence. -/
def G (A : FVec Ideal S4096x1024 .bf16) (B : FVec Ideal S4096x2560 .bf16) : FVec Ideal S1024x2560 .bf16 :=
  fun i => ∑ k : Fin 4096, A (ix2 k (i 0)) * B (ix2 k (i 1))

theorem blk0 (c : Dev nD) (t : Fin cfg0.N) (a : Fin 1024) (b : Fin 1024) :
    (iblk m c 0 t : FVec Ideal S1024x1024 .bf16) (ix2 a b) = X0 m c (ix2 ⟨t.val % 4 * 1024 + a.val, by omega⟩ b) := by
  obtain ⟨i, -, -, -⟩ := idx t
  blk_ext [iblk, V, i]

theorem blk1 (c : Dev nD) (t : Fin cfg0.N) (a : Fin 1024) (b : Fin 2560) :
    (iblk m c 1 t : FVec Ideal S1024x2560 .bf16) (ix2 a b) = X2 m c (ix2 ⟨t.val % 4 * 1024 + a.val, by omega⟩ b) := by
  obtain ⟨-, i, -, -⟩ := idx t
  blk_ext [iblk, V, i]

theorem pay1 (x0 : FVec Ideal S1024x1024 .bf16) (x1 : FVec Ideal S1024x2560 .bf16) (a : Fin 1024) (b : Fin 2560) :
    k0_pay1 (F := Ideal) x0 x1 (ix2 a b) = ∑ k : Fin 1024, x0 (ix2 k a) * x1 (ix2 k b) := by
  pointwise [k0_pay1]

/-- What one point adds. -/
def part (c : Dev nD) (t : Fin cfg0.N) (a : Fin 1024) (b : Fin 2560) : EReal :=
  ∑ k : Fin 1024, X0 m c (ix2 ⟨t.val % 4 * 1024 + k.val, by omega⟩ a)
    * X2 m c (ix2 ⟨t.val % 4 * 1024 + k.val, by omega⟩ b)

theorem pay_blk (c : Dev nD) (t : Fin cfg0.N) (a : Fin 1024) (b : Fin 2560) :
    k0_pay1 (F := Ideal) (iblk m c 0 t) (iblk m c 1 t) (ix2 a b) = part m c t a b := by
  refine (pay1 _ _ a b).trans ?_
  simp only [blk0, blk1]
  rfl

theorem pay2 (x0 : FVec Ideal S1024x1024 .bf16) (x1 : FVec Ideal S1024x2560 .bf16) (a : Fin 1024) (b : Fin 2560) :
    k0_pay2 (F := Ideal) x0 x1 (ix2 a b) = k0_pay1 (F := Ideal) x0 x1 (ix2 a b) := by
  pointwise [k0_pay2]

theorem pay3 (x0 : FVec Ideal S1024x1024 .bf16) (x1 : FVec Ideal S1024x2560 .bf16) (A : FVec Ideal S1024x2560 .f32) (a : Fin 1024) (b : Fin 2560) :
    k0_pay3 (F := Ideal) x0 x1 A (ix2 a b) = A (ix2 a b) + k0_pay1 (F := Ideal) x0 x1 (ix2 a b) := by
  pointwise [k0_pay3]

theorem acc (c : Dev nD) (t : Fin cfg0.N) (hr : t.val % 4 = 3) (j : S1024x2560.Idx) :
    (outsAt0 m c t.val t.isLt).2 j = ∑ s : Fin 4, part m c ⟨4 * (t.val / 4) + s.val, Pipeline.run_point_lt_of_flush t hr s⟩ (j 0) (j 1) := by
  refine (Pipeline.eq_sum_fin_of_reset_step_apply_of_flush (fun n h => (outsAt0 m c n h).2) 4 (fun _ => 0)
    (fun t y => part m c t (y 0) (y 1))
    (fun t h j => by
      rw [outsAt0_A m c t h (by have := (idx t).2.2.2; omega) (by omega)]; frame_out
      idx_vars j
      exact (pay2 _ _ _ _).trans ((pay_blk m c t _ _).trans (zero_add _).symm))
    (fun t h j => by
      rcases (by have := (idx t).2.2.2; omega : t.val % 4 = 3 ∨ ¬ t.val % 4 = 3) with h2 | h2
      · rw [outsAt0_C m c t h (by omega) h2]; frame_out
        idx_vars j
        refine (pay3 _ _ _ _ _).trans ?_
        rw [pay_blk]
        simp only [read_unread_whole]
      · rw [outsAt0_B m c t h (by omega) h2]; frame_out
        idx_vars j
        refine (pay3 _ _ _ _ _).trans ?_
        rw [pay_blk]
        simp only [read_unread_whole]) t hr j).trans (zero_add _)

/-- What the last point of a run writes back is what it leaves in the accumulator. -/
theorem out (c : Dev nD) (t : Fin cfg0.N) (hr : t.val % 4 = 3) (a : Fin 1024) (b : Fin 2560) :
    (outsAt0 m c t.val t.isLt).1 (ix2 a b) = (outsAt0 m c t.val t.isLt).2 (ix2 a b) := by
  rw [outsAt0_C m c t (by omega) (by omega) (by omega)]; frame_out
  pointwise [k0_pay4]

theorem final (c : Dev nD) : (dats m 0 c).arrAt 2 cfg0.N = G (X0 m c) (X2 m c) := by
  refine (dats m 0 c).arrAt_eq_of_covers 2 _ (by decide +kernel) fun t hf y => ?_
  obtain ⟨-, -, i, ht⟩ := idx t
  have hr : t.val % 4 = 3 := (flush0_2 t).mp hf
  blk_simp
  rw [after0_2]
  idx_vars y
  have e : (win0_2.blk t).view.emb (ix2 y0 y1) = (ix2 y0 y1 : S1024x2560.Idx) := by
    blk_ext [i]
  rw [e]
  refine (out m c t hr y0 y1).trans ((acc m c t hr _).trans ?_)
  refine Fin.sum_mul_add_congr fun s k hl => ?_
  have e1 : (4 * (t.val / 4) + s.val) % 4 = s.val := by omega
  have e2 : (4 * (t.val / 4) + s.val) / 4 = t.val / 4 := by omega
  simp only [e1]

end Cert.LruDin

namespace Cert.LruDin

open Cert.Reference22Ideal Cert.Reference22Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y2 (c : Dev nD) : FVec Ideal S4096x2560 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v6) = G (Y0 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      exact Finset.sum_congr rfl fun k _ => mul_comm _ _), (h c).2⟩) (Value.run m ρ)

theorem algebraic : Cert.algebraic_Kernel22Ideal_Reference22Ideal (hKernel22Ideal := Cert.Kernel22Ideal.Gen.facts)
    (hReference22Ideal := Cert.Reference22Ideal.Gen.facts) := by
  intro m g m' g' _ hag
  refine ⟨fun c => G (X0 m c) (X2 m c), ?_, ?_⟩
  · exact (θ_run _ _ _).mono (fun _ h c => ⟨(h c).1.trans (final m c), (h c).2⟩) (Cert.Kernel22Ideal.Value.run_blocks m g)
  · refine (θ_run _ _ _).mono (fun _ h c => ⟨(h c).1.trans ?_, (h c).2⟩) (run_ref m' g')
    have e := hag c
    rw [show Y0 m' c = X0 m c from e.1, show Y2 m' c = X2 m c from e.2.2]

/-- The reference ends with its arguments unchanged; it declares no counter. -/
theorem frame_r : Cert.quiescent_Reference22Ideal (hReference22Ideal := Cert.Reference22Ideal.Gen.facts) := fun m ρ _ =>
  (θ_run _ _ _).mono (fun r h => ⟨fun c => (h c).2, sem_eq_zero_of_no_sems (by decide) r.2⟩) (run_ref m ρ)

end Cert.LruDin

end
-- ==== Proof.LruDhn.lean ====
/- The gradient of the recurrence's normalised input: kernel and reference leave the same array. -/
module

public import proofs.«01_k».proof.Proof.Gen.Kernel23Ideal.Value
public import proofs.«01_k».proof.Proof.Gen.Reference23Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LruDhn

open Cert.Kernel23Ideal Cert.Kernel23Ideal.Gen

variable (m : (ℓ : Loc nD τ sig) → Buf (Elt Ideal) ℓ)

theorem idx : ∀ t : Fin cfg0.N, win0_0.index t = ![t.val, 0]
    ∧ win0_1.index t = ![0, 0]
    ∧ win0_2.index t = ![t.val, 0] ∧ t.val < 2 :=
  (by decide +kernel : ∀ t : Fin grid0.N, _)

abbrev X1 (c : Dev nD) : FVec Ideal S1024x2560 .bf16 := m ((c : Thread nD τ).loc main_arg1)
abbrev X2 (c : Dev nD) : FVec Ideal S4096x2560 .bf16 := m ((c : Thread nD τ).loc main_arg2)

/-- The gradient of the recurrence's normalised input. -/
def G (A : FVec Ideal S4096x2560 .bf16) (B : FVec Ideal S1024x2560 .bf16) : FVec Ideal S4096x1024 .bf16 :=
  fun i => ∑ k : Fin 2560, A (ix2 (i 0) k) * B (ix2 (i 1) k)

theorem blk0 (c : Dev nD) (t : Fin cfg0.N) (a : Fin 2048) (b : Fin 2560) :
    (iblk m c 0 t : FVec Ideal S2048x2560 .bf16) (ix2 a b) = X2 m c (ix2 ⟨(t.val) * 2048 + a.val, by have := (idx t).2.2.2; omega⟩ b) := by
  obtain ⟨i, -, -, -⟩ := idx t
  blk_ext [iblk, V, i]

theorem blk1 (c : Dev nD) (t : Fin cfg0.N) (a : Fin 1024) (b : Fin 2560) :
    (iblk m c 1 t : FVec Ideal S1024x2560 .bf16) (ix2 a b) = X1 m c (ix2 a b) := by
  obtain ⟨-, i, -, -⟩ := idx t
  blk_ext [iblk, V, i]

theorem pay1 (x0 : FVec Ideal S2048x2560 .bf16) (x1 : FVec Ideal S1024x2560 .bf16) (a : Fin 2048) (b : Fin 1024) :
    k0_pay1 (F := Ideal) x0 x1 (ix2 a b) = ∑ k : Fin 2560, x0 (ix2 a k) * x1 (ix2 b k) := by
  pointwise [k0_pay1]

theorem final (c : Dev nD) : (dats m 0 c).arrAt 2 cfg0.N = G (X2 m c) (X1 m c) := by
  refine (dats m 0 c).arrAt_eq_of_covers 2 _ (by decide +kernel) fun t hf y => ?_
  obtain ⟨-, -, i, ht⟩ := idx t
  blk_simp
  rw [after0_2]
  idx_vars y
  rw [out0_2]
  frame_out
  refine (pay1 _ _ y0 y1).trans ?_
  have e : ((View.whole main_v0).slice (win0_2.rect t)).emb (ix2 y0 y1) = (ix2 (⟨(t.val) * 2048 + y0.val, by have := (idx t).2.2.2; omega⟩ : Fin 4096) y1 : S4096x1024.Idx) := by
    blk_ext [i]
  rw [e, G]
  simp only [blk0, blk1]
  rfl

end Cert.LruDhn

namespace Cert.LruDhn

open Cert.Reference23Ideal Cert.Reference23Ideal.Gen

variable (m : (ℓ : Loc nD τ sig) → Buf (Elt Ideal) ℓ) (ρ : Dev nD → PrngReg)

abbrev Y1 (c : Dev nD) : FVec Ideal S1024x2560 .bf16 := m ((c.tc : Thread nD τ).loc main_arg1)
abbrev Y2 (c : Dev nD) : FVec Ideal S4096x2560 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v5) = G (Y2 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      rfl), (h c).2⟩) (Value.run m ρ)

theorem algebraic : Cert.algebraic_Kernel23Ideal_Reference23Ideal (hKernel23Ideal := Cert.Kernel23Ideal.Gen.facts)
    (hReference23Ideal := Cert.Reference23Ideal.Gen.facts) := by
  intro m g m' g' _ hag
  refine ⟨fun c => G (X2 m c) (X1 m c), ?_, ?_⟩
  · exact (θ_run _ _ _).mono (fun _ h c => ⟨(h c).1.trans (final m c), (h c).2⟩) (Cert.Kernel23Ideal.Value.run_blocks m g)
  · refine (θ_run _ _ _).mono (fun _ h c => ⟨(h c).1.trans ?_, (h c).2⟩) (run_ref m' g')
    have e := hag c
    rw [show Y1 m' c = X1 m c from e.2.1, show Y2 m' c = X2 m c from e.2.2]

/-- The reference ends with its arguments unchanged; it declares no counter. -/
theorem frame_r : Cert.quiescent_Reference23Ideal (hReference23Ideal := Cert.Reference23Ideal.Gen.facts) := fun m ρ _ =>
  (θ_run _ _ _).mono (fun r h => ⟨fun c => (h c).2, sem_eq_zero_of_no_sems (by decide) r.2⟩) (run_ref m ρ)

end Cert.LruDhn

end
-- ==== Proof.PleProj.lean ====
/- The product of the per-layer values: kernel and reference leave the same array. -/
module

public import proofs.«01_k».proof.Proof.Gen.Kernel24Ideal.Value
public import proofs.«01_k».proof.Proof.Gen.Reference24Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.PleProj

open Cert.Kernel24Ideal Cert.Kernel24Ideal.Gen

variable (m : (ℓ : Loc nD τ sig) → Buf (Elt Ideal) ℓ)

theorem idx : ∀ t : Fin cfg0.N, win0_0.index t = ![0, 0]
    ∧ win0_1.index t = ![0, 0]
    ∧ win0_2.index t = ![0, 0] ∧ t.val < 1 :=
  (by decide +kernel : ∀ t : Fin grid0.N, _)

abbrev X0 (c : Dev nD) : FVec Ideal S4096x256 .f32 := m ((c : Thread nD τ).loc main_arg0)
abbrev X1 (c : Dev nD) : FVec Ideal S256x1024 .bf16 := m ((c : Thread nD τ).loc main_arg1)

/-- The product of the per-layer values. -/
def G (A : FVec Ideal S4096x256 .f32) (B : FVec Ideal S256x1024 .bf16) : FVec Ideal S4096x1024 .bf16 :=
  fun i => ∑ k : Fin 256, A (ix2 (i 0) k) * B (ix2 k (i 1))

theorem blk0 (c : Dev nD) (t : Fin cfg0.N) (a : Fin 4096) (b : Fin 256) :
    (iblk m c 0 t : FVec Ideal S4096x256 .f32) (ix2 a b) = X0 m c (ix2 a b) := by
  obtain ⟨i, -, -, -⟩ := idx t
  blk_ext [iblk, V, i]

theorem blk1 (c : Dev nD) (t : Fin cfg0.N) (a : Fin 256) (b : Fin 1024) :
    (iblk m c 1 t : FVec Ideal S256x1024 .bf16) (ix2 a b) = X1 m c (ix2 a b) := by
  obtain ⟨-, i, -, -⟩ := idx t
  blk_ext [iblk, V, i]

theorem pay1 (x0 : FVec Ideal S4096x256 .f32) (x1 : FVec Ideal S256x1024 .bf16) (a : Fin 4096) (b : Fin 1024) :
    k0_pay1 (F := Ideal) x0 x1 (ix2 a b) = ∑ k : Fin 256, x0 (ix2 a k) * x1 (ix2 k b) := by
  pointwise [k0_pay1]

theorem final (c : Dev nD) : (dats m 0 c).arrAt 2 cfg0.N = G (X0 m c) (X1 m c) := by
  refine (dats m 0 c).arrAt_eq_of_covers 2 _ (by decide +kernel) fun t hf y => ?_
  obtain ⟨-, -, i, ht⟩ := idx t
  blk_simp
  rw [after0_2]
  idx_vars y
  rw [out0_2]
  frame_out
  refine (pay1 _ _ y0 y1).trans ?_
  have e : ((View.whole main_v0).slice (win0_2.rect t)).emb (ix2 y0 y1) = (ix2 y0 y1 : S4096x1024.Idx) := by
    blk_ext [i]
  rw [e, G]
  simp only [blk0, blk1]
  rfl

end Cert.PleProj

namespace Cert.PleProj

open Cert.Reference24Ideal Cert.Reference24Ideal.Gen

variable (m : (ℓ : Loc nD τ sig) → Buf (Elt Ideal) ℓ) (ρ : Dev nD → PrngReg)

abbrev Y0 (c : Dev nD) : FVec Ideal S4096x256 .f32 := m ((c.tc : Thread nD τ).loc main_arg0)
abbrev Y1 (c : Dev nD) : FVec Ideal S256x1024 .bf16 := m ((c.tc : Thread nD τ).loc main_arg1)

theorem run_ref : θ_run defs (onTc (τ := τ) (main (F := Ideal))) ⟨m, fun _ => 0, ρ⟩ fun r => ∀ c : Dev nD,
      r.2.mem ((c.tc : Thread nD τ).loc main_v2) = G (Y0 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => by
      clear h
      idx_vars i
      clean_types
      pointwise
      rfl), (h c).2⟩) (Value.run m ρ)

theorem algebraic : Cert.algebraic_Kernel24Ideal_Reference24Ideal (hKernel24Ideal := Cert.Kernel24Ideal.Gen.facts)
    (hReference24Ideal := Cert.Reference24Ideal.Gen.facts) := by
  intro m g m' g' _ hag
  refine ⟨fun c => G (X0 m c) (X1 m c), ?_, ?_⟩
  · exact (θ_run _ _ _).mono (fun _ h c => ⟨(h c).1.trans (final m c), (h c).2⟩) (Cert.Kernel24Ideal.Value.run_blocks m g)
  · refine (θ_run _ _ _).mono (fun _ h c => ⟨(h c).1.trans ?_, (h c).2⟩) (run_ref m' g')
    have e := hag c
    rw [show Y0 m' c = X0 m c from e.1, show Y1 m' c = X1 m c from e.2]

/-- The reference ends with its arguments unchanged; it declares no counter. -/
theorem frame_r : Cert.quiescent_Reference24Ideal (hReference24Ideal := Cert.Reference24Ideal.Gen.facts) := fun m ρ _ =>
  (θ_run _ _ _).mono (fun r h => ⟨fun c => (h c).2, sem_eq_zero_of_no_sems (by decide) r.2⟩) (run_ref m ρ)

end Cert.PleProj

end
-- ==== Proof.PleGate.lean ====
/- The gate of the per-layer values and what it adds to the stream: kernel and reference leave the same arrays. -/
module

public import proofs.«01_k».proof.Proof.Gen.Kernel25Ideal.Value
public import proofs.«01_k».proof.Proof.Gen.Reference25Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.PleGate

open Cert.Kernel25Ideal Cert.Kernel25Ideal.Gen

variable (m : (ℓ : Loc nD τ sig) → Buf (Elt Ideal) ℓ)

theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2]
    ∧ win0_4.index t = ![t.val / 2, t.val % 2]
    ∧ win0_5.index t = ![t.val / 2, t.val % 2] ∧ t.val < 4 :=
  (by decide +kernel : ∀ t : Fin grid0.N, _)

abbrev X0 (c : Dev nD) : FVec Ideal S4096x1024 .bf16 := m ((c : Thread nD τ).loc main_arg0)
abbrev X1 (c : Dev nD) : FVec Ideal S1024x1024 .bf16 := m ((c : Thread nD τ).loc main_arg1)
abbrev X2 (c : Dev nD) : FVec Ideal S4096x1024 .bf16 := m ((c : Thread nD τ).loc main_arg2)
abbrev X3 (c : Dev nD) : FVec Ideal S4096x1024 .f32 := m ((c : Thread nD τ).loc main_arg3)

/-- The gate of the per-layer values and what it adds to the stream. -/
def G0 (A : FVec Ideal S4096x1024 .bf16) (B : FVec Ideal S1024x1024 .bf16) (E0 : FVec Ideal S4096x1024 .bf16) (E1 : FVec Ideal S4096x1024 .f32) : FVec Ideal S4096x1024 .f32 :=
  fun i => E1 i + Ideal.div 1 (1 + Ideal.exp (-(∑ k : Fin 1024, A (ix2 (i 0) k) * B (ix2 k (i 1))))) * E0 i

/-- The gate of the per-layer values and what it adds to the stream. -/
def G1 (A : FVec Ideal S4096x1024 .bf16) (B : FVec Ideal S1024x1024 .bf16) (E0 : FVec Ideal S4096x1024 .bf16) (E1 : FVec Ideal S4096x1024 .f32) : FVec Ideal S4096x1024 .bf16 :=
  fun i => Ideal.div 1 (1 + Ideal.exp (-(∑ k : Fin 1024, A (ix2 (i 0) k) * B (ix2 k (i 1)))))

theorem blk0 (c : Dev nD) (t : Fin cfg0.N) (a : Fin 2048) (b : Fin 1024) :
    (iblk m c 0 t : FVec Ideal S2048x1024 .bf16) (ix2 a b) = X0 m c (ix2 ⟨(t.val / 2) * 2048 + a.val, by have := (idx t).2.2.2.2.2.2; omega⟩ b) := by
  obtain ⟨i, -, -, -, -, -, -⟩ := idx t
  blk_ext [iblk, V, i]

theorem blk1 (c : Dev nD) (t : Fin cfg0.N) (a : Fin 1024) (b : Fin 512) :
    (iblk m c 1 t : FVec Ideal S1024x512 .bf16) (ix2 a b) = X1 m c (ix2 a ⟨(t.val % 2) * 512 + b.val, by have := (idx t).2.2.2.2.2.2; omega⟩) := by
  obtain ⟨-, i, -, -, -, -, -⟩ := idx t
  blk_ext [iblk, V, i]

theorem blk2 (c : Dev nD) (t : Fin cfg0.N) (a : Fin 2048) (b : Fin 512) :
    (iblk m c 2 t : FVec Ideal S2048x512 .bf16) (ix2 a b) = X2 m c (ix2 ⟨(t.val / 2) * 2048 + a.val, by have := (idx t).2.2.2.2.2.2; omega⟩ ⟨(t.val % 2) * 512 + b.val, by have := (idx t).2.2.2.2.2.2; omega⟩) := by
  obtain ⟨-, -, i, -, -, -, -⟩ := idx t
  blk_ext [iblk, V, i]

theorem blk3 (c : Dev nD) (t : Fin cfg0.N) (a : Fin 2048) (b : Fin 512) :
    (iblk m c 3 t : FVec Ideal S2048x512 .f32) (ix2 a b) = X3 m c (ix2 ⟨(t.val / 2) * 2048 + a.val, by have := (idx t).2.2.2.2.2.2; omega⟩ ⟨(t.val % 2) * 512 + b.val, by have := (idx t).2.2.2.2.2.2; omega⟩) := by
  obtain ⟨-, -, -, i, -, -, -⟩ := idx t
  blk_ext [iblk, V, i]

theorem pay1 (x0 : FVec Ideal S2048x1024 .bf16) (x1 : FVec Ideal S1024x512 .bf16) (a : Fin 2048) (b : Fin 512) :
    k0_pay1 (F := Ideal) x0 x1 (ix2 a b) = ∑ k : Fin 1024, x0 (ix2 a k) * x1 (ix2 k b) := by
  pointwise [k0_pay1]

theorem pay2 (x0 : FVec Ideal S2048x1024 .bf16) (x1 : FVec Ideal S1024x512 .bf16) (x2 : FVec Ideal S2048x512 .bf16) (x3 : FVec Ideal S2048x512 .f32) (a : Fin 2048) (b : Fin 512) :
    k0_pay2 (F := Ideal) x0 x1 x2 x3 (ix2 a b) = x3 (ix2 a b) + Ideal.div 1 (1 + Ideal.exp (-(∑ k : Fin 1024, x0 (ix2 a k) * x1 (ix2 k b)))) * x2 (ix2 a b) := by
  pointwise [k0_pay2]
  rw [zero_sub, pay1]

theorem pay3 (x0 : FVec Ideal S2048x1024 .bf16) (x1 : FVec Ideal S1024x512 .bf16) (a : Fin 2048) (b : Fin 512) :
    k0_pay3 (F := Ideal) x0 x1 (ix2 a b) = Ideal.div 1 (1 + Ideal.exp (-(∑ k : Fin 1024, x0 (ix2 a k) * x1 (ix2 k b)))) := by
  pointwise [k0_pay3]
  rw [zero_sub, pay1]

theorem final0 (c : Dev nD) : (dats m 0 c).arrAt 4 cfg0.N = G0 (X0 m c) (X1 m c) (X2 m c) (X3 m c) := by
  refine (dats m 0 c).arrAt_eq_of_covers 4 _ (by decide +kernel) fun t hf y => ?_
  obtain ⟨-, -, -, -, i, -, ht⟩ := idx t
  blk_simp
  rw [after0_4]
  idx_vars y
  rw [out0_4]
  frame_out
  refine (pay2 _ _ _ _ y0 y1).trans ?_
  have e : ((View.whole main_v0_0).slice (win0_4.rect t)).emb (ix2 y0 y1) = (ix2 (⟨(t.val / 2) * 2048 + y0.val, by have := (idx t).2.2.2.2.2.2; omega⟩ : Fin 4096) (⟨(t.val % 2) * 512 + y1.val, by have := (idx t).2.2.2.2.2.2; omega⟩ : Fin 1024) : S4096x1024.Idx) := by
    blk_ext [i]
  rw [e, G0]
  simp only [blk0, blk1, blk2, blk3]
  rfl

theorem final1 (c : Dev nD) : (dats m 0 c).arrAt 5 cfg0.N = G1 (X0 m c) (X1 m c) (X2 m c) (X3 m c) := by
  refine (dats m 0 c).arrAt_eq_of_covers 5 _ (by decide +kernel) fun t hf y => ?_
  obtain ⟨-, -, -, -, -, i, ht⟩ := idx t
  blk_simp
  rw [after0_5]
  idx_vars y
  rw [out0_5]
  frame_out
  refine (pay3 _ _ y0 y1).trans ?_
  have e : ((View.whole main_v0_1).slice (win0_5.rect t)).emb (ix2 y0 y1) = (ix2 (⟨(t.val / 2) * 2048 + y0.val, by have := (idx t).2.2.2.2.2.2; omega⟩ : Fin 4096) (⟨(t.val % 2) * 512 + y1.val, by have := (idx t).2.2.2.2.2.2; omega⟩ : Fin 1024) : S4096x1024.Idx) := by
    blk_ext [i]
  rw [e, G1]
  simp only [blk0, blk1]
  rfl

end Cert.PleGate

namespace Cert.PleGate

open Cert.Reference25Ideal Cert.Reference25Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y1 (c : Dev nD) : FVec Ideal S1024x1024 .bf16 := m ((c.tc : Thread nD τ).loc main_arg1)
abbrev Y2 (c : Dev nD) : FVec Ideal S4096x1024 .bf16 := m ((c.tc : Thread nD τ).loc main_arg2)
abbrev Y3 (c : Dev nD) : FVec Ideal S4096x1024 .f32 := m ((c.tc : Thread nD τ).loc main_arg3)

theorem run_ref : θ_run defs (onTc (τ := τ) (main (F := Ideal))) ⟨m, fun _ => 0, ρ⟩ fun r => ∀ c : Dev nD,
      r.2.mem ((c.tc : Thread nD τ).loc main_v11) = G0 (Y0 m c) (Y1 m c) (Y2 m c) (Y3 m c)
      ∧ r.2.mem ((c.tc : Thread nD τ).loc main_v12) = G1 (Y0 m c) (Y1 m c) (Y2 m c) (Y3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun i => by
      clear h
      idx_vars i
      clean_types
      pointwise
      rfl), (h c).2.1.trans (funext fun i => by
      clear h
      idx_vars i
      clean_types
      pointwise
      rfl), (h c).2.2⟩) (Value.run m ρ)

theorem algebraic : Cert.algebraic_Kernel25Ideal_Reference25Ideal (hKernel25Ideal := Cert.Kernel25Ideal.Gen.facts)
    (hReference25Ideal := Cert.Reference25Ideal.Gen.facts) := by
  intro m g m' g' _ hag
  refine ⟨fun c => G0 (X0 m c) (X1 m c) (X2 m c) (X3 m c), fun c => G1 (X0 m c) (X1 m c) (X2 m c) (X3 m c), ?_, ?_⟩
  · exact (θ_run _ _ _).mono (fun _ h c => ⟨(h c).1.trans (final0 m c), (h c).2.1.trans (final1 m c), (h c).2.2⟩) (Cert.Kernel25Ideal.Value.run_blocks m g)
  · refine (θ_run _ _ _).mono (fun _ h c => ⟨(h c).1.trans ?_, (h c).2.1.trans ?_, (h c).2.2⟩) (run_ref m' g')
    all_goals
      have e := hag c
      rw [show Y0 m' c = X0 m c from e.1, show Y1 m' c = X1 m c from e.2.1, show Y2 m' c = X2 m c from e.2.2.1, show Y3 m' c = X3 m c from e.2.2.2]

/-- The reference ends with its arguments unchanged; it declares no counter. -/
theorem frame_r : Cert.quiescent_Reference25Ideal (hReference25Ideal := Cert.Reference25Ideal.Gen.facts) := fun m ρ _ =>
  (θ_run _ _ _).mono (fun r h => ⟨fun c => (h c).2.2, sem_eq_zero_of_no_sems (by decide) r.2⟩) (run_ref m ρ)

end Cert.PleGate

end
-- ==== Proof.PleDproj.lean ====
/- The gradient of the weights of the per-layer values: kernel and reference leave the same array. -/
module

public import proofs.«01_k».proof.Proof.Gen.Kernel26Ideal.Value
public import proofs.«01_k».proof.Proof.Gen.Reference26Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.PleDproj

open Cert.Kernel26Ideal Cert.Kernel26Ideal.Gen

variable (m : (ℓ : Loc nD τ sig) → Buf (Elt Ideal) ℓ)

theorem idx : ∀ t : Fin cfg0.N, win0_0.index t = ![0, 0]
    ∧ win0_1.index t = ![0, 0]
    ∧ win0_2.index t = ![0, 0] ∧ t.val < 1 :=
  (by decide +kernel : ∀ t : Fin grid0.N, _)

abbrev X0 (c : Dev nD) : FVec Ideal S4096x256 .f32 := m ((c : Thread nD τ).loc main_arg0)
abbrev X2 (c : Dev nD) : FVec Ideal S4096x1024 .bf16 := m ((c : Thread nD τ).loc main_arg2)

/-- The gradient of the weights of the per-layer values. -/
def G (A : FVec Ideal S4096x256 .f32) (B : FVec Ideal S4096x1024 .bf16) : FVec Ideal S256x1024 .bf16 :=
  fun i => ∑ k : Fin 4096, A (ix2 k (i 0)) * B (ix2 k (i 1))

theorem blk0 (c : Dev nD) (t : Fin cfg0.N) (a : Fin 4096) (b : Fin 256) :
    (iblk m c 0 t : FVec Ideal S4096x256 .f32) (ix2 a b) = X0 m c (ix2 a b) := by
  obtain ⟨i, -, -, -⟩ := idx t
  blk_ext [iblk, V, i]

theorem blk1 (c : Dev nD) (t : Fin cfg0.N) (a : Fin 4096) (b : Fin 1024) :
    (iblk m c 1 t : FVec Ideal S4096x1024 .bf16) (ix2 a b) = X2 m c (ix2 a b) := by
  obtain ⟨-, i, -, -⟩ := idx t
  blk_ext [iblk, V, i]

theorem pay1 (x0 : FVec Ideal S4096x256 .f32) (x1 : FVec Ideal S4096x1024 .bf16) (a : Fin 256) (b : Fin 1024) :
    k0_pay1 (F := Ideal) x0 x1 (ix2 a b) = ∑ k : Fin 4096, x0 (ix2 k a) * x1 (ix2 k b) := by
  pointwise [k0_pay1]

theorem final (c : Dev nD) : (dats m 0 c).arrAt 2 cfg0.N = G (X0 m c) (X2 m c) := by
  refine (dats m 0 c).arrAt_eq_of_covers 2 _ (by decide +kernel) fun t hf y => ?_
  obtain ⟨-, -, i, ht⟩ := idx t
  blk_simp
  rw [after0_2]
  idx_vars y
  rw [out0_2]
  frame_out
  refine (pay1 _ _ y0 y1).trans ?_
  have e : ((View.whole main_v0).slice (win0_2.rect t)).emb (ix2 y0 y1) = (ix2 y0 y1 : S256x1024.Idx) := by
    blk_ext [i]
  rw [e, G]
  simp only [blk0, blk1]
  rfl

end Cert.PleDproj

namespace Cert.PleDproj

open Cert.Reference26Ideal Cert.Reference26Ideal.Gen

variable (m : (ℓ : Loc nD τ sig) → Buf (Elt Ideal) ℓ) (ρ : Dev nD → PrngReg)

abbrev Y0 (c : Dev nD) : FVec Ideal S4096x256 .f32 := m ((c.tc : Thread nD τ).loc main_arg0)
abbrev Y2 (c : Dev nD) : FVec Ideal S4096x1024 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v5) = G (Y0 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      exact Finset.sum_congr rfl fun k _ => mul_comm _ _), (h c).2⟩) (Value.run m ρ)

theorem algebraic : Cert.algebraic_Kernel26Ideal_Reference26Ideal (hKernel26Ideal := Cert.Kernel26Ideal.Gen.facts)
    (hReference26Ideal := Cert.Reference26Ideal.Gen.facts) := by
  intro m g m' g' _ hag
  refine ⟨fun c => G (X0 m c) (X2 m c), ?_, ?_⟩
  · exact (θ_run _ _ _).mono (fun _ h c => ⟨(h c).1.trans (final m c), (h c).2⟩) (Cert.Kernel26Ideal.Value.run_blocks m g)
  · refine (θ_run _ _ _).mono (fun _ h c => ⟨(h c).1.trans ?_, (h c).2⟩) (run_ref m' g')
    have e := hag c
    rw [show Y0 m' c = X0 m c from e.1, show Y2 m' c = X2 m c from e.2.2]

/-- The reference ends with its arguments unchanged; it declares no counter. -/
theorem frame_r : Cert.quiescent_Reference26Ideal (hReference26Ideal := Cert.Reference26Ideal.Gen.facts) := fun m ρ _ =>
  (θ_run _ _ _).mono (fun r h => ⟨fun c => (h c).2, sem_eq_zero_of_no_sems (by decide) r.2⟩) (run_ref m ρ)

end Cert.PleDproj

end
-- ==== Proof.PleDgate.lean ====
/- The gradient of the gate's weights: kernel and reference leave the same array. -/
module

public import proofs.«01_k».proof.Proof.Gen.Kernel27Ideal.Value
public import proofs.«01_k».proof.Proof.Gen.Reference27Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.PleDgate

open Cert.Kernel27Ideal Cert.Kernel27Ideal.Gen

variable (m : (ℓ : Loc nD τ sig) → Buf (Elt Ideal) ℓ)

theorem idx : ∀ t : Fin cfg0.N, win0_0.index t = ![0, 0]
    ∧ win0_1.index t = ![0, 0]
    ∧ win0_2.index t = ![0, 0] ∧ t.val < 1 :=
  (by decide +kernel : ∀ t : Fin grid0.N, _)

abbrev X0 (c : Dev nD) : FVec Ideal S4096x1024 .bf16 := m ((c : Thread nD τ).loc main_arg0)
abbrev X2 (c : Dev nD) : FVec Ideal S4096x1024 .bf16 := m ((c : Thread nD τ).loc main_arg2)

/-- The gradient of the gate's weights. -/
def G (A : FVec Ideal S4096x1024 .bf16) (B : FVec Ideal S4096x1024 .bf16) : FVec Ideal S1024x1024 .bf16 :=
  fun i => ∑ k : Fin 4096, A (ix2 k (i 0)) * B (ix2 k (i 1))

theorem blk0 (c : Dev nD) (t : Fin cfg0.N) (a : Fin 4096) (b : Fin 1024) :
    (iblk m c 0 t : FVec Ideal S4096x1024 .bf16) (ix2 a b) = X0 m c (ix2 a b) := by
  obtain ⟨i, -, -, -⟩ := idx t
  blk_ext [iblk, V, i]

theorem blk1 (c : Dev nD) (t : Fin cfg0.N) (a : Fin 4096) (b : Fin 1024) :
    (iblk m c 1 t : FVec Ideal S4096x1024 .bf16) (ix2 a b) = X2 m c (ix2 a b) := by
  obtain ⟨-, i, -, -⟩ := idx t
  blk_ext [iblk, V, i]

theorem pay1 (x0 : FVec Ideal S4096x1024 .bf16) (x1 : FVec Ideal S4096x1024 .bf16) (a : Fin 1024) (b : Fin 1024) :
    k0_pay1 (F := Ideal) x0 x1 (ix2 a b) = ∑ k : Fin 4096, x0 (ix2 k a) * x1 (ix2 k b) := by
  pointwise [k0_pay1]

theorem final (c : Dev nD) : (dats m 0 c).arrAt 2 cfg0.N = G (X0 m c) (X2 m c) := by
  refine (dats m 0 c).arrAt_eq_of_covers 2 _ (by decide +kernel) fun t hf y => ?_
  obtain ⟨-, -, i, ht⟩ := idx t
  blk_simp
  rw [after0_2]
  idx_vars y
  rw [out0_2]
  frame_out
  refine (pay1 _ _ y0 y1).trans ?_
  have e : ((View.whole main_v0).slice (win0_2.rect t)).emb (ix2 y0 y1) = (ix2 y0 y1 : S1024x1024.Idx) := by
    blk_ext [i]
  rw [e, G]
  simp only [blk0, blk1]
  rfl

end Cert.PleDgate

namespace Cert.PleDgate

open Cert.Reference27Ideal Cert.Reference27Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y2 (c : Dev nD) : FVec Ideal S4096x1024 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v6) = G (Y0 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      exact Finset.sum_congr rfl fun k _ => mul_comm _ _), (h c).2⟩) (Value.run m ρ)

theorem algebraic : Cert.algebraic_Kernel27Ideal_Reference27Ideal (hKernel27Ideal := Cert.Kernel27Ideal.Gen.facts)
    (hReference27Ideal := Cert.Reference27Ideal.Gen.facts) := by
  intro m g m' g' _ hag
  refine ⟨fun c => G (X0 m c) (X2 m c), ?_, ?_⟩
  · exact (θ_run _ _ _).mono (fun _ h c => ⟨(h c).1.trans (final m c), (h c).2⟩) (Cert.Kernel27Ideal.Value.run_blocks m g)
  · refine (θ_run _ _ _).mono (fun _ h c => ⟨(h c).1.trans ?_, (h c).2⟩) (run_ref m' g')
    have e := hag c
    rw [show Y0 m' c = X0 m c from e.1, show Y2 m' c = X2 m c from e.2.2]

/-- The reference ends with its arguments unchanged; it declares no counter. -/
theorem frame_r : Cert.quiescent_Reference27Ideal (hReference27Ideal := Cert.Reference27Ideal.Gen.facts) := fun m ρ _ =>
  (θ_run _ _ _).mono (fun r h => ⟨fun c => (h c).2, sem_eq_zero_of_no_sems (by decide) r.2⟩) (run_ref m ρ)

end Cert.PleDgate

end
-- ==== Proof.PleDhp.lean ====
/- The gradient of the gate's normalised input: kernel and reference leave the same array. -/
module

public import proofs.«01_k».proof.Proof.Gen.Kernel28Ideal.Value
public import proofs.«01_k».proof.Proof.Gen.Reference28Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.PleDhp

open Cert.Kernel28Ideal Cert.Kernel28Ideal.Gen

variable (m : (ℓ : Loc nD τ sig) → Buf (Elt Ideal) ℓ)

theorem idx : ∀ t : Fin cfg0.N, win0_0.index t = ![t.val, 0]
    ∧ win0_1.index t = ![0, 0]
    ∧ win0_2.index t = ![t.val, 0] ∧ t.val < 2 :=
  (by decide +kernel : ∀ t : Fin grid0.N, _)

abbrev X1 (c : Dev nD) : FVec Ideal S1024x1024 .bf16 := m ((c : Thread nD τ).loc main_arg1)
abbrev X2 (c : Dev nD) : FVec Ideal S4096x1024 .bf16 := m ((c : Thread nD τ).loc main_arg2)

/-- The gradient of the gate's normalised input. -/
def G (A : FVec Ideal S4096x1024 .bf16) (B : FVec Ideal S1024x1024 .bf16) : FVec Ideal S4096x1024 .bf16 :=
  fun i => ∑ k : Fin 1024, A (ix2 (i 0) k) * B (ix2 (i 1) k)

theorem blk0 (c : Dev nD) (t : Fin cfg0.N) (a : Fin 2048) (b : Fin 1024) :
    (iblk m c 0 t : FVec Ideal S2048x1024 .bf16) (ix2 a b) = X2 m c (ix2 ⟨(t.val) * 2048 + a.val, by have := (idx t).2.2.2; omega⟩ b) := by
  obtain ⟨i, -, -, -⟩ := idx t
  blk_ext [iblk, V, i]

theorem blk1 (c : Dev nD) (t : Fin cfg0.N) (a : Fin 1024) (b : Fin 1024) :
    (iblk m c 1 t : FVec Ideal S1024x1024 .bf16) (ix2 a b) = X1 m c (ix2 a b) := by
  obtain ⟨-, i, -, -⟩ := idx t
  blk_ext [iblk, V, i]

theorem pay1 (x0 : FVec Ideal S2048x1024 .bf16) (x1 : FVec Ideal S1024x1024 .bf16) (a : Fin 2048) (b : Fin 1024) :
    k0_pay1 (F := Ideal) x0 x1 (ix2 a b) = ∑ k : Fin 1024, x0 (ix2 a k) * x1 (ix2 b k) := by
  pointwise [k0_pay1]

theorem final (c : Dev nD) : (dats m 0 c).arrAt 2 cfg0.N = G (X2 m c) (X1 m c) := by
  refine (dats m 0 c).arrAt_eq_of_covers 2 _ (by decide +kernel) fun t hf y => ?_
  obtain ⟨-, -, i, ht⟩ := idx t
  blk_simp
  rw [after0_2]
  idx_vars y
  rw [out0_2]
  frame_out
  refine (pay1 _ _ y0 y1).trans ?_
  have e : ((View.whole main_v0).slice (win0_2.rect t)).emb (ix2 y0 y1) = (ix2 (⟨(t.val) * 2048 + y0.val, by have := (idx t).2.2.2; omega⟩ : Fin 4096) y1 : S4096x1024.Idx) := by
    blk_ext [i]
  rw [e, G]
  simp only [blk0, blk1]
  rfl

end Cert.PleDhp

namespace Cert.PleDhp

open Cert.Reference28Ideal Cert.Reference28Ideal.Gen

variable (m : (ℓ : Loc nD τ sig) → Buf (Elt Ideal) ℓ) (ρ : Dev nD → PrngReg)

abbrev Y1 (c : Dev nD) : FVec Ideal S1024x1024 .bf16 := m ((c.tc : Thread nD τ).loc main_arg1)
abbrev Y2 (c : Dev nD) : FVec Ideal S4096x1024 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v5) = G (Y2 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      rfl), (h c).2⟩) (Value.run m ρ)

theorem algebraic : Cert.algebraic_Kernel28Ideal_Reference28Ideal (hKernel28Ideal := Cert.Kernel28Ideal.Gen.facts)
    (hReference28Ideal := Cert.Reference28Ideal.Gen.facts) := by
  intro m g m' g' _ hag
  refine ⟨fun c => G (X2 m c) (X1 m c), ?_, ?_⟩
  · exact (θ_run _ _ _).mono (fun _ h c => ⟨(h c).1.trans (final m c), (h c).2⟩) (Cert.Kernel28Ideal.Value.run_blocks m g)
  · refine (θ_run _ _ _).mono (fun _ h c => ⟨(h c).1.trans ?_, (h c).2⟩) (run_ref m' g')
    have e := hag c
    rw [show Y1 m' c = X1 m c from e.2.1, show Y2 m' c = X2 m c from e.2.2]

/-- The reference ends with its arguments unchanged; it declares no counter. -/
theorem frame_r : Cert.quiescent_Reference28Ideal (hReference28Ideal := Cert.Reference28Ideal.Gen.facts) := fun m ρ _ =>
  (θ_run _ _ _).mono (fun r h => ⟨fun c => (h c).2, sem_eq_zero_of_no_sems (by decide) r.2⟩) (run_ref m ρ)

end Cert.PleDhp

end
-- ==== Proof.AttnTile.lean ====
/- Tiles of the attention's column blocks, and what a chain of stored tiles leaves in a block. -/
module

public import proofs.«01_k».proof.Proof.Gen.Kernel29Ideal.Value
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.AttnBwd

open Cert.Kernel29Ideal Cert.Kernel29Ideal.Gen

/-- The square tile of `X` whose first entry is at row `r` and column `o`. -/
def tile (X : S256x2048.Idx → EReal) (r o : ℕ) : S128x128.Idx → EReal := fun j =>
  X (ix2 (⟨(r + (j 0).val) % 256, Nat.mod_lt _ (by decide)⟩ : Fin 256) (⟨(o + (j 1).val) % 2048, Nat.mod_lt _ (by decide)⟩ : Fin 2048))

/-- The place inside its own tile of an entry of the block. -/
def loc (y : S256x2048.Idx) : S128x128.Idx :=
  ix2 (⟨(y 0).val % 128, Nat.mod_lt _ (by decide)⟩ : Fin 128) (⟨(y 1).val % 128, Nat.mod_lt _ (by decide)⟩ : Fin 128)

theorem tile_rect (X : S256x2048.Idx → EReal) (r o : ℕ)
    (inb : ∀ a, (![r, o] : Fin 2 → ℕ) a + (S128x128.size : Fin 2 → ℕ) a ≤ S256x2048.size a) :
    (fun j => X ((Rect.unit (s := S256x2048) ![r, o] S128x128.size inb).toLoadRect.idx j)) = tile X r o := by
  funext j
  have h0 : r + 128 ≤ 256 := inb 0
  have h1 : o + 128 ≤ 2048 := inb 1
  have j0 : (j 0).val < 128 := (j 0).isLt
  have j1 : (j 1).val < 128 := (j 1).isLt
  unfold tile
  congr 1
  funext a
  apply Fin.ext
  fin_cases a
  · simp [LoadRect.idx_apply]; omega
  · simp [LoadRect.idx_apply]; omega

/-- The stored tile's entry where the tile covers, what was there before elsewhere. -/
theorem canon_at (r o p c : ℕ) (hr : r = 128 * p) (ho : o = 128 * c)
    (inb : ∀ a, (![r, o] : Fin 2 → ℕ) a + (S128x128.size : Fin 2 → ℕ) a ≤ S256x2048.size a)
    (w : S128x128.Idx → EReal) (L : List (View.Piece (Elt Ideal) S256x2048 .f32)) (y : S256x2048.Idx) :
    View.canon (⟨Rect.unit (s := S256x2048) ![r, o] S128x128.size inb, w⟩ :: L) y
      = if (y 0).val / 128 = p ∧ (y 1).val / 128 = c then w (loc y) else View.canon L y := by
  split
  · rename_i h
    have e : (Rect.unit (s := S256x2048) ![r, o] S128x128.size inb).emb (loc y) = y := by
      funext a
      apply Fin.ext
      fin_cases a
      · simp [loc]; omega
      · simp [loc]; omega
    conv_lhs => rw [← e]
    exact View.canon_cons_emb (Rect.unit (s := S256x2048) ![r, o] S128x128.size inb) w L (loc y)
  · rename_i h
    refine View.canon_cons_of_not_mem _ L fun hm => h ?_
    have g := (Rect.mem_set_unit (s := S256x2048) (off := ![r, o]) (size := S128x128.size) (inb := inb)).mp hm
    have g0 : r ≤ (y 0).val ∧ (y 0).val < r + 128 := g 0
    have g1 : o ≤ (y 1).val ∧ (y 1).val < o + 128 := g 1
    omega

theorem tile_loc (X : S256x2048.Idx → EReal) (r o p c : ℕ) (hr : r = 128 * p) (ho : o = 128 * c) (y : S256x2048.Idx)
    (h : (y 0).val / 128 = p ∧ (y 1).val / 128 = c) : tile X r o (loc y) = X y := by
  have y0 : (y 0).val < 256 := (y 0).isLt
  have y1 : (y 1).val < 2048 := (y 1).isLt
  unfold tile
  congr 1
  funext a
  apply Fin.ext
  fin_cases a
  · simp [loc]; omega
  · simp [loc]; omega

/-- A tile stored as what was there plus `A` adds `A` on the tile and nothing elsewhere. -/
theorem canon_add (r o p c : ℕ) (hr : r = 128 * p) (ho : o = 128 * c)
    (inb : ∀ a, (![r, o] : Fin 2 → ℕ) a + (S128x128.size : Fin 2 → ℕ) a ≤ S256x2048.size a)
    (w A : S128x128.Idx → EReal) (L : List (View.Piece (Elt Ideal) S256x2048 .f32))
    (hw : ∀ x, w x = tile (View.canon L) r o x + A x) (y : S256x2048.Idx) :
    View.canon (⟨Rect.unit (s := S256x2048) ![r, o] S128x128.size inb, w⟩ :: L) y
      = View.canon L y + if (y 0).val / 128 = p ∧ (y 1).val / 128 = c then A (loc y) else 0 := by
  rw [canon_at r o p c hr ho]
  split
  · rename_i h
    rw [hw, tile_loc _ r o p c hr ho y h]
  · rw [add_zero]

/-- An accumulated block by tiles: upper tiles add three products, lower ones one. -/
def accum (A1 A2 A3 A4 : ℕ → S128x128.Idx → EReal) (y : S256x2048.Idx) : EReal :=
  if (y 0).val / 128 = 0 then
    A1 (128 * ((y 1).val / 128)) (loc y) + A2 (128 * ((y 1).val / 128)) (loc y) + A3 (128 * ((y 1).val / 128)) (loc y)
  else A4 (128 * ((y 1).val / 128)) (loc y)

theorem accum_col (A1 A2 A3 A4 : ℕ → S128x128.Idx → EReal) (o c : ℕ) (ho : o = 128 * c)
    (i1 : ∀ a, (![0, o] : Fin 2 → ℕ) a + (S128x128.size : Fin 2 → ℕ) a ≤ S256x2048.size a)
    (i2 : ∀ a, (![0, o] : Fin 2 → ℕ) a + (S128x128.size : Fin 2 → ℕ) a ≤ S256x2048.size a)
    (i3 : ∀ a, (![0, o] : Fin 2 → ℕ) a + (S128x128.size : Fin 2 → ℕ) a ≤ S256x2048.size a)
    (i4 : ∀ a, (![128, o] : Fin 2 → ℕ) a + (S128x128.size : Fin 2 → ℕ) a ≤ S256x2048.size a)
    (w1 w2 w3 w4 : S128x128.Idx → EReal) (L : List (View.Piece (Elt Ideal) S256x2048 .f32))
    (I : ∀ y, View.canon L y = if (y 1).val / 128 < c then accum A1 A2 A3 A4 y else 0)
    (h1 : ∀ x, w1 x = tile (View.canon L) 0 o x + A1 o x)
    (h2 : ∀ x, w2 x = tile (View.canon (⟨Rect.unit (s := S256x2048) ![0, o] S128x128.size i1, w1⟩ :: L)) 0 o x + A2 o x)
    (h3 : ∀ x, w3 x = tile (View.canon (⟨Rect.unit (s := S256x2048) ![0, o] S128x128.size i2, w2⟩
        :: ⟨Rect.unit (s := S256x2048) ![0, o] S128x128.size i1, w1⟩ :: L)) 0 o x + A3 o x)
    (h4 : ∀ x, w4 x = tile (View.canon (⟨Rect.unit (s := S256x2048) ![0, o] S128x128.size i3, w3⟩
        :: ⟨Rect.unit (s := S256x2048) ![0, o] S128x128.size i2, w2⟩
        :: ⟨Rect.unit (s := S256x2048) ![0, o] S128x128.size i1, w1⟩ :: L)) 128 o x + A4 o x) :
    ∀ y, View.canon (⟨Rect.unit (s := S256x2048) ![128, o] S128x128.size i4, w4⟩
        :: ⟨Rect.unit (s := S256x2048) ![0, o] S128x128.size i3, w3⟩
        :: ⟨Rect.unit (s := S256x2048) ![0, o] S128x128.size i2, w2⟩
        :: ⟨Rect.unit (s := S256x2048) ![0, o] S128x128.size i1, w1⟩ :: L) y
      = if (y 1).val / 128 < c + 1 then accum A1 A2 A3 A4 y else 0 := by
  intro y
  rw [canon_add 128 o 1 c rfl ho i4 w4 (A4 o) _ h4, canon_add 0 o 0 c rfl ho i3 w3 (A3 o) _ h3,
    canon_add 0 o 0 c rfl ho i2 w2 (A2 o) _ h2, canon_add 0 o 0 c rfl ho i1 w1 (A1 o) _ h1, I]
  have y0 : (y 0).val < 256 := (y 0).isLt
  by_cases hc : (y 1).val / 128 = c
  · have e1 : ¬ (y 1).val / 128 < c := by omega
    have e2 : (y 1).val / 128 < c + 1 := by omega
    rw [if_neg e1, if_pos e2, accum, hc, ← ho]
    by_cases hp : (y 0).val / 128 = 0
    · have e3 : ¬ ((y 0).val / 128 = 1 ∧ c = c) := by omega
      rw [if_pos ⟨hp, rfl⟩, if_pos ⟨hp, rfl⟩, if_pos ⟨hp, rfl⟩, if_neg e3, if_pos hp, add_zero, zero_add]
    · have e3 : (y 0).val / 128 = 1 ∧ c = c := by omega
      have e4 : ¬ ((y 0).val / 128 = 0 ∧ c = c) := by omega
      rw [if_neg e4, if_neg e4, if_neg e4, if_pos e3, if_neg hp, add_zero, add_zero, add_zero, zero_add]
  · have e3 : ∀ p, ¬ ((y 0).val / 128 = p ∧ (y 1).val / 128 = c) := fun p h => hc h.2
    rw [if_neg (e3 0), if_neg (e3 0), if_neg (e3 0), if_neg (e3 1), add_zero, add_zero, add_zero, add_zero]
    by_cases hl : (y 1).val / 128 < c
    · rw [if_pos hl, if_pos (by omega)]
    · rw [if_neg hl, if_neg (by omega)]

theorem accum_chain (A1 A2 A3 A4 : ℕ → S128x128.Idx → EReal) (o c : ℕ) (ho : o = 128 * c)
    (i1 : ∀ a, (![0, o] : Fin 2 → ℕ) a + (S128x128.size : Fin 2 → ℕ) a ≤ S256x2048.size a)
    (i2 : ∀ a, (![0, o] : Fin 2 → ℕ) a + (S128x128.size : Fin 2 → ℕ) a ≤ S256x2048.size a)
    (i3 : ∀ a, (![0, o] : Fin 2 → ℕ) a + (S128x128.size : Fin 2 → ℕ) a ≤ S256x2048.size a)
    (i4 : ∀ a, (![128, o] : Fin 2 → ℕ) a + (S128x128.size : Fin 2 → ℕ) a ≤ S256x2048.size a)
    (w1 w2 w3 w4 : S128x128.Idx → EReal) (L0 L1 L2 L3 L4 : List (View.Piece (Elt Ideal) S256x2048 .f32))
    (e1 : L1 = ⟨Rect.unit (s := S256x2048) ![0, o] S128x128.size i1, w1⟩ :: L0) (e2 : L2 = ⟨Rect.unit (s := S256x2048) ![0, o] S128x128.size i2, w2⟩ :: L1)
    (e3 : L3 = ⟨Rect.unit (s := S256x2048) ![0, o] S128x128.size i3, w3⟩ :: L2) (e4 : L4 = ⟨Rect.unit (s := S256x2048) ![128, o] S128x128.size i4, w4⟩ :: L3)
    (I : ∀ y, View.canon L0 y = if (y 1).val / 128 < c then accum A1 A2 A3 A4 y else 0)
    (h1 : ∀ x, w1 x = tile (View.canon L0) 0 o x + A1 o x)
    (h2 : ∀ x, w2 x = tile (View.canon L1) 0 o x + A2 o x)
    (h3 : ∀ x, w3 x = tile (View.canon L2) 0 o x + A3 o x)
    (h4 : ∀ x, w4 x = tile (View.canon L3) 128 o x + A4 o x) :
    ∀ y, View.canon L4 y = if (y 1).val / 128 < c + 1 then accum A1 A2 A3 A4 y else 0 := by
  subst e1 e2 e3 e4
  exact accum_col A1 A2 A3 A4 o c ho i1 i2 i3 i4 w1 w2 w3 w4 L0 I h1 h2 h3 h4

/-- A block stored tile by tile: an upper and a lower tile in each column. -/
def pieced (B0 B1 : ℕ → S128x128.Idx → EReal) (y : S256x2048.Idx) : EReal :=
  if (y 0).val / 128 = 0 then B0 (128 * ((y 1).val / 128)) (loc y) else B1 (128 * ((y 1).val / 128)) (loc y)

theorem pieced_col (B0 B1 : ℕ → S128x128.Idx → EReal) (o c : ℕ) (ho : o = 128 * c)
    (i0 : ∀ a, (![0, o] : Fin 2 → ℕ) a + (S128x128.size : Fin 2 → ℕ) a ≤ S256x2048.size a)
    (i1 : ∀ a, (![128, o] : Fin 2 → ℕ) a + (S128x128.size : Fin 2 → ℕ) a ≤ S256x2048.size a)
    (w0 w1 : S128x128.Idx → EReal) (L : List (View.Piece (Elt Ideal) S256x2048 .f32))
    (I : ∀ y, (y 1).val / 128 < c → View.canon L y = pieced B0 B1 y)
    (h0 : w0 = B0 o) (h1 : w1 = B1 o) :
    ∀ y, (y 1).val / 128 < c + 1 → View.canon (⟨Rect.unit (s := S256x2048) ![128, o] S128x128.size i1, w1⟩
        :: ⟨Rect.unit (s := S256x2048) ![0, o] S128x128.size i0, w0⟩ :: L) y = pieced B0 B1 y := by
  intro y hy
  rw [canon_at 128 o 1 c rfl ho, canon_at 0 o 0 c rfl ho]
  have y0 : (y 0).val < 256 := (y 0).isLt
  by_cases hc : (y 1).val / 128 = c
  · rw [pieced, hc, ← ho]
    by_cases hp : (y 0).val / 128 = 0
    · have e3 : ¬ ((y 0).val / 128 = 1 ∧ c = c) := by omega
      rw [if_neg e3, if_pos ⟨hp, rfl⟩, if_pos hp, h0]
    · have e3 : (y 0).val / 128 = 1 ∧ c = c := by omega
      rw [if_pos e3, if_neg hp, h1]
  · have e3 : ∀ p, ¬ ((y 0).val / 128 = p ∧ (y 1).val / 128 = c) := fun p h => hc h.2
    rw [if_neg (e3 1), if_neg (e3 0)]
    exact I y (by omega)

theorem pieced_chain (B0 B1 : ℕ → S128x128.Idx → EReal) (o c : ℕ) (ho : o = 128 * c)
    (i0 : ∀ a, (![0, o] : Fin 2 → ℕ) a + (S128x128.size : Fin 2 → ℕ) a ≤ S256x2048.size a)
    (i1 : ∀ a, (![128, o] : Fin 2 → ℕ) a + (S128x128.size : Fin 2 → ℕ) a ≤ S256x2048.size a)
    (w0 w1 : S128x128.Idx → EReal) (L0 L2 : List (View.Piece (Elt Ideal) S256x2048 .f32))
    (e : L2 = ⟨Rect.unit (s := S256x2048) ![128, o] S128x128.size i1, w1⟩ :: ⟨Rect.unit (s := S256x2048) ![0, o] S128x128.size i0, w0⟩ :: L0)
    (h0 : w0 = B0 o) (h1 : w1 = B1 o)
    (I : ∀ y, (y 1).val / 128 < c → View.canon L0 y = pieced B0 B1 y) :
    ∀ y, (y 1).val / 128 < c + 1 → View.canon L2 y = pieced B0 B1 y := by
  subst e
  exact pieced_col B0 B1 o c ho i0 i1 w0 w1 L0 I h0 h1

end Cert.AttnBwd

end
-- ==== Proof.AttnPay.lean ====
/- One pair of row blocks of the attention's gradient: scores, probabilities and the four products. -/
module

public import proofs.«01_k».proof.Proof.AttnTile
public import Idealize.ShloMosaic.PureOps.Ideal.Laws

@[expose] public section

set_option maxRecDepth 16384

noncomputable section

open Idealize.ShloMosaic Idealize.ShloMosaic.TcCoe Idealize.SL.Sem

namespace Cert.AttnBwd

open Cert.Kernel29Ideal Cert.Kernel29Ideal.Gen

/-- The scores' scale. -/
def sg : EReal := Ideal.ofBits .f32 0x3DB504F3#32

abbrev Tile : Type := S128x128.Idx → EReal

/-- The score of query `i` against key `j`. -/
def sc (Q K : Tile) (i j : Fin 128) : EReal := (∑ d : Fin 128, Q (ix2 i d) * K (ix2 j d)) * sg

/-- The probability of a key of the query's own block. -/
def pc (Q K L : Tile) (i j : Fin 128) : EReal := Ideal.exp ((if j ≤ i then sc Q K i j else ⊥) - L (ix2 i j))

/-- The probability of a key of the block before. -/
def pp (Q K L : Tile) (i j : Fin 128) : EReal := Ideal.exp ((if i ≤ j then sc Q K i j else ⊥) - L (ix2 i j))

/-- What reaches the score. -/
def ds (P : Fin 128 → Fin 128 → EReal) (O V D : Tile) (i j : Fin 128) : EReal :=
  P i j * ((∑ d : Fin 128, O (ix2 i d) * V (ix2 j d)) - D (ix2 i j)) * sg

theorem mask_bot : (Named.named (F := Ideal) κ "mask" 0xF149F2CA#32 : Ideal .f32) = (⊥ : EReal) :=
  IdealRules.named_const.ideal_named_scalar _ _ _ _ rfl

theorem ge_iff : ∀ i j : Fin 128, IntOp.cmpi CmpIPredicate.sge (BitVec.ofNat 32 j.val) (BitVec.ofNat 32 i.val) = BitVec.ofBool (decide (i ≤ j)) := by
  decide +kernel

theorem le_iff : ∀ i j : Fin 128, IntOp.cmpi CmpIPredicate.sle (BitVec.ofNat 32 j.val) (BitVec.ofNat 32 i.val) = BitVec.ofBool (decide (j ≤ i)) := by
  decide +kernel

theorem sel {α : Type} (p : Prop) [Decidable p] (x y : α) : Scalar.select (BitVec.ofBool (decide p)) x y = if p then x else y := by
  by_cases h : p <;> simp [h, Scalar.select]

theorem pay9 (Q K : FVec Ideal S128x128 .bf16) (i j : Fin 128) : k0_pay9 (F := Ideal) Q K (ix2 i j) = sc Q K i j := by
  pointwise [k0_pay9, sc, sg]

theorem and_zero : ∀ x : BitVec 1, IntOp.andi x 0#1 = 0#1 := by decide

theorem and_one : ∀ x : BitVec 1, IntOp.andi x 1#1 = x := by decide

theorem pay10 (Q K : FVec Ideal S128x128 .bf16) (L : FVec Ideal S128x128 .f32) (i j : Fin 128) : k0_pay10 (F := Ideal) Q K L (ix2 i j) = ⊥ := by
  pointwise [k0_pay10, k0_pay3]
  rw [and_zero, mask_bot, Scalar.select, if_neg (by decide), sub_eq_add_neg, EReal.bot_add]

theorem pay25 (Q K : FVec Ideal S128x128 .bf16) (L : FVec Ideal S128x128 .f32) (i j : Fin 128) :
    k0_pay25 (F := Ideal) k0_pay3 Q K L (ix2 i j) = (if i ≤ j then sc Q K i j else ⊥) - L (ix2 i j) := by
  pointwise [k0_pay25, k0_pay3, k0_pay22]
  rw [and_one, mask_bot, ge_iff, sel]
  rfl

theorem pay12 (Q K : FVec Ideal S128x128 .bf16) (L : FVec Ideal S128x128 .f32) (i j : Fin 128) :
    k0_pay12 (F := Ideal) k0_pay4 (k0_pay7 L) (k0_pay9 Q K) (ix2 i j) = pc Q K L i j := by
  pointwise [k0_pay12, k0_pay4, k0_pay7]
  rw [mask_bot, le_iff, sel, pay9]
  rfl

theorem pay13 (O V : FVec Ideal S128x128 .bf16) (D S : FVec Ideal S128x128 .f32) (i j : Fin 128) :
    k0_pay13 (F := Ideal) O V (k0_pay8 D) S (ix2 i j) = ds (fun i j => Ideal.exp (S (ix2 i j))) O V D i j := by
  pointwise [k0_pay13, k0_pay8, k0_pay11, ds, sg]

theorem pay14 (Q K O V : FVec Ideal S128x128 .bf16) (L D : FVec Ideal S128x128 .f32) (i j : Fin 128) :
    k0_pay14 (F := Ideal) k0_pay4 O V (k0_pay7 L) (k0_pay8 D) (k0_pay9 Q K) (ix2 i j) = ds (pc Q K L) O V D i j := by
  unfold k0_pay14
  pointwise [k0_pay8, ds, sg]
  rw [pay12]

theorem ds_zero (O V D : Tile) (i j : Fin 128) : ds (fun _ _ => 0) O V D i j = 0 := by
  rw [ds, zero_mul, zero_mul]

/-- Before the first block there is nothing: the probabilities are zero. -/
theorem pay13_first (Q K O V : FVec Ideal S128x128 .bf16) (L D : FVec Ideal S128x128 .f32) (i j : Fin 128) :
    k0_pay13 (F := Ideal) O V (k0_pay8 D) (k0_pay10 Q K L) (ix2 i j) = 0 := by
  rw [pay13]
  simp only [pay10, Ideal.exp_bot]
  exact ds_zero O V D i j

theorem pay13_next (Q K O V : FVec Ideal S128x128 .bf16) (L D : FVec Ideal S128x128 .f32) (i j : Fin 128) :
    k0_pay13 (F := Ideal) O V (k0_pay8 D) (k0_pay25 k0_pay3 Q K L) (ix2 i j) = ds (pp Q K L) O V D i j := by
  rw [pay13]
  simp only [pay25]
  rfl

/-- Rows of `A` against the keys of a tile. -/
def rows (A : Fin 128 → Fin 128 → EReal) (K : Tile) : Tile := fun x => ∑ j : Fin 128, A (x 0) j * K (ix2 j (x 1))

/-- Columns of `A` against the queries of a tile. -/
def cols (A : Fin 128 → Fin 128 → EReal) (Q : Tile) : Tile := fun x => ∑ i : Fin 128, A i (x 0) * Q (ix2 i (x 1))

theorem pay15 (O KP KC VP VC Q : FVec Ideal S128x128 .bf16) (L D S : FVec Ideal S128x128 .f32) (i d : Fin 128) :
    k0_pay15 (F := Ideal) k0_pay4 O KP KC VP VC (k0_pay7 L) (k0_pay8 D) (k0_pay9 Q KC) S (ix2 i d)
      = (∑ j : Fin 128, k0_pay13 (F := Ideal) O VP (k0_pay8 D) S (ix2 i j) * KP (ix2 j d)) + ∑ j : Fin 128, ds (pc Q KC L) O VC D i j * KC (ix2 j d) := by
  unfold k0_pay15
  pointwise
  simp only [pay14]

theorem dq_first (O K V Q : FVec Ideal S128x128 .bf16) (L D : FVec Ideal S128x128 .f32) :
    k0_pay15 (F := Ideal) k0_pay4 O K K V V (k0_pay7 L) (k0_pay8 D) (k0_pay9 Q K) (k0_pay10 Q K L) = rows (ds (pc Q K L) O V D) K := by
  funext x
  idx_vars x
  rw [pay15]
  simp only [pay13_first, zero_mul, Finset.sum_const_zero, zero_add]
  rfl

theorem dq_next (O KP KC VP VC Q : FVec Ideal S128x128 .bf16) (L D : FVec Ideal S128x128 .f32) :
    k0_pay15 (F := Ideal) k0_pay4 O KP KC VP VC (k0_pay7 L) (k0_pay8 D) (k0_pay9 Q KC) (k0_pay25 k0_pay3 Q KP L)
      = fun x => rows (ds (pp Q KP L) O VP D) KP x + rows (ds (pc Q KC L) O VC D) KC x := by
  funext x
  idx_vars x
  rw [pay15]
  simp only [pay13_next]
  rfl

theorem dk_first (Q K O V : FVec Ideal S128x128 .bf16) (L D A : FVec Ideal S128x128 .f32) (x : S128x128.Idx) :
    k0_pay16 (F := Ideal) Q O V (k0_pay8 D) (k0_pay10 Q K L) A x = A x + 0 := by
  idx_vars x
  unfold k0_pay16
  pointwise
  simp only [pay13_first, zero_mul, Finset.sum_const_zero]
  exact add_zero _

theorem dk_next (Q K O V : FVec Ideal S128x128 .bf16) (L D A : FVec Ideal S128x128 .f32) (x : S128x128.Idx) :
    k0_pay16 (F := Ideal) Q O V (k0_pay8 D) (k0_pay25 k0_pay3 Q K L) A x = A x + cols (ds (pp Q K L) O V D) Q x := by
  idx_vars x
  unfold k0_pay16
  pointwise
  simp only [pay13_next]
  rfl

theorem dk_own (Q K O V : FVec Ideal S128x128 .bf16) (L D A : FVec Ideal S128x128 .f32) (x : S128x128.Idx) :
    k0_pay17 (F := Ideal) k0_pay4 Q O V (k0_pay7 L) (k0_pay8 D) (k0_pay9 Q K) A x = A x + cols (ds (pc Q K L) O V D) Q x := by
  idx_vars x
  unfold k0_pay17
  pointwise
  simp only [pay14]
  rfl

theorem dv_first (Q K O : FVec Ideal S128x128 .bf16) (L A : FVec Ideal S128x128 .f32) (x : S128x128.Idx) :
    k0_pay20 (F := Ideal) (k0_pay18 A) (k0_pay19 O (k0_pay10 Q K L)) x = A x + 0 := by
  idx_vars x
  pointwise [k0_pay20, k0_pay18, k0_pay19, k0_pay11]
  simp only [pay10, Ideal.exp_bot, zero_mul, Finset.sum_const_zero]
  exact add_zero _

theorem dv_next (Q K O : FVec Ideal S128x128 .bf16) (L A : FVec Ideal S128x128 .f32) (x : S128x128.Idx) :
    k0_pay20 (F := Ideal) (k0_pay18 A) (k0_pay19 O (k0_pay25 k0_pay3 Q K L)) x = A x + cols (pp Q K L) O x := by
  idx_vars x
  pointwise [k0_pay20, k0_pay18, k0_pay19, k0_pay11]
  simp only [pay25]
  rfl

theorem dv_own (Q K O : FVec Ideal S128x128 .bf16) (L A : FVec Ideal S128x128 .f32) (x : S128x128.Idx) :
    k0_pay21 (F := Ideal) O (k0_pay12 k0_pay4 (k0_pay7 L) (k0_pay9 Q K)) A x = A x + cols (pc Q K L) O x := by
  idx_vars x
  unfold k0_pay21
  pointwise
  simp only [pay12]
  rfl

end Cert.AttnBwd

end
-- ==== Proof.AttnSpec.lean ====
/- The attention's gradient of a whole array, by tiles. -/
module

public import proofs.«01_k».proof.Proof.AttnPay

@[expose] public section

noncomputable section

open Idealize.ShloMosaic Idealize.ShloMosaic.TcCoe Idealize.SL.Sem

namespace Cert.AttnBwd

abbrev Arr : Type := (⟨2, ![256, 16384]⟩ : Shape).Idx → EReal

abbrev Num : Type := (⟨2, ![256, 128]⟩ : Shape).Idx → EReal

/-- The tile of row block `b` and head `g`. -/
def tl (X : Arr) (b g : ℕ) : Tile := fun j =>
  X (ix2 (⟨(128 * b + (j 0).val) % 256, Nat.mod_lt _ (by decide)⟩ : Fin 256) (⟨(128 * g + (j 1).val) % 16384, Nat.mod_lt _ (by decide)⟩ : Fin 16384))

/-- The numbers of row block `b` and head `g`, the same in every column. -/
def nb (E : Num) (b g : ℕ) : Tile := fun j =>
  E (ix2 (⟨(128 * b + (j 0).val) % 256, Nat.mod_lt _ (by decide)⟩ : Fin 256) (⟨g % 128, Nat.mod_lt _ (by decide)⟩ : Fin 128))

/-- The probabilities of a block's own keys. -/
def aP (Q K : Arr) (E : Num) (b g : ℕ) : Fin 128 → Fin 128 → EReal := pc (tl Q b g) (tl K b g) (nb E b g)

/-- The probabilities of the second block's queries for the first block's keys. -/
def aM (Q K : Arr) (E : Num) (g : ℕ) : Fin 128 → Fin 128 → EReal := pp (tl Q 1 g) (tl K 0 g) (nb E 1 g)

def dP (Q K W O : Arr) (E D : Num) (b g : ℕ) : Fin 128 → Fin 128 → EReal := ds (aP Q K E b g) (tl O b g) (tl W b g) (nb D b g)

def dM' (Q K W O : Arr) (E D : Num) (g : ℕ) : Fin 128 → Fin 128 → EReal := ds (aM Q K E g) (tl O 1 g) (tl W 0 g) (nb D 1 g)

/-- The place inside its tile. -/
def pos (R : Fin 256) (C : Fin 16384) : (⟨2, ![128, 128]⟩ : Shape).Idx :=
  ix2 (⟨R.val % 128, Nat.mod_lt _ (by decide)⟩ : Fin 128) (⟨C.val % 128, Nat.mod_lt _ (by decide)⟩ : Fin 128)

/-- The queries' gradient. -/
def GQ (Q K W O : Arr) (E D : Num) : Arr := fun y =>
  if (y 0).val / 128 = 0 then rows (dP Q K W O E D 0 ((y 1).val / 128)) (tl K 0 ((y 1).val / 128)) (pos (y 0) (y 1))
  else rows (dM' Q K W O E D ((y 1).val / 128)) (tl K 0 ((y 1).val / 128)) (pos (y 0) (y 1))
    + rows (dP Q K W O E D 1 ((y 1).val / 128)) (tl K 1 ((y 1).val / 128)) (pos (y 0) (y 1))

/-- The keys' gradient. -/
def GK (Q K W O : Arr) (E D : Num) : Arr := fun y =>
  if (y 0).val / 128 = 0 then cols (dP Q K W O E D 0 ((y 1).val / 128)) (tl Q 0 ((y 1).val / 128)) (pos (y 0) (y 1))
    + cols (dM' Q K W O E D ((y 1).val / 128)) (tl Q 1 ((y 1).val / 128)) (pos (y 0) (y 1))
  else cols (dP Q K W O E D 1 ((y 1).val / 128)) (tl Q 1 ((y 1).val / 128)) (pos (y 0) (y 1))

/-- The values' gradient. -/
def GV (Q K O : Arr) (E : Num) : Arr := fun y =>
  if (y 0).val / 128 = 0 then cols (aP Q K E 0 ((y 1).val / 128)) (tl O 0 ((y 1).val / 128)) (pos (y 0) (y 1))
    + cols (aM Q K E ((y 1).val / 128)) (tl O 1 ((y 1).val / 128)) (pos (y 0) (y 1))
  else cols (aP Q K E 1 ((y 1).val / 128)) (tl O 1 ((y 1).val / 128)) (pos (y 0) (y 1))

end Cert.AttnBwd

end
-- ==== Proof.AttnBits.lean ====
/- Which key a query sees, by the words that say so. -/
module

public import Idealize.ShloMosaic.Lib.Pointwise

@[expose] public section

open Idealize.ShloMosaic

namespace Cert.AttnRef

theorem near_bits : ∀ (i : Fin 128) (j : Fin 256), IntOp.andi
      (IntOp.cmpi CmpIPredicate.sge (IntOp.subi (IntOp.addi (128#32) (BitVec.ofNat 32 i.val)) (BitVec.ofNat 32 j.val)) 0#32)
      (IntOp.cmpi CmpIPredicate.sle (IntOp.subi (IntOp.addi (128#32) (BitVec.ofNat 32 i.val)) (BitVec.ofNat 32 j.val)) 128#32)
    = BitVec.ofBool (decide (j.val ≤ 128 + i.val ∧ i.val ≤ j.val)) := by
  decide +kernel

theorem from_bits : ∀ (b : Fin 2) (j : Fin 256), IntOp.cmpi CmpIPredicate.sge
      (IntOp.addi (IntOp.subi (IntOp.muli (BitVec.ofNat 32 b.val) 128#32) 128#32) (BitVec.ofNat 32 j.val)) 0#32
    = BitVec.ofBool (decide (128 ≤ 128 * b.val + j.val)) := by
  decide +kernel

theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem valid_bits (b : Fin 2) (i : Fin 128) (j : Fin 256) : IntOp.andi
      (IntOp.andi
        (IntOp.cmpi CmpIPredicate.sge (IntOp.subi (IntOp.addi (128#32) (BitVec.ofNat 32 i.val)) (BitVec.ofNat 32 j.val)) 0#32)
        (IntOp.cmpi CmpIPredicate.sle (IntOp.subi (IntOp.addi (128#32) (BitVec.ofNat 32 i.val)) (BitVec.ofNat 32 j.val)) 128#32))
      (IntOp.cmpi CmpIPredicate.sge
        (IntOp.addi (IntOp.subi (IntOp.muli (BitVec.ofNat 32 b.val) 128#32) 128#32) (BitVec.ofNat 32 j.val)) 0#32)
    = BitVec.ofBool (decide ((j.val ≤ 128 + i.val ∧ i.val ≤ j.val) ∧ 128 ≤ 128 * b.val + j.val)) := by
  rw [near_bits, from_bits, and_bits]

end Cert.AttnRef
-- ==== Proof.AttnRef.lean ====
/- The reference's attention gradient, its subsequences and blocks read at an index. -/
module

public import proofs.«01_k».proof.Proof.AttnBits
public import proofs.«01_k».proof.Proof.Gen.Reference29Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.AttnRef

open Cert.Reference29Ideal Cert.Reference29Ideal.Gen

/-- The subsequences of a dilation, cut into two blocks. -/
def sub (X : FVec Ideal S256x16384 .bf16) : FVec Ideal S16x2x128x8x128 .f32 :=
  shapeCast _ (transpose S1x16x256x8x128 [0, 2, 1, 3, 4] (shapeCast _ (shapeCast _ (extf .f32 X bitsLt_bf16_f32) shapeCasts_S256x16384_S1x4096x8x128) shapeCasts_S1x4096x8x128_S1x256x16x8x128) transposes_S1x256x16x8x128_S1x16x256x8x128_0_2_1_3_4) shapeCasts_S1x16x256x8x128_S16x2x128x8x128

/-- A block of keys with the block before it. -/
def both (X : FVec Ideal S256x16384 .bf16) : FVec Ideal S16x2x256x8x128 .f32 :=
  concatenate S16x2x256x8x128 2 [⟨S16x2x128x8x128, (concatenate S16x2x128x8x128 1 [⟨S16x1x128x8x128, (broadcastInDim S16x1x128x8x128 ![] bcast_S_S16x1x128x8x128 (constant S_ .f32 0x00000000#32))⟩, ⟨S16x1x128x8x128, (extractStridedSlice S16x1x128x8x128 ![0, 0, 0, 0, 0] (sub X) slices_S16x2x128x8x128_S16x1x128x8x128_0_0_0_0_0)⟩] concatenates_S16x1x128x8x128_S16x1x128x8x128_S16x2x128x8x128_d1)⟩, ⟨S16x2x128x8x128, (sub X)⟩] concatenates_S16x2x128x8x128_S16x2x128x8x128_S16x2x256x8x128_d2

/-- One number for each query and head. -/
def perRow (X : FVec Ideal S256x128 .f32) : FVec Ideal S16x2x8x128x1 .f32 :=
  broadcastInDim S16x2x8x128x1 ![0, 1, 2, 3] bcast_S16x2x8x128_S16x2x8x128x1_0_1_2_3 (transpose S16x2x8x128 [0, 1, 3, 2] (shapeCast _ (shapeCast _ (transpose S1x16x256x8x1 [0, 2, 1, 3, 4] (shapeCast _ (broadcastInDim S1x4096x8x1 ![0, 1, 2] bcast_S1x4096x8_S1x4096x8x1_0_1_2 (shapeCast _ X shapeCasts_S256x128_S1x4096x8)) shapeCasts_S1x4096x8x1_S1x256x16x8x1) transposes_S1x256x16x8x1_S1x16x256x8x1_0_2_1_3_4) shapeCasts_S1x16x256x8x1_S16x2x128x8x1) shapeCasts_S16x2x128x8x1_S16x2x128x8) transposes_S16x2x128x8_S16x2x8x128_0_1_3_2)

/-- Which key a query sees. -/
def valid : IVec S16x2x8x128x256 1 :=
  broadcastInDim S16x2x8x128x256 ![0, 1, 2, 3, 4] bcast_S1x2x1x128x256_S16x2x8x128x256_0_1_2_3_4 (broadcastInDim S1x2x1x128x256 ![1, 3, 4] bcast_S2x128x256_S1x2x1x128x256_1_3_4 (andi (broadcastInDim S2x128x256 ![0, 1, 2] bcast_S1x128x256_S2x128x256_0_1_2 (broadcastInDim S1x128x256 ![1, 2] bcast_S128x256_S1x128x256_1_2 (andi (cmpi .sge (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S2x128x256 ![0, 1, 2] bcast_S2x1x256_S2x128x256_0_1_2 (cmpi .sge (addi (broadcastInDim S2x1x256 ![0, 1, 2] bcast_S2x1x1_S2x1x256_0_1_2 (subi (muli (broadcastInDim S2x1x1 ![0] bcast_S2_S2x1x1_0 (iotaInDim S2 32 0)) (broadcastInDim S2x1x1 ![] bcast_S_S2x1x1 (constantI S_ 32 128#32))) (broadcastInDim S2x1x1 ![] bcast_S_S2x1x1 (constantI S_ 32 128#32)))) (broadcastInDim S2x1x256 ![0, 1, 2] bcast_S1x1x256_S2x1x256_0_1_2 (broadcastInDim S1x1x256 ![1, 2] bcast_S1x256_S1x1x256_1_2 (broadcastInDim S1x256 ![1] bcast_S256_S1x256_1 (iotaInDim S256 32 0))))) (broadcastInDim S2x1x256 ![] bcast_S_S2x1x256 (constantI S_ 32 0#32))))))

/-- The scaled scores. -/
def score (Q K : FVec Ideal S256x16384 .bf16) : FVec Ideal S16x2x8x128x256 .f32 :=
  mulf (Host.dotGeneral dot_S16x2x128x8x128_S16x2x256x8x128_S16x2x8x128x256_4_4_2_2_013_013 none (sub Q) (both K)) (broadcastInDim S16x2x8x128x256 ![] bcast_S_S16x2x8x128x256 (constant S_ .f32 0x3DB504F3#32))

/-- The probabilities. -/
def prob (Q K : FVec Ideal S256x16384 .bf16) (E : FVec Ideal S256x128 .f32) : FVec Ideal S16x2x8x128x256 .f32 :=
  Host.exp (subf (select valid (score Q K) (broadcastInDim S16x2x8x128x256 ![] bcast_S_S16x2x8x128x256 (id (constant S_ .f32 0xFF800000#32)))) (broadcastInDim S16x2x8x128x256 ![0, 1, 2, 3, 4] bcast_S16x2x8x128x1_S16x2x8x128x256_0_1_2_3_4 (perRow E)))

/-- What reaches the scores. -/
def reach (Q K W O : FVec Ideal S256x16384 .bf16) (E D : FVec Ideal S256x128 .f32) : FVec Ideal S16x2x8x128x256 .f32 :=
  mulf (select valid (mulf (addf (broadcastInDim S16x2x8x128x256 ![0, 1, 2, 3] bcast_S16x2x8x128_S16x2x8x128x256_0_1_2_3 (Host.reduceAdd (Host.negf (perRow D)) (constant S_ .f32 0x00000000#32) reducesTo_S16x2x8x128x1_S16x2x8x128_d4 h_S_)) (Host.dotGeneral dot_S16x2x8x128x128_S16x2x256x8x128_S16x2x8x128x256_3_4_4_2_012_013 none (transpose S16x2x8x128x128 [0, 1, 3, 4, 2] (sub O) transposes_S16x2x128x8x128_S16x2x8x128x128_0_1_3_4_2) (both W))) (prob Q K E)) (broadcastInDim S16x2x8x128x256 ![] bcast_S_S16x2x8x128x256 (constant S_ .f32 0x00000000#32))) (broadcastInDim S16x2x8x128x256 ![] bcast_S_S16x2x8x128x256 (constant S_ .f32 0x3DB504F3#32))

/-- The subsequences put back in order. -/
def back (Z : FVec Ideal S16x2x128x8x128 .f32) : FVec Ideal S256x16384 .f32 :=
  shapeCast _ (shapeCast _ (transpose S1x256x16x8x128 [0, 2, 1, 3, 4] (shapeCast _ Z shapeCasts_S16x2x128x8x128_S1x16x256x8x128) transposes_S1x16x256x8x128_S1x256x16x8x128_0_2_1_3_4) shapeCasts_S1x256x16x8x128_S1x4096x8x128) shapeCasts_S1x4096x8x128_S256x16384

/-- What reaches a block as itself and as the block before. -/
def fold (Z : FVec Ideal S16x2x256x8x128 .f32) : FVec Ideal S16x2x128x8x128 .f32 :=
  addf (extractStridedSlice S16x2x128x8x128 ![0, 0, 128, 0, 0] Z slices_S16x2x256x8x128_S16x2x128x8x128_0_0_128_0_0) (pad S16x2x128x8x128 ![0, 0, 0, 0, 0] ![0, 1, 0, 0, 0] ![0, 0, 0, 0, 0] (extractStridedSlice S16x1x128x8x128 ![0, 1, 0, 0, 0] (extractStridedSlice S16x2x128x8x128 ![0, 0, 0, 0, 0] Z slices_S16x2x256x8x128_S16x2x128x8x128_0_0_0_0_0) slices_S16x2x128x8x128_S16x1x128x8x128_0_1_0_0_0) (constant S_ .f32 0x00000000#32) pads_S16x1x128x8x128_S16x2x128x8x128_000_010_000_000_000 h_S_)

/-- The queries' gradient. -/
def gq (Q K W O : FVec Ideal S256x16384 .bf16) (E D : FVec Ideal S256x128 .f32) : FVec Ideal S16x2x128x8x128 .f32 :=
  transpose S16x2x128x8x128 [0, 1, 3, 2, 4] (Host.dotGeneral dot_S16x2x8x128x256_S16x2x256x8x128_S16x2x8x128x128_4_2_3_4_012_013 none (reach Q K W O E D) (both K)) transposes_S16x2x8x128x128_S16x2x128x8x128_0_1_3_2_4

/-- The gradient of the keys with the block before. -/
def gk (Q K W O : FVec Ideal S256x16384 .bf16) (E D : FVec Ideal S256x128 .f32) : FVec Ideal S16x2x256x8x128 .f32 :=
  transpose S16x2x256x8x128 [0, 1, 3, 2, 4] (Host.dotGeneral dot_S16x2x8x128x256_S16x2x128x8x128_S16x2x8x256x128_3_2_4_4_012_013 none (reach Q K W O E D) (sub Q)) transposes_S16x2x8x256x128_S16x2x256x8x128_0_1_3_2_4

/-- The gradient of the values with the block before. -/
def gv (Q K O : FVec Ideal S256x16384 .bf16) (E : FVec Ideal S256x128 .f32) : FVec Ideal S16x2x256x8x128 .f32 :=
  transpose S16x2x256x8x128 [0, 1, 4, 2, 3] (Host.dotGeneral dot_S16x2x8x128x128_S16x2x8x128x256_S16x2x8x128x256_4_3_3_4_012_012 none (transpose S16x2x8x128x128 [0, 1, 3, 4, 2] (sub O) transposes_S16x2x128x8x128_S16x2x8x128x128_0_1_3_4_2) (prob Q K E)) transposes_S16x2x8x128x256_S16x2x256x8x128_0_1_4_2_3

theorem out0 (m : (ℓ : Loc nD τ sig) → Buf (Elt Ideal) ℓ) (c : Dev nD) : Value.res_main_v127 m c
    = back (gq (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))) := rfl

theorem out1 (m : (ℓ : Loc nD τ sig) → Buf (Elt Ideal) ℓ) (c : Dev nD) : Value.res_main_v128 m c
    = back (fold (gk (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)))) := rfl

theorem out2 (m : (ℓ : Loc nD τ sig) → Buf (Elt Ideal) ℓ) (c : Dev nD) : Value.res_main_v129 m c
    = back (fold (gv (m ((c.tc : Thread nD τ).loc main_arg0)) (m ((c.tc : Thread nD τ).loc main_arg1))
        (m ((c.tc : Thread nD τ).loc main_arg3)) (m ((c.tc : Thread nD τ).loc main_arg4)))) := rfl

theorem sub_at (X : FVec Ideal S256x16384 .bf16) (a : Fin 16) (b : Fin 2) (r : Fin 128) (h : Fin 8) (d : Fin 128) :
    sub X (ix5 a b r h d) = X (ix2 (⟨128 * b.val + r.val, by omega⟩ : Fin 256) (⟨1024 * a.val + 128 * h.val + d.val, by omega⟩ : Fin 16384)) := by
  pointwise [sub]
  refine congrArg X ((ix2_inj ..).2 ⟨Fin.ext ?_, Fin.ext ?_⟩)
  · simp only []
    omega
  · simp only []
    omega

theorem perRow_at (X : FVec Ideal S256x128 .f32) (a : Fin 16) (b : Fin 2) (h : Fin 8) (r : Fin 128) (z : Fin 1) :
    perRow X (ix5 a b h r z) = X (ix2 (⟨128 * b.val + r.val, by omega⟩ : Fin 256) (⟨8 * a.val + h.val, by omega⟩ : Fin 128)) := by
  pointwise [perRow]
  refine congrArg X ((ix2_inj ..).2 ⟨Fin.ext ?_, Fin.ext ?_⟩)
  · simp only []
    omega
  · simp only []
    omega

theorem back_at (Z : FVec Ideal S16x2x128x8x128 .f32) (R : Fin 256) (C : Fin 16384) :
    back Z (ix2 R C) = Z (ix5 (⟨C.val / 1024, by omega⟩ : Fin 16) (⟨R.val / 128, by omega⟩ : Fin 2) (⟨R.val % 128, by omega⟩ : Fin 128)
      (⟨C.val / 128 % 8, by omega⟩ : Fin 8) (⟨C.val % 128, by omega⟩ : Fin 128)) := by
  pointwise [back]

theorem both_own (X : FVec Ideal S256x16384 .bf16) (a : Fin 16) (b : Fin 2) (j : Fin 128) (h : Fin 8) (d : Fin 128) :
    both X (ix5 a b (⟨128 + j.val, by omega⟩ : Fin 256) h d) = sub X (ix5 a b j h d) := by
  pointwise [both]

theorem both_before (X : FVec Ideal S256x16384 .bf16) (a : Fin 16) (j : Fin 128) (h : Fin 8) (d : Fin 128) :
    both X (ix5 a 1 (⟨j.val, by omega⟩ : Fin 256) h d) = sub X (ix5 a 0 j h d) := by
  pointwise [both]

theorem fold_upper (Z : FVec Ideal S16x2x256x8x128 .f32) (a : Fin 16) (j : Fin 128) (h : Fin 8) (d : Fin 128) :
    fold Z (ix5 a 0 j h d) = Z (ix5 a 0 (⟨128 + j.val, by omega⟩ : Fin 256) h d) + Z (ix5 a 1 (⟨j.val, by omega⟩ : Fin 256) h d) := by
  pointwise [fold]

theorem fold_lower (Z : FVec Ideal S16x2x256x8x128 .f32) (a : Fin 16) (j : Fin 128) (h : Fin 8) (d : Fin 128) :
    fold Z (ix5 a 1 j h d) = Z (ix5 a 1 (⟨128 + j.val, by omega⟩ : Fin 256) h d) := by
  pointwise [fold]

theorem score_at (Q K : FVec Ideal S256x16384 .bf16) (a : Fin 16) (b : Fin 2) (h : Fin 8) (i : Fin 128) (j : Fin 256) :
    score Q K (ix5 a b h i j) = (∑ d : Fin 128, sub Q (ix5 a b i h d) * both K (ix5 a b j h d)) * Ideal.ofBits .f32 0x3DB504F3#32 := by
  pointwise [score]

theorem ofBits_bot : Ideal.ofBits .f32 0xFF800000#32 = (⊥ : EReal) := by
  simp [Ideal.ofBits, Ideal.ieee]

theorem prob_at (Q K : FVec Ideal S256x16384 .bf16) (E : FVec Ideal S256x128 .f32) (a : Fin 16) (b : Fin 2) (h : Fin 8) (i : Fin 128) (j : Fin 256) :
    prob Q K E (ix5 a b h i j) = Ideal.exp (Scalar.select (valid (ix5 a b h i j)) (score Q K (ix5 a b h i j)) ⊥ - perRow E (ix5 a b h i 0)) := by
  pointwise [prob]
  rw [show (id (constant S_ .f32 0xFF800000#32) ix0 : Ideal .f32) = (⊥ : EReal) from ofBits_bot]

theorem reach_at (Q K W O : FVec Ideal S256x16384 .bf16) (E D : FVec Ideal S256x128 .f32) (a : Fin 16) (b : Fin 2) (h : Fin 8) (i : Fin 128) (j : Fin 256) :
    reach Q K W O E D (ix5 a b h i j) = Scalar.select (valid (ix5 a b h i j)) ((-(perRow D (ix5 a b h i 0)) + ∑ d : Fin 128, sub O (ix5 a b i h d) * both W (ix5 a b j h d))
      * prob Q K E (ix5 a b h i j)) 0 * Ideal.ofBits .f32 0x3DB504F3#32 := by
  pointwise [reach]
  rw [Fin.sum_univ_one]

theorem gq_at (Q K W O : FVec Ideal S256x16384 .bf16) (E D : FVec Ideal S256x128 .f32) (a : Fin 16) (b : Fin 2) (h : Fin 8) (i d : Fin 128) :
    gq Q K W O E D (ix5 a b i h d) = ∑ j : Fin 256, reach Q K W O E D (ix5 a b h i j) * both K (ix5 a b j h d) := by
  pointwise [gq]

theorem gk_at (Q K W O : FVec Ideal S256x16384 .bf16) (E D : FVec Ideal S256x128 .f32) (a : Fin 16) (b : Fin 2) (h : Fin 8) (j : Fin 256) (d : Fin 128) :
    gk Q K W O E D (ix5 a b j h d) = ∑ i : Fin 128, reach Q K W O E D (ix5 a b h i j) * sub Q (ix5 a b i h d) := by
  pointwise [gk]

theorem gv_at (Q K O : FVec Ideal S256x16384 .bf16) (E : FVec Ideal S256x128 .f32) (a : Fin 16) (b : Fin 2) (h : Fin 8) (j : Fin 256) (d : Fin 128) :
    gv Q K O E (ix5 a b j h d) = ∑ i : Fin 128, sub O (ix5 a b i h d) * prob Q K E (ix5 a b h i j) := by
  pointwise [gv]

theorem valid_at (a : Fin 16) (b : Fin 2) (h : Fin 8) (i : Fin 128) (j : Fin 256) :
    valid (ix5 a b h i j) = BitVec.ofBool (decide ((j.val ≤ 128 + i.val ∧ i.val ≤ j.val) ∧ 128 ≤ 128 * b.val + j.val)) := by
  pointwise [valid]
  exact valid_bits b i j

end Cert.AttnRef

end
-- ==== Proof.AttnRefVal.lean ====
/- The reference's attention gradient is the gradient by tiles. -/
module

public import proofs.«01_k».proof.Proof.AttnSpec
public import proofs.«01_k».proof.Proof.AttnRef

@[expose] public section

set_option maxRecDepth 16384

noncomputable section

open Idealize.ShloMosaic Idealize.ShloMosaic.TcCoe Idealize.SL.Sem

namespace Cert.AttnRef

open Cert.Reference29Ideal Cert.Reference29Ideal.Gen
open Cert.AttnBwd (tl nb pc pp ds sc sg rows cols aP aM dP dM' pos GQ GK GV)

theorem sub_tl (X : FVec Ideal S256x16384 .bf16) (a : Fin 16) (b : Fin 2) (i : Fin 128) (h : Fin 8) (d : Fin 128) :
    sub X (ix5 a b i h d) = tl X b.val (8 * a.val + h.val) (ix2 i d) := by
  rw [sub_at]
  refine congrArg X ((ix2_inj ..).2 ⟨Fin.ext ?_, Fin.ext ?_⟩)
  · show 128 * b.val + i.val = (128 * b.val + i.val) % 256
    omega
  · show 1024 * a.val + 128 * h.val + d.val = (128 * (8 * a.val + h.val) + d.val) % 16384
    omega

theorem perRow_nb (E : FVec Ideal S256x128 .f32) (a : Fin 16) (b : Fin 2) (i : Fin 128) (h : Fin 8) (j : Fin 128) :
    perRow E (ix5 a b h i 0) = nb E b.val (8 * a.val + h.val) (ix2 i j) := by
  rw [perRow_at]
  refine congrArg E ((ix2_inj ..).2 ⟨Fin.ext ?_, Fin.ext ?_⟩)
  · show 128 * b.val + i.val = (128 * b.val + i.val) % 256
    omega
  · show 8 * a.val + h.val = (8 * a.val + h.val) % 128
    omega

theorem score_own (Q K : FVec Ideal S256x16384 .bf16) (a : Fin 16) (b : Fin 2) (h : Fin 8) (i j : Fin 128) :
    score Q K (ix5 a b h i (⟨128 + j.val, by omega⟩ : Fin 256)) = sc (tl Q b.val (8 * a.val + h.val)) (tl K b.val (8 * a.val + h.val)) i j := by
  rw [score_at]
  simp only [both_own, sub_tl]
  rfl

theorem score_before (Q K : FVec Ideal S256x16384 .bf16) (a : Fin 16) (h : Fin 8) (i j : Fin 128) :
    score Q K (ix5 a 1 h i (⟨j.val, by omega⟩ : Fin 256)) = sc (tl Q 1 (8 * a.val + h.val)) (tl K 0 (8 * a.val + h.val)) i j := by
  rw [score_at]
  simp only [both_before, sub_tl]
  rfl

theorem valid_own (a : Fin 16) (b : Fin 2) (h : Fin 8) (i j : Fin 128) :
    valid (ix5 a b h i (⟨128 + j.val, by omega⟩ : Fin 256)) = BitVec.ofBool (decide (j ≤ i)) := by
  rw [valid_at]
  congr 2
  refine propext ?_
  rw [Fin.le_def]
  show (128 + j.val ≤ 128 + i.val ∧ i.val ≤ 128 + j.val) ∧ 128 ≤ 128 * b.val + (128 + j.val) ↔ _
  omega

theorem valid_before (a : Fin 16) (h : Fin 8) (i j : Fin 128) :
    valid (ix5 a 1 h i (⟨j.val, by omega⟩ : Fin 256)) = BitVec.ofBool (decide (i ≤ j)) := by
  rw [valid_at]
  congr 2
  refine propext ?_
  rw [Fin.le_def]
  show (j.val ≤ 128 + i.val ∧ i.val ≤ j.val) ∧ 128 ≤ 128 * 1 + j.val ↔ _
  omega

theorem valid_first (a : Fin 16) (h : Fin 8) (i j : Fin 128) :
    valid (ix5 a 0 h i (⟨j.val, by omega⟩ : Fin 256)) = 0#1 := by
  rw [valid_at, decide_eq_false]
  · rfl
  · show ¬((j.val ≤ 128 + i.val ∧ i.val ≤ j.val) ∧ 128 ≤ 128 * 0 + j.val)
    omega

theorem prob_own (Q K : FVec Ideal S256x16384 .bf16) (E : FVec Ideal S256x128 .f32) (a : Fin 16) (b : Fin 2) (h : Fin 8) (i j : Fin 128) :
    prob Q K E (ix5 a b h i (⟨128 + j.val, by omega⟩ : Fin 256)) = aP Q K E b.val (8 * a.val + h.val) i j := by
  rw [prob_at, valid_own, score_own, Cert.AttnBwd.sel, perRow_nb E a b i h j]
  rfl

theorem prob_before (Q K : FVec Ideal S256x16384 .bf16) (E : FVec Ideal S256x128 .f32) (a : Fin 16) (h : Fin 8) (i j : Fin 128) :
    prob Q K E (ix5 a 1 h i (⟨j.val, by omega⟩ : Fin 256)) = aM Q K E (8 * a.val + h.val) i j := by
  rw [prob_at, valid_before, score_before, Cert.AttnBwd.sel, perRow_nb E a 1 i h j]
  rfl

/-- A key that is not seen has no probability, so that nothing reaches its score. -/
theorem pick (p : Prop) [Decidable p] (s l u e : EReal) :
    (if p then (-e + u) * Ideal.exp ((if p then s else ⊥) - l) else 0) * sg = Ideal.exp ((if p then s else ⊥) - l) * (u - e) * sg := by
  by_cases h : p
  · rw [if_pos h, if_pos h, sub_eq_add_neg u, add_comm u, mul_comm (-e + u)]
  · rw [if_neg h, if_neg h, sub_eq_add_neg, EReal.bot_add, Ideal.exp_bot, zero_mul, zero_mul, zero_mul]

theorem reach_own (Q K W O : FVec Ideal S256x16384 .bf16) (E D : FVec Ideal S256x128 .f32) (a : Fin 16) (b : Fin 2) (h : Fin 8) (i j : Fin 128) :
    reach Q K W O E D (ix5 a b h i (⟨128 + j.val, by omega⟩ : Fin 256)) = dP Q K W O E D b.val (8 * a.val + h.val) i j := by
  rw [reach_at, prob_own, valid_own, Cert.AttnBwd.sel, perRow_nb D a b i h j]
  simp only [both_own, sub_tl]
  exact pick (j ≤ i) _ _ _ _

theorem reach_before (Q K W O : FVec Ideal S256x16384 .bf16) (E D : FVec Ideal S256x128 .f32) (a : Fin 16) (h : Fin 8) (i j : Fin 128) :
    reach Q K W O E D (ix5 a 1 h i (⟨j.val, by omega⟩ : Fin 256)) = dM' Q K W O E D (8 * a.val + h.val) i j := by
  rw [reach_at, prob_before, valid_before, Cert.AttnBwd.sel, perRow_nb D a 1 i h j]
  simp only [both_before, sub_tl]
  exact pick (i ≤ j) _ _ _ _

theorem reach_first (Q K W O : FVec Ideal S256x16384 .bf16) (E D : FVec Ideal S256x128 .f32) (a : Fin 16) (h : Fin 8) (i j : Fin 128) :
    reach Q K W O E D (ix5 a 0 h i (⟨j.val, by omega⟩ : Fin 256)) = 0 := by
  rw [reach_at, valid_first, Scalar.select, if_neg (by decide), zero_mul]

theorem sum_halves (f : Fin 256 → EReal) : ∑ j : Fin 256, f j = (∑ j : Fin 128, f ⟨j.val, by omega⟩) + ∑ j : Fin 128, f ⟨128 + j.val, by omega⟩ :=
  Fin.sum_univ_two_halves 128 128 rfl f

theorem gq_upper (Q K W O : FVec Ideal S256x16384 .bf16) (E D : FVec Ideal S256x128 .f32) (a : Fin 16) (h : Fin 8) (i d : Fin 128) :
    gq Q K W O E D (ix5 a 0 i h d) = rows (dP Q K W O E D 0 (8 * a.val + h.val)) (tl K 0 (8 * a.val + h.val)) (ix2 i d) := by
  rw [gq_at, sum_halves]
  simp only [reach_first, zero_mul, Finset.sum_const_zero, zero_add, reach_own, both_own, sub_tl]
  rfl

theorem gq_lower (Q K W O : FVec Ideal S256x16384 .bf16) (E D : FVec Ideal S256x128 .f32) (a : Fin 16) (h : Fin 8) (i d : Fin 128) :
    gq Q K W O E D (ix5 a 1 i h d) = rows (dM' Q K W O E D (8 * a.val + h.val)) (tl K 0 (8 * a.val + h.val)) (ix2 i d)
      + rows (dP Q K W O E D 1 (8 * a.val + h.val)) (tl K 1 (8 * a.val + h.val)) (ix2 i d) := by
  rw [gq_at, sum_halves]
  simp only [reach_before, both_before, reach_own, both_own, sub_tl]
  rfl

theorem gk_upper (Q K W O : FVec Ideal S256x16384 .bf16) (E D : FVec Ideal S256x128 .f32) (a : Fin 16) (h : Fin 8) (j d : Fin 128) :
    fold (gk Q K W O E D) (ix5 a 0 j h d) = cols (dP Q K W O E D 0 (8 * a.val + h.val)) (tl Q 0 (8 * a.val + h.val)) (ix2 j d)
      + cols (dM' Q K W O E D (8 * a.val + h.val)) (tl Q 1 (8 * a.val + h.val)) (ix2 j d) := by
  rw [fold_upper, gk_at, gk_at]
  simp only [reach_before, reach_own, sub_tl]
  rfl

theorem gk_lower (Q K W O : FVec Ideal S256x16384 .bf16) (E D : FVec Ideal S256x128 .f32) (a : Fin 16) (h : Fin 8) (j d : Fin 128) :
    fold (gk Q K W O E D) (ix5 a 1 j h d) = cols (dP Q K W O E D 1 (8 * a.val + h.val)) (tl Q 1 (8 * a.val + h.val)) (ix2 j d) := by
  rw [fold_lower, gk_at]
  simp only [reach_own, sub_tl]
  rfl

theorem gv_upper (Q K O : FVec Ideal S256x16384 .bf16) (E : FVec Ideal S256x128 .f32) (a : Fin 16) (h : Fin 8) (j d : Fin 128) :
    fold (gv Q K O E) (ix5 a 0 j h d) = cols (aP Q K E 0 (8 * a.val + h.val)) (tl O 0 (8 * a.val + h.val)) (ix2 j d)
      + cols (aM Q K E (8 * a.val + h.val)) (tl O 1 (8 * a.val + h.val)) (ix2 j d) := by
  rw [fold_upper, gv_at, gv_at]
  simp only [prob_before, prob_own, sub_tl]
  refine congrArg₂ (· + ·) (Finset.sum_congr rfl fun i _ => ?_) (Finset.sum_congr rfl fun i _ => ?_)
  · exact mul_comm _ _
  · exact mul_comm _ _

theorem gv_lower (Q K O : FVec Ideal S256x16384 .bf16) (E : FVec Ideal S256x128 .f32) (a : Fin 16) (h : Fin 8) (j d : Fin 128) :
    fold (gv Q K O E) (ix5 a 1 j h d) = cols (aP Q K E 1 (8 * a.val + h.val)) (tl O 1 (8 * a.val + h.val)) (ix2 j d) := by
  rw [fold_lower, gv_at]
  simp only [prob_own, sub_tl]
  refine Finset.sum_congr rfl fun i _ => ?_
  exact mul_comm _ _

/-- An array put back in order is known by its two rows of blocks. -/
theorem back_of (Z : FVec Ideal S16x2x128x8x128 .f32) (A B : ℕ → (⟨2, ![128, 128]⟩ : Shape).Idx → EReal)
    (h0 : ∀ (a : Fin 16) (h : Fin 8) (i d : Fin 128), Z (ix5 a 0 i h d) = A (8 * a.val + h.val) (ix2 i d))
    (h1 : ∀ (a : Fin 16) (h : Fin 8) (i d : Fin 128), Z (ix5 a 1 i h d) = B (8 * a.val + h.val) (ix2 i d)) :
    back Z = fun y => if (y 0).val / 128 = 0 then A ((y 1).val / 128) (pos (y 0) (y 1)) else B ((y 1).val / 128) (pos (y 0) (y 1)) := by
  funext y
  idx_vars y
  rw [back_at]
  have e : 8 * (y1.val / 1024) + y1.val / 128 % 8 = y1.val / 128 := by omega
  have hy : y0.val < 256 := y0.isLt
  show _ = if y0.val / 128 = 0 then A (y1.val / 128) (pos y0 y1) else B (y1.val / 128) (pos y0 y1)
  by_cases hr : y0.val / 128 = 0
  · rw [if_pos hr, show (⟨y0.val / 128, by omega⟩ : Fin 2) = 0 from Fin.ext hr, h0]
    show A (8 * (y1.val / 1024) + y1.val / 128 % 8) _ = _
    rw [e]
    rfl
  · rw [if_neg hr, show (⟨y0.val / 128, by omega⟩ : Fin 2) = 1 from Fin.ext (by show y0.val / 128 = 1; omega), h1]
    show B (8 * (y1.val / 1024) + y1.val / 128 % 8) _ = _
    rw [e]
    rfl

theorem back_gq (Q K W O : FVec Ideal S256x16384 .bf16) (E D : FVec Ideal S256x128 .f32) : back (gq Q K W O E D) = GQ Q K W O E D :=
  back_of _ (fun g => rows (dP Q K W O E D 0 g) (tl K 0 g)) (fun g x => rows (dM' Q K W O E D g) (tl K 0 g) x + rows (dP Q K W O E D 1 g) (tl K 1 g) x)
    (gq_upper Q K W O E D) (gq_lower Q K W O E D)

theorem back_gk (Q K W O : FVec Ideal S256x16384 .bf16) (E D : FVec Ideal S256x128 .f32) : back (fold (gk Q K W O E D)) = GK Q K W O E D :=
  back_of _ (fun g x => cols (dP Q K W O E D 0 g) (tl Q 0 g) x + cols (dM' Q K W O E D g) (tl Q 1 g) x) (fun g => cols (dP Q K W O E D 1 g) (tl Q 1 g))
    (gk_upper Q K W O E D) (gk_lower Q K W O E D)

theorem back_gv (Q K O : FVec Ideal S256x16384 .bf16) (E : FVec Ideal S256x128 .f32) : back (fold (gv Q K O E)) = GV Q K O E :=
  back_of _ (fun g x => cols (aP Q K E 0 g) (tl O 0 g) x + cols (aM Q K E g) (tl O 1 g) x) (fun g => cols (aP Q K E 1 g) (tl O 1 g))
    (gv_upper Q K O E) (gv_lower Q K O E)

end Cert.AttnRef

end
-- ==== Proof.AttnRead.lean ====
/- What a tile reads, and the gradient of a column block by tiles. -/
module

public import proofs.«01_k».proof.Proof.AttnPay

@[expose] public section

set_option maxRecDepth 16384

noncomputable section

open Idealize.ShloMosaic Idealize.ShloMosaic.TcCoe Idealize.SL.Sem

namespace Cert.AttnBwd

open Cert.Kernel29Ideal Cert.Kernel29Ideal.Gen

theorem rd16 (arg : Memref sig .tc .vmem S256x2048 .bf16) (harg : arg.IsWhole) (X : Vec Ideal S256x2048 .bf16) (r o : ℕ)
    (inb : ∀ a, (![r, o] : Fin 2 → ℕ) a + (![128, 128] : Fin 2 → ℕ) a ≤ S256x2048.size a) :
    View.readAt (Elt Ideal) arg.view (Rect.unit (s := S256x2048) ![r, o] ![128, 128] inb).toLoadRect (harg.unread X) = tile X r o := by
  refine Eq.trans ?_ (tile_rect X r o inb)
  funext j
  show arg.view.read (Elt Ideal) (harg.unread X) _ = _
  rw [harg.read_unread X]

theorem rd32 (arg : Memref sig .tc .vmem S256x2048 .f32) (harg : arg.IsWhole) (X : Vec Ideal S256x2048 .f32) (r o : ℕ)
    (inb : ∀ a, (![r, o] : Fin 2 → ℕ) a + (![128, 128] : Fin 2 → ℕ) a ≤ S256x2048.size a) :
    View.readAt (Elt Ideal) arg.view (Rect.unit (s := S256x2048) ![r, o] ![128, 128] inb).toLoadRect (harg.unread X) = tile X r o := by
  refine Eq.trans ?_ (tile_rect X r o inb)
  funext j
  show arg.view.read (Elt Ideal) (harg.unread X) _ = _
  rw [harg.read_unread X]

theorem rdc (arg : Memref sig .tc .vmem S256x2048 .f32) (L : List (View.Piece (Elt Ideal) S256x2048 .f32)) (r o : ℕ)
    (inb : ∀ a, (![r, o] : Fin 2 → ℕ) a + (![128, 128] : Fin 2 → ℕ) a ≤ S256x2048.size a) :
    arg.view.readCov L (Rect.unit (s := S256x2048) ![r, o] ![128, 128] inb).toLoadRect = tile (View.canon L) r o := by
  rw [View.readCov_eq_canon']
  exact tile_rect (View.canon L) r o inb

abbrev Blk : Type := S256x2048.Idx → EReal

/-- The probabilities of the upper rows' own block, the lower rows' block before, the lower rows' own block. -/
def pU (q k l : Blk) (o : ℕ) : Fin 128 → Fin 128 → EReal := pc (tile q 0 o) (tile k 0 o) (tile l 0 o)
def pM (q k l : Blk) (o : ℕ) : Fin 128 → Fin 128 → EReal := pp (tile q 128 o) (tile k 0 o) (tile l 128 o)
def pL (q k l : Blk) (o : ℕ) : Fin 128 → Fin 128 → EReal := pc (tile q 128 o) (tile k 128 o) (tile l 128 o)

/-- What reaches the scores of those three. -/
def dU (q k v u l e : Blk) (o : ℕ) : Fin 128 → Fin 128 → EReal := ds (pU q k l o) (tile u 0 o) (tile v 0 o) (tile e 0 o)
def dM (q k v u l e : Blk) (o : ℕ) : Fin 128 → Fin 128 → EReal := ds (pM q k l o) (tile u 128 o) (tile v 0 o) (tile e 128 o)
def dL (q k v u l e : Blk) (o : ℕ) : Fin 128 → Fin 128 → EReal := ds (pL q k l o) (tile u 128 o) (tile v 128 o) (tile e 128 o)

def qU (q k v u l e : Blk) (o : ℕ) : Tile := rows (dU q k v u l e o) (tile k 0 o)
def qL (q k v u l e : Blk) (o : ℕ) : Tile := fun x => rows (dM q k v u l e o) (tile k 0 o) x + rows (dL q k v u l e o) (tile k 128 o) x

/-- The queries' gradient. -/
def DQ (q k v u l e : Blk) : Blk := pieced (qU q k v u l e) (qL q k v u l e)

def kU (q k v u l e : Blk) (o : ℕ) : Tile := cols (dU q k v u l e o) (tile q 0 o)
def kM (q k v u l e : Blk) (o : ℕ) : Tile := cols (dM q k v u l e o) (tile q 128 o)
def kL (q k v u l e : Blk) (o : ℕ) : Tile := cols (dL q k v u l e o) (tile q 128 o)

/-- The keys' gradient. -/
def DK (q k v u l e : Blk) : Blk := accum (fun _ _ => 0) (kU q k v u l e) (kM q k v u l e) (kL q k v u l e)

def vU (q k u l : Blk) (o : ℕ) : Tile := cols (pU q k l o) (tile u 0 o)
def vM (q k u l : Blk) (o : ℕ) : Tile := cols (pM q k l o) (tile u 128 o)
def vL (q k u l : Blk) (o : ℕ) : Tile := cols (pL q k l o) (tile u 128 o)

/-- The values' gradient. -/
def DV (q k u l : Blk) : Blk := accum (fun _ _ => 0) (vU q k u l) (vM q k u l) (vL q k u l)

end Cert.AttnBwd

end
-- ==== Proof.AttnDq.lean ====
/- The queries' gradient of a block, column by column. -/
module

public import proofs.«01_k».proof.Proof.AttnRead

@[expose] public section

set_option maxRecDepth 16384

noncomputable section

open Idealize.ShloMosaic Idealize.ShloMosaic.TcCoe Idealize.SL.Sem

namespace Cert.AttnBwd

open Cert.Kernel29Ideal Cert.Kernel29Ideal.Gen
open kernelRun0_A.sl

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .f32) (harg5 : arg5.IsWhole) (arg6 : Memref sig .tc .vmem S256x2048 .f32) (harg6 : arg6.IsWhole)
  (arg7 : Memref sig .tc .vmem S256x2048 .f32) (harg7 : arg7.IsWhole) (arg8 : Memref sig .tc .vmem S256x2048 .f32) (harg8 : arg8.IsWhole)
  (arg9 : Memref sig .tc .vmem S256x2048 .f32) (harg9 : arg9.IsWhole)
  (x0 x1 x2 x3 : Vec Ideal S256x2048 .bf16) (x4 x5 : Vec Ideal S256x2048 .f32)

theorem dq_run (y : S256x2048.Idx) : View.canon (kernelRun0_A (F := Ideal) c i arg1 harg1 arg2 harg2 arg3 harg3 arg4 harg4 arg5 harg5 arg6 harg6 arg7 harg7 arg8 harg8 arg9 harg9 x0 x1 x2 x3 x4 x5).1 y = DQ x0 x1 x2 x3 x4 x5 y := by
  have hy : (y 1).val < 2048 := (y 1).isLt
  refine pieced_chain (qU x0 x1 x2 x3 x4 x5) (qL x0 x1 x2 x3 x4 x5) 1920 15 rfl inb_S256x2048_S128x128_0_1920 inb_S256x2048_S128x128_128_1920 _ _ _ _ rfl ?_ ?_ ?_ y (by omega)
  · simp only [r_330, r_331, r_332, r_333, r_334, r_335, r_336, r_337, r_341, r_342, r_343, r_344, r_345, r_346, r_347, r_348, rd16, rd32]
    exact dq_first (tile x3 0 1920) (tile x1 0 1920) (tile x2 0 1920) (tile x0 0 1920) (tile x4 0 1920) (tile x5 0 1920)
  · simp only [r_330, r_331, r_332, r_333, r_334, r_335, r_336, r_337, r_341, r_342, r_343, r_344, r_345, r_346, r_347, r_348, rd16, rd32]
    exact dq_next (tile x3 128 1920) (tile x1 0 1920) (tile x1 128 1920) (tile x2 0 1920) (tile x2 128 1920) (tile x0 128 1920) (tile x4 128 1920) (tile x5 128 1920)
  refine pieced_chain (qU x0 x1 x2 x3 x4 x5) (qL x0 x1 x2 x3 x4 x5) 1792 14 rfl inb_S256x2048_S128x128_0_1792 inb_S256x2048_S128x128_128_1792 _ _ _ _ rfl ?_ ?_ ?_
  · simp only [r_308, r_309, r_310, r_311, r_312, r_313, r_314, r_315, r_319, r_320, r_321, r_322, r_323, r_324, r_325, r_326, rd16, rd32]
    exact dq_first (tile x3 0 1792) (tile x1 0 1792) (tile x2 0 1792) (tile x0 0 1792) (tile x4 0 1792) (tile x5 0 1792)
  · simp only [r_308, r_309, r_310, r_311, r_312, r_313, r_314, r_315, r_319, r_320, r_321, r_322, r_323, r_324, r_325, r_326, rd16, rd32]
    exact dq_next (tile x3 128 1792) (tile x1 0 1792) (tile x1 128 1792) (tile x2 0 1792) (tile x2 128 1792) (tile x0 128 1792) (tile x4 128 1792) (tile x5 128 1792)
  refine pieced_chain (qU x0 x1 x2 x3 x4 x5) (qL x0 x1 x2 x3 x4 x5) 1664 13 rfl inb_S256x2048_S128x128_0_1664 inb_S256x2048_S128x128_128_1664 _ _ _ _ rfl ?_ ?_ ?_
  · simp only [r_286, r_287, r_288, r_289, r_290, r_291, r_292, r_293, r_297, r_298, r_299, r_300, r_301, r_302, r_303, r_304, rd16, rd32]
    exact dq_first (tile x3 0 1664) (tile x1 0 1664) (tile x2 0 1664) (tile x0 0 1664) (tile x4 0 1664) (tile x5 0 1664)
  · simp only [r_286, r_287, r_288, r_289, r_290, r_291, r_292, r_293, r_297, r_298, r_299, r_300, r_301, r_302, r_303, r_304, rd16, rd32]
    exact dq_next (tile x3 128 1664) (tile x1 0 1664) (tile x1 128 1664) (tile x2 0 1664) (tile x2 128 1664) (tile x0 128 1664) (tile x4 128 1664) (tile x5 128 1664)
  refine pieced_chain (qU x0 x1 x2 x3 x4 x5) (qL x0 x1 x2 x3 x4 x5) 1536 12 rfl inb_S256x2048_S128x128_0_1536 inb_S256x2048_S128x128_128_1536 _ _ _ _ rfl ?_ ?_ ?_
  · simp only [r_264, r_265, r_266, r_267, r_268, r_269, r_270, r_271, r_275, r_276, r_277, r_278, r_279, r_280, r_281, r_282, rd16, rd32]
    exact dq_first (tile x3 0 1536) (tile x1 0 1536) (tile x2 0 1536) (tile x0 0 1536) (tile x4 0 1536) (tile x5 0 1536)
  · simp only [r_264, r_265, r_266, r_267, r_268, r_269, r_270, r_271, r_275, r_276, r_277, r_278, r_279, r_280, r_281, r_282, rd16, rd32]
    exact dq_next (tile x3 128 1536) (tile x1 0 1536) (tile x1 128 1536) (tile x2 0 1536) (tile x2 128 1536) (tile x0 128 1536) (tile x4 128 1536) (tile x5 128 1536)
  refine pieced_chain (qU x0 x1 x2 x3 x4 x5) (qL x0 x1 x2 x3 x4 x5) 1408 11 rfl inb_S256x2048_S128x128_0_1408 inb_S256x2048_S128x128_128_1408 _ _ _ _ rfl ?_ ?_ ?_
  · simp only [r_242, r_243, r_244, r_245, r_246, r_247, r_248, r_249, r_253, r_254, r_255, r_256, r_257, r_258, r_259, r_260, rd16, rd32]
    exact dq_first (tile x3 0 1408) (tile x1 0 1408) (tile x2 0 1408) (tile x0 0 1408) (tile x4 0 1408) (tile x5 0 1408)
  · simp only [r_242, r_243, r_244, r_245, r_246, r_247, r_248, r_249, r_253, r_254, r_255, r_256, r_257, r_258, r_259, r_260, rd16, rd32]
    exact dq_next (tile x3 128 1408) (tile x1 0 1408) (tile x1 128 1408) (tile x2 0 1408) (tile x2 128 1408) (tile x0 128 1408) (tile x4 128 1408) (tile x5 128 1408)
  refine pieced_chain (qU x0 x1 x2 x3 x4 x5) (qL x0 x1 x2 x3 x4 x5) 1280 10 rfl inb_S256x2048_S128x128_0_1280 inb_S256x2048_S128x128_128_1280 _ _ _ _ rfl ?_ ?_ ?_
  · simp only [r_220, r_221, r_222, r_223, r_224, r_225, r_226, r_227, r_231, r_232, r_233, r_234, r_235, r_236, r_237, r_238, rd16, rd32]
    exact dq_first (tile x3 0 1280) (tile x1 0 1280) (tile x2 0 1280) (tile x0 0 1280) (tile x4 0 1280) (tile x5 0 1280)
  · simp only [r_220, r_221, r_222, r_223, r_224, r_225, r_226, r_227, r_231, r_232, r_233, r_234, r_235, r_236, r_237, r_238, rd16, rd32]
    exact dq_next (tile x3 128 1280) (tile x1 0 1280) (tile x1 128 1280) (tile x2 0 1280) (tile x2 128 1280) (tile x0 128 1280) (tile x4 128 1280) (tile x5 128 1280)
  refine pieced_chain (qU x0 x1 x2 x3 x4 x5) (qL x0 x1 x2 x3 x4 x5) 1152 9 rfl inb_S256x2048_S128x128_0_1152 inb_S256x2048_S128x128_128_1152 _ _ _ _ rfl ?_ ?_ ?_
  · simp only [r_198, r_199, r_200, r_201, r_202, r_203, r_204, r_205, r_209, r_210, r_211, r_212, r_213, r_214, r_215, r_216, rd16, rd32]
    exact dq_first (tile x3 0 1152) (tile x1 0 1152) (tile x2 0 1152) (tile x0 0 1152) (tile x4 0 1152) (tile x5 0 1152)
  · simp only [r_198, r_199, r_200, r_201, r_202, r_203, r_204, r_205, r_209, r_210, r_211, r_212, r_213, r_214, r_215, r_216, rd16, rd32]
    exact dq_next (tile x3 128 1152) (tile x1 0 1152) (tile x1 128 1152) (tile x2 0 1152) (tile x2 128 1152) (tile x0 128 1152) (tile x4 128 1152) (tile x5 128 1152)
  refine pieced_chain (qU x0 x1 x2 x3 x4 x5) (qL x0 x1 x2 x3 x4 x5) 1024 8 rfl inb_S256x2048_S128x128_0_1024 inb_S256x2048_S128x128_128_1024 _ _ _ _ rfl ?_ ?_ ?_
  · simp only [r_176, r_177, r_178, r_179, r_180, r_181, r_182, r_183, r_187, r_188, r_189, r_190, r_191, r_192, r_193, r_194, rd16, rd32]
    exact dq_first (tile x3 0 1024) (tile x1 0 1024) (tile x2 0 1024) (tile x0 0 1024) (tile x4 0 1024) (tile x5 0 1024)
  · simp only [r_176, r_177, r_178, r_179, r_180, r_181, r_182, r_183, r_187, r_188, r_189, r_190, r_191, r_192, r_193, r_194, rd16, rd32]
    exact dq_next (tile x3 128 1024) (tile x1 0 1024) (tile x1 128 1024) (tile x2 0 1024) (tile x2 128 1024) (tile x0 128 1024) (tile x4 128 1024) (tile x5 128 1024)
  refine pieced_chain (qU x0 x1 x2 x3 x4 x5) (qL x0 x1 x2 x3 x4 x5) 896 7 rfl inb_S256x2048_S128x128_0_896 inb_S256x2048_S128x128_128_896 _ _ _ _ rfl ?_ ?_ ?_
  · simp only [r_154, r_155, r_156, r_157, r_158, r_159, r_160, r_161, r_165, r_166, r_167, r_168, r_169, r_170, r_171, r_172, rd16, rd32]
    exact dq_first (tile x3 0 896) (tile x1 0 896) (tile x2 0 896) (tile x0 0 896) (tile x4 0 896) (tile x5 0 896)
  · simp only [r_154, r_155, r_156, r_157, r_158, r_159, r_160, r_161, r_165, r_166, r_167, r_168, r_169, r_170, r_171, r_172, rd16, rd32]
    exact dq_next (tile x3 128 896) (tile x1 0 896) (tile x1 128 896) (tile x2 0 896) (tile x2 128 896) (tile x0 128 896) (tile x4 128 896) (tile x5 128 896)
  refine pieced_chain (qU x0 x1 x2 x3 x4 x5) (qL x0 x1 x2 x3 x4 x5) 768 6 rfl inb_S256x2048_S128x128_0_768 inb_S256x2048_S128x128_128_768 _ _ _ _ rfl ?_ ?_ ?_
  · simp only [r_132, r_133, r_134, r_135, r_136, r_137, r_138, r_139, r_143, r_144, r_145, r_146, r_147, r_148, r_149, r_150, rd16, rd32]
    exact dq_first (tile x3 0 768) (tile x1 0 768) (tile x2 0 768) (tile x0 0 768) (tile x4 0 768) (tile x5 0 768)
  · simp only [r_132, r_133, r_134, r_135, r_136, r_137, r_138, r_139, r_143, r_144, r_145, r_146, r_147, r_148, r_149, r_150, rd16, rd32]
    exact dq_next (tile x3 128 768) (tile x1 0 768) (tile x1 128 768) (tile x2 0 768) (tile x2 128 768) (tile x0 128 768) (tile x4 128 768) (tile x5 128 768)
  refine pieced_chain (qU x0 x1 x2 x3 x4 x5) (qL x0 x1 x2 x3 x4 x5) 640 5 rfl inb_S256x2048_S128x128_0_640 inb_S256x2048_S128x128_128_640 _ _ _ _ rfl ?_ ?_ ?_
  · simp only [r_110, r_111, r_112, r_113, r_114, r_115, r_116, r_117, r_121, r_122, r_123, r_124, r_125, r_126, r_127, r_128, rd16, rd32]
    exact dq_first (tile x3 0 640) (tile x1 0 640) (tile x2 0 640) (tile x0 0 640) (tile x4 0 640) (tile x5 0 640)
  · simp only [r_110, r_111, r_112, r_113, r_114, r_115, r_116, r_117, r_121, r_122, r_123, r_124, r_125, r_126, r_127, r_128, rd16, rd32]
    exact dq_next (tile x3 128 640) (tile x1 0 640) (tile x1 128 640) (tile x2 0 640) (tile x2 128 640) (tile x0 128 640) (tile x4 128 640) (tile x5 128 640)
  refine pieced_chain (qU x0 x1 x2 x3 x4 x5) (qL x0 x1 x2 x3 x4 x5) 512 4 rfl inb_S256x2048_S128x128_0_512 inb_S256x2048_S128x128_128_512 _ _ _ _ rfl ?_ ?_ ?_
  · simp only [r_88, r_89, r_90, r_91, r_92, r_93, r_94, r_95, r_99, r_100, r_101, r_102, r_103, r_104, r_105, r_106, rd16, rd32]
    exact dq_first (tile x3 0 512) (tile x1 0 512) (tile x2 0 512) (tile x0 0 512) (tile x4 0 512) (tile x5 0 512)
  · simp only [r_88, r_89, r_90, r_91, r_92, r_93, r_94, r_95, r_99, r_100, r_101, r_102, r_103, r_104, r_105, r_106, rd16, rd32]
    exact dq_next (tile x3 128 512) (tile x1 0 512) (tile x1 128 512) (tile x2 0 512) (tile x2 128 512) (tile x0 128 512) (tile x4 128 512) (tile x5 128 512)
  refine pieced_chain (qU x0 x1 x2 x3 x4 x5) (qL x0 x1 x2 x3 x4 x5) 384 3 rfl inb_S256x2048_S128x128_0_384 inb_S256x2048_S128x128_128_384 _ _ _ _ rfl ?_ ?_ ?_
  · simp only [r_66, r_67, r_68, r_69, r_70, r_71, r_72, r_73, r_77, r_78, r_79, r_80, r_81, r_82, r_83, r_84, rd16, rd32]
    exact dq_first (tile x3 0 384) (tile x1 0 384) (tile x2 0 384) (tile x0 0 384) (tile x4 0 384) (tile x5 0 384)
  · simp only [r_66, r_67, r_68, r_69, r_70, r_71, r_72, r_73, r_77, r_78, r_79, r_80, r_81, r_82, r_83, r_84, rd16, rd32]
    exact dq_next (tile x3 128 384) (tile x1 0 384) (tile x1 128 384) (tile x2 0 384) (tile x2 128 384) (tile x0 128 384) (tile x4 128 384) (tile x5 128 384)
  refine pieced_chain (qU x0 x1 x2 x3 x4 x5) (qL x0 x1 x2 x3 x4 x5) 256 2 rfl inb_S256x2048_S128x128_0_256 inb_S256x2048_S128x128_128_256 _ _ _ _ rfl ?_ ?_ ?_
  · simp only [r_44, r_45, r_46, r_47, r_48, r_49, r_50, r_51, r_55, r_56, r_57, r_58, r_59, r_60, r_61, r_62, rd16, rd32]
    exact dq_first (tile x3 0 256) (tile x1 0 256) (tile x2 0 256) (tile x0 0 256) (tile x4 0 256) (tile x5 0 256)
  · simp only [r_44, r_45, r_46, r_47, r_48, r_49, r_50, r_51, r_55, r_56, r_57, r_58, r_59, r_60, r_61, r_62, rd16, rd32]
    exact dq_next (tile x3 128 256) (tile x1 0 256) (tile x1 128 256) (tile x2 0 256) (tile x2 128 256) (tile x0 128 256) (tile x4 128 256) (tile x5 128 256)
  refine pieced_chain (qU x0 x1 x2 x3 x4 x5) (qL x0 x1 x2 x3 x4 x5) 128 1 rfl inb_S256x2048_S128x128_0_128 inb_S256x2048_S128x128_128_128 _ _ _ _ rfl ?_ ?_ ?_
  · simp only [r_22, r_23, r_24, r_25, r_26, r_27, r_28, r_29, r_33, r_34, r_35, r_36, r_37, r_38, r_39, r_40, rd16, rd32]
    exact dq_first (tile x3 0 128) (tile x1 0 128) (tile x2 0 128) (tile x0 0 128) (tile x4 0 128) (tile x5 0 128)
  · simp only [r_22, r_23, r_24, r_25, r_26, r_27, r_28, r_29, r_33, r_34, r_35, r_36, r_37, r_38, r_39, r_40, rd16, rd32]
    exact dq_next (tile x3 128 128) (tile x1 0 128) (tile x1 128 128) (tile x2 0 128) (tile x2 128 128) (tile x0 128 128) (tile x4 128 128) (tile x5 128 128)
  refine pieced_chain (qU x0 x1 x2 x3 x4 x5) (qL x0 x1 x2 x3 x4 x5) 0 0 rfl inb_S256x2048_S128x128_0_0 inb_S256x2048_S128x128_128_0 _ _ _ _ rfl ?_ ?_ ?_
  · simp only [r, r_1, r_2, r_3, r_4, r_5, r_6, r_7, r_11, r_12, r_13, r_14, r_15, r_16, r_17, r_18, rd16, rd32]
    exact dq_first (tile x3 0 0) (tile x1 0 0) (tile x2 0 0) (tile x0 0 0) (tile x4 0 0) (tile x5 0 0)
  · simp only [r, r_1, r_2, r_3, r_4, r_5, r_6, r_7, r_11, r_12, r_13, r_14, r_15, r_16, r_17, r_18, rd16, rd32]
    exact dq_next (tile x3 128 0) (tile x1 0 0) (tile x1 128 0) (tile x2 0 0) (tile x2 128 0) (tile x0 128 0) (tile x4 128 0) (tile x5 128 0)
  · exact fun y h => absurd h (Nat.not_lt_zero _)

end Cert.AttnBwd

end
-- ==== Proof.AttnDk.lean ====
/- The keys' gradient of a block, column by column. -/
module

public import proofs.«01_k».proof.Proof.AttnRead

@[expose] public section

set_option maxRecDepth 16384

noncomputable section

open Idealize.ShloMosaic Idealize.ShloMosaic.TcCoe Idealize.SL.Sem

namespace Cert.AttnBwd

open Cert.Kernel29Ideal Cert.Kernel29Ideal.Gen
open kernelRun0_A.sl

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .f32) (harg5 : arg5.IsWhole) (arg6 : Memref sig .tc .vmem S256x2048 .f32) (harg6 : arg6.IsWhole)
  (arg7 : Memref sig .tc .vmem S256x2048 .f32) (harg7 : arg7.IsWhole) (arg8 : Memref sig .tc .vmem S256x2048 .f32) (harg8 : arg8.IsWhole)
  (arg9 : Memref sig .tc .vmem S256x2048 .f32) (harg9 : arg9.IsWhole)
  (x0 x1 x2 x3 : Vec Ideal S256x2048 .bf16) (x4 x5 : Vec Ideal S256x2048 .f32)

theorem dk_col0
    (I : ∀ y, View.canon (H7_1 (F := Ideal)) y = if (y 1).val / 128 < 0 then DK x0 x1 x2 x3 x4 x5 y else 0) :
    ∀ y, View.canon (H7_5 (F := Ideal) c arg1 harg1 arg2 harg2 arg3 harg3 arg4 harg4 arg5 harg5 arg6 harg6 arg8 x0 x1 x2 x3 x4 x5) y = if (y 1).val / 128 < 0 + 1 then DK x0 x1 x2 x3 x4 x5 y else 0 := by
  refine accum_chain (fun _ _ => 0) (kU x0 x1 x2 x3 x4 x5) (kM x0 x1 x2 x3 x4 x5) (kL x0 x1 x2 x3 x4 x5) 0 0 rfl
    inb_S256x2048_S128x128_0_0 inb_S256x2048_S128x128_0_0 inb_S256x2048_S128x128_0_0 inb_S256x2048_S128x128_128_0 _ _ _ _
    (H7_1 (F := Ideal))
    (H7_2 (F := Ideal) c arg1 harg1 arg2 harg2 arg3 harg3 arg4 harg4 arg5 harg5 arg6 harg6 arg8 x0 x1 x2 x3 x4 x5)
    (H7_3 (F := Ideal) c arg1 harg1 arg2 harg2 arg3 harg3 arg4 harg4 arg5 harg5 arg6 harg6 arg8 x0 x1 x2 x3 x4 x5)
    (H7_4 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r, r_1, r_2, r_3, r_4, r_5, r_6, r_7, r_11, r_12, r_13, r_14, r_15, r_16, r_17, r_18, v50, v55, v114, v119, rd16, rd32, rdc]
  · exact dk_first (tile x0 0 0) (tile x1 0 0) (tile x3 0 0) (tile x2 0 0) (tile x4 0 0) (tile x5 0 0) _ x
  · exact dk_own (tile x0 0 0) (tile x1 0 0) (tile x3 0 0) (tile x2 0 0) (tile x4 0 0) (tile x5 0 0) _ x
  · exact dk_next (tile x0 128 0) (tile x1 0 0) (tile x3 128 0) (tile x2 0 0) (tile x4 128 0) (tile x5 128 0) _ x
  · exact dk_own (tile x0 128 0) (tile x1 128 0) (tile x3 128 0) (tile x2 128 0) (tile x4 128 0) (tile x5 128 0) _ x

theorem dk_col1
    (I : ∀ y, View.canon (H7_5 (F := Ideal) c arg1 harg1 arg2 harg2 arg3 harg3 arg4 harg4 arg5 harg5 arg6 harg6 arg8 x0 x1 x2 x3 x4 x5) y = if (y 1).val / 128 < 1 then DK x0 x1 x2 x3 x4 x5 y else 0) :
    ∀ y, View.canon (H7_9 (F := Ideal) c arg1 harg1 arg2 harg2 arg3 harg3 arg4 harg4 arg5 harg5 arg6 harg6 arg8 x0 x1 x2 x3 x4 x5) y = if (y 1).val / 128 < 1 + 1 then DK x0 x1 x2 x3 x4 x5 y else 0 := by
  refine accum_chain (fun _ _ => 0) (kU x0 x1 x2 x3 x4 x5) (kM x0 x1 x2 x3 x4 x5) (kL x0 x1 x2 x3 x4 x5) 128 1 rfl
    inb_S256x2048_S128x128_0_128 inb_S256x2048_S128x128_0_128 inb_S256x2048_S128x128_0_128 inb_S256x2048_S128x128_128_128 _ _ _ _
    (H7_5 (F := Ideal) c arg1 harg1 arg2 harg2 arg3 harg3 arg4 harg4 arg5 harg5 arg6 harg6 arg8 x0 x1 x2 x3 x4 x5)
    (H7_6 (F := Ideal) c arg1 harg1 arg2 harg2 arg3 harg3 arg4 harg4 arg5 harg5 arg6 harg6 arg8 x0 x1 x2 x3 x4 x5)
    (H7_7 (F := Ideal) c arg1 harg1 arg2 harg2 arg3 harg3 arg4 harg4 arg5 harg5 arg6 harg6 arg8 x0 x1 x2 x3 x4 x5)
    (H7_8 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_22, r_23, r_24, r_25, r_26, r_27, r_28, r_29, r_33, r_34, r_35, r_36, r_37, r_38, r_39, r_40, v178, v183, v242, v247, rd16, rd32, rdc]
  · exact dk_first (tile x0 0 128) (tile x1 0 128) (tile x3 0 128) (tile x2 0 128) (tile x4 0 128) (tile x5 0 128) _ x
  · exact dk_own (tile x0 0 128) (tile x1 0 128) (tile x3 0 128) (tile x2 0 128) (tile x4 0 128) (tile x5 0 128) _ x
  · exact dk_next (tile x0 128 128) (tile x1 0 128) (tile x3 128 128) (tile x2 0 128) (tile x4 128 128) (tile x5 128 128) _ x
  · exact dk_own (tile x0 128 128) (tile x1 128 128) (tile x3 128 128) (tile x2 128 128) (tile x4 128 128) (tile x5 128 128) _ x

theorem dk_col2
    (I : ∀ y, View.canon (H7_9 (F := Ideal) c arg1 harg1 arg2 harg2 arg3 harg3 arg4 harg4 arg5 harg5 arg6 harg6 arg8 x0 x1 x2 x3 x4 x5) y = if (y 1).val / 128 < 2 then DK x0 x1 x2 x3 x4 x5 y else 0) :
    ∀ y, View.canon (H7_13 (F := Ideal) c arg1 harg1 arg2 harg2 arg3 harg3 arg4 harg4 arg5 harg5 arg6 harg6 arg8 x0 x1 x2 x3 x4 x5) y = if (y 1).val / 128 < 2 + 1 then DK x0 x1 x2 x3 x4 x5 y else 0 := by
  refine accum_chain (fun _ _ => 0) (kU x0 x1 x2 x3 x4 x5) (kM x0 x1 x2 x3 x4 x5) (kL x0 x1 x2 x3 x4 x5) 256 2 rfl
    inb_S256x2048_S128x128_0_256 inb_S256x2048_S128x128_0_256 inb_S256x2048_S128x128_0_256 inb_S256x2048_S128x128_128_256 _ _ _ _
    (H7_9 (F := Ideal) c arg1 harg1 arg2 harg2 arg3 harg3 arg4 harg4 arg5 harg5 arg6 harg6 arg8 x0 x1 x2 x3 x4 x5)
    (H7_10 (F := Ideal) c arg1 harg1 arg2 harg2 arg3 harg3 arg4 harg4 arg5 harg5 arg6 harg6 arg8 x0 x1 x2 x3 x4 x5)
    (H7_11 (F := Ideal) c arg1 harg1 arg2 harg2 arg3 harg3 arg4 harg4 arg5 harg5 arg6 harg6 arg8 x0 x1 x2 x3 x4 x5)
    (H7_12 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_44, r_45, r_46, r_47, r_48, r_49, r_50, r_51, r_55, r_56, r_57, r_58, r_59, r_60, r_61, r_62, v306, v311, v370, v375, rd16, rd32, rdc]
  · exact dk_first (tile x0 0 256) (tile x1 0 256) (tile x3 0 256) (tile x2 0 256) (tile x4 0 256) (tile x5 0 256) _ x
  · exact dk_own (tile x0 0 256) (tile x1 0 256) (tile x3 0 256) (tile x2 0 256) (tile x4 0 256) (tile x5 0 256) _ x
  · exact dk_next (tile x0 128 256) (tile x1 0 256) (tile x3 128 256) (tile x2 0 256) (tile x4 128 256) (tile x5 128 256) _ x
  · exact dk_own (tile x0 128 256) (tile x1 128 256) (tile x3 128 256) (tile x2 128 256) (tile x4 128 256) (tile x5 128 256) _ x

theorem dk_col3
    (I : ∀ y, View.canon (H7_13 (F := Ideal) c arg1 harg1 arg2 harg2 arg3 harg3 arg4 harg4 arg5 harg5 arg6 harg6 arg8 x0 x1 x2 x3 x4 x5) y = if (y 1).val / 128 < 3 then DK x0 x1 x2 x3 x4 x5 y else 0) :
    ∀ y, View.canon (H7_17 (F := Ideal) c arg1 harg1 arg2 harg2 arg3 harg3 arg4 harg4 arg5 harg5 arg6 harg6 arg8 x0 x1 x2 x3 x4 x5) y = if (y 1).val / 128 < 3 + 1 then DK x0 x1 x2 x3 x4 x5 y else 0 := by
  refine accum_chain (fun _ _ => 0) (kU x0 x1 x2 x3 x4 x5) (kM x0 x1 x2 x3 x4 x5) (kL x0 x1 x2 x3 x4 x5) 384 3 rfl
    inb_S256x2048_S128x128_0_384 inb_S256x2048_S128x128_0_384 inb_S256x2048_S128x128_0_384 inb_S256x2048_S128x128_128_384 _ _ _ _
    (H7_13 (F := Ideal) c arg1 harg1 arg2 harg2 arg3 harg3 arg4 harg4 arg5 harg5 arg6 harg6 arg8 x0 x1 x2 x3 x4 x5)
    (H7_14 (F := Ideal) c arg1 harg1 arg2 harg2 arg3 harg3 arg4 harg4 arg5 harg5 arg6 harg6 arg8 x0 x1 x2 x3 x4 x5)
    (H7_15 (F := Ideal) c arg1 harg1 arg2 harg2 arg3 harg3 arg4 harg4 arg5 harg5 arg6 harg6 arg8 x0 x1 x2 x3 x4 x5)
    (H7_16 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_66, r_67, r_68, r_69, r_70, r_71, r_72, r_73, r_77, r_78, r_79, r_80, r_81, r_82, r_83, r_84, v434, v439, v498, v503, rd16, rd32, rdc]
  · exact dk_first (tile x0 0 384) (tile x1 0 384) (tile x3 0 384) (tile x2 0 384) (tile x4 0 384) (tile x5 0 384) _ x
  · exact dk_own (tile x0 0 384) (tile x1 0 384) (tile x3 0 384) (tile x2 0 384) (tile x4 0 384) (tile x5 0 384) _ x
  · exact dk_next (tile x0 128 384) (tile x1 0 384) (tile x3 128 384) (tile x2 0 384) (tile x4 128 384) (tile x5 128 384) _ x
  · exact dk_own (tile x0 128 384) (tile x1 128 384) (tile x3 128 384) (tile x2 128 384) (tile x4 128 384) (tile x5 128 384) _ x

theorem dk_col4
    (I : ∀ y, View.canon (H7_17 (F := Ideal) c arg1 harg1 arg2 harg2 arg3 harg3 arg4 harg4 arg5 harg5 arg6 harg6 arg8 x0 x1 x2 x3 x4 x5) y = if (y 1).val / 128 < 4 then DK x0 x1 x2 x3 x4 x5 y else 0) :
    ∀ y, View.canon (H7_21 (F := Ideal) c arg1 harg1 arg2 harg2 arg3 harg3 arg4 harg4 arg5 harg5 arg6 harg6 arg8 x0 x1 x2 x3 x4 x5) y = if (y 1).val / 128 < 4 + 1 then DK x0 x1 x2 x3 x4 x5 y else 0 := by
  refine accum_chain (fun _ _ => 0) (kU x0 x1 x2 x3 x4 x5) (kM x0 x1 x2 x3 x4 x5) (kL x0 x1 x2 x3 x4 x5) 512 4 rfl
    inb_S256x2048_S128x128_0_512 inb_S256x2048_S128x128_0_512 inb_S256x2048_S128x128_0_512 inb_S256x2048_S128x128_128_512 _ _ _ _
    (H7_17 (F := Ideal) c arg1 harg1 arg2 harg2 arg3 harg3 arg4 harg4 arg5 harg5 arg6 harg6 arg8 x0 x1 x2 x3 x4 x5)
    (H7_18 (F := Ideal) c arg1 harg1 arg2 harg2 arg3 harg3 arg4 harg4 arg5 harg5 arg6 harg6 arg8 x0 x1 x2 x3 x4 x5)
    (H7_19 (F := Ideal) c arg1 harg1 arg2 harg2 arg3 harg3 arg4 harg4 arg5 harg5 arg6 harg6 arg8 x0 x1 x2 x3 x4 x5)
    (H7_20 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_88, r_89, r_90, r_91, r_92, r_93, r_94, r_95, r_99, r_100, r_101, r_102, r_103, r_104, r_105, r_106, v562, v567, v626, v631, rd16, rd32, rdc]
  · exact dk_first (tile x0 0 512) (tile x1 0 512) (tile x3 0 512) (tile x2 0 512) (tile x4 0 512) (tile x5 0 512) _ x
  · exact dk_own (tile x0 0 512) (tile x1 0 512) (tile x3 0 512) (tile x2 0 512) (tile x4 0 512) (tile x5 0 512) _ x
  · exact dk_next (tile x0 128 512) (tile x1 0 512) (tile x3 128 512) (tile x2 0 512) (tile x4 128 512) (tile x5 128 512) _ x
  · exact dk_own (tile x0 128 512) (tile x1 128 512) (tile x3 128 512) (tile x2 128 512) (tile x4 128 512) (tile x5 128 512) _ x

theorem dk_col5
    (I : ∀ y, View.canon (H7_21 (F := Ideal) c arg1 harg1 arg2 harg2 arg3 harg3 arg4 harg4 arg5 harg5 arg6 harg6 arg8 x0 x1 x2 x3 x4 x5) y = if (y 1).val / 128 < 5 then DK x0 x1 x2 x3 x4 x5 y else 0) :
    ∀ y, View.canon (H7_25 (F := Ideal) c arg1 harg1 arg2 harg2 arg3 harg3 arg4 harg4 arg5 harg5 arg6 harg6 arg8 x0 x1 x2 x3 x4 x5) y = if (y 1).val / 128 < 5 + 1 then DK x0 x1 x2 x3 x4 x5 y else 0 := by
  refine accum_chain (fun _ _ => 0) (kU x0 x1 x2 x3 x4 x5) (kM x0 x1 x2 x3 x4 x5) (kL x0 x1 x2 x3 x4 x5) 640 5 rfl
    inb_S256x2048_S128x128_0_640 inb_S256x2048_S128x128_0_640 inb_S256x2048_S128x128_0_640 inb_S256x2048_S128x128_128_640 _ _ _ _
    (H7_21 (F := Ideal) c arg1 harg1 arg2 harg2 arg3 harg3 arg4 harg4 arg5 harg5 arg6 harg6 arg8 x0 x1 x2 x3 x4 x5)
    (H7_22 (F := Ideal) c arg1 harg1 arg2 harg2 arg3 harg3 arg4 harg4 arg5 harg5 arg6 harg6 arg8 x0 x1 x2 x3 x4 x5)
    (H7_23 (F := Ideal) c arg1 harg1 arg2 harg2 arg3 harg3 arg4 harg4 arg5 harg5 arg6 harg6 arg8 x0 x1 x2 x3 x4 x5)
    (H7_24 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_110, r_111, r_112, r_113, r_114, r_115, r_116, r_117, r_121, r_122, r_123, r_124, r_125, r_126, r_127, r_128, v690, v695, v754, v759, rd16, rd32, rdc]
  · exact dk_first (tile x0 0 640) (tile x1 0 640) (tile x3 0 640) (tile x2 0 640) (tile x4 0 640) (tile x5 0 640) _ x
  · exact dk_own (tile x0 0 640) (tile x1 0 640) (tile x3 0 640) (tile x2 0 640) (tile x4 0 640) (tile x5 0 640) _ x
  · exact dk_next (tile x0 128 640) (tile x1 0 640) (tile x3 128 640) (tile x2 0 640) (tile x4 128 640) (tile x5 128 640) _ x
  · exact dk_own (tile x0 128 640) (tile x1 128 640) (tile x3 128 640) (tile x2 128 640) (tile x4 128 640) (tile x5 128 640) _ x

theorem dk_col6
    (I : ∀ y, View.canon (H7_25 (F := Ideal) c arg1 harg1 arg2 harg2 arg3 harg3 arg4 harg4 arg5 harg5 arg6 harg6 arg8 x0 x1 x2 x3 x4 x5) y = if (y 1).val / 128 < 6 then DK x0 x1 x2 x3 x4 x5 y else 0) :
    ∀ y, View.canon (H7_29 (F := Ideal) c arg1 harg1 arg2 harg2 arg3 harg3 arg4 harg4 arg5 harg5 arg6 harg6 arg8 x0 x1 x2 x3 x4 x5) y = if (y 1).val / 128 < 6 + 1 then DK x0 x1 x2 x3 x4 x5 y else 0 := by
  refine accum_chain (fun _ _ => 0) (kU x0 x1 x2 x3 x4 x5) (kM x0 x1 x2 x3 x4 x5) (kL x0 x1 x2 x3 x4 x5) 768 6 rfl
    inb_S256x2048_S128x128_0_768 inb_S256x2048_S128x128_0_768 inb_S256x2048_S128x128_0_768 inb_S256x2048_S128x128_128_768 _ _ _ _
    (H7_25 (F := Ideal) c arg1 harg1 arg2 harg2 arg3 harg3 arg4 harg4 arg5 harg5 arg6 harg6 arg8 x0 x1 x2 x3 x4 x5)
    (H7_26 (F := Ideal) c arg1 harg1 arg2 harg2 arg3 harg3 arg4 harg4 arg5 harg5 arg6 harg6 arg8 x0 x1 x2 x3 x4 x5)
    (H7_27 (F := Ideal) c arg1 harg1 arg2 harg2 arg3 harg3 arg4 harg4 arg5 harg5 arg6 harg6 arg8 x0 x1 x2 x3 x4 x5)
    (H7_28 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_132, r_133, r_134, r_135, r_136, r_137, r_138, r_139, r_143, r_144, r_145, r_146, r_147, r_148, r_149, r_150, v818, v823, v882, v887, rd16, rd32, rdc]
  · exact dk_first (tile x0 0 768) (tile x1 0 768) (tile x3 0 768) (tile x2 0 768) (tile x4 0 768) (tile x5 0 768) _ x
  · exact dk_own (tile x0 0 768) (tile x1 0 768) (tile x3 0 768) (tile x2 0 768) (tile x4 0 768) (tile x5 0 768) _ x
  · exact dk_next (tile x0 128 768) (tile x1 0 768) (tile x3 128 768) (tile x2 0 768) (tile x4 128 768) (tile x5 128 768) _ x
  · exact dk_own (tile x0 128 768) (tile x1 128 768) (tile x3 128 768) (tile x2 128 768) (tile x4 128 768) (tile x5 128 768) _ x

theorem dk_col7
    (I : ∀ y, View.canon (H7_29 (F := Ideal) c arg1 harg1 arg2 harg2 arg3 harg3 arg4 harg4 arg5 harg5 arg6 harg6 arg8 x0 x1 x2 x3 x4 x5) y = if (y 1).val / 128 < 7 then DK x0 x1 x2 x3 x4 x5 y else 0) :
    ∀ y, View.canon (H7_33 (F := Ideal) c arg1 harg1 arg2 harg2 arg3 harg3 arg4 harg4 arg5 harg5 arg6 harg6 arg8 x0 x1 x2 x3 x4 x5) y = if (y 1).val / 128 < 7 + 1 then DK x0 x1 x2 x3 x4 x5 y else 0 := by
  refine accum_chain (fun _ _ => 0) (kU x0 x1 x2 x3 x4 x5) (kM x0 x1 x2 x3 x4 x5) (kL x0 x1 x2 x3 x4 x5) 896 7 rfl
    inb_S256x2048_S128x128_0_896 inb_S256x2048_S128x128_0_896 inb_S256x2048_S128x128_0_896 inb_S256x2048_S128x128_128_896 _ _ _ _
    (H7_29 (F := Ideal) c arg1 harg1 arg2 harg2 arg3 harg3 arg4 harg4 arg5 harg5 arg6 harg6 arg8 x0 x1 x2 x3 x4 x5)
    (H7_30 (F := Ideal) c arg1 harg1 arg2 harg2 arg3 harg3 arg4 harg4 arg5 harg5 arg6 harg6 arg8 x0 x1 x2 x3 x4 x5)
    (H7_31 (F := Ideal) c arg1 harg1 arg2 harg2 arg3 harg3 arg4 harg4 arg5 harg5 arg6 harg6 arg8 x0 x1 x2 x3 x4 x5)
    (H7_32 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_154, r_155, r_156, r_157, r_158, r_159, r_160, r_161, r_165, r_166, r_167, r_168, r_169, r_170, r_171, r_172, v946, v951, v1010, v1015, rd16, rd32, rdc]
  · exact dk_first (tile x0 0 896) (tile x1 0 896) (tile x3 0 896) (tile x2 0 896) (tile x4 0 896) (tile x5 0 896) _ x
  · exact dk_own (tile x0 0 896) (tile x1 0 896) (tile x3 0 896) (tile x2 0 896) (tile x4 0 896) (tile x5 0 896) _ x
  · exact dk_next (tile x0 128 896) (tile x1 0 896) (tile x3 128 896) (tile x2 0 896) (tile x4 128 896) (tile x5 128 896) _ x
  · exact dk_own (tile x0 128 896) (tile x1 128 896) (tile x3 128 896) (tile x2 128 896) (tile x4 128 896) (tile x5 128 896) _ x

theorem dk_col8
    (I : ∀ y, View.canon (H7_33 (F := Ideal) c arg1 harg1 arg2 harg2 arg3 harg3 arg4 harg4 arg5 harg5 arg6 harg6 arg8 x0 x1 x2 x3 x4 x5) y = if (y 1).val / 128 < 8 then DK x0 x1 x2 x3 x4 x5 y else 0) :
    ∀ y, View.canon (H7_37 (F := Ideal) c arg1 harg1 arg2 harg2 arg3 harg3 arg4 harg4 arg5 harg5 arg6 harg6 arg8 x0 x1 x2 x3 x4 x5) y = if (y 1).val / 128 < 8 + 1 then DK x0 x1 x2 x3 x4 x5 y else 0 := by
  refine accum_chain (fun _ _ => 0) (kU x0 x1 x2 x3 x4 x5) (kM x0 x1 x2 x3 x4 x5) (kL x0 x1 x2 x3 x4 x5) 1024 8 rfl
    inb_S256x2048_S128x128_0_1024 inb_S256x2048_S128x128_0_1024 inb_S256x2048_S128x128_0_1024 inb_S256x2048_S128x128_128_1024 _ _ _ _
    (H7_33 (F := Ideal) c arg1 harg1 arg2 harg2 arg3 harg3 arg4 harg4 arg5 harg5 arg6 harg6 arg8 x0 x1 x2 x3 x4 x5)
    (H7_34 (F := Ideal) c arg1 harg1 arg2 harg2 arg3 harg3 arg4 harg4 arg5 harg5 arg6 harg6 arg8 x0 x1 x2 x3 x4 x5)
    (H7_35 (F := Ideal) c arg1 harg1 arg2 harg2 arg3 harg3 arg4 harg4 arg5 harg5 arg6 harg6 arg8 x0 x1 x2 x3 x4 x5)
    (H7_36 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_176, r_177, r_178, r_179, r_180, r_181, r_182, r_183, r_187, r_188, r_189, r_190, r_191, r_192, r_193, r_194, v1074, v1079, v1138, v1143, rd16, rd32, rdc]
  · exact dk_first (tile x0 0 1024) (tile x1 0 1024) (tile x3 0 1024) (tile x2 0 1024) (tile x4 0 1024) (tile x5 0 1024) _ x
  · exact dk_own (tile x0 0 1024) (tile x1 0 1024) (tile x3 0 1024) (tile x2 0 1024) (tile x4 0 1024) (tile x5 0 1024) _ x
  · exact dk_next (tile x0 128 1024) (tile x1 0 1024) (tile x3 128 1024) (tile x2 0 1024) (tile x4 128 1024) (tile x5 128 1024) _ x
  · exact dk_own (tile x0 128 1024) (tile x1 128 1024) (tile x3 128 1024) (tile x2 128 1024) (tile x4 128 1024) (tile x5 128 1024) _ x

theorem dk_col9
    (I : ∀ y, View.canon (H7_37 (F := Ideal) c arg1 harg1 arg2 harg2 arg3 harg3 arg4 harg4 arg5 harg5 arg6 harg6 arg8 x0 x1 x2 x3 x4 x5) y = if (y 1).val / 128 < 9 then DK x0 x1 x2 x3 x4 x5 y else 0) :
    ∀ y, View.canon (H7_41 (F := Ideal) c arg1 harg1 arg2 harg2 arg3 harg3 arg4 harg4 arg5 harg5 arg6 harg6 arg8 x0 x1 x2 x3 x4 x5) y = if (y 1).val / 128 < 9 + 1 then DK x0 x1 x2 x3 x4 x5 y else 0 := by
  refine accum_chain (fun _ _ => 0) (kU x0 x1 x2 x3 x4 x5) (kM x0 x1 x2 x3 x4 x5) (kL x0 x1 x2 x3 x4 x5) 1152 9 rfl
    inb_S256x2048_S128x128_0_1152 inb_S256x2048_S128x128_0_1152 inb_S256x2048_S128x128_0_1152 inb_S256x2048_S128x128_128_1152 _ _ _ _
    (H7_37 (F := Ideal) c arg1 harg1 arg2 harg2 arg3 harg3 arg4 harg4 arg5 harg5 arg6 harg6 arg8 x0 x1 x2 x3 x4 x5)
    (H7_38 (F := Ideal) c arg1 harg1 arg2 harg2 arg3 harg3 arg4 harg4 arg5 harg5 arg6 harg6 arg8 x0 x1 x2 x3 x4 x5)
    (H7_39 (F := Ideal) c arg1 harg1 arg2 harg2 arg3 harg3 arg4 harg4 arg5 harg5 arg6 harg6 arg8 x0 x1 x2 x3 x4 x5)
    (H7_40 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_198, r_199, r_200, r_201, r_202, r_203, r_204, r_205, r_209, r_210, r_211, r_212, r_213, r_214, r_215, r_216, v1202, v1207, v1266, v1271, rd16, rd32, rdc]
  · exact dk_first (tile x0 0 1152) (tile x1 0 1152) (tile x3 0 1152) (tile x2 0 1152) (tile x4 0 1152) (tile x5 0 1152) _ x
  · exact dk_own (tile x0 0 1152) (tile x1 0 1152) (tile x3 0 1152) (tile x2 0 1152) (tile x4 0 1152) (tile x5 0 1152) _ x
  · exact dk_next (tile x0 128 1152) (tile x1 0 1152) (tile x3 128 1152) (tile x2 0 1152) (tile x4 128 1152) (tile x5 128 1152) _ x
  · exact dk_own (tile x0 128 1152) (tile x1 128 1152) (tile x3 128 1152) (tile x2 128 1152) (tile x4 128 1152) (tile x5 128 1152) _ x

theorem dk_col10
    (I : ∀ y, View.canon (H7_41 (F := Ideal) c arg1 harg1 arg2 harg2 arg3 harg3 arg4 harg4 arg5 harg5 arg6 harg6 arg8 x0 x1 x2 x3 x4 x5) y = if (y 1).val / 128 < 10 then DK x0 x1 x2 x3 x4 x5 y else 0) :
    ∀ y, View.canon (H7_45 (F := Ideal) c arg1 harg1 arg2 harg2 arg3 harg3 arg4 harg4 arg5 harg5 arg6 harg6 arg8 x0 x1 x2 x3 x4 x5) y = if (y 1).val / 128 < 10 + 1 then DK x0 x1 x2 x3 x4 x5 y else 0 := by
  refine accum_chain (fun _ _ => 0) (kU x0 x1 x2 x3 x4 x5) (kM x0 x1 x2 x3 x4 x5) (kL x0 x1 x2 x3 x4 x5) 1280 10 rfl
    inb_S256x2048_S128x128_0_1280 inb_S256x2048_S128x128_0_1280 inb_S256x2048_S128x128_0_1280 inb_S256x2048_S128x128_128_1280 _ _ _ _
    (H7_41 (F := Ideal) c arg1 harg1 arg2 harg2 arg3 harg3 arg4 harg4 arg5 harg5 arg6 harg6 arg8 x0 x1 x2 x3 x4 x5)
    (H7_42 (F := Ideal) c arg1 harg1 arg2 harg2 arg3 harg3 arg4 harg4 arg5 harg5 arg6 harg6 arg8 x0 x1 x2 x3 x4 x5)
    (H7_43 (F := Ideal) c arg1 harg1 arg2 harg2 arg3 harg3 arg4 harg4 arg5 harg5 arg6 harg6 arg8 x0 x1 x2 x3 x4 x5)
    (H7_44 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_220, r_221, r_222, r_223, r_224, r_225, r_226, r_227, r_231, r_232, r_233, r_234, r_235, r_236, r_237, r_238, v1330, v1335, v1394, v1399, rd16, rd32, rdc]
  · exact dk_first (tile x0 0 1280) (tile x1 0 1280) (tile x3 0 1280) (tile x2 0 1280) (tile x4 0 1280) (tile x5 0 1280) _ x
  · exact dk_own (tile x0 0 1280) (tile x1 0 1280) (tile x3 0 1280) (tile x2 0 1280) (tile x4 0 1280) (tile x5 0 1280) _ x
  · exact dk_next (tile x0 128 1280) (tile x1 0 1280) (tile x3 128 1280) (tile x2 0 1280) (tile x4 128 1280) (tile x5 128 1280) _ x
  · exact dk_own (tile x0 128 1280) (tile x1 128 1280) (tile x3 128 1280) (tile x2 128 1280) (tile x4 128 1280) (tile x5 128 1280) _ x

theorem dk_col11
    (I : ∀ y, View.canon (H7_45 (F := Ideal) c arg1 harg1 arg2 harg2 arg3 harg3 arg4 harg4 arg5 harg5 arg6 harg6 arg8 x0 x1 x2 x3 x4 x5) y = if (y 1).val / 128 < 11 then DK x0 x1 x2 x3 x4 x5 y else 0) :
    ∀ y, View.canon (H7_49 (F := Ideal) c arg1 harg1 arg2 harg2 arg3 harg3 arg4 harg4 arg5 harg5 arg6 harg6 arg8 x0 x1 x2 x3 x4 x5) y = if (y 1).val / 128 < 11 + 1 then DK x0 x1 x2 x3 x4 x5 y else 0 := by
  refine accum_chain (fun _ _ => 0) (kU x0 x1 x2 x3 x4 x5) (kM x0 x1 x2 x3 x4 x5) (kL x0 x1 x2 x3 x4 x5) 1408 11 rfl
    inb_S256x2048_S128x128_0_1408 inb_S256x2048_S128x128_0_1408 inb_S256x2048_S128x128_0_1408 inb_S256x2048_S128x128_128_1408 _ _ _ _
    (H7_45 (F := Ideal) c arg1 harg1 arg2 harg2 arg3 harg3 arg4 harg4 arg5 harg5 arg6 harg6 arg8 x0 x1 x2 x3 x4 x5)
    (H7_46 (F := Ideal) c arg1 harg1 arg2 harg2 arg3 harg3 arg4 harg4 arg5 harg5 arg6 harg6 arg8 x0 x1 x2 x3 x4 x5)
    (H7_47 (F := Ideal) c arg1 harg1 arg2 harg2 arg3 harg3 arg4 harg4 arg5 harg5 arg6 harg6 arg8 x0 x1 x2 x3 x4 x5)
    (H7_48 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_242, r_243, r_244, r_245, r_246, r_247, r_248, r_249, r_253, r_254, r_255, r_256, r_257, r_258, r_259, r_260, v1458, v1463, v1522, v1527, rd16, rd32, rdc]
  · exact dk_first (tile x0 0 1408) (tile x1 0 1408) (tile x3 0 1408) (tile x2 0 1408) (tile x4 0 1408) (tile x5 0 1408) _ x
  · exact dk_own (tile x0 0 1408) (tile x1 0 1408) (tile x3 0 1408) (tile x2 0 1408) (tile x4 0 1408) (tile x5 0 1408) _ x
  · exact dk_next (tile x0 128 1408) (tile x1 0 1408) (tile x3 128 1408) (tile x2 0 1408) (tile x4 128 1408) (tile x5 128 1408) _ x
  · exact dk_own (tile x0 128 1408) (tile x1 128 1408) (tile x3 128 1408) (tile x2 128 1408) (tile x4 128 1408) (tile x5 128 1408) _ x

theorem dk_col12
    (I : ∀ y, View.canon (H7_49 (F := Ideal) c arg1 harg1 arg2 harg2 arg3 harg3 arg4 harg4 arg5 harg5 arg6 harg6 arg8 x0 x1 x2 x3 x4 x5) y = if (y 1).val / 128 < 12 then DK x0 x1 x2 x3 x4 x5 y else 0) :
    ∀ y, View.canon (H7_53 (F := Ideal) c arg1 harg1 arg2 harg2 arg3 harg3 arg4 harg4 arg5 harg5 arg6 harg6 arg8 x0 x1 x2 x3 x4 x5) y = if (y 1).val / 128 < 12 + 1 then DK x0 x1 x2 x3 x4 x5 y else 0 := by
  refine accum_chain (fun _ _ => 0) (kU x0 x1 x2 x3 x4 x5) (kM x0 x1 x2 x3 x4 x5) (kL x0 x1 x2 x3 x4 x5) 1536 12 rfl
    inb_S256x2048_S128x128_0_1536 inb_S256x2048_S128x128_0_1536 inb_S256x2048_S128x128_0_1536 inb_S256x2048_S128x128_128_1536 _ _ _ _
    (H7_49 (F := Ideal) c arg1 harg1 arg2 harg2 arg3 harg3 arg4 harg4 arg5 harg5 arg6 harg6 arg8 x0 x1 x2 x3 x4 x5)
    (H7_50 (F := Ideal) c arg1 harg1 arg2 harg2 arg3 harg3 arg4 harg4 arg5 harg5 arg6 harg6 arg8 x0 x1 x2 x3 x4 x5)
    (H7_51 (F := Ideal) c arg1 harg1 arg2 harg2 arg3 harg3 arg4 harg4 arg5 harg5 arg6 harg6 arg8 x0 x1 x2 x3 x4 x5)
    (H7_52 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_264, r_265, r_266, r_267, r_268, r_269, r_270, r_271, r_275, r_276, r_277, r_278, r_279, r_280, r_281, r_282, v1586, v1591, v1650, v1655, rd16, rd32, rdc]
  · exact dk_first (tile x0 0 1536) (tile x1 0 1536) (tile x3 0 1536) (tile x2 0 1536) (tile x4 0 1536) (tile x5 0 1536) _ x
  · exact dk_own (tile x0 0 1536) (tile x1 0 1536) (tile x3 0 1536) (tile x2 0 1536) (tile x4 0 1536) (tile x5 0 1536) _ x
  · exact dk_next (tile x0 128 1536) (tile x1 0 1536) (tile x3 128 1536) (tile x2 0 1536) (tile x4 128 1536) (tile x5 128 1536) _ x
  · exact dk_own (tile x0 128 1536) (tile x1 128 1536) (tile x3 128 1536) (tile x2 128 1536) (tile x4 128 1536) (tile x5 128 1536) _ x

theorem dk_col13
    (I : ∀ y, View.canon (H7_53 (F := Ideal) c arg1 harg1 arg2 harg2 arg3 harg3 arg4 harg4 arg5 harg5 arg6 harg6 arg8 x0 x1 x2 x3 x4 x5) y = if (y 1).val / 128 < 13 then DK x0 x1 x2 x3 x4 x5 y else 0) :
    ∀ y, View.canon (H7_57 (F := Ideal) c arg1 harg1 arg2 harg2 arg3 harg3 arg4 harg4 arg5 harg5 arg6 harg6 arg8 x0 x1 x2 x3 x4 x5) y = if (y 1).val / 128 < 13 + 1 then DK x0 x1 x2 x3 x4 x5 y else 0 := by
  refine accum_chain (fun _ _ => 0) (kU x0 x1 x2 x3 x4 x5) (kM x0 x1 x2 x3 x4 x5) (kL x0 x1 x2 x3 x4 x5) 1664 13 rfl
    inb_S256x2048_S128x128_0_1664 inb_S256x2048_S128x128_0_1664 inb_S256x2048_S128x128_0_1664 inb_S256x2048_S128x128_128_1664 _ _ _ _
    (H7_53 (F := Ideal) c arg1 harg1 arg2 harg2 arg3 harg3 arg4 harg4 arg5 harg5 arg6 harg6 arg8 x0 x1 x2 x3 x4 x5)
    (H7_54 (F := Ideal) c arg1 harg1 arg2 harg2 arg3 harg3 arg4 harg4 arg5 harg5 arg6 harg6 arg8 x0 x1 x2 x3 x4 x5)
    (H7_55 (F := Ideal) c arg1 harg1 arg2 harg2 arg3 harg3 arg4 harg4 arg5 harg5 arg6 harg6 arg8 x0 x1 x2 x3 x4 x5)
    (H7_56 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_286, r_287, r_288, r_289, r_290, r_291, r_292, r_293, r_297, r_298, r_299, r_300, r_301, r_302, r_303, r_304, v1714, v1719, v1778, v1783, rd16, rd32, rdc]
  · exact dk_first (tile x0 0 1664) (tile x1 0 1664) (tile x3 0 1664) (tile x2 0 1664) (tile x4 0 1664) (tile x5 0 1664) _ x
  · exact dk_own (tile x0 0 1664) (tile x1 0 1664) (tile x3 0 1664) (tile x2 0 1664) (tile x4 0 1664) (tile x5 0 1664) _ x
  · exact dk_next (tile x0 128 1664) (tile x1 0 1664) (tile x3 128 1664) (tile x2 0 1664) (tile x4 128 1664) (tile x5 128 1664) _ x
  · exact dk_own (tile x0 128 1664) (tile x1 128 1664) (tile x3 128 1664) (tile x2 128 1664) (tile x4 128 1664) (tile x5 128 1664) _ x

theorem dk_col14
    (I : ∀ y, View.canon (H7_57 (F := Ideal) c arg1 harg1 arg2 harg2 arg3 harg3 arg4 harg4 arg5 harg5 arg6 harg6 arg8 x0 x1 x2 x3 x4 x5) y = if (y 1).val / 128 < 14 then DK x0 x1 x2 x3 x4 x5 y else 0) :
    ∀ y, View.canon (H7_61 (F := Ideal) c arg1 harg1 arg2 harg2 arg3 harg3 arg4 harg4 arg5 harg5 arg6 harg6 arg8 x0 x1 x2 x3 x4 x5) y = if (y 1).val / 128 < 14 + 1 then DK x0 x1 x2 x3 x4 x5 y else 0 := by
  refine accum_chain (fun _ _ => 0) (kU x0 x1 x2 x3 x4 x5) (kM x0 x1 x2 x3 x4 x5) (kL x0 x1 x2 x3 x4 x5) 1792 14 rfl
    inb_S256x2048_S128x128_0_1792 inb_S256x2048_S128x128_0_1792 inb_S256x2048_S128x128_0_1792 inb_S256x2048_S128x128_128_1792 _ _ _ _
    (H7_57 (F := Ideal) c arg1 harg1 arg2 harg2 arg3 harg3 arg4 harg4 arg5 harg5 arg6 harg6 arg8 x0 x1 x2 x3 x4 x5)
    (H7_58 (F := Ideal) c arg1 harg1 arg2 harg2 arg3 harg3 arg4 harg4 arg5 harg5 arg6 harg6 arg8 x0 x1 x2 x3 x4 x5)
    (H7_59 (F := Ideal) c arg1 harg1 arg2 harg2 arg3 harg3 arg4 harg4 arg5 harg5 arg6 harg6 arg8 x0 x1 x2 x3 x4 x5)
    (H7_60 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_308, r_309, r_310, r_311, r_312, r_313, r_314, r_315, r_319, r_320, r_321, r_322, r_323, r_324, r_325, r_326, v1842, v1847, v1906, v1911, rd16, rd32, rdc]
  · exact dk_first (tile x0 0 1792) (tile x1 0 1792) (tile x3 0 1792) (tile x2 0 1792) (tile x4 0 1792) (tile x5 0 1792) _ x
  · exact dk_own (tile x0 0 1792) (tile x1 0 1792) (tile x3 0 1792) (tile x2 0 1792) (tile x4 0 1792) (tile x5 0 1792) _ x
  · exact dk_next (tile x0 128 1792) (tile x1 0 1792) (tile x3 128 1792) (tile x2 0 1792) (tile x4 128 1792) (tile x5 128 1792) _ x
  · exact dk_own (tile x0 128 1792) (tile x1 128 1792) (tile x3 128 1792) (tile x2 128 1792) (tile x4 128 1792) (tile x5 128 1792) _ x

theorem dk_col15
    (I : ∀ y, View.canon (H7_61 (F := Ideal) c arg1 harg1 arg2 harg2 arg3 harg3 arg4 harg4 arg5 harg5 arg6 harg6 arg8 x0 x1 x2 x3 x4 x5) y = if (y 1).val / 128 < 15 then DK x0 x1 x2 x3 x4 x5 y else 0) :
    ∀ y, View.canon (kernelRun0_A (F := Ideal) c i arg1 harg1 arg2 harg2 arg3 harg3 arg4 harg4 arg5 harg5 arg6 harg6 arg7 harg7 arg8 harg8 arg9 harg9 x0 x1 x2 x3 x4 x5).2.1 y = if (y 1).val / 128 < 15 + 1 then DK x0 x1 x2 x3 x4 x5 y else 0 := by
  refine accum_chain (fun _ _ => 0) (kU x0 x1 x2 x3 x4 x5) (kM x0 x1 x2 x3 x4 x5) (kL x0 x1 x2 x3 x4 x5) 1920 15 rfl
    inb_S256x2048_S128x128_0_1920 inb_S256x2048_S128x128_0_1920 inb_S256x2048_S128x128_0_1920 inb_S256x2048_S128x128_128_1920 _ _ _ _
    (H7_61 (F := Ideal) c arg1 harg1 arg2 harg2 arg3 harg3 arg4 harg4 arg5 harg5 arg6 harg6 arg8 x0 x1 x2 x3 x4 x5)
    (H7_62 (F := Ideal) c arg1 harg1 arg2 harg2 arg3 harg3 arg4 harg4 arg5 harg5 arg6 harg6 arg8 x0 x1 x2 x3 x4 x5)
    (H7_63 (F := Ideal) c arg1 harg1 arg2 harg2 arg3 harg3 arg4 harg4 arg5 harg5 arg6 harg6 arg8 x0 x1 x2 x3 x4 x5)
    (H7_64 (F := Ideal) c arg1 harg1 arg2 harg2 arg3 harg3 arg4 harg4 arg5 harg5 arg6 harg6 arg8 x0 x1 x2 x3 x4 x5) _ rfl rfl rfl rfl I ?_ ?_ ?_ ?_
  all_goals
    intro x
    simp only [r_330, r_331, r_332, r_333, r_334, r_335, r_336, r_337, r_341, r_342, r_343, r_344, r_345, r_346, r_347, r_348, v1970, v1975, v2034, v2039, rd16, rd32, rdc]
  · exact dk_first (tile x0 0 1920) (tile x1 0 1920) (tile x3 0 1920) (tile x2 0 1920) (tile x4 0 1920) (tile x5 0 1920) _ x
  · exact dk_own (tile x0 0 1920) (tile x1 0 1920) (tile x3 0 1920) (tile x2 0 1920) (tile x4 0 1920) (tile x5 0 1920) _ x
  · exact dk_next (tile x0 128 1920) (tile x1 0 1920) (tile x3 128 1920) (tile x2 0 1920) (tile x4 128 1920) (tile x5 128 1920) _ x
  · exact dk_own (tile x0 128 1920) (tile x1 128 1920) (tile x3 128 1920) (tile x2 128 1920) (tile x4 128 1920) (tile x5 128 1920) _ x

theorem dk_start (y : S256x2048.Idx) : View.canon (H7_1 (F := Ideal)) y = 0 := by
  have e : (Rect.unit (s := S256x2048) ![0, 0] S256x2048.size inb_S256x2048_S256x2048_0_0).emb y = y := by
    funext a
    apply Fin.ext
    fin_cases a
    · simp
    · simp
  conv_lhs => rw [← e]
  refine (View.canon_cons_emb (Rect.unit (s := S256x2048) ![0, 0] S256x2048.size inb_S256x2048_S256x2048_0_0) _ _ y).trans ?_
  idx_vars y
  pointwise [k0_pay5]

theorem dk_run (y : S256x2048.Idx) : View.canon (kernelRun0_A (F := Ideal) c i arg1 harg1 arg2 harg2 arg3 harg3 arg4 harg4 arg5 harg5 arg6 harg6 arg7 harg7 arg8 harg8 arg9 harg9 x0 x1 x2 x3 x4 x5).2.1 y = DK x0 x1 x2 x3 x4 x5 y := by
  have hy : (y 1).val < 2048 := (y 1).isLt
  have s0 : ∀ y, View.canon (H7_1 (F := Ideal)) y = if (y 1).val / 128 < 0 then DK x0 x1 x2 x3 x4 x5 y else 0 := fun y => by
    rw [if_neg (Nat.not_lt_zero _)]
    exact dk_start y
  have s1 := dk_col0 c arg1 harg1 arg2 harg2 arg3 harg3 arg4 harg4 arg5 harg5 arg6 harg6 arg8 x0 x1 x2 x3 x4 x5 s0
  have s2 := dk_col1 c arg1 harg1 arg2 harg2 arg3 harg3 arg4 harg4 arg5 harg5 arg6 harg6 arg8 x0 x1 x2 x3 x4 x5 s1
  have s3 := dk_col2 c arg1 harg1 arg2 harg2 arg3 harg3 arg4 harg4 arg5 harg5 arg6 harg6 arg8 x0 x1 x2 x3 x4 x5 s2
  have s4 := dk_col3 c arg1 harg1 arg2 harg2 arg3 harg3 arg4 harg4 arg5 harg5 arg6 harg6 arg8 x0 x1 x2 x3 x4 x5 s3
  have s5 := dk_col4 c arg1 harg1 arg2 harg2 arg3 harg3 arg4 harg4 arg5 harg5 arg6 harg6 arg8 x0 x1 x2 x3 x4 x5 s4
  have s6 := dk_col5 c arg1 harg1 arg2 harg2 arg3 harg3 arg4 harg4 arg5 harg5 arg6 harg6 arg8 x0 x1 x2 x3 x4 x5 s5
  have s7 := dk_col6 c arg1 harg1 arg2 harg2 arg3 harg3 arg4 harg4 arg5 harg5 arg6 harg6 arg8 x0 x1 x2 x3 x4 x5 s6
  have s8 := dk_col7 c arg1 harg1 arg2 harg2 arg3 harg3 arg4 harg4 arg5 harg5 arg6 harg6 arg8 x0 x1 x2 x3 x4 x5 s7
  have s9 := dk_col8 c arg1 harg1 arg2 harg2 arg3 harg3 arg4 harg4 arg5 harg5 arg6 harg6 arg8 x0 x1 x2 x3 x4 x5 s8
  have s10 := dk_col9 c arg1 harg1 arg2 harg2 arg3 harg3 arg4 harg4 arg5 harg5 arg6 harg6 arg8 x0 x1 x2 x3 x4 x5 s9
  have s11 := dk_col10 c arg1 harg1 arg2 harg2 arg3 harg3 arg4 harg4 arg5 harg5 arg6 harg6 arg8 x0 x1 x2 x3 x4 x5 s10
  have s12 := dk_col11 c arg1 harg1 arg2 harg2 arg3 harg3 arg4 harg4 arg5 harg5 arg6 harg6 arg8 x0 x1 x2 x3 x4 x5 s11
  have s13 := dk_col12 c arg1 harg1 arg2 harg2 arg3 harg3 arg4 harg4 arg5 harg5 arg6 harg6 arg8 x0 x1 x2 x3 x4 x5 s12
  have s14 := dk_col13 c arg1 harg1 arg2 harg2 arg3 harg3 arg4 harg4 arg5 harg5 arg6 harg6 arg8 x0 x1 x2 x3 x4 x5 s13
  have s15 := dk_col14 c arg1 harg1 arg2 harg2 arg3 harg3 arg4 harg4 arg5 harg5 arg6 harg6 arg8 x0 x1 x2 x3 x4 x5 s14
  exact (dk_col15 c i arg1 harg1 arg2 harg2 arg3 harg3 arg4 harg4 arg5 harg5 arg6 harg6 arg7 harg7 arg8 harg8 arg9 harg9 x0 x1 x2 x3 x4 x5 s15 y).trans (if_pos (by omega))

end Cert.AttnBwd

end
-- ==== Proof.AttnDv.lean ====
/- The values' gradient of a block, column by column. -/
module

public import proofs.«01_k».proof.Proof.AttnRead

@[expose] public section

set_option maxRecDepth 16384

noncomputable section

open Idealize.ShloMosaic Idealize.ShloMosaic.TcCoe Idealize.SL.Sem

namespace Cert.AttnBwd

open Cert.Kernel29Ideal Cert.Kernel29Ideal.Gen
open kernelRun0_A.sl

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .f32) (harg5 : arg5.IsWhole) (arg6 : Memref sig .tc .vmem S256x2048 .f32) (harg6 : arg6.IsWhole)
  (arg7 : Memref sig .tc .vmem S256x2048 .f32) (harg7 : arg7.IsWhole) (arg8 : Memref sig .tc .vmem S256x2048 .f32) (harg8 : arg8.IsWhole)
  (arg9 : Memref sig .tc .vmem S256x2048 .f32) (harg9 : arg9.IsWhole)
  (x0 x1 x2 x3 : Vec Ideal S256x2048 .bf16) (x4 x5 : Vec Ideal S256x2048 .f32)

theorem dv_col0
    (I : ∀ y, View.canon (H8_1 (F := Ideal)) y = if (y 1).val / 128 < 0 then DV x0 x1 x3 x4 y else 0) :
    ∀ y, View.canon (H8_5 (F := Ideal) c arg1 harg1 arg2 harg2 arg4 harg4 arg5 harg5 arg9 x0 x1 x3 x4) y = if (y 1).val / 128 < 0 + 1 then DV x0 x1 x3 x4 y else 0 := by
  refine accum_chain (fun _ _ => 0) (vU x0 x1 x3 x4) (vM x0 x1 x3 x4) (vL x0 x1 x3 x4) 0 0 rfl
    inb_S256x2048_S128x128_0_0 inb_S256x2048_S128x128_0_0 inb_S256x2048_S128x128_0_0 inb_S256x2048_S128x128_128_0 _ _ _ _
    (H8_1 (F := Ideal))
    (H8_2 (F := Ideal) c arg1 harg1 arg2 harg2 arg4 harg4 arg5 harg5 arg9 x0 x1 x3 x4)
    (H8_3 (F := Ideal) c arg1 harg1 arg2 harg2 arg4 harg4 arg5 harg5 arg9 x0 x1 x3 x4)
    (H8_4 (F := Ideal) c arg1 harg1 arg2 harg2 arg4 harg4 arg5 harg5 arg9 x0 x1 x3 x4) _ rfl rfl rfl rfl I ?_ ?_ ?_ ?_
  all_goals
    intro x
    simp only [r, r_1, r_2, r_3, r_4, r_5, r_6, r_7, r_8, r_9, r_10, r_11, r_12, r_13, r_14, r_15, r_16, r_17, r_18, r_19, r_20, r_21, v60, v66, v124, v130, rd16, rd32, rdc]
  · exact dv_first (tile x0 0 0) (tile x1 0 0) (tile x3 0 0) (tile x4 0 0) _ x
  · exact dv_own (tile x0 0 0) (tile x1 0 0) (tile x3 0 0) (tile x4 0 0) _ x
  · exact dv_next (tile x0 128 0) (tile x1 0 0) (tile x3 128 0) (tile x4 128 0) _ x
  · exact dv_own (tile x0 128 0) (tile x1 128 0) (tile x3 128 0) (tile x4 128 0) _ x

theorem dv_col1
    (I : ∀ y, View.canon (H8_5 (F := Ideal) c arg1 harg1 arg2 harg2 arg4 harg4 arg5 harg5 arg9 x0 x1 x3 x4) y = if (y 1).val / 128 < 1 then DV x0 x1 x3 x4 y else 0) :
    ∀ y, View.canon (H8_9 (F := Ideal) c arg1 harg1 arg2 harg2 arg4 harg4 arg5 harg5 arg9 x0 x1 x3 x4) y = if (y 1).val / 128 < 1 + 1 then DV x0 x1 x3 x4 y else 0 := by
  refine accum_chain (fun _ _ => 0) (vU x0 x1 x3 x4) (vM x0 x1 x3 x4) (vL x0 x1 x3 x4) 128 1 rfl
    inb_S256x2048_S128x128_0_128 inb_S256x2048_S128x128_0_128 inb_S256x2048_S128x128_0_128 inb_S256x2048_S128x128_128_128 _ _ _ _
    (H8_5 (F := Ideal) c arg1 harg1 arg2 harg2 arg4 harg4 arg5 harg5 arg9 x0 x1 x3 x4)
    (H8_6 (F := Ideal) c arg1 harg1 arg2 harg2 arg4 harg4 arg5 harg5 arg9 x0 x1 x3 x4)
    (H8_7 (F := Ideal) c arg1 harg1 arg2 harg2 arg4 harg4 arg5 harg5 arg9 x0 x1 x3 x4)
    (H8_8 (F := Ideal) c arg1 harg1 arg2 harg2 arg4 harg4 arg5 harg5 arg9 x0 x1 x3 x4) _ rfl rfl rfl rfl I ?_ ?_ ?_ ?_
  all_goals
    intro x
    simp only [r_22, r_23, r_24, r_25, r_26, r_27, r_28, r_29, r_30, r_31, r_32, r_33, r_34, r_35, r_36, r_37, r_38, r_39, r_40, r_41, r_42, r_43, v188, v194, v252, v258, rd16, rd32, rdc]
  · exact dv_first (tile x0 0 128) (tile x1 0 128) (tile x3 0 128) (tile x4 0 128) _ x
  · exact dv_own (tile x0 0 128) (tile x1 0 128) (tile x3 0 128) (tile x4 0 128) _ x
  · exact dv_next (tile x0 128 128) (tile x1 0 128) (tile x3 128 128) (tile x4 128 128) _ x
  · exact dv_own (tile x0 128 128) (tile x1 128 128) (tile x3 128 128) (tile x4 128 128) _ x

theorem dv_col2
    (I : ∀ y, View.canon (H8_9 (F := Ideal) c arg1 harg1 arg2 harg2 arg4 harg4 arg5 harg5 arg9 x0 x1 x3 x4) y = if (y 1).val / 128 < 2 then DV x0 x1 x3 x4 y else 0) :
    ∀ y, View.canon (H8_13 (F := Ideal) c arg1 harg1 arg2 harg2 arg4 harg4 arg5 harg5 arg9 x0 x1 x3 x4) y = if (y 1).val / 128 < 2 + 1 then DV x0 x1 x3 x4 y else 0 := by
  refine accum_chain (fun _ _ => 0) (vU x0 x1 x3 x4) (vM x0 x1 x3 x4) (vL x0 x1 x3 x4) 256 2 rfl
    inb_S256x2048_S128x128_0_256 inb_S256x2048_S128x128_0_256 inb_S256x2048_S128x128_0_256 inb_S256x2048_S128x128_128_256 _ _ _ _
    (H8_9 (F := Ideal) c arg1 harg1 arg2 harg2 arg4 harg4 arg5 harg5 arg9 x0 x1 x3 x4)
    (H8_10 (F := Ideal) c arg1 harg1 arg2 harg2 arg4 harg4 arg5 harg5 arg9 x0 x1 x3 x4)
    (H8_11 (F := Ideal) c arg1 harg1 arg2 harg2 arg4 harg4 arg5 harg5 arg9 x0 x1 x3 x4)
    (H8_12 (F := Ideal) c arg1 harg1 arg2 harg2 arg4 harg4 arg5 harg5 arg9 x0 x1 x3 x4) _ rfl rfl rfl rfl I ?_ ?_ ?_ ?_
  all_goals
    intro x
    simp only [r_44, r_45, r_46, r_47, r_48, r_49, r_50, r_51, r_52, r_53, r_54, r_55, r_56, r_57, r_58, r_59, r_60, r_61, r_62, r_63, r_64, r_65, v316, v322, v380, v386, rd16, rd32, rdc]
  · exact dv_first (tile x0 0 256) (tile x1 0 256) (tile x3 0 256) (tile x4 0 256) _ x
  · exact dv_own (tile x0 0 256) (tile x1 0 256) (tile x3 0 256) (tile x4 0 256) _ x
  · exact dv_next (tile x0 128 256) (tile x1 0 256) (tile x3 128 256) (tile x4 128 256) _ x
  · exact dv_own (tile x0 128 256) (tile x1 128 256) (tile x3 128 256) (tile x4 128 256) _ x

theorem dv_col3
    (I : ∀ y, View.canon (H8_13 (F := Ideal) c arg1 harg1 arg2 harg2 arg4 harg4 arg5 harg5 arg9 x0 x1 x3 x4) y = if (y 1).val / 128 < 3 then DV x0 x1 x3 x4 y else 0) :
    ∀ y, View.canon (H8_17 (F := Ideal) c arg1 harg1 arg2 harg2 arg4 harg4 arg5 harg5 arg9 x0 x1 x3 x4) y = if (y 1).val / 128 < 3 + 1 then DV x0 x1 x3 x4 y else 0 := by
  refine accum_chain (fun _ _ => 0) (vU x0 x1 x3 x4) (vM x0 x1 x3 x4) (vL x0 x1 x3 x4) 384 3 rfl
    inb_S256x2048_S128x128_0_384 inb_S256x2048_S128x128_0_384 inb_S256x2048_S128x128_0_384 inb_S256x2048_S128x128_128_384 _ _ _ _
    (H8_13 (F := Ideal) c arg1 harg1 arg2 harg2 arg4 harg4 arg5 harg5 arg9 x0 x1 x3 x4)
    (H8_14 (F := Ideal) c arg1 harg1 arg2 harg2 arg4 harg4 arg5 harg5 arg9 x0 x1 x3 x4)
    (H8_15 (F := Ideal) c arg1 harg1 arg2 harg2 arg4 harg4 arg5 harg5 arg9 x0 x1 x3 x4)
    (H8_16 (F := Ideal) c arg1 harg1 arg2 harg2 arg4 harg4 arg5 harg5 arg9 x0 x1 x3 x4) _ rfl rfl rfl rfl I ?_ ?_ ?_ ?_
  all_goals
    intro x
    simp only [r_66, r_67, r_68, r_69, r_70, r_71, r_72, r_73, r_74, r_75, r_76, r_77, r_78, r_79, r_80, r_81, r_82, r_83, r_84, r_85, r_86, r_87, v444, v450, v508, v514, rd16, rd32, rdc]
  · exact dv_first (tile x0 0 384) (tile x1 0 384) (tile x3 0 384) (tile x4 0 384) _ x
  · exact dv_own (tile x0 0 384) (tile x1 0 384) (tile x3 0 384) (tile x4 0 384) _ x
  · exact dv_next (tile x0 128 384) (tile x1 0 384) (tile x3 128 384) (tile x4 128 384) _ x
  · exact dv_own (tile x0 128 384) (tile x1 128 384) (tile x3 128 384) (tile x4 128 384) _ x

theorem dv_col4
    (I : ∀ y, View.canon (H8_17 (F := Ideal) c arg1 harg1 arg2 harg2 arg4 harg4 arg5 harg5 arg9 x0 x1 x3 x4) y = if (y 1).val / 128 < 4 then DV x0 x1 x3 x4 y else 0) :
    ∀ y, View.canon (H8_21 (F := Ideal) c arg1 harg1 arg2 harg2 arg4 harg4 arg5 harg5 arg9 x0 x1 x3 x4) y = if (y 1).val / 128 < 4 + 1 then DV x0 x1 x3 x4 y else 0 := by
  refine accum_chain (fun _ _ => 0) (vU x0 x1 x3 x4) (vM x0 x1 x3 x4) (vL x0 x1 x3 x4) 512 4 rfl
    inb_S256x2048_S128x128_0_512 inb_S256x2048_S128x128_0_512 inb_S256x2048_S128x128_0_512 inb_S256x2048_S128x128_128_512 _ _ _ _
    (H8_17 (F := Ideal) c arg1 harg1 arg2 harg2 arg4 harg4 arg5 harg5 arg9 x0 x1 x3 x4)
    (H8_18 (F := Ideal) c arg1 harg1 arg2 harg2 arg4 harg4 arg5 harg5 arg9 x0 x1 x3 x4)
    (H8_19 (F := Ideal) c arg1 harg1 arg2 harg2 arg4 harg4 arg5 harg5 arg9 x0 x1 x3 x4)
    (H8_20 (F := Ideal) c arg1 harg1 arg2 harg2 arg4 harg4 arg5 harg5 arg9 x0 x1 x3 x4) _ rfl rfl rfl rfl I ?_ ?_ ?_ ?_
  all_goals
    intro x
    simp only [r_88, r_89, r_90, r_91, r_92, r_93, r_94, r_95, r_96, r_97, r_98, r_99, r_100, r_101, r_102, r_103, r_104, r_105, r_106, r_107, r_108, r_109, v572, v578, v636, v642, rd16, rd32, rdc]
  · exact dv_first (tile x0 0 512) (tile x1 0 512) (tile x3 0 512) (tile x4 0 512) _ x
  · exact dv_own (tile x0 0 512) (tile x1 0 512) (tile x3 0 512) (tile x4 0 512) _ x
  · exact dv_next (tile x0 128 512) (tile x1 0 512) (tile x3 128 512) (tile x4 128 512) _ x
  · exact dv_own (tile x0 128 512) (tile x1 128 512) (tile x3 128 512) (tile x4 128 512) _ x

theorem dv_col5
    (I : ∀ y, View.canon (H8_21 (F := Ideal) c arg1 harg1 arg2 harg2 arg4 harg4 arg5 harg5 arg9 x0 x1 x3 x4) y = if (y 1).val / 128 < 5 then DV x0 x1 x3 x4 y else 0) :
    ∀ y, View.canon (H8_25 (F := Ideal) c arg1 harg1 arg2 harg2 arg4 harg4 arg5 harg5 arg9 x0 x1 x3 x4) y = if (y 1).val / 128 < 5 + 1 then DV x0 x1 x3 x4 y else 0 := by
  refine accum_chain (fun _ _ => 0) (vU x0 x1 x3 x4) (vM x0 x1 x3 x4) (vL x0 x1 x3 x4) 640 5 rfl
    inb_S256x2048_S128x128_0_640 inb_S256x2048_S128x128_0_640 inb_S256x2048_S128x128_0_640 inb_S256x2048_S128x128_128_640 _ _ _ _
    (H8_21 (F := Ideal) c arg1 harg1 arg2 harg2 arg4 harg4 arg5 harg5 arg9 x0 x1 x3 x4)
    (H8_22 (F := Ideal) c arg1 harg1 arg2 harg2 arg4 harg4 arg5 harg5 arg9 x0 x1 x3 x4)
    (H8_23 (F := Ideal) c arg1 harg1 arg2 harg2 arg4 harg4 arg5 harg5 arg9 x0 x1 x3 x4)
    (H8_24 (F := Ideal) c arg1 harg1 arg2 harg2 arg4 harg4 arg5 harg5 arg9 x0 x1 x3 x4) _ rfl rfl rfl rfl I ?_ ?_ ?_ ?_
  all_goals
    intro x
    simp only [r_110, r_111, r_112, r_113, r_114, r_115, r_116, r_117, r_118, r_119, r_120, r_121, r_122, r_123, r_124, r_125, r_126, r_127, r_128, r_129, r_130, r_131, v700, v706, v764, v770, rd16, rd32, rdc]
  · exact dv_first (tile x0 0 640) (tile x1 0 640) (tile x3 0 640) (tile x4 0 640) _ x
  · exact dv_own (tile x0 0 640) (tile x1 0 640) (tile x3 0 640) (tile x4 0 640) _ x
  · exact dv_next (tile x0 128 640) (tile x1 0 640) (tile x3 128 640) (tile x4 128 640) _ x
  · exact dv_own (tile x0 128 640) (tile x1 128 640) (tile x3 128 640) (tile x4 128 640) _ x

theorem dv_col6
    (I : ∀ y, View.canon (H8_25 (F := Ideal) c arg1 harg1 arg2 harg2 arg4 harg4 arg5 harg5 arg9 x0 x1 x3 x4) y = if (y 1).val / 128 < 6 then DV x0 x1 x3 x4 y else 0) :
    ∀ y, View.canon (H8_29 (F := Ideal) c arg1 harg1 arg2 harg2 arg4 harg4 arg5 harg5 arg9 x0 x1 x3 x4) y = if (y 1).val / 128 < 6 + 1 then DV x0 x1 x3 x4 y else 0 := by
  refine accum_chain (fun _ _ => 0) (vU x0 x1 x3 x4) (vM x0 x1 x3 x4) (vL x0 x1 x3 x4) 768 6 rfl
    inb_S256x2048_S128x128_0_768 inb_S256x2048_S128x128_0_768 inb_S256x2048_S128x128_0_768 inb_S256x2048_S128x128_128_768 _ _ _ _
    (H8_25 (F := Ideal) c arg1 harg1 arg2 harg2 arg4 harg4 arg5 harg5 arg9 x0 x1 x3 x4)
    (H8_26 (F := Ideal) c arg1 harg1 arg2 harg2 arg4 harg4 arg5 harg5 arg9 x0 x1 x3 x4)
    (H8_27 (F := Ideal) c arg1 harg1 arg2 harg2 arg4 harg4 arg5 harg5 arg9 x0 x1 x3 x4)
    (H8_28 (F := Ideal) c arg1 harg1 arg2 harg2 arg4 harg4 arg5 harg5 arg9 x0 x1 x3 x4) _ rfl rfl rfl rfl I ?_ ?_ ?_ ?_
  all_goals
    intro x
    simp only [r_132, r_133, r_134, r_135, r_136, r_137, r_138, r_139, r_140, r_141, r_142, r_143, r_144, r_145, r_146, r_147, r_148, r_149, r_150, r_151, r_152, r_153, v828, v834, v892, v898, rd16, rd32, rdc]
  · exact dv_first (tile x0 0 768) (tile x1 0 768) (tile x3 0 768) (tile x4 0 768) _ x
  · exact dv_own (tile x0 0 768) (tile x1 0 768) (tile x3 0 768) (tile x4 0 768) _ x
  · exact dv_next (tile x0 128 768) (tile x1 0 768) (tile x3 128 768) (tile x4 128 768) _ x
  · exact dv_own (tile x0 128 768) (tile x1 128 768) (tile x3 128 768) (tile x4 128 768) _ x

theorem dv_col7
    (I : ∀ y, View.canon (H8_29 (F := Ideal) c arg1 harg1 arg2 harg2 arg4 harg4 arg5 harg5 arg9 x0 x1 x3 x4) y = if (y 1).val / 128 < 7 then DV x0 x1 x3 x4 y else 0) :
    ∀ y, View.canon (H8_33 (F := Ideal) c arg1 harg1 arg2 harg2 arg4 harg4 arg5 harg5 arg9 x0 x1 x3 x4) y = if (y 1).val / 128 < 7 + 1 then DV x0 x1 x3 x4 y else 0 := by
  refine accum_chain (fun _ _ => 0) (vU x0 x1 x3 x4) (vM x0 x1 x3 x4) (vL x0 x1 x3 x4) 896 7 rfl
    inb_S256x2048_S128x128_0_896 inb_S256x2048_S128x128_0_896 inb_S256x2048_S128x128_0_896 inb_S256x2048_S128x128_128_896 _ _ _ _
    (H8_29 (F := Ideal) c arg1 harg1 arg2 harg2 arg4 harg4 arg5 harg5 arg9 x0 x1 x3 x4)
    (H8_30 (F := Ideal) c arg1 harg1 arg2 harg2 arg4 harg4 arg5 harg5 arg9 x0 x1 x3 x4)
    (H8_31 (F := Ideal) c arg1 harg1 arg2 harg2 arg4 harg4 arg5 harg5 arg9 x0 x1 x3 x4)
    (H8_32 (F := Ideal) c arg1 harg1 arg2 harg2 arg4 harg4 arg5 harg5 arg9 x0 x1 x3 x4) _ rfl rfl rfl rfl I ?_ ?_ ?_ ?_
  all_goals
    intro x
    simp only [r_154, r_155, r_156, r_157, r_158, r_159, r_160, r_161, r_162, r_163, r_164, r_165, r_166, r_167, r_168, r_169, r_170, r_171, r_172, r_173, r_174, r_175, v956, v962, v1020, v1026, rd16, rd32, rdc]
  · exact dv_first (tile x0 0 896) (tile x1 0 896) (tile x3 0 896) (tile x4 0 896) _ x
  · exact dv_own (tile x0 0 896) (tile x1 0 896) (tile x3 0 896) (tile x4 0 896) _ x
  · exact dv_next (tile x0 128 896) (tile x1 0 896) (tile x3 128 896) (tile x4 128 896) _ x
  · exact dv_own (tile x0 128 896) (tile x1 128 896) (tile x3 128 896) (tile x4 128 896) _ x

theorem dv_col8
    (I : ∀ y, View.canon (H8_33 (F := Ideal) c arg1 harg1 arg2 harg2 arg4 harg4 arg5 harg5 arg9 x0 x1 x3 x4) y = if (y 1).val / 128 < 8 then DV x0 x1 x3 x4 y else 0) :
    ∀ y, View.canon (H8_37 (F := Ideal) c arg1 harg1 arg2 harg2 arg4 harg4 arg5 harg5 arg9 x0 x1 x3 x4) y = if (y 1).val / 128 < 8 + 1 then DV x0 x1 x3 x4 y else 0 := by
  refine accum_chain (fun _ _ => 0) (vU x0 x1 x3 x4) (vM x0 x1 x3 x4) (vL x0 x1 x3 x4) 1024 8 rfl
    inb_S256x2048_S128x128_0_1024 inb_S256x2048_S128x128_0_1024 inb_S256x2048_S128x128_0_1024 inb_S256x2048_S128x128_128_1024 _ _ _ _
    (H8_33 (F := Ideal) c arg1 harg1 arg2 harg2 arg4 harg4 arg5 harg5 arg9 x0 x1 x3 x4)
    (H8_34 (F := Ideal) c arg1 harg1 arg2 harg2 arg4 harg4 arg5 harg5 arg9 x0 x1 x3 x4)
    (H8_35 (F := Ideal) c arg1 harg1 arg2 harg2 arg4 harg4 arg5 harg5 arg9 x0 x1 x3 x4)
    (H8_36 (F := Ideal) c arg1 harg1 arg2 harg2 arg4 harg4 arg5 harg5 arg9 x0 x1 x3 x4) _ rfl rfl rfl rfl I ?_ ?_ ?_ ?_
  all_goals
    intro x
    simp only [r_176, r_177, r_178, r_179, r_180, r_181, r_182, r_183, r_184, r_185, r_186, r_187, r_188, r_189, r_190, r_191, r_192, r_193, r_194, r_195, r_196, r_197, v1084, v1090, v1148, v1154, rd16, rd32, rdc]
  · exact dv_first (tile x0 0 1024) (tile x1 0 1024) (tile x3 0 1024) (tile x4 0 1024) _ x
  · exact dv_own (tile x0 0 1024) (tile x1 0 1024) (tile x3 0 1024) (tile x4 0 1024) _ x
  · exact dv_next (tile x0 128 1024) (tile x1 0 1024) (tile x3 128 1024) (tile x4 128 1024) _ x
  · exact dv_own (tile x0 128 1024) (tile x1 128 1024) (tile x3 128 1024) (tile x4 128 1024) _ x

theorem dv_col9
    (I : ∀ y, View.canon (H8_37 (F := Ideal) c arg1 harg1 arg2 harg2 arg4 harg4 arg5 harg5 arg9 x0 x1 x3 x4) y = if (y 1).val / 128 < 9 then DV x0 x1 x3 x4 y else 0) :
    ∀ y, View.canon (H8_41 (F := Ideal) c arg1 harg1 arg2 harg2 arg4 harg4 arg5 harg5 arg9 x0 x1 x3 x4) y = if (y 1).val / 128 < 9 + 1 then DV x0 x1 x3 x4 y else 0 := by
  refine accum_chain (fun _ _ => 0) (vU x0 x1 x3 x4) (vM x0 x1 x3 x4) (vL x0 x1 x3 x4) 1152 9 rfl
    inb_S256x2048_S128x128_0_1152 inb_S256x2048_S128x128_0_1152 inb_S256x2048_S128x128_0_1152 inb_S256x2048_S128x128_128_1152 _ _ _ _
    (H8_37 (F := Ideal) c arg1 harg1 arg2 harg2 arg4 harg4 arg5 harg5 arg9 x0 x1 x3 x4)
    (H8_38 (F := Ideal) c arg1 harg1 arg2 harg2 arg4 harg4 arg5 harg5 arg9 x0 x1 x3 x4)
    (H8_39 (F := Ideal) c arg1 harg1 arg2 harg2 arg4 harg4 arg5 harg5 arg9 x0 x1 x3 x4)
    (H8_40 (F := Ideal) c arg1 harg1 arg2 harg2 arg4 harg4 arg5 harg5 arg9 x0 x1 x3 x4) _ rfl rfl rfl rfl I ?_ ?_ ?_ ?_
  all_goals
    intro x
    simp only [r_198, r_199, r_200, r_201, r_202, r_203, r_204, r_205, r_206, r_207, r_208, r_209, r_210, r_211, r_212, r_213, r_214, r_215, r_216, r_217, r_218, r_219, v1212, v1218, v1276, v1282, rd16, rd32, rdc]
  · exact dv_first (tile x0 0 1152) (tile x1 0 1152) (tile x3 0 1152) (tile x4 0 1152) _ x
  · exact dv_own (tile x0 0 1152) (tile x1 0 1152) (tile x3 0 1152) (tile x4 0 1152) _ x
  · exact dv_next (tile x0 128 1152) (tile x1 0 1152) (tile x3 128 1152) (tile x4 128 1152) _ x
  · exact dv_own (tile x0 128 1152) (tile x1 128 1152) (tile x3 128 1152) (tile x4 128 1152) _ x

theorem dv_col10
    (I : ∀ y, View.canon (H8_41 (F := Ideal) c arg1 harg1 arg2 harg2 arg4 harg4 arg5 harg5 arg9 x0 x1 x3 x4) y = if (y 1).val / 128 < 10 then DV x0 x1 x3 x4 y else 0) :
    ∀ y, View.canon (H8_45 (F := Ideal) c arg1 harg1 arg2 harg2 arg4 harg4 arg5 harg5 arg9 x0 x1 x3 x4) y = if (y 1).val / 128 < 10 + 1 then DV x0 x1 x3 x4 y else 0 := by
  refine accum_chain (fun _ _ => 0) (vU x0 x1 x3 x4) (vM x0 x1 x3 x4) (vL x0 x1 x3 x4) 1280 10 rfl
    inb_S256x2048_S128x128_0_1280 inb_S256x2048_S128x128_0_1280 inb_S256x2048_S128x128_0_1280 inb_S256x2048_S128x128_128_1280 _ _ _ _
    (H8_41 (F := Ideal) c arg1 harg1 arg2 harg2 arg4 harg4 arg5 harg5 arg9 x0 x1 x3 x4)
    (H8_42 (F := Ideal) c arg1 harg1 arg2 harg2 arg4 harg4 arg5 harg5 arg9 x0 x1 x3 x4)
    (H8_43 (F := Ideal) c arg1 harg1 arg2 harg2 arg4 harg4 arg5 harg5 arg9 x0 x1 x3 x4)
    (H8_44 (F := Ideal) c arg1 harg1 arg2 harg2 arg4 harg4 arg5 harg5 arg9 x0 x1 x3 x4) _ rfl rfl rfl rfl I ?_ ?_ ?_ ?_
  all_goals
    intro x
    simp only [r_220, r_221, r_222, r_223, r_224, r_225, r_226, r_227, r_228, r_229, r_230, r_231, r_232, r_233, r_234, r_235, r_236, r_237, r_238, r_239, r_240, r_241, v1340, v1346, v1404, v1410, rd16, rd32, rdc]
  · exact dv_first (tile x0 0 1280) (tile x1 0 1280) (tile x3 0 1280) (tile x4 0 1280) _ x
  · exact dv_own (tile x0 0 1280) (tile x1 0 1280) (tile x3 0 1280) (tile x4 0 1280) _ x
  · exact dv_next (tile x0 128 1280) (tile x1 0 1280) (tile x3 128 1280) (tile x4 128 1280) _ x
  · exact dv_own (tile x0 128 1280) (tile x1 128 1280) (tile x3 128 1280) (tile x4 128 1280) _ x

theorem dv_col11
    (I : ∀ y, View.canon (H8_45 (F := Ideal) c arg1 harg1 arg2 harg2 arg4 harg4 arg5 harg5 arg9 x0 x1 x3 x4) y = if (y 1).val / 128 < 11 then DV x0 x1 x3 x4 y else 0) :
    ∀ y, View.canon (H8_49 (F := Ideal) c arg1 harg1 arg2 harg2 arg4 harg4 arg5 harg5 arg9 x0 x1 x3 x4) y = if (y 1).val / 128 < 11 + 1 then DV x0 x1 x3 x4 y else 0 := by
  refine accum_chain (fun _ _ => 0) (vU x0 x1 x3 x4) (vM x0 x1 x3 x4) (vL x0 x1 x3 x4) 1408 11 rfl
    inb_S256x2048_S128x128_0_1408 inb_S256x2048_S128x128_0_1408 inb_S256x2048_S128x128_0_1408 inb_S256x2048_S128x128_128_1408 _ _ _ _
    (H8_45 (F := Ideal) c arg1 harg1 arg2 harg2 arg4 harg4 arg5 harg5 arg9 x0 x1 x3 x4)
    (H8_46 (F := Ideal) c arg1 harg1 arg2 harg2 arg4 harg4 arg5 harg5 arg9 x0 x1 x3 x4)
    (H8_47 (F := Ideal) c arg1 harg1 arg2 harg2 arg4 harg4 arg5 harg5 arg9 x0 x1 x3 x4)
    (H8_48 (F := Ideal) c arg1 harg1 arg2 harg2 arg4 harg4 arg5 harg5 arg9 x0 x1 x3 x4) _ rfl rfl rfl rfl I ?_ ?_ ?_ ?_
  all_goals
    intro x
    simp only [r_242, r_243, r_244, r_245, r_246, r_247, r_248, r_249, r_250, r_251, r_252, r_253, r_254, r_255, r_256, r_257, r_258, r_259, r_260, r_261, r_262, r_263, v1468, v1474, v1532, v1538, rd16, rd32, rdc]
  · exact dv_first (tile x0 0 1408) (tile x1 0 1408) (tile x3 0 1408) (tile x4 0 1408) _ x
  · exact dv_own (tile x0 0 1408) (tile x1 0 1408) (tile x3 0 1408) (tile x4 0 1408) _ x
  · exact dv_next (tile x0 128 1408) (tile x1 0 1408) (tile x3 128 1408) (tile x4 128 1408) _ x
  · exact dv_own (tile x0 128 1408) (tile x1 128 1408) (tile x3 128 1408) (tile x4 128 1408) _ x

theorem dv_col12
    (I : ∀ y, View.canon (H8_49 (F := Ideal) c arg1 harg1 arg2 harg2 arg4 harg4 arg5 harg5 arg9 x0 x1 x3 x4) y = if (y 1).val / 128 < 12 then DV x0 x1 x3 x4 y else 0) :
    ∀ y, View.canon (H8_53 (F := Ideal) c arg1 harg1 arg2 harg2 arg4 harg4 arg5 harg5 arg9 x0 x1 x3 x4) y = if (y 1).val / 128 < 12 + 1 then DV x0 x1 x3 x4 y else 0 := by
  refine accum_chain (fun _ _ => 0) (vU x0 x1 x3 x4) (vM x0 x1 x3 x4) (vL x0 x1 x3 x4) 1536 12 rfl
    inb_S256x2048_S128x128_0_1536 inb_S256x2048_S128x128_0_1536 inb_S256x2048_S128x128_0_1536 inb_S256x2048_S128x128_128_1536 _ _ _ _
    (H8_49 (F := Ideal) c arg1 harg1 arg2 harg2 arg4 harg4 arg5 harg5 arg9 x0 x1 x3 x4)
    (H8_50 (F := Ideal) c arg1 harg1 arg2 harg2 arg4 harg4 arg5 harg5 arg9 x0 x1 x3 x4)
    (H8_51 (F := Ideal) c arg1 harg1 arg2 harg2 arg4 harg4 arg5 harg5 arg9 x0 x1 x3 x4)
    (H8_52 (F := Ideal) c arg1 harg1 arg2 harg2 arg4 harg4 arg5 harg5 arg9 x0 x1 x3 x4) _ rfl rfl rfl rfl I ?_ ?_ ?_ ?_
  all_goals
    intro x
    simp only [r_264, r_265, r_266, r_267, r_268, r_269, r_270, r_271, r_272, r_273, r_274, r_275, r_276, r_277, r_278, r_279, r_280, r_281, r_282, r_283, r_284, r_285, v1596, v1602, v1660, v1666, rd16, rd32, rdc]
  · exact dv_first (tile x0 0 1536) (tile x1 0 1536) (tile x3 0 1536) (tile x4 0 1536) _ x
  · exact dv_own (tile x0 0 1536) (tile x1 0 1536) (tile x3 0 1536) (tile x4 0 1536) _ x
  · exact dv_next (tile x0 128 1536) (tile x1 0 1536) (tile x3 128 1536) (tile x4 128 1536) _ x
  · exact dv_own (tile x0 128 1536) (tile x1 128 1536) (tile x3 128 1536) (tile x4 128 1536) _ x

theorem dv_col13
    (I : ∀ y, View.canon (H8_53 (F := Ideal) c arg1 harg1 arg2 harg2 arg4 harg4 arg5 harg5 arg9 x0 x1 x3 x4) y = if (y 1).val / 128 < 13 then DV x0 x1 x3 x4 y else 0) :
    ∀ y, View.canon (H8_57 (F := Ideal) c arg1 harg1 arg2 harg2 arg4 harg4 arg5 harg5 arg9 x0 x1 x3 x4) y = if (y 1).val / 128 < 13 + 1 then DV x0 x1 x3 x4 y else 0 := by
  refine accum_chain (fun _ _ => 0) (vU x0 x1 x3 x4) (vM x0 x1 x3 x4) (vL x0 x1 x3 x4) 1664 13 rfl
    inb_S256x2048_S128x128_0_1664 inb_S256x2048_S128x128_0_1664 inb_S256x2048_S128x128_0_1664 inb_S256x2048_S128x128_128_1664 _ _ _ _
    (H8_53 (F := Ideal) c arg1 harg1 arg2 harg2 arg4 harg4 arg5 harg5 arg9 x0 x1 x3 x4)
    (H8_54 (F := Ideal) c arg1 harg1 arg2 harg2 arg4 harg4 arg5 harg5 arg9 x0 x1 x3 x4)
    (H8_55 (F := Ideal) c arg1 harg1 arg2 harg2 arg4 harg4 arg5 harg5 arg9 x0 x1 x3 x4)
    (H8_56 (F := Ideal) c arg1 harg1 arg2 harg2 arg4 harg4 arg5 harg5 arg9 x0 x1 x3 x4) _ rfl rfl rfl rfl I ?_ ?_ ?_ ?_
  all_goals
    intro x
    simp only [r_286, r_287, r_288, r_289, r_290, r_291, r_292, r_293, r_294, r_295, r_296, r_297, r_298, r_299, r_300, r_301, r_302, r_303, r_304, r_305, r_306, r_307, v1724, v1730, v1788, v1794, rd16, rd32, rdc]
  · exact dv_first (tile x0 0 1664) (tile x1 0 1664) (tile x3 0 1664) (tile x4 0 1664) _ x
  · exact dv_own (tile x0 0 1664) (tile x1 0 1664) (tile x3 0 1664) (tile x4 0 1664) _ x
  · exact dv_next (tile x0 128 1664) (tile x1 0 1664) (tile x3 128 1664) (tile x4 128 1664) _ x
  · exact dv_own (tile x0 128 1664) (tile x1 128 1664) (tile x3 128 1664) (tile x4 128 1664) _ x

theorem dv_col14
    (I : ∀ y, View.canon (H8_57 (F := Ideal) c arg1 harg1 arg2 harg2 arg4 harg4 arg5 harg5 arg9 x0 x1 x3 x4) y = if (y 1).val / 128 < 14 then DV x0 x1 x3 x4 y else 0) :
    ∀ y, View.canon (H8_61 (F := Ideal) c arg1 harg1 arg2 harg2 arg4 harg4 arg5 harg5 arg9 x0 x1 x3 x4) y = if (y 1).val / 128 < 14 + 1 then DV x0 x1 x3 x4 y else 0 := by
  refine accum_chain (fun _ _ => 0) (vU x0 x1 x3 x4) (vM x0 x1 x3 x4) (vL x0 x1 x3 x4) 1792 14 rfl
    inb_S256x2048_S128x128_0_1792 inb_S256x2048_S128x128_0_1792 inb_S256x2048_S128x128_0_1792 inb_S256x2048_S128x128_128_1792 _ _ _ _
    (H8_57 (F := Ideal) c arg1 harg1 arg2 harg2 arg4 harg4 arg5 harg5 arg9 x0 x1 x3 x4)
    (H8_58 (F := Ideal) c arg1 harg1 arg2 harg2 arg4 harg4 arg5 harg5 arg9 x0 x1 x3 x4)
    (H8_59 (F := Ideal) c arg1 harg1 arg2 harg2 arg4 harg4 arg5 harg5 arg9 x0 x1 x3 x4)
    (H8_60 (F := Ideal) c arg1 harg1 arg2 harg2 arg4 harg4 arg5 harg5 arg9 x0 x1 x3 x4) _ rfl rfl rfl rfl I ?_ ?_ ?_ ?_
  all_goals
    intro x
    simp only [r_308, r_309, r_310, r_311, r_312, r_313, r_314, r_315, r_316, r_317, r_318, r_319, r_320, r_321, r_322, r_323, r_324, r_325, r_326, r_327, r_328, r_329, v1852, v1858, v1916, v1922, rd16, rd32, rdc]
  · exact dv_first (tile x0 0 1792) (tile x1 0 1792) (tile x3 0 1792) (tile x4 0 1792) _ x
  · exact dv_own (tile x0 0 1792) (tile x1 0 1792) (tile x3 0 1792) (tile x4 0 1792) _ x
  · exact dv_next (tile x0 128 1792) (tile x1 0 1792) (tile x3 128 1792) (tile x4 128 1792) _ x
  · exact dv_own (tile x0 128 1792) (tile x1 128 1792) (tile x3 128 1792) (tile x4 128 1792) _ x

theorem dv_col15
    (I : ∀ y, View.canon (H8_61 (F := Ideal) c arg1 harg1 arg2 harg2 arg4 harg4 arg5 harg5 arg9 x0 x1 x3 x4) y = if (y 1).val / 128 < 15 then DV x0 x1 x3 x4 y else 0) :
    ∀ y, View.canon (kernelRun0_A (F := Ideal) c i arg1 harg1 arg2 harg2 arg3 harg3 arg4 harg4 arg5 harg5 arg6 harg6 arg7 harg7 arg8 harg8 arg9 harg9 x0 x1 x2 x3 x4 x5).2.2.1 y = if (y 1).val / 128 < 15 + 1 then DV x0 x1 x3 x4 y else 0 := by
  refine accum_chain (fun _ _ => 0) (vU x0 x1 x3 x4) (vM x0 x1 x3 x4) (vL x0 x1 x3 x4) 1920 15 rfl
    inb_S256x2048_S128x128_0_1920 inb_S256x2048_S128x128_0_1920 inb_S256x2048_S128x128_0_1920 inb_S256x2048_S128x128_128_1920 _ _ _ _
    (H8_61 (F := Ideal) c arg1 harg1 arg2 harg2 arg4 harg4 arg5 harg5 arg9 x0 x1 x3 x4)
    (H8_62 (F := Ideal) c arg1 harg1 arg2 harg2 arg4 harg4 arg5 harg5 arg9 x0 x1 x3 x4)
    (H8_63 (F := Ideal) c arg1 harg1 arg2 harg2 arg4 harg4 arg5 harg5 arg9 x0 x1 x3 x4)
    (H8_64 (F := Ideal) c arg1 harg1 arg2 harg2 arg4 harg4 arg5 harg5 arg9 x0 x1 x3 x4) _ rfl rfl rfl rfl I ?_ ?_ ?_ ?_
  all_goals
    intro x
    simp only [r_330, r_331, r_332, r_333, r_334, r_335, r_336, r_337, r_338, r_339, r_340, r_341, r_342, r_343, r_344, r_345, r_346, r_347, r_348, r_349, r_350, r_351, v1980, v1986, v2044, v2050, rd16, rd32, rdc]
  · exact dv_first (tile x0 0 1920) (tile x1 0 1920) (tile x3 0 1920) (tile x4 0 1920) _ x
  · exact dv_own (tile x0 0 1920) (tile x1 0 1920) (tile x3 0 1920) (tile x4 0 1920) _ x
  · exact dv_next (tile x0 128 1920) (tile x1 0 1920) (tile x3 128 1920) (tile x4 128 1920) _ x
  · exact dv_own (tile x0 128 1920) (tile x1 128 1920) (tile x3 128 1920) (tile x4 128 1920) _ x

theorem dv_start (y : S256x2048.Idx) : View.canon (H8_1 (F := Ideal)) y = 0 := by
  have e : (Rect.unit (s := S256x2048) ![0, 0] S256x2048.size inb_S256x2048_S256x2048_0_0).emb y = y := by
    funext a
    apply Fin.ext
    fin_cases a
    · simp
    · simp
  conv_lhs => rw [← e]
  refine (View.canon_cons_emb (Rect.unit (s := S256x2048) ![0, 0] S256x2048.size inb_S256x2048_S256x2048_0_0) _ _ y).trans ?_
  idx_vars y
  pointwise [k0_pay6]

theorem dv_run (y : S256x2048.Idx) : View.canon (kernelRun0_A (F := Ideal) c i arg1 harg1 arg2 harg2 arg3 harg3 arg4 harg4 arg5 harg5 arg6 harg6 arg7 harg7 arg8 harg8 arg9 harg9 x0 x1 x2 x3 x4 x5).2.2.1 y = DV x0 x1 x3 x4 y := by
  have hy : (y 1).val < 2048 := (y 1).isLt
  have s0 : ∀ y, View.canon (H8_1 (F := Ideal)) y = if (y 1).val / 128 < 0 then DV x0 x1 x3 x4 y else 0 := fun y => by
    rw [if_neg (Nat.not_lt_zero _)]
    exact dv_start y
  have s1 := dv_col0 c arg1 harg1 arg2 harg2 arg4 harg4 arg5 harg5 arg9 x0 x1 x3 x4 s0
  have s2 := dv_col1 c arg1 harg1 arg2 harg2 arg4 harg4 arg5 harg5 arg9 x0 x1 x3 x4 s1
  have s3 := dv_col2 c arg1 harg1 arg2 harg2 arg4 harg4 arg5 harg5 arg9 x0 x1 x3 x4 s2
  have s4 := dv_col3 c arg1 harg1 arg2 harg2 arg4 harg4 arg5 harg5 arg9 x0 x1 x3 x4 s3
  have s5 := dv_col4 c arg1 harg1 arg2 harg2 arg4 harg4 arg5 harg5 arg9 x0 x1 x3 x4 s4
  have s6 := dv_col5 c arg1 harg1 arg2 harg2 arg4 harg4 arg5 harg5 arg9 x0 x1 x3 x4 s5
  have s7 := dv_col6 c arg1 harg1 arg2 harg2 arg4 harg4 arg5 harg5 arg9 x0 x1 x3 x4 s6
  have s8 := dv_col7 c arg1 harg1 arg2 harg2 arg4 harg4 arg5 harg5 arg9 x0 x1 x3 x4 s7
  have s9 := dv_col8 c arg1 harg1 arg2 harg2 arg4 harg4 arg5 harg5 arg9 x0 x1 x3 x4 s8
  have s10 := dv_col9 c arg1 harg1 arg2 harg2 arg4 harg4 arg5 harg5 arg9 x0 x1 x3 x4 s9
  have s11 := dv_col10 c arg1 harg1 arg2 harg2 arg4 harg4 arg5 harg5 arg9 x0 x1 x3 x4 s10
  have s12 := dv_col11 c arg1 harg1 arg2 harg2 arg4 harg4 arg5 harg5 arg9 x0 x1 x3 x4 s11
  have s13 := dv_col12 c arg1 harg1 arg2 harg2 arg4 harg4 arg5 harg5 arg9 x0 x1 x3 x4 s12
  have s14 := dv_col13 c arg1 harg1 arg2 harg2 arg4 harg4 arg5 harg5 arg9 x0 x1 x3 x4 s13
  have s15 := dv_col14 c arg1 harg1 arg2 harg2 arg4 harg4 arg5 harg5 arg9 x0 x1 x3 x4 s14
  exact (dv_col15 c i arg1 harg1 arg2 harg2 arg3 harg3 arg4 harg4 arg5 harg5 arg6 harg6 arg7 harg7 arg8 harg8 arg9 harg9 x0 x1 x2 x3 x4 x5 s15 y).trans (if_pos (by omega))

end Cert.AttnBwd

end
-- ==== Proof.AttnBwd.lean ====
/- The arrays the attention's gradient leaves, and the two programs side by side. -/
module

public import proofs.«01_k».proof.Proof.Gen.Kernel29Ideal.Value
public import proofs.«01_k».proof.Proof.AttnRefVal
public import proofs.«01_k».proof.Proof.AttnDq
public import proofs.«01_k».proof.Proof.AttnDk
public import proofs.«01_k».proof.Proof.AttnDv
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.AttnBwd

open Cert.Kernel29Ideal Cert.Kernel29Ideal.Gen

/-- A block that holds columns `2048 t` to `2048 t + 2047` of an array. -/
def Holds (x : Blk) (X : Arr) (t : ℕ) : Prop := ∀ (a : Fin 256) (b : Fin 2048) (h : 2048 * t + b.val < 16384), x (ix2 a b) = X (ix2 a ⟨2048 * t + b.val, h⟩)

/-- A block that holds the numbers of those columns. -/
def Counts (x : Blk) (E : Num) (t : ℕ) : Prop := ∀ (a : Fin 256) (b : Fin 2048) (h : (2048 * t + b.val) / 128 < 128), x (ix2 a b) = E (ix2 a ⟨(2048 * t + b.val) / 128, h⟩)

theorem tile_holds {x : Blk} {X : Arr} {t : ℕ} (H : Holds x X t) (ht : t < 8) (p c r : ℕ) (hr : r = 128 * p) (hp : p < 2) (hc : c < 16) :
    tile x r (128 * c) = tl X p (16 * t + c) := by
  subst hr
  funext j
  have j0 : (j 0).val < 128 := (j 0).isLt
  have j1 : (j 1).val < 128 := (j 1).isLt
  unfold tile tl
  rw [H _ _ (by show 2048 * t + (128 * c + (j 1).val) % 2048 < 16384; omega)]
  refine congrArg X ((ix2_inj ..).2 ⟨rfl, Fin.ext ?_⟩)
  show 2048 * t + (128 * c + (j 1).val) % 2048 = (128 * (16 * t + c) + (j 1).val) % 16384
  omega

theorem tile_counts {x : Blk} {E : Num} {t : ℕ} (H : Counts x E t) (ht : t < 8) (p c r : ℕ) (hr : r = 128 * p) (hp : p < 2) (hc : c < 16) :
    tile x r (128 * c) = nb E p (16 * t + c) := by
  subst hr
  funext j
  have j0 : (j 0).val < 128 := (j 0).isLt
  have j1 : (j 1).val < 128 := (j 1).isLt
  unfold tile nb
  rw [H _ _ (by show (2048 * t + (128 * c + (j 1).val) % 2048) / 128 < 128; omega)]
  refine congrArg E ((ix2_inj ..).2 ⟨rfl, Fin.ext ?_⟩)
  show (2048 * t + (128 * c + (j 1).val) % 2048) / 128 = (16 * t + c) % 128
  omega

variable {q k v u l e : Blk} {Q K W O : Arr} {E D : Num} {t : ℕ}

theorem block_eq (ht : t < 8) (y0 : Fin 256) (y1 : Fin 2048) (h : 2048 * t + y1.val < 16384) :
    (2048 * t + y1.val) / 128 = 16 * t + y1.val / 128 ∧ pos y0 ⟨2048 * t + y1.val, h⟩ = loc (ix2 y0 y1) := by
  refine ⟨by omega, (ix2_inj ..).2 ⟨rfl, Fin.ext ?_⟩⟩
  show (2048 * t + y1.val) % 128 = y1.val % 128
  omega

theorem dq_block (hq : Holds q Q t) (hk : Holds k K t) (hv : Holds v W t) (hu : Holds u O t) (hl : Counts l E t) (he : Counts e D t) (ht : t < 8)
    (y0 : Fin 256) (y1 : Fin 2048) (h : 2048 * t + y1.val < 16384) :
    DQ q k v u l e (ix2 y0 y1) = GQ Q K W O E D (ix2 y0 ⟨2048 * t + y1.val, h⟩) := by
  obtain ⟨b1, b2⟩ := block_eq ht y0 y1 h
  have hc : y1.val / 128 < 16 := by omega
  show (if y0.val / 128 = 0 then _ else _) = if y0.val / 128 = 0 then rows (dP Q K W O E D 0 ((2048 * t + y1.val) / 128)) (tl K 0 ((2048 * t + y1.val) / 128)) (pos y0 ⟨2048 * t + y1.val, h⟩)
    else rows (dM' Q K W O E D ((2048 * t + y1.val) / 128)) (tl K 0 ((2048 * t + y1.val) / 128)) (pos y0 ⟨2048 * t + y1.val, h⟩)
      + rows (dP Q K W O E D 1 ((2048 * t + y1.val) / 128)) (tl K 1 ((2048 * t + y1.val) / 128)) (pos y0 ⟨2048 * t + y1.val, h⟩)
  rw [b1, b2]
  show (if y0.val / 128 = 0 then qU q k v u l e (128 * (y1.val / 128)) (loc (ix2 y0 y1)) else qL q k v u l e (128 * (y1.val / 128)) (loc (ix2 y0 y1))) = _
  unfold qU qL dU dM dL pU pM pL
  simp only [tile_holds hq ht 0 (y1.val / 128) 0 rfl (by decide) hc,
    tile_holds hq ht 1 (y1.val / 128) 128 rfl (by decide) hc,
    tile_holds hk ht 0 (y1.val / 128) 0 rfl (by decide) hc,
    tile_holds hk ht 1 (y1.val / 128) 128 rfl (by decide) hc,
    tile_holds hv ht 0 (y1.val / 128) 0 rfl (by decide) hc,
    tile_holds hv ht 1 (y1.val / 128) 128 rfl (by decide) hc,
    tile_holds hu ht 0 (y1.val / 128) 0 rfl (by decide) hc,
    tile_holds hu ht 1 (y1.val / 128) 128 rfl (by decide) hc,
    tile_counts hl ht 0 (y1.val / 128) 0 rfl (by decide) hc,
    tile_counts hl ht 1 (y1.val / 128) 128 rfl (by decide) hc,
    tile_counts he ht 0 (y1.val / 128) 0 rfl (by decide) hc,
    tile_counts he ht 1 (y1.val / 128) 128 rfl (by decide) hc]
  rfl

theorem dk_block (hq : Holds q Q t) (hk : Holds k K t) (hv : Holds v W t) (hu : Holds u O t) (hl : Counts l E t) (he : Counts e D t) (ht : t < 8)
    (y0 : Fin 256) (y1 : Fin 2048) (h : 2048 * t + y1.val < 16384) :
    DK q k v u l e (ix2 y0 y1) = GK Q K W O E D (ix2 y0 ⟨2048 * t + y1.val, h⟩) := by
  obtain ⟨b1, b2⟩ := block_eq ht y0 y1 h
  have hc : y1.val / 128 < 16 := by omega
  show (if y0.val / 128 = 0 then _ else _) = if y0.val / 128 = 0 then cols (dP Q K W O E D 0 ((2048 * t + y1.val) / 128)) (tl Q 0 ((2048 * t + y1.val) / 128)) (pos y0 ⟨2048 * t + y1.val, h⟩)
      + cols (dM' Q K W O E D ((2048 * t + y1.val) / 128)) (tl Q 1 ((2048 * t + y1.val) / 128)) (pos y0 ⟨2048 * t + y1.val, h⟩)
    else cols (dP Q K W O E D 1 ((2048 * t + y1.val) / 128)) (tl Q 1 ((2048 * t + y1.val) / 128)) (pos y0 ⟨2048 * t + y1.val, h⟩)
  rw [b1, b2]
  show (if y0.val / 128 = 0 then 0 + kU q k v u l e (128 * (y1.val / 128)) (loc (ix2 y0 y1)) + kM q k v u l e (128 * (y1.val / 128)) (loc (ix2 y0 y1))
    else kL q k v u l e (128 * (y1.val / 128)) (loc (ix2 y0 y1))) = _
  rw [zero_add]
  unfold kU kM kL dU dM dL pU pM pL
  simp only [tile_holds hq ht 0 (y1.val / 128) 0 rfl (by decide) hc,
    tile_holds hq ht 1 (y1.val / 128) 128 rfl (by decide) hc,
    tile_holds hk ht 0 (y1.val / 128) 0 rfl (by decide) hc,
    tile_holds hk ht 1 (y1.val / 128) 128 rfl (by decide) hc,
    tile_holds hv ht 0 (y1.val / 128) 0 rfl (by decide) hc,
    tile_holds hv ht 1 (y1.val / 128) 128 rfl (by decide) hc,
    tile_holds hu ht 0 (y1.val / 128) 0 rfl (by decide) hc,
    tile_holds hu ht 1 (y1.val / 128) 128 rfl (by decide) hc,
    tile_counts hl ht 0 (y1.val / 128) 0 rfl (by decide) hc,
    tile_counts hl ht 1 (y1.val / 128) 128 rfl (by decide) hc,
    tile_counts he ht 0 (y1.val / 128) 0 rfl (by decide) hc,
    tile_counts he ht 1 (y1.val / 128) 128 rfl (by decide) hc]
  rfl

theorem dv_block (hq : Holds q Q t) (hk : Holds k K t) (hu : Holds u O t) (hl : Counts l E t) (ht : t < 8)
    (y0 : Fin 256) (y1 : Fin 2048) (h : 2048 * t + y1.val < 16384) :
    DV q k u l (ix2 y0 y1) = GV Q K O E (ix2 y0 ⟨2048 * t + y1.val, h⟩) := by
  obtain ⟨b1, b2⟩ := block_eq ht y0 y1 h
  have hc : y1.val / 128 < 16 := by omega
  show (if y0.val / 128 = 0 then _ else _) = if y0.val / 128 = 0 then cols (aP Q K E 0 ((2048 * t + y1.val) / 128)) (tl O 0 ((2048 * t + y1.val) / 128)) (pos y0 ⟨2048 * t + y1.val, h⟩)
      + cols (aM Q K E ((2048 * t + y1.val) / 128)) (tl O 1 ((2048 * t + y1.val) / 128)) (pos y0 ⟨2048 * t + y1.val, h⟩)
    else cols (aP Q K E 1 ((2048 * t + y1.val) / 128)) (tl O 1 ((2048 * t + y1.val) / 128)) (pos y0 ⟨2048 * t + y1.val, h⟩)
  rw [b1, b2]
  show (if y0.val / 128 = 0 then 0 + vU q k u l (128 * (y1.val / 128)) (loc (ix2 y0 y1)) + vM q k u l (128 * (y1.val / 128)) (loc (ix2 y0 y1))
    else vL q k u l (128 * (y1.val / 128)) (loc (ix2 y0 y1))) = _
  rw [zero_add]
  unfold vU vM vL pU pM pL
  simp only [tile_holds hq ht 0 (y1.val / 128) 0 rfl (by decide) hc,
    tile_holds hq ht 1 (y1.val / 128) 128 rfl (by decide) hc,
    tile_holds hk ht 0 (y1.val / 128) 0 rfl (by decide) hc,
    tile_holds hk ht 1 (y1.val / 128) 128 rfl (by decide) hc,
    tile_holds hu ht 0 (y1.val / 128) 0 rfl (by decide) hc,
    tile_holds hu ht 1 (y1.val / 128) 128 rfl (by decide) hc,
    tile_counts hl ht 0 (y1.val / 128) 0 rfl (by decide) hc,
    tile_counts hl ht 1 (y1.val / 128) 128 rfl (by decide) hc]
  rfl

variable (m : (ℓ : Loc nD τ sig) → Buf (Elt Ideal) ℓ)

theorem idx : ∀ t : Fin cfg0.N, (win0_0.index t = ![0, t.val] ∧ win0_1.index t = ![0, t.val] ∧ win0_2.index t = ![0, t.val])
    ∧ (win0_3.index t = ![0, t.val] ∧ win0_4.index t = ![0, t.val] ∧ win0_5.index t = ![0, t.val])
    ∧ (win0_6.index t = ![0, t.val] ∧ win0_7.index t = ![0, t.val] ∧ win0_8.index t = ![0, t.val]) ∧ t.val < 8 :=
  (by decide +kernel : ∀ t : Fin grid0.N, _)

abbrev X0 (c : Dev nD) : FVec Ideal S256x16384 .bf16 := m ((c : Thread nD τ).loc main_arg0)
abbrev X1 (c : Dev nD) : FVec Ideal S256x16384 .bf16 := m ((c : Thread nD τ).loc main_arg1)
abbrev X2 (c : Dev nD) : FVec Ideal S256x16384 .bf16 := m ((c : Thread nD τ).loc main_arg2)
abbrev X3 (c : Dev nD) : FVec Ideal S256x16384 .bf16 := m ((c : Thread nD τ).loc main_arg3)
abbrev X4 (c : Dev nD) : FVec Ideal S256x128 .f32 := m ((c : Thread nD τ).loc main_arg4)
abbrev X5 (c : Dev nD) : FVec Ideal S256x128 .f32 := m ((c : Thread nD τ).loc main_arg5)

theorem host4 (c : Dev nD) (a : Fin 256) (b : Fin 16384) :
    (V m c main_v2 : FVec Ideal S256x16384 .f32) (ix2 a b) = X4 m c (ix2 a (⟨b.val / 128, by omega⟩ : Fin 128)) := by
  have e : (V m c main_v2 : FVec Ideal S256x16384 .f32) = shapeCast S256x16384 (broadcastInDim S256x128x128 ![0, 1, 2] bcast_S256x128x1_S256x128x128_0_1_2
      (broadcastInDim S256x128x1 ![0, 1] bcast_S256x128_S256x128x1_0_1 (X4 m c))) shapeCasts_S256x128x128_S256x16384 := by
    unfold V hostOps0
    after_results
    rfl
  rw [e]
  pointwise

theorem host5 (c : Dev nD) (a : Fin 256) (b : Fin 16384) :
    (V m c main_v5 : FVec Ideal S256x16384 .f32) (ix2 a b) = X5 m c (ix2 a (⟨b.val / 128, by omega⟩ : Fin 128)) := by
  have e : (V m c main_v5 : FVec Ideal S256x16384 .f32) = shapeCast S256x16384 (broadcastInDim S256x128x128 ![0, 1, 2] bcast_S256x128x1_S256x128x128_0_1_2
      (broadcastInDim S256x128x1 ![0, 1] bcast_S256x128_S256x128x1_0_1 (X5 m c))) shapeCasts_S256x128x128_S256x16384 := by
    unfold V hostOps0
    after_results
    rfl
  rw [e]
  pointwise

theorem blk0 (c : Dev nD) (t : Fin cfg0.N) : Holds (iblk m c 0 t : FVec Ideal S256x2048 .bf16) (X0 m c) t.val := by
  intro a b h
  obtain ⟨⟨i, -, -⟩, -, -, -⟩ := idx t
  refine Eq.trans ?_ (congrFun (V_main_arg0 m c) _)
  blk_ext [iblk, i]

theorem blk1 (c : Dev nD) (t : Fin cfg0.N) : Holds (iblk m c 1 t : FVec Ideal S256x2048 .bf16) (X1 m c) t.val := by
  intro a b h
  obtain ⟨⟨-, i, -⟩, -, -, -⟩ := idx t
  refine Eq.trans ?_ (congrFun (V_main_arg1 m c) _)
  blk_ext [iblk, i]

theorem blk2 (c : Dev nD) (t : Fin cfg0.N) : Holds (iblk m c 2 t : FVec Ideal S256x2048 .bf16) (X2 m c) t.val := by
  intro a b h
  obtain ⟨⟨-, -, i⟩, -, -, -⟩ := idx t
  refine Eq.trans ?_ (congrFun (V_main_arg2 m c) _)
  blk_ext [iblk, i]

theorem blk3 (c : Dev nD) (t : Fin cfg0.N) : Holds (iblk m c 3 t : FVec Ideal S256x2048 .bf16) (X3 m c) t.val := by
  intro a b h
  obtain ⟨-, ⟨i, -, -⟩, -, -⟩ := idx t
  refine Eq.trans ?_ (congrFun (V_main_arg3 m c) _)
  blk_ext [iblk, i]

theorem blk4 (c : Dev nD) (t : Fin cfg0.N) : Counts (iblk m c 4 t : FVec Ideal S256x2048 .f32) (X4 m c) t.val := by
  intro a b h
  obtain ⟨-, ⟨-, i, -⟩, -, ht⟩ := idx t
  refine Eq.trans ?_ (host4 m c a (⟨2048 * t.val + b.val, by omega⟩ : Fin 16384))
  blk_ext [iblk, i]

theorem blk5 (c : Dev nD) (t : Fin cfg0.N) : Counts (iblk m c 5 t : FVec Ideal S256x2048 .f32) (X5 m c) t.val := by
  intro a b h
  obtain ⟨-, ⟨-, -, i⟩, -, ht⟩ := idx t
  refine Eq.trans ?_ (host5 m c a (⟨2048 * t.val + b.val, by omega⟩ : Fin 16384))
  blk_ext [iblk, i]

theorem final6 (c : Dev nD) : (dats m 0 c).arrAt 6 cfg0.N = GQ (X0 m c) (X1 m c) (X2 m c) (X3 m c) (X4 m c) (X5 m c) := by
  refine (dats m 0 c).arrAt_eq_of_covers 6 _ (by decide +kernel) fun t hf y => ?_
  obtain ⟨-, -, ⟨i, -, -⟩, ht⟩ := idx t
  blk_simp
  rw [after0_6]
  idx_vars y
  have h : 2048 * t.val + y1.val < 16384 := by omega
  have e : ((View.whole main_v6_0).slice (win0_6.rect t)).emb (ix2 y0 y1) = (ix2 y0 (⟨2048 * t.val + y1.val, h⟩ : Fin 16384) : S256x16384.Idx) := by
    blk_ext [i]
  rw [e]
  unfold outsAt0
  dsimp only
  unfold out0_A_6
  rw [View.read_writes_junk_eq_canon]
  refine Eq.trans ?_ (dq_block (blk0 m c t) (blk1 m c t) (blk2 m c t) (blk3 m c t) (blk4 m c t) (blk5 m c t) ht y0 y1 h)
  exact dq_run ..

theorem final7 (c : Dev nD) : (dats m 0 c).arrAt 7 cfg0.N = GK (X0 m c) (X1 m c) (X2 m c) (X3 m c) (X4 m c) (X5 m c) := by
  refine (dats m 0 c).arrAt_eq_of_covers 7 _ (by decide +kernel) fun t hf y => ?_
  obtain ⟨-, -, ⟨-, i, -⟩, ht⟩ := idx t
  blk_simp
  rw [after0_7]
  idx_vars y
  have h : 2048 * t.val + y1.val < 16384 := by omega
  have e : ((View.whole main_v6_1).slice (win0_7.rect t)).emb (ix2 y0 y1) = (ix2 y0 (⟨2048 * t.val + y1.val, h⟩ : Fin 16384) : S256x16384.Idx) := by
    blk_ext [i]
  rw [e]
  unfold outsAt0
  dsimp only
  unfold out0_A_7
  rw [View.read_writes_junk_eq_canon]
  refine Eq.trans ?_ (dk_block (blk0 m c t) (blk1 m c t) (blk2 m c t) (blk3 m c t) (blk4 m c t) (blk5 m c t) ht y0 y1 h)
  exact dk_run ..

theorem final8 (c : Dev nD) : (dats m 0 c).arrAt 8 cfg0.N = GV (X0 m c) (X1 m c) (X3 m c) (X4 m c) := by
  refine (dats m 0 c).arrAt_eq_of_covers 8 _ (by decide +kernel) fun t hf y => ?_
  obtain ⟨-, -, ⟨-, -, i⟩, ht⟩ := idx t
  blk_simp
  rw [after0_8]
  idx_vars y
  have h : 2048 * t.val + y1.val < 16384 := by omega
  have e : ((View.whole main_v6_2).slice (win0_8.rect t)).emb (ix2 y0 y1) = (ix2 y0 (⟨2048 * t.val + y1.val, h⟩ : Fin 16384) : S256x16384.Idx) := by
    blk_ext [i]
  rw [e]
  unfold outsAt0
  dsimp only
  unfold out0_A_8
  rw [View.read_writes_junk_eq_canon]
  refine Eq.trans ?_ (dv_block (blk0 m c t) (blk1 m c t) (blk3 m c t) (blk4 m c t) ht y0 y1 h)
  exact dv_run ..

end Cert.AttnBwd

namespace Cert.AttnBwd

open Cert.Reference29Ideal Cert.Reference29Ideal.Gen

variable (m : (ℓ : Loc nD τ sig) → Buf (Elt Ideal) ℓ) (ρ : Dev nD → PrngReg)

abbrev Y0 (c : Dev nD) : FVec Ideal S256x16384 .bf16 := m ((c.tc : Thread nD τ).loc main_arg0)
abbrev Y1 (c : Dev nD) : FVec Ideal S256x16384 .bf16 := m ((c.tc : Thread nD τ).loc main_arg1)
abbrev Y2 (c : Dev nD) : FVec Ideal S256x16384 .bf16 := m ((c.tc : Thread nD τ).loc main_arg2)
abbrev Y3 (c : Dev nD) : FVec Ideal S256x16384 .bf16 := m ((c.tc : Thread nD τ).loc main_arg3)
abbrev Y4 (c : Dev nD) : FVec Ideal S256x128 .f32 := m ((c.tc : Thread nD τ).loc main_arg4)
abbrev Y5 (c : Dev nD) : FVec Ideal S256x128 .f32 := m ((c.tc : Thread nD τ).loc main_arg5)

theorem run_ref : θ_run defs (onTc (τ := τ) (main (F := Ideal))) ⟨m, fun _ => 0, ρ⟩ fun r => ∀ c : Dev nD,
      r.2.mem ((c.tc : Thread nD τ).loc main_v127) = GQ (Y0 m c) (Y1 m c) (Y2 m c) (Y3 m c) (Y4 m c) (Y5 m c)
      ∧ r.2.mem ((c.tc : Thread nD τ).loc main_v128) = GK (Y0 m c) (Y1 m c) (Y2 m c) (Y3 m c) (Y4 m c) (Y5 m c)
      ∧ r.2.mem ((c.tc : Thread nD τ).loc main_v129) = GV (Y0 m c) (Y1 m c) (Y3 m c) (Y4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((Cert.AttnRef.out0 m c).trans (Cert.AttnRef.back_gq ..)),
    (h c).2.1.trans ((Cert.AttnRef.out1 m c).trans (Cert.AttnRef.back_gk ..)),
    (h c).2.2.1.trans ((Cert.AttnRef.out2 m c).trans (Cert.AttnRef.back_gv ..)), (h c).2.2.2⟩) (Value.run m ρ)

theorem preserves : Cert.preserves_Kernel29_Kernel29Ideal := IdealRules.named_const.statement _ _ _ _ _ rfl

theorem algebraic : Cert.algebraic_Kernel29Ideal_Reference29Ideal (hKernel29Ideal := Cert.Kernel29Ideal.Gen.facts)
    (hReference29Ideal := Cert.Reference29Ideal.Gen.facts) := by
  intro m g m' g' _ hag
  refine ⟨fun c => GQ (X0 m c) (X1 m c) (X2 m c) (X3 m c) (X4 m c) (X5 m c), fun c => GK (X0 m c) (X1 m c) (X2 m c) (X3 m c) (X4 m c) (X5 m c), fun c => GV (X0 m c) (X1 m c) (X3 m c) (X4 m c), ?_, ?_⟩
  · exact (θ_run _ _ _).mono (fun _ h c => ⟨(h c).1.trans (final6 m c), (h c).2.1.trans (final7 m c), (h c).2.2.1.trans (final8 m c), (h c).2.2.2⟩)
      (Cert.Kernel29Ideal.Value.run_blocks m g)
  · refine (θ_run _ _ _).mono (fun _ h c => ⟨(h c).1.trans ?_, (h c).2.1.trans ?_, (h c).2.2.1.trans ?_, (h c).2.2.2⟩) (run_ref m' g')
    · have e := hag c
      rw [show Y0 m' c = X0 m c from e.1, show Y1 m' c = X1 m c from e.2.1, show Y2 m' c = X2 m c from e.2.2.1, show Y3 m' c = X3 m c from e.2.2.2.1, show Y4 m' c = X4 m c from e.2.2.2.2.1, show Y5 m' c = X5 m c from e.2.2.2.2.2]
    · have e := hag c
      rw [show Y0 m' c = X0 m c from e.1, show Y1 m' c = X1 m c from e.2.1, show Y2 m' c = X2 m c from e.2.2.1, show Y3 m' c = X3 m c from e.2.2.2.1, show Y4 m' c = X4 m c from e.2.2.2.2.1, show Y5 m' c = X5 m c from e.2.2.2.2.2]
    · have e := hag c
      rw [show Y0 m' c = X0 m c from e.1, show Y1 m' c = X1 m c from e.2.1, show Y3 m' c = X3 m c from e.2.2.2.1, show Y4 m' c = X4 m c from e.2.2.2.2.1]

/-- The reference ends with its arguments unchanged; it declares no counter. -/
theorem frame_r : Cert.quiescent_Reference29Ideal (hReference29Ideal := Cert.Reference29Ideal.Gen.facts) := fun m ρ _ =>
  (θ_run _ _ _).mono (fun r h => ⟨fun c => (h c).2.2.2, sem_eq_zero_of_no_sems (by decide) r.2⟩) (run_ref m ρ)

end Cert.AttnBwd

end
-- ==== Proof.PleGateBwd.lean ====
/- The gradient through the gate of the per-layer values: kernel and reference leave the same arrays. -/
module

public import proofs.«01_k».proof.Proof.Gen.Kernel30Ideal.Value
public import proofs.«01_k».proof.Proof.Gen.Reference30Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.PleGateBwd

open Cert.Kernel30Ideal Cert.Kernel30Ideal.Gen

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0] ∧ t.val < 8 :=
  (by decide +kernel : ∀ t : Fin grid0.N, _)

abbrev X0 (c : Dev nD) : FVec Ideal S4096x1024 .f32 := m ((c : Thread nD τ).loc main_arg0)
abbrev X1 (c : Dev nD) : FVec Ideal S4096x1024 .f32 := m ((c : Thread nD τ).loc main_arg1)
abbrev X2 (c : Dev nD) : FVec Ideal S4096x1024 .bf16 := m ((c : Thread nD τ).loc main_arg2)

/-- The gate at `z`. -/
def gate (z : EReal) : EReal := Ideal.div 1 (1 + Ideal.exp (-z))

/-- The gradient of the projected per-layer values. -/
def G0 (D Z : FVec Ideal S4096x1024 .f32) : FVec Ideal S4096x1024 .bf16 := fun i => gate (Z i) * D i

/-- The gradient of the gate's argument. -/
def G1 (D Z : FVec Ideal S4096x1024 .f32) (P : FVec Ideal S4096x1024 .bf16) : FVec Ideal S4096x1024 .bf16 := fun i =>
  D i * P i * (gate (Z i) * (1 - gate (Z i)))

/-- What the host leaves in the gate's array before the kernel starts. -/
theorem host_gate (c : Dev nD) (i : S4096x1024.Idx) : (V m c main_v6 : FVec Ideal S4096x1024 .bf16) i = gate (X1 m c i) := by
  have e : (V m c main_v6 : FVec Ideal S4096x1024 .bf16) = truncf .bf16 (Host.divf (broadcastInDim S4096x1024 ![] bcast_S_S4096x1024 (constant S_ .f32 0x3F800000#32)) (addf (broadcastInDim S4096x1024 ![] bcast_S_S4096x1024 (constant S_ .f32 0x3F800000#32)) (Host.exp (Host.negf (X1 m c))))) bitsLt_bf16_f32 := by
    unfold V hostOps0
    after_results
  rw [e]
  idx_vars i
  pointwise [gate]

theorem blk0 (c : Dev nD) (t : Fin cfg0.N) (a : Fin 512) (b : Fin 1024) :
    (iblk m c 0 t : FVec Ideal S512x1024 .f32) (ix2 a b) = X0 m c (ix2 ⟨t.val * 512 + a.val, by have := (idx t).2.2.2.2.2; omega⟩ b) := by
  obtain ⟨i, -, -, -, -, -⟩ := idx t
  refine Eq.trans ?_ (congrFun (V_main_arg0 m c) _)
  blk_ext [iblk, i]

theorem blk1 (c : Dev nD) (t : Fin cfg0.N) (a : Fin 512) (b : Fin 1024) :
    (iblk m c 1 t : FVec Ideal S512x1024 .bf16) (ix2 a b) = gate (X1 m c (ix2 ⟨t.val * 512 + a.val, by have := (idx t).2.2.2.2.2; omega⟩ b)) := by
  obtain ⟨-, i, -, -, -, -⟩ := idx t
  rw [← host_gate m c]
  blk_ext [iblk, i]

theorem blk2 (c : Dev nD) (t : Fin cfg0.N) (a : Fin 512) (b : Fin 1024) :
    (iblk m c 2 t : FVec Ideal S512x1024 .bf16) (ix2 a b) = X2 m c (ix2 ⟨t.val * 512 + a.val, by have := (idx t).2.2.2.2.2; omega⟩ b) := by
  obtain ⟨-, -, i, -, -, -⟩ := idx t
  refine Eq.trans ?_ (congrFun (V_main_arg2 m c) _)
  blk_ext [iblk, i]

theorem pay2 (x0 : FVec Ideal S512x1024 .f32) (x1 : FVec Ideal S512x1024 .bf16) (a : Fin 512) (b : Fin 1024) :
    k0_pay2 (F := Ideal) x0 x1 (ix2 a b) = x1 (ix2 a b) * x0 (ix2 a b) := by
  pointwise [k0_pay2, k0_pay1]
  exact mul_comm _ _

theorem pay3 (x0 : FVec Ideal S512x1024 .f32) (x1 x2 : FVec Ideal S512x1024 .bf16) (a : Fin 512) (b : Fin 1024) :
    k0_pay3 (F := Ideal) x0 x1 x2 (ix2 a b) = x0 (ix2 a b) * x2 (ix2 a b) * (x1 (ix2 a b) * (1 - x1 (ix2 a b))) := by
  pointwise [k0_pay3, k0_pay1]
  exact mul_assoc _ _ _

theorem final0 (c : Dev nD) : (dats m 0 c).arrAt 3 cfg0.N = G0 (X0 m c) (X1 m c) := by
  refine (dats m 0 c).arrAt_eq_of_covers 3 _ (by decide +kernel) fun t hf y => ?_
  obtain ⟨-, -, -, i, -, ht⟩ := idx t
  blk_simp
  rw [after0_3]
  idx_vars y
  rw [out0_3]
  frame_out
  refine (pay2 _ _ y0 y1).trans ?_
  have e : ((View.whole main_v7_0).slice (win0_3.rect t)).emb (ix2 y0 y1) = (ix2 (⟨t.val * 512 + y0.val, by have := (idx t).2.2.2.2.2; omega⟩ : Fin 4096) y1 : S4096x1024.Idx) := by
    blk_ext [i]
  rw [e, G0]
  simp only [blk0, blk1]

theorem final1 (c : Dev nD) : (dats m 0 c).arrAt 4 cfg0.N = G1 (X0 m c) (X1 m c) (X2 m c) := by
  refine (dats m 0 c).arrAt_eq_of_covers 4 _ (by decide +kernel) fun t hf y => ?_
  obtain ⟨-, -, -, -, i, ht⟩ := idx t
  blk_simp
  rw [after0_4]
  idx_vars y
  rw [out0_4]
  frame_out
  refine (pay3 _ _ _ y0 y1).trans ?_
  have e : ((View.whole main_v7_1).slice (win0_4.rect t)).emb (ix2 y0 y1) = (ix2 (⟨t.val * 512 + y0.val, by have := (idx t).2.2.2.2.2; omega⟩ : Fin 4096) y1 : S4096x1024.Idx) := by
    blk_ext [i]
  rw [e, G1]
  simp only [blk0, blk1, blk2]

end Cert.PleGateBwd

namespace Cert.PleGateBwd

open Cert.Reference30Ideal Cert.Reference30Ideal.Gen

variable (m : (ℓ : Loc nD τ sig) → Buf (Elt Ideal) ℓ) (ρ : Dev nD → PrngReg)

abbrev Y0 (c : Dev nD) : FVec Ideal S4096x1024 .f32 := m ((c.tc : Thread nD τ).loc main_arg0)
abbrev Y1 (c : Dev nD) : FVec Ideal S4096x1024 .f32 := m ((c.tc : Thread nD τ).loc main_arg1)
abbrev Y2 (c : Dev nD) : FVec Ideal S4096x1024 .bf16 := m ((c.tc : Thread nD τ).loc main_arg2)

theorem run_ref : θ_run defs (onTc (τ := τ) (main (F := Ideal))) ⟨m, fun _ => 0, ρ⟩ fun r => ∀ c : Dev nD,
      r.2.mem ((c.tc : Thread nD τ).loc main_v14) = G0 (Y0 m c) (Y1 m c)
      ∧ r.2.mem ((c.tc : Thread nD τ).loc main_v15) = G1 (Y0 m c) (Y1 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
      clear h
      idx_vars i
      clean_types
      pointwise
      rfl), (h c).2.1.trans (funext fun i => by
      clear h
      idx_vars i
      clean_types
      pointwise
      rfl), (h c).2.2⟩) (Value.run m ρ)

theorem algebraic : Cert.algebraic_Kernel30Ideal_Reference30Ideal (hKernel30Ideal := Cert.Kernel30Ideal.Gen.facts)
    (hReference30Ideal := Cert.Reference30Ideal.Gen.facts) := by
  intro m g m' g' _ hag
  refine ⟨fun c => G0 (X0 m c) (X1 m c), fun c => G1 (X0 m c) (X1 m c) (X2 m c), ?_, ?_⟩
  · exact (θ_run _ _ _).mono (fun _ h c => ⟨(h c).1.trans (final0 m c), (h c).2.1.trans (final1 m c), (h c).2.2⟩) (Cert.Kernel30Ideal.Value.run_blocks m g)
  · refine (θ_run _ _ _).mono (fun _ h c => ⟨(h c).1.trans ?_, (h c).2.1.trans ?_, (h c).2.2⟩) (run_ref m' g')
    all_goals
      have e := hag c
      rw [show Y0 m' c = X0 m c from e.1, show Y1 m' c = X1 m c from e.2.1]
    rw [show Y2 m' c = X2 m c from e.2.2]

/-- The reference ends with its arguments unchanged; it declares no counter. -/
theorem frame_r : Cert.quiescent_Reference30Ideal (hReference30Ideal := Cert.Reference30Ideal.Gen.facts) := fun m ρ _ =>
  (θ_run _ _ _).mono (fun r h => ⟨fun c => (h c).2.2, sem_eq_zero_of_no_sems (by decide) r.2⟩) (run_ref m ρ)

end Cert.PleGateBwd

end
-- ==== Proof.RmsFwd.lean ====
/- The normalisation of the stream: kernel and reference leave the same arrays. -/
module

public import proofs.«01_k».proof.Proof.Gen.Kernel31Ideal.Value
public import proofs.«01_k».proof.Proof.Gen.Reference31Ideal.Run
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.RmsFwd

open Cert.Kernel31Ideal Cert.Kernel31Ideal.Gen

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ t.val < 8 :=
  (by decide +kernel : ∀ t : Fin grid0.N, _)

abbrev X0 (c : Dev nD) : FVec Ideal S4096x1024 .f32 := m ((c : Thread nD τ).loc main_arg0)
abbrev X1 (c : Dev nD) : FVec Ideal S1024 .f32 := m ((c : Thread nD τ).loc main_arg1)

/-- The inverse root of the mean square of a row whose squares add up to `s`. -/
def scale (s : EReal) : EReal := Ideal.rsqrt (Ideal.div s (Ideal.ofBits .f32 0x44800000#32) + Ideal.ofBits .f32 0x358637BD#32)

/-- The normalised stream. -/
def G (H : FVec Ideal S4096x1024 .f32) (W : FVec Ideal S1024 .f32) : FVec Ideal S4096x1024 .bf16 := fun i =>
  H i * scale (∑ k : Fin 1024, H (ix2 (i 0) k) * H (ix2 (i 0) k)) * W (ix1 (i 1))

theorem host_row (c : Dev nD) (b : Fin 1024) : (V m c main_v0 : FVec Ideal S1x1024 .f32) (ix2 0 b) = X1 m c (ix1 b) := by
  have e : (V m c main_v0 : FVec Ideal S1x1024 .f32) = shapeCast S1x1024 (X1 m c) shapeCasts_S1024_S1x1024 := by
    unfold V hostOps0
    after_results
    rfl
  rw [e]
  pointwise

theorem blk0 (c : Dev nD) (t : Fin cfg0.N) (a : Fin 512) (b : Fin 1024) :
    (iblk m c 0 t : FVec Ideal S512x1024 .f32) (ix2 a b) = X0 m c (ix2 ⟨t.val * 512 + a.val, by have := (idx t).2.2.2; omega⟩ b) := by
  obtain ⟨i, -, -, -⟩ := idx t
  refine Eq.trans ?_ (congrFun (V_main_arg0 m c) _)
  blk_ext [iblk, i]

theorem blk1 (c : Dev nD) (t : Fin cfg0.N) (b : Fin 1024) :
    (iblk m c 1 t : FVec Ideal S1x1024 .f32) (ix2 0 b) = X1 m c (ix1 b) := by
  obtain ⟨-, i, -, -⟩ := idx t
  rw [← host_row m c]
  blk_ext [iblk, i]

theorem pay1 (x0 : FVec Ideal S512x1024 .f32) (x1 : FVec Ideal S1x1024 .f32) (a : Fin 512) (b : Fin 1024) :
    k0_pay1 (F := Ideal) x0 x1 (ix2 a b) = x0 (ix2 a b) * scale (∑ k : Fin 1024, x0 (ix2 a k) * x0 (ix2 a k)) * x1 (ix2 0 b) := by
  pointwise [k0_pay1, scale]

theorem final (c : Dev nD) : (dats m 0 c).arrAt 2 cfg0.N = G (X0 m c) (X1 m c) := by
  refine (dats m 0 c).arrAt_eq_of_covers 2 _ (by decide +kernel) fun t hf y => ?_
  obtain ⟨-, -, i, ht⟩ := idx t
  blk_simp
  rw [after0_2]
  idx_vars y
  rw [out0_2]
  frame_out
  refine (pay1 _ _ y0 y1).trans ?_
  have e : ((View.whole main_v1).slice (win0_2.rect t)).emb (ix2 y0 y1) = (ix2 (⟨t.val * 512 + y0.val, by have := (idx t).2.2.2; omega⟩ : Fin 4096) y1 : S4096x1024.Idx) := by
    blk_ext [i]
  rw [e, G]
  simp only [blk0, blk1]
  rfl

end Cert.RmsFwd

namespace Cert.RmsFwd

open Cert.Reference31Ideal Cert.Reference31Ideal.Gen

variable (m : (ℓ : Loc nD τ sig) → Buf (Elt Ideal) ℓ) (ρ : Dev nD → PrngReg)

abbrev Y0 (c : Dev nD) : FVec Ideal S4096x1024 .f32 := m ((c.tc : Thread nD τ).loc main_arg0)
abbrev Y1 (c : Dev nD) : FVec Ideal S1024 .f32 := m ((c.tc : Thread nD τ).loc main_arg1)

theorem run_ref : θ_run defs (onTc (τ := τ) (main (F := Ideal))) ⟨m, fun _ => 0, ρ⟩ fun r => ∀ c : Dev nD,
      r.2.mem ((c.tc : Thread nD τ).loc main_v13) = G (Y0 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => by
      clear h
      idx_vars i
      clean_types
      pointwise
      rfl), (h c).2⟩) (Value.run m ρ)

theorem algebraic : Cert.algebraic_Kernel31Ideal_Reference31Ideal (hKernel31Ideal := Cert.Kernel31Ideal.Gen.facts)
    (hReference31Ideal := Cert.Reference31Ideal.Gen.facts) := by
  intro m g m' g' _ hag
  refine ⟨fun c => G (X0 m c) (X1 m c), ?_, ?_⟩
  · exact (θ_run _ _ _).mono (fun _ h c => ⟨(h c).1.trans (final m c), (h c).2⟩) (Cert.Kernel31Ideal.Value.run_blocks m g)
  · refine (θ_run _ _ _).mono (fun _ h c => ⟨(h c).1.trans ?_, (h c).2⟩) (run_ref m' g')
    have e := hag c
    rw [show Y0 m' c = X0 m c from e.1, show Y1 m' c = X1 m c from e.2]

/-- The reference ends with its arguments unchanged; it declares no counter. -/
theorem frame_r : Cert.quiescent_Reference31Ideal (hReference31Ideal := Cert.Reference31Ideal.Gen.facts) := fun m ρ _ =>
  (θ_run _ _ _).mono (fun r h => ⟨fun c => (h c).2, sem_eq_zero_of_no_sems (by decide) r.2⟩) (run_ref m ρ)

end Cert.RmsFwd

end
-- ==== Proof.ScValue.lean ====
/- What the idealized gradient call of the gated short convolution leaves in its two results. -/
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ScConv

open Cert.KernelIdeal Cert.KernelIdeal.Gen

variable (m : (ℓ : Loc nD τ sig) → Buf (Elt Ideal) ℓ)

/-- The windows' block indices at every grid point. -/
theorem idx : ∀ t : Fin cfg0.N, win0_0.index t = ![t.val, 0] ∧ win0_1.index t = ![min ((t.val + 1) * 16) 255, 0]
    ∧ win0_2.index t = ![t.val, 0] ∧ win0_3.index t = ![t.val * 16 - 1, 0]
    ∧ win0_4.index t = ![min ((t.val + 1) * 16) 255, 0] ∧ win0_5.index t = ![0, 0]
    ∧ win0_6.index t = ![t.val, 0] ∧ win0_7.index t = ![0, 0] ∧ (grid0.coords t 0).val = t.val ∧ t.val < 16 :=
  (by decide +kernel : ∀ t : Fin grid0.N, _)

abbrev X0 (c : Dev nD) : FVec Ideal S4096x1024 .f32 := m ((c : Thread nD τ).loc main_arg0)
abbrev X1 (c : Dev nD) : FVec Ideal S4096x3072 .f32 := m ((c : Thread nD τ).loc main_arg1)
abbrev X2 (c : Dev nD) : FVec Ideal S3x1024 .f32 := m ((c : Thread nD τ).loc main_arg2)

/-- The gated input, two zero rows in front. -/
def gated (Z : FVec Ideal S4096x3072 .f32) (p : ℕ) (q : Fin 1024) : EReal :=
  if h : 2 ≤ p ∧ p < 4098 then
    Z (ix2 (⟨p - 2, by omega⟩ : Fin 4096) (⟨1024 + q, by omega⟩ : Fin 3072)) * Z (ix2 (⟨p - 2, by omega⟩ : Fin 4096) (⟨2048 + q, by omega⟩ : Fin 3072))
  else 0

/-- The gradient of the convolution, zero behind the last row. -/
def dconv (DY : FVec Ideal S4096x1024 .f32) (Z : FVec Ideal S4096x3072 .f32) (n : ℕ) (q : Fin 1024) : EReal :=
  if h : n < 4096 then DY (ix2 (⟨n, h⟩ : Fin 4096) q) * Z (ix2 (⟨n, h⟩ : Fin 4096) (⟨q, by omega⟩ : Fin 3072)) else 0

theorem gated_of {Z : FVec Ideal S4096x3072 .f32} {p n : ℕ} (q : Fin 1024) (h : n < 4096) (e : p = n + 2) :
    gated Z p q = Z (ix2 (⟨n, h⟩ : Fin 4096) (⟨1024 + q, by omega⟩ : Fin 3072)) * Z (ix2 (⟨n, h⟩ : Fin 4096) (⟨2048 + q, by omega⟩ : Fin 3072)) := by
  subst e
  rw [gated, dif_pos (by omega)]
  simp only [Nat.add_sub_cancel]

theorem gated_zero {Z : FVec Ideal S4096x3072 .f32} {p : ℕ} (q : Fin 1024) (h : p < 2) : gated Z p q = 0 := by
  rw [gated, dif_neg (by omega)]

theorem dconv_of {DY : FVec Ideal S4096x1024 .f32} {Z : FVec Ideal S4096x3072 .f32} {p n : ℕ} (q : Fin 1024) (h : n < 4096) (e : p = n) :
    dconv DY Z p q = DY (ix2 (⟨n, h⟩ : Fin 4096) q) * Z (ix2 (⟨n, h⟩ : Fin 4096) (⟨q, by omega⟩ : Fin 3072)) := by
  subst e
  rw [dconv, dif_pos h]

theorem dconv_zero {DY : FVec Ideal S4096x1024 .f32} {Z : FVec Ideal S4096x3072 .f32} {p : ℕ} (q : Fin 1024) (h : 4096 ≤ p) :
    dconv DY Z p q = 0 := by
  rw [dconv, dif_neg (by omega)]

theorem blk0 (c : Dev nD) (t : Fin cfg0.N) (a : Fin 256) (b : Fin 1024) :
    (iblk m c 0 t : FVec Ideal S256x1024 .f32) (ix2 a b) = X0 m c (ix2 ⟨256 * t.val + a, by have := (idx t).2.2.2.2.2.2.2.2.2; omega⟩ b) := by
  obtain ⟨i0, -, -, -, -, -, -, -, -, ht⟩ := idx t
  blk_ext [iblk, V, i0]

theorem blk2 (c : Dev nD) (t : Fin cfg0.N) (a : Fin 256) (b : Fin 3072) :
    (iblk m c 2 t : FVec Ideal S256x3072 .f32) (ix2 a b) = X1 m c (ix2 ⟨256 * t.val + a, by have := (idx t).2.2.2.2.2.2.2.2.2; omega⟩ b) := by
  obtain ⟨-, -, i2, -, -, -, -, -, -, ht⟩ := idx t
  blk_ext [iblk, V, i2]

theorem blk3 (c : Dev nD) (t : Fin cfg0.N) (a : Fin 16) (b : Fin 3072) (n : ℕ) (hn : n < 4096) (e : n + 16 = 256 * t.val + a) :
    (iblk m c 3 t : FVec Ideal S16x3072 .f32) (ix2 a b) = X1 m c (ix2 ⟨n, hn⟩ b) := by
  obtain ⟨-, -, -, i3, -, -, -, -, -, ht⟩ := idx t
  blk_ext [iblk, V, i3]

theorem blk1 (c : Dev nD) (t : Fin cfg0.N) (a : Fin 16) (b : Fin 1024) (n : ℕ) (hn : n < 4096) (e : n = 256 * (t.val + 1) + a) :
    (iblk m c 1 t : FVec Ideal S16x1024 .f32) (ix2 a b) = X0 m c (ix2 ⟨n, hn⟩ b) := by
  obtain ⟨-, i1, -, -, -, -, -, -, -, ht⟩ := idx t
  blk_ext [iblk, V, i1]

theorem blk4 (c : Dev nD) (t : Fin cfg0.N) (a : Fin 16) (b : Fin 3072) (n : ℕ) (hn : n < 4096) (e : n = 256 * (t.val + 1) + a) :
    (iblk m c 4 t : FVec Ideal S16x3072 .f32) (ix2 a b) = X1 m c (ix2 ⟨n, hn⟩ b) := by
  obtain ⟨-, -, -, -, i4, -, -, -, -, ht⟩ := idx t
  blk_ext [iblk, V, i4]

theorem blk5 (c : Dev nD) (t : Fin cfg0.N) (a : Fin 3) (b : Fin 1024) :
    (iblk m c 5 t : FVec Ideal S3x1024 .f32) (ix2 a b) = X2 m c (ix2 a b) := by
  obtain ⟨-, -, -, -, -, i5, -, -, -, ht⟩ := idx t
  blk_ext [iblk, V, i5]

theorem pay8 (c : Dev nD) (t : Fin cfg0.N) (r : Fin 256) (q : Fin 1024) :
    k0_pay8 (iblk m c 2 t : FVec Ideal S256x3072 .f32) (ix2 r q) = gated (X1 m c) (256 * t.val + r + 2) q := by
  have ht := (idx t).2.2.2.2.2.2.2.2.2
  rw [gated_of q (n := 256 * t.val + r) (by omega) rfl]
  pointwise [k0_pay8, k0_pay6, k0_pay7]
  rw [blk2, blk2]

theorem lt_of_row : ∀ r : Fin 256, IntOp.cmpi CmpIPredicate.slt (BitVec.ofNat 32 r.val) 1#32 = BitVec.ofBool (decide (r.val < 1))
    ∧ IntOp.cmpi CmpIPredicate.slt (BitVec.ofNat 32 r.val) 2#32 = BitVec.ofBool (decide (r.val < 2)) := by decide +kernel

theorem ge_of_row : ∀ r : Fin 8, IntOp.cmpi CmpIPredicate.sge (BitVec.ofNat 32 r.val) 7#32 = BitVec.ofBool (decide (7 ≤ r.val))
    ∧ IntOp.cmpi CmpIPredicate.sge (BitVec.ofNat 32 r.val) 6#32 = BitVec.ofBool (decide (6 ≤ r.val)) := by decide +kernel

theorem of_point : ∀ t : Fin 16, Scalar.cmpi CmpIPredicate.sgt (BitVec.ofNat 32 t.val) 0#32 = BitVec.ofBool (decide (0 < t.val))
    ∧ Scalar.cmpi CmpIPredicate.slt (BitVec.ofNat 32 t.val) 15#32 = BitVec.ofBool (decide (t.val < 15)) := by decide +kernel

theorem sel {α : Type} (p : Prop) [Decidable p] (x y : α) : Scalar.select (BitVec.ofBool (decide p)) x y = if p then x else y := by
  by_cases h : p <;> simp [h, Scalar.select]

theorem pay10 (c : Dev nD) (t : Fin cfg0.N) (r : Fin 256) (q : Fin 1024) :
    k0_pay10 (grid0.coords t) (iblk m c 2 t) (View.ld (iblk m c 3 t) (Rect.unit ![8, 0] ![8, 3072] inb_S16x3072_S8x3072_8_0)) (ix2 r q)
      = gated (X1 m c) (256 * t.val + r + 1) q := by
  obtain ⟨-, -, i2, i3, -, -, -, -, i0, ht⟩ := idx t
  pointwise [k0_pay10, k0_pay8, k0_pay6, k0_pay7, k0_pay9, i0]
  rw [(lt_of_row r).1, (of_point ⟨t.val, ht⟩).1]
  simp only [sel]
  split
  · split
    · split
      · rw [gated_of q (n := 256 * t.val - 1) (by omega) (by omega), blk3 m c t ⟨8 + (r.val + 8 - 1) % 8, by omega⟩ _ (256 * t.val - 1) (by omega) (by dsimp only; omega), blk3 m c t ⟨8 + (r.val + 8 - 1) % 8, by omega⟩ _ (256 * t.val - 1) (by omega) (by dsimp only; omega)]
      · rw [gated_zero q (by omega)]
    · rw [gated_of q (n := 256 * t.val + ((r.val + 256 - 1) % 256)) (by omega) (by omega), blk2, blk2]
  · rw [gated_of q (n := 256 * t.val + ((8 + (r.val - 8) + 256 - 1) % 256)) (by omega) (by omega), blk2, blk2]

theorem pay11 (c : Dev nD) (t : Fin cfg0.N) (r : Fin 256) (q : Fin 1024) :
    k0_pay11 (grid0.coords t) (iblk m c 2 t) (View.ld (iblk m c 3 t) (Rect.unit ![8, 0] ![8, 3072] inb_S16x3072_S8x3072_8_0)) (ix2 r q)
      = gated (X1 m c) (256 * t.val + r) q := by
  obtain ⟨-, -, i2, i3, -, -, -, -, i0, ht⟩ := idx t
  pointwise [k0_pay11, k0_pay8, k0_pay6, k0_pay7, k0_pay9, i0]
  rw [(lt_of_row r).2, (of_point ⟨t.val, ht⟩).1]
  simp only [sel]
  split
  · split
    · split
      · rw [gated_of q (n := 256 * t.val + r - 2) (by omega) (by omega), blk3 m c t ⟨8 + (r.val + 8 - 2) % 8, by omega⟩ _ (256 * t.val + r - 2) (by omega) (by dsimp only; omega), blk3 m c t ⟨8 + (r.val + 8 - 2) % 8, by omega⟩ _ (256 * t.val + r - 2) (by omega) (by dsimp only; omega)]
      · rw [gated_zero q (by omega)]
    · rw [gated_of q (n := 256 * t.val + ((r.val + 256 - 2) % 256)) (by omega) (by omega), blk2, blk2]
  · rw [gated_of q (n := 256 * t.val + ((8 + (r.val - 8) + 256 - 2) % 256)) (by omega) (by omega), blk2, blk2]

theorem pay14 (c : Dev nD) (t : Fin cfg0.N) (r : Fin 256) (q : Fin 1024) :
    k0_pay14 (k0_pay5 (iblk m c 2 t)) (iblk m c 0 t) (ix2 r q) = dconv (X0 m c) (X1 m c) (256 * t.val + r) q := by
  have ht := (idx t).2.2.2.2.2.2.2.2.2
  rw [dconv_of q (n := 256 * t.val + r) (by omega) rfl]
  pointwise [k0_pay14, k0_pay5]
  rw [blk0, blk2]

theorem edge7 (x : Fin 8) (t : Fin 16) (a b : EReal) :
    Scalar.select (IntOp.cmpi CmpIPredicate.sge (BitVec.ofNat 32 x.val) 7#32)
      (Scalar.select (Scalar.cmpi CmpIPredicate.slt (BitVec.ofNat 32 t.val) 15#32) a 0) b
      = if 7 ≤ x.val then if t.val < 15 then a else 0 else b := by
  rw [(ge_of_row x).1, (of_point t).2, sel, sel]

theorem edge6 (x : Fin 8) (t : Fin 16) (a b : EReal) :
    Scalar.select (IntOp.cmpi CmpIPredicate.sge (BitVec.ofNat 32 x.val) 6#32)
      (Scalar.select (Scalar.cmpi CmpIPredicate.slt (BitVec.ofNat 32 t.val) 15#32) a 0) b
      = if 6 ≤ x.val then if t.val < 15 then a else 0 else b := by
  rw [(ge_of_row x).2, (of_point t).2, sel, sel]

theorem shift1 {DY : FVec Ideal S4096x1024 .f32} {Z : FVec Ideal S4096x3072 .f32}
    {A0 : FVec Ideal S256x1024 .f32} {A1 : FVec Ideal S16x1024 .f32} {A2 : FVec Ideal S256x3072 .f32} {A4 : FVec Ideal S16x3072 .f32}
    (t : Fin 16)
    (h0 : ∀ (a : Fin 256) (b : Fin 1024) (n : ℕ) (hn : n < 4096), n = 256 * t.val + a → A0 (ix2 a b) = DY (ix2 ⟨n, hn⟩ b))
    (h2 : ∀ (a : Fin 256) (b : Fin 3072) (n : ℕ) (hn : n < 4096), n = 256 * t.val + a → A2 (ix2 a b) = Z (ix2 ⟨n, hn⟩ b))
    (h1 : ∀ (a : Fin 16) (b : Fin 1024) (n : ℕ) (hn : n < 4096), n = 256 * (t.val + 1) + a → A1 (ix2 a b) = DY (ix2 ⟨n, hn⟩ b))
    (h4 : ∀ (a : Fin 16) (b : Fin 3072) (n : ℕ) (hn : n < 4096), n = 256 * (t.val + 1) + a → A4 (ix2 a b) = Z (ix2 ⟨n, hn⟩ b))
    (r : Fin 256) (q : Fin 1024) :
    (if h : r.val < 248 then A0 (ix2 ⟨(r.val + 256 - 255) % 256, by omega⟩ q) * A2 (ix2 ⟨(r.val + 256 - 255) % 256, by omega⟩ ⟨q.val, by omega⟩)
      else Scalar.select (IntOp.cmpi CmpIPredicate.sge (BitVec.ofNat 32 (r.val - 248)) 7#32)
        (Scalar.select (Scalar.cmpi CmpIPredicate.slt (BitVec.ofNat 32 t.val) 15#32) (A1 (ix2 ⟨(r.val - 248 + 8 - 7) % 8, by omega⟩ q) * A4 (ix2 ⟨(r.val - 248 + 8 - 7) % 8, by omega⟩ ⟨q.val, by omega⟩)) 0)
        (A0 (ix2 ⟨(248 + (r.val - 248) + 256 - 255) % 256, by omega⟩ q) * A2 (ix2 ⟨(248 + (r.val - 248) + 256 - 255) % 256, by omega⟩ ⟨q.val, by omega⟩)) : EReal)
      = dconv DY Z (256 * t.val + r + 1) q := by
  have ht := t.isLt
  have hr := r.isLt
  split
  · rw [dconv_of q (n := 256 * t.val + r + 1) (by omega) rfl]
    exact congrArg₂ (· * ·) (h0 ⟨(r.val + 256 - 255) % 256, _⟩ _ (256 * t.val + r + 1) (by omega) (by dsimp only; omega)) (h2 ⟨(r.val + 256 - 255) % 256, _⟩ _ (256 * t.val + r + 1) (by omega) (by dsimp only; omega))
  · refine (edge7 ⟨r.val - 248, by omega⟩ t _ _).trans ?_
    dsimp only
    split
    · split
      · rw [dconv_of q (n := 256 * t.val + r + 1) (by omega) rfl]
        exact congrArg₂ (· * ·) (h1 ⟨(r.val - 248 + 8 - 7) % 8, _⟩ _ (256 * t.val + r + 1) (by omega) (by dsimp only; omega)) (h4 ⟨(r.val - 248 + 8 - 7) % 8, _⟩ _ (256 * t.val + r + 1) (by omega) (by dsimp only; omega))
      · rw [dconv_zero q (by omega)]
    · rw [dconv_of q (n := 256 * t.val + r + 1) (by omega) rfl]
      exact congrArg₂ (· * ·) (h0 ⟨(248 + (r.val - 248) + 256 - 255) % 256, _⟩ _ (256 * t.val + r + 1) (by omega) (by dsimp only; omega)) (h2 ⟨(248 + (r.val - 248) + 256 - 255) % 256, _⟩ _ (256 * t.val + r + 1) (by omega) (by dsimp only; omega))

theorem shift2 {DY : FVec Ideal S4096x1024 .f32} {Z : FVec Ideal S4096x3072 .f32}
    {A0 : FVec Ideal S256x1024 .f32} {A1 : FVec Ideal S16x1024 .f32} {A2 : FVec Ideal S256x3072 .f32} {A4 : FVec Ideal S16x3072 .f32}
    (t : Fin 16)
    (h0 : ∀ (a : Fin 256) (b : Fin 1024) (n : ℕ) (hn : n < 4096), n = 256 * t.val + a → A0 (ix2 a b) = DY (ix2 ⟨n, hn⟩ b))
    (h2 : ∀ (a : Fin 256) (b : Fin 3072) (n : ℕ) (hn : n < 4096), n = 256 * t.val + a → A2 (ix2 a b) = Z (ix2 ⟨n, hn⟩ b))
    (h1 : ∀ (a : Fin 16) (b : Fin 1024) (n : ℕ) (hn : n < 4096), n = 256 * (t.val + 1) + a → A1 (ix2 a b) = DY (ix2 ⟨n, hn⟩ b))
    (h4 : ∀ (a : Fin 16) (b : Fin 3072) (n : ℕ) (hn : n < 4096), n = 256 * (t.val + 1) + a → A4 (ix2 a b) = Z (ix2 ⟨n, hn⟩ b))
    (r : Fin 256) (q : Fin 1024) :
    (if h : r.val < 248 then A0 (ix2 ⟨(r.val + 256 - 254) % 256, by omega⟩ q) * A2 (ix2 ⟨(r.val + 256 - 254) % 256, by omega⟩ ⟨q.val, by omega⟩)
      else Scalar.select (IntOp.cmpi CmpIPredicate.sge (BitVec.ofNat 32 (r.val - 248)) 6#32)
        (Scalar.select (Scalar.cmpi CmpIPredicate.slt (BitVec.ofNat 32 t.val) 15#32) (A1 (ix2 ⟨(r.val - 248 + 8 - 6) % 8, by omega⟩ q) * A4 (ix2 ⟨(r.val - 248 + 8 - 6) % 8, by omega⟩ ⟨q.val, by omega⟩)) 0)
        (A0 (ix2 ⟨(248 + (r.val - 248) + 256 - 254) % 256, by omega⟩ q) * A2 (ix2 ⟨(248 + (r.val - 248) + 256 - 254) % 256, by omega⟩ ⟨q.val, by omega⟩)) : EReal)
      = dconv DY Z (256 * t.val + r + 2) q := by
  have ht := t.isLt
  have hr := r.isLt
  split
  · rw [dconv_of q (n := 256 * t.val + r + 2) (by omega) rfl]
    exact congrArg₂ (· * ·) (h0 ⟨(r.val + 256 - 254) % 256, _⟩ _ (256 * t.val + r + 2) (by omega) (by dsimp only; omega)) (h2 ⟨(r.val + 256 - 254) % 256, _⟩ _ (256 * t.val + r + 2) (by omega) (by dsimp only; omega))
  · refine (edge6 ⟨r.val - 248, by omega⟩ t _ _).trans ?_
    dsimp only
    split
    · split
      · rw [dconv_of q (n := 256 * t.val + r + 2) (by omega) rfl]
        exact congrArg₂ (· * ·) (h1 ⟨(r.val - 248 + 8 - 6) % 8, _⟩ _ (256 * t.val + r + 2) (by omega) (by dsimp only; omega)) (h4 ⟨(r.val - 248 + 8 - 6) % 8, _⟩ _ (256 * t.val + r + 2) (by omega) (by dsimp only; omega))
      · rw [dconv_zero q (by omega)]
    · rw [dconv_of q (n := 256 * t.val + r + 2) (by omega) rfl]
      exact congrArg₂ (· * ·) (h0 ⟨(248 + (r.val - 248) + 256 - 254) % 256, _⟩ _ (256 * t.val + r + 2) (by omega) (by dsimp only; omega)) (h2 ⟨(248 + (r.val - 248) + 256 - 254) % 256, _⟩ _ (256 * t.val + r + 2) (by omega) (by dsimp only; omega))

/-- The gated reverse convolution of a block, once the blocks it is made of are known. -/
theorem pay15_of {W : FVec Ideal S3x1024 .f32} {DY : FVec Ideal S4096x1024 .f32} {Z : FVec Ideal S4096x3072 .f32}
    {A0 : FVec Ideal S256x1024 .f32} {A1 : FVec Ideal S16x1024 .f32} {A2 : FVec Ideal S256x3072 .f32} {A4 : FVec Ideal S16x3072 .f32}
    (t : Fin 16)
    (h0 : ∀ (a : Fin 256) (b : Fin 1024) (n : ℕ) (hn : n < 4096), n = 256 * t.val + a → A0 (ix2 a b) = DY (ix2 ⟨n, hn⟩ b))
    (h2 : ∀ (a : Fin 256) (b : Fin 3072) (n : ℕ) (hn : n < 4096), n = 256 * t.val + a → A2 (ix2 a b) = Z (ix2 ⟨n, hn⟩ b))
    (h1 : ∀ (a : Fin 16) (b : Fin 1024) (n : ℕ) (hn : n < 4096), n = 256 * (t.val + 1) + a → A1 (ix2 a b) = DY (ix2 ⟨n, hn⟩ b))
    (h4 : ∀ (a : Fin 16) (b : Fin 3072) (n : ℕ) (hn : n < 4096), n = 256 * (t.val + 1) + a → A4 (ix2 a b) = Z (ix2 ⟨n, hn⟩ b))
    (r : Fin 256) (q : Fin 1024) :
    k0_pay15 (BitVec.ofNat 32 t.val) (k0_pay5 A2) W A0
              (View.ld A1 (Rect.unit (s := S16x1024) ![0, 0] ![8, 1024] inb_S16x1024_S8x1024_0_0))
              (View.ld A4 (Rect.unit (s := S16x3072) ![0, 0] ![8, 1024] inb_S16x3072_S8x1024_0_0)) (ix2 r q)
      = W (ix2 2 q) * dconv DY Z (256 * t.val + r) q
        + W (ix2 1 q) * dconv DY Z (256 * t.val + r + 1) q
        + W (ix2 0 q) * dconv DY Z (256 * t.val + r + 2) q := by
  have h : dconv DY Z (256 * t.val + r) q = A0 (ix2 r q) * A2 (ix2 r ⟨q.val, by omega⟩) := by
    rw [dconv_of q (n := 256 * t.val + r) (by omega) rfl, h0 _ _ (256 * t.val + r) (by omega) rfl, h2 _ _ (256 * t.val + r) (by omega) rfl]
  rw [h, ← shift1 t h0 h2 h1 h4 r q, ← shift2 t h0 h2 h1 h4 r q]
  pointwise [k0_pay15, k0_pay14, k0_pay5]

theorem blk5' (c : Dev nD) (t : Fin cfg0.N) : (iblk m c 5 t : FVec Ideal S3x1024 .f32) = X2 m c := by
  funext j
  idx_vars j
  exact blk5 m c t _ _

theorem pay15 (c : Dev nD) (t : Fin cfg0.N) (r : Fin 256) (q : Fin 1024) :
    k0_pay15 (BitVec.ofNat 32 ↑(grid0.coords t 0)) (k0_pay5 (iblk m c 2 t)) (iblk m c 5 t) (iblk m c 0 t)
              (View.ld (iblk m c 1 t) (Rect.unit ![0, 0] ![8, 1024] inb_S16x1024_S8x1024_0_0))
              (View.ld (iblk m c 4 t) (Rect.unit ![0, 0] ![8, 1024] inb_S16x3072_S8x1024_0_0)) (ix2 r q)
      = X2 m c (ix2 2 q) * dconv (X0 m c) (X1 m c) (256 * t.val + r) q
        + X2 m c (ix2 1 q) * dconv (X0 m c) (X1 m c) (256 * t.val + r + 1) q
        + X2 m c (ix2 0 q) * dconv (X0 m c) (X1 m c) (256 * t.val + r + 2) q := by
  obtain ⟨-, -, -, -, -, -, -, -, i0, ht⟩ := idx t
  rw [blk5', i0]
  exact pay15_of ⟨t.val, ht⟩ (fun a b n hn e => by subst e; exact blk0 m c t a b) (fun a b n hn e => by subst e; exact blk2 m c t a b) (fun a b n hn e => blk1 m c t a b n hn e) (fun a b n hn e => blk4 m c t a b n hn e) r q

end Cert.ScConv

end
-- ==== Proof.ScOut.lean ====
module

public import proofs.«01_k».proof.Proof.ScValue

@[expose] public section

set_option maxRecDepth 16384

noncomputable section

open Idealize.ShloMosaic Idealize.ShloMosaic.TcCoe Idealize.SL.Sem
open Idealize.ShloMosaic.Pipeline (Dat)

namespace Cert.ScConv

open Cert.KernelIdeal Cert.KernelIdeal.Gen

variable (m : (ℓ : Loc nD τ sig) → Buf (Elt Ideal) ℓ)

/-- The causal depthwise convolution of the gated input at row `n`. -/
def conv (Z : FVec Ideal S4096x3072 .f32) (W : FVec Ideal S3x1024 .f32) (n : ℕ) (q : Fin 1024) : EReal :=
  W (ix2 2 q) * gated Z (n + 2) q + W (ix2 1 q) * gated Z (n + 1) q + W (ix2 0 q) * gated Z n q

/-- The gradient of the gated input at row `n`: the convolution of the output's gradient run backwards. -/
def dgated (DY : FVec Ideal S4096x1024 .f32) (Z : FVec Ideal S4096x3072 .f32) (W : FVec Ideal S3x1024 .f32) (n : ℕ) (q : Fin 1024) : EReal :=
  W (ix2 2 q) * dconv DY Z n q + W (ix2 1 q) * dconv DY Z (n + 1) q + W (ix2 0 q) * dconv DY Z (n + 2) q

theorem out0 (c : Dev nD) (t : Fin cfg0.N) (r : Fin 256) (q : Fin 1024) :
    k0_pay16 (k0_pay11 (grid0.coords t) (iblk m c 2 t) (View.ld (iblk m c 3 t) (Rect.unit ![8, 0] ![8, 3072] inb_S16x3072_S8x3072_8_0)))
        (k0_pay12 (grid0.coords t) (iblk m c 2 t) (View.ld (iblk m c 3 t) (Rect.unit ![8, 0] ![8, 3072] inb_S16x3072_S8x3072_8_0)) (iblk m c 5 t))
        (k0_pay13 (iblk m c 5 t)) (iblk m c 0 t) (ix2 r q)
      = X0 m c (ix2 ⟨256 * t.val + r, by have := (idx t).2.2.2.2.2.2.2.2.2; omega⟩ q) * conv (X1 m c) (X2 m c) (256 * t.val + r) q := by
  pointwise [k0_pay16, k0_pay12, k0_pay13]
  rw [conv, ← pay8, ← pay10, ← pay11, blk0, blk5, blk5, blk5]

theorem out1 (c : Dev nD) (t : Fin cfg0.N) (r : Fin 256) (q : Fin 1024) :
    k0_pay1 (k0_pay7 (iblk m c 2 t))
        (k0_pay15 (BitVec.ofNat 32 ↑(grid0.coords t 0)) (k0_pay5 (iblk m c 2 t)) (iblk m c 5 t) (iblk m c 0 t)
          (View.ld (iblk m c 1 t) (Rect.unit ![0, 0] ![8, 1024] inb_S16x1024_S8x1024_0_0))
          (View.ld (iblk m c 4 t) (Rect.unit ![0, 0] ![8, 1024] inb_S16x3072_S8x1024_0_0))) (ix2 r q)
      = dgated (X0 m c) (X1 m c) (X2 m c) (256 * t.val + r) q
        * X1 m c (ix2 ⟨256 * t.val + r, by have := (idx t).2.2.2.2.2.2.2.2.2; omega⟩ ⟨2048 + q, by omega⟩) := by
  pointwise [k0_pay1, k0_pay7]
  rw [dgated, ← pay15, blk2]

theorem out2 (c : Dev nD) (t : Fin cfg0.N) (r : Fin 256) (q : Fin 1024) :
    k0_pay2 (k0_pay6 (iblk m c 2 t))
        (k0_pay15 (BitVec.ofNat 32 ↑(grid0.coords t 0)) (k0_pay5 (iblk m c 2 t)) (iblk m c 5 t) (iblk m c 0 t)
          (View.ld (iblk m c 1 t) (Rect.unit ![0, 0] ![8, 1024] inb_S16x1024_S8x1024_0_0))
          (View.ld (iblk m c 4 t) (Rect.unit ![0, 0] ![8, 1024] inb_S16x3072_S8x1024_0_0))) (ix2 r q)
      = dgated (X0 m c) (X1 m c) (X2 m c) (256 * t.val + r) q
        * X1 m c (ix2 ⟨256 * t.val + r, by have := (idx t).2.2.2.2.2.2.2.2.2; omega⟩ ⟨1024 + q, by omega⟩) := by
  pointwise [k0_pay2, k0_pay6]
  rw [dgated, ← pay15, blk2]

/-- One point's share of the gradient of the convolution's weights, added to what is there. -/
theorem acc_at (c : Dev nD) (t : Fin cfg0.N) (A : FVec Ideal S3x1024 .f32) (k : Fin 3) (q : Fin 1024) :
    k0_pay3 (k0_pay8 (iblk m c 2 t))
        (k0_pay10 (grid0.coords t) (iblk m c 2 t) (View.ld (iblk m c 3 t) (Rect.unit ![8, 0] ![8, 3072] inb_S16x3072_S8x3072_8_0)))
        (k0_pay11 (grid0.coords t) (iblk m c 2 t) (View.ld (iblk m c 3 t) (Rect.unit ![8, 0] ![8, 3072] inb_S16x3072_S8x3072_8_0)))
        (k0_pay14 (k0_pay5 (iblk m c 2 t)) (iblk m c 0 t)) A (ix2 k q)
      = A (ix2 k q) + ∑ r : Fin 256, dconv (X0 m c) (X1 m c) (256 * t.val + r) q * gated (X1 m c) (256 * t.val + r + k) q := by
  pointwise [k0_pay3]
  refine congrArg (A (ix2 k q) + ·) ?_
  have h3 := k.isLt
  split
  · exact Finset.sum_congr rfl fun x _ => by rw [pay14, pay11, show k.val = 0 by omega, Nat.add_zero]
  · split
    · exact Finset.sum_congr rfl fun x _ => by rw [pay14, pay10, show k.val = 1 by omega]
    · exact Finset.sum_congr rfl fun x _ => by rw [pay14, pay8, show k.val = 2 by omega]

/-- The gradient of the three gate inputs, by column block. -/
def dz (DY : FVec Ideal S4096x1024 .f32) (Z : FVec Ideal S4096x3072 .f32) (W : FVec Ideal S3x1024 .f32) (n : Fin 4096) (l : Fin 3072) : EReal :=
  if h : l.val < 1024 then DY (ix2 n ⟨l.val, h⟩) * conv Z W n ⟨l.val, h⟩
  else if h' : l.val < 2048 then dgated DY Z W n ⟨l.val - 1024, by omega⟩ * Z (ix2 n ⟨l.val + 1024, by omega⟩)
  else dgated DY Z W n ⟨l.val - 2048, by omega⟩ * Z (ix2 n ⟨l.val - 1024, by omega⟩)

/-- The gradient of the three gate inputs as an array. -/
def DZ (DY : FVec Ideal S4096x1024 .f32) (Z : FVec Ideal S4096x3072 .f32) (W : FVec Ideal S3x1024 .f32) : FVec Ideal S4096x3072 .bf16 :=
  fun i => dz DY Z W (i 0) (i 1)

/-- The gradient of the convolution's weights as an array. -/
def DW (DY : FVec Ideal S4096x1024 .f32) (Z : FVec Ideal S4096x3072 .f32) : FVec Ideal S3x1024 .f32 :=
  fun i => ∑ n : Fin 4096, dconv DY Z n (i 1) * gated Z (n.val + (i 0).val) (i 1)

theorem dz0 (DY : FVec Ideal S4096x1024 .f32) (Z : FVec Ideal S4096x3072 .f32) (W : FVec Ideal S3x1024 .f32) (n : Fin 4096) (l : Fin 3072)
    (q : Fin 1024) (h : l.val = q.val) : dz DY Z W n l = DY (ix2 n q) * conv Z W n q := by
  have e : (⟨l.val, by omega⟩ : Fin 1024) = q := Fin.ext h
  rw [dz, dif_pos (by omega), e]

theorem dz1 (DY : FVec Ideal S4096x1024 .f32) (Z : FVec Ideal S4096x3072 .f32) (W : FVec Ideal S3x1024 .f32) (n : Fin 4096) (l : Fin 3072)
    (q : Fin 1024) (h : l.val = 1024 + q.val) : dz DY Z W n l = dgated DY Z W n q * Z (ix2 n ⟨2048 + q, by omega⟩) := by
  have e : (⟨l.val - 1024, by omega⟩ : Fin 1024) = q := Fin.ext (by dsimp only; omega)
  have e' : (⟨l.val + 1024, by omega⟩ : Fin 3072) = ⟨2048 + q, by omega⟩ := Fin.ext (by dsimp only; omega)
  rw [dz, dif_neg (by omega), dif_pos (by omega), e, e']

theorem dz2 (DY : FVec Ideal S4096x1024 .f32) (Z : FVec Ideal S4096x3072 .f32) (W : FVec Ideal S3x1024 .f32) (n : Fin 4096) (l : Fin 3072)
    (q : Fin 1024) (h : l.val = 2048 + q.val) : dz DY Z W n l = dgated DY Z W n q * Z (ix2 n ⟨1024 + q, by omega⟩) := by
  have e : (⟨l.val - 2048, by omega⟩ : Fin 1024) = q := Fin.ext (by dsimp only; omega)
  have e' : (⟨l.val - 1024, by omega⟩ : Fin 3072) = ⟨1024 + q, by omega⟩ := Fin.ext (by dsimp only; omega)
  rw [dz, dif_neg (by omega), dif_neg (by omega), e, e']

theorem at_ix {f : S256x1024.Idx → EReal} {x : S256x1024.Idx} {v : EReal} (h : f (ix2 (x 0) (x 1)) = v) : f x = v := by
  idx_vars x
  exact h

theorem piece0 (c : Dev nD) (t : Fin cfg0.N) (n : Fin 4096) (l : Fin 3072) (r : Fin 256) (q : Fin 1024) (e : n.val = 256 * t.val + r.val)
    (el : l.val = q.val) :
    k0_pay16 (k0_pay11 (grid0.coords t) (iblk m c 2 t) (View.ld (iblk m c 3 t) (Rect.unit ![8, 0] ![8, 3072] inb_S16x3072_S8x3072_8_0)))
        (k0_pay12 (grid0.coords t) (iblk m c 2 t) (View.ld (iblk m c 3 t) (Rect.unit ![8, 0] ![8, 3072] inb_S16x3072_S8x3072_8_0)) (iblk m c 5 t))
        (k0_pay13 (iblk m c 5 t)) (iblk m c 0 t) (ix2 r q) = dz (X0 m c) (X1 m c) (X2 m c) n l := by
  rw [out0, dz0 (X0 m c) (X1 m c) (X2 m c) n l q el]
  have e' : (⟨256 * t.val + r.val, e ▸ n.isLt⟩ : Fin 4096) = n := Fin.ext e.symm
  rw [e', e]

theorem piece1 (c : Dev nD) (t : Fin cfg0.N) (n : Fin 4096) (l : Fin 3072) (r : Fin 256) (q : Fin 1024) (e : n.val = 256 * t.val + r.val)
    (el : l.val = 1024 + q.val) :
    k0_pay1 (k0_pay7 (iblk m c 2 t))
        (k0_pay15 (BitVec.ofNat 32 ↑(grid0.coords t 0)) (k0_pay5 (iblk m c 2 t)) (iblk m c 5 t) (iblk m c 0 t)
          (View.ld (iblk m c 1 t) (Rect.unit ![0, 0] ![8, 1024] inb_S16x1024_S8x1024_0_0))
          (View.ld (iblk m c 4 t) (Rect.unit ![0, 0] ![8, 1024] inb_S16x3072_S8x1024_0_0))) (ix2 r q)
      = dz (X0 m c) (X1 m c) (X2 m c) n l := by
  rw [out1, dz1 (X0 m c) (X1 m c) (X2 m c) n l q el]
  have e' : (⟨256 * t.val + r.val, e ▸ n.isLt⟩ : Fin 4096) = n := Fin.ext e.symm
  rw [e', e]

theorem piece2 (c : Dev nD) (t : Fin cfg0.N) (n : Fin 4096) (l : Fin 3072) (r : Fin 256) (q : Fin 1024) (e : n.val = 256 * t.val + r.val)
    (el : l.val = 2048 + q.val) :
    k0_pay2 (k0_pay6 (iblk m c 2 t))
        (k0_pay15 (BitVec.ofNat 32 ↑(grid0.coords t 0)) (k0_pay5 (iblk m c 2 t)) (iblk m c 5 t) (iblk m c 0 t)
          (View.ld (iblk m c 1 t) (Rect.unit ![0, 0] ![8, 1024] inb_S16x1024_S8x1024_0_0))
          (View.ld (iblk m c 4 t) (Rect.unit ![0, 0] ![8, 1024] inb_S16x3072_S8x1024_0_0))) (ix2 r q)
      = dz (X0 m c) (X1 m c) (X2 m c) n l := by
  rw [out2, dz2 (X0 m c) (X1 m c) (X2 m c) n l q el]
  have e' : (⟨256 * t.val + r.val, e ▸ n.isLt⟩ : Fin 4096) = n := Fin.ext e.symm
  rw [e', e]

theorem point6 (c : Dev nD) (t : Fin cfg0.N) (y : S256x3072.Idx) (n : Fin 4096) (e : n.val = 256 * t.val + (y 0).val) :
    (outsAt0 m c t.val t.isLt).1 y = dz (X0 m c) (X1 m c) (X2 m c) n (y 1) := by
  by_cases hA : t.val % 16 = 0
  · rw [outsAt0_A m c t hA]; frame_out
    clear hA
    canon_tiles x hx
    · exact at_ix (piece2 m c t n _ (x 0) (x 1) (by omega) (by omega))
    · exact at_ix (piece1 m c t n _ (x 0) (x 1) (by omega) (by omega))
    · exact at_ix (piece0 m c t n _ (x 0) (x 1) (by omega) (by omega))
  · rw [outsAt0_B m c t hA]; frame_out
    clear hA
    canon_tiles x hx
    · exact at_ix (piece2 m c t n _ (x 0) (x 1) (by omega) (by omega))
    · exact at_ix (piece1 m c t n _ (x 0) (x 1) (by omega) (by omega))
    · exact at_ix (piece0 m c t n _ (x 0) (x 1) (by omega) (by omega))

theorem final6 (c : Dev nD) : (dats m 0 c).arrAt 6 cfg0.N = DZ (X0 m c) (X1 m c) (X2 m c) := by
  refine (dats m 0 c).arrAt_eq_of_covers 6 _ (by decide +kernel) fun t hf y => ?_
  obtain ⟨-, -, -, -, -, -, i6, -, -, ht⟩ := idx t
  blk_simp
  rw [after0_6]
  have hy : (y 0).val < 256 := (y 0).isLt
  refine (show _ = DZ (X0 m c) (X1 m c) (X2 m c) (ix2 (⟨256 * t.val + (y 0).val, by omega⟩ : Fin 4096) (y 1)) from
    point6 m c t y ⟨256 * t.val + (y 0).val, by omega⟩ rfl).trans ?_
  blk_ext [i6]

theorem final7 (c : Dev nD) : (dats m 0 c).arrAt 7 cfg0.N = DW (X0 m c) (X1 m c) := by
  refine (dats m 0 c).arrAt_eq_of_after_last 7 t0_15 (by decide +kernel) _ fun j => ?_
  rw [after0_7]
  refine (Pipeline.eq_sum_fin_of_reset_step_apply_last (fun n h => (outsAt0 m c n h).2) 16 (fun _ => 0)
    (fun t y => ∑ r : Fin 256, dconv (X0 m c) (X1 m c) (256 * t.val + r) (y 1) * gated (X1 m c) (256 * t.val + r + (y 0).val) (y 1))
    (fun t h j => by
      rw [outsAt0_A m c t h]; frame_out
      idx_vars j
      refine (acc_at m c t _ _ _).trans ?_
      pointwise [k0_pay4])
    (fun t h j => by
      rw [outsAt0_B m c t h]; frame_out
      idx_vars j
      exact acc_at m c t _ _ _) (le_of_eq N_0) t0_15 rfl j).trans ?_
  rw [zero_add]
  change _ = DW (X0 m c) (X1 m c) j
  rw [DW]
  refine Fin.sum_mul_add_congr fun s k hl => ?_
  rw [show 256 * s.val + k.val = s.val * 256 + k.val by omega]

end Cert.ScConv

end
-- ==== Proof.ScRef.lean ====
module

public import proofs.«01_k».proof.Proof.ScOut
public import proofs.«01_k».proof.Proof.Gen.ReferenceIdeal.Run
public import Idealize.ShloMosaic.Lib.Tactic.CleanTypes

@[expose] public section

set_option maxRecDepth 16384

noncomputable section

open Idealize.ShloMosaic Idealize.ShloMosaic.TcCoe Idealize.SL.Sem

namespace Cert.ScConv

open Cert.ReferenceIdeal Cert.ReferenceIdeal.Gen

variable (m : (ℓ : Loc nD τ sig) → Buf (Elt Ideal) ℓ) (ρ : Dev nD → PrngReg)

abbrev Y0 (c : Dev nD) : FVec Ideal S4096x1024 .f32 := m ((c : Thread nD τ).loc main_arg0)
abbrev Y1 (c : Dev nD) : FVec Ideal S4096x3072 .f32 := m ((c : Thread nD τ).loc main_arg1)
abbrev Y2 (c : Dev nD) : FVec Ideal S3x1024 .f32 := m ((c : Thread nD τ).loc main_arg2)

theorem swap3 (a b c : EReal) : a + b + c = c + b + a := by
  rw [add_comm (a + b) c, add_comm a b, add_assoc]

/-- The gated input behind two zero rows, as the reference's concatenation reads it. -/
theorem gated_if {Z : FVec Ideal S4096x3072 .f32} (p : ℕ) (q : Fin 1024) (hp : ¬p < 2 → p - 2 < 4096) {p' : ℕ} (e : p' = p) :
    (if h : p < 2 then (0 : EReal) else Z (ix2 (⟨p - 2, hp h⟩ : Fin 4096) (⟨1024 + q.val, by omega⟩ : Fin 3072)) * Z (ix2 (⟨p - 2, hp h⟩ : Fin 4096) (⟨2048 + q.val, by omega⟩ : Fin 3072)))
      = gated Z p' q := by
  subst e
  split
  · rw [gated_zero q (by omega)]
  · rw [gated_of q (hp (by omega)) (by omega)]

/-- A padded row of a convolution weight times the gradient, as the reference reads it. -/
theorem dconv_if {DY : FVec Ideal S4096x1024 .f32} {Z : FVec Ideal S4096x3072 .f32} (w : EReal) {P : Prop} [Decidable P] (p : ℕ) (q : Fin 1024)
    (hp : P → p < 4096) (hq : ¬P → 4096 ≤ p) {p' : ℕ} (e : p' = p) :
    (if h : P then w * (Z (ix2 (⟨p, hp h⟩ : Fin 4096) (⟨q.val, by omega⟩ : Fin 3072)) * DY (ix2 (⟨p, hp h⟩ : Fin 4096) q)) else 0)
      = w * dconv DY Z p' q := by
  subst e
  split
  case isTrue h => rw [dconv_of q (hp h) rfl, mul_comm (DY _)]
  case isFalse h => rw [dconv_zero q (hq h), mul_zero]

theorem conv_ref {Z : FVec Ideal S4096x3072 .f32} {W : FVec Ideal S3x1024 .f32} (n : Fin 4096) (q : Fin 1024) :
    W (ix2 0 q) * (if h : n.val < 2 then (0 : EReal) else Z (ix2 (⟨n.val - 2, by omega⟩ : Fin 4096) (⟨1024 + q.val, by omega⟩ : Fin 3072)) * Z (ix2 (⟨n.val - 2, by omega⟩ : Fin 4096) (⟨2048 + q.val, by omega⟩ : Fin 3072)))
      + W (ix2 1 q) * (if h : 1 + n.val < 2 then (0 : EReal) else Z (ix2 (⟨1 + n.val - 2, by omega⟩ : Fin 4096) (⟨1024 + q.val, by omega⟩ : Fin 3072)) * Z (ix2 (⟨1 + n.val - 2, by omega⟩ : Fin 4096) (⟨2048 + q.val, by omega⟩ : Fin 3072)))
      + W (ix2 2 q) * (Z (ix2 n (⟨1024 + q.val, by omega⟩ : Fin 3072)) * Z (ix2 n (⟨2048 + q.val, by omega⟩ : Fin 3072)))
      = conv Z W n q := by
  rw [conv, gated_if n.val q (by omega) rfl, gated_if (1 + n.val) q (by omega) (add_comm n.val 1), gated_of q n.isLt rfl, swap3]

theorem dgated_ref {DY : FVec Ideal S4096x1024 .f32} {Z : FVec Ideal S4096x3072 .f32} {W : FVec Ideal S3x1024 .f32} (n : Fin 4096) (q : Fin 1024) :
    W (ix2 2 q) * (Z (ix2 n (⟨q.val, by omega⟩ : Fin 3072)) * DY (ix2 n q))
      + (if h : (1 ≤ 2 + n.val ∧ 2 + n.val - 1 < 4096) ∧ q.val < 1024 then W (ix2 1 q) * (Z (ix2 (⟨2 + n.val - 1, h.1.2⟩ : Fin 4096) (⟨q.val, by omega⟩ : Fin 3072)) * DY (ix2 (⟨2 + n.val - 1, h.1.2⟩ : Fin 4096) q)) else (0 : EReal))
      + (if h : 2 + n.val < 4096 ∧ q.val < 1024 then W (ix2 0 q) * (Z (ix2 (⟨2 + n.val, h.1⟩ : Fin 4096) (⟨q.val, by omega⟩ : Fin 3072)) * DY (ix2 (⟨2 + n.val, h.1⟩ : Fin 4096) q)) else (0 : EReal))
      = dgated DY Z W n q := by
  have hq := q.isLt
  have e1 := dconv_if (DY := DY) (Z := Z) (W (ix2 1 q)) (P := (1 ≤ 2 + n.val ∧ 2 + n.val - 1 < 4096) ∧ q.val < 1024) (2 + n.val - 1) q (fun h => h.1.2) (by omega)
    (show n.val + 1 = 2 + n.val - 1 by omega)
  have e2 := dconv_if (DY := DY) (Z := Z) (W (ix2 0 q)) (P := 2 + n.val < 4096 ∧ q.val < 1024) (2 + n.val) q (fun h => h.1) (by omega)
    (show n.val + 2 = 2 + n.val by omega)
  rw [dgated, ← e1, ← e2, dconv_of q n.isLt rfl, mul_comm (DY _)]

theorem dgated_ref' {DY : FVec Ideal S4096x1024 .f32} {Z : FVec Ideal S4096x3072 .f32} {W : FVec Ideal S3x1024 .f32} (n : Fin 4096) (k : ℕ) (hk : k < 1024) :
    W (ix2 2 ⟨k, hk⟩) * (Z (ix2 n (⟨k, by omega⟩ : Fin 3072)) * DY (ix2 n ⟨k, hk⟩))
      + (if h : (1 ≤ 2 + n.val ∧ 2 + n.val - 1 < 4096) ∧ k < 1024 then W (ix2 1 ⟨k, hk⟩) * (Z (ix2 (⟨2 + n.val - 1, h.1.2⟩ : Fin 4096) (⟨k, by omega⟩ : Fin 3072)) * DY (ix2 (⟨2 + n.val - 1, h.1.2⟩ : Fin 4096) ⟨k, hk⟩)) else (0 : EReal))
      + (if h : 2 + n.val < 4096 ∧ k < 1024 then W (ix2 0 ⟨k, hk⟩) * (Z (ix2 (⟨2 + n.val, h.1⟩ : Fin 4096) (⟨k, by omega⟩ : Fin 3072)) * DY (ix2 (⟨2 + n.val, h.1⟩ : Fin 4096) ⟨k, hk⟩)) else (0 : EReal))
      = dgated DY Z W n ⟨k, hk⟩ := dgated_ref n ⟨k, hk⟩

theorem dgated_ref'' {DY : FVec Ideal S4096x1024 .f32} {Z : FVec Ideal S4096x3072 .f32} {W : FVec Ideal S3x1024 .f32} (n : Fin 4096) (k : ℕ) (hk : k < 1024) :
    (if h : k < 1024 then W (ix2 2 ⟨k, hk⟩) * (Z (ix2 n (⟨k, by omega⟩ : Fin 3072)) * DY (ix2 n ⟨k, hk⟩)) else (0 : EReal))
      + (if h : (1 ≤ 2 + n.val ∧ 2 + n.val - 1 < 4096) ∧ k < 1024 then W (ix2 1 ⟨k, hk⟩) * (Z (ix2 (⟨2 + n.val - 1, h.1.2⟩ : Fin 4096) (⟨k, by omega⟩ : Fin 3072)) * DY (ix2 (⟨2 + n.val - 1, h.1.2⟩ : Fin 4096) ⟨k, hk⟩)) else (0 : EReal))
      + (if h : 2 + n.val < 4096 ∧ k < 1024 then W (ix2 0 ⟨k, hk⟩) * (Z (ix2 (⟨2 + n.val, h.1⟩ : Fin 4096) (⟨k, by omega⟩ : Fin 3072)) * DY (ix2 (⟨2 + n.val, h.1⟩ : Fin 4096) ⟨k, hk⟩)) else (0 : EReal))
      = dgated DY Z W n ⟨k, hk⟩ := by
  rw [dif_pos hk]
  exact dgated_ref n ⟨k, hk⟩

theorem ref_dz (c : Dev nD) (n : Fin 4096) (l : Fin 3072) : (Value.res_main_v68 m c : FVec Ideal S4096x3072 .bf16) (ix2 n l) = dz (Y0 m c) (Y1 m c) (Y2 m c) n l := by
  have hl := l.isLt
  unfold Value.res_main_v68
  clean_types
  pointwise
  split
  case isTrue h =>
    refine Eq.trans ?_ (dz0 (Y0 m c) (Y1 m c) (Y2 m c) n l ⟨l.val, h⟩ rfl).symm
    exact congrArg (Y0 m c (ix2 n ⟨l.val, h⟩) * ·) (conv_ref (Z := Y1 m c) (W := Y2 m c) n ⟨l.val, h⟩)
  case isFalse h =>
    split
    case isTrue h' =>
      refine Eq.trans ?_ (dz1 (Y0 m c) (Y1 m c) (Y2 m c) n l ⟨l.val - 1024, h'⟩ (by dsimp only; omega)).symm
      exact congrArg (· * Y1 m c (ix2 n ⟨2048 + (l.val - 1024), by omega⟩)) (dgated_ref' (DY := Y0 m c) (Z := Y1 m c) (W := Y2 m c) n (l.val - 1024) h')
    case isFalse h' =>
      have hk : l.val - 1024 - 1024 < 1024 := by omega
      refine Eq.trans ?_ (dz2 (Y0 m c) (Y1 m c) (Y2 m c) n l ⟨l.val - 1024 - 1024, hk⟩ (by dsimp only; omega)).symm
      exact (mul_comm (Y1 m c (ix2 n ⟨1024 + (l.val - 1024 - 1024), by omega⟩)) _).trans (congrArg (· * Y1 m c (ix2 n ⟨1024 + (l.val - 1024 - 1024), by omega⟩))
        (dgated_ref'' (DY := Y0 m c) (Z := Y1 m c) (W := Y2 m c) n (l.val - 1024 - 1024) hk))

/-- The weights' gradient of one offset, as the reference's sums read it. -/
theorem dw2 {DY : FVec Ideal S4096x1024 .f32} {Z : FVec Ideal S4096x3072 .f32} (q : Fin 1024) :
    ∑ _x : Fin 1, ∑ x : Fin 4096, Z (ix2 x (⟨q.val, by omega⟩ : Fin 3072)) * DY (ix2 x q)
        * (Z (ix2 x (⟨1024 + q.val, by omega⟩ : Fin 3072)) * Z (ix2 x (⟨2048 + q.val, by omega⟩ : Fin 3072)))
      = ∑ n : Fin 4096, dconv DY Z n q * gated Z (n.val + 2) q := by
  rw [Fin.sum_univ_one]
  refine Finset.sum_congr rfl fun x _ => ?_
  rw [dconv_of q x.isLt rfl, gated_of q x.isLt rfl, mul_comm (DY _)]

theorem dw1 {DY : FVec Ideal S4096x1024 .f32} {Z : FVec Ideal S4096x3072 .f32} (q : Fin 1024) :
    ∑ _x : Fin 1, ∑ x : Fin 4096, Z (ix2 x (⟨q.val, by omega⟩ : Fin 3072)) * DY (ix2 x q)
        * (if h : 1 + x.val < 2 then (0 : EReal) else Z (ix2 (⟨1 + x.val - 2, by omega⟩ : Fin 4096) (⟨1024 + q.val, by omega⟩ : Fin 3072)) * Z (ix2 (⟨1 + x.val - 2, by omega⟩ : Fin 4096) (⟨2048 + q.val, by omega⟩ : Fin 3072)))
      = ∑ n : Fin 4096, dconv DY Z n q * gated Z (n.val + 1) q := by
  rw [Fin.sum_univ_one]
  refine Finset.sum_congr rfl fun x _ => ?_
  rw [gated_if (1 + x.val) q (by omega) (add_comm x.val 1), dconv_of q x.isLt rfl, mul_comm (DY _)]

theorem dw0 {DY : FVec Ideal S4096x1024 .f32} {Z : FVec Ideal S4096x3072 .f32} (q : Fin 1024) :
    ∑ _x : Fin 1, (∑ x : Fin 2, Z (ix2 (⟨x.val, by omega⟩ : Fin 4096) (⟨q.val, by omega⟩ : Fin 3072)) * DY (ix2 (⟨x.val, by omega⟩ : Fin 4096) q) * (0 : EReal)
        + ∑ x : Fin 4094, Z (ix2 (⟨2 + x.val, by omega⟩ : Fin 4096) (⟨q.val, by omega⟩ : Fin 3072)) * DY (ix2 (⟨2 + x.val, by omega⟩ : Fin 4096) q)
          * (Z (ix2 (⟨x.val, by omega⟩ : Fin 4096) (⟨1024 + q.val, by omega⟩ : Fin 3072)) * Z (ix2 (⟨x.val, by omega⟩ : Fin 4096) (⟨2048 + q.val, by omega⟩ : Fin 3072))))
      = ∑ n : Fin 4096, dconv DY Z n q * gated Z (n.val + 0) q := by
  rw [Fin.sum_univ_one]
  refine Eq.trans ?_ (Fin.sum_univ_add (a := 2) (b := 4094) (fun n : Fin (2 + 4094) => dconv DY Z n.val q * gated Z (n.val + 0) q)).symm
  refine congrArg₂ (· + ·) (Finset.sum_congr rfl fun x _ => ?_) (Finset.sum_congr rfl fun x _ => ?_)
  · rw [mul_zero, gated_zero q (by show x.val + 0 < 2; omega), mul_zero]
  · have hx := x.isLt
    show _ = dconv DY Z (2 + x.val) q * gated Z (2 + x.val + 0) q
    rw [dconv_of (n := 2 + x.val) q (by omega) rfl, gated_of (n := x.val) q (by omega) (by show 2 + x.val + 0 = x.val + 2; omega), mul_comm (DY _)]

theorem run_ref : θ_run defs (onTc (τ := τ) (main (F := Ideal))) ⟨m, fun _ => 0, ρ⟩ fun r => ∀ c : Dev nD,
      r.2.mem ((c.tc : Thread nD τ).loc main_v68) = DZ (Y0 m c) (Y1 m c) (Y2 m c)
      ∧ r.2.mem ((c.tc : Thread nD τ).loc main_v62) = DW (Y0 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by idx_vars i; exact ref_dz m c _ _),
    (h c).2.1.trans (funext fun i => by
      clear h
      idx_vars i
      clean_types
      pointwise
      show _ = ∑ n : Fin 4096, dconv (Y0 m c) (Y1 m c) n i1 * gated (Y1 m c) (n.val + i0.val) i1
      have h3 := i0.isLt
      rcases (by omega : i0.val = 0 ∨ i0.val = 1 ∨ i0.val = 2) with e | e | e
      · rw [dif_neg (by omega), dif_neg (by omega), dif_pos (by omega), zero_add, zero_add, e]
        exact dw0 i1
      · rw [dif_neg (by omega), dif_pos (by omega), dif_neg (by omega), zero_add, add_zero, e]
        exact dw1 i1
      · rw [dif_pos (by omega), dif_neg (by omega), dif_neg (by omega), add_zero, add_zero, e]
        exact dw2 i1), (h c).2.2⟩) (Value.run m ρ)

end Cert.ScConv

end
-- ==== Proof.ScFwd.lean ====
/- The forward call of the gated short convolution: kernel and reference leave the same array. -/
module

public import proofs.«01_k».proof.Proof.Gen.Kernel32Ideal.Value
public import proofs.«01_k».proof.Proof.Gen.Reference32Ideal.Run
public import proofs.«01_k».proof.Proof.ScRef
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ScFwd

open Cert.Kernel32Ideal Cert.Kernel32Ideal.Gen
open Cert.ScConv (gated conv gated_of gated_zero lt_of_row of_point sel conv_ref)

variable (m : (ℓ : Loc nD τ sig) → Buf (Elt Ideal) ℓ)

theorem idx : ∀ t : Fin cfg0.N, win0_0.index t = ![t.val, 0] ∧ win0_1.index t = ![t.val * 16 - 1, 0] ∧ win0_2.index t = ![0, 0]
    ∧ win0_3.index t = ![t.val, 0] ∧ (grid0.coords t 0).val = t.val ∧ t.val < 16 :=
  (by decide +kernel : ∀ t : Fin grid0.N, _)

abbrev X0 (c : Dev nD) : FVec Ideal S4096x3072 .f32 := m ((c : Thread nD τ).loc main_arg0)
abbrev X1 (c : Dev nD) : FVec Ideal S3x1024 .f32 := m ((c : Thread nD τ).loc main_arg1)

/-- The gated convolution. -/
def G (Z : FVec Ideal S4096x3072 .f32) (W : FVec Ideal S3x1024 .f32) : FVec Ideal S4096x1024 .bf16 := fun i =>
  Z (ix2 (i 0) (⟨(i 1).val, by have := (i 1).isLt; change (i 1).val < 3072; change (i 1).val < 1024 at this; omega⟩ : Fin 3072)) * conv Z W (i 0).val (i 1)

theorem blk0 (c : Dev nD) (t : Fin cfg0.N) (a : Fin 256) (b : Fin 3072) (n : ℕ) (hn : n < 4096) (e : n = 256 * t.val + a) :
    (iblk m c 0 t : FVec Ideal S256x3072 .f32) (ix2 a b) = X0 m c (ix2 ⟨n, hn⟩ b) := by
  obtain ⟨i, -, -, -, -, ht⟩ := idx t
  blk_ext [iblk, V, i]

theorem blk1 (c : Dev nD) (t : Fin cfg0.N) (a : Fin 16) (b : Fin 3072) (n : ℕ) (hn : n < 4096) (e : n + 16 = 256 * t.val + a) :
    (iblk m c 1 t : FVec Ideal S16x3072 .f32) (ix2 a b) = X0 m c (ix2 ⟨n, hn⟩ b) := by
  obtain ⟨-, i, -, -, -, ht⟩ := idx t
  blk_ext [iblk, V, i]

theorem blk2 (c : Dev nD) (t : Fin cfg0.N) (a : Fin 3) (b : Fin 1024) :
    (iblk m c 2 t : FVec Ideal S3x1024 .f32) (ix2 a b) = X1 m c (ix2 a b) := by
  obtain ⟨-, -, i, -, -, ht⟩ := idx t
  blk_ext [iblk, V, i]

/-- The gated input of this block's rows moved down by one, the rows in front from the block before. -/
theorem down1 {Z : FVec Ideal S4096x3072 .f32} {A : FVec Ideal S256x3072 .f32} {B : FVec Ideal S16x3072 .f32} (t : Fin 16)
    (hA : ∀ (a : Fin 256) (b : Fin 3072) (n : ℕ) (hn : n < 4096), n = 256 * t.val + a → A (ix2 a b) = Z (ix2 ⟨n, hn⟩ b))
    (hB : ∀ (a : Fin 16) (b : Fin 3072) (n : ℕ) (hn : n < 4096), n + 16 = 256 * t.val + a → B (ix2 a b) = Z (ix2 ⟨n, hn⟩ b))
    (r : Fin 256) (q : Fin 1024) :
    (if h : r.val < 8 then
        Scalar.select (IntOp.cmpi CmpIPredicate.slt (BitVec.ofNat 32 r.val) 1#32)
          (Scalar.select (Scalar.cmpi CmpIPredicate.sgt (BitVec.ofNat 32 t.val) 0#32)
            (B (ix2 ⟨8 + (r.val + 8 - 1) % 8, by omega⟩ ⟨1024 + q.val, by omega⟩) * B (ix2 ⟨8 + (r.val + 8 - 1) % 8, by omega⟩ ⟨2048 + q.val, by omega⟩)) 0)
          (A (ix2 ⟨(r.val + 256 - 1) % 256, by omega⟩ ⟨1024 + q.val, by omega⟩) * A (ix2 ⟨(r.val + 256 - 1) % 256, by omega⟩ ⟨2048 + q.val, by omega⟩))
      else A (ix2 ⟨(8 + (r.val - 8) + 256 - 1) % 256, by omega⟩ ⟨1024 + q.val, by omega⟩) * A (ix2 ⟨(8 + (r.val - 8) + 256 - 1) % 256, by omega⟩ ⟨2048 + q.val, by omega⟩) : EReal) = gated Z (256 * t.val + r + 1) q := by
  have ht := t.isLt
  rw [(lt_of_row r).1, (of_point t).1]
  simp only [sel]
  split
  · split
    · split
      · rw [gated_of q (n := 256 * t.val + r - 1) (by omega) (by omega)]
        exact congrArg₂ (· * ·) (hB ⟨8 + (r.val + 8 - 1) % 8, by omega⟩ _ (256 * t.val + r - 1) (by omega) (by dsimp only; omega)) (hB ⟨8 + (r.val + 8 - 1) % 8, by omega⟩ _ (256 * t.val + r - 1) (by omega) (by dsimp only; omega))
      · rw [gated_zero q (by omega)]
    · rw [gated_of q (n := 256 * t.val + r - 1) (by omega) (by omega)]
      exact congrArg₂ (· * ·) (hA ⟨(r.val + 256 - 1) % 256, by omega⟩ _ (256 * t.val + r - 1) (by omega) (by dsimp only; omega)) (hA ⟨(r.val + 256 - 1) % 256, by omega⟩ _ (256 * t.val + r - 1) (by omega) (by dsimp only; omega))
  · rw [gated_of q (n := 256 * t.val + r - 1) (by omega) (by omega)]
    exact congrArg₂ (· * ·) (hA ⟨(8 + (r.val - 8) + 256 - 1) % 256, by omega⟩ _ (256 * t.val + r - 1) (by omega) (by dsimp only; omega)) (hA ⟨(8 + (r.val - 8) + 256 - 1) % 256, by omega⟩ _ (256 * t.val + r - 1) (by omega) (by dsimp only; omega))

/-- The gated input of this block's rows moved down by two, the rows in front from the block before. -/
theorem down2 {Z : FVec Ideal S4096x3072 .f32} {A : FVec Ideal S256x3072 .f32} {B : FVec Ideal S16x3072 .f32} (t : Fin 16)
    (hA : ∀ (a : Fin 256) (b : Fin 3072) (n : ℕ) (hn : n < 4096), n = 256 * t.val + a → A (ix2 a b) = Z (ix2 ⟨n, hn⟩ b))
    (hB : ∀ (a : Fin 16) (b : Fin 3072) (n : ℕ) (hn : n < 4096), n + 16 = 256 * t.val + a → B (ix2 a b) = Z (ix2 ⟨n, hn⟩ b))
    (r : Fin 256) (q : Fin 1024) :
    (if h : r.val < 8 then
        Scalar.select (IntOp.cmpi CmpIPredicate.slt (BitVec.ofNat 32 r.val) 2#32)
          (Scalar.select (Scalar.cmpi CmpIPredicate.sgt (BitVec.ofNat 32 t.val) 0#32)
            (B (ix2 ⟨8 + (r.val + 8 - 2) % 8, by omega⟩ ⟨1024 + q.val, by omega⟩) * B (ix2 ⟨8 + (r.val + 8 - 2) % 8, by omega⟩ ⟨2048 + q.val, by omega⟩)) 0)
          (A (ix2 ⟨(r.val + 256 - 2) % 256, by omega⟩ ⟨1024 + q.val, by omega⟩) * A (ix2 ⟨(r.val + 256 - 2) % 256, by omega⟩ ⟨2048 + q.val, by omega⟩))
      else A (ix2 ⟨(8 + (r.val - 8) + 256 - 2) % 256, by omega⟩ ⟨1024 + q.val, by omega⟩) * A (ix2 ⟨(8 + (r.val - 8) + 256 - 2) % 256, by omega⟩ ⟨2048 + q.val, by omega⟩) : EReal) = gated Z (256 * t.val + r) q := by
  have ht := t.isLt
  rw [(lt_of_row r).2, (of_point t).1]
  simp only [sel]
  split
  · split
    · split
      · rw [gated_of q (n := 256 * t.val + r - 2) (by omega) (by omega)]
        exact congrArg₂ (· * ·) (hB ⟨8 + (r.val + 8 - 2) % 8, by omega⟩ _ (256 * t.val + r - 2) (by omega) (by dsimp only; omega)) (hB ⟨8 + (r.val + 8 - 2) % 8, by omega⟩ _ (256 * t.val + r - 2) (by omega) (by dsimp only; omega))
      · rw [gated_zero q (by omega)]
    · rw [gated_of q (n := 256 * t.val + r - 2) (by omega) (by omega)]
      exact congrArg₂ (· * ·) (hA ⟨(r.val + 256 - 2) % 256, by omega⟩ _ (256 * t.val + r - 2) (by omega) (by dsimp only; omega)) (hA ⟨(r.val + 256 - 2) % 256, by omega⟩ _ (256 * t.val + r - 2) (by omega) (by dsimp only; omega))
  · rw [gated_of q (n := 256 * t.val + r - 2) (by omega) (by omega)]
    exact congrArg₂ (· * ·) (hA ⟨(8 + (r.val - 8) + 256 - 2) % 256, by omega⟩ _ (256 * t.val + r - 2) (by omega) (by dsimp only; omega)) (hA ⟨(8 + (r.val - 8) + 256 - 2) % 256, by omega⟩ _ (256 * t.val + r - 2) (by omega) (by dsimp only; omega))

theorem pay_of {Z : FVec Ideal S4096x3072 .f32} {W : FVec Ideal S3x1024 .f32} {A : FVec Ideal S256x3072 .f32} {B : FVec Ideal S16x3072 .f32}
    {W' : FVec Ideal S3x1024 .f32} (i : grid0.Coords) (t : Fin 16) (hi : (i 0).val = t.val)
    (hA : ∀ (a : Fin 256) (b : Fin 3072) (n : ℕ) (hn : n < 4096), n = 256 * t.val + a → A (ix2 a b) = Z (ix2 ⟨n, hn⟩ b))
    (hB : ∀ (a : Fin 16) (b : Fin 3072) (n : ℕ) (hn : n < 4096), n + 16 = 256 * t.val + a → B (ix2 a b) = Z (ix2 ⟨n, hn⟩ b))
    (hW : ∀ (a : Fin 3) (b : Fin 1024), W' (ix2 a b) = W (ix2 a b)) (r : Fin 256) (q : Fin 1024) :
    k0_pay1 (F := Ideal) i A (View.ld (Val := Elt Ideal) (e' := .f32) B (Rect.unit (s := S16x3072) ![8, 0] ![8, 3072] inb_S16x3072_S8x3072_8_0)) W' (ix2 r q)
      = Z (ix2 (⟨256 * t.val + r, by omega⟩ : Fin 4096) (⟨q.val, by omega⟩ : Fin 3072)) * conv Z W (256 * t.val + r) q := by
  have f := fun b => hA r b (256 * t.val + r) (by omega) rfl
  have d0 := gated_of (Z := Z) (p := 256 * t.val + r + 2) (n := 256 * t.val + r) q (by omega) rfl
  rw [conv, d0, ← down1 t hA hB r q, ← down2 t hA hB r q, ← f, ← f, ← f, ← hW, ← hW, ← hW]
  pointwise [k0_pay1, hi]

theorem pay (c : Dev nD) (t : Fin cfg0.N) (r : Fin 256) (q : Fin 1024) :
    k0_pay1 (grid0.coords t) (iblk m c 0 t) (View.ld (iblk m c 1 t) (Rect.unit ![8, 0] ![8, 3072] inb_S16x3072_S8x3072_8_0)) (iblk m c 2 t) (ix2 r q)
      = X0 m c (ix2 (⟨256 * t.val + r, by have := (idx t).2.2.2.2.2; omega⟩ : Fin 4096) (⟨q.val, by omega⟩ : Fin 3072)) * conv (X0 m c) (X1 m c) (256 * t.val + r) q :=
  pay_of (grid0.coords t) ⟨t.val, (idx t).2.2.2.2.2⟩ (idx t).2.2.2.2.1 (blk0 m c t) (blk1 m c t) (blk2 m c t) r q

theorem final (c : Dev nD) : (dats m 0 c).arrAt 3 cfg0.N = G (X0 m c) (X1 m c) := by
  refine (dats m 0 c).arrAt_eq_of_covers 3 _ (by decide +kernel) fun t hf y => ?_
  obtain ⟨-, -, -, i, -, ht⟩ := idx t
  blk_simp
  rw [after0_3]
  idx_vars y
  rw [out0_3]
  frame_out
  refine Eq.trans ?_ ((pay m c t y0 y1).trans ?_)
  · congr 1 <;> funext j <;> idx_vars j <;> blk_ext
  · have e : ((View.whole main_v0).slice (win0_3.rect t)).emb (ix2 y0 y1) = (ix2 (⟨256 * t.val + y0.val, by omega⟩ : Fin 4096) y1 : S4096x1024.Idx) := by
      blk_ext [i]
    rw [e]
    rfl

end Cert.ScFwd

namespace Cert.ScFwd

open Cert.Reference32Ideal Cert.Reference32Ideal.Gen
open Cert.ScConv (gated conv conv_ref)

variable (m : (ℓ : Loc nD τ sig) → Buf (Elt Ideal) ℓ) (ρ : Dev nD → PrngReg)

abbrev Y0 (c : Dev nD) : FVec Ideal S4096x3072 .f32 := m ((c.tc : Thread nD τ).loc main_arg0)
abbrev Y1 (c : Dev nD) : FVec Ideal S3x1024 .f32 := m ((c.tc : Thread nD τ).loc main_arg1)

theorem run_ref : θ_run defs (onTc (τ := τ) (main (F := Ideal))) ⟨m, fun _ => 0, ρ⟩ fun r => ∀ c : Dev nD,
      r.2.mem ((c.tc : Thread nD τ).loc main_v29) = G (Y0 m c) (Y1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => by
      clear h
      idx_vars i
      clean_types
      pointwise
      exact congrArg (Y0 m c (ix2 i0 ⟨i1.val, by omega⟩) * ·) (conv_ref (Z := Y0 m c) (W := Y1 m c) i0 i1)), (h c).2⟩) (Value.run m ρ)

theorem algebraic : Cert.algebraic_Kernel32Ideal_Reference32Ideal (hKernel32Ideal := Cert.Kernel32Ideal.Gen.facts)
    (hReference32Ideal := Cert.Reference32Ideal.Gen.facts) := by
  intro m g m' g' _ hag
  refine ⟨fun c => G (X0 m c) (X1 m c), ?_, ?_⟩
  · exact (θ_run _ _ _).mono (fun _ h c => ⟨(h c).1.trans (final m c), (h c).2⟩) (Cert.Kernel32Ideal.Value.run_blocks m g)
  · refine (θ_run _ _ _).mono (fun _ h c => ⟨(h c).1.trans ?_, (h c).2⟩) (run_ref m' g')
    have e := hag c
    rw [show Y0 m' c = X0 m c from e.1, show Y1 m' c = X1 m c from e.2]

/-- The reference ends with its arguments unchanged; it declares no counter. -/
theorem frame_r : Cert.quiescent_Reference32Ideal (hReference32Ideal := Cert.Reference32Ideal.Gen.facts) := fun m ρ _ =>
  (θ_run _ _ _).mono (fun r h => ⟨fun c => (h c).2, sem_eq_zero_of_no_sems (by decide) r.2⟩) (run_ref m ρ)

end Cert.ScFwd

end
-- ==== Proof.AttnGen.lean ====
/- Blocks of several row blocks: what a chain of stored tiles leaves, and the attention's gradient by tiles. -/
module

public import proofs.«01_k».proof.Proof.AttnPay

@[expose] public section

set_option maxRecDepth 16384

noncomputable section

open Idealize.ShloMosaic Idealize.ShloMosaic.TcCoe Idealize.SL.Sem

namespace Cert.AttnGen

open Cert.AttnBwd (Tile pc pp ds rows cols)

abbrev Sh (R C : ℕ) : Shape := ⟨2, ![R, C]⟩

abbrev Sq : Shape := ⟨2, ![128, 128]⟩

abbrev Blk (R C : ℕ) : Type := (Sh R C).Idx → EReal

abbrev Fam : Type := ℕ → ℕ → Tile

variable {R C : ℕ}

/-- The square tile of `X` whose first entry is at row `r` and column `o`. -/
def tile [NeZero R] [NeZero C] (X : Blk R C) (r o : ℕ) : Tile := fun j =>
  X (ix2 (⟨(r + (j 0).val) % R, Nat.mod_lt _ (NeZero.pos R)⟩ : Fin R) (⟨(o + (j 1).val) % C, Nat.mod_lt _ (NeZero.pos C)⟩ : Fin C))

/-- The numbers of row block `p` and head `g`, the same in every column. -/
def num [NeZero R] [NeZero C] (E : Blk R C) : Fam := fun p g j =>
  E (ix2 (⟨(128 * p + (j 0).val) % R, Nat.mod_lt _ (NeZero.pos R)⟩ : Fin R) (⟨g % C, Nat.mod_lt _ (NeZero.pos C)⟩ : Fin C))

/-- The tiles of an array. -/
def fam [NeZero R] [NeZero C] (X : Blk R C) : Fam := fun p g => tile X (128 * p) (128 * g)

/-- The place inside its own tile of an entry. -/
def loc (y : (Sh R C).Idx) : Sq.Idx :=
  ix2 (⟨(y 0).val % 128, Nat.mod_lt _ (by decide)⟩ : Fin 128) (⟨(y 1).val % 128, Nat.mod_lt _ (by decide)⟩ : Fin 128)

/-- An array given by its tiles. -/
def arr (F : Fam) : Blk R C := fun y => F ((y 0).val / 128) ((y 1).val / 128) (loc y)

theorem tile_rect [NeZero R] [NeZero C] (X : Blk R C) (r o : ℕ) (inb : ∀ a, (![r, o] : Fin 2 → ℕ) a + (Sq.size : Fin 2 → ℕ) a ≤ (Sh R C).size a) :
    (fun j => X ((Rect.unit (s := Sh R C) ![r, o] Sq.size inb).toLoadRect.idx j)) = tile X r o := by
  funext j
  have h0 : r + 128 ≤ R := inb 0
  have h1 : o + 128 ≤ C := inb 1
  have j0 : (j 0).val < 128 := (j 0).isLt
  have j1 : (j 1).val < 128 := (j 1).isLt
  unfold tile
  congr 1
  funext a
  apply Fin.ext
  fin_cases a
  · simp only [LoadRect.idx_apply]
    exact Eq.trans (by simp) (Nat.mod_eq_of_lt (show r + (j 0).val < R by omega)).symm
  · simp only [LoadRect.idx_apply]
    exact Eq.trans (by simp) (Nat.mod_eq_of_lt (show o + (j 1).val < C by omega)).symm

/-- The stored tile's entry where the tile covers, what was there before elsewhere. -/
theorem canon_at (r o p c : ℕ) (hr : r = 128 * p) (ho : o = 128 * c)
    (inb : ∀ a, (![r, o] : Fin 2 → ℕ) a + (Sq.size : Fin 2 → ℕ) a ≤ (Sh R C).size a)
    (w : Tile) (L : List (View.Piece (Elt Ideal) (Sh R C) .f32)) (y : (Sh R C).Idx) :
    View.canon (⟨Rect.unit (s := Sh R C) ![r, o] Sq.size inb, w⟩ :: L) y
      = if (y 0).val / 128 = p ∧ (y 1).val / 128 = c then w (loc y) else View.canon L y := by
  split
  · rename_i h
    have e : (Rect.unit (s := Sh R C) ![r, o] Sq.size inb).emb (loc y) = y := by
      funext a
      apply Fin.ext
      fin_cases a
      · simp [loc]; omega
      · simp [loc]; omega
    conv_lhs => rw [← e]
    exact View.canon_cons_emb (Rect.unit (s := Sh R C) ![r, o] Sq.size inb) w L (loc y)
  · rename_i h
    refine View.canon_cons_of_not_mem _ L fun hm => h ?_
    have g := (Rect.mem_set_unit (s := Sh R C) (off := ![r, o]) (size := Sq.size) (inb := inb)).mp hm
    have g0 : r ≤ (y 0).val ∧ (y 0).val < r + 128 := g 0
    have g1 : o ≤ (y 1).val ∧ (y 1).val < o + 128 := g 1
    omega

theorem tile_loc [NeZero R] [NeZero C] (X : Blk R C) (r o p c : ℕ) (hr : r = 128 * p) (ho : o = 128 * c) (y : (Sh R C).Idx)
    (h : (y 0).val / 128 = p ∧ (y 1).val / 128 = c) : tile X r o (loc y) = X y := by
  have y0 : (y 0).val < R := (y 0).isLt
  have y1 : (y 1).val < C := (y 1).isLt
  unfold tile
  congr 1
  funext a
  apply Fin.ext
  fin_cases a
  · show (r + (y 0).val % 128) % R = (y 0).val
    rw [show r + (y 0).val % 128 = (y 0).val by omega, Nat.mod_eq_of_lt y0]
  · show (o + (y 1).val % 128) % C = (y 1).val
    rw [show o + (y 1).val % 128 = (y 1).val by omega, Nat.mod_eq_of_lt y1]

/-- A tile stored as what was there plus `A` adds `A` on the tile and nothing elsewhere. -/
theorem canon_add [NeZero R] [NeZero C] (r o p c : ℕ) (hr : r = 128 * p) (ho : o = 128 * c)
    (inb : ∀ a, (![r, o] : Fin 2 → ℕ) a + (Sq.size : Fin 2 → ℕ) a ≤ (Sh R C).size a)
    (w A : Tile) (L : List (View.Piece (Elt Ideal) (Sh R C) .f32))
    (hw : ∀ x, w x = tile (View.canon L) r o x + A x) (y : (Sh R C).Idx) :
    View.canon (⟨Rect.unit (s := Sh R C) ![r, o] Sq.size inb, w⟩ :: L) y
      = View.canon L y + if (y 0).val / 128 = p ∧ (y 1).val / 128 = c then A (loc y) else 0 := by
  rw [canon_at r o p c hr ho]
  split
  · rename_i h
    rw [hw, tile_loc _ r o p c hr ho y h]
  · rw [add_zero]

theorem split_eq {n p b g c : ℕ} (hp : p < n) (hb : b < n) (h : g * n + p = c * n + b) : p = b ∧ g = c := by
  have e1 : (g * n + p) % n = (c * n + b) % n := by rw [h]
  rw [Nat.mul_add_mod_of_lt hp, Nat.mul_add_mod_of_lt hb] at e1
  have e2 : g * n = c * n := by omega
  exact ⟨e1, Nat.eq_of_mul_eq_mul_right (by omega) e2⟩

/-- What is there after `s` steps, column by column and downwards in each. -/
def acc (own prev : Fam) (n s : ℕ) : Blk R C := fun y =>
  (if (y 1).val / 128 * n + (y 0).val / 128 < s then own ((y 0).val / 128) ((y 1).val / 128) (loc y) else 0)
    + if (y 0).val / 128 + 1 < n ∧ (y 1).val / 128 * n + (y 0).val / 128 + 1 < s then prev ((y 0).val / 128 + 1) ((y 1).val / 128) (loc y) else 0

/-- A tile's own share and what the next row block adds. -/
def total (own prev : Fam) (n : ℕ) : Fam := fun p g x => own p g x + if p + 1 < n then prev (p + 1) g x else 0

theorem acc_start (own prev : Fam) (n : ℕ) (y : (Sh R C).Idx) : acc own prev n 0 y = 0 := by
  rw [acc, if_neg (Nat.not_lt_zero _), if_neg fun h => Nat.not_lt_zero _ h.2, add_zero]

theorem acc_end (own prev : Fam) (n k s : ℕ) (hR : R = 128 * n) (hC : C = 128 * k) (hs : s = k * n) (y : (Sh R C).Idx) :
    acc own prev n s y = arr (total own prev n) y := by
  have y0 : (y 0).val < R := (y 0).isLt
  have y1 : (y 1).val < C := (y 1).isLt
  have hp : (y 0).val / 128 < n := by omega
  have hg : (y 1).val / 128 + 1 ≤ k := by omega
  have h := Nat.mul_le_mul_right n hg
  rw [Nat.add_mul] at h
  rw [acc, arr, total, if_pos (by omega)]
  by_cases h1 : (y 0).val / 128 + 1 < n
  · rw [if_pos ⟨h1, by omega⟩, if_pos h1]
  · rw [if_neg fun h => h1 h.1, if_neg h1]

theorem acc_first [NeZero R] [NeZero C] (own prev : Fam) (n s c : ℕ) (r o : ℕ) (hn : 0 < n) (hs : s = c * n) (hr : r = 0) (ho : o = 128 * c)
    (i1 i2 : ∀ a, (![r, o] : Fin 2 → ℕ) a + (Sq.size : Fin 2 → ℕ) a ≤ (Sh R C).size a)
    (w1 w2 : Tile) (L0 L1 L2 : List (View.Piece (Elt Ideal) (Sh R C) .f32)) (hR : R = 128 * n)
    (e2 : L2 = ⟨Rect.unit (s := Sh R C) ![r, o] Sq.size i2, w2⟩ :: L1) (e1 : L1 = ⟨Rect.unit (s := Sh R C) ![r, o] Sq.size i1, w1⟩ :: L0)
    (H : ∀ x, w1 x = tile (View.canon L0) r o x + 0 ∧ w2 x = tile (View.canon L1) r o x + own 0 c x)
    (I : ∀ y, View.canon L0 y = acc own prev n s y) : ∀ y, View.canon L2 y = acc own prev n (s + 1) y := by
  intro y
  have y0 : (y 0).val < R := (y 0).isLt
  have hp : (y 0).val / 128 < n := by omega
  subst e2
  rw [canon_add r o 0 c (by omega) ho i2 w2 (own 0 c) _ fun x => (H x).2]
  subst e1
  rw [canon_add r o 0 c (by omega) ho i1 w1 (fun _ => 0) _ (fun x => (H x).1), ite_self, add_zero, I, acc, acc]
  by_cases h : (y 0).val / 128 = 0 ∧ (y 1).val / 128 = c
  · rw [if_pos h, h.1, h.2, if_neg (by omega), if_neg (by omega), if_pos (by omega), if_neg (by omega), add_zero, add_zero, zero_add]
  · have n1 : (y 1).val / 128 * n + (y 0).val / 128 ≠ c * n + 0 := fun e => h (split_eq hp hn e)
    have n2 : (y 0).val / 128 + 1 < n → (y 1).val / 128 * n + ((y 0).val / 128 + 1) ≠ c * n + 0 := fun q e => by
      have := split_eq q hn e
      omega
    rw [if_neg h, add_zero]
    congr 1
    · exact if_congr (by omega) rfl rfl
    · exact if_congr (by omega) rfl rfl

theorem acc_next [NeZero R] [NeZero C] (own prev : Fam) (n s c b : ℕ) (r r' o : ℕ) (hn : b + 1 < n) (hs : s = c * n + (b + 1)) (hr : r = 128 * b)
    (hr' : r' = 128 * (b + 1)) (ho : o = 128 * c)
    (i1 : ∀ a, (![r, o] : Fin 2 → ℕ) a + (Sq.size : Fin 2 → ℕ) a ≤ (Sh R C).size a)
    (i2 : ∀ a, (![r', o] : Fin 2 → ℕ) a + (Sq.size : Fin 2 → ℕ) a ≤ (Sh R C).size a)
    (w1 w2 : Tile) (L0 L1 L2 : List (View.Piece (Elt Ideal) (Sh R C) .f32)) (hR : R = 128 * n)
    (e2 : L2 = ⟨Rect.unit (s := Sh R C) ![r', o] Sq.size i2, w2⟩ :: L1) (e1 : L1 = ⟨Rect.unit (s := Sh R C) ![r, o] Sq.size i1, w1⟩ :: L0)
    (H : ∀ x, w1 x = tile (View.canon L0) r o x + prev (b + 1) c x ∧ w2 x = tile (View.canon L1) r' o x + own (b + 1) c x)
    (I : ∀ y, View.canon L0 y = acc own prev n s y) : ∀ y, View.canon L2 y = acc own prev n (s + 1) y := by
  intro y
  have y0 : (y 0).val < R := (y 0).isLt
  have hp : (y 0).val / 128 < n := by omega
  subst e2
  rw [canon_add r' o (b + 1) c hr' ho i2 w2 (own (b + 1) c) _ fun x => (H x).2]
  subst e1
  rw [canon_add r o b c hr ho i1 w1 (prev (b + 1) c) _ (fun x => (H x).1), I, acc, acc]
  by_cases h : (y 0).val / 128 = b + 1 ∧ (y 1).val / 128 = c
  · have h' : ¬ ((y 0).val / 128 = b ∧ (y 1).val / 128 = c) := by omega
    rw [if_pos h, if_neg h', h.1, h.2, if_neg (by omega), if_neg (by omega), if_pos (by omega), if_neg (by omega), add_zero, add_zero, zero_add, add_zero]
  · by_cases h' : (y 0).val / 128 = b ∧ (y 1).val / 128 = c
    · rw [if_neg h, if_pos h', h'.1, h'.2, if_pos (by omega), if_neg (by omega), if_pos (by omega), if_pos (by omega), add_zero, add_zero]
    · have n1 : (y 1).val / 128 * n + (y 0).val / 128 ≠ c * n + (b + 1) := fun e => h (split_eq hp hn e)
      have n2 : (y 0).val / 128 + 1 < n → (y 1).val / 128 * n + ((y 0).val / 128 + 1) ≠ c * n + (b + 1) := fun q e => by
        have := split_eq q hn e
        omega
      rw [if_neg h, if_neg h', add_zero, add_zero]
      congr 1
      · exact if_congr (by omega) rfl rfl
      · exact if_congr (by omega) rfl rfl

/-- A block stored tile by tile. -/
theorem put (F : Fam) (n s c b : ℕ) (r o : ℕ) (hn : b < n) (hs : s = c * n + b) (hr : r = 128 * b) (ho : o = 128 * c) (hR : R = 128 * n)
    (i : ∀ a, (![r, o] : Fin 2 → ℕ) a + (Sq.size : Fin 2 → ℕ) a ≤ (Sh R C).size a)
    (w : Tile) (L0 L1 : List (View.Piece (Elt Ideal) (Sh R C) .f32)) (e : L1 = ⟨Rect.unit (s := Sh R C) ![r, o] Sq.size i, w⟩ :: L0)
    (h : w = F b c)
    (I : ∀ y, (y 1).val / 128 * n + (y 0).val / 128 < s → View.canon L0 y = arr F y) :
    ∀ y, (y 1).val / 128 * n + (y 0).val / 128 < s + 1 → View.canon L1 y = arr F y := by
  intro y hy
  have y0 : (y 0).val < R := (y 0).isLt
  subst e
  rw [canon_at r o b c hr ho]
  by_cases h' : (y 0).val / 128 = b ∧ (y 1).val / 128 = c
  · rw [if_pos h', h, arr, h'.1, h'.2]
  · have n1 : (y 1).val / 128 * n + (y 0).val / 128 ≠ c * n + b := fun e => h' (split_eq (by omega) hn e)
    rw [if_neg h']
    exact I y (by omega)

section spec

variable (q k v u l e : Fam)

/-- The probabilities of a block's own keys, and of the keys of the block before. -/
def own (p g : ℕ) : Fin 128 → Fin 128 → EReal := pc (q p g) (k p g) (l p g)
def bef (p g : ℕ) : Fin 128 → Fin 128 → EReal := pp (q p g) (k (p - 1) g) (l p g)

/-- What reaches the scores of those two. -/
def dOwn (p g : ℕ) : Fin 128 → Fin 128 → EReal := ds (own q k l p g) (u p g) (v p g) (e p g)
def dBef (p g : ℕ) : Fin 128 → Fin 128 → EReal := ds (bef q k l p g) (u p g) (v (p - 1) g) (e p g)

/-- The queries' gradient. -/
def gradQ : Fam := fun p g x => (if p = 0 then 0 else rows (dBef q k v u l e p g) (k (p - 1) g) x) + rows (dOwn q k v u l e p g) (k p g) x

theorem gradQ_first (g : ℕ) : gradQ q k v u l e 0 g = rows (dOwn q k v u l e 0 g) (k 0 g) := by
  funext x
  rw [gradQ, if_pos rfl, zero_add]

theorem gradQ_next (p g : ℕ) : gradQ q k v u l e (p + 1) g
    = fun x => rows (dBef q k v u l e (p + 1) g) (k p g) x + rows (dOwn q k v u l e (p + 1) g) (k (p + 1) g) x := by
  funext x
  rw [gradQ, if_neg (Nat.succ_ne_zero p), Nat.add_sub_cancel]

/-- The keys' gradient: what a row block gives to itself and to the block before. -/
def ownK : Fam := fun p g => cols (dOwn q k v u l e p g) (q p g)
def befK : Fam := fun p g => cols (dBef q k v u l e p g) (q p g)

/-- The values' gradient likewise. -/
def ownV : Fam := fun p g => cols (own q k l p g) (u p g)
def befV : Fam := fun p g => cols (bef q k l p g) (u p g)

end spec

section shift

variable {q k v u l e Q K V U L E : Fam} {n c s : ℕ} (hq : ∀ p < n, q p c = Q p s) (hk : ∀ p < n, k p c = K p s) (hv : ∀ p < n, v p c = V p s)
  (hu : ∀ p < n, u p c = U p s) (hl : ∀ p < n, l p c = L p s) (he : ∀ p < n, e p c = E p s)

include hq hk hv hu hl he

theorem dOwn_shift (p : ℕ) (h : p < n) : dOwn q k v u l e p c = dOwn Q K V U L E p s := by
  rw [dOwn, dOwn, own, own, hq p h, hk p h, hv p h, hu p h, hl p h, he p h]

theorem dBef_shift (p : ℕ) (h : p < n) : dBef q k v u l e p c = dBef Q K V U L E p s := by
  rw [dBef, dBef, bef, bef, hq p h, hk (p - 1) (by omega), hv (p - 1) (by omega), hu p h, hl p h, he p h]

theorem gradQ_shift (p : ℕ) (h : p < n) : gradQ q k v u l e p c = gradQ Q K V U L E p s := by
  funext x
  rw [gradQ, gradQ, dOwn_shift hq hk hv hu hl he p h, dBef_shift hq hk hv hu hl he p h, hk p h, hk (p - 1) (by omega)]

theorem gradK_shift (p : ℕ) (h : p < n) :
    total (ownK q k v u l e) (befK q k v u l e) n p c = total (ownK Q K V U L E) (befK Q K V U L E) n p s := by
  funext x
  unfold total ownK befK
  rw [dOwn_shift hq hk hv hu hl he p h, hq p h]
  by_cases h1 : p + 1 < n
  · rw [if_pos h1, if_pos h1, dBef_shift hq hk hv hu hl he (p + 1) h1, hq (p + 1) h1]
  · rw [if_neg h1, if_neg h1]

omit hv he

theorem gradV_shift (p : ℕ) (h : p < n) :
    total (ownV q k u l) (befV q k u l) n p c = total (ownV Q K U L) (befV Q K U L) n p s := by
  funext x
  unfold total ownV befV own bef
  rw [hq p h, hk p h, hl p h, hu p h]
  by_cases h1 : p + 1 < n
  · rw [if_pos h1, if_pos h1, hq (p + 1) h1, hk (p + 1 - 1) (by omega), hl (p + 1) h1, hu (p + 1) h1]
  · rw [if_neg h1, if_neg h1]

end shift

/-- A tile of a block that holds columns `C t` to `C t + C - 1` of an array is a tile of the array. -/
theorem tile_holds {C' : ℕ} [NeZero R] [NeZero C] [NeZero C'] {x : Blk R C} {X : Blk R C'} {t m p c : ℕ}
    (H : ∀ (a : Fin R) (b : Fin C) (h : C * t + b.val < C'), x (ix2 a b) = X (ix2 a ⟨C * t + b.val, h⟩))
    (hC : C = 128 * m) (ht : C * (t + 1) ≤ C') (hc : c < m) : fam x p c = fam X p (m * t + c) := by
  funext j
  have j1 : (j 1).val < 128 := (j 1).isLt
  have e1 : 128 * c + (j 1).val < C := by omega
  have e2 : C * t = 128 * (m * t) := by rw [hC, Nat.mul_assoc]
  rw [Nat.mul_add] at ht
  unfold fam tile
  rw [H _ _ (by show C * t + (128 * c + (j 1).val) % C < C'; rw [Nat.mod_eq_of_lt e1]; omega)]
  refine congrArg X ((ix2_inj ..).2 ⟨rfl, Fin.ext ?_⟩)
  show C * t + (128 * c + (j 1).val) % C = (128 * (m * t + c) + (j 1).val) % C'
  rw [Nat.mod_eq_of_lt e1, Nat.mod_eq_of_lt (by omega)]
  omega

theorem tile_counts {G : ℕ} [NeZero R] [NeZero C] [NeZero G] {x : Blk R C} {E : Blk R G} {t m p c : ℕ}
    (H : ∀ (a : Fin R) (b : Fin C) (h : (C * t + b.val) / 128 < G), x (ix2 a b) = E (ix2 a ⟨(C * t + b.val) / 128, h⟩))
    (hC : C = 128 * m) (ht : m * (t + 1) ≤ G) (hc : c < m) : fam x p c = num E p (m * t + c) := by
  funext j
  have j1 : (j 1).val < 128 := (j 1).isLt
  have e1 : 128 * c + (j 1).val < C := by omega
  have e2 : C * t = 128 * (m * t) := by rw [hC, Nat.mul_assoc]
  rw [Nat.mul_add] at ht
  unfold fam tile num
  rw [H _ _ (by show (C * t + (128 * c + (j 1).val) % C) / 128 < G; rw [Nat.mod_eq_of_lt e1]; omega)]
  refine congrArg E ((ix2_inj ..).2 ⟨rfl, Fin.ext ?_⟩)
  show (C * t + (128 * c + (j 1).val) % C) / 128 = (m * t + c) % G
  rw [Nat.mod_eq_of_lt e1, Nat.mod_eq_of_lt (by omega)]
  omega

theorem arr_block {C' : ℕ} (F G : Fam) (t n m : ℕ) (hR : R = 128 * n) (hC : C = 128 * m) (y0 : Fin R) (y1 : Fin C) (h : C * t + y1.val < C')
    (H : ∀ p < n, ∀ c < m, F p c = G p (m * t + c)) : (arr F : Blk R C) (ix2 y0 y1) = (arr G : Blk R C') (ix2 y0 ⟨C * t + y1.val, h⟩) := by
  have e2 : C * t = 128 * (m * t) := by rw [hC, Nat.mul_assoc]
  show F (y0.val / 128) (y1.val / 128) _ = G (y0.val / 128) ((C * t + y1.val) / 128) _
  rw [H _ (by omega) _ (by omega), show (C * t + y1.val) / 128 = m * t + y1.val / 128 by omega]
  refine congrArg _ ((ix2_inj ..).2 ⟨rfl, Fin.ext ?_⟩)
  show y1.val % 128 = (C * t + y1.val) % 128
  omega

end Cert.AttnGen

end
-- ==== Proof.AttnRef4.lean ====
/- The reference's attention gradient at another dilation, read at an index, is the gradient by tiles. -/
module

public import proofs.«01_k».proof.Proof.AttnRefVal
public import proofs.«01_k».proof.Proof.AttnGen
public import proofs.«01_k».proof.Proof.Gen.Reference34Ideal.Run

@[expose] public section

set_option maxRecDepth 16384

noncomputable section

open Idealize.ShloMosaic Idealize.ShloMosaic.TcCoe Idealize.SL.Sem

namespace Cert.AttnRef4

open Cert.Reference34Ideal Cert.Reference34Ideal.Gen
open Cert.AttnRef (near_bits and_bits ofBits_bot pick sum_halves)
open Cert.AttnBwd (pc pp ds sc sg rows cols sel)
open Cert.AttnGen

/-- The subsequences of a dilation, cut into blocks. -/
def sub (X : FVec Ideal S1024x4096 .bf16) : FVec Ideal S4x8x128x8x128 .f32 :=
  shapeCast _ (transpose S1x4x1024x8x128 [0, 2, 1, 3, 4] (shapeCast _ (shapeCast _ (extf .f32 X bitsLt_bf16_f32) shapeCasts_S1024x4096_S1x4096x8x128) shapeCasts_S1x4096x8x128_S1x1024x4x8x128) transposes_S1x1024x4x8x128_S1x4x1024x8x128_0_2_1_3_4) shapeCasts_S1x4x1024x8x128_S4x8x128x8x128

/-- A block of keys with the block before it. -/
def both (X : FVec Ideal S1024x4096 .bf16) : FVec Ideal S4x8x256x8x128 .f32 :=
  concatenate S4x8x256x8x128 2 [⟨S4x8x128x8x128, (concatenate S4x8x128x8x128 1 [⟨S4x1x128x8x128, (broadcastInDim S4x1x128x8x128 ![] bcast_S_S4x1x128x8x128 (constant S_ .f32 0x00000000#32))⟩, ⟨S4x7x128x8x128, (extractStridedSlice S4x7x128x8x128 ![0, 0, 0, 0, 0] (sub X) slices_S4x8x128x8x128_S4x7x128x8x128_0_0_0_0_0)⟩] concatenates_S4x1x128x8x128_S4x7x128x8x128_S4x8x128x8x128_d1)⟩, ⟨S4x8x128x8x128, (sub X)⟩] concatenates_S4x8x128x8x128_S4x8x128x8x128_S4x8x256x8x128_d2

/-- One number for each query and head. -/
def perRow (X : FVec Ideal S1024x32 .f32) : FVec Ideal S4x8x8x128x1 .f32 :=
  broadcastInDim S4x8x8x128x1 ![0, 1, 2, 3] bcast_S4x8x8x128_S4x8x8x128x1_0_1_2_3 (transpose S4x8x8x128 [0, 1, 3, 2] (shapeCast _ (shapeCast _ (transpose S1x4x1024x8x1 [0, 2, 1, 3, 4] (shapeCast _ (broadcastInDim S1x4096x8x1 ![0, 1, 2] bcast_S1x4096x8_S1x4096x8x1_0_1_2 (shapeCast _ X shapeCasts_S1024x32_S1x4096x8)) shapeCasts_S1x4096x8x1_S1x1024x4x8x1) transposes_S1x1024x4x8x1_S1x4x1024x8x1_0_2_1_3_4) shapeCasts_S1x4x1024x8x1_S4x8x128x8x1) shapeCasts_S4x8x128x8x1_S4x8x128x8) transposes_S4x8x128x8_S4x8x8x128_0_1_3_2)

/-- Which key a query sees. -/
def valid : IVec S4x8x8x128x256 1 :=
  broadcastInDim S4x8x8x128x256 ![0, 1, 2, 3, 4] bcast_S1x8x1x128x256_S4x8x8x128x256_0_1_2_3_4 (broadcastInDim S1x8x1x128x256 ![1, 3, 4] bcast_S8x128x256_S1x8x1x128x256_1_3_4 (andi (broadcastInDim S8x128x256 ![0, 1, 2] bcast_S1x128x256_S8x128x256_0_1_2 (broadcastInDim S1x128x256 ![1, 2] bcast_S128x256_S1x128x256_1_2 (andi (cmpi .sge (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S8x128x256 ![0, 1, 2] bcast_S8x1x256_S8x128x256_0_1_2 (cmpi .sge (addi (broadcastInDim S8x1x256 ![0, 1, 2] bcast_S8x1x1_S8x1x256_0_1_2 (subi (muli (broadcastInDim S8x1x1 ![0] bcast_S8_S8x1x1_0 (iotaInDim S8 32 0)) (broadcastInDim S8x1x1 ![] bcast_S_S8x1x1 (constantI S_ 32 128#32))) (broadcastInDim S8x1x1 ![] bcast_S_S8x1x1 (constantI S_ 32 128#32)))) (broadcastInDim S8x1x256 ![0, 1, 2] bcast_S1x1x256_S8x1x256_0_1_2 (broadcastInDim S1x1x256 ![1, 2] bcast_S1x256_S1x1x256_1_2 (broadcastInDim S1x256 ![1] bcast_S256_S1x256_1 (iotaInDim S256 32 0))))) (broadcastInDim S8x1x256 ![] bcast_S_S8x1x256 (constantI S_ 32 0#32))))))

/-- The scaled scores. -/
def score (Q K : FVec Ideal S1024x4096 .bf16) : FVec Ideal S4x8x8x128x256 .f32 :=
  mulf (Host.dotGeneral dot_S4x8x128x8x128_S4x8x256x8x128_S4x8x8x128x256_4_4_2_2_013_013 none (sub Q) (both K)) (broadcastInDim S4x8x8x128x256 ![] bcast_S_S4x8x8x128x256 (constant S_ .f32 0x3DB504F3#32))

/-- The probabilities. -/
def prob (Q K : FVec Ideal S1024x4096 .bf16) (E : FVec Ideal S1024x32 .f32) : FVec Ideal S4x8x8x128x256 .f32 :=
  Host.exp (subf (select valid (score Q K) (broadcastInDim S4x8x8x128x256 ![] bcast_S_S4x8x8x128x256 (id (constant S_ .f32 0xFF800000#32)))) (broadcastInDim S4x8x8x128x256 ![0, 1, 2, 3, 4] bcast_S4x8x8x128x1_S4x8x8x128x256_0_1_2_3_4 (perRow E)))

/-- What reaches the scores. -/
def reach (Q K W O : FVec Ideal S1024x4096 .bf16) (E D : FVec Ideal S1024x32 .f32) : FVec Ideal S4x8x8x128x256 .f32 :=
  mulf (select valid (mulf (addf (broadcastInDim S4x8x8x128x256 ![0, 1, 2, 3] bcast_S4x8x8x128_S4x8x8x128x256_0_1_2_3 (Host.reduceAdd (Host.negf (perRow D)) (constant S_ .f32 0x00000000#32) reducesTo_S4x8x8x128x1_S4x8x8x128_d4 h_S_)) (Host.dotGeneral dot_S4x8x8x128x128_S4x8x256x8x128_S4x8x8x128x256_3_4_4_2_012_013 none (transpose S4x8x8x128x128 [0, 1, 3, 4, 2] (sub O) transposes_S4x8x128x8x128_S4x8x8x128x128_0_1_3_4_2) (both W))) (prob Q K E)) (broadcastInDim S4x8x8x128x256 ![] bcast_S_S4x8x8x128x256 (constant S_ .f32 0x00000000#32))) (broadcastInDim S4x8x8x128x256 ![] bcast_S_S4x8x8x128x256 (constant S_ .f32 0x3DB504F3#32))

/-- The subsequences put back in order. -/
def back (Z : FVec Ideal S4x8x128x8x128 .f32) : FVec Ideal S1024x4096 .f32 :=
  shapeCast _ (shapeCast _ (transpose S1x1024x4x8x128 [0, 2, 1, 3, 4] (shapeCast _ Z shapeCasts_S4x8x128x8x128_S1x4x1024x8x128) transposes_S1x4x1024x8x128_S1x1024x4x8x128_0_2_1_3_4) shapeCasts_S1x1024x4x8x128_S1x4096x8x128) shapeCasts_S1x4096x8x128_S1024x4096

/-- What reaches a block as itself and as the block before. -/
def fold (Z : FVec Ideal S4x8x256x8x128 .f32) : FVec Ideal S4x8x128x8x128 .f32 :=
  addf (extractStridedSlice S4x8x128x8x128 ![0, 0, 128, 0, 0] Z slices_S4x8x256x8x128_S4x8x128x8x128_0_0_128_0_0) (pad S4x8x128x8x128 ![0, 0, 0, 0, 0] ![0, 1, 0, 0, 0] ![0, 0, 0, 0, 0] (extractStridedSlice S4x7x128x8x128 ![0, 1, 0, 0, 0] (extractStridedSlice S4x8x128x8x128 ![0, 0, 0, 0, 0] Z slices_S4x8x256x8x128_S4x8x128x8x128_0_0_0_0_0) slices_S4x8x128x8x128_S4x7x128x8x128_0_1_0_0_0) (constant S_ .f32 0x00000000#32) pads_S4x7x128x8x128_S4x8x128x8x128_000_010_000_000_000 h_S_)

/-- The queries' gradient. -/
def gq (Q K W O : FVec Ideal S1024x4096 .bf16) (E D : FVec Ideal S1024x32 .f32) : FVec Ideal S4x8x128x8x128 .f32 :=
  transpose S4x8x128x8x128 [0, 1, 3, 2, 4] (Host.dotGeneral dot_S4x8x8x128x256_S4x8x256x8x128_S4x8x8x128x128_4_2_3_4_012_013 none (reach Q K W O E D) (both K)) transposes_S4x8x8x128x128_S4x8x128x8x128_0_1_3_2_4

/-- The gradient of the keys with the block before. -/
def gk (Q K W O : FVec Ideal S1024x4096 .bf16) (E D : FVec Ideal S1024x32 .f32) : FVec Ideal S4x8x256x8x128 .f32 :=
  transpose S4x8x256x8x128 [0, 1, 3, 2, 4] (Host.dotGeneral dot_S4x8x8x128x256_S4x8x128x8x128_S4x8x8x256x128_3_2_4_4_012_013 none (reach Q K W O E D) (sub Q)) transposes_S4x8x8x256x128_S4x8x256x8x128_0_1_3_2_4

/-- The gradient of the values with the block before. -/
def gv (Q K O : FVec Ideal S1024x4096 .bf16) (E : FVec Ideal S1024x32 .f32) : FVec Ideal S4x8x256x8x128 .f32 :=
  transpose S4x8x256x8x128 [0, 1, 4, 2, 3] (Host.dotGeneral dot_S4x8x8x128x128_S4x8x8x128x256_S4x8x8x128x256_4_3_3_4_012_012 none (transpose S4x8x8x128x128 [0, 1, 3, 4, 2] (sub O) transposes_S4x8x128x8x128_S4x8x8x128x128_0_1_3_4_2) (prob Q K E)) transposes_S4x8x8x128x256_S4x8x256x8x128_0_1_4_2_3

theorem out0 (m : (ℓ : Loc nD τ sig) → Buf (Elt Ideal) ℓ) (c : Dev nD) : Value.res_main_v127 m c
    = back (gq (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))) := rfl

theorem out1 (m : (ℓ : Loc nD τ sig) → Buf (Elt Ideal) ℓ) (c : Dev nD) : Value.res_main_v128 m c
    = back (fold (gk (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)))) := rfl

theorem out2 (m : (ℓ : Loc nD τ sig) → Buf (Elt Ideal) ℓ) (c : Dev nD) : Value.res_main_v129 m c
    = back (fold (gv (m ((c.tc : Thread nD τ).loc main_arg0)) (m ((c.tc : Thread nD τ).loc main_arg1))
        (m ((c.tc : Thread nD τ).loc main_arg3)) (m ((c.tc : Thread nD τ).loc main_arg4)))) := rfl

abbrev fm (X : Blk 1024 4096) : Fam := fam X

abbrev nm (X : Blk 1024 32) : Fam := num X

theorem sub_fm (X : FVec Ideal S1024x4096 .bf16) (a : Fin 4) (b : Fin 8) (r : Fin 128) (h : Fin 8) (d : Fin 128) :
    sub X (ix5 a b r h d) = fm X b.val (8 * a.val + h.val) (ix2 r d) := by
  pointwise [sub]
  refine congrArg X ((ix2_inj ..).2 ⟨Fin.ext ?_, Fin.ext ?_⟩)
  · show _ = (128 * b.val + r.val) % 1024
    simp only []
    omega
  · show _ = (128 * (8 * a.val + h.val) + d.val) % 4096
    simp only []
    omega

theorem perRow_nm (X : FVec Ideal S1024x32 .f32) (a : Fin 4) (b : Fin 8) (h : Fin 8) (r j : Fin 128) :
    perRow X (ix5 a b h r 0) = nm X b.val (8 * a.val + h.val) (ix2 r j) := by
  pointwise [perRow]
  refine congrArg X ((ix2_inj ..).2 ⟨Fin.ext ?_, Fin.ext ?_⟩)
  · show _ = (128 * b.val + r.val) % 1024
    simp only []
    omega
  · show _ = (8 * a.val + h.val) % 32
    simp only []
    omega

theorem back_at (Z : FVec Ideal S4x8x128x8x128 .f32) (y : Fin 1024) (z : Fin 4096) :
    back Z (ix2 y z) = Z (ix5 (⟨z.val / 1024, by omega⟩ : Fin 4) (⟨y.val / 128, by omega⟩ : Fin 8) (⟨y.val % 128, by omega⟩ : Fin 128)
      (⟨z.val / 128 % 8, by omega⟩ : Fin 8) (⟨z.val % 128, by omega⟩ : Fin 128)) := by
  pointwise [back]

theorem both_own (X : FVec Ideal S1024x4096 .bf16) (a : Fin 4) (b : Fin 8) (j : Fin 128) (h : Fin 8) (d : Fin 128) :
    both X (ix5 a b (⟨128 + j.val, by omega⟩ : Fin 256) h d) = fm X b.val (8 * a.val + h.val) (ix2 j d) := by
  rw [← sub_fm]
  pointwise [both]

theorem both_before (X : FVec Ideal S1024x4096 .bf16) (a : Fin 4) (p : Fin 7) (j : Fin 128) (h : Fin 8) (d : Fin 128) :
    both X (ix5 a (⟨p.val + 1, by omega⟩ : Fin 8) (⟨j.val, by omega⟩ : Fin 256) h d) = fm X p.val (8 * a.val + h.val) (ix2 j d) := by
  rw [← sub_fm X a (⟨p.val, by omega⟩ : Fin 8) j h d]
  pointwise [both]
  rw [dif_neg (by omega)]
  rfl

theorem fold_next (Z : FVec Ideal S4x8x256x8x128 .f32) (a : Fin 4) (p : Fin 7) (j : Fin 128) (h : Fin 8) (d : Fin 128) :
    fold Z (ix5 a (⟨p.val, by omega⟩ : Fin 8) j h d) = Z (ix5 a (⟨p.val, by omega⟩ : Fin 8) (⟨128 + j.val, by omega⟩ : Fin 256) h d)
      + Z (ix5 a (⟨p.val + 1, by omega⟩ : Fin 8) (⟨j.val, by omega⟩ : Fin 256) h d) := by
  have e : (⟨p.val + 1, by omega⟩ : Fin 8) = ⟨1 + p.val, by omega⟩ := Fin.ext (Nat.add_comm _ _)
  rw [e]
  pointwise [fold]

theorem fold_last (Z : FVec Ideal S4x8x256x8x128 .f32) (a : Fin 4) (j : Fin 128) (h : Fin 8) (d : Fin 128) :
    fold Z (ix5 a 7 j h d) = Z (ix5 a 7 (⟨128 + j.val, by omega⟩ : Fin 256) h d) := by
  pointwise [fold]

theorem score_at (Q K : FVec Ideal S1024x4096 .bf16) (a : Fin 4) (b : Fin 8) (h : Fin 8) (i : Fin 128) (j : Fin 256) :
    score Q K (ix5 a b h i j) = (∑ d : Fin 128, sub Q (ix5 a b i h d) * both K (ix5 a b j h d)) * sg := by
  pointwise [score, sg]

theorem prob_at (Q K : FVec Ideal S1024x4096 .bf16) (E : FVec Ideal S1024x32 .f32) (a : Fin 4) (b : Fin 8) (h : Fin 8) (i : Fin 128) (j : Fin 256) :
    prob Q K E (ix5 a b h i j) = Ideal.exp (Scalar.select (valid (ix5 a b h i j)) (score Q K (ix5 a b h i j)) ⊥ - perRow E (ix5 a b h i 0)) := by
  pointwise [prob]
  rw [show (id (constant S_ .f32 0xFF800000#32) ix0 : Ideal .f32) = (⊥ : EReal) from ofBits_bot]

theorem reach_at (Q K W O : FVec Ideal S1024x4096 .bf16) (E D : FVec Ideal S1024x32 .f32) (a : Fin 4) (b : Fin 8) (h : Fin 8) (i : Fin 128) (j : Fin 256) :
    reach Q K W O E D (ix5 a b h i j) = Scalar.select (valid (ix5 a b h i j)) ((-(perRow D (ix5 a b h i 0)) + ∑ d : Fin 128, sub O (ix5 a b i h d) * both W (ix5 a b j h d))
      * prob Q K E (ix5 a b h i j)) 0 * sg := by
  pointwise [reach, sg]
  rw [Fin.sum_univ_one]

theorem gq_at (Q K W O : FVec Ideal S1024x4096 .bf16) (E D : FVec Ideal S1024x32 .f32) (a : Fin 4) (b : Fin 8) (h : Fin 8) (i d : Fin 128) :
    gq Q K W O E D (ix5 a b i h d) = ∑ j : Fin 256, reach Q K W O E D (ix5 a b h i j) * both K (ix5 a b j h d) := by
  pointwise [gq]

theorem gk_at (Q K W O : FVec Ideal S1024x4096 .bf16) (E D : FVec Ideal S1024x32 .f32) (a : Fin 4) (b : Fin 8) (h : Fin 8) (j : Fin 256) (d : Fin 128) :
    gk Q K W O E D (ix5 a b j h d) = ∑ i : Fin 128, reach Q K W O E D (ix5 a b h i j) * sub Q (ix5 a b i h d) := by
  pointwise [gk]

theorem gv_at (Q K O : FVec Ideal S1024x4096 .bf16) (E : FVec Ideal S1024x32 .f32) (a : Fin 4) (b : Fin 8) (h : Fin 8) (j : Fin 256) (d : Fin 128) :
    gv Q K O E (ix5 a b j h d) = ∑ i : Fin 128, sub O (ix5 a b i h d) * prob Q K E (ix5 a b h i j) := by
  pointwise [gv]

theorem from_bits : ∀ (b : Fin 8) (j : Fin 256), IntOp.cmpi CmpIPredicate.sge
      (IntOp.addi (IntOp.subi (IntOp.muli (BitVec.ofNat 32 b.val) 128#32) 128#32) (BitVec.ofNat 32 j.val)) 0#32
    = BitVec.ofBool (decide (128 ≤ 128 * b.val + j.val)) := by
  decide +kernel

theorem valid_at (a : Fin 4) (b : Fin 8) (h : Fin 8) (i : Fin 128) (j : Fin 256) :
    valid (ix5 a b h i j) = BitVec.ofBool (decide ((j.val ≤ 128 + i.val ∧ i.val ≤ j.val) ∧ 128 ≤ 128 * b.val + j.val)) := by
  have e := near_bits i j
  have e' := from_bits b j
  pointwise [valid]
  refine Eq.trans (congrArg₂ IntOp.andi e e') (and_bits _ _)

theorem valid_own (a : Fin 4) (b : Fin 8) (h : Fin 8) (i j : Fin 128) :
    valid (ix5 a b h i (⟨128 + j.val, by omega⟩ : Fin 256)) = BitVec.ofBool (decide (j ≤ i)) := by
  rw [valid_at]
  congr 2
  refine propext ?_
  rw [Fin.le_def]
  show (128 + j.val ≤ 128 + i.val ∧ i.val ≤ 128 + j.val) ∧ 128 ≤ 128 * b.val + (128 + j.val) ↔ _
  omega

theorem valid_before (a : Fin 4) (p : Fin 7) (h : Fin 8) (i j : Fin 128) :
    valid (ix5 a (⟨p.val + 1, by omega⟩ : Fin 8) h i (⟨j.val, by omega⟩ : Fin 256)) = BitVec.ofBool (decide (i ≤ j)) := by
  rw [valid_at]
  congr 2
  refine propext ?_
  rw [Fin.le_def]
  show (j.val ≤ 128 + i.val ∧ i.val ≤ j.val) ∧ 128 ≤ 128 * (p.val + 1) + j.val ↔ _
  omega

theorem valid_first (a : Fin 4) (h : Fin 8) (i j : Fin 128) :
    valid (ix5 a 0 h i (⟨j.val, by omega⟩ : Fin 256)) = 0#1 := by
  rw [valid_at, decide_eq_false]
  · rfl
  · show ¬((j.val ≤ 128 + i.val ∧ i.val ≤ j.val) ∧ 128 ≤ 128 * 0 + j.val)
    omega

section

variable (Q K W O : FVec Ideal S1024x4096 .bf16) (E D : FVec Ideal S1024x32 .f32) (a : Fin 4) (b : Fin 8) (p : Fin 7) (h : Fin 8) (i j d : Fin 128)

theorem prob_own : prob Q K E (ix5 a b h i (⟨128 + j.val, by omega⟩ : Fin 256)) = own (fm Q) (fm K) (nm E) b.val (8 * a.val + h.val) i j := by
  rw [prob_at, valid_own, score_at, sel, perRow_nm E a b h i j]
  simp only [both_own, sub_fm]
  rfl

theorem prob_before : prob Q K E (ix5 a (⟨p.val + 1, by omega⟩ : Fin 8) h i (⟨j.val, by omega⟩ : Fin 256))
    = bef (fm Q) (fm K) (nm E) (p.val + 1) (8 * a.val + h.val) i j := by
  rw [prob_at, valid_before, score_at, sel, perRow_nm E a _ h i j]
  simp only [both_before, sub_fm]
  rfl

theorem reach_own : reach Q K W O E D (ix5 a b h i (⟨128 + j.val, by omega⟩ : Fin 256))
    = dOwn (fm Q) (fm K) (fm W) (fm O) (nm E) (nm D) b.val (8 * a.val + h.val) i j := by
  rw [reach_at, prob_own, valid_own, sel, perRow_nm D a b h i j]
  simp only [both_own, sub_fm]
  exact pick (j ≤ i) _ _ _ _

theorem reach_before : reach Q K W O E D (ix5 a (⟨p.val + 1, by omega⟩ : Fin 8) h i (⟨j.val, by omega⟩ : Fin 256))
    = dBef (fm Q) (fm K) (fm W) (fm O) (nm E) (nm D) (p.val + 1) (8 * a.val + h.val) i j := by
  rw [reach_at, prob_before, valid_before, sel, perRow_nm D a _ h i j]
  simp only [both_before, sub_fm]
  exact pick (i ≤ j) _ _ _ _

theorem reach_first : reach Q K W O E D (ix5 a 0 h i (⟨j.val, by omega⟩ : Fin 256)) = 0 := by
  rw [reach_at, valid_first, Scalar.select, if_neg (by decide), zero_mul]

/-- A row block is the first or follows another. -/
theorem first_or (b : Fin 8) : b = 0 ∨ ∃ p : Fin 7, b = ⟨p.val + 1, by omega⟩ := by
  rcases Nat.eq_zero_or_pos b.val with h | h
  · exact Or.inl (Fin.ext h)
  · exact Or.inr ⟨⟨b.val - 1, by omega⟩, Fin.ext (by show b.val = b.val - 1 + 1; omega)⟩

/-- A row block is the last or another follows. -/
theorem last_or (b : Fin 8) : b = 7 ∨ ∃ p : Fin 7, b = ⟨p.val, by omega⟩ := by
  by_cases h : b.val < 7
  · exact Or.inr ⟨⟨b.val, h⟩, rfl⟩
  · exact Or.inl (Fin.ext (by show b.val = 7; omega))

theorem gq_fam : gq Q K W O E D (ix5 a b i h d) = gradQ (fm Q) (fm K) (fm W) (fm O) (nm E) (nm D) b.val (8 * a.val + h.val) (ix2 i d) := by
  rw [gq_at, sum_halves]
  rcases first_or b with rfl | ⟨p, rfl⟩
  · simp only [reach_first, zero_mul, Finset.sum_const_zero, zero_add, reach_own, both_own]
    exact (congrFun (gradQ_first (fm Q) (fm K) (fm W) (fm O) (nm E) (nm D) (8 * a.val + h.val)) (ix2 i d)).symm
  · simp only [reach_before, both_before, reach_own, both_own]
    exact (congrFun (gradQ_next (fm Q) (fm K) (fm W) (fm O) (nm E) (nm D) p.val (8 * a.val + h.val)) (ix2 i d)).symm

theorem gk_fam : fold (gk Q K W O E D) (ix5 a b j h d) = total (ownK (fm Q) (fm K) (fm W) (fm O) (nm E) (nm D))
    (befK (fm Q) (fm K) (fm W) (fm O) (nm E) (nm D)) 8 b.val (8 * a.val + h.val) (ix2 j d) := by
  rcases last_or b with rfl | ⟨p, rfl⟩
  · rw [fold_last, gk_at, total, if_neg (by decide), add_zero]
    simp only [reach_own, sub_fm]
    rfl
  · rw [fold_next, gk_at, gk_at, total, if_pos (by show p.val + 1 < 8; omega)]
    simp only [reach_own, reach_before, sub_fm]
    rfl

theorem gv_fam : fold (gv Q K O E) (ix5 a b j h d) = total (ownV (fm Q) (fm K) (fm O) (nm E))
    (befV (fm Q) (fm K) (fm O) (nm E)) 8 b.val (8 * a.val + h.val) (ix2 j d) := by
  rcases last_or b with rfl | ⟨p, rfl⟩
  · rw [fold_last, gv_at, total, if_neg (by decide), add_zero]
    simp only [prob_own, sub_fm]
    exact Finset.sum_congr rfl fun i _ => mul_comm _ _
  · rw [fold_next, gv_at, gv_at, total, if_pos (by show p.val + 1 < 8; omega)]
    simp only [prob_own, prob_before, sub_fm]
    exact congrArg₂ (· + ·) (Finset.sum_congr rfl fun i _ => mul_comm _ _) (Finset.sum_congr rfl fun i _ => mul_comm _ _)

end

/-- An array put back in order is known by its tiles. -/
theorem back_of (Z : FVec Ideal S4x8x128x8x128 .f32) (F : Fam)
    (H : ∀ (a : Fin 4) (b : Fin 8) (h : Fin 8) (i d : Fin 128), Z (ix5 a b i h d) = F b.val (8 * a.val + h.val) (ix2 i d)) :
    back Z = (arr F : Blk 1024 4096) := by
  funext y
  idx_vars y
  rw [back_at, H]
  have e : 8 * (y1.val / 1024) + y1.val / 128 % 8 = y1.val / 128 := by omega
  show F (y0.val / 128) (8 * (y1.val / 1024) + y1.val / 128 % 8) _ = _
  rw [e]
  rfl

end Cert.AttnRef4

end
-- ==== Proof.AttnBwd4Read.lean ====
/- What a tile of this kernel reads. -/
module

public import proofs.«01_k».proof.Proof.AttnGen
public import proofs.«01_k».proof.Proof.Gen.Kernel34Ideal.Value

@[expose] public section

set_option maxRecDepth 16384

noncomputable section

open Idealize.ShloMosaic Idealize.ShloMosaic.TcCoe Idealize.SL.Sem

namespace Cert.AttnBwd4

open Cert.AttnGen
open Cert.AttnBwd (dq_first dq_next dk_first dk_next dk_own dv_first dv_next dv_own)
open Cert.Kernel34Ideal Cert.Kernel34Ideal.Gen

abbrev B : Type := Blk 1024 512

abbrev tl (X : B) (r o : ℕ) := tile X r o

abbrev fm (X : B) : Fam := fam X

theorem rd16 (arg : Memref sig .tc .vmem S1024x512 .bf16) (harg : arg.IsWhole) (X : Vec Ideal S1024x512 .bf16) (r o : ℕ)
    (inb : ∀ a, (![r, o] : Fin 2 → ℕ) a + (![128, 128] : Fin 2 → ℕ) a ≤ S1024x512.size a) :
    View.readAt (Elt Ideal) arg.view (Rect.unit (s := S1024x512) ![r, o] ![128, 128] inb).toLoadRect (harg.unread X) = tl X r o := by
  refine Eq.trans ?_ (tile_rect (R := 1024) (C := 512) X r o inb)
  funext j
  show arg.view.read (Elt Ideal) (harg.unread X) _ = _
  rw [harg.read_unread X]

theorem rd32 (arg : Memref sig .tc .vmem S1024x512 .f32) (harg : arg.IsWhole) (X : Vec Ideal S1024x512 .f32) (r o : ℕ)
    (inb : ∀ a, (![r, o] : Fin 2 → ℕ) a + (![128, 128] : Fin 2 → ℕ) a ≤ S1024x512.size a) :
    View.readAt (Elt Ideal) arg.view (Rect.unit (s := S1024x512) ![r, o] ![128, 128] inb).toLoadRect (harg.unread X) = tl X r o := by
  refine Eq.trans ?_ (tile_rect (R := 1024) (C := 512) X r o inb)
  funext j
  show arg.view.read (Elt Ideal) (harg.unread X) _ = _
  rw [harg.read_unread X]

theorem rdc (arg : Memref sig .tc .vmem S1024x512 .f32) (L : List (View.Piece (Elt Ideal) S1024x512 .f32)) (r o : ℕ)
    (inb : ∀ a, (![r, o] : Fin 2 → ℕ) a + (![128, 128] : Fin 2 → ℕ) a ≤ S1024x512.size a) :
    arg.view.readCov L (Rect.unit (s := S1024x512) ![r, o] ![128, 128] inb).toLoadRect = tl (View.canon L) r o := by
  rw [View.readCov_eq_canon']
  exact tile_rect (R := 1024) (C := 512) (View.canon L) r o inb

end Cert.AttnBwd4

end
-- ==== Proof.AttnBwd4Dq.lean ====
/- The queries' gradient of a block, tile by tile. -/
module

public import proofs.«01_k».proof.Proof.AttnBwd4Read

@[expose] public section

set_option maxRecDepth 16384

noncomputable section

open Idealize.ShloMosaic Idealize.ShloMosaic.TcCoe Idealize.SL.Sem

namespace Cert.AttnBwd4

open Cert.AttnGen
open Cert.AttnBwd (dq_first dq_next dk_first dk_next dk_own dv_first dv_next dv_own)
open Cert.Kernel34Ideal Cert.Kernel34Ideal.Gen

open kernelRun0_A.sl

variable (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole)
  (x0 x1 x2 x3 : Vec Ideal S1024x512 .bf16) (x4 x5 : Vec Ideal S1024x512 .f32)

set_option maxHeartbeats 4000000 in
theorem dq_run (y : S1024x512.Idx) : View.canon (kernelRun0_A (F := Ideal) c i arg1 harg1 arg2 harg2 arg3 harg3 arg4 harg4 arg5 harg5 arg6 harg6 arg7 harg7 arg8 harg8 arg9 harg9 x0 x1 x2 x3 x4 x5).1 y = arr (gradQ (fm x0) (fm x1) (fm x2) (fm x3) (fm x4) (fm x5)) y := by
  have hy0 : (y 0).val < 1024 := (y 0).isLt
  have hy1 : (y 1).val < 512 := (y 1).isLt
  refine put (gradQ (fm x0) (fm x1) (fm x2) (fm x3) (fm x4) (fm x5)) 8 31 3 7 896 384 (by decide) rfl rfl rfl rfl _ _ _ _ rfl ?_ ?_ y (by omega)
  · simp only [r_332, r_333, r_341, r_342, r_343, r_344, r_345, r_346, r_347, r_348, rd16, rd32]
    exact (dq_next (tl x3 896 384) (tl x1 768 384) (tl x1 896 384) (tl x2 768 384) (tl x2 896 384) (tl x0 896 384) (tl x4 896 384) (tl x5 896 384)).trans (gradQ_next (fm x0) (fm x1) (fm x2) (fm x3) (fm x4) (fm x5) 6 3).symm
  refine put (gradQ (fm x0) (fm x1) (fm x2) (fm x3) (fm x4) (fm x5)) 8 30 3 6 768 384 (by decide) rfl rfl rfl rfl _ _ _ _ rfl ?_ ?_
  · simp only [r_321, r_322, r_330, r_331, r_332, r_333, r_334, r_335, r_336, r_337, rd16, rd32]
    exact (dq_next (tl x3 768 384) (tl x1 640 384) (tl x1 768 384) (tl x2 640 384) (tl x2 768 384) (tl x0 768 384) (tl x4 768 384) (tl x5 768 384)).trans (gradQ_next (fm x0) (fm x1) (fm x2) (fm x3) (fm x4) (fm x5) 5 3).symm
  refine put (gradQ (fm x0) (fm x1) (fm x2) (fm x3) (fm x4) (fm x5)) 8 29 3 5 640 384 (by decide) rfl rfl rfl rfl _ _ _ _ rfl ?_ ?_
  · simp only [r_310, r_311, r_319, r_320, r_321, r_322, r_323, r_324, r_325, r_326, rd16, rd32]
    exact (dq_next (tl x3 640 384) (tl x1 512 384) (tl x1 640 384) (tl x2 512 384) (tl x2 640 384) (tl x0 640 384) (tl x4 640 384) (tl x5 640 384)).trans (gradQ_next (fm x0) (fm x1) (fm x2) (fm x3) (fm x4) (fm x5) 4 3).symm
  refine put (gradQ (fm x0) (fm x1) (fm x2) (fm x3) (fm x4) (fm x5)) 8 28 3 4 512 384 (by decide) rfl rfl rfl rfl _ _ _ _ rfl ?_ ?_
  · simp only [r_299, r_300, r_308, r_309, r_310, r_311, r_312, r_313, r_314, r_315, rd16, rd32]
    exact (dq_next (tl x3 512 384) (tl x1 384 384) (tl x1 512 384) (tl x2 384 384) (tl x2 512 384) (tl x0 512 384) (tl x4 512 384) (tl x5 512 384)).trans (gradQ_next (fm x0) (fm x1) (fm x2) (fm x3) (fm x4) (fm x5) 3 3).symm
  refine put (gradQ (fm x0) (fm x1) (fm x2) (fm x3) (fm x4) (fm x5)) 8 27 3 3 384 384 (by decide) rfl rfl rfl rfl _ _ _ _ rfl ?_ ?_
  · simp only [r_288, r_289, r_297, r_298, r_299, r_300, r_301, r_302, r_303, r_304, rd16, rd32]
    exact (dq_next (tl x3 384 384) (tl x1 256 384) (tl x1 384 384) (tl x2 256 384) (tl x2 384 384) (tl x0 384 384) (tl x4 384 384) (tl x5 384 384)).trans (gradQ_next (fm x0) (fm x1) (fm x2) (fm x3) (fm x4) (fm x5) 2 3).symm
  refine put (gradQ (fm x0) (fm x1) (fm x2) (fm x3) (fm x4) (fm x5)) 8 26 3 2 256 384 (by decide) rfl rfl rfl rfl _ _ _ _ rfl ?_ ?_
  · simp only [r_277, r_278, r_286, r_287, r_288, r_289, r_290, r_291, r_292, r_293, rd16, rd32]
    exact (dq_next (tl x3 256 384) (tl x1 128 384) (tl x1 256 384) (tl x2 128 384) (tl x2 256 384) (tl x0 256 384) (tl x4 256 384) (tl x5 256 384)).trans (gradQ_next (fm x0) (fm x1) (fm x2) (fm x3) (fm x4) (fm x5) 1 3).symm
  refine put (gradQ (fm x0) (fm x1) (fm x2) (fm x3) (fm x4) (fm x5)) 8 25 3 1 128 384 (by decide) rfl rfl rfl rfl _ _ _ _ rfl ?_ ?_
  · simp only [r_266, r_267, r_275, r_276, r_277, r_278, r_279, r_280, r_281, r_282, rd16, rd32]
    exact (dq_next (tl x3 128 384) (tl x1 0 384) (tl x1 128 384) (tl x2 0 384) (tl x2 128 384) (tl x0 128 384) (tl x4 128 384) (tl x5 128 384)).trans (gradQ_next (fm x0) (fm x1) (fm x2) (fm x3) (fm x4) (fm x5) 0 3).symm
  refine put (gradQ (fm x0) (fm x1) (fm x2) (fm x3) (fm x4) (fm x5)) 8 24 3 0 0 384 (by decide) rfl rfl rfl rfl _ _ _ _ rfl ?_ ?_
  · simp only [r_264, r_265, r_266, r_267, r_268, r_269, r_270, r_271, rd16, rd32]
    exact (dq_first (tl x3 0 384) (tl x1 0 384) (tl x2 0 384) (tl x0 0 384) (tl x4 0 384) (tl x5 0 384)).trans (gradQ_first (fm x0) (fm x1) (fm x2) (fm x3) (fm x4) (fm x5) 3).symm
  refine put (gradQ (fm x0) (fm x1) (fm x2) (fm x3) (fm x4) (fm x5)) 8 23 2 7 896 256 (by decide) rfl rfl rfl rfl _ _ _ _ rfl ?_ ?_
  · simp only [r_244, r_245, r_253, r_254, r_255, r_256, r_257, r_258, r_259, r_260, rd16, rd32]
    exact (dq_next (tl x3 896 256) (tl x1 768 256) (tl x1 896 256) (tl x2 768 256) (tl x2 896 256) (tl x0 896 256) (tl x4 896 256) (tl x5 896 256)).trans (gradQ_next (fm x0) (fm x1) (fm x2) (fm x3) (fm x4) (fm x5) 6 2).symm
  refine put (gradQ (fm x0) (fm x1) (fm x2) (fm x3) (fm x4) (fm x5)) 8 22 2 6 768 256 (by decide) rfl rfl rfl rfl _ _ _ _ rfl ?_ ?_
  · simp only [r_233, r_234, r_242, r_243, r_244, r_245, r_246, r_247, r_248, r_249, rd16, rd32]
    exact (dq_next (tl x3 768 256) (tl x1 640 256) (tl x1 768 256) (tl x2 640 256) (tl x2 768 256) (tl x0 768 256) (tl x4 768 256) (tl x5 768 256)).trans (gradQ_next (fm x0) (fm x1) (fm x2) (fm x3) (fm x4) (fm x5) 5 2).symm
  refine put (gradQ (fm x0) (fm x1) (fm x2) (fm x3) (fm x4) (fm x5)) 8 21 2 5 640 256 (by decide) rfl rfl rfl rfl _ _ _ _ rfl ?_ ?_
  · simp only [r_222, r_223, r_231, r_232, r_233, r_234, r_235, r_236, r_237, r_238, rd16, rd32]
    exact (dq_next (tl x3 640 256) (tl x1 512 256) (tl x1 640 256) (tl x2 512 256) (tl x2 640 256) (tl x0 640 256) (tl x4 640 256) (tl x5 640 256)).trans (gradQ_next (fm x0) (fm x1) (fm x2) (fm x3) (fm x4) (fm x5) 4 2).symm
  refine put (gradQ (fm x0) (fm x1) (fm x2) (fm x3) (fm x4) (fm x5)) 8 20 2 4 512 256 (by decide) rfl rfl rfl rfl _ _ _ _ rfl ?_ ?_
  · simp only [r_211, r_212, r_220, r_221, r_222, r_223, r_224, r_225, r_226, r_227, rd16, rd32]
    exact (dq_next (tl x3 512 256) (tl x1 384 256) (tl x1 512 256) (tl x2 384 256) (tl x2 512 256) (tl x0 512 256) (tl x4 512 256) (tl x5 512 256)).trans (gradQ_next (fm x0) (fm x1) (fm x2) (fm x3) (fm x4) (fm x5) 3 2).symm
  refine put (gradQ (fm x0) (fm x1) (fm x2) (fm x3) (fm x4) (fm x5)) 8 19 2 3 384 256 (by decide) rfl rfl rfl rfl _ _ _ _ rfl ?_ ?_
  · simp only [r_200, r_201, r_209, r_210, r_211, r_212, r_213, r_214, r_215, r_216, rd16, rd32]
    exact (dq_next (tl x3 384 256) (tl x1 256 256) (tl x1 384 256) (tl x2 256 256) (tl x2 384 256) (tl x0 384 256) (tl x4 384 256) (tl x5 384 256)).trans (gradQ_next (fm x0) (fm x1) (fm x2) (fm x3) (fm x4) (fm x5) 2 2).symm
  refine put (gradQ (fm x0) (fm x1) (fm x2) (fm x3) (fm x4) (fm x5)) 8 18 2 2 256 256 (by decide) rfl rfl rfl rfl _ _ _ _ rfl ?_ ?_
  · simp only [r_189, r_190, r_198, r_199, r_200, r_201, r_202, r_203, r_204, r_205, rd16, rd32]
    exact (dq_next (tl x3 256 256) (tl x1 128 256) (tl x1 256 256) (tl x2 128 256) (tl x2 256 256) (tl x0 256 256) (tl x4 256 256) (tl x5 256 256)).trans (gradQ_next (fm x0) (fm x1) (fm x2) (fm x3) (fm x4) (fm x5) 1 2).symm
  refine put (gradQ (fm x0) (fm x1) (fm x2) (fm x3) (fm x4) (fm x5)) 8 17 2 1 128 256 (by decide) rfl rfl rfl rfl _ _ _ _ rfl ?_ ?_
  · simp only [r_178, r_179, r_187, r_188, r_189, r_190, r_191, r_192, r_193, r_194, rd16, rd32]
    exact (dq_next (tl x3 128 256) (tl x1 0 256) (tl x1 128 256) (tl x2 0 256) (tl x2 128 256) (tl x0 128 256) (tl x4 128 256) (tl x5 128 256)).trans (gradQ_next (fm x0) (fm x1) (fm x2) (fm x3) (fm x4) (fm x5) 0 2).symm
  refine put (gradQ (fm x0) (fm x1) (fm x2) (fm x3) (fm x4) (fm x5)) 8 16 2 0 0 256 (by decide) rfl rfl rfl rfl _ _ _ _ rfl ?_ ?_
  · simp only [r_176, r_177, r_178, r_179, r_180, r_181, r_182, r_183, rd16, rd32]
    exact (dq_first (tl x3 0 256) (tl x1 0 256) (tl x2 0 256) (tl x0 0 256) (tl x4 0 256) (tl x5 0 256)).trans (gradQ_first (fm x0) (fm x1) (fm x2) (fm x3) (fm x4) (fm x5) 2).symm
  refine put (gradQ (fm x0) (fm x1) (fm x2) (fm x3) (fm x4) (fm x5)) 8 15 1 7 896 128 (by decide) rfl rfl rfl rfl _ _ _ _ rfl ?_ ?_
  · simp only [r_156, r_157, r_165, r_166, r_167, r_168, r_169, r_170, r_171, r_172, rd16, rd32]
    exact (dq_next (tl x3 896 128) (tl x1 768 128) (tl x1 896 128) (tl x2 768 128) (tl x2 896 128) (tl x0 896 128) (tl x4 896 128) (tl x5 896 128)).trans (gradQ_next (fm x0) (fm x1) (fm x2) (fm x3) (fm x4) (fm x5) 6 1).symm
  refine put (gradQ (fm x0) (fm x1) (fm x2) (fm x3) (fm x4) (fm x5)) 8 14 1 6 768 128 (by decide) rfl rfl rfl rfl _ _ _ _ rfl ?_ ?_
  · simp only [r_145, r_146, r_154, r_155, r_156, r_157, r_158, r_159, r_160, r_161, rd16, rd32]
    exact (dq_next (tl x3 768 128) (tl x1 640 128) (tl x1 768 128) (tl x2 640 128) (tl x2 768 128) (tl x0 768 128) (tl x4 768 128) (tl x5 768 128)).trans (gradQ_next (fm x0) (fm x1) (fm x2) (fm x3) (fm x4) (fm x5) 5 1).symm
  refine put (gradQ (fm x0) (fm x1) (fm x2) (fm x3) (fm x4) (fm x5)) 8 13 1 5 640 128 (by decide) rfl rfl rfl rfl _ _ _ _ rfl ?_ ?_
  · simp only [r_134, r_135, r_143, r_144, r_145, r_146, r_147, r_148, r_149, r_150, rd16, rd32]
    exact (dq_next (tl x3 640 128) (tl x1 512 128) (tl x1 640 128) (tl x2 512 128) (tl x2 640 128) (tl x0 640 128) (tl x4 640 128) (tl x5 640 128)).trans (gradQ_next (fm x0) (fm x1) (fm x2) (fm x3) (fm x4) (fm x5) 4 1).symm
  refine put (gradQ (fm x0) (fm x1) (fm x2) (fm x3) (fm x4) (fm x5)) 8 12 1 4 512 128 (by decide) rfl rfl rfl rfl _ _ _ _ rfl ?_ ?_
  · simp only [r_123, r_124, r_132, r_133, r_134, r_135, r_136, r_137, r_138, r_139, rd16, rd32]
    exact (dq_next (tl x3 512 128) (tl x1 384 128) (tl x1 512 128) (tl x2 384 128) (tl x2 512 128) (tl x0 512 128) (tl x4 512 128) (tl x5 512 128)).trans (gradQ_next (fm x0) (fm x1) (fm x2) (fm x3) (fm x4) (fm x5) 3 1).symm
  refine put (gradQ (fm x0) (fm x1) (fm x2) (fm x3) (fm x4) (fm x5)) 8 11 1 3 384 128 (by decide) rfl rfl rfl rfl _ _ _ _ rfl ?_ ?_
  · simp only [r_112, r_113, r_121, r_122, r_123, r_124, r_125, r_126, r_127, r_128, rd16, rd32]
    exact (dq_next (tl x3 384 128) (tl x1 256 128) (tl x1 384 128) (tl x2 256 128) (tl x2 384 128) (tl x0 384 128) (tl x4 384 128) (tl x5 384 128)).trans (gradQ_next (fm x0) (fm x1) (fm x2) (fm x3) (fm x4) (fm x5) 2 1).symm
  refine put (gradQ (fm x0) (fm x1) (fm x2) (fm x3) (fm x4) (fm x5)) 8 10 1 2 256 128 (by decide) rfl rfl rfl rfl _ _ _ _ rfl ?_ ?_
  · simp only [r_101, r_102, r_110, r_111, r_112, r_113, r_114, r_115, r_116, r_117, rd16, rd32]
    exact (dq_next (tl x3 256 128) (tl x1 128 128) (tl x1 256 128) (tl x2 128 128) (tl x2 256 128) (tl x0 256 128) (tl x4 256 128) (tl x5 256 128)).trans (gradQ_next (fm x0) (fm x1) (fm x2) (fm x3) (fm x4) (fm x5) 1 1).symm
  refine put (gradQ (fm x0) (fm x1) (fm x2) (fm x3) (fm x4) (fm x5)) 8 9 1 1 128 128 (by decide) rfl rfl rfl rfl _ _ _ _ rfl ?_ ?_
  · simp only [r_90, r_91, r_99, r_100, r_101, r_102, r_103, r_104, r_105, r_106, rd16, rd32]
    exact (dq_next (tl x3 128 128) (tl x1 0 128) (tl x1 128 128) (tl x2 0 128) (tl x2 128 128) (tl x0 128 128) (tl x4 128 128) (tl x5 128 128)).trans (gradQ_next (fm x0) (fm x1) (fm x2) (fm x3) (fm x4) (fm x5) 0 1).symm
  refine put (gradQ (fm x0) (fm x1) (fm x2) (fm x3) (fm x4) (fm x5)) 8 8 1 0 0 128 (by decide) rfl rfl rfl rfl _ _ _ _ rfl ?_ ?_
  · simp only [r_88, r_89, r_90, r_91, r_92, r_93, r_94, r_95, rd16, rd32]
    exact (dq_first (tl x3 0 128) (tl x1 0 128) (tl x2 0 128) (tl x0 0 128) (tl x4 0 128) (tl x5 0 128)).trans (gradQ_first (fm x0) (fm x1) (fm x2) (fm x3) (fm x4) (fm x5) 1).symm
  refine put (gradQ (fm x0) (fm x1) (fm x2) (fm x3) (fm x4) (fm x5)) 8 7 0 7 896 0 (by decide) rfl rfl rfl rfl _ _ _ _ rfl ?_ ?_
  · simp only [r_68, r_69, r_77, r_78, r_79, r_80, r_81, r_82, r_83, r_84, rd16, rd32]
    exact (dq_next (tl x3 896 0) (tl x1 768 0) (tl x1 896 0) (tl x2 768 0) (tl x2 896 0) (tl x0 896 0) (tl x4 896 0) (tl x5 896 0)).trans (gradQ_next (fm x0) (fm x1) (fm x2) (fm x3) (fm x4) (fm x5) 6 0).symm
  refine put (gradQ (fm x0) (fm x1) (fm x2) (fm x3) (fm x4) (fm x5)) 8 6 0 6 768 0 (by decide) rfl rfl rfl rfl _ _ _ _ rfl ?_ ?_
  · simp only [r_57, r_58, r_66, r_67, r_68, r_69, r_70, r_71, r_72, r_73, rd16, rd32]
    exact (dq_next (tl x3 768 0) (tl x1 640 0) (tl x1 768 0) (tl x2 640 0) (tl x2 768 0) (tl x0 768 0) (tl x4 768 0) (tl x5 768 0)).trans (gradQ_next (fm x0) (fm x1) (fm x2) (fm x3) (fm x4) (fm x5) 5 0).symm
  refine put (gradQ (fm x0) (fm x1) (fm x2) (fm x3) (fm x4) (fm x5)) 8 5 0 5 640 0 (by decide) rfl rfl rfl rfl _ _ _ _ rfl ?_ ?_
  · simp only [r_46, r_47, r_55, r_56, r_57, r_58, r_59, r_60, r_61, r_62, rd16, rd32]
    exact (dq_next (tl x3 640 0) (tl x1 512 0) (tl x1 640 0) (tl x2 512 0) (tl x2 640 0) (tl x0 640 0) (tl x4 640 0) (tl x5 640 0)).trans (gradQ_next (fm x0) (fm x1) (fm x2) (fm x3) (fm x4) (fm x5) 4 0).symm
  refine put (gradQ (fm x0) (fm x1) (fm x2) (fm x3) (fm x4) (fm x5)) 8 4 0 4 512 0 (by decide) rfl rfl rfl rfl _ _ _ _ rfl ?_ ?_
  · simp only [r_35, r_36, r_44, r_45, r_46, r_47, r_48, r_49, r_50, r_51, rd16, rd32]
    exact (dq_next (tl x3 512 0) (tl x1 384 0) (tl x1 512 0) (tl x2 384 0) (tl x2 512 0) (tl x0 512 0) (tl x4 512 0) (tl x5 512 0)).trans (gradQ_next (fm x0) (fm x1) (fm x2) (fm x3) (fm x4) (fm x5) 3 0).symm
  refine put (gradQ (fm x0) (fm x1) (fm x2) (fm x3) (fm x4) (fm x5)) 8 3 0 3 384 0 (by decide) rfl rfl rfl rfl _ _ _ _ rfl ?_ ?_
  · simp only [r_24, r_25, r_33, r_34, r_35, r_36, r_37, r_38, r_39, r_40, rd16, rd32]
    exact (dq_next (tl x3 384 0) (tl x1 256 0) (tl x1 384 0) (tl x2 256 0) (tl x2 384 0) (tl x0 384 0) (tl x4 384 0) (tl x5 384 0)).trans (gradQ_next (fm x0) (fm x1) (fm x2) (fm x3) (fm x4) (fm x5) 2 0).symm
  refine put (gradQ (fm x0) (fm x1) (fm x2) (fm x3) (fm x4) (fm x5)) 8 2 0 2 256 0 (by decide) rfl rfl rfl rfl _ _ _ _ rfl ?_ ?_
  · simp only [r_13, r_14, r_22, r_23, r_24, r_25, r_26, r_27, r_28, r_29, rd16, rd32]
    exact (dq_next (tl x3 256 0) (tl x1 128 0) (tl x1 256 0) (tl x2 128 0) (tl x2 256 0) (tl x0 256 0) (tl x4 256 0) (tl x5 256 0)).trans (gradQ_next (fm x0) (fm x1) (fm x2) (fm x3) (fm x4) (fm x5) 1 0).symm
  refine put (gradQ (fm x0) (fm x1) (fm x2) (fm x3) (fm x4) (fm x5)) 8 1 0 1 128 0 (by decide) rfl rfl rfl rfl _ _ _ _ rfl ?_ ?_
  · simp only [r_2, r_3, r_11, r_12, r_13, r_14, r_15, r_16, r_17, r_18, rd16, rd32]
    exact (dq_next (tl x3 128 0) (tl x1 0 0) (tl x1 128 0) (tl x2 0 0) (tl x2 128 0) (tl x0 128 0) (tl x4 128 0) (tl x5 128 0)).trans (gradQ_next (fm x0) (fm x1) (fm x2) (fm x3) (fm x4) (fm x5) 0 0).symm
  refine put (gradQ (fm x0) (fm x1) (fm x2) (fm x3) (fm x4) (fm x5)) 8 0 0 0 0 0 (by decide) rfl rfl rfl rfl _ _ _ _ rfl ?_ (fun y h => absurd h (Nat.not_lt_zero _))
  · simp only [r, r_1, r_2, r_3, r_4, r_5, r_6, r_7, rd16, rd32]
    exact (dq_first (tl x3 0 0) (tl x1 0 0) (tl x2 0 0) (tl x0 0 0) (tl x4 0 0) (tl x5 0 0)).trans (gradQ_first (fm x0) (fm x1) (fm x2) (fm x3) (fm x4) (fm x5) 0).symm

end Cert.AttnBwd4

end
-- ==== Proof.AttnBwd4Dk.lean ====
/- The keys' gradient of a block, tile by tile. -/
module

public import proofs.«01_k».proof.Proof.AttnBwd4Read

@[expose] public section

set_option maxRecDepth 16384

noncomputable section

open Idealize.ShloMosaic Idealize.ShloMosaic.TcCoe Idealize.SL.Sem

namespace Cert.AttnBwd4

open Cert.AttnGen
open Cert.AttnBwd (dq_first dq_next dk_first dk_next dk_own dv_first dv_next dv_own)
open Cert.Kernel34Ideal Cert.Kernel34Ideal.Gen

open kernelRun0_A.sl

theorem dk_start (y : S1024x512.Idx) : View.canon (H7_1 (F := Ideal)) y = 0 := by
  have e : (Rect.unit (s := S1024x512) ![0, 0] S1024x512.size inb_S1024x512_S1024x512_0_0).emb y = y := by
    funext a
    apply Fin.ext
    fin_cases a
    · simp
    · simp
  conv_lhs => rw [← e]
  refine (View.canon_cons_emb (Rect.unit (s := S1024x512) ![0, 0] S1024x512.size inb_S1024x512_S1024x512_0_0) _ _ y).trans ?_
  idx_vars y
  pointwise [k0_pay5]

variable (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole)
  (x0 x1 x2 x3 : Vec Ideal S1024x512 .bf16) (x4 x5 : Vec Ideal S1024x512 .f32)

set_option maxHeartbeats 4000000 in
theorem dk_run (y : S1024x512.Idx) : View.canon (kernelRun0_A (F := Ideal) c i arg1 harg1 arg2 harg2 arg3 harg3 arg4 harg4 arg5 harg5 arg6 harg6 arg7 harg7 arg8 harg8 arg9 harg9 x0 x1 x2 x3 x4 x5).2.1 y = arr (total (ownK (fm x0) (fm x1) (fm x2) (fm x3) (fm x4) (fm x5)) (befK (fm x0) (fm x1) (fm x2) (fm x3) (fm x4) (fm x5)) 8) y := by
  refine Eq.trans ?_ (acc_end (ownK (fm x0) (fm x1) (fm x2) (fm x3) (fm x4) (fm x5)) (befK (fm x0) (fm x1) (fm x2) (fm x3) (fm x4) (fm x5)) 8 4 32 rfl rfl rfl y)
  revert y
  refine acc_next _ _ 8 31 3 6 768 896 384 (by decide) rfl rfl rfl rfl _ _ _ _ _ _ _ rfl rfl rfl (fun x => ?_) ?_
  · simp only [r_332, r_333, r_341, r_342, r_343, r_344, r_345, r_346, r_347, r_348, v2034, v2039, rd16, rd32, rdc]
    exact ⟨dk_next .., dk_own ..⟩
  refine acc_next _ _ 8 30 3 5 640 768 384 (by decide) rfl rfl rfl rfl _ _ _ _ _ _ _ rfl rfl rfl (fun x => ?_) ?_
  · simp only [r_321, r_322, r_330, r_331, r_332, r_333, r_334, r_335, r_336, r_337, v1970, v1975, rd16, rd32, rdc]
    exact ⟨dk_next .., dk_own ..⟩
  refine acc_next _ _ 8 29 3 4 512 640 384 (by decide) rfl rfl rfl rfl _ _ _ _ _ _ _ rfl rfl rfl (fun x => ?_) ?_
  · simp only [r_310, r_311, r_319, r_320, r_321, r_322, r_323, r_324, r_325, r_326, v1906, v1911, rd16, rd32, rdc]
    exact ⟨dk_next .., dk_own ..⟩
  refine acc_next _ _ 8 28 3 3 384 512 384 (by decide) rfl rfl rfl rfl _ _ _ _ _ _ _ rfl rfl rfl (fun x => ?_) ?_
  · simp only [r_299, r_300, r_308, r_309, r_310, r_311, r_312, r_313, r_314, r_315, v1842, v1847, rd16, rd32, rdc]
    exact ⟨dk_next .., dk_own ..⟩
  refine acc_next _ _ 8 27 3 2 256 384 384 (by decide) rfl rfl rfl rfl _ _ _ _ _ _ _ rfl rfl rfl (fun x => ?_) ?_
  · simp only [r_288, r_289, r_297, r_298, r_299, r_300, r_301, r_302, r_303, r_304, v1778, v1783, rd16, rd32, rdc]
    exact ⟨dk_next .., dk_own ..⟩
  refine acc_next _ _ 8 26 3 1 128 256 384 (by decide) rfl rfl rfl rfl _ _ _ _ _ _ _ rfl rfl rfl (fun x => ?_) ?_
  · simp only [r_277, r_278, r_286, r_287, r_288, r_289, r_290, r_291, r_292, r_293, v1714, v1719, rd16, rd32, rdc]
    exact ⟨dk_next .., dk_own ..⟩
  refine acc_next _ _ 8 25 3 0 0 128 384 (by decide) rfl rfl rfl rfl _ _ _ _ _ _ _ rfl rfl rfl (fun x => ?_) ?_
  · simp only [r_266, r_267, r_275, r_276, r_277, r_278, r_279, r_280, r_281, r_282, v1650, v1655, rd16, rd32, rdc]
    exact ⟨dk_next .., dk_own ..⟩
  refine acc_first _ _ 8 24 3 0 384 (by decide) rfl rfl rfl _ _ _ _ _ _ _ rfl rfl rfl (fun x => ?_) ?_
  · simp only [r_264, r_265, r_266, r_267, r_268, r_269, r_270, r_271, v1586, v1591, rd16, rd32, rdc]
    exact ⟨dk_first .., dk_own ..⟩
  refine acc_next _ _ 8 23 2 6 768 896 256 (by decide) rfl rfl rfl rfl _ _ _ _ _ _ _ rfl rfl rfl (fun x => ?_) ?_
  · simp only [r_244, r_245, r_253, r_254, r_255, r_256, r_257, r_258, r_259, r_260, v1522, v1527, rd16, rd32, rdc]
    exact ⟨dk_next .., dk_own ..⟩
  refine acc_next _ _ 8 22 2 5 640 768 256 (by decide) rfl rfl rfl rfl _ _ _ _ _ _ _ rfl rfl rfl (fun x => ?_) ?_
  · simp only [r_233, r_234, r_242, r_243, r_244, r_245, r_246, r_247, r_248, r_249, v1458, v1463, rd16, rd32, rdc]
    exact ⟨dk_next .., dk_own ..⟩
  refine acc_next _ _ 8 21 2 4 512 640 256 (by decide) rfl rfl rfl rfl _ _ _ _ _ _ _ rfl rfl rfl (fun x => ?_) ?_
  · simp only [r_222, r_223, r_231, r_232, r_233, r_234, r_235, r_236, r_237, r_238, v1394, v1399, rd16, rd32, rdc]
    exact ⟨dk_next .., dk_own ..⟩
  refine acc_next _ _ 8 20 2 3 384 512 256 (by decide) rfl rfl rfl rfl _ _ _ _ _ _ _ rfl rfl rfl (fun x => ?_) ?_
  · simp only [r_211, r_212, r_220, r_221, r_222, r_223, r_224, r_225, r_226, r_227, v1330, v1335, rd16, rd32, rdc]
    exact ⟨dk_next .., dk_own ..⟩
  refine acc_next _ _ 8 19 2 2 256 384 256 (by decide) rfl rfl rfl rfl _ _ _ _ _ _ _ rfl rfl rfl (fun x => ?_) ?_
  · simp only [r_200, r_201, r_209, r_210, r_211, r_212, r_213, r_214, r_215, r_216, v1266, v1271, rd16, rd32, rdc]
    exact ⟨dk_next .., dk_own ..⟩
  refine acc_next _ _ 8 18 2 1 128 256 256 (by decide) rfl rfl rfl rfl _ _ _ _ _ _ _ rfl rfl rfl (fun x => ?_) ?_
  · simp only [r_189, r_190, r_198, r_199, r_200, r_201, r_202, r_203, r_204, r_205, v1202, v1207, rd16, rd32, rdc]
    exact ⟨dk_next .., dk_own ..⟩
  refine acc_next _ _ 8 17 2 0 0 128 256 (by decide) rfl rfl rfl rfl _ _ _ _ _ _ _ rfl rfl rfl (fun x => ?_) ?_
  · simp only [r_178, r_179, r_187, r_188, r_189, r_190, r_191, r_192, r_193, r_194, v1138, v1143, rd16, rd32, rdc]
    exact ⟨dk_next .., dk_own ..⟩
  refine acc_first _ _ 8 16 2 0 256 (by decide) rfl rfl rfl _ _ _ _ _ _ _ rfl rfl rfl (fun x => ?_) ?_
  · simp only [r_176, r_177, r_178, r_179, r_180, r_181, r_182, r_183, v1074, v1079, rd16, rd32, rdc]
    exact ⟨dk_first .., dk_own ..⟩
  refine acc_next _ _ 8 15 1 6 768 896 128 (by decide) rfl rfl rfl rfl _ _ _ _ _ _ _ rfl rfl rfl (fun x => ?_) ?_
  · simp only [r_156, r_157, r_165, r_166, r_167, r_168, r_169, r_170, r_171, r_172, v1010, v1015, rd16, rd32, rdc]
    exact ⟨dk_next .., dk_own ..⟩
  refine acc_next _ _ 8 14 1 5 640 768 128 (by decide) rfl rfl rfl rfl _ _ _ _ _ _ _ rfl rfl rfl (fun x => ?_) ?_
  · simp only [r_145, r_146, r_154, r_155, r_156, r_157, r_158, r_159, r_160, r_161, v946, v951, rd16, rd32, rdc]
    exact ⟨dk_next .., dk_own ..⟩
  refine acc_next _ _ 8 13 1 4 512 640 128 (by decide) rfl rfl rfl rfl _ _ _ _ _ _ _ rfl rfl rfl (fun x => ?_) ?_
  · simp only [r_134, r_135, r_143, r_144, r_145, r_146, r_147, r_148, r_149, r_150, v882, v887, rd16, rd32, rdc]
    exact ⟨dk_next .., dk_own ..⟩
  refine acc_next _ _ 8 12 1 3 384 512 128 (by decide) rfl rfl rfl rfl _ _ _ _ _ _ _ rfl rfl rfl (fun x => ?_) ?_
  · simp only [r_123, r_124, r_132, r_133, r_134, r_135, r_136, r_137, r_138, r_139, v818, v823, rd16, rd32, rdc]
    exact ⟨dk_next .., dk_own ..⟩
  refine acc_next _ _ 8 11 1 2 256 384 128 (by decide) rfl rfl rfl rfl _ _ _ _ _ _ _ rfl rfl rfl (fun x => ?_) ?_
  · simp only [r_112, r_113, r_121, r_122, r_123, r_124, r_125, r_126, r_127, r_128, v754, v759, rd16, rd32, rdc]
    exact ⟨dk_next .., dk_own ..⟩
  refine acc_next _ _ 8 10 1 1 128 256 128 (by decide) rfl rfl rfl rfl _ _ _ _ _ _ _ rfl rfl rfl (fun x => ?_) ?_
  · simp only [r_101, r_102, r_110, r_111, r_112, r_113, r_114, r_115, r_116, r_117, v690, v695, rd16, rd32, rdc]
    exact ⟨dk_next .., dk_own ..⟩
  refine acc_next _ _ 8 9 1 0 0 128 128 (by decide) rfl rfl rfl rfl _ _ _ _ _ _ _ rfl rfl rfl (fun x => ?_) ?_
  · simp only [r_90, r_91, r_99, r_100, r_101, r_102, r_103, r_104, r_105, r_106, v626, v631, rd16, rd32, rdc]
    exact ⟨dk_next .., dk_own ..⟩
  refine acc_first _ _ 8 8 1 0 128 (by decide) rfl rfl rfl _ _ _ _ _ _ _ rfl rfl rfl (fun x => ?_) ?_
  · simp only [r_88, r_89, r_90, r_91, r_92, r_93, r_94, r_95, v562, v567, rd16, rd32, rdc]
    exact ⟨dk_first .., dk_own ..⟩
  refine acc_next _ _ 8 7 0 6 768 896 0 (by decide) rfl rfl rfl rfl _ _ _ _ _ _ _ rfl rfl rfl (fun x => ?_) ?_
  · simp only [r_68, r_69, r_77, r_78, r_79, r_80, r_81, r_82, r_83, r_84, v498, v503, rd16, rd32, rdc]
    exact ⟨dk_next .., dk_own ..⟩
  refine acc_next _ _ 8 6 0 5 640 768 0 (by decide) rfl rfl rfl rfl _ _ _ _ _ _ _ rfl rfl rfl (fun x => ?_) ?_
  · simp only [r_57, r_58, r_66, r_67, r_68, r_69, r_70, r_71, r_72, r_73, v434, v439, rd16, rd32, rdc]
    exact ⟨dk_next .., dk_own ..⟩
  refine acc_next _ _ 8 5 0 4 512 640 0 (by decide) rfl rfl rfl rfl _ _ _ _ _ _ _ rfl rfl rfl (fun x => ?_) ?_
  · simp only [r_46, r_47, r_55, r_56, r_57, r_58, r_59, r_60, r_61, r_62, v370, v375, rd16, rd32, rdc]
    exact ⟨dk_next .., dk_own ..⟩
  refine acc_next _ _ 8 4 0 3 384 512 0 (by decide) rfl rfl rfl rfl _ _ _ _ _ _ _ rfl rfl rfl (fun x => ?_) ?_
  · simp only [r_35, r_36, r_44, r_45, r_46, r_47, r_48, r_49, r_50, r_51, v306, v311, rd16, rd32, rdc]
    exact ⟨dk_next .., dk_own ..⟩
  refine acc_next _ _ 8 3 0 2 256 384 0 (by decide) rfl rfl rfl rfl _ _ _ _ _ _ _ rfl rfl rfl (fun x => ?_) ?_
  · simp only [r_24, r_25, r_33, r_34, r_35, r_36, r_37, r_38, r_39, r_40, v242, v247, rd16, rd32, rdc]
    exact ⟨dk_next .., dk_own ..⟩
  refine acc_next _ _ 8 2 0 1 128 256 0 (by decide) rfl rfl rfl rfl _ _ _ _ _ _ _ rfl rfl rfl (fun x => ?_) ?_
  · simp only [r_13, r_14, r_22, r_23, r_24, r_25, r_26, r_27, r_28, r_29, v178, v183, rd16, rd32, rdc]
    exact ⟨dk_next .., dk_own ..⟩
  refine acc_next _ _ 8 1 0 0 0 128 0 (by decide) rfl rfl rfl rfl _ _ _ _ _ _ _ rfl rfl rfl (fun x => ?_) ?_
  · simp only [r_2, r_3, r_11, r_12, r_13, r_14, r_15, r_16, r_17, r_18, v114, v119, rd16, rd32, rdc]
    exact ⟨dk_next .., dk_own ..⟩
  refine acc_first _ _ 8 0 0 0 0 (by decide) rfl rfl rfl _ _ _ _ _ _ _ rfl rfl rfl (fun x => ?_) ?_
  · simp only [r, r_1, r_2, r_3, r_4, r_5, r_6, r_7, v50, v55, rd16, rd32, rdc]
    exact ⟨dk_first .., dk_own ..⟩
  exact fun y => (dk_start y).trans (acc_start ..).symm

end Cert.AttnBwd4

end
-- ==== Proof.AttnBwd4Dv.lean ====
/- The values' gradient of a block, tile by tile. -/
module

public import proofs.«01_k».proof.Proof.AttnBwd4Read

@[expose] public section

set_option maxRecDepth 16384

noncomputable section

open Idealize.ShloMosaic Idealize.ShloMosaic.TcCoe Idealize.SL.Sem

namespace Cert.AttnBwd4

open Cert.AttnGen
open Cert.AttnBwd (dq_first dq_next dk_first dk_next dk_own dv_first dv_next dv_own)
open Cert.Kernel34Ideal Cert.Kernel34Ideal.Gen

open kernelRun0_A.sl

theorem dv_start (y : S1024x512.Idx) : View.canon (H8_1 (F := Ideal)) y = 0 := by
  have e : (Rect.unit (s := S1024x512) ![0, 0] S1024x512.size inb_S1024x512_S1024x512_0_0).emb y = y := by
    funext a
    apply Fin.ext
    fin_cases a
    · simp
    · simp
  conv_lhs => rw [← e]
  refine (View.canon_cons_emb (Rect.unit (s := S1024x512) ![0, 0] S1024x512.size inb_S1024x512_S1024x512_0_0) _ _ y).trans ?_
  idx_vars y
  pointwise [k0_pay6]

variable (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole)
  (x0 x1 x2 x3 : Vec Ideal S1024x512 .bf16) (x4 x5 : Vec Ideal S1024x512 .f32)

set_option maxHeartbeats 4000000 in
theorem dv_run (y : S1024x512.Idx) : View.canon (kernelRun0_A (F := Ideal) c i arg1 harg1 arg2 harg2 arg3 harg3 arg4 harg4 arg5 harg5 arg6 harg6 arg7 harg7 arg8 harg8 arg9 harg9 x0 x1 x2 x3 x4 x5).2.2.1 y = arr (total (ownV (fm x0) (fm x1) (fm x3) (fm x4)) (befV (fm x0) (fm x1) (fm x3) (fm x4)) 8) y := by
  refine Eq.trans ?_ (acc_end (ownV (fm x0) (fm x1) (fm x3) (fm x4)) (befV (fm x0) (fm x1) (fm x3) (fm x4)) 8 4 32 rfl rfl rfl y)
  revert y
  refine acc_next _ _ 8 31 3 6 768 896 384 (by decide) rfl rfl rfl rfl _ _ _ _ _ _ _ rfl rfl rfl (fun x => ?_) ?_
  · simp only [r_332, r_333, r_341, r_342, r_343, r_344, r_345, r_346, r_347, r_348, r_349, r_350, r_351, v2044, v2050, rd16, rd32, rdc]
    exact ⟨dv_next .., dv_own ..⟩
  refine acc_next _ _ 8 30 3 5 640 768 384 (by decide) rfl rfl rfl rfl _ _ _ _ _ _ _ rfl rfl rfl (fun x => ?_) ?_
  · simp only [r_321, r_322, r_330, r_331, r_332, r_333, r_334, r_335, r_336, r_337, r_338, r_339, r_340, v1980, v1986, rd16, rd32, rdc]
    exact ⟨dv_next .., dv_own ..⟩
  refine acc_next _ _ 8 29 3 4 512 640 384 (by decide) rfl rfl rfl rfl _ _ _ _ _ _ _ rfl rfl rfl (fun x => ?_) ?_
  · simp only [r_310, r_311, r_319, r_320, r_321, r_322, r_323, r_324, r_325, r_326, r_327, r_328, r_329, v1916, v1922, rd16, rd32, rdc]
    exact ⟨dv_next .., dv_own ..⟩
  refine acc_next _ _ 8 28 3 3 384 512 384 (by decide) rfl rfl rfl rfl _ _ _ _ _ _ _ rfl rfl rfl (fun x => ?_) ?_
  · simp only [r_299, r_300, r_308, r_309, r_310, r_311, r_312, r_313, r_314, r_315, r_316, r_317, r_318, v1852, v1858, rd16, rd32, rdc]
    exact ⟨dv_next .., dv_own ..⟩
  refine acc_next _ _ 8 27 3 2 256 384 384 (by decide) rfl rfl rfl rfl _ _ _ _ _ _ _ rfl rfl rfl (fun x => ?_) ?_
  · simp only [r_288, r_289, r_297, r_298, r_299, r_300, r_301, r_302, r_303, r_304, r_305, r_306, r_307, v1788, v1794, rd16, rd32, rdc]
    exact ⟨dv_next .., dv_own ..⟩
  refine acc_next _ _ 8 26 3 1 128 256 384 (by decide) rfl rfl rfl rfl _ _ _ _ _ _ _ rfl rfl rfl (fun x => ?_) ?_
  · simp only [r_277, r_278, r_286, r_287, r_288, r_289, r_290, r_291, r_292, r_293, r_294, r_295, r_296, v1724, v1730, rd16, rd32, rdc]
    exact ⟨dv_next .., dv_own ..⟩
  refine acc_next _ _ 8 25 3 0 0 128 384 (by decide) rfl rfl rfl rfl _ _ _ _ _ _ _ rfl rfl rfl (fun x => ?_) ?_
  · simp only [r_266, r_267, r_275, r_276, r_277, r_278, r_279, r_280, r_281, r_282, r_283, r_284, r_285, v1660, v1666, rd16, rd32, rdc]
    exact ⟨dv_next .., dv_own ..⟩
  refine acc_first _ _ 8 24 3 0 384 (by decide) rfl rfl rfl _ _ _ _ _ _ _ rfl rfl rfl (fun x => ?_) ?_
  · simp only [r_264, r_265, r_266, r_267, r_268, r_269, r_270, r_271, r_272, r_273, r_274, v1596, v1602, rd16, rd32, rdc]
    exact ⟨dv_first .., dv_own ..⟩
  refine acc_next _ _ 8 23 2 6 768 896 256 (by decide) rfl rfl rfl rfl _ _ _ _ _ _ _ rfl rfl rfl (fun x => ?_) ?_
  · simp only [r_244, r_245, r_253, r_254, r_255, r_256, r_257, r_258, r_259, r_260, r_261, r_262, r_263, v1532, v1538, rd16, rd32, rdc]
    exact ⟨dv_next .., dv_own ..⟩
  refine acc_next _ _ 8 22 2 5 640 768 256 (by decide) rfl rfl rfl rfl _ _ _ _ _ _ _ rfl rfl rfl (fun x => ?_) ?_
  · simp only [r_233, r_234, r_242, r_243, r_244, r_245, r_246, r_247, r_248, r_249, r_250, r_251, r_252, v1468, v1474, rd16, rd32, rdc]
    exact ⟨dv_next .., dv_own ..⟩
  refine acc_next _ _ 8 21 2 4 512 640 256 (by decide) rfl rfl rfl rfl _ _ _ _ _ _ _ rfl rfl rfl (fun x => ?_) ?_
  · simp only [r_222, r_223, r_231, r_232, r_233, r_234, r_235, r_236, r_237, r_238, r_239, r_240, r_241, v1404, v1410, rd16, rd32, rdc]
    exact ⟨dv_next .., dv_own ..⟩
  refine acc_next _ _ 8 20 2 3 384 512 256 (by decide) rfl rfl rfl rfl _ _ _ _ _ _ _ rfl rfl rfl (fun x => ?_) ?_
  · simp only [r_211, r_212, r_220, r_221, r_222, r_223, r_224, r_225, r_226, r_227, r_228, r_229, r_230, v1340, v1346, rd16, rd32, rdc]
    exact ⟨dv_next .., dv_own ..⟩
  refine acc_next _ _ 8 19 2 2 256 384 256 (by decide) rfl rfl rfl rfl _ _ _ _ _ _ _ rfl rfl rfl (fun x => ?_) ?_
  · simp only [r_200, r_201, r_209, r_210, r_211, r_212, r_213, r_214, r_215, r_216, r_217, r_218, r_219, v1276, v1282, rd16, rd32, rdc]
    exact ⟨dv_next .., dv_own ..⟩
  refine acc_next _ _ 8 18 2 1 128 256 256 (by decide) rfl rfl rfl rfl _ _ _ _ _ _ _ rfl rfl rfl (fun x => ?_) ?_
  · simp only [r_189, r_190, r_198, r_199, r_200, r_201, r_202, r_203, r_204, r_205, r_206, r_207, r_208, v1212, v1218, rd16, rd32, rdc]
    exact ⟨dv_next .., dv_own ..⟩
  refine acc_next _ _ 8 17 2 0 0 128 256 (by decide) rfl rfl rfl rfl _ _ _ _ _ _ _ rfl rfl rfl (fun x => ?_) ?_
  · simp only [r_178, r_179, r_187, r_188, r_189, r_190, r_191, r_192, r_193, r_194, r_195, r_196, r_197, v1148, v1154, rd16, rd32, rdc]
    exact ⟨dv_next .., dv_own ..⟩
  refine acc_first _ _ 8 16 2 0 256 (by decide) rfl rfl rfl _ _ _ _ _ _ _ rfl rfl rfl (fun x => ?_) ?_
  · simp only [r_176, r_177, r_178, r_179, r_180, r_181, r_182, r_183, r_184, r_185, r_186, v1084, v1090, rd16, rd32, rdc]
    exact ⟨dv_first .., dv_own ..⟩
  refine acc_next _ _ 8 15 1 6 768 896 128 (by decide) rfl rfl rfl rfl _ _ _ _ _ _ _ rfl rfl rfl (fun x => ?_) ?_
  · simp only [r_156, r_157, r_165, r_166, r_167, r_168, r_169, r_170, r_171, r_172, r_173, r_174, r_175, v1020, v1026, rd16, rd32, rdc]
    exact ⟨dv_next .., dv_own ..⟩
  refine acc_next _ _ 8 14 1 5 640 768 128 (by decide) rfl rfl rfl rfl _ _ _ _ _ _ _ rfl rfl rfl (fun x => ?_) ?_
  · simp only [r_145, r_146, r_154, r_155, r_156, r_157, r_158, r_159, r_160, r_161, r_162, r_163, r_164, v956, v962, rd16, rd32, rdc]
    exact ⟨dv_next .., dv_own ..⟩
  refine acc_next _ _ 8 13 1 4 512 640 128 (by decide) rfl rfl rfl rfl _ _ _ _ _ _ _ rfl rfl rfl (fun x => ?_) ?_
  · simp only [r_134, r_135, r_143, r_144, r_145, r_146, r_147, r_148, r_149, r_150, r_151, r_152, r_153, v892, v898, rd16, rd32, rdc]
    exact ⟨dv_next .., dv_own ..⟩
  refine acc_next _ _ 8 12 1 3 384 512 128 (by decide) rfl rfl rfl rfl _ _ _ _ _ _ _ rfl rfl rfl (fun x => ?_) ?_
  · simp only [r_123, r_124, r_132, r_133, r_134, r_135, r_136, r_137, r_138, r_139, r_140, r_141, r_142, v828, v834, rd16, rd32, rdc]
    exact ⟨dv_next .., dv_own ..⟩
  refine acc_next _ _ 8 11 1 2 256 384 128 (by decide) rfl rfl rfl rfl _ _ _ _ _ _ _ rfl rfl rfl (fun x => ?_) ?_
  · simp only [r_112, r_113, r_121, r_122, r_123, r_124, r_125, r_126, r_127, r_128, r_129, r_130, r_131, v764, v770, rd16, rd32, rdc]
    exact ⟨dv_next .., dv_own ..⟩
  refine acc_next _ _ 8 10 1 1 128 256 128 (by decide) rfl rfl rfl rfl _ _ _ _ _ _ _ rfl rfl rfl (fun x => ?_) ?_
  · simp only [r_101, r_102, r_110, r_111, r_112, r_113, r_114, r_115, r_116, r_117, r_118, r_119, r_120, v700, v706, rd16, rd32, rdc]
    exact ⟨dv_next .., dv_own ..⟩
  refine acc_next _ _ 8 9 1 0 0 128 128 (by decide) rfl rfl rfl rfl _ _ _ _ _ _ _ rfl rfl rfl (fun x => ?_) ?_
  · simp only [r_90, r_91, r_99, r_100, r_101, r_102, r_103, r_104, r_105, r_106, r_107, r_108, r_109, v636, v642, rd16, rd32, rdc]
    exact ⟨dv_next .., dv_own ..⟩
  refine acc_first _ _ 8 8 1 0 128 (by decide) rfl rfl rfl _ _ _ _ _ _ _ rfl rfl rfl (fun x => ?_) ?_
  · simp only [r_88, r_89, r_90, r_91, r_92, r_93, r_94, r_95, r_96, r_97, r_98, v572, v578, rd16, rd32, rdc]
    exact ⟨dv_first .., dv_own ..⟩
  refine acc_next _ _ 8 7 0 6 768 896 0 (by decide) rfl rfl rfl rfl _ _ _ _ _ _ _ rfl rfl rfl (fun x => ?_) ?_
  · simp only [r_68, r_69, r_77, r_78, r_79, r_80, r_81, r_82, r_83, r_84, r_85, r_86, r_87, v508, v514, rd16, rd32, rdc]
    exact ⟨dv_next .., dv_own ..⟩
  refine acc_next _ _ 8 6 0 5 640 768 0 (by decide) rfl rfl rfl rfl _ _ _ _ _ _ _ rfl rfl rfl (fun x => ?_) ?_
  · simp only [r_57, r_58, r_66, r_67, r_68, r_69, r_70, r_71, r_72, r_73, r_74, r_75, r_76, v444, v450, rd16, rd32, rdc]
    exact ⟨dv_next .., dv_own ..⟩
  refine acc_next _ _ 8 5 0 4 512 640 0 (by decide) rfl rfl rfl rfl _ _ _ _ _ _ _ rfl rfl rfl (fun x => ?_) ?_
  · simp only [r_46, r_47, r_55, r_56, r_57, r_58, r_59, r_60, r_61, r_62, r_63, r_64, r_65, v380, v386, rd16, rd32, rdc]
    exact ⟨dv_next .., dv_own ..⟩
  refine acc_next _ _ 8 4 0 3 384 512 0 (by decide) rfl rfl rfl rfl _ _ _ _ _ _ _ rfl rfl rfl (fun x => ?_) ?_
  · simp only [r_35, r_36, r_44, r_45, r_46, r_47, r_48, r_49, r_50, r_51, r_52, r_53, r_54, v316, v322, rd16, rd32, rdc]
    exact ⟨dv_next .., dv_own ..⟩
  refine acc_next _ _ 8 3 0 2 256 384 0 (by decide) rfl rfl rfl rfl _ _ _ _ _ _ _ rfl rfl rfl (fun x => ?_) ?_
  · simp only [r_24, r_25, r_33, r_34, r_35, r_36, r_37, r_38, r_39, r_40, r_41, r_42, r_43, v252, v258, rd16, rd32, rdc]
    exact ⟨dv_next .., dv_own ..⟩
  refine acc_next _ _ 8 2 0 1 128 256 0 (by decide) rfl rfl rfl rfl _ _ _ _ _ _ _ rfl rfl rfl (fun x => ?_) ?_
  · simp only [r_13, r_14, r_22, r_23, r_24, r_25, r_26, r_27, r_28, r_29, r_30, r_31, r_32, v188, v194, rd16, rd32, rdc]
    exact ⟨dv_next .., dv_own ..⟩
  refine acc_next _ _ 8 1 0 0 0 128 0 (by decide) rfl rfl rfl rfl _ _ _ _ _ _ _ rfl rfl rfl (fun x => ?_) ?_
  · simp only [r_2, r_3, r_11, r_12, r_13, r_14, r_15, r_16, r_17, r_18, r_19, r_20, r_21, v124, v130, rd16, rd32, rdc]
    exact ⟨dv_next .., dv_own ..⟩
  refine acc_first _ _ 8 0 0 0 0 (by decide) rfl rfl rfl _ _ _ _ _ _ _ rfl rfl rfl (fun x => ?_) ?_
  · simp only [r, r_1, r_2, r_3, r_4, r_5, r_6, r_7, r_8, r_9, r_10, v60, v66, rd16, rd32, rdc]
    exact ⟨dv_first .., dv_own ..⟩
  exact fun y => (dv_start y).trans (acc_start ..).symm

end Cert.AttnBwd4

end
-- ==== Proof.AttnBwd4.lean ====
/- The arrays this gradient leaves, and the two programs side by side. -/
module

public import proofs.«01_k».proof.Proof.Gen.Kernel34Ideal.Value
public import proofs.«01_k».proof.Proof.AttnRef4
public import proofs.«01_k».proof.Proof.AttnBwd4Dq
public import proofs.«01_k».proof.Proof.AttnBwd4Dk
public import proofs.«01_k».proof.Proof.AttnBwd4Dv
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.AttnBwd4

open Cert.AttnGen

abbrev Arr : Type := Blk 1024 4096

abbrev Num : Type := Blk 1024 32

/-- The gradients, as arrays. -/
def GQ (Q K W O : Arr) (E D : Num) : Arr := arr (gradQ (fam Q) (fam K) (fam W) (fam O) (num E) (num D))
def GK (Q K W O : Arr) (E D : Num) : Arr :=
  arr (total (ownK (fam Q) (fam K) (fam W) (fam O) (num E) (num D)) (befK (fam Q) (fam K) (fam W) (fam O) (num E) (num D)) 8)
def GV (Q K O : Arr) (E : Num) : Arr := arr (total (ownV (fam Q) (fam K) (fam O) (num E)) (befV (fam Q) (fam K) (fam O) (num E)) 8)

def Holds (x : B) (X : Arr) (t : ℕ) : Prop := ∀ (a : Fin 1024) (b : Fin 512) (h : 512 * t + b.val < 4096), x (ix2 a b) = X (ix2 a ⟨512 * t + b.val, h⟩)

def Counts (x : B) (E : Num) (t : ℕ) : Prop := ∀ (a : Fin 1024) (b : Fin 512) (h : (512 * t + b.val) / 128 < 32), x (ix2 a b) = E (ix2 a ⟨(512 * t + b.val) / 128, h⟩)

section

variable {q k v u l e : B} {Q K W O : Arr} {E D : Num} {t : ℕ} (hq : Holds q Q t) (hk : Holds k K t) (hv : Holds v W t) (hu : Holds u O t)
  (hl : Counts l E t) (he : Counts e D t) (ht : t < 8) (y0 : Fin 1024) (y1 : Fin 512) (h : 512 * t + y1.val < 4096)

include ht

theorem th {x : B} {X : Arr} (H : Holds x X t) {c : ℕ} (hc : c < 4) : ∀ p < 8, fam x p c = fam X p (4 * t + c) := fun _ _ =>
  tile_holds H rfl (by omega) hc

theorem tc {x : B} {X : Num} (H : Counts x X t) {c : ℕ} (hc : c < 4) : ∀ p < 8, fam x p c = num X p (4 * t + c) := fun _ _ =>
  tile_counts H rfl (by omega) hc

include hq hk hv hu hl he

theorem dq_block : (arr (gradQ (fm q) (fm k) (fm v) (fm u) (fm l) (fm e)) : B) (ix2 y0 y1) = GQ Q K W O E D (ix2 y0 ⟨512 * t + y1.val, h⟩) :=
  arr_block _ _ t 8 4 rfl rfl y0 y1 h fun p hp c hc =>
    gradQ_shift (th ht hq hc) (th ht hk hc) (th ht hv hc) (th ht hu hc) (tc ht hl hc) (tc ht he hc) p hp

theorem dk_block : (arr (total (ownK (fm q) (fm k) (fm v) (fm u) (fm l) (fm e)) (befK (fm q) (fm k) (fm v) (fm u) (fm l) (fm e)) 8) : B) (ix2 y0 y1)
    = GK Q K W O E D (ix2 y0 ⟨512 * t + y1.val, h⟩) :=
  arr_block _ _ t 8 4 rfl rfl y0 y1 h fun p hp c hc =>
    gradK_shift (th ht hq hc) (th ht hk hc) (th ht hv hc) (th ht hu hc) (tc ht hl hc) (tc ht he hc) p hp

omit hv he

theorem dv_block : (arr (total (ownV (fm q) (fm k) (fm u) (fm l)) (befV (fm q) (fm k) (fm u) (fm l)) 8) : B) (ix2 y0 y1)
    = GV Q K O E (ix2 y0 ⟨512 * t + y1.val, h⟩) :=
  arr_block _ _ t 8 4 rfl rfl y0 y1 h fun p hp c hc => gradV_shift (th ht hq hc) (th ht hk hc) (th ht hu hc) (tc ht hl hc) p hp

end

section kernel

open Cert.Kernel34Ideal Cert.Kernel34Ideal.Gen

variable (m : (ℓ : Loc nD τ sig) → Buf (Elt Ideal) ℓ)

theorem idx : ∀ t : Fin cfg0.N, (win0_0.index t = ![0, t.val] ∧ win0_1.index t = ![0, t.val] ∧ win0_2.index t = ![0, t.val])
    ∧ (win0_3.index t = ![0, t.val] ∧ win0_4.index t = ![0, t.val] ∧ win0_5.index t = ![0, t.val])
    ∧ (win0_6.index t = ![0, t.val] ∧ win0_7.index t = ![0, t.val] ∧ win0_8.index t = ![0, t.val]) ∧ t.val < 8 :=
  (by decide +kernel : ∀ t : Fin grid0.N, _)

abbrev X0 (c : Dev nD) : FVec Ideal S1024x4096 .bf16 := m ((c : Thread nD τ).loc main_arg0)
abbrev X1 (c : Dev nD) : FVec Ideal S1024x4096 .bf16 := m ((c : Thread nD τ).loc main_arg1)
abbrev X2 (c : Dev nD) : FVec Ideal S1024x4096 .bf16 := m ((c : Thread nD τ).loc main_arg2)
abbrev X3 (c : Dev nD) : FVec Ideal S1024x4096 .bf16 := m ((c : Thread nD τ).loc main_arg3)
abbrev X4 (c : Dev nD) : FVec Ideal S1024x32 .f32 := m ((c : Thread nD τ).loc main_arg4)
abbrev X5 (c : Dev nD) : FVec Ideal S1024x32 .f32 := m ((c : Thread nD τ).loc main_arg5)

theorem host4 (c : Dev nD) (a : Fin 1024) (b : Fin 4096) :
    (V m c main_v2 : FVec Ideal S1024x4096 .f32) (ix2 a b) = X4 m c (ix2 a (⟨b.val / 128, by omega⟩ : Fin 32)) := by
  have e : (V m c main_v2 : FVec Ideal S1024x4096 .f32) = shapeCast S1024x4096 (broadcastInDim S1024x32x128 ![0, 1, 2] bcast_S1024x32x1_S1024x32x128_0_1_2
      (broadcastInDim S1024x32x1 ![0, 1] bcast_S1024x32_S1024x32x1_0_1 (X4 m c))) shapeCasts_S1024x32x128_S1024x4096 := by
    unfold V hostOps0
    after_results
    rfl
  rw [e]
  pointwise

theorem host5 (c : Dev nD) (a : Fin 1024) (b : Fin 4096) :
    (V m c main_v5 : FVec Ideal S1024x4096 .f32) (ix2 a b) = X5 m c (ix2 a (⟨b.val / 128, by omega⟩ : Fin 32)) := by
  have e : (V m c main_v5 : FVec Ideal S1024x4096 .f32) = shapeCast S1024x4096 (broadcastInDim S1024x32x128 ![0, 1, 2] bcast_S1024x32x1_S1024x32x128_0_1_2
      (broadcastInDim S1024x32x1 ![0, 1] bcast_S1024x32_S1024x32x1_0_1 (X5 m c))) shapeCasts_S1024x32x128_S1024x4096 := by
    unfold V hostOps0
    after_results
    rfl
  rw [e]
  pointwise

theorem blk0 (c : Dev nD) (t : Fin cfg0.N) : Holds (iblk m c 0 t : FVec Ideal S1024x512 .bf16) (X0 m c) t.val := by
  intro a b h
  obtain ⟨⟨i, -, -⟩, -, -, -⟩ := idx t
  refine Eq.trans ?_ (congrFun (V_main_arg0 m c) _)
  blk_ext [iblk, i]

theorem blk1 (c : Dev nD) (t : Fin cfg0.N) : Holds (iblk m c 1 t : FVec Ideal S1024x512 .bf16) (X1 m c) t.val := by
  intro a b h
  obtain ⟨⟨-, i, -⟩, -, -, -⟩ := idx t
  refine Eq.trans ?_ (congrFun (V_main_arg1 m c) _)
  blk_ext [iblk, i]

theorem blk2 (c : Dev nD) (t : Fin cfg0.N) : Holds (iblk m c 2 t : FVec Ideal S1024x512 .bf16) (X2 m c) t.val := by
  intro a b h
  obtain ⟨⟨-, -, i⟩, -, -, -⟩ := idx t
  refine Eq.trans ?_ (congrFun (V_main_arg2 m c) _)
  blk_ext [iblk, i]

theorem blk3 (c : Dev nD) (t : Fin cfg0.N) : Holds (iblk m c 3 t : FVec Ideal S1024x512 .bf16) (X3 m c) t.val := by
  intro a b h
  obtain ⟨-, ⟨i, -, -⟩, -, -⟩ := idx t
  refine Eq.trans ?_ (congrFun (V_main_arg3 m c) _)
  blk_ext [iblk, i]

theorem blk4 (c : Dev nD) (t : Fin cfg0.N) : Counts (iblk m c 4 t : FVec Ideal S1024x512 .f32) (X4 m c) t.val := by
  intro a b h
  obtain ⟨-, ⟨-, i, -⟩, -, ht⟩ := idx t
  refine Eq.trans ?_ (host4 m c a (⟨512 * t.val + b.val, by omega⟩ : Fin 4096))
  blk_ext [iblk, i]

theorem blk5 (c : Dev nD) (t : Fin cfg0.N) : Counts (iblk m c 5 t : FVec Ideal S1024x512 .f32) (X5 m c) t.val := by
  intro a b h
  obtain ⟨-, ⟨-, -, i⟩, -, ht⟩ := idx t
  refine Eq.trans ?_ (host5 m c a (⟨512 * t.val + b.val, by omega⟩ : Fin 4096))
  blk_ext [iblk, i]

theorem final6 (c : Dev nD) : (dats m 0 c).arrAt 6 cfg0.N = GQ (X0 m c) (X1 m c) (X2 m c) (X3 m c) (X4 m c) (X5 m c) := by
  refine (dats m 0 c).arrAt_eq_of_covers 6 _ (by decide +kernel) fun t hf y => ?_
  obtain ⟨-, -, ⟨i, -, -⟩, ht⟩ := idx t
  blk_simp
  rw [after0_6]
  idx_vars y
  have h : 512 * t.val + y1.val < 4096 := by omega
  have e : ((View.whole main_v6_0).slice (win0_6.rect t)).emb (ix2 y0 y1) = (ix2 y0 (⟨512 * t.val + y1.val, h⟩ : Fin 4096) : S1024x4096.Idx) := by
    blk_ext [i]
  rw [e]
  unfold outsAt0
  dsimp only
  unfold out0_A_6
  rw [View.read_writes_junk_eq_canon]
  refine Eq.trans ?_ (dq_block (blk0 m c t) (blk1 m c t) (blk2 m c t) (blk3 m c t) (blk4 m c t) (blk5 m c t) ht y0 y1 h)
  exact dq_run ..

theorem final7 (c : Dev nD) : (dats m 0 c).arrAt 7 cfg0.N = GK (X0 m c) (X1 m c) (X2 m c) (X3 m c) (X4 m c) (X5 m c) := by
  refine (dats m 0 c).arrAt_eq_of_covers 7 _ (by decide +kernel) fun t hf y => ?_
  obtain ⟨-, -, ⟨-, i, -⟩, ht⟩ := idx t
  blk_simp
  rw [after0_7]
  idx_vars y
  have h : 512 * t.val + y1.val < 4096 := by omega
  have e : ((View.whole main_v6_1).slice (win0_7.rect t)).emb (ix2 y0 y1) = (ix2 y0 (⟨512 * t.val + y1.val, h⟩ : Fin 4096) : S1024x4096.Idx) := by
    blk_ext [i]
  rw [e]
  unfold outsAt0
  dsimp only
  unfold out0_A_7
  rw [View.read_writes_junk_eq_canon]
  refine Eq.trans ?_ (dk_block (blk0 m c t) (blk1 m c t) (blk2 m c t) (blk3 m c t) (blk4 m c t) (blk5 m c t) ht y0 y1 h)
  exact dk_run ..

theorem final8 (c : Dev nD) : (dats m 0 c).arrAt 8 cfg0.N = GV (X0 m c) (X1 m c) (X3 m c) (X4 m c) := by
  refine (dats m 0 c).arrAt_eq_of_covers 8 _ (by decide +kernel) fun t hf y => ?_
  obtain ⟨-, -, ⟨-, -, i⟩, ht⟩ := idx t
  blk_simp
  rw [after0_8]
  idx_vars y
  have h : 512 * t.val + y1.val < 4096 := by omega
  have e : ((View.whole main_v6_2).slice (win0_8.rect t)).emb (ix2 y0 y1) = (ix2 y0 (⟨512 * t.val + y1.val, h⟩ : Fin 4096) : S1024x4096.Idx) := by
    blk_ext [i]
  rw [e]
  unfold outsAt0
  dsimp only
  unfold out0_A_8
  rw [View.read_writes_junk_eq_canon]
  refine Eq.trans ?_ (dv_block (blk0 m c t) (blk1 m c t) (blk3 m c t) (blk4 m c t) ht y0 y1 h)
  exact dv_run ..

end kernel

open Cert.Reference34Ideal Cert.Reference34Ideal.Gen

variable (m : (ℓ : Loc nD τ sig) → Buf (Elt Ideal) ℓ) (ρ : Dev nD → PrngReg)

abbrev Y0 (c : Dev nD) : FVec Ideal S1024x4096 .bf16 := m ((c.tc : Thread nD τ).loc main_arg0)
abbrev Y1 (c : Dev nD) : FVec Ideal S1024x4096 .bf16 := m ((c.tc : Thread nD τ).loc main_arg1)
abbrev Y2 (c : Dev nD) : FVec Ideal S1024x4096 .bf16 := m ((c.tc : Thread nD τ).loc main_arg2)
abbrev Y3 (c : Dev nD) : FVec Ideal S1024x4096 .bf16 := m ((c.tc : Thread nD τ).loc main_arg3)
abbrev Y4 (c : Dev nD) : FVec Ideal S1024x32 .f32 := m ((c.tc : Thread nD τ).loc main_arg4)
abbrev Y5 (c : Dev nD) : FVec Ideal S1024x32 .f32 := m ((c.tc : Thread nD τ).loc main_arg5)

theorem run_ref : θ_run defs (onTc (τ := τ) (main (F := Ideal))) ⟨m, fun _ => 0, ρ⟩ fun r => ∀ c : Dev nD,
      r.2.mem ((c.tc : Thread nD τ).loc main_v127) = GQ (Y0 m c) (Y1 m c) (Y2 m c) (Y3 m c) (Y4 m c) (Y5 m c)
      ∧ r.2.mem ((c.tc : Thread nD τ).loc main_v128) = GK (Y0 m c) (Y1 m c) (Y2 m c) (Y3 m c) (Y4 m c) (Y5 m c)
      ∧ r.2.mem ((c.tc : Thread nD τ).loc main_v129) = GV (Y0 m c) (Y1 m c) (Y3 m c) (Y4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((Cert.AttnRef4.out0 m c).trans (Cert.AttnRef4.back_of _ _ (Cert.AttnRef4.gq_fam (Y0 m c) (Y1 m c) (Y2 m c) (Y3 m c) (Y4 m c) (Y5 m c)))),
    (h c).2.1.trans ((Cert.AttnRef4.out1 m c).trans (Cert.AttnRef4.back_of _ _ (Cert.AttnRef4.gk_fam (Y0 m c) (Y1 m c) (Y2 m c) (Y3 m c) (Y4 m c) (Y5 m c)))),
    (h c).2.2.1.trans ((Cert.AttnRef4.out2 m c).trans (Cert.AttnRef4.back_of _ _ (Cert.AttnRef4.gv_fam (Y0 m c) (Y1 m c) (Y3 m c) (Y4 m c)))), (h c).2.2.2⟩) (Value.run m ρ)

theorem preserves : Cert.preserves_Kernel34_Kernel34Ideal := IdealRules.named_const.statement _ _ _ _ _ rfl

theorem algebraic : Cert.algebraic_Kernel34Ideal_Reference34Ideal (hKernel34Ideal := Cert.Kernel34Ideal.Gen.facts)
    (hReference34Ideal := Cert.Reference34Ideal.Gen.facts) := by
  intro m g m' g' _ hag
  refine ⟨fun c => GQ (X0 m c) (X1 m c) (X2 m c) (X3 m c) (X4 m c) (X5 m c), fun c => GK (X0 m c) (X1 m c) (X2 m c) (X3 m c) (X4 m c) (X5 m c), fun c => GV (X0 m c) (X1 m c) (X3 m c) (X4 m c), ?_, ?_⟩
  · exact (θ_run _ _ _).mono (fun _ h c => ⟨(h c).1.trans (final6 m c), (h c).2.1.trans (final7 m c), (h c).2.2.1.trans (final8 m c), (h c).2.2.2⟩)
      (Cert.Kernel34Ideal.Value.run_blocks m g)
  · refine (θ_run _ _ _).mono (fun _ h c => ⟨(h c).1.trans ?_, (h c).2.1.trans ?_, (h c).2.2.1.trans ?_, (h c).2.2.2⟩) (run_ref m' g')
    · have e := hag c
      rw [show Y0 m' c = X0 m c from e.1, show Y1 m' c = X1 m c from e.2.1, show Y2 m' c = X2 m c from e.2.2.1, show Y3 m' c = X3 m c from e.2.2.2.1, show Y4 m' c = X4 m c from e.2.2.2.2.1, show Y5 m' c = X5 m c from e.2.2.2.2.2]
    · have e := hag c
      rw [show Y0 m' c = X0 m c from e.1, show Y1 m' c = X1 m c from e.2.1, show Y2 m' c = X2 m c from e.2.2.1, show Y3 m' c = X3 m c from e.2.2.2.1, show Y4 m' c = X4 m c from e.2.2.2.2.1, show Y5 m' c = X5 m c from e.2.2.2.2.2]
    · have e := hag c
      rw [show Y0 m' c = X0 m c from e.1, show Y1 m' c = X1 m c from e.2.1, show Y3 m' c = X3 m c from e.2.2.2.1, show Y4 m' c = X4 m c from e.2.2.2.2.1]

/-- The reference ends with its arguments unchanged; it declares no counter. -/
theorem frame_r : Cert.quiescent_Reference34Ideal (hReference34Ideal := Cert.Reference34Ideal.Gen.facts) := fun m ρ _ =>
  (θ_run _ _ _).mono (fun r h => ⟨fun c => (h c).2.2.2, sem_eq_zero_of_no_sems (by decide) r.2⟩) (run_ref m ρ)

end Cert.AttnBwd4

end
-- ==== Proof.AttnRef1.lean ====
/- The reference's attention gradient at another dilation, read at an index, is the gradient by tiles. -/
module

public import proofs.«01_k».proof.Proof.AttnRefVal
public import proofs.«01_k».proof.Proof.AttnGen
public import proofs.«01_k».proof.Proof.Gen.Reference35Ideal.Run

@[expose] public section

set_option maxRecDepth 16384

noncomputable section

open Idealize.ShloMosaic Idealize.ShloMosaic.TcCoe Idealize.SL.Sem

namespace Cert.AttnRef1

open Cert.Reference35Ideal Cert.Reference35Ideal.Gen
open Cert.AttnRef (near_bits and_bits ofBits_bot pick sum_halves)
open Cert.AttnBwd (pc pp ds sc sg rows cols sel)
open Cert.AttnGen

/-- The subsequences of a dilation, cut into blocks. -/
def sub (X : FVec Ideal S4096x1024 .bf16) : FVec Ideal S1x32x128x8x128 .f32 :=
  shapeCast _ (transpose S1x1x4096x8x128 [0, 2, 1, 3, 4] (shapeCast _ (shapeCast _ (extf .f32 X bitsLt_bf16_f32) shapeCasts_S4096x1024_S1x4096x8x128) shapeCasts_S1x4096x8x128_S1x4096x1x8x128) transposes_S1x4096x1x8x128_S1x1x4096x8x128_0_2_1_3_4) shapeCasts_S1x1x4096x8x128_S1x32x128x8x128

/-- A block of keys with the block before it. -/
def both (X : FVec Ideal S4096x1024 .bf16) : FVec Ideal S1x32x256x8x128 .f32 :=
  concatenate S1x32x256x8x128 2 [⟨S1x32x128x8x128, (concatenate S1x32x128x8x128 1 [⟨S1x1x128x8x128, (broadcastInDim S1x1x128x8x128 ![] bcast_S_S1x1x128x8x128 (constant S_ .f32 0x00000000#32))⟩, ⟨S1x31x128x8x128, (extractStridedSlice S1x31x128x8x128 ![0, 0, 0, 0, 0] (sub X) slices_S1x32x128x8x128_S1x31x128x8x128_0_0_0_0_0)⟩] concatenates_S1x1x128x8x128_S1x31x128x8x128_S1x32x128x8x128_d1)⟩, ⟨S1x32x128x8x128, (sub X)⟩] concatenates_S1x32x128x8x128_S1x32x128x8x128_S1x32x256x8x128_d2

/-- One number for each query and head. -/
def perRow (X : FVec Ideal S4096x8 .f32) : FVec Ideal S1x32x8x128x1 .f32 :=
  broadcastInDim S1x32x8x128x1 ![0, 1, 2, 3] bcast_S1x32x8x128_S1x32x8x128x1_0_1_2_3 (transpose S1x32x8x128 [0, 1, 3, 2] (shapeCast _ (shapeCast _ (transpose S1x1x4096x8x1 [0, 2, 1, 3, 4] (shapeCast _ (broadcastInDim S1x4096x8x1 ![0, 1, 2] bcast_S1x4096x8_S1x4096x8x1_0_1_2 (shapeCast _ X shapeCasts_S4096x8_S1x4096x8)) shapeCasts_S1x4096x8x1_S1x4096x1x8x1) transposes_S1x4096x1x8x1_S1x1x4096x8x1_0_2_1_3_4) shapeCasts_S1x1x4096x8x1_S1x32x128x8x1) shapeCasts_S1x32x128x8x1_S1x32x128x8) transposes_S1x32x128x8_S1x32x8x128_0_1_3_2)

/-- Which key a query sees. -/
def valid : IVec S1x32x8x128x256 1 :=
  broadcastInDim S1x32x8x128x256 ![0, 1, 2, 3, 4] bcast_S1x32x1x128x256_S1x32x8x128x256_0_1_2_3_4 (broadcastInDim S1x32x1x128x256 ![1, 3, 4] bcast_S32x128x256_S1x32x1x128x256_1_3_4 (andi (broadcastInDim S32x128x256 ![0, 1, 2] bcast_S1x128x256_S32x128x256_0_1_2 (broadcastInDim S1x128x256 ![1, 2] bcast_S128x256_S1x128x256_1_2 (andi (cmpi .sge (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S32x128x256 ![0, 1, 2] bcast_S32x1x256_S32x128x256_0_1_2 (cmpi .sge (addi (broadcastInDim S32x1x256 ![0, 1, 2] bcast_S32x1x1_S32x1x256_0_1_2 (subi (muli (broadcastInDim S32x1x1 ![0] bcast_S32_S32x1x1_0 (iotaInDim S32 32 0)) (broadcastInDim S32x1x1 ![] bcast_S_S32x1x1 (constantI S_ 32 128#32))) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 (broadcastInDim S1x256 ![1] bcast_S256_S1x256_1 (iotaInDim S256 32 0))))) (broadcastInDim S32x1x256 ![] bcast_S_S32x1x256 (constantI S_ 32 0#32))))))

/-- The scaled scores. -/
def score (Q K : FVec Ideal S4096x1024 .bf16) : FVec Ideal S1x32x8x128x256 .f32 :=
  mulf (Host.dotGeneral dot_S1x32x128x8x128_S1x32x256x8x128_S1x32x8x128x256_4_4_2_2_013_013 none (sub Q) (both K)) (broadcastInDim S1x32x8x128x256 ![] bcast_S_S1x32x8x128x256 (constant S_ .f32 0x3DB504F3#32))

/-- The probabilities. -/
def prob (Q K : FVec Ideal S4096x1024 .bf16) (E : FVec Ideal S4096x8 .f32) : FVec Ideal S1x32x8x128x256 .f32 :=
  Host.exp (subf (select valid (score Q K) (broadcastInDim S1x32x8x128x256 ![] bcast_S_S1x32x8x128x256 (id (constant S_ .f32 0xFF800000#32)))) (broadcastInDim S1x32x8x128x256 ![0, 1, 2, 3, 4] bcast_S1x32x8x128x1_S1x32x8x128x256_0_1_2_3_4 (perRow E)))

/-- What reaches the scores. -/
def reach (Q K W O : FVec Ideal S4096x1024 .bf16) (E D : FVec Ideal S4096x8 .f32) : FVec Ideal S1x32x8x128x256 .f32 :=
  mulf (select valid (mulf (addf (broadcastInDim S1x32x8x128x256 ![0, 1, 2, 3] bcast_S1x32x8x128_S1x32x8x128x256_0_1_2_3 (broadcastInDim S1x32x8x128 ![1, 2, 3] bcast_S32x8x128_S1x32x8x128_1_2_3 (Host.reduceAdd (Host.negf (perRow D)) (constant S_ .f32 0x00000000#32) reducesTo_S1x32x8x128x1_S32x8x128_d0_4 h_S_))) (Host.dotGeneral dot_S1x32x8x128x128_S1x32x256x8x128_S1x32x8x128x256_3_4_4_2_012_013 none (transpose S1x32x8x128x128 [0, 1, 3, 4, 2] (sub O) transposes_S1x32x128x8x128_S1x32x8x128x128_0_1_3_4_2) (both W))) (prob Q K E)) (broadcastInDim S1x32x8x128x256 ![] bcast_S_S1x32x8x128x256 (constant S_ .f32 0x00000000#32))) (broadcastInDim S1x32x8x128x256 ![] bcast_S_S1x32x8x128x256 (constant S_ .f32 0x3DB504F3#32))

/-- The subsequences put back in order. -/
def back (Z : FVec Ideal S1x32x128x8x128 .f32) : FVec Ideal S4096x1024 .f32 :=
  shapeCast _ (shapeCast _ (transpose S1x4096x1x8x128 [0, 2, 1, 3, 4] (shapeCast _ Z shapeCasts_S1x32x128x8x128_S1x1x4096x8x128) transposes_S1x1x4096x8x128_S1x4096x1x8x128_0_2_1_3_4) shapeCasts_S1x4096x1x8x128_S1x4096x8x128) shapeCasts_S1x4096x8x128_S4096x1024

/-- What reaches a block as itself and as the block before. -/
def fold (Z : FVec Ideal S1x32x256x8x128 .f32) : FVec Ideal S1x32x128x8x128 .f32 :=
  addf (extractStridedSlice S1x32x128x8x128 ![0, 0, 128, 0, 0] Z slices_S1x32x256x8x128_S1x32x128x8x128_0_0_128_0_0) (pad S1x32x128x8x128 ![0, 0, 0, 0, 0] ![0, 1, 0, 0, 0] ![0, 0, 0, 0, 0] (extractStridedSlice S1x31x128x8x128 ![0, 1, 0, 0, 0] (extractStridedSlice S1x32x128x8x128 ![0, 0, 0, 0, 0] Z slices_S1x32x256x8x128_S1x32x128x8x128_0_0_0_0_0) slices_S1x32x128x8x128_S1x31x128x8x128_0_1_0_0_0) (constant S_ .f32 0x00000000#32) pads_S1x31x128x8x128_S1x32x128x8x128_000_010_000_000_000 h_S_)

/-- The queries' gradient. -/
def gq (Q K W O : FVec Ideal S4096x1024 .bf16) (E D : FVec Ideal S4096x8 .f32) : FVec Ideal S1x32x128x8x128 .f32 :=
  transpose S1x32x128x8x128 [0, 1, 3, 2, 4] (Host.dotGeneral dot_S1x32x8x128x256_S1x32x256x8x128_S1x32x8x128x128_4_2_3_4_012_013 none (reach Q K W O E D) (both K)) transposes_S1x32x8x128x128_S1x32x128x8x128_0_1_3_2_4

/-- The gradient of the keys with the block before. -/
def gk (Q K W O : FVec Ideal S4096x1024 .bf16) (E D : FVec Ideal S4096x8 .f32) : FVec Ideal S1x32x256x8x128 .f32 :=
  transpose S1x32x256x8x128 [0, 1, 3, 2, 4] (Host.dotGeneral dot_S1x32x8x128x256_S1x32x128x8x128_S1x32x8x256x128_3_2_4_4_012_013 none (reach Q K W O E D) (sub Q)) transposes_S1x32x8x256x128_S1x32x256x8x128_0_1_3_2_4

/-- The gradient of the values with the block before. -/
def gv (Q K O : FVec Ideal S4096x1024 .bf16) (E : FVec Ideal S4096x8 .f32) : FVec Ideal S1x32x256x8x128 .f32 :=
  transpose S1x32x256x8x128 [0, 1, 4, 2, 3] (Host.dotGeneral dot_S1x32x8x128x128_S1x32x8x128x256_S1x32x8x128x256_4_3_3_4_012_012 none (transpose S1x32x8x128x128 [0, 1, 3, 4, 2] (sub O) transposes_S1x32x128x8x128_S1x32x8x128x128_0_1_3_4_2) (prob Q K E)) transposes_S1x32x8x128x256_S1x32x256x8x128_0_1_4_2_3

theorem out0 (m : (ℓ : Loc nD τ sig) → Buf (Elt Ideal) ℓ) (c : Dev nD) : Value.res_main_v128 m c
    = back (gq (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))) := rfl

theorem out1 (m : (ℓ : Loc nD τ sig) → Buf (Elt Ideal) ℓ) (c : Dev nD) : Value.res_main_v129 m c
    = back (fold (gk (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)))) := rfl

theorem out2 (m : (ℓ : Loc nD τ sig) → Buf (Elt Ideal) ℓ) (c : Dev nD) : Value.res_main_v130 m c
    = back (fold (gv (m ((c.tc : Thread nD τ).loc main_arg0)) (m ((c.tc : Thread nD τ).loc main_arg1))
        (m ((c.tc : Thread nD τ).loc main_arg3)) (m ((c.tc : Thread nD τ).loc main_arg4)))) := rfl

abbrev fm (X : Blk 4096 1024) : Fam := fam X

abbrev nm (X : Blk 4096 8) : Fam := num X

theorem sub_fm (X : FVec Ideal S4096x1024 .bf16) (b : Fin 32) (r : Fin 128) (h : Fin 8) (d : Fin 128) :
    sub X (ix5 0 b r h d) = fm X b.val h.val (ix2 r d) := by
  pointwise [sub]
  refine congrArg X ((ix2_inj ..).2 ⟨Fin.ext ?_, Fin.ext ?_⟩)
  · show _ = (128 * b.val + r.val) % 4096
    simp only []
    omega
  · show _ = (128 * h.val + d.val) % 1024
    simp only []
    omega

theorem perRow_nm (X : FVec Ideal S4096x8 .f32) (b : Fin 32) (h : Fin 8) (r j : Fin 128) :
    perRow X (ix5 0 b h r 0) = nm X b.val h.val (ix2 r j) := by
  pointwise [perRow]
  refine congrArg X ((ix2_inj ..).2 ⟨Fin.ext ?_, Fin.ext ?_⟩)
  · show _ = (128 * b.val + r.val) % 4096
    simp only []
    omega
  · show _ = h.val % 8
    omega

theorem back_at (Z : FVec Ideal S1x32x128x8x128 .f32) (y : Fin 4096) (z : Fin 1024) :
    back Z (ix2 y z) = Z (ix5 0 (⟨y.val / 128, by omega⟩ : Fin 32) (⟨y.val % 128, by omega⟩ : Fin 128)
      (⟨z.val / 128, by omega⟩ : Fin 8) (⟨z.val % 128, by omega⟩ : Fin 128)) := by
  pointwise [back]

theorem both_own (X : FVec Ideal S4096x1024 .bf16) (b : Fin 32) (j : Fin 128) (h : Fin 8) (d : Fin 128) :
    both X (ix5 0 b (⟨128 + j.val, by omega⟩ : Fin 256) h d) = fm X b.val h.val (ix2 j d) := by
  rw [← sub_fm]
  pointwise [both]

theorem both_before (X : FVec Ideal S4096x1024 .bf16) (p : Fin 31) (j : Fin 128) (h : Fin 8) (d : Fin 128) :
    both X (ix5 0 (⟨p.val + 1, by omega⟩ : Fin 32) (⟨j.val, by omega⟩ : Fin 256) h d) = fm X p.val h.val (ix2 j d) := by
  rw [← sub_fm X (⟨p.val, by omega⟩ : Fin 32) j h d]
  pointwise [both]
  rw [dif_neg (by omega)]
  rfl

theorem fold_next (Z : FVec Ideal S1x32x256x8x128 .f32) (p : Fin 31) (j : Fin 128) (h : Fin 8) (d : Fin 128) :
    fold Z (ix5 0 (⟨p.val, by omega⟩ : Fin 32) j h d) = Z (ix5 0 (⟨p.val, by omega⟩ : Fin 32) (⟨128 + j.val, by omega⟩ : Fin 256) h d)
      + Z (ix5 0 (⟨p.val + 1, by omega⟩ : Fin 32) (⟨j.val, by omega⟩ : Fin 256) h d) := by
  have e : (⟨p.val + 1, by omega⟩ : Fin 32) = ⟨1 + p.val, by omega⟩ := Fin.ext (Nat.add_comm _ _)
  rw [e]
  pointwise [fold]

theorem fold_last (Z : FVec Ideal S1x32x256x8x128 .f32) (j : Fin 128) (h : Fin 8) (d : Fin 128) :
    fold Z (ix5 0 31 j h d) = Z (ix5 0 31 (⟨128 + j.val, by omega⟩ : Fin 256) h d) := by
  pointwise [fold]

theorem score_at (Q K : FVec Ideal S4096x1024 .bf16) (b : Fin 32) (h : Fin 8) (i : Fin 128) (j : Fin 256) :
    score Q K (ix5 0 b h i j) = (∑ d : Fin 128, sub Q (ix5 0 b i h d) * both K (ix5 0 b j h d)) * sg := by
  pointwise [score, sg]

theorem prob_at (Q K : FVec Ideal S4096x1024 .bf16) (E : FVec Ideal S4096x8 .f32) (b : Fin 32) (h : Fin 8) (i : Fin 128) (j : Fin 256) :
    prob Q K E (ix5 0 b h i j) = Ideal.exp (Scalar.select (valid (ix5 0 b h i j)) (score Q K (ix5 0 b h i j)) ⊥ - perRow E (ix5 0 b h i 0)) := by
  pointwise [prob]
  rw [show (id (constant S_ .f32 0xFF800000#32) ix0 : Ideal .f32) = (⊥ : EReal) from ofBits_bot]

/-- A sum over two axes of one entry. -/
theorem ends_sum (H : S1x32x8x128x1.ReducesTo [0, 4] S32x8x128) (X : S1x32x8x128x1.Idx → EReal) (z : EReal) (b : Fin 32) (h : Fin 8) (i : Fin 128) :
    Ideal.hostReduceAdd H X z (ix3 b h i) = z + X (ix5 0 b h i 0) := by
  unfold Ideal.hostReduceAdd
  rw [show Finset.univ.filter (fun y => H.drop y = ix3 b h i) = {ix5 0 b h i 0} from ?_, Finset.sum_singleton]
  ext y
  rw [Finset.mem_filter, Finset.mem_singleton]
  have v1 := H.drop_apply_val_of_eq y 0 1
  have v2 := H.drop_apply_val_of_eq y 1 2
  have v3 := H.drop_apply_val_of_eq y 2 3
  constructor
  · rintro ⟨-, e⟩
    rw [e] at v1 v2 v3
    funext a
    apply Fin.ext
    fin_cases a
    · exact Nat.lt_one_iff.mp (y 0).isLt
    · exact v1.symm
    · exact v2.symm
    · exact v3.symm
    · exact Nat.lt_one_iff.mp (y 4).isLt
  · rintro rfl
    refine ⟨Finset.mem_univ _, ?_⟩
    funext a
    apply Fin.ext
    fin_cases a
    · exact v1
    · exact v2
    · exact v3

theorem reach_at (Q K W O : FVec Ideal S4096x1024 .bf16) (E D : FVec Ideal S4096x8 .f32) (b : Fin 32) (h : Fin 8) (i : Fin 128) (j : Fin 256) :
    reach Q K W O E D (ix5 0 b h i j) = Scalar.select (valid (ix5 0 b h i j)) ((-(perRow D (ix5 0 b h i 0)) + ∑ d : Fin 128, sub O (ix5 0 b i h d) * both W (ix5 0 b j h d))
      * prob Q K E (ix5 0 b h i j)) 0 * sg := by
  pointwise [reach, sg]
  rw [ends_sum, zero_add]
  rfl

theorem gq_at (Q K W O : FVec Ideal S4096x1024 .bf16) (E D : FVec Ideal S4096x8 .f32) (b : Fin 32) (h : Fin 8) (i d : Fin 128) :
    gq Q K W O E D (ix5 0 b i h d) = ∑ j : Fin 256, reach Q K W O E D (ix5 0 b h i j) * both K (ix5 0 b j h d) := by
  pointwise [gq]

theorem gk_at (Q K W O : FVec Ideal S4096x1024 .bf16) (E D : FVec Ideal S4096x8 .f32) (b : Fin 32) (h : Fin 8) (j : Fin 256) (d : Fin 128) :
    gk Q K W O E D (ix5 0 b j h d) = ∑ i : Fin 128, reach Q K W O E D (ix5 0 b h i j) * sub Q (ix5 0 b i h d) := by
  pointwise [gk]

theorem gv_at (Q K O : FVec Ideal S4096x1024 .bf16) (E : FVec Ideal S4096x8 .f32) (b : Fin 32) (h : Fin 8) (j : Fin 256) (d : Fin 128) :
    gv Q K O E (ix5 0 b j h d) = ∑ i : Fin 128, sub O (ix5 0 b i h d) * prob Q K E (ix5 0 b h i j) := by
  pointwise [gv]

theorem from_bits : ∀ (b : Fin 32) (j : Fin 256), IntOp.cmpi CmpIPredicate.sge
      (IntOp.addi (IntOp.subi (IntOp.muli (BitVec.ofNat 32 b.val) 128#32) 128#32) (BitVec.ofNat 32 j.val)) 0#32
    = BitVec.ofBool (decide (128 ≤ 128 * b.val + j.val)) := by
  decide +kernel

theorem valid_at (b : Fin 32) (h : Fin 8) (i : Fin 128) (j : Fin 256) :
    valid (ix5 0 b h i j) = BitVec.ofBool (decide ((j.val ≤ 128 + i.val ∧ i.val ≤ j.val) ∧ 128 ≤ 128 * b.val + j.val)) := by
  have e := near_bits i j
  have e' := from_bits b j
  pointwise [valid]
  refine Eq.trans (congrArg₂ IntOp.andi e e') (and_bits _ _)

theorem valid_own (b : Fin 32) (h : Fin 8) (i j : Fin 128) :
    valid (ix5 0 b h i (⟨128 + j.val, by omega⟩ : Fin 256)) = BitVec.ofBool (decide (j ≤ i)) := by
  rw [valid_at]
  congr 2
  refine propext ?_
  rw [Fin.le_def]
  show (128 + j.val ≤ 128 + i.val ∧ i.val ≤ 128 + j.val) ∧ 128 ≤ 128 * b.val + (128 + j.val) ↔ _
  omega

theorem valid_before (p : Fin 31) (h : Fin 8) (i j : Fin 128) :
    valid (ix5 0 (⟨p.val + 1, by omega⟩ : Fin 32) h i (⟨j.val, by omega⟩ : Fin 256)) = BitVec.ofBool (decide (i ≤ j)) := by
  rw [valid_at]
  congr 2
  refine propext ?_
  rw [Fin.le_def]
  show (j.val ≤ 128 + i.val ∧ i.val ≤ j.val) ∧ 128 ≤ 128 * (p.val + 1) + j.val ↔ _
  omega

theorem valid_first (h : Fin 8) (i j : Fin 128) :
    valid (ix5 0 0 h i (⟨j.val, by omega⟩ : Fin 256)) = 0#1 := by
  rw [valid_at, decide_eq_false]
  · rfl
  · show ¬((j.val ≤ 128 + i.val ∧ i.val ≤ j.val) ∧ 128 ≤ 128 * 0 + j.val)
    omega

section

variable (Q K W O : FVec Ideal S4096x1024 .bf16) (E D : FVec Ideal S4096x8 .f32) (b : Fin 32) (p : Fin 31) (h : Fin 8) (i j d : Fin 128)

theorem prob_own : prob Q K E (ix5 0 b h i (⟨128 + j.val, by omega⟩ : Fin 256)) = own (fm Q) (fm K) (nm E) b.val h.val i j := by
  rw [prob_at, valid_own, score_at, sel, perRow_nm E b h i j]
  simp only [both_own, sub_fm]
  rfl

theorem prob_before : prob Q K E (ix5 0 (⟨p.val + 1, by omega⟩ : Fin 32) h i (⟨j.val, by omega⟩ : Fin 256))
    = bef (fm Q) (fm K) (nm E) (p.val + 1) h.val i j := by
  rw [prob_at, valid_before, score_at, sel, perRow_nm E _ h i j]
  simp only [both_before, sub_fm]
  rfl

theorem reach_own : reach Q K W O E D (ix5 0 b h i (⟨128 + j.val, by omega⟩ : Fin 256))
    = dOwn (fm Q) (fm K) (fm W) (fm O) (nm E) (nm D) b.val h.val i j := by
  rw [reach_at, prob_own, valid_own, sel, perRow_nm D b h i j]
  simp only [both_own, sub_fm]
  exact pick (j ≤ i) _ _ _ _

theorem reach_before : reach Q K W O E D (ix5 0 (⟨p.val + 1, by omega⟩ : Fin 32) h i (⟨j.val, by omega⟩ : Fin 256))
    = dBef (fm Q) (fm K) (fm W) (fm O) (nm E) (nm D) (p.val + 1) h.val i j := by
  rw [reach_at, prob_before, valid_before, sel, perRow_nm D _ h i j]
  simp only [both_before, sub_fm]
  exact pick (i ≤ j) _ _ _ _

theorem reach_first : reach Q K W O E D (ix5 0 0 h i (⟨j.val, by omega⟩ : Fin 256)) = 0 := by
  rw [reach_at, valid_first, Scalar.select, if_neg (by decide), zero_mul]

/-- A row block is the first or follows another. -/
theorem first_or (b : Fin 32) : b = 0 ∨ ∃ p : Fin 31, b = ⟨p.val + 1, by omega⟩ := by
  rcases Nat.eq_zero_or_pos b.val with h | h
  · exact Or.inl (Fin.ext h)
  · exact Or.inr ⟨⟨b.val - 1, by omega⟩, Fin.ext (by show b.val = b.val - 1 + 1; omega)⟩

/-- A row block is the last or another follows. -/
theorem last_or (b : Fin 32) : b = 31 ∨ ∃ p : Fin 31, b = ⟨p.val, by omega⟩ := by
  by_cases h : b.val < 31
  · exact Or.inr ⟨⟨b.val, h⟩, rfl⟩
  · exact Or.inl (Fin.ext (by show b.val = 31; omega))

theorem gq_fam : gq Q K W O E D (ix5 0 b i h d) = gradQ (fm Q) (fm K) (fm W) (fm O) (nm E) (nm D) b.val h.val (ix2 i d) := by
  rw [gq_at, sum_halves]
  rcases first_or b with rfl | ⟨p, rfl⟩
  · simp only [reach_first, zero_mul, Finset.sum_const_zero, zero_add, reach_own, both_own]
    exact (congrFun (gradQ_first (fm Q) (fm K) (fm W) (fm O) (nm E) (nm D) h.val) (ix2 i d)).symm
  · simp only [reach_before, both_before, reach_own, both_own]
    exact (congrFun (gradQ_next (fm Q) (fm K) (fm W) (fm O) (nm E) (nm D) p.val h.val) (ix2 i d)).symm

theorem gk_fam : fold (gk Q K W O E D) (ix5 0 b j h d) = total (ownK (fm Q) (fm K) (fm W) (fm O) (nm E) (nm D))
    (befK (fm Q) (fm K) (fm W) (fm O) (nm E) (nm D)) 32 b.val h.val (ix2 j d) := by
  rcases last_or b with rfl | ⟨p, rfl⟩
  · rw [fold_last, gk_at, total, if_neg (by decide), add_zero]
    simp only [reach_own, sub_fm]
    rfl
  · rw [fold_next, gk_at, gk_at, total, if_pos (by show p.val + 1 < 32; omega)]
    simp only [reach_own, reach_before, sub_fm]
    rfl

theorem gv_fam : fold (gv Q K O E) (ix5 0 b j h d) = total (ownV (fm Q) (fm K) (fm O) (nm E))
    (befV (fm Q) (fm K) (fm O) (nm E)) 32 b.val h.val (ix2 j d) := by
  rcases last_or b with rfl | ⟨p, rfl⟩
  · rw [fold_last, gv_at, total, if_neg (by decide), add_zero]
    simp only [prob_own, sub_fm]
    exact Finset.sum_congr rfl fun i _ => mul_comm _ _
  · rw [fold_next, gv_at, gv_at, total, if_pos (by show p.val + 1 < 32; omega)]
    simp only [prob_own, prob_before, sub_fm]
    exact congrArg₂ (· + ·) (Finset.sum_congr rfl fun i _ => mul_comm _ _) (Finset.sum_congr rfl fun i _ => mul_comm _ _)

end

/-- An array put back in order is known by its tiles. -/
theorem back_of (Z : FVec Ideal S1x32x128x8x128 .f32) (F : Fam)
    (H : ∀ (b : Fin 32) (h : Fin 8) (i d : Fin 128), Z (ix5 0 b i h d) = F b.val h.val (ix2 i d)) :
    back Z = (arr F : Blk 4096 1024) := by
  funext y
  idx_vars y
  rw [back_at, H]
  rfl

end Cert.AttnRef1

end
-- ==== Proof.AttnBwd1Read.lean ====
/- What a tile of this kernel reads. -/
module

public import proofs.«01_k».proof.Proof.AttnGen
public import proofs.«01_k».proof.Proof.Gen.Kernel35Ideal.Value

@[expose] public section

set_option maxRecDepth 16384

noncomputable section

open Idealize.ShloMosaic Idealize.ShloMosaic.TcCoe Idealize.SL.Sem

namespace Cert.AttnBwd1

open Cert.AttnGen
open Cert.AttnBwd (dq_first dq_next dk_first dk_next dk_own dv_first dv_next dv_own)
open Cert.Kernel35Ideal Cert.Kernel35Ideal.Gen

abbrev B : Type := Blk 4096 128

abbrev tl (X : B) (r o : ℕ) := tile X r o

abbrev fm (X : B) : Fam := fam X

theorem rd16 (arg : Memref sig .tc .vmem S4096x128 .bf16) (harg : arg.IsWhole) (X : Vec Ideal S4096x128 .bf16) (r o : ℕ)
    (inb : ∀ a, (![r, o] : Fin 2 → ℕ) a + (![128, 128] : Fin 2 → ℕ) a ≤ S4096x128.size a) :
    View.readAt (Elt Ideal) arg.view (Rect.unit (s := S4096x128) ![r, o] ![128, 128] inb).toLoadRect (harg.unread X) = tl X r o := by
  refine Eq.trans ?_ (tile_rect (R := 4096) (C := 128) X r o inb)
  funext j
  show arg.view.read (Elt Ideal) (harg.unread X) _ = _
  rw [harg.read_unread X]

theorem rd32 (arg : Memref sig .tc .vmem S4096x128 .f32) (harg : arg.IsWhole) (X : Vec Ideal S4096x128 .f32) (r o : ℕ)
    (inb : ∀ a, (![r, o] : Fin 2 → ℕ) a + (![128, 128] : Fin 2 → ℕ) a ≤ S4096x128.size a) :
    View.readAt (Elt Ideal) arg.view (Rect.unit (s := S4096x128) ![r, o] ![128, 128] inb).toLoadRect (harg.unread X) = tl X r o := by
  refine Eq.trans ?_ (tile_rect (R := 4096) (C := 128) X r o inb)
  funext j
  show arg.view.read (Elt Ideal) (harg.unread X) _ = _
  rw [harg.read_unread X]

theorem rdc (arg : Memref sig .tc .vmem S4096x128 .f32) (L : List (View.Piece (Elt Ideal) S4096x128 .f32)) (r o : ℕ)
    (inb : ∀ a, (![r, o] : Fin 2 → ℕ) a + (![128, 128] : Fin 2 → ℕ) a ≤ S4096x128.size a) :
    arg.view.readCov L (Rect.unit (s := S4096x128) ![r, o] ![128, 128] inb).toLoadRect = tl (View.canon L) r o := by
  rw [View.readCov_eq_canon']
  exact tile_rect (R := 4096) (C := 128) (View.canon L) r o inb

end Cert.AttnBwd1

end
-- ==== Proof.AttnBwd1Dq.lean ====
/- The queries' gradient of a block, tile by tile. -/
module

public import proofs.«01_k».proof.Proof.AttnBwd1Read

@[expose] public section

set_option maxRecDepth 16384

noncomputable section

open Idealize.ShloMosaic Idealize.ShloMosaic.TcCoe Idealize.SL.Sem

namespace Cert.AttnBwd1

open Cert.AttnGen
open Cert.AttnBwd (dq_first dq_next dk_first dk_next dk_own dv_first dv_next dv_own)
open Cert.Kernel35Ideal Cert.Kernel35Ideal.Gen

open kernelRun0_A.sl

variable (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole)
  (x0 x1 x2 x3 : Vec Ideal S4096x128 .bf16) (x4 x5 : Vec Ideal S4096x128 .f32)

set_option maxHeartbeats 4000000 in
theorem dq_run (y : S4096x128.Idx) : View.canon (kernelRun0_A (F := Ideal) c i arg1 harg1 arg2 harg2 arg3 harg3 arg4 harg4 arg5 harg5 arg6 harg6 arg7 harg7 arg8 harg8 arg9 harg9 x0 x1 x2 x3 x4 x5).1 y = arr (gradQ (fm x0) (fm x1) (fm x2) (fm x3) (fm x4) (fm x5)) y := by
  have hy0 : (y 0).val < 4096 := (y 0).isLt
  have hy1 : (y 1).val < 128 := (y 1).isLt
  refine put (gradQ (fm x0) (fm x1) (fm x2) (fm x3) (fm x4) (fm x5)) 32 31 0 31 3968 0 (by decide) rfl rfl rfl rfl _ _ _ _ rfl ?_ ?_ y (by omega)
  · simp only [r_332, r_333, r_341, r_342, r_343, r_344, r_345, r_346, r_347, r_348, rd16, rd32]
    exact (dq_next (tl x3 3968 0) (tl x1 3840 0) (tl x1 3968 0) (tl x2 3840 0) (tl x2 3968 0) (tl x0 3968 0) (tl x4 3968 0) (tl x5 3968 0)).trans (gradQ_next (fm x0) (fm x1) (fm x2) (fm x3) (fm x4) (fm x5) 30 0).symm
  refine put (gradQ (fm x0) (fm x1) (fm x2) (fm x3) (fm x4) (fm x5)) 32 30 0 30 3840 0 (by decide) rfl rfl rfl rfl _ _ _ _ rfl ?_ ?_
  · simp only [r_321, r_322, r_330, r_331, r_332, r_333, r_334, r_335, r_336, r_337, rd16, rd32]
    exact (dq_next (tl x3 3840 0) (tl x1 3712 0) (tl x1 3840 0) (tl x2 3712 0) (tl x2 3840 0) (tl x0 3840 0) (tl x4 3840 0) (tl x5 3840 0)).trans (gradQ_next (fm x0) (fm x1) (fm x2) (fm x3) (fm x4) (fm x5) 29 0).symm
  refine put (gradQ (fm x0) (fm x1) (fm x2) (fm x3) (fm x4) (fm x5)) 32 29 0 29 3712 0 (by decide) rfl rfl rfl rfl _ _ _ _ rfl ?_ ?_
  · simp only [r_310, r_311, r_319, r_320, r_321, r_322, r_323, r_324, r_325, r_326, rd16, rd32]
    exact (dq_next (tl x3 3712 0) (tl x1 3584 0) (tl x1 3712 0) (tl x2 3584 0) (tl x2 3712 0) (tl x0 3712 0) (tl x4 3712 0) (tl x5 3712 0)).trans (gradQ_next (fm x0) (fm x1) (fm x2) (fm x3) (fm x4) (fm x5) 28 0).symm
  refine put (gradQ (fm x0) (fm x1) (fm x2) (fm x3) (fm x4) (fm x5)) 32 28 0 28 3584 0 (by decide) rfl rfl rfl rfl _ _ _ _ rfl ?_ ?_
  · simp only [r_299, r_300, r_308, r_309, r_310, r_311, r_312, r_313, r_314, r_315, rd16, rd32]
    exact (dq_next (tl x3 3584 0) (tl x1 3456 0) (tl x1 3584 0) (tl x2 3456 0) (tl x2 3584 0) (tl x0 3584 0) (tl x4 3584 0) (tl x5 3584 0)).trans (gradQ_next (fm x0) (fm x1) (fm x2) (fm x3) (fm x4) (fm x5) 27 0).symm
  refine put (gradQ (fm x0) (fm x1) (fm x2) (fm x3) (fm x4) (fm x5)) 32 27 0 27 3456 0 (by decide) rfl rfl rfl rfl _ _ _ _ rfl ?_ ?_
  · simp only [r_288, r_289, r_297, r_298, r_299, r_300, r_301, r_302, r_303, r_304, rd16, rd32]
    exact (dq_next (tl x3 3456 0) (tl x1 3328 0) (tl x1 3456 0) (tl x2 3328 0) (tl x2 3456 0) (tl x0 3456 0) (tl x4 3456 0) (tl x5 3456 0)).trans (gradQ_next (fm x0) (fm x1) (fm x2) (fm x3) (fm x4) (fm x5) 26 0).symm
  refine put (gradQ (fm x0) (fm x1) (fm x2) (fm x3) (fm x4) (fm x5)) 32 26 0 26 3328 0 (by decide) rfl rfl rfl rfl _ _ _ _ rfl ?_ ?_
  · simp only [r_277, r_278, r_286, r_287, r_288, r_289, r_290, r_291, r_292, r_293, rd16, rd32]
    exact (dq_next (tl x3 3328 0) (tl x1 3200 0) (tl x1 3328 0) (tl x2 3200 0) (tl x2 3328 0) (tl x0 3328 0) (tl x4 3328 0) (tl x5 3328 0)).trans (gradQ_next (fm x0) (fm x1) (fm x2) (fm x3) (fm x4) (fm x5) 25 0).symm
  refine put (gradQ (fm x0) (fm x1) (fm x2) (fm x3) (fm x4) (fm x5)) 32 25 0 25 3200 0 (by decide) rfl rfl rfl rfl _ _ _ _ rfl ?_ ?_
  · simp only [r_266, r_267, r_275, r_276, r_277, r_278, r_279, r_280, r_281, r_282, rd16, rd32]
    exact (dq_next (tl x3 3200 0) (tl x1 3072 0) (tl x1 3200 0) (tl x2 3072 0) (tl x2 3200 0) (tl x0 3200 0) (tl x4 3200 0) (tl x5 3200 0)).trans (gradQ_next (fm x0) (fm x1) (fm x2) (fm x3) (fm x4) (fm x5) 24 0).symm
  refine put (gradQ (fm x0) (fm x1) (fm x2) (fm x3) (fm x4) (fm x5)) 32 24 0 24 3072 0 (by decide) rfl rfl rfl rfl _ _ _ _ rfl ?_ ?_
  · simp only [r_255, r_256, r_264, r_265, r_266, r_267, r_268, r_269, r_270, r_271, rd16, rd32]
    exact (dq_next (tl x3 3072 0) (tl x1 2944 0) (tl x1 3072 0) (tl x2 2944 0) (tl x2 3072 0) (tl x0 3072 0) (tl x4 3072 0) (tl x5 3072 0)).trans (gradQ_next (fm x0) (fm x1) (fm x2) (fm x3) (fm x4) (fm x5) 23 0).symm
  refine put (gradQ (fm x0) (fm x1) (fm x2) (fm x3) (fm x4) (fm x5)) 32 23 0 23 2944 0 (by decide) rfl rfl rfl rfl _ _ _ _ rfl ?_ ?_
  · simp only [r_244, r_245, r_253, r_254, r_255, r_256, r_257, r_258, r_259, r_260, rd16, rd32]
    exact (dq_next (tl x3 2944 0) (tl x1 2816 0) (tl x1 2944 0) (tl x2 2816 0) (tl x2 2944 0) (tl x0 2944 0) (tl x4 2944 0) (tl x5 2944 0)).trans (gradQ_next (fm x0) (fm x1) (fm x2) (fm x3) (fm x4) (fm x5) 22 0).symm
  refine put (gradQ (fm x0) (fm x1) (fm x2) (fm x3) (fm x4) (fm x5)) 32 22 0 22 2816 0 (by decide) rfl rfl rfl rfl _ _ _ _ rfl ?_ ?_
  · simp only [r_233, r_234, r_242, r_243, r_244, r_245, r_246, r_247, r_248, r_249, rd16, rd32]
    exact (dq_next (tl x3 2816 0) (tl x1 2688 0) (tl x1 2816 0) (tl x2 2688 0) (tl x2 2816 0) (tl x0 2816 0) (tl x4 2816 0) (tl x5 2816 0)).trans (gradQ_next (fm x0) (fm x1) (fm x2) (fm x3) (fm x4) (fm x5) 21 0).symm
  refine put (gradQ (fm x0) (fm x1) (fm x2) (fm x3) (fm x4) (fm x5)) 32 21 0 21 2688 0 (by decide) rfl rfl rfl rfl _ _ _ _ rfl ?_ ?_
  · simp only [r_222, r_223, r_231, r_232, r_233, r_234, r_235, r_236, r_237, r_238, rd16, rd32]
    exact (dq_next (tl x3 2688 0) (tl x1 2560 0) (tl x1 2688 0) (tl x2 2560 0) (tl x2 2688 0) (tl x0 2688 0) (tl x4 2688 0) (tl x5 2688 0)).trans (gradQ_next (fm x0) (fm x1) (fm x2) (fm x3) (fm x4) (fm x5) 20 0).symm
  refine put (gradQ (fm x0) (fm x1) (fm x2) (fm x3) (fm x4) (fm x5)) 32 20 0 20 2560 0 (by decide) rfl rfl rfl rfl _ _ _ _ rfl ?_ ?_
  · simp only [r_211, r_212, r_220, r_221, r_222, r_223, r_224, r_225, r_226, r_227, rd16, rd32]
    exact (dq_next (tl x3 2560 0) (tl x1 2432 0) (tl x1 2560 0) (tl x2 2432 0) (tl x2 2560 0) (tl x0 2560 0) (tl x4 2560 0) (tl x5 2560 0)).trans (gradQ_next (fm x0) (fm x1) (fm x2) (fm x3) (fm x4) (fm x5) 19 0).symm
  refine put (gradQ (fm x0) (fm x1) (fm x2) (fm x3) (fm x4) (fm x5)) 32 19 0 19 2432 0 (by decide) rfl rfl rfl rfl _ _ _ _ rfl ?_ ?_
  · simp only [r_200, r_201, r_209, r_210, r_211, r_212, r_213, r_214, r_215, r_216, rd16, rd32]
    exact (dq_next (tl x3 2432 0) (tl x1 2304 0) (tl x1 2432 0) (tl x2 2304 0) (tl x2 2432 0) (tl x0 2432 0) (tl x4 2432 0) (tl x5 2432 0)).trans (gradQ_next (fm x0) (fm x1) (fm x2) (fm x3) (fm x4) (fm x5) 18 0).symm
  refine put (gradQ (fm x0) (fm x1) (fm x2) (fm x3) (fm x4) (fm x5)) 32 18 0 18 2304 0 (by decide) rfl rfl rfl rfl _ _ _ _ rfl ?_ ?_
  · simp only [r_189, r_190, r_198, r_199, r_200, r_201, r_202, r_203, r_204, r_205, rd16, rd32]
    exact (dq_next (tl x3 2304 0) (tl x1 2176 0) (tl x1 2304 0) (tl x2 2176 0) (tl x2 2304 0) (tl x0 2304 0) (tl x4 2304 0) (tl x5 2304 0)).trans (gradQ_next (fm x0) (fm x1) (fm x2) (fm x3) (fm x4) (fm x5) 17 0).symm
  refine put (gradQ (fm x0) (fm x1) (fm x2) (fm x3) (fm x4) (fm x5)) 32 17 0 17 2176 0 (by decide) rfl rfl rfl rfl _ _ _ _ rfl ?_ ?_
  · simp only [r_178, r_179, r_187, r_188, r_189, r_190, r_191, r_192, r_193, r_194, rd16, rd32]
    exact (dq_next (tl x3 2176 0) (tl x1 2048 0) (tl x1 2176 0) (tl x2 2048 0) (tl x2 2176 0) (tl x0 2176 0) (tl x4 2176 0) (tl x5 2176 0)).trans (gradQ_next (fm x0) (fm x1) (fm x2) (fm x3) (fm x4) (fm x5) 16 0).symm
  refine put (gradQ (fm x0) (fm x1) (fm x2) (fm x3) (fm x4) (fm x5)) 32 16 0 16 2048 0 (by decide) rfl rfl rfl rfl _ _ _ _ rfl ?_ ?_
  · simp only [r_167, r_168, r_176, r_177, r_178, r_179, r_180, r_181, r_182, r_183, rd16, rd32]
    exact (dq_next (tl x3 2048 0) (tl x1 1920 0) (tl x1 2048 0) (tl x2 1920 0) (tl x2 2048 0) (tl x0 2048 0) (tl x4 2048 0) (tl x5 2048 0)).trans (gradQ_next (fm x0) (fm x1) (fm x2) (fm x3) (fm x4) (fm x5) 15 0).symm
  refine put (gradQ (fm x0) (fm x1) (fm x2) (fm x3) (fm x4) (fm x5)) 32 15 0 15 1920 0 (by decide) rfl rfl rfl rfl _ _ _ _ rfl ?_ ?_
  · simp only [r_156, r_157, r_165, r_166, r_167, r_168, r_169, r_170, r_171, r_172, rd16, rd32]
    exact (dq_next (tl x3 1920 0) (tl x1 1792 0) (tl x1 1920 0) (tl x2 1792 0) (tl x2 1920 0) (tl x0 1920 0) (tl x4 1920 0) (tl x5 1920 0)).trans (gradQ_next (fm x0) (fm x1) (fm x2) (fm x3) (fm x4) (fm x5) 14 0).symm
  refine put (gradQ (fm x0) (fm x1) (fm x2) (fm x3) (fm x4) (fm x5)) 32 14 0 14 1792 0 (by decide) rfl rfl rfl rfl _ _ _ _ rfl ?_ ?_
  · simp only [r_145, r_146, r_154, r_155, r_156, r_157, r_158, r_159, r_160, r_161, rd16, rd32]
    exact (dq_next (tl x3 1792 0) (tl x1 1664 0) (tl x1 1792 0) (tl x2 1664 0) (tl x2 1792 0) (tl x0 1792 0) (tl x4 1792 0) (tl x5 1792 0)).trans (gradQ_next (fm x0) (fm x1) (fm x2) (fm x3) (fm x4) (fm x5) 13 0).symm
  refine put (gradQ (fm x0) (fm x1) (fm x2) (fm x3) (fm x4) (fm x5)) 32 13 0 13 1664 0 (by decide) rfl rfl rfl rfl _ _ _ _ rfl ?_ ?_
  · simp only [r_134, r_135, r_143, r_144, r_145, r_146, r_147, r_148, r_149, r_150, rd16, rd32]
    exact (dq_next (tl x3 1664 0) (tl x1 1536 0) (tl x1 1664 0) (tl x2 1536 0) (tl x2 1664 0) (tl x0 1664 0) (tl x4 1664 0) (tl x5 1664 0)).trans (gradQ_next (fm x0) (fm x1) (fm x2) (fm x3) (fm x4) (fm x5) 12 0).symm
  refine put (gradQ (fm x0) (fm x1) (fm x2) (fm x3) (fm x4) (fm x5)) 32 12 0 12 1536 0 (by decide) rfl rfl rfl rfl _ _ _ _ rfl ?_ ?_
  · simp only [r_123, r_124, r_132, r_133, r_134, r_135, r_136, r_137, r_138, r_139, rd16, rd32]
    exact (dq_next (tl x3 1536 0) (tl x1 1408 0) (tl x1 1536 0) (tl x2 1408 0) (tl x2 1536 0) (tl x0 1536 0) (tl x4 1536 0) (tl x5 1536 0)).trans (gradQ_next (fm x0) (fm x1) (fm x2) (fm x3) (fm x4) (fm x5) 11 0).symm
  refine put (gradQ (fm x0) (fm x1) (fm x2) (fm x3) (fm x4) (fm x5)) 32 11 0 11 1408 0 (by decide) rfl rfl rfl rfl _ _ _ _ rfl ?_ ?_
  · simp only [r_112, r_113, r_121, r_122, r_123, r_124, r_125, r_126, r_127, r_128, rd16, rd32]
    exact (dq_next (tl x3 1408 0) (tl x1 1280 0) (tl x1 1408 0) (tl x2 1280 0) (tl x2 1408 0) (tl x0 1408 0) (tl x4 1408 0) (tl x5 1408 0)).trans (gradQ_next (fm x0) (fm x1) (fm x2) (fm x3) (fm x4) (fm x5) 10 0).symm
  refine put (gradQ (fm x0) (fm x1) (fm x2) (fm x3) (fm x4) (fm x5)) 32 10 0 10 1280 0 (by decide) rfl rfl rfl rfl _ _ _ _ rfl ?_ ?_
  · simp only [r_101, r_102, r_110, r_111, r_112, r_113, r_114, r_115, r_116, r_117, rd16, rd32]
    exact (dq_next (tl x3 1280 0) (tl x1 1152 0) (tl x1 1280 0) (tl x2 1152 0) (tl x2 1280 0) (tl x0 1280 0) (tl x4 1280 0) (tl x5 1280 0)).trans (gradQ_next (fm x0) (fm x1) (fm x2) (fm x3) (fm x4) (fm x5) 9 0).symm
  refine put (gradQ (fm x0) (fm x1) (fm x2) (fm x3) (fm x4) (fm x5)) 32 9 0 9 1152 0 (by decide) rfl rfl rfl rfl _ _ _ _ rfl ?_ ?_
  · simp only [r_90, r_91, r_99, r_100, r_101, r_102, r_103, r_104, r_105, r_106, rd16, rd32]
    exact (dq_next (tl x3 1152 0) (tl x1 1024 0) (tl x1 1152 0) (tl x2 1024 0) (tl x2 1152 0) (tl x0 1152 0) (tl x4 1152 0) (tl x5 1152 0)).trans (gradQ_next (fm x0) (fm x1) (fm x2) (fm x3) (fm x4) (fm x5) 8 0).symm
  refine put (gradQ (fm x0) (fm x1) (fm x2) (fm x3) (fm x4) (fm x5)) 32 8 0 8 1024 0 (by decide) rfl rfl rfl rfl _ _ _ _ rfl ?_ ?_
  · simp only [r_79, r_80, r_88, r_89, r_90, r_91, r_92, r_93, r_94, r_95, rd16, rd32]
    exact (dq_next (tl x3 1024 0) (tl x1 896 0) (tl x1 1024 0) (tl x2 896 0) (tl x2 1024 0) (tl x0 1024 0) (tl x4 1024 0) (tl x5 1024 0)).trans (gradQ_next (fm x0) (fm x1) (fm x2) (fm x3) (fm x4) (fm x5) 7 0).symm
  refine put (gradQ (fm x0) (fm x1) (fm x2) (fm x3) (fm x4) (fm x5)) 32 7 0 7 896 0 (by decide) rfl rfl rfl rfl _ _ _ _ rfl ?_ ?_
  · simp only [r_68, r_69, r_77, r_78, r_79, r_80, r_81, r_82, r_83, r_84, rd16, rd32]
    exact (dq_next (tl x3 896 0) (tl x1 768 0) (tl x1 896 0) (tl x2 768 0) (tl x2 896 0) (tl x0 896 0) (tl x4 896 0) (tl x5 896 0)).trans (gradQ_next (fm x0) (fm x1) (fm x2) (fm x3) (fm x4) (fm x5) 6 0).symm
  refine put (gradQ (fm x0) (fm x1) (fm x2) (fm x3) (fm x4) (fm x5)) 32 6 0 6 768 0 (by decide) rfl rfl rfl rfl _ _ _ _ rfl ?_ ?_
  · simp only [r_57, r_58, r_66, r_67, r_68, r_69, r_70, r_71, r_72, r_73, rd16, rd32]
    exact (dq_next (tl x3 768 0) (tl x1 640 0) (tl x1 768 0) (tl x2 640 0) (tl x2 768 0) (tl x0 768 0) (tl x4 768 0) (tl x5 768 0)).trans (gradQ_next (fm x0) (fm x1) (fm x2) (fm x3) (fm x4) (fm x5) 5 0).symm
  refine put (gradQ (fm x0) (fm x1) (fm x2) (fm x3) (fm x4) (fm x5)) 32 5 0 5 640 0 (by decide) rfl rfl rfl rfl _ _ _ _ rfl ?_ ?_
  · simp only [r_46, r_47, r_55, r_56, r_57, r_58, r_59, r_60, r_61, r_62, rd16, rd32]
    exact (dq_next (tl x3 640 0) (tl x1 512 0) (tl x1 640 0) (tl x2 512 0) (tl x2 640 0) (tl x0 640 0) (tl x4 640 0) (tl x5 640 0)).trans (gradQ_next (fm x0) (fm x1) (fm x2) (fm x3) (fm x4) (fm x5) 4 0).symm
  refine put (gradQ (fm x0) (fm x1) (fm x2) (fm x3) (fm x4) (fm x5)) 32 4 0 4 512 0 (by decide) rfl rfl rfl rfl _ _ _ _ rfl ?_ ?_
  · simp only [r_35, r_36, r_44, r_45, r_46, r_47, r_48, r_49, r_50, r_51, rd16, rd32]
    exact (dq_next (tl x3 512 0) (tl x1 384 0) (tl x1 512 0) (tl x2 384 0) (tl x2 512 0) (tl x0 512 0) (tl x4 512 0) (tl x5 512 0)).trans (gradQ_next (fm x0) (fm x1) (fm x2) (fm x3) (fm x4) (fm x5) 3 0).symm
  refine put (gradQ (fm x0) (fm x1) (fm x2) (fm x3) (fm x4) (fm x5)) 32 3 0 3 384 0 (by decide) rfl rfl rfl rfl _ _ _ _ rfl ?_ ?_
  · simp only [r_24, r_25, r_33, r_34, r_35, r_36, r_37, r_38, r_39, r_40, rd16, rd32]
    exact (dq_next (tl x3 384 0) (tl x1 256 0) (tl x1 384 0) (tl x2 256 0) (tl x2 384 0) (tl x0 384 0) (tl x4 384 0) (tl x5 384 0)).trans (gradQ_next (fm x0) (fm x1) (fm x2) (fm x3) (fm x4) (fm x5) 2 0).symm
  refine put (gradQ (fm x0) (fm x1) (fm x2) (fm x3) (fm x4) (fm x5)) 32 2 0 2 256 0 (by decide) rfl rfl rfl rfl _ _ _ _ rfl ?_ ?_
  · simp only [r_13, r_14, r_22, r_23, r_24, r_25, r_26, r_27, r_28, r_29, rd16, rd32]
    exact (dq_next (tl x3 256 0) (tl x1 128 0) (tl x1 256 0) (tl x2 128 0) (tl x2 256 0) (tl x0 256 0) (tl x4 256 0) (tl x5 256 0)).trans (gradQ_next (fm x0) (fm x1) (fm x2) (fm x3) (fm x4) (fm x5) 1 0).symm
  refine put (gradQ (fm x0) (fm x1) (fm x2) (fm x3) (fm x4) (fm x5)) 32 1 0 1 128 0 (by decide) rfl rfl rfl rfl _ _ _ _ rfl ?_ ?_
  · simp only [r_2, r_3, r_11, r_12, r_13, r_14, r_15, r_16, r_17, r_18, rd16, rd32]
    exact (dq_next (tl x3 128 0) (tl x1 0 0) (tl x1 128 0) (tl x2 0 0) (tl x2 128 0) (tl x0 128 0) (tl x4 128 0) (tl x5 128 0)).trans (gradQ_next (fm x0) (fm x1) (fm x2) (fm x3) (fm x4) (fm x5) 0 0).symm
  refine put (gradQ (fm x0) (fm x1) (fm x2) (fm x3) (fm x4) (fm x5)) 32 0 0 0 0 0 (by decide) rfl rfl rfl rfl _ _ _ _ rfl ?_ (fun y h => absurd h (Nat.not_lt_zero _))
  · simp only [r, r_1, r_2, r_3, r_4, r_5, r_6, r_7, rd16, rd32]
    exact (dq_first (tl x3 0 0) (tl x1 0 0) (tl x2 0 0) (tl x0 0 0) (tl x4 0 0) (tl x5 0 0)).trans (gradQ_first (fm x0) (fm x1) (fm x2) (fm x3) (fm x4) (fm x5) 0).symm

end Cert.AttnBwd1

end
-- ==== Proof.AttnBwd1Dk.lean ====
/- The keys' gradient of a block, tile by tile. -/
module

public import proofs.«01_k».proof.Proof.AttnBwd1Read

@[expose] public section

set_option maxRecDepth 16384

noncomputable section

open Idealize.ShloMosaic Idealize.ShloMosaic.TcCoe Idealize.SL.Sem

namespace Cert.AttnBwd1

open Cert.AttnGen
open Cert.AttnBwd (dq_first dq_next dk_first dk_next dk_own dv_first dv_next dv_own)
open Cert.Kernel35Ideal Cert.Kernel35Ideal.Gen

open kernelRun0_A.sl

theorem dk_start (y : S4096x128.Idx) : View.canon (H7_1 (F := Ideal)) y = 0 := by
  have e : (Rect.unit (s := S4096x128) ![0, 0] S4096x128.size inb_S4096x128_S4096x128_0_0).emb y = y := by
    funext a
    apply Fin.ext
    fin_cases a
    · simp
    · simp
  conv_lhs => rw [← e]
  refine (View.canon_cons_emb (Rect.unit (s := S4096x128) ![0, 0] S4096x128.size inb_S4096x128_S4096x128_0_0) _ _ y).trans ?_
  idx_vars y
  pointwise [k0_pay5]

variable (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole)
  (x0 x1 x2 x3 : Vec Ideal S4096x128 .bf16) (x4 x5 : Vec Ideal S4096x128 .f32)

set_option maxHeartbeats 4000000 in
theorem dk_run (y : S4096x128.Idx) : View.canon (kernelRun0_A (F := Ideal) c i arg1 harg1 arg2 harg2 arg3 harg3 arg4 harg4 arg5 harg5 arg6 harg6 arg7 harg7 arg8 harg8 arg9 harg9 x0 x1 x2 x3 x4 x5).2.1 y = arr (total (ownK (fm x0) (fm x1) (fm x2) (fm x3) (fm x4) (fm x5)) (befK (fm x0) (fm x1) (fm x2) (fm x3) (fm x4) (fm x5)) 32) y := by
  refine Eq.trans ?_ (acc_end (ownK (fm x0) (fm x1) (fm x2) (fm x3) (fm x4) (fm x5)) (befK (fm x0) (fm x1) (fm x2) (fm x3) (fm x4) (fm x5)) 32 1 32 rfl rfl rfl y)
  revert y
  refine acc_next _ _ 32 31 0 30 3840 3968 0 (by decide) rfl rfl rfl rfl _ _ _ _ _ _ _ rfl rfl rfl (fun x => ?_) ?_
  · simp only [r_332, r_333, r_341, r_342, r_343, r_344, r_345, r_346, r_347, r_348, v2034, v2039, rd16, rd32, rdc]
    exact ⟨dk_next .., dk_own ..⟩
  refine acc_next _ _ 32 30 0 29 3712 3840 0 (by decide) rfl rfl rfl rfl _ _ _ _ _ _ _ rfl rfl rfl (fun x => ?_) ?_
  · simp only [r_321, r_322, r_330, r_331, r_332, r_333, r_334, r_335, r_336, r_337, v1970, v1975, rd16, rd32, rdc]
    exact ⟨dk_next .., dk_own ..⟩
  refine acc_next _ _ 32 29 0 28 3584 3712 0 (by decide) rfl rfl rfl rfl _ _ _ _ _ _ _ rfl rfl rfl (fun x => ?_) ?_
  · simp only [r_310, r_311, r_319, r_320, r_321, r_322, r_323, r_324, r_325, r_326, v1906, v1911, rd16, rd32, rdc]
    exact ⟨dk_next .., dk_own ..⟩
  refine acc_next _ _ 32 28 0 27 3456 3584 0 (by decide) rfl rfl rfl rfl _ _ _ _ _ _ _ rfl rfl rfl (fun x => ?_) ?_
  · simp only [r_299, r_300, r_308, r_309, r_310, r_311, r_312, r_313, r_314, r_315, v1842, v1847, rd16, rd32, rdc]
    exact ⟨dk_next .., dk_own ..⟩
  refine acc_next _ _ 32 27 0 26 3328 3456 0 (by decide) rfl rfl rfl rfl _ _ _ _ _ _ _ rfl rfl rfl (fun x => ?_) ?_
  · simp only [r_288, r_289, r_297, r_298, r_299, r_300, r_301, r_302, r_303, r_304, v1778, v1783, rd16, rd32, rdc]
    exact ⟨dk_next .., dk_own ..⟩
  refine acc_next _ _ 32 26 0 25 3200 3328 0 (by decide) rfl rfl rfl rfl _ _ _ _ _ _ _ rfl rfl rfl (fun x => ?_) ?_
  · simp only [r_277, r_278, r_286, r_287, r_288, r_289, r_290, r_291, r_292, r_293, v1714, v1719, rd16, rd32, rdc]
    exact ⟨dk_next .., dk_own ..⟩
  refine acc_next _ _ 32 25 0 24 3072 3200 0 (by decide) rfl rfl rfl rfl _ _ _ _ _ _ _ rfl rfl rfl (fun x => ?_) ?_
  · simp only [r_266, r_267, r_275, r_276, r_277, r_278, r_279, r_280, r_281, r_282, v1650, v1655, rd16, rd32, rdc]
    exact ⟨dk_next .., dk_own ..⟩
  refine acc_next _ _ 32 24 0 23 2944 3072 0 (by decide) rfl rfl rfl rfl _ _ _ _ _ _ _ rfl rfl rfl (fun x => ?_) ?_
  · simp only [r_255, r_256, r_264, r_265, r_266, r_267, r_268, r_269, r_270, r_271, v1586, v1591, rd16, rd32, rdc]
    exact ⟨dk_next .., dk_own ..⟩
  refine acc_next _ _ 32 23 0 22 2816 2944 0 (by decide) rfl rfl rfl rfl _ _ _ _ _ _ _ rfl rfl rfl (fun x => ?_) ?_
  · simp only [r_244, r_245, r_253, r_254, r_255, r_256, r_257, r_258, r_259, r_260, v1522, v1527, rd16, rd32, rdc]
    exact ⟨dk_next .., dk_own ..⟩
  refine acc_next _ _ 32 22 0 21 2688 2816 0 (by decide) rfl rfl rfl rfl _ _ _ _ _ _ _ rfl rfl rfl (fun x => ?_) ?_
  · simp only [r_233, r_234, r_242, r_243, r_244, r_245, r_246, r_247, r_248, r_249, v1458, v1463, rd16, rd32, rdc]
    exact ⟨dk_next .., dk_own ..⟩
  refine acc_next _ _ 32 21 0 20 2560 2688 0 (by decide) rfl rfl rfl rfl _ _ _ _ _ _ _ rfl rfl rfl (fun x => ?_) ?_
  · simp only [r_222, r_223, r_231, r_232, r_233, r_234, r_235, r_236, r_237, r_238, v1394, v1399, rd16, rd32, rdc]
    exact ⟨dk_next .., dk_own ..⟩
  refine acc_next _ _ 32 20 0 19 2432 2560 0 (by decide) rfl rfl rfl rfl _ _ _ _ _ _ _ rfl rfl rfl (fun x => ?_) ?_
  · simp only [r_211, r_212, r_220, r_221, r_222, r_223, r_224, r_225, r_226, r_227, v1330, v1335, rd16, rd32, rdc]
    exact ⟨dk_next .., dk_own ..⟩
  refine acc_next _ _ 32 19 0 18 2304 2432 0 (by decide) rfl rfl rfl rfl _ _ _ _ _ _ _ rfl rfl rfl (fun x => ?_) ?_
  · simp only [r_200, r_201, r_209, r_210, r_211, r_212, r_213, r_214, r_215, r_216, v1266, v1271, rd16, rd32, rdc]
    exact ⟨dk_next .., dk_own ..⟩
  refine acc_next _ _ 32 18 0 17 2176 2304 0 (by decide) rfl rfl rfl rfl _ _ _ _ _ _ _ rfl rfl rfl (fun x => ?_) ?_
  · simp only [r_189, r_190, r_198, r_199, r_200, r_201, r_202, r_203, r_204, r_205, v1202, v1207, rd16, rd32, rdc]
    exact ⟨dk_next .., dk_own ..⟩
  refine acc_next _ _ 32 17 0 16 2048 2176 0 (by decide) rfl rfl rfl rfl _ _ _ _ _ _ _ rfl rfl rfl (fun x => ?_) ?_
  · simp only [r_178, r_179, r_187, r_188, r_189, r_190, r_191, r_192, r_193, r_194, v1138, v1143, rd16, rd32, rdc]
    exact ⟨dk_next .., dk_own ..⟩
  refine acc_next _ _ 32 16 0 15 1920 2048 0 (by decide) rfl rfl rfl rfl _ _ _ _ _ _ _ rfl rfl rfl (fun x => ?_) ?_
  · simp only [r_167, r_168, r_176, r_177, r_178, r_179, r_180, r_181, r_182, r_183, v1074, v1079, rd16, rd32, rdc]
    exact ⟨dk_next .., dk_own ..⟩
  refine acc_next _ _ 32 15 0 14 1792 1920 0 (by decide) rfl rfl rfl rfl _ _ _ _ _ _ _ rfl rfl rfl (fun x => ?_) ?_
  · simp only [r_156, r_157, r_165, r_166, r_167, r_168, r_169, r_170, r_171, r_172, v1010, v1015, rd16, rd32, rdc]
    exact ⟨dk_next .., dk_own ..⟩
  refine acc_next _ _ 32 14 0 13 1664 1792 0 (by decide) rfl rfl rfl rfl _ _ _ _ _ _ _ rfl rfl rfl (fun x => ?_) ?_
  · simp only [r_145, r_146, r_154, r_155, r_156, r_157, r_158, r_159, r_160, r_161, v946, v951, rd16, rd32, rdc]
    exact ⟨dk_next .., dk_own ..⟩
  refine acc_next _ _ 32 13 0 12 1536 1664 0 (by decide) rfl rfl rfl rfl _ _ _ _ _ _ _ rfl rfl rfl (fun x => ?_) ?_
  · simp only [r_134, r_135, r_143, r_144, r_145, r_146, r_147, r_148, r_149, r_150, v882, v887, rd16, rd32, rdc]
    exact ⟨dk_next .., dk_own ..⟩
  refine acc_next _ _ 32 12 0 11 1408 1536 0 (by decide) rfl rfl rfl rfl _ _ _ _ _ _ _ rfl rfl rfl (fun x => ?_) ?_
  · simp only [r_123, r_124, r_132, r_133, r_134, r_135, r_136, r_137, r_138, r_139, v818, v823, rd16, rd32, rdc]
    exact ⟨dk_next .., dk_own ..⟩
  refine acc_next _ _ 32 11 0 10 1280 1408 0 (by decide) rfl rfl rfl rfl _ _ _ _ _ _ _ rfl rfl rfl (fun x => ?_) ?_
  · simp only [r_112, r_113, r_121, r_122, r_123, r_124, r_125, r_126, r_127, r_128, v754, v759, rd16, rd32, rdc]
    exact ⟨dk_next .., dk_own ..⟩
  refine acc_next _ _ 32 10 0 9 1152 1280 0 (by decide) rfl rfl rfl rfl _ _ _ _ _ _ _ rfl rfl rfl (fun x => ?_) ?_
  · simp only [r_101, r_102, r_110, r_111, r_112, r_113, r_114, r_115, r_116, r_117, v690, v695, rd16, rd32, rdc]
    exact ⟨dk_next .., dk_own ..⟩
  refine acc_next _ _ 32 9 0 8 1024 1152 0 (by decide) rfl rfl rfl rfl _ _ _ _ _ _ _ rfl rfl rfl (fun x => ?_) ?_
  · simp only [r_90, r_91, r_99, r_100, r_101, r_102, r_103, r_104, r_105, r_106, v626, v631, rd16, rd32, rdc]
    exact ⟨dk_next .., dk_own ..⟩
  refine acc_next _ _ 32 8 0 7 896 1024 0 (by decide) rfl rfl rfl rfl _ _ _ _ _ _ _ rfl rfl rfl (fun x => ?_) ?_
  · simp only [r_79, r_80, r_88, r_89, r_90, r_91, r_92, r_93, r_94, r_95, v562, v567, rd16, rd32, rdc]
    exact ⟨dk_next .., dk_own ..⟩
  refine acc_next _ _ 32 7 0 6 768 896 0 (by decide) rfl rfl rfl rfl _ _ _ _ _ _ _ rfl rfl rfl (fun x => ?_) ?_
  · simp only [r_68, r_69, r_77, r_78, r_79, r_80, r_81, r_82, r_83, r_84, v498, v503, rd16, rd32, rdc]
    exact ⟨dk_next .., dk_own ..⟩
  refine acc_next _ _ 32 6 0 5 640 768 0 (by decide) rfl rfl rfl rfl _ _ _ _ _ _ _ rfl rfl rfl (fun x => ?_) ?_
  · simp only [r_57, r_58, r_66, r_67, r_68, r_69, r_70, r_71, r_72, r_73, v434, v439, rd16, rd32, rdc]
    exact ⟨dk_next .., dk_own ..⟩
  refine acc_next _ _ 32 5 0 4 512 640 0 (by decide) rfl rfl rfl rfl _ _ _ _ _ _ _ rfl rfl rfl (fun x => ?_) ?_
  · simp only [r_46, r_47, r_55, r_56, r_57, r_58, r_59, r_60, r_61, r_62, v370, v375, rd16, rd32, rdc]
    exact ⟨dk_next .., dk_own ..⟩
  refine acc_next _ _ 32 4 0 3 384 512 0 (by decide) rfl rfl rfl rfl _ _ _ _ _ _ _ rfl rfl rfl (fun x => ?_) ?_
  · simp only [r_35, r_36, r_44, r_45, r_46, r_47, r_48, r_49, r_50, r_51, v306, v311, rd16, rd32, rdc]
    exact ⟨dk_next .., dk_own ..⟩
  refine acc_next _ _ 32 3 0 2 256 384 0 (by decide) rfl rfl rfl rfl _ _ _ _ _ _ _ rfl rfl rfl (fun x => ?_) ?_
  · simp only [r_24, r_25, r_33, r_34, r_35, r_36, r_37, r_38, r_39, r_40, v242, v247, rd16, rd32, rdc]
    exact ⟨dk_next .., dk_own ..⟩
  refine acc_next _ _ 32 2 0 1 128 256 0 (by decide) rfl rfl rfl rfl _ _ _ _ _ _ _ rfl rfl rfl (fun x => ?_) ?_
  · simp only [r_13, r_14, r_22, r_23, r_24, r_25, r_26, r_27, r_28, r_29, v178, v183, rd16, rd32, rdc]
    exact ⟨dk_next .., dk_own ..⟩
  refine acc_next _ _ 32 1 0 0 0 128 0 (by decide) rfl rfl rfl rfl _ _ _ _ _ _ _ rfl rfl rfl (fun x => ?_) ?_
  · simp only [r_2, r_3, r_11, r_12, r_13, r_14, r_15, r_16, r_17, r_18, v114, v119, rd16, rd32, rdc]
    exact ⟨dk_next .., dk_own ..⟩
  refine acc_first _ _ 32 0 0 0 0 (by decide) rfl rfl rfl _ _ _ _ _ _ _ rfl rfl rfl (fun x => ?_) ?_
  · simp only [r, r_1, r_2, r_3, r_4, r_5, r_6, r_7, v50, v55, rd16, rd32, rdc]
    exact ⟨dk_first .., dk_own ..⟩
  exact fun y => (dk_start y).trans (acc_start ..).symm

end Cert.AttnBwd1

end
-- ==== Proof.AttnBwd1Dv.lean ====
/- The values' gradient of a block, tile by tile. -/
module

public import proofs.«01_k».proof.Proof.AttnBwd1Read

@[expose] public section

set_option maxRecDepth 16384

noncomputable section

open Idealize.ShloMosaic Idealize.ShloMosaic.TcCoe Idealize.SL.Sem

namespace Cert.AttnBwd1

open Cert.AttnGen
open Cert.AttnBwd (dq_first dq_next dk_first dk_next dk_own dv_first dv_next dv_own)
open Cert.Kernel35Ideal Cert.Kernel35Ideal.Gen

open kernelRun0_A.sl

theorem dv_start (y : S4096x128.Idx) : View.canon (H8_1 (F := Ideal)) y = 0 := by
  have e : (Rect.unit (s := S4096x128) ![0, 0] S4096x128.size inb_S4096x128_S4096x128_0_0).emb y = y := by
    funext a
    apply Fin.ext
    fin_cases a
    · simp
    · simp
  conv_lhs => rw [← e]
  refine (View.canon_cons_emb (Rect.unit (s := S4096x128) ![0, 0] S4096x128.size inb_S4096x128_S4096x128_0_0) _ _ y).trans ?_
  idx_vars y
  pointwise [k0_pay6]

variable (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole)
  (x0 x1 x2 x3 : Vec Ideal S4096x128 .bf16) (x4 x5 : Vec Ideal S4096x128 .f32)

set_option maxHeartbeats 4000000 in
theorem dv_run (y : S4096x128.Idx) : View.canon (kernelRun0_A (F := Ideal) c i arg1 harg1 arg2 harg2 arg3 harg3 arg4 harg4 arg5 harg5 arg6 harg6 arg7 harg7 arg8 harg8 arg9 harg9 x0 x1 x2 x3 x4 x5).2.2.1 y = arr (total (ownV (fm x0) (fm x1) (fm x3) (fm x4)) (befV (fm x0) (fm x1) (fm x3) (fm x4)) 32) y := by
  refine Eq.trans ?_ (acc_end (ownV (fm x0) (fm x1) (fm x3) (fm x4)) (befV (fm x0) (fm x1) (fm x3) (fm x4)) 32 1 32 rfl rfl rfl y)
  revert y
  refine acc_next _ _ 32 31 0 30 3840 3968 0 (by decide) rfl rfl rfl rfl _ _ _ _ _ _ _ rfl rfl rfl (fun x => ?_) ?_
  · simp only [r_332, r_333, r_341, r_342, r_343, r_344, r_345, r_346, r_347, r_348, r_349, r_350, r_351, v2044, v2050, rd16, rd32, rdc]
    exact ⟨dv_next .., dv_own ..⟩
  refine acc_next _ _ 32 30 0 29 3712 3840 0 (by decide) rfl rfl rfl rfl _ _ _ _ _ _ _ rfl rfl rfl (fun x => ?_) ?_
  · simp only [r_321, r_322, r_330, r_331, r_332, r_333, r_334, r_335, r_336, r_337, r_338, r_339, r_340, v1980, v1986, rd16, rd32, rdc]
    exact ⟨dv_next .., dv_own ..⟩
  refine acc_next _ _ 32 29 0 28 3584 3712 0 (by decide) rfl rfl rfl rfl _ _ _ _ _ _ _ rfl rfl rfl (fun x => ?_) ?_
  · simp only [r_310, r_311, r_319, r_320, r_321, r_322, r_323, r_324, r_325, r_326, r_327, r_328, r_329, v1916, v1922, rd16, rd32, rdc]
    exact ⟨dv_next .., dv_own ..⟩
  refine acc_next _ _ 32 28 0 27 3456 3584 0 (by decide) rfl rfl rfl rfl _ _ _ _ _ _ _ rfl rfl rfl (fun x => ?_) ?_
  · simp only [r_299, r_300, r_308, r_309, r_310, r_311, r_312, r_313, r_314, r_315, r_316, r_317, r_318, v1852, v1858, rd16, rd32, rdc]
    exact ⟨dv_next .., dv_own ..⟩
  refine acc_next _ _ 32 27 0 26 3328 3456 0 (by decide) rfl rfl rfl rfl _ _ _ _ _ _ _ rfl rfl rfl (fun x => ?_) ?_
  · simp only [r_288, r_289, r_297, r_298, r_299, r_300, r_301, r_302, r_303, r_304, r_305, r_306, r_307, v1788, v1794, rd16, rd32, rdc]
    exact ⟨dv_next .., dv_own ..⟩
  refine acc_next _ _ 32 26 0 25 3200 3328 0 (by decide) rfl rfl rfl rfl _ _ _ _ _ _ _ rfl rfl rfl (fun x => ?_) ?_
  · simp only [r_277, r_278, r_286, r_287, r_288, r_289, r_290, r_291, r_292, r_293, r_294, r_295, r_296, v1724, v1730, rd16, rd32, rdc]
    exact ⟨dv_next .., dv_own ..⟩
  refine acc_next _ _ 32 25 0 24 3072 3200 0 (by decide) rfl rfl rfl rfl _ _ _ _ _ _ _ rfl rfl rfl (fun x => ?_) ?_
  · simp only [r_266, r_267, r_275, r_276, r_277, r_278, r_279, r_280, r_281, r_282, r_283, r_284, r_285, v1660, v1666, rd16, rd32, rdc]
    exact ⟨dv_next .., dv_own ..⟩
  refine acc_next _ _ 32 24 0 23 2944 3072 0 (by decide) rfl rfl rfl rfl _ _ _ _ _ _ _ rfl rfl rfl (fun x => ?_) ?_
  · simp only [r_255, r_256, r_264, r_265, r_266, r_267, r_268, r_269, r_270, r_271, r_272, r_273, r_274, v1596, v1602, rd16, rd32, rdc]
    exact ⟨dv_next .., dv_own ..⟩
  refine acc_next _ _ 32 23 0 22 2816 2944 0 (by decide) rfl rfl rfl rfl _ _ _ _ _ _ _ rfl rfl rfl (fun x => ?_) ?_
  · simp only [r_244, r_245, r_253, r_254, r_255, r_256, r_257, r_258, r_259, r_260, r_261, r_262, r_263, v1532, v1538, rd16, rd32, rdc]
    exact ⟨dv_next .., dv_own ..⟩
  refine acc_next _ _ 32 22 0 21 2688 2816 0 (by decide) rfl rfl rfl rfl _ _ _ _ _ _ _ rfl rfl rfl (fun x => ?_) ?_
  · simp only [r_233, r_234, r_242, r_243, r_244, r_245, r_246, r_247, r_248, r_249, r_250, r_251, r_252, v1468, v1474, rd16, rd32, rdc]
    exact ⟨dv_next .., dv_own ..⟩
  refine acc_next _ _ 32 21 0 20 2560 2688 0 (by decide) rfl rfl rfl rfl _ _ _ _ _ _ _ rfl rfl rfl (fun x => ?_) ?_
  · simp only [r_222, r_223, r_231, r_232, r_233, r_234, r_235, r_236, r_237, r_238, r_239, r_240, r_241, v1404, v1410, rd16, rd32, rdc]
    exact ⟨dv_next .., dv_own ..⟩
  refine acc_next _ _ 32 20 0 19 2432 2560 0 (by decide) rfl rfl rfl rfl _ _ _ _ _ _ _ rfl rfl rfl (fun x => ?_) ?_
  · simp only [r_211, r_212, r_220, r_221, r_222, r_223, r_224, r_225, r_226, r_227, r_228, r_229, r_230, v1340, v1346, rd16, rd32, rdc]
    exact ⟨dv_next .., dv_own ..⟩
  refine acc_next _ _ 32 19 0 18 2304 2432 0 (by decide) rfl rfl rfl rfl _ _ _ _ _ _ _ rfl rfl rfl (fun x => ?_) ?_
  · simp only [r_200, r_201, r_209, r_210, r_211, r_212, r_213, r_214, r_215, r_216, r_217, r_218, r_219, v1276, v1282, rd16, rd32, rdc]
    exact ⟨dv_next .., dv_own ..⟩
  refine acc_next _ _ 32 18 0 17 2176 2304 0 (by decide) rfl rfl rfl rfl _ _ _ _ _ _ _ rfl rfl rfl (fun x => ?_) ?_
  · simp only [r_189, r_190, r_198, r_199, r_200, r_201, r_202, r_203, r_204, r_205, r_206, r_207, r_208, v1212, v1218, rd16, rd32, rdc]
    exact ⟨dv_next .., dv_own ..⟩
  refine acc_next _ _ 32 17 0 16 2048 2176 0 (by decide) rfl rfl rfl rfl _ _ _ _ _ _ _ rfl rfl rfl (fun x => ?_) ?_
  · simp only [r_178, r_179, r_187, r_188, r_189, r_190, r_191, r_192, r_193, r_194, r_195, r_196, r_197, v1148, v1154, rd16, rd32, rdc]
    exact ⟨dv_next .., dv_own ..⟩
  refine acc_next _ _ 32 16 0 15 1920 2048 0 (by decide) rfl rfl rfl rfl _ _ _ _ _ _ _ rfl rfl rfl (fun x => ?_) ?_
  · simp only [r_167, r_168, r_176, r_177, r_178, r_179, r_180, r_181, r_182, r_183, r_184, r_185, r_186, v1084, v1090, rd16, rd32, rdc]
    exact ⟨dv_next .., dv_own ..⟩
  refine acc_next _ _ 32 15 0 14 1792 1920 0 (by decide) rfl rfl rfl rfl _ _ _ _ _ _ _ rfl rfl rfl (fun x => ?_) ?_
  · simp only [r_156, r_157, r_165, r_166, r_167, r_168, r_169, r_170, r_171, r_172, r_173, r_174, r_175, v1020, v1026, rd16, rd32, rdc]
    exact ⟨dv_next .., dv_own ..⟩
  refine acc_next _ _ 32 14 0 13 1664 1792 0 (by decide) rfl rfl rfl rfl _ _ _ _ _ _ _ rfl rfl rfl (fun x => ?_) ?_
  · simp only [r_145, r_146, r_154, r_155, r_156, r_157, r_158, r_159, r_160, r_161, r_162, r_163, r_164, v956, v962, rd16, rd32, rdc]
    exact ⟨dv_next .., dv_own ..⟩
  refine acc_next _ _ 32 13 0 12 1536 1664 0 (by decide) rfl rfl rfl rfl _ _ _ _ _ _ _ rfl rfl rfl (fun x => ?_) ?_
  · simp only [r_134, r_135, r_143, r_144, r_145, r_146, r_147, r_148, r_149, r_150, r_151, r_152, r_153, v892, v898, rd16, rd32, rdc]
    exact ⟨dv_next .., dv_own ..⟩
  refine acc_next _ _ 32 12 0 11 1408 1536 0 (by decide) rfl rfl rfl rfl _ _ _ _ _ _ _ rfl rfl rfl (fun x => ?_) ?_
  · simp only [r_123, r_124, r_132, r_133, r_134, r_135, r_136, r_137, r_138, r_139, r_140, r_141, r_142, v828, v834, rd16, rd32, rdc]
    exact ⟨dv_next .., dv_own ..⟩
  refine acc_next _ _ 32 11 0 10 1280 1408 0 (by decide) rfl rfl rfl rfl _ _ _ _ _ _ _ rfl rfl rfl (fun x => ?_) ?_
  · simp only [r_112, r_113, r_121, r_122, r_123, r_124, r_125, r_126, r_127, r_128, r_129, r_130, r_131, v764, v770, rd16, rd32, rdc]
    exact ⟨dv_next .., dv_own ..⟩
  refine acc_next _ _ 32 10 0 9 1152 1280 0 (by decide) rfl rfl rfl rfl _ _ _ _ _ _ _ rfl rfl rfl (fun x => ?_) ?_
  · simp only [r_101, r_102, r_110, r_111, r_112, r_113, r_114, r_115, r_116, r_117, r_118, r_119, r_120, v700, v706, rd16, rd32, rdc]
    exact ⟨dv_next .., dv_own ..⟩
  refine acc_next _ _ 32 9 0 8 1024 1152 0 (by decide) rfl rfl rfl rfl _ _ _ _ _ _ _ rfl rfl rfl (fun x => ?_) ?_
  · simp only [r_90, r_91, r_99, r_100, r_101, r_102, r_103, r_104, r_105, r_106, r_107, r_108, r_109, v636, v642, rd16, rd32, rdc]
    exact ⟨dv_next .., dv_own ..⟩
  refine acc_next _ _ 32 8 0 7 896 1024 0 (by decide) rfl rfl rfl rfl _ _ _ _ _ _ _ rfl rfl rfl (fun x => ?_) ?_
  · simp only [r_79, r_80, r_88, r_89, r_90, r_91, r_92, r_93, r_94, r_95, r_96, r_97, r_98, v572, v578, rd16, rd32, rdc]
    exact ⟨dv_next .., dv_own ..⟩
  refine acc_next _ _ 32 7 0 6 768 896 0 (by decide) rfl rfl rfl rfl _ _ _ _ _ _ _ rfl rfl rfl (fun x => ?_) ?_
  · simp only [r_68, r_69, r_77, r_78, r_79, r_80, r_81, r_82, r_83, r_84, r_85, r_86, r_87, v508, v514, rd16, rd32, rdc]
    exact ⟨dv_next .., dv_own ..⟩
  refine acc_next _ _ 32 6 0 5 640 768 0 (by decide) rfl rfl rfl rfl _ _ _ _ _ _ _ rfl rfl rfl (fun x => ?_) ?_
  · simp only [r_57, r_58, r_66, r_67, r_68, r_69, r_70, r_71, r_72, r_73, r_74, r_75, r_76, v444, v450, rd16, rd32, rdc]
    exact ⟨dv_next .., dv_own ..⟩
  refine acc_next _ _ 32 5 0 4 512 640 0 (by decide) rfl rfl rfl rfl _ _ _ _ _ _ _ rfl rfl rfl (fun x => ?_) ?_
  · simp only [r_46, r_47, r_55, r_56, r_57, r_58, r_59, r_60, r_61, r_62, r_63, r_64, r_65, v380, v386, rd16, rd32, rdc]
    exact ⟨dv_next .., dv_own ..⟩
  refine acc_next _ _ 32 4 0 3 384 512 0 (by decide) rfl rfl rfl rfl _ _ _ _ _ _ _ rfl rfl rfl (fun x => ?_) ?_
  · simp only [r_35, r_36, r_44, r_45, r_46, r_47, r_48, r_49, r_50, r_51, r_52, r_53, r_54, v316, v322, rd16, rd32, rdc]
    exact ⟨dv_next .., dv_own ..⟩
  refine acc_next _ _ 32 3 0 2 256 384 0 (by decide) rfl rfl rfl rfl _ _ _ _ _ _ _ rfl rfl rfl (fun x => ?_) ?_
  · simp only [r_24, r_25, r_33, r_34, r_35, r_36, r_37, r_38, r_39, r_40, r_41, r_42, r_43, v252, v258, rd16, rd32, rdc]
    exact ⟨dv_next .., dv_own ..⟩
  refine acc_next _ _ 32 2 0 1 128 256 0 (by decide) rfl rfl rfl rfl _ _ _ _ _ _ _ rfl rfl rfl (fun x => ?_) ?_
  · simp only [r_13, r_14, r_22, r_23, r_24, r_25, r_26, r_27, r_28, r_29, r_30, r_31, r_32, v188, v194, rd16, rd32, rdc]
    exact ⟨dv_next .., dv_own ..⟩
  refine acc_next _ _ 32 1 0 0 0 128 0 (by decide) rfl rfl rfl rfl _ _ _ _ _ _ _ rfl rfl rfl (fun x => ?_) ?_
  · simp only [r_2, r_3, r_11, r_12, r_13, r_14, r_15, r_16, r_17, r_18, r_19, r_20, r_21, v124, v130, rd16, rd32, rdc]
    exact ⟨dv_next .., dv_own ..⟩
  refine acc_first _ _ 32 0 0 0 0 (by decide) rfl rfl rfl _ _ _ _ _ _ _ rfl rfl rfl (fun x => ?_) ?_
  · simp only [r, r_1, r_2, r_3, r_4, r_5, r_6, r_7, r_8, r_9, r_10, v60, v66, rd16, rd32, rdc]
    exact ⟨dv_first .., dv_own ..⟩
  exact fun y => (dv_start y).trans (acc_start ..).symm

end Cert.AttnBwd1

end
-- ==== Proof.AttnBwd1.lean ====
/- The arrays this gradient leaves, and the two programs side by side. -/
module

public import proofs.«01_k».proof.Proof.Gen.Kernel35Ideal.Value
public import proofs.«01_k».proof.Proof.AttnRef1
public import proofs.«01_k».proof.Proof.AttnBwd1Dq
public import proofs.«01_k».proof.Proof.AttnBwd1Dk
public import proofs.«01_k».proof.Proof.AttnBwd1Dv
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.AttnBwd1

open Cert.AttnGen

abbrev Arr : Type := Blk 4096 1024

abbrev Num : Type := Blk 4096 8

/-- The gradients, as arrays. -/
def GQ (Q K W O : Arr) (E D : Num) : Arr := arr (gradQ (fam Q) (fam K) (fam W) (fam O) (num E) (num D))
def GK (Q K W O : Arr) (E D : Num) : Arr :=
  arr (total (ownK (fam Q) (fam K) (fam W) (fam O) (num E) (num D)) (befK (fam Q) (fam K) (fam W) (fam O) (num E) (num D)) 32)
def GV (Q K O : Arr) (E : Num) : Arr := arr (total (ownV (fam Q) (fam K) (fam O) (num E)) (befV (fam Q) (fam K) (fam O) (num E)) 32)

def Holds (x : B) (X : Arr) (t : ℕ) : Prop := ∀ (a : Fin 4096) (b : Fin 128) (h : 128 * t + b.val < 1024), x (ix2 a b) = X (ix2 a ⟨128 * t + b.val, h⟩)

def Counts (x : B) (E : Num) (t : ℕ) : Prop := ∀ (a : Fin 4096) (b : Fin 128) (h : (128 * t + b.val) / 128 < 8), x (ix2 a b) = E (ix2 a ⟨(128 * t + b.val) / 128, h⟩)

section

variable {q k v u l e : B} {Q K W O : Arr} {E D : Num} {t : ℕ} (hq : Holds q Q t) (hk : Holds k K t) (hv : Holds v W t) (hu : Holds u O t)
  (hl : Counts l E t) (he : Counts e D t) (ht : t < 8) (y0 : Fin 4096) (y1 : Fin 128) (h : 128 * t + y1.val < 1024)

include ht

theorem th {x : B} {X : Arr} (H : Holds x X t) {c : ℕ} (hc : c < 1) : ∀ p < 32, fam x p c = fam X p (1 * t + c) := fun _ _ =>
  tile_holds H rfl (by omega) hc

theorem tc {x : B} {X : Num} (H : Counts x X t) {c : ℕ} (hc : c < 1) : ∀ p < 32, fam x p c = num X p (1 * t + c) := fun _ _ =>
  tile_counts H rfl (by omega) hc

include hq hk hv hu hl he

theorem dq_block : (arr (gradQ (fm q) (fm k) (fm v) (fm u) (fm l) (fm e)) : B) (ix2 y0 y1) = GQ Q K W O E D (ix2 y0 ⟨128 * t + y1.val, h⟩) :=
  arr_block _ _ t 32 1 rfl rfl y0 y1 h fun p hp c hc =>
    gradQ_shift (th ht hq hc) (th ht hk hc) (th ht hv hc) (th ht hu hc) (tc ht hl hc) (tc ht he hc) p hp

theorem dk_block : (arr (total (ownK (fm q) (fm k) (fm v) (fm u) (fm l) (fm e)) (befK (fm q) (fm k) (fm v) (fm u) (fm l) (fm e)) 32) : B) (ix2 y0 y1)
    = GK Q K W O E D (ix2 y0 ⟨128 * t + y1.val, h⟩) :=
  arr_block _ _ t 32 1 rfl rfl y0 y1 h fun p hp c hc =>
    gradK_shift (th ht hq hc) (th ht hk hc) (th ht hv hc) (th ht hu hc) (tc ht hl hc) (tc ht he hc) p hp

omit hv he

theorem dv_block : (arr (total (ownV (fm q) (fm k) (fm u) (fm l)) (befV (fm q) (fm k) (fm u) (fm l)) 32) : B) (ix2 y0 y1)
    = GV Q K O E (ix2 y0 ⟨128 * t + y1.val, h⟩) :=
  arr_block _ _ t 32 1 rfl rfl y0 y1 h fun p hp c hc => gradV_shift (th ht hq hc) (th ht hk hc) (th ht hu hc) (tc ht hl hc) p hp

end

section kernel

open Cert.Kernel35Ideal Cert.Kernel35Ideal.Gen

variable (m : (ℓ : Loc nD τ sig) → Buf (Elt Ideal) ℓ)

theorem idx : ∀ t : Fin cfg0.N, (win0_0.index t = ![0, t.val] ∧ win0_1.index t = ![0, t.val] ∧ win0_2.index t = ![0, t.val])
    ∧ (win0_3.index t = ![0, t.val] ∧ win0_4.index t = ![0, t.val] ∧ win0_5.index t = ![0, t.val])
    ∧ (win0_6.index t = ![0, t.val] ∧ win0_7.index t = ![0, t.val] ∧ win0_8.index t = ![0, t.val]) ∧ t.val < 8 :=
  (by decide +kernel : ∀ t : Fin grid0.N, _)

abbrev X0 (c : Dev nD) : FVec Ideal S4096x1024 .bf16 := m ((c : Thread nD τ).loc main_arg0)
abbrev X1 (c : Dev nD) : FVec Ideal S4096x1024 .bf16 := m ((c : Thread nD τ).loc main_arg1)
abbrev X2 (c : Dev nD) : FVec Ideal S4096x1024 .bf16 := m ((c : Thread nD τ).loc main_arg2)
abbrev X3 (c : Dev nD) : FVec Ideal S4096x1024 .bf16 := m ((c : Thread nD τ).loc main_arg3)
abbrev X4 (c : Dev nD) : FVec Ideal S4096x8 .f32 := m ((c : Thread nD τ).loc main_arg4)
abbrev X5 (c : Dev nD) : FVec Ideal S4096x8 .f32 := m ((c : Thread nD τ).loc main_arg5)

theorem host4 (c : Dev nD) (a : Fin 4096) (b : Fin 1024) :
    (V m c main_v2 : FVec Ideal S4096x1024 .f32) (ix2 a b) = X4 m c (ix2 a (⟨b.val / 128, by omega⟩ : Fin 8)) := by
  have e : (V m c main_v2 : FVec Ideal S4096x1024 .f32) = shapeCast S4096x1024 (broadcastInDim S4096x8x128 ![0, 1, 2] bcast_S4096x8x1_S4096x8x128_0_1_2
      (broadcastInDim S4096x8x1 ![0, 1] bcast_S4096x8_S4096x8x1_0_1 (X4 m c))) shapeCasts_S4096x8x128_S4096x1024 := by
    unfold V hostOps0
    after_results
    rfl
  rw [e]
  pointwise

theorem host5 (c : Dev nD) (a : Fin 4096) (b : Fin 1024) :
    (V m c main_v5 : FVec Ideal S4096x1024 .f32) (ix2 a b) = X5 m c (ix2 a (⟨b.val / 128, by omega⟩ : Fin 8)) := by
  have e : (V m c main_v5 : FVec Ideal S4096x1024 .f32) = shapeCast S4096x1024 (broadcastInDim S4096x8x128 ![0, 1, 2] bcast_S4096x8x1_S4096x8x128_0_1_2
      (broadcastInDim S4096x8x1 ![0, 1] bcast_S4096x8_S4096x8x1_0_1 (X5 m c))) shapeCasts_S4096x8x128_S4096x1024 := by
    unfold V hostOps0
    after_results
    rfl
  rw [e]
  pointwise

theorem blk0 (c : Dev nD) (t : Fin cfg0.N) : Holds (iblk m c 0 t : FVec Ideal S4096x128 .bf16) (X0 m c) t.val := by
  intro a b h
  obtain ⟨⟨i, -, -⟩, -, -, -⟩ := idx t
  refine Eq.trans ?_ (congrFun (V_main_arg0 m c) _)
  blk_ext [iblk, i]

theorem blk1 (c : Dev nD) (t : Fin cfg0.N) : Holds (iblk m c 1 t : FVec Ideal S4096x128 .bf16) (X1 m c) t.val := by
  intro a b h
  obtain ⟨⟨-, i, -⟩, -, -, -⟩ := idx t
  refine Eq.trans ?_ (congrFun (V_main_arg1 m c) _)
  blk_ext [iblk, i]

theorem blk2 (c : Dev nD) (t : Fin cfg0.N) : Holds (iblk m c 2 t : FVec Ideal S4096x128 .bf16) (X2 m c) t.val := by
  intro a b h
  obtain ⟨⟨-, -, i⟩, -, -, -⟩ := idx t
  refine Eq.trans ?_ (congrFun (V_main_arg2 m c) _)
  blk_ext [iblk, i]

theorem blk3 (c : Dev nD) (t : Fin cfg0.N) : Holds (iblk m c 3 t : FVec Ideal S4096x128 .bf16) (X3 m c) t.val := by
  intro a b h
  obtain ⟨-, ⟨i, -, -⟩, -, -⟩ := idx t
  refine Eq.trans ?_ (congrFun (V_main_arg3 m c) _)
  blk_ext [iblk, i]

theorem blk4 (c : Dev nD) (t : Fin cfg0.N) : Counts (iblk m c 4 t : FVec Ideal S4096x128 .f32) (X4 m c) t.val := by
  intro a b h
  obtain ⟨-, ⟨-, i, -⟩, -, ht⟩ := idx t
  refine Eq.trans ?_ (host4 m c a (⟨128 * t.val + b.val, by omega⟩ : Fin 1024))
  blk_ext [iblk, i]

theorem blk5 (c : Dev nD) (t : Fin cfg0.N) : Counts (iblk m c 5 t : FVec Ideal S4096x128 .f32) (X5 m c) t.val := by
  intro a b h
  obtain ⟨-, ⟨-, -, i⟩, -, ht⟩ := idx t
  refine Eq.trans ?_ (host5 m c a (⟨128 * t.val + b.val, by omega⟩ : Fin 1024))
  blk_ext [iblk, i]

theorem final6 (c : Dev nD) : (dats m 0 c).arrAt 6 cfg0.N = GQ (X0 m c) (X1 m c) (X2 m c) (X3 m c) (X4 m c) (X5 m c) := by
  refine (dats m 0 c).arrAt_eq_of_covers 6 _ (by decide +kernel) fun t hf y => ?_
  obtain ⟨-, -, ⟨i, -, -⟩, ht⟩ := idx t
  blk_simp
  rw [after0_6]
  idx_vars y
  have h : 128 * t.val + y1.val < 1024 := by omega
  have e : ((View.whole main_v6_0).slice (win0_6.rect t)).emb (ix2 y0 y1) = (ix2 y0 (⟨128 * t.val + y1.val, h⟩ : Fin 1024) : S4096x1024.Idx) := by
    blk_ext [i]
  rw [e]
  unfold outsAt0
  dsimp only
  unfold out0_A_6
  rw [View.read_writes_junk_eq_canon]
  refine Eq.trans ?_ (dq_block (blk0 m c t) (blk1 m c t) (blk2 m c t) (blk3 m c t) (blk4 m c t) (blk5 m c t) ht y0 y1 h)
  exact dq_run ..

theorem final7 (c : Dev nD) : (dats m 0 c).arrAt 7 cfg0.N = GK (X0 m c) (X1 m c) (X2 m c) (X3 m c) (X4 m c) (X5 m c) := by
  refine (dats m 0 c).arrAt_eq_of_covers 7 _ (by decide +kernel) fun t hf y => ?_
  obtain ⟨-, -, ⟨-, i, -⟩, ht⟩ := idx t
  blk_simp
  rw [after0_7]
  idx_vars y
  have h : 128 * t.val + y1.val < 1024 := by omega
  have e : ((View.whole main_v6_1).slice (win0_7.rect t)).emb (ix2 y0 y1) = (ix2 y0 (⟨128 * t.val + y1.val, h⟩ : Fin 1024) : S4096x1024.Idx) := by
    blk_ext [i]
  rw [e]
  unfold outsAt0
  dsimp only
  unfold out0_A_7
  rw [View.read_writes_junk_eq_canon]
  refine Eq.trans ?_ (dk_block (blk0 m c t) (blk1 m c t) (blk2 m c t) (blk3 m c t) (blk4 m c t) (blk5 m c t) ht y0 y1 h)
  exact dk_run ..

theorem final8 (c : Dev nD) : (dats m 0 c).arrAt 8 cfg0.N = GV (X0 m c) (X1 m c) (X3 m c) (X4 m c) := by
  refine (dats m 0 c).arrAt_eq_of_covers 8 _ (by decide +kernel) fun t hf y => ?_
  obtain ⟨-, -, ⟨-, -, i⟩, ht⟩ := idx t
  blk_simp
  rw [after0_8]
  idx_vars y
  have h : 128 * t.val + y1.val < 1024 := by omega
  have e : ((View.whole main_v6_2).slice (win0_8.rect t)).emb (ix2 y0 y1) = (ix2 y0 (⟨128 * t.val + y1.val, h⟩ : Fin 1024) : S4096x1024.Idx) := by
    blk_ext [i]
  rw [e]
  unfold outsAt0
  dsimp only
  unfold out0_A_8
  rw [View.read_writes_junk_eq_canon]
  refine Eq.trans ?_ (dv_block (blk0 m c t) (blk1 m c t) (blk3 m c t) (blk4 m c t) ht y0 y1 h)
  exact dv_run ..

end kernel

open Cert.Reference35Ideal Cert.Reference35Ideal.Gen

variable (m : (ℓ : Loc nD τ sig) → Buf (Elt Ideal) ℓ) (ρ : Dev nD → PrngReg)

abbrev Y0 (c : Dev nD) : FVec Ideal S4096x1024 .bf16 := m ((c.tc : Thread nD τ).loc main_arg0)
abbrev Y1 (c : Dev nD) : FVec Ideal S4096x1024 .bf16 := m ((c.tc : Thread nD τ).loc main_arg1)
abbrev Y2 (c : Dev nD) : FVec Ideal S4096x1024 .bf16 := m ((c.tc : Thread nD τ).loc main_arg2)
abbrev Y3 (c : Dev nD) : FVec Ideal S4096x1024 .bf16 := m ((c.tc : Thread nD τ).loc main_arg3)
abbrev Y4 (c : Dev nD) : FVec Ideal S4096x8 .f32 := m ((c.tc : Thread nD τ).loc main_arg4)
abbrev Y5 (c : Dev nD) : FVec Ideal S4096x8 .f32 := m ((c.tc : Thread nD τ).loc main_arg5)

theorem run_ref : θ_run defs (onTc (τ := τ) (main (F := Ideal))) ⟨m, fun _ => 0, ρ⟩ fun r => ∀ c : Dev nD,
      r.2.mem ((c.tc : Thread nD τ).loc main_v128) = GQ (Y0 m c) (Y1 m c) (Y2 m c) (Y3 m c) (Y4 m c) (Y5 m c)
      ∧ r.2.mem ((c.tc : Thread nD τ).loc main_v129) = GK (Y0 m c) (Y1 m c) (Y2 m c) (Y3 m c) (Y4 m c) (Y5 m c)
      ∧ r.2.mem ((c.tc : Thread nD τ).loc main_v130) = GV (Y0 m c) (Y1 m c) (Y3 m c) (Y4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((Cert.AttnRef1.out0 m c).trans (Cert.AttnRef1.back_of _ _ (Cert.AttnRef1.gq_fam (Y0 m c) (Y1 m c) (Y2 m c) (Y3 m c) (Y4 m c) (Y5 m c)))),
    (h c).2.1.trans ((Cert.AttnRef1.out1 m c).trans (Cert.AttnRef1.back_of _ _ (Cert.AttnRef1.gk_fam (Y0 m c) (Y1 m c) (Y2 m c) (Y3 m c) (Y4 m c) (Y5 m c)))),
    (h c).2.2.1.trans ((Cert.AttnRef1.out2 m c).trans (Cert.AttnRef1.back_of _ _ (Cert.AttnRef1.gv_fam (Y0 m c) (Y1 m c) (Y3 m c) (Y4 m c)))), (h c).2.2.2⟩) (Value.run m ρ)

theorem preserves : Cert.preserves_Kernel35_Kernel35Ideal := IdealRules.named_const.statement _ _ _ _ _ rfl

theorem algebraic : Cert.algebraic_Kernel35Ideal_Reference35Ideal (hKernel35Ideal := Cert.Kernel35Ideal.Gen.facts)
    (hReference35Ideal := Cert.Reference35Ideal.Gen.facts) := by
  intro m g m' g' _ hag
  refine ⟨fun c => GQ (X0 m c) (X1 m c) (X2 m c) (X3 m c) (X4 m c) (X5 m c), fun c => GK (X0 m c) (X1 m c) (X2 m c) (X3 m c) (X4 m c) (X5 m c), fun c => GV (X0 m c) (X1 m c) (X3 m c) (X4 m c), ?_, ?_⟩
  · exact (θ_run _ _ _).mono (fun _ h c => ⟨(h c).1.trans (final6 m c), (h c).2.1.trans (final7 m c), (h c).2.2.1.trans (final8 m c), (h c).2.2.2⟩)
      (Cert.Kernel35Ideal.Value.run_blocks m g)
  · refine (θ_run _ _ _).mono (fun _ h c => ⟨(h c).1.trans ?_, (h c).2.1.trans ?_, (h c).2.2.1.trans ?_, (h c).2.2.2⟩) (run_ref m' g')
    · have e := hag c
      rw [show Y0 m' c = X0 m c from e.1, show Y1 m' c = X1 m c from e.2.1, show Y2 m' c = X2 m c from e.2.2.1, show Y3 m' c = X3 m c from e.2.2.2.1, show Y4 m' c = X4 m c from e.2.2.2.2.1, show Y5 m' c = X5 m c from e.2.2.2.2.2]
    · have e := hag c
      rw [show Y0 m' c = X0 m c from e.1, show Y1 m' c = X1 m c from e.2.1, show Y2 m' c = X2 m c from e.2.2.1, show Y3 m' c = X3 m c from e.2.2.2.1, show Y4 m' c = X4 m c from e.2.2.2.2.1, show Y5 m' c = X5 m c from e.2.2.2.2.2]
    · have e := hag c
      rw [show Y0 m' c = X0 m c from e.1, show Y1 m' c = X1 m c from e.2.1, show Y3 m' c = X3 m c from e.2.2.2.1, show Y4 m' c = X4 m c from e.2.2.2.2.1]

/-- The reference ends with its arguments unchanged; it declares no counter. -/
theorem frame_r : Cert.quiescent_Reference35Ideal (hReference35Ideal := Cert.Reference35Ideal.Gen.facts) := fun m ρ _ =>
  (θ_run _ _ _).mono (fun r h => ⟨fun c => (h c).2.2.2, sem_eq_zero_of_no_sems (by decide) r.2⟩) (run_ref m ρ)

end Cert.AttnBwd1

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.MlpDu
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.MlpDdown
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.MlpDup
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.MlpDhm
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.MlpUp
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.MlpDown
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.ScIn
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.ScOutProd
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.ScDy
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.ScDout
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.ScDin
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.ScDhn
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.AttnQkv
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.AttnDqkv
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.AttnDhn
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.AttnDo
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.LruIn
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.LruOut
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.LruDy
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.LruDout
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.LruDin
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.LruDhn
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.PleProj
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.PleGate
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.PleDproj
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.PleDgate
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.PleDhp
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.AttnBwd
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.PleGateBwd
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.RmsFwd
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.ScFwd
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.AttnBwd4
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.AttnBwd1
public import Idealize.ShloMosaic.Adequacy
public import Idealize.ShloMosaic.Init
public import Idealize.ShloMosaic.Lib.Quiescent
public import proofs.«01_k».proof.Proof.ScRef

@[expose] public section

noncomputable section

namespace Cert.Proof

open Idealize.ShloMosaic Idealize.SL.Sem Cert.Kernel

/-- The idealized kernel and the idealized reference leave the same two gradients. -/
theorem algebraic_sc : Cert.algebraic_KernelIdeal_ReferenceIdeal (hKernelIdeal := Cert.KernelIdeal.Gen.facts) (hReferenceIdeal := Cert.ReferenceIdeal.Gen.facts) := by
  intro m g m' g' _ hag
  refine ⟨fun c => Cert.ScConv.DZ (Cert.ScConv.X0 m c) (Cert.ScConv.X1 m c) (Cert.ScConv.X2 m c), fun c => Cert.ScConv.DW (Cert.ScConv.X0 m c) (Cert.ScConv.X1 m c), ?_, ?_⟩
  · exact (θ_run _ _ _).mono (fun _ h c => ⟨(h c).1.trans (Cert.ScConv.final6 m c), (h c).2.1.trans (Cert.ScConv.final7 m c), (h c).2.2⟩)
      (Cert.KernelIdeal.Value.run_blocks m g)
  · refine (θ_run _ _ _).mono (fun _ h c => ⟨(h c).1.trans ?_, (h c).2.1.trans ?_, (h c).2.2⟩) (Cert.ScConv.run_ref m' g')
    · have e := hag c
      rw [show Cert.ScConv.Y0 m' c = Cert.ScConv.X0 m c from e.1, show Cert.ScConv.Y1 m' c = Cert.ScConv.X1 m c from e.2.1,
        show Cert.ScConv.Y2 m' c = Cert.ScConv.X2 m c from e.2.2]
    · have e := hag c
      rw [show Cert.ScConv.Y0 m' c = Cert.ScConv.X0 m c from e.1, show Cert.ScConv.Y1 m' c = Cert.ScConv.X1 m c from e.2.1]

/-- The reference ends with its arguments unchanged; it declares no counter. -/
theorem frame_r : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩) (Cert.ScConv.run_ref m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts,
  fun m ρ _ => Cert.Kernel.Gen.frame m ρ, fun m ρ _ => Cert.KernelIdeal.Gen.frame m ρ, frame_r,
  fun m ρ _ => Cert.Kernel2.Gen.frame m ρ, fun m ρ _ => Cert.Kernel2Ideal.Gen.frame m ρ, MlpDu.frame_r,
  fun m ρ _ => Cert.Kernel3.Gen.frame m ρ, fun m ρ _ => Cert.Kernel3Ideal.Gen.frame m ρ, MlpDdown.frame_r,
  fun m ρ _ => Cert.Kernel4.Gen.frame m ρ, fun m ρ _ => Cert.Kernel4Ideal.Gen.frame m ρ, MlpDup.frame_r,
  fun m ρ _ => Cert.Kernel5.Gen.frame m ρ, fun m ρ _ => Cert.Kernel5Ideal.Gen.frame m ρ, MlpDhm.frame_r,
  fun m ρ _ => Cert.Kernel6.Gen.frame m ρ, fun m ρ _ => Cert.Kernel6Ideal.Gen.frame m ρ, MlpUp.frame_r,
  fun m ρ _ => Cert.Kernel7.Gen.frame m ρ, fun m ρ _ => Cert.Kernel7Ideal.Gen.frame m ρ, MlpDown.frame_r,
  fun m ρ _ => Cert.Kernel8.Gen.frame m ρ, fun m ρ _ => Cert.Kernel8Ideal.Gen.frame m ρ, ScIn.frame_r,
  fun m ρ _ => Cert.Kernel9.Gen.frame m ρ, fun m ρ _ => Cert.Kernel9Ideal.Gen.frame m ρ, ScOutProd.frame_r,
  fun m ρ _ => Cert.Kernel10.Gen.frame m ρ, fun m ρ _ => Cert.Kernel10Ideal.Gen.frame m ρ, ScDy.frame_r,
  fun m ρ _ => Cert.Kernel11.Gen.frame m ρ, fun m ρ _ => Cert.Kernel11Ideal.Gen.frame m ρ, ScDout.frame_r,
  fun m ρ _ => Cert.Kernel12.Gen.frame m ρ, fun m ρ _ => Cert.Kernel12Ideal.Gen.frame m ρ, ScDin.frame_r,
  fun m ρ _ => Cert.Kernel13.Gen.frame m ρ, fun m ρ _ => Cert.Kernel13Ideal.Gen.frame m ρ, ScDhn.frame_r,
  fun m ρ _ => Cert.Kernel14.Gen.frame m ρ, fun m ρ _ => Cert.Kernel14Ideal.Gen.frame m ρ, AttnQkv.frame_r,
  fun m ρ _ => Cert.Kernel15.Gen.frame m ρ, fun m ρ _ => Cert.Kernel15Ideal.Gen.frame m ρ, AttnDqkv.frame_r,
  fun m ρ _ => Cert.Kernel16.Gen.frame m ρ, fun m ρ _ => Cert.Kernel16Ideal.Gen.frame m ρ, AttnDhn.frame_r,
  fun m ρ _ => Cert.Kernel17.Gen.frame m ρ, fun m ρ _ => Cert.Kernel17Ideal.Gen.frame m ρ, AttnDo.frame_r,
  fun m ρ _ => Cert.Kernel18.Gen.frame m ρ, fun m ρ _ => Cert.Kernel18Ideal.Gen.frame m ρ, LruIn.frame_r,
  fun m ρ _ => Cert.Kernel19.Gen.frame m ρ, fun m ρ _ => Cert.Kernel19Ideal.Gen.frame m ρ, LruOut.frame_r,
  fun m ρ _ => Cert.Kernel20.Gen.frame m ρ, fun m ρ _ => Cert.Kernel20Ideal.Gen.frame m ρ, LruDy.frame_r,
  fun m ρ _ => Cert.Kernel21.Gen.frame m ρ, fun m ρ _ => Cert.Kernel21Ideal.Gen.frame m ρ, LruDout.frame_r,
  fun m ρ _ => Cert.Kernel22.Gen.frame m ρ, fun m ρ _ => Cert.Kernel22Ideal.Gen.frame m ρ, LruDin.frame_r,
  fun m ρ _ => Cert.Kernel23.Gen.frame m ρ, fun m ρ _ => Cert.Kernel23Ideal.Gen.frame m ρ, LruDhn.frame_r,
  fun m ρ _ => Cert.Kernel24.Gen.frame m ρ, fun m ρ _ => Cert.Kernel24Ideal.Gen.frame m ρ, PleProj.frame_r,
  fun m ρ _ => Cert.Kernel25.Gen.frame m ρ, fun m ρ _ => Cert.Kernel25Ideal.Gen.frame m ρ, PleGate.frame_r,
  fun m ρ _ => Cert.Kernel26.Gen.frame m ρ, fun m ρ _ => Cert.Kernel26Ideal.Gen.frame m ρ, PleDproj.frame_r,
  fun m ρ _ => Cert.Kernel27.Gen.frame m ρ, fun m ρ _ => Cert.Kernel27Ideal.Gen.frame m ρ, PleDgate.frame_r,
  fun m ρ _ => Cert.Kernel28.Gen.frame m ρ, fun m ρ _ => Cert.Kernel28Ideal.Gen.frame m ρ, PleDhp.frame_r,
  fun m ρ _ => Cert.Kernel29.Gen.frame m ρ, fun m ρ _ => Cert.Kernel29Ideal.Gen.frame m ρ, AttnBwd.frame_r,
  fun m ρ _ => Cert.Kernel30.Gen.frame m ρ, fun m ρ _ => Cert.Kernel30Ideal.Gen.frame m ρ, PleGateBwd.frame_r,
  fun m ρ _ => Cert.Kernel31.Gen.frame m ρ, fun m ρ _ => Cert.Kernel31Ideal.Gen.frame m ρ, RmsFwd.frame_r,
  fun m ρ _ => Cert.Kernel32.Gen.frame m ρ, fun m ρ _ => Cert.Kernel32Ideal.Gen.frame m ρ, ScFwd.frame_r,
  fun m ρ _ => Cert.Kernel34.Gen.frame m ρ, fun m ρ _ => Cert.Kernel34Ideal.Gen.frame m ρ, AttnBwd4.frame_r,
  fun m ρ _ => Cert.Kernel35.Gen.frame m ρ, fun m ρ _ => Cert.Kernel35Ideal.Gen.frame m ρ, AttnBwd1.frame_r,
  trivial, algebraic_sc,
  trivial, MlpDu.algebraic,
  trivial, MlpDdown.algebraic,
  trivial, MlpDup.algebraic,
  trivial, MlpDhm.algebraic,
  trivial, MlpUp.algebraic,
  trivial, MlpDown.algebraic,
  trivial, ScIn.algebraic,
  trivial, ScOutProd.algebraic,
  trivial, ScDy.algebraic,
  trivial, ScDout.algebraic,
  trivial, ScDin.algebraic,
  trivial, ScDhn.algebraic,
  trivial, AttnQkv.algebraic,
  trivial, AttnDqkv.algebraic,
  trivial, AttnDhn.algebraic,
  trivial, AttnDo.algebraic,
  trivial, LruIn.algebraic,
  trivial, LruOut.algebraic,
  trivial, LruDy.algebraic,
  trivial, LruDout.algebraic,
  trivial, LruDin.algebraic,
  trivial, LruDhn.algebraic,
  trivial, PleProj.algebraic,
  trivial, PleGate.algebraic,
  trivial, PleDproj.algebraic,
  trivial, PleDgate.algebraic,
  trivial, PleDhp.algebraic,
  AttnBwd.preserves, AttnBwd.algebraic,
  trivial, PleGateBwd.algebraic,
  trivial, RmsFwd.algebraic,
  trivial, ScFwd.algebraic,
  AttnBwd4.preserves, AttnBwd4.algebraic,
  AttnBwd1.preserves, AttnBwd1.algebraic⟩

end Cert.Proof

end
